-- ==== Defs.lean ====
def Pre_Kernel [hPre_list_names_experts : Cert.Pre_list_names_experts.Facts] (m : (ℓ : Loc Cert.Kernel.nD Cert.Kernel.τ Cert.Kernel.sig) → Buf (Elt Bits) ℓ) : Prop :=
  ∀ c : Dev Cert.Kernel.nD,
    (Cert.Pre_list_names_experts.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_list_names_experts : Cert.Pre_list_names_experts.Facts] (m : (ℓ : Loc Cert.KernelIdeal.nD Cert.KernelIdeal.τ Cert.KernelIdeal.sig) → Buf (Elt Ideal) ℓ) : Prop :=
  ∀ c : Dev Cert.KernelIdeal.nD,
    (Cert.Pre_list_names_experts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_list_is_the_routing [hPre_list_is_the_routing : Cert.Pre_list_is_the_routing.Facts] (m : (ℓ : Loc Cert.KernelIdeal.nD Cert.KernelIdeal.τ Cert.KernelIdeal.sig) → Buf (Elt Ideal) ℓ) : Prop :=
  ∀ c : Dev Cert.KernelIdeal.nD,
    (Cert.Pre_list_is_the_routing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_list_is_the_routing [hPre_list_is_the_routing : Cert.Pre_list_is_the_routing.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_list_is_the_routing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_list_names_experts : Cert.Pre_list_names_experts.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_list_names_experts : Cert.Pre_list_names_experts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_list_is_the_routing [hKernelIdeal : Cert.KernelIdeal.Facts] [hPre_list_is_the_routing : Cert.Pre_list_is_the_routing.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_list_is_the_routing m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_list_is_the_routing [hReferenceIdeal : Cert.ReferenceIdeal.Facts] [hPre_list_is_the_routing : Cert.Pre_list_is_the_routing.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_list_is_the_routing m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_list_is_the_routing [hKernelIdeal : Cert.KernelIdeal.Facts] [hReferenceIdeal : Cert.ReferenceIdeal.Facts] [hPre_list_is_the_routing : Cert.Pre_list_is_the_routing.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_list_is_the_routing m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_list_names_experts : Cert.Pre_list_names_experts.Facts) (hPre_list_is_the_routing : Cert.Pre_list_is_the_routing.Facts),
    quiescent_Kernel (hKernel := hKernel) (hPre_list_names_experts := hPre_list_names_experts)
    ∧ quiescent_KernelIdeal (hKernelIdeal := hKernelIdeal) (hPre_list_names_experts := hPre_list_names_experts)
    ∧ quiescent_KernelIdeal_pre_list_is_the_routing (hKernelIdeal := hKernelIdeal) (hPre_list_is_the_routing := hPre_list_is_the_routing)
    ∧ quiescent_ReferenceIdeal (hReferenceIdeal := hReferenceIdeal)
    ∧ quiescent_ReferenceIdeal_pre_list_is_the_routing (hReferenceIdeal := hReferenceIdeal) (hPre_list_is_the_routing := hPre_list_is_the_routing)
    ∧ preserves_Kernel_KernelIdeal
    ∧ algebraic_KernelIdeal_ReferenceIdeal_pre_list_is_the_routing (hKernelIdeal := hKernelIdeal) (hReferenceIdeal := hReferenceIdeal) (hPre_list_is_the_routing := hPre_list_is_the_routing)
-- ==== Pre_list_is_the_routing.lean ====
abbrev S17 : Shape := ⟨1, ![17]⟩
abbrev S1 : Shape := ⟨1, ![1]⟩
abbrev S8x1x5120 : Shape := ⟨3, ![8, 1, 5120]⟩
abbrev S8x1x8 : Shape := ⟨3, ![8, 1, 8]⟩
abbrev S16x5120x1536 : Shape := ⟨3, ![16, 5120, 1536]⟩
abbrev S16x40x12 : Shape := ⟨3, ![16, 40, 12]⟩
abbrev S16x1536x5120 : Shape := ⟨3, ![16, 1536, 5120]⟩
abbrev S16x12x40 : Shape := ⟨3, ![16, 12, 40]⟩
abbrev S_ : Shape := ⟨0, ![]⟩
abbrev S17x1 : Shape := ⟨2, ![17, 1]⟩
abbrev S1x17 : Shape := ⟨2, ![1, 17]⟩
abbrev S17x17 : Shape := ⟨2, ![17, 17]⟩
abbrev S64x1 : Shape := ⟨2, ![64, 1]⟩
abbrev S64x17 : Shape := ⟨2, ![64, 17]⟩
abbrev S64 : Shape := ⟨1, ![64]⟩
abbrev S1x17x1 : Shape := ⟨3, ![1, 17, 1]⟩
abbrev S1x17x17 : Shape := ⟨3, ![1, 17, 17]⟩
abbrev S64x1x1 : Shape := ⟨3, ![64, 1, 1]⟩
abbrev S64x17x17 : Shape := ⟨3, ![64, 17, 17]⟩

class Facts : Prop where
  bcast_S1_S17_0 : S1.BroadcastsInDim S17 (![0] : Fin 1 → Fin S17.rank)
  bcast_S_S1 : S_.BroadcastsInDim S1 (![] : Fin 0 → Fin S1.rank)
  bcast_S_S17 : S_.BroadcastsInDim S17 (![] : Fin 0 → Fin S17.rank)
  bcast_S17_S17x1_0 : S17.BroadcastsInDim S17x1 (![0] : Fin 1 → Fin S17x1.rank)
  bcast_S17_S1x17_1 : S17.BroadcastsInDim S1x17 (![1] : Fin 1 → Fin S1x17.rank)
  bcast_S17x1_S17x17_0_1 : S17x1.BroadcastsInDim S17x17 (![0, 1] : Fin 2 → Fin S17x17.rank)
  bcast_S1x17_S17x17_0_1 : S1x17.BroadcastsInDim S17x17 (![0, 1] : Fin 2 → Fin S17x17.rank)
  shapeCasts_S8x1x8_S64x1 : S8x1x8.ShapeCasts S64x1
  bcast_S1x17_S64x17_0_1 : S1x17.BroadcastsInDim S64x17 (![0, 1] : Fin 2 → Fin S64x17.rank)
  bcast_S64x1_S64x17_0_1 : S64x1.BroadcastsInDim S64x17 (![0, 1] : Fin 2 → Fin S64x17.rank)
  reducesTo_S64x17_S64_d1 : S64x17.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S17_S1x17x1_1 : S17.BroadcastsInDim S1x17x1 (![1] : Fin 1 → Fin S1x17x1.rank)
  bcast_S17x17_S1x17x17_1_2 : S17x17.BroadcastsInDim S1x17x17 (![1, 2] : Fin 2 → Fin S1x17x17.rank)
  bcast_S1x17x1_S1x17x17_0_1_2 : S1x17x1.BroadcastsInDim S1x17x17 (![0, 1, 2] : Fin 3 → Fin S1x17x17.rank)
  bcast_S64x1_S64x1x1_0_1 : S64x1.BroadcastsInDim S64x1x1 (![0, 1] : Fin 2 → Fin S64x1x1.rank)
  bcast_S1x17x17_S64x17x17_0_1_2 : S1x17x17.BroadcastsInDim S64x17x17 (![0, 1, 2] : Fin 3 → Fin S64x17x17.rank)
  bcast_S64x1x1_S64x17x17_0_1_2 : S64x1x1.BroadcastsInDim S64x17x17 (![0, 1, 2] : Fin 3 → Fin S64x17x17.rank)

variable [Facts]

def fn_part3 {F : FTy → Type} [FloatOps F] (main_v60 : IVec S1x17x17 1) (main_v62 : IVec S64x1x1 1) : IVec S64x17x17 1 :=
  let main_v63 : IVec S64x17x17 1 := broadcastInDim S64x17x17 ![0, 1, 2] bcast_S1x17x17_S64x17x17_0_1_2 main_v60
  let main_v64 : IVec S64x17x17 1 := broadcastInDim S64x17x17 ![0, 1, 2] bcast_S64x1x1_S64x17x17_0_1_2 main_v62
  let main_v65 : IVec S64x17x17 1 := andi main_v63 main_v64
  main_v65

def fn_part2 {F : FTy → Type} [FloatOps F] (main_arg4 : FVec F S8x1x8 .f32) (main_v16 : IVec S17 1) (main_v34 : IVec S17x17 1) (main_v35 : IVec S64x1 32) (main_v42 : IVec S64x17 1) (main_c_3 : IVec S_ 1) : IVec S64x17x17 1 :=
  let main_v43 : IVec S64 1 := (fun x v => Host.reduce IntOp.ori x v reducesTo_S64x17_S64_d1 h_S_) main_v42 main_c_3
  let main_v44 : IVec S64x1 1 := broadcastInDim S64x1 ![0] bcast_S64_S64x1_0 main_v43
  let main_c_4 : IVec S_ 32 := constantI S_ 32 0#32
  let main_v45 : IVec S64x1 32 := broadcastInDim S64x1 ![] bcast_S_S64x1 main_c_4
  let main_v46 : IVec S64x1 1 := cmpi .slt main_v35 main_v45
  let main_v47 : IVec S64x1 1 := ori main_v44 main_v46
  let main_c_5 : IVec S_ 32 := constantI S_ 32 16#32
  let main_v48 : IVec S64x1 32 := broadcastInDim S64x1 ![] bcast_S_S64x1 main_c_5
  let main_v49 : IVec S64x1 1 := cmpi .sge main_v35 main_v48
  let main_v50 : IVec S64x1 1 := ori main_v47 main_v49
  let main_v51 : FVec F S64x1 .f32 := shapeCast S64x1 main_arg4 shapeCasts_S8x1x8_S64x1
  let main_cst : FVec F S_ .f32 := constant S_ .f32 0x00000000#32
  let main_v52 : FVec F S64x1 .f32 := broadcastInDim S64x1 ![] bcast_S_S64x1 main_cst
  let main_v53 : IVec S64x1 1 := cmpf .oge main_v51 main_v52
  let main_cst_6 : FVec F S_ .f32 := constant S_ .f32 0x7F800000#32
  let main_v54 : FVec F S64x1 .f32 := broadcastInDim S64x1 ![] bcast_S_S64x1 main_cst_6
  let main_v55 : IVec S64x1 1 := cmpf .olt main_v51 main_v54
  let main_v56 : IVec S64x1 1 := andi main_v53 main_v55
  let main_v57 : IVec S1x17x1 1 := broadcastInDim S1x17x1 ![1] bcast_S17_S1x17x1_1 main_v16
  let main_v58 : IVec S1x17x17 1 := broadcastInDim S1x17x17 ![1, 2] bcast_S17x17_S1x17x17_1_2 main_v34
  let main_v59 : IVec S1x17x17 1 := broadcastInDim S1x17x17 ![0, 1, 2] bcast_S1x17x1_S1x17x17_0_1_2 main_v57
  let main_v60 : IVec S1x17x17 1 := andi main_v59 main_v58
  let main_v61 : IVec S64x1 1 := andi main_v50 main_v56
  let main_v62 : IVec S64x1x1 1 := broadcastInDim S64x1x1 ![0, 1] bcast_S64x1_S64x1x1_0_1 main_v61
  fn_part3 (F := F) main_v60 main_v62

def fn_part1 {F : FTy → Type} [FloatOps F] (main_arg0 : IVec S17 32) (main_arg3 : IVec S8x1x8 32) (main_arg4 : FVec F S8x1x8 .f32) (main_v0 : IVec S17 32) (main_v2 : IVec S17 1) (main_v16 : IVec S17 1) (main_v18 : IVec S1x17 1) (main_v19 : IVec S17x17 1) : IVec S64x17x17 1 :=
  let main_v20 : IVec S17x17 1 := broadcastInDim S17x17 ![0, 1] bcast_S1x17_S17x17_0_1 main_v18
  let main_v21 : IVec S17x17 1 := andi main_v19 main_v20
  let main_v22 : IVec S17x1 32 := broadcastInDim S17x1 ![0] bcast_S17_S17x1_0 main_v0
  let main_v23 : IVec S1x17 32 := broadcastInDim S1x17 ![1] bcast_S17_S1x17_1 main_v0
  let main_v24 : IVec S17x17 32 := broadcastInDim S17x17 ![0, 1] bcast_S17x1_S17x17_0_1 main_v22
  let main_v25 : IVec S17x17 32 := broadcastInDim S17x17 ![0, 1] bcast_S1x17_S17x17_0_1 main_v23
  let main_v26 : IVec S17x17 1 := cmpi .ne main_v24 main_v25
  let main_v27 : IVec S17x17 1 := andi main_v21 main_v26
  let main_v28 : IVec S17x17 1 := noti main_v27
  let main_v29 : IVec S17x1 32 := broadcastInDim S17x1 ![0] bcast_S17_S17x1_0 main_arg0
  let main_v30 : IVec S1x17 32 := broadcastInDim S1x17 ![1] bcast_S17_S1x17_1 main_arg0
  let main_v31 : IVec S17x17 32 := broadcastInDim S17x17 ![0, 1] bcast_S17x1_S17x17_0_1 main_v29
  let main_v32 : IVec S17x17 32 := broadcastInDim S17x17 ![0, 1] bcast_S1x17_S17x17_0_1 main_v30
  let main_v33 : IVec S17x17 1 := cmpi .ne main_v31 main_v32
  let main_v34 : IVec S17x17 1 := ori main_v28 main_v33
  let main_v35 : IVec S64x1 32 := shapeCast S64x1 main_arg3 shapeCasts_S8x1x8_S64x1
  let main_v36 : IVec S1x17 1 := broadcastInDim S1x17 ![1] bcast_S17_S1x17_1 main_v2
  let main_v37 : IVec S1x17 32 := broadcastInDim S1x17 ![1] bcast_S17_S1x17_1 main_arg0
  let main_v38 : IVec S64x17 32 := broadcastInDim S64x17 ![0, 1] bcast_S1x17_S64x17_0_1 main_v37
  let main_v39 : IVec S64x17 32 := broadcastInDim S64x17 ![0, 1] bcast_S64x1_S64x17_0_1 main_v35
  let main_v40 : IVec S64x17 1 := cmpi .eq main_v38 main_v39
  let main_v41 : IVec S64x17 1 := broadcastInDim S64x17 ![0, 1] bcast_S1x17_S64x17_0_1 main_v36
  let main_v42 : IVec S64x17 1 := andi main_v41 main_v40
  let main_c_3 : IVec S_ 1 := constantI S_ 1 0#1
  fn_part2 (F := F) main_arg4 main_v16 main_v34 main_v35 main_v42 main_c_3

def fn {F : FTy → Type} [FloatOps F] (main_arg0 : IVec S17 32) (main_arg1 : IVec S1 32) (main_arg2 : FVec F S8x1x5120 .bf16) (main_arg3 : IVec S8x1x8 32) (main_arg4 : FVec F S8x1x8 .f32) (main_arg5 : FVec F S16x5120x1536 .fp8e4m3) (main_arg6 : FVec F S16x40x12 .f32) (main_arg7 : FVec F S16x1536x5120 .fp8e4m3) (main_arg8 : FVec F S16x12x40 .f32) : IVec S64x17x17 1 :=
  let main_v0 : IVec S17 32 := iotaInDim S17 32 0
  let main_v1 : IVec S17 32 := broadcastInDim S17 ![0] bcast_S1_S17_0 main_arg1
  let main_v2 : IVec S17 1 := cmpi .slt main_v0 main_v1
  let main_c : IVec S_ 32 := constantI S_ 32 1#32
  let main_v3 : IVec S1 32 := broadcastInDim S1 ![] bcast_S_S1 main_c
  let main_v4 : IVec S1 1 := cmpi .sge main_arg1 main_v3
  let main_c_0 : IVec S_ 32 := constantI S_ 32 16#32
  let main_v5 : IVec S1 32 := broadcastInDim S1 ![] bcast_S_S1 main_c_0
  let main_v6 : IVec S1 1 := cmpi .sle main_arg1 main_v5
  let main_v7 : IVec S1 1 := andi main_v4 main_v6
  let main_v8 : IVec S17 1 := noti main_v2
  let main_c_1 : IVec S_ 32 := constantI S_ 32 0#32
  let main_v9 : IVec S17 32 := broadcastInDim S17 ![] bcast_S_S17 main_c_1
  let main_v10 : IVec S17 1 := cmpi .sge main_arg0 main_v9
  let main_c_2 : IVec S_ 32 := constantI S_ 32 16#32
  let main_v11 : IVec S17 32 := broadcastInDim S17 ![] bcast_S_S17 main_c_2
  let main_v12 : IVec S17 1 := cmpi .slt main_arg0 main_v11
  let main_v13 : IVec S17 1 := andi main_v10 main_v12
  let main_v14 : IVec S17 1 := ori main_v8 main_v13
  let main_v15 : IVec S17 1 := broadcastInDim S17 ![0] bcast_S1_S17_0 main_v7
  let main_v16 : IVec S17 1 := andi main_v15 main_v14
  let main_v17 : IVec S17x1 1 := broadcastInDim S17x1 ![0] bcast_S17_S17x1_0 main_v2
  let main_v18 : IVec S1x17 1 := broadcastInDim S1x17 ![1] bcast_S17_S1x17_1 main_v2
  let main_v19 : IVec S17x17 1 := broadcastInDim S17x17 ![0, 1] bcast_S17x1_S17x17_0_1 main_v17
  fn_part1 (F := F) main_arg0 main_arg3 main_arg4 main_v0 main_v2 main_v16 main_v18 main_v19
-- ==== Pre_list_names_experts.lean ====
abbrev S17 : Shape := ⟨1, ![17]⟩
abbrev S1 : Shape := ⟨1, ![1]⟩
abbrev S8x1x5120 : Shape := ⟨3, ![8, 1, 5120]⟩
abbrev S8x1x8 : Shape := ⟨3, ![8, 1, 8]⟩
abbrev S16x5120x1536 : Shape := ⟨3, ![16, 5120, 1536]⟩
abbrev S16x40x12 : Shape := ⟨3, ![16, 40, 12]⟩
abbrev S16x1536x5120 : Shape := ⟨3, ![16, 1536, 5120]⟩
abbrev S16x12x40 : Shape := ⟨3, ![16, 12, 40]⟩
abbrev S_ : Shape := ⟨0, ![]⟩

class Facts : Prop where
  bcast_S1_S17_0 : S1.BroadcastsInDim S17 (![0] : Fin 1 → Fin S17.rank)
  bcast_S_S1 : S_.BroadcastsInDim S1 (![] : Fin 0 → Fin S1.rank)
  bcast_S_S17 : S_.BroadcastsInDim S17 (![] : Fin 0 → Fin S17.rank)

variable [Facts]

def fn {F : FTy → Type} [FloatOps F] (main_arg0 : IVec S17 32) (main_arg1 : IVec S1 32) (main_arg2 : FVec F S8x1x5120 .bf16) (main_arg3 : IVec S8x1x8 32) (main_arg4 : FVec F S8x1x8 .f32) (main_arg5 : FVec F S16x5120x1536 .fp8e4m3) (main_arg6 : FVec F S16x40x12 .f32) (main_arg7 : FVec F S16x1536x5120 .fp8e4m3) (main_arg8 : FVec F S16x12x40 .f32) : IVec S17 1 :=
  let main_v0 : IVec S17 32 := iotaInDim S17 32 0
  let main_v1 : IVec S17 32 := broadcastInDim S17 ![0] bcast_S1_S17_0 main_arg1
  let main_v2 : IVec S17 1 := cmpi .slt main_v0 main_v1
  let main_c : IVec S_ 32 := constantI S_ 32 1#32
  let main_v3 : IVec S1 32 := broadcastInDim S1 ![] bcast_S_S1 main_c
  let main_v4 : IVec S1 1 := cmpi .sge main_arg1 main_v3
  let main_c_0 : IVec S_ 32 := constantI S_ 32 16#32
  let main_v5 : IVec S1 32 := broadcastInDim S1 ![] bcast_S_S1 main_c_0
  let main_v6 : IVec S1 1 := cmpi .sle main_arg1 main_v5
  let main_v7 : IVec S1 1 := andi main_v4 main_v6
  let main_v8 : IVec S17 1 := noti main_v2
  let main_c_1 : IVec S_ 32 := constantI S_ 32 0#32
  let main_v9 : IVec S17 32 := broadcastInDim S17 ![] bcast_S_S17 main_c_1
  let main_v10 : IVec S17 1 := cmpi .sge main_arg0 main_v9
  let main_c_2 : IVec S_ 32 := constantI S_ 32 16#32
  let main_v11 : IVec S17 32 := broadcastInDim S17 ![] bcast_S_S17 main_c_2
  let main_v12 : IVec S17 1 := cmpi .slt main_arg0 main_v11
  let main_v13 : IVec S17 1 := andi main_v10 main_v12
  let main_v14 : IVec S17 1 := ori main_v8 main_v13
  let main_v15 : IVec S17 1 := broadcastInDim S17 ![0] bcast_S1_S17_0 main_v7
  let main_v16 : IVec S17 1 := andi main_v15 main_v14
  main_v16
-- ==== Kernel.lean ====
abbrev S17 : Shape := ⟨1, ![17]⟩
abbrev S1 : Shape := ⟨1, ![1]⟩
abbrev S8x1x5120 : Shape := ⟨3, ![8, 1, 5120]⟩
abbrev S8x1x8 : Shape := ⟨3, ![8, 1, 8]⟩
abbrev S16x5120x1536 : Shape := ⟨3, ![16, 5120, 1536]⟩
abbrev S16x40x12 : Shape := ⟨3, ![16, 40, 12]⟩
abbrev S16x1536x5120 : Shape := ⟨3, ![16, 1536, 5120]⟩
abbrev S16x12x40 : Shape := ⟨3, ![16, 12, 40]⟩
abbrev S8x5120 : Shape := ⟨2, ![8, 5120]⟩
abbrev S12x16x40 : Shape := ⟨3, ![12, 16, 40]⟩
abbrev S1x8 : Shape := ⟨2, ![1, 8]⟩
abbrev S2x5120x1536 : Shape := ⟨3, ![2, 5120, 1536]⟩
abbrev S2x1536x5120 : Shape := ⟨3, ![2, 1536, 5120]⟩
abbrev S12x5120 : Shape := ⟨2, ![12, 5120]⟩
abbrev S40x1536 : Shape := ⟨2, ![40, 1536]⟩
abbrev S12x40 : Shape := ⟨2, ![12, 40]⟩
abbrev S8x1536 : Shape := ⟨2, ![8, 1536]⟩
abbrev S8x128 : Shape := ⟨2, ![8, 128]⟩
abbrev S5 : Shape := ⟨1, ![5]⟩
abbrev S2 : Shape := ⟨1, ![2]⟩
abbrev S2x4 : Shape := ⟨2, ![2, 4]⟩
abbrev S2x3 : Shape := ⟨2, ![2, 3]⟩
abbrev S3 : Shape := ⟨1, ![3]⟩
abbrev S_ : Shape := ⟨0, ![]⟩
abbrev S1x1 : Shape := ⟨2, ![1, 1]⟩
abbrev S1x1280x1536 : Shape := ⟨3, ![1, 1280, 1536]⟩
abbrev S1280x1536 : Shape := ⟨2, ![1280, 1536]⟩
abbrev S1x512x5120 : Shape := ⟨3, ![1, 512, 5120]⟩
abbrev S512x5120 : Shape := ⟨2, ![512, 5120]⟩
abbrev S8 : Shape := ⟨1, ![8]⟩
abbrev S8x1 : Shape := ⟨2, ![8, 1]⟩
abbrev S8x256 : Shape := ⟨2, ![8, 256]⟩
abbrev S8x8 : Shape := ⟨2, ![8, 8]⟩
abbrev S12x1x40 : Shape := ⟨3, ![12, 1, 40]⟩
abbrev S12x1 : Shape := ⟨2, ![12, 1]⟩
abbrev S12x128 : Shape := ⟨2, ![12, 128]⟩
abbrev S40x12 : Shape := ⟨2, ![40, 12]⟩
abbrev S40x1 : Shape := ⟨2, ![40, 1]⟩
abbrev S40x128 : Shape := ⟨2, ![40, 128]⟩
abbrev S8x1280 : Shape := ⟨2, ![8, 1280]⟩
abbrev S1x1280x256 : Shape := ⟨3, ![1, 1280, 256]⟩
abbrev S1280x256 : Shape := ⟨2, ![1280, 256]⟩
abbrev S1x1280 : Shape := ⟨2, ![1, 1280]⟩
abbrev S16x1280 : Shape := ⟨2, ![16, 1280]⟩
abbrev S16x256 : Shape := ⟨2, ![16, 256]⟩
abbrev S8x512 : Shape := ⟨2, ![8, 512]⟩
abbrev S1x512x256 : Shape := ⟨3, ![1, 512, 256]⟩
abbrev S512x256 : Shape := ⟨2, ![512, 256]⟩
abbrev S1x512 : Shape := ⟨2, ![1, 512]⟩
abbrev S16x512 : Shape := ⟨2, ![16, 512]⟩

abbrev nBuf : Space → Nat
  | .hbm => 15
  | .vmem => 18
  | .smem => 2
  | _ => 0

abbrev bufTy : (tb : Table) → Fin (tcTables nBuf tb) → BufTy
  | .hbm, ⟨0, _⟩ => ⟨S17, .i32⟩
  | .hbm, ⟨1, _⟩ => ⟨S1, .i32⟩
  | .hbm, ⟨2, _⟩ => ⟨S8x1x5120, .bf16⟩
  | .hbm, ⟨3, _⟩ => ⟨S8x1x8, .i32⟩
  | .hbm, ⟨4, _⟩ => ⟨S8x1x8, .f32⟩
  | .hbm, ⟨5, _⟩ => ⟨S16x5120x1536, .fp8e4m3⟩
  | .hbm, ⟨6, _⟩ => ⟨S16x40x12, .f32⟩
  | .hbm, ⟨7, _⟩ => ⟨S16x1536x5120, .fp8e4m3⟩
  | .hbm, ⟨8, _⟩ => ⟨S16x12x40, .f32⟩
  | .hbm, ⟨9, _⟩ => ⟨S8x5120, .bf16⟩
  | .hbm, ⟨10, _⟩ => ⟨S12x16x40, .f32⟩
  | .hbm, ⟨11, _⟩ => ⟨S12x16x40, .f32⟩
  | .hbm, ⟨12, _⟩ => ⟨S8x5120, .bf16⟩
  | .hbm, ⟨13, _⟩ => ⟨S8x5120, .fp8e4m3⟩
  | .hbm, ⟨14, _⟩ => ⟨S1x8, .f32⟩
  | .local _ .vmem, ⟨0, _⟩ => ⟨S8x1x8, .i32⟩
  | .local _ .vmem, ⟨1, _⟩ => ⟨S8x1x8, .f32⟩
  | .local _ .vmem, ⟨2, _⟩ => ⟨S8x5120, .bf16⟩
  | .local _ .vmem, ⟨3, _⟩ => ⟨S12x16x40, .f32⟩
  | .local _ .vmem, ⟨4, _⟩ => ⟨S12x16x40, .f32⟩
  | .local _ .vmem, ⟨5, _⟩ => ⟨S2x5120x1536, .fp8e4m3⟩
  | .local _ .vmem, ⟨6, _⟩ => ⟨S2x1536x5120, .fp8e4m3⟩
  | .local _ .vmem, ⟨7, _⟩ => ⟨S8x5120, .f32⟩
  | .local _ .vmem, ⟨8, _⟩ => ⟨S12x5120, .f32⟩
  | .local _ .vmem, ⟨9, _⟩ => ⟨S40x1536, .f32⟩
  | .local _ .vmem, ⟨10, _⟩ => ⟨S12x40, .f32⟩
  | .local _ .vmem, ⟨11, _⟩ => ⟨S8x1536, .f32⟩
  | .local _ .vmem, ⟨12, _⟩ => ⟨S8x128, .f32⟩
  | .local _ .vmem, ⟨13, _⟩ => ⟨S8x1536, .f32⟩
  | .local _ .vmem, ⟨14, _⟩ => ⟨S8x5120, .f32⟩
  | .local _ .vmem, ⟨15, _⟩ => ⟨S8x5120, .bf16⟩
  | .local _ .vmem, ⟨16, _⟩ => ⟨S8x5120, .fp8e4m3⟩
  | .local _ .vmem, ⟨17, _⟩ => ⟨S1x8, .f32⟩
  | .local _ .smem, ⟨0, _⟩ => ⟨S17, .i32⟩
  | .local _ .smem, ⟨1, _⟩ => ⟨S1, .i32⟩
  | _, _ => ⟨S17, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev cc0_scratch2 : Ref sig .tc := ⟨.vmem, 0, rfl⟩
abbrev cc0_scratch3 : Ref sig .tc := ⟨.vmem, 1, rfl⟩
abbrev cc0_scratch4 : Ref sig .tc := ⟨.vmem, 2, rfl⟩
abbrev cc0_scratch5 : Ref sig .tc := ⟨.vmem, 3, rfl⟩
abbrev cc0_scratch6 : Ref sig .tc := ⟨.vmem, 4, rfl⟩
abbrev cc0_scratch7 : Ref sig .tc := ⟨.vmem, 5, rfl⟩
abbrev cc0_scratch8 : Ref sig .tc := ⟨.vmem, 6, rfl⟩
abbrev cc0_scratch9 : Ref sig .tc := ⟨.vmem, 7, rfl⟩
abbrev cc0_scratch10 : Ref sig .tc := ⟨.vmem, 8, rfl⟩
abbrev cc0_scratch11 : Ref sig .tc := ⟨.vmem, 9, rfl⟩
abbrev cc0_scratch12 : Ref sig .tc := ⟨.vmem, 10, rfl⟩
abbrev cc0_scratch13 : Ref sig .tc := ⟨.vmem, 11, rfl⟩
abbrev cc0_scratch14 : Ref sig .tc := ⟨.vmem, 12, rfl⟩
abbrev cc0_scratch15 : Ref sig .tc := ⟨.vmem, 13, rfl⟩
abbrev cc0_scratch16 : Ref sig .tc := ⟨.vmem, 14, rfl⟩
abbrev cc0_scratch17 : Ref sig .tc := ⟨.vmem, 15, rfl⟩
abbrev cc0_scratch18 : Ref sig .tc := ⟨.vmem, 16, rfl⟩
abbrev cc0_scratch19 : Ref sig .tc := ⟨.vmem, 17, rfl⟩
abbrev cc0_scratch0 : Ref sig .tc := ⟨.smem, 0, rfl⟩
abbrev cc0_scratch1 : Ref sig .tc := ⟨.smem, 1, rfl⟩

abbrev nD : Nat := 1
abbrev τ : Topo := Topo.v7x

variable {F : FTy → Type} [FloatOps F]

abbrev grid0 : Pipeline.Grid := .none

def k0_off1 (v19 : BitVec 32) : Fin 3 → Nat :=
  let c0_i32_10 : BitVec 32 := 0#32
  let c0_i32_11 : BitVec 32 := 0#32
  ![v19.toNat, 0, 0]

def k0_off2 (v19 : BitVec 32) : Fin 3 → Nat :=
  let c1280_i32_16 : BitVec 32 := 1280#32
  let c0_i32_17 : BitVec 32 := 0#32
  ![v19.toNat, 1280, 0]
def k0_off3 (v19 : BitVec 32) : Fin 3 → Nat :=
  let c2560_i32_22 : BitVec 32 := 2560#32
  let c0_i32_23 : BitVec 32 := 0#32
  ![v19.toNat, 2560, 0]
def k0_off4 (v19 : BitVec 32) : Fin 3 → Nat :=
  let c3840_i32_28 : BitVec 32 := 3840#32
  let c0_i32_29 : BitVec 32 := 0#32
  ![v19.toNat, 3840, 0]
def k0_off5 (v19 : BitVec 32) : Fin 3 → Nat :=
  let c0_i32_35 : BitVec 32 := 0#32
  let c0_i32_36 : BitVec 32 := 0#32
  ![v19.toNat, 0, 0]
def k0_off6 (v19 : BitVec 32) : Fin 3 → Nat :=
  let c512_i32_41 : BitVec 32 := 512#32
  let c0_i32_42 : BitVec 32 := 0#32
  ![v19.toNat, 512, 0]
def k0_off7 (v19 : BitVec 32) : Fin 3 → Nat :=
  let c1024_i32_47 : BitVec 32 := 1024#32
  let c0_i32_48 : BitVec 32 := 0#32
  ![v19.toNat, 1024, 0]

def k0_chk1 (v19 : BitVec 32) : Prop :=
  (∀ a, (k0_off1 v19) a + S1x1280x1536.size a ≤ S16x5120x1536.size a) ∧
  (∀ (hinb : ∀ a, (k0_off1 v19) a + S1x1280x1536.size a ≤ S16x5120x1536.size a), (Rect.unit (s := S16x5120x1536) (k0_off1 v19) S1x1280x1536.size hinb).WholeWords (EltTy.packing .fp8e4m3)) ∧
  (∀ a, (k0_off2 v19) a + S1x1280x1536.size a ≤ S16x5120x1536.size a) ∧
  (∀ (hinb : ∀ a, (k0_off2 v19) a + S1x1280x1536.size a ≤ S16x5120x1536.size a), (Rect.unit (s := S16x5120x1536) (k0_off2 v19) S1x1280x1536.size hinb).WholeWords (EltTy.packing .fp8e4m3)) ∧
  (∀ a, (k0_off3 v19) a + S1x1280x1536.size a ≤ S16x5120x1536.size a) ∧
  (∀ (hinb : ∀ a, (k0_off3 v19) a + S1x1280x1536.size a ≤ S16x5120x1536.size a), (Rect.unit (s := S16x5120x1536) (k0_off3 v19) S1x1280x1536.size hinb).WholeWords (EltTy.packing .fp8e4m3)) ∧
  (∀ a, (k0_off4 v19) a + S1x1280x1536.size a ≤ S16x5120x1536.size a) ∧
  (∀ (hinb : ∀ a, (k0_off4 v19) a + S1x1280x1536.size a ≤ S16x5120x1536.size a), (Rect.unit (s := S16x5120x1536) (k0_off4 v19) S1x1280x1536.size hinb).WholeWords (EltTy.packing .fp8e4m3)) ∧
  (∀ a, (k0_off5 v19) a + S1x512x5120.size a ≤ S16x1536x5120.size a) ∧
  (∀ (hinb : ∀ a, (k0_off5 v19) a + S1x512x5120.size a ≤ S16x1536x5120.size a), (Rect.unit (s := S16x1536x5120) (k0_off5 v19) S1x512x5120.size hinb).WholeWords (EltTy.packing .fp8e4m3)) ∧
  (∀ a, (k0_off6 v19) a + S1x512x5120.size a ≤ S16x1536x5120.size a) ∧
  (∀ (hinb : ∀ a, (k0_off6 v19) a + S1x512x5120.size a ≤ S16x1536x5120.size a), (Rect.unit (s := S16x1536x5120) (k0_off6 v19) S1x512x5120.size hinb).WholeWords (EltTy.packing .fp8e4m3)) ∧
  (∀ a, (k0_off7 v19) a + S1x512x5120.size a ≤ S16x1536x5120.size a) ∧
  (∀ (hinb : ∀ a, (k0_off7 v19) a + S1x512x5120.size a ≤ S16x1536x5120.size a), (Rect.unit (s := S16x1536x5120) (k0_off7 v19) S1x512x5120.size hinb).WholeWords (EltTy.packing .fp8e4m3))
theorem k0_off1_inb : ∀ (v19 : BitVec 32) (k0_hw1 : k0_chk1 v19), ∀ a, (k0_off1 v19) a + S1x1280x1536.size a ≤ S16x5120x1536.size a := fun v19 k0_hw1 => k0_hw1.1
theorem k0_off1_wordsfp8e4m3 : ∀ (v19 : BitVec 32) (k0_hw1 : k0_chk1 v19), (Rect.unit (s := S16x5120x1536) (k0_off1 v19) S1x1280x1536.size (k0_off1_inb v19 k0_hw1)).WholeWords (EltTy.packing .fp8e4m3) := fun v19 k0_hw1 => k0_hw1.2.1 (k0_off1_inb v19 k0_hw1)
theorem k0_off2_inb : ∀ (v19 : BitVec 32) (k0_hw1 : k0_chk1 v19), ∀ a, (k0_off2 v19) a + S1x1280x1536.size a ≤ S16x5120x1536.size a := fun v19 k0_hw1 => k0_hw1.2.2.1
theorem k0_off2_wordsfp8e4m3 : ∀ (v19 : BitVec 32) (k0_hw1 : k0_chk1 v19), (Rect.unit (s := S16x5120x1536) (k0_off2 v19) S1x1280x1536.size (k0_off2_inb v19 k0_hw1)).WholeWords (EltTy.packing .fp8e4m3) := fun v19 k0_hw1 => k0_hw1.2.2.2.1 (k0_off2_inb v19 k0_hw1)
theorem k0_off3_inb : ∀ (v19 : BitVec 32) (k0_hw1 : k0_chk1 v19), ∀ a, (k0_off3 v19) a + S1x1280x1536.size a ≤ S16x5120x1536.size a := fun v19 k0_hw1 => k0_hw1.2.2.2.2.1
theorem k0_off3_wordsfp8e4m3 : ∀ (v19 : BitVec 32) (k0_hw1 : k0_chk1 v19), (Rect.unit (s := S16x5120x1536) (k0_off3 v19) S1x1280x1536.size (k0_off3_inb v19 k0_hw1)).WholeWords (EltTy.packing .fp8e4m3) := fun v19 k0_hw1 => k0_hw1.2.2.2.2.2.1 (k0_off3_inb v19 k0_hw1)
theorem k0_off4_inb : ∀ (v19 : BitVec 32) (k0_hw1 : k0_chk1 v19), ∀ a, (k0_off4 v19) a + S1x1280x1536.size a ≤ S16x5120x1536.size a := fun v19 k0_hw1 => k0_hw1.2.2.2.2.2.2.1
theorem k0_off4_wordsfp8e4m3 : ∀ (v19 : BitVec 32) (k0_hw1 : k0_chk1 v19), (Rect.unit (s := S16x5120x1536) (k0_off4 v19) S1x1280x1536.size (k0_off4_inb v19 k0_hw1)).WholeWords (EltTy.packing .fp8e4m3) := fun v19 k0_hw1 => k0_hw1.2.2.2.2.2.2.2.1 (k0_off4_inb v19 k0_hw1)
theorem k0_off5_inb : ∀ (v19 : BitVec 32) (k0_hw1 : k0_chk1 v19), ∀ a, (k0_off5 v19) a + S1x512x5120.size a ≤ S16x1536x5120.size a := fun v19 k0_hw1 => k0_hw1.2.2.2.2.2.2.2.2.1
theorem k0_off5_wordsfp8e4m3 : ∀ (v19 : BitVec 32) (k0_hw1 : k0_chk1 v19), (Rect.unit (s := S16x1536x5120) (k0_off5 v19) S1x512x5120.size (k0_off5_inb v19 k0_hw1)).WholeWords (EltTy.packing .fp8e4m3) := fun v19 k0_hw1 => k0_hw1.2.2.2.2.2.2.2.2.2.1 (k0_off5_inb v19 k0_hw1)
theorem k0_off6_inb : ∀ (v19 : BitVec 32) (k0_hw1 : k0_chk1 v19), ∀ a, (k0_off6 v19) a + S1x512x5120.size a ≤ S16x1536x5120.size a := fun v19 k0_hw1 => k0_hw1.2.2.2.2.2.2.2.2.2.2.1
theorem k0_off6_wordsfp8e4m3 : ∀ (v19 : BitVec 32) (k0_hw1 : k0_chk1 v19), (Rect.unit (s := S16x1536x5120) (k0_off6 v19) S1x512x5120.size (k0_off6_inb v19 k0_hw1)).WholeWords (EltTy.packing .fp8e4m3) := fun v19 k0_hw1 => k0_hw1.2.2.2.2.2.2.2.2.2.2.2.1 (k0_off6_inb v19 k0_hw1)
theorem k0_off7_inb : ∀ (v19 : BitVec 32) (k0_hw1 : k0_chk1 v19), ∀ a, (k0_off7 v19) a + S1x512x5120.size a ≤ S16x1536x5120.size a := fun v19 k0_hw1 => k0_hw1.2.2.2.2.2.2.2.2.2.2.2.2.1
theorem k0_off7_wordsfp8e4m3 : ∀ (v19 : BitVec 32) (k0_hw1 : k0_chk1 v19), (Rect.unit (s := S16x1536x5120) (k0_off7 v19) S1x512x5120.size (k0_off7_inb v19 k0_hw1)).WholeWords (EltTy.packing .fp8e4m3) := fun v19 k0_hw1 => k0_hw1.2.2.2.2.2.2.2.2.2.2.2.2.2 (k0_off7_inb v19 k0_hw1)

@[reducible] def k0_t1_loop (v18 : BitVec 32) : Scf.Loop 32 :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_91 : BitVec 32 := 1#32
  ⟨c0_i32_89, v157, c1_i32_91⟩

def k0_off8 (v18 : BitVec 32) (k0_t1 : Fin (k0_t1_loop v18).trips) : Fin 1 → Nat :=
  let c0_i32_89 : BitVec 32 := 0#32
  let c1_i32_91 : BitVec 32 := 1#32
  let arg37 : BitVec 32 := Scf.iv c0_i32_89 c1_i32_91 k0_t1
  let v171 : Index := Scalar.indexCast arg37
  ![v171.toNat]
def k0_off9 (v18 : BitVec 32) (k0_t1 : Fin (k0_t1_loop v18).trips) : Fin 1 → Nat :=
  let c0_i32_89 : BitVec 32 := 0#32
  let c1_i32_91 : BitVec 32 := 1#32
  let arg37 : BitVec 32 := Scf.iv c0_i32_89 c1_i32_91 k0_t1
  let c1_i32_102 : BitVec 32 := 1#32
  let v174 : BitVec 32 := Scalar.addi arg37 c1_i32_102
  let c15_i32 : BitVec 32 := 15#32
  let v175 : BitVec 32 := Scalar.minsi v174 c15_i32
  let v176 : Index := Scalar.indexCast v175
  ![v176.toNat]
def k0_off10 (v172 : BitVec 32) : Fin 3 → Nat :=
  let c0_104 : Index := 0#32
  let v180 : Index := Scalar.indexCast v172
  let c0_105 : Index := 0#32
  ![0, v180.toNat, 0]

@[reducible] def k0_t2_loop : Scf.Loop 32 :=
  let c0_i32_181 : BitVec 32 := 0#32
  let c4_i32_182 : BitVec 32 := 4#32
  let v507 : BitVec 32 := Scalar.addi c0_i32_181 c4_i32_182
  let c1_i32_183 : BitVec 32 := 1#32
  ⟨c0_i32_181, v507, c1_i32_183⟩
def k0_off11 (v18 : BitVec 32) (k0_t1 : Fin (k0_t1_loop v18).trips) (k0_t2 : Fin k0_t2_loop.trips) : Fin 2 → Nat :=
  let c0_i32_89 : BitVec 32 := 0#32
  let c1_i32_91 : BitVec 32 := 1#32
  let arg37 : BitVec 32 := Scf.iv c0_i32_89 c1_i32_91 k0_t1
  let c1_i32_102 : BitVec 32 := 1#32
  let v174 : BitVec 32 := Scalar.addi arg37 c1_i32_102
  let c2_i32_103 : BitVec 32 := 2#32
  let v178 : BitVec 32 := Scalar.remsi v174 c2_i32_103
  let c0_i32_181 : BitVec 32 := 0#32
  let c1_i32_183 : BitVec 32 := 1#32
  let arg38 : BitVec 32 := Scf.iv c0_i32_181 c1_i32_183 k0_t2
  ![v178.toNat, arg38.toNat]
def k0_cond1 (v18 : BitVec 32) (k0_t1 : Fin (k0_t1_loop v18).trips) : BitVec 1 :=
  let c0_i32_89 : BitVec 32 := 0#32
  let c1_i32_91 : BitVec 32 := 1#32
  let arg37 : BitVec 32 := Scf.iv c0_i32_89 c1_i32_91 k0_t1
  let c1_i32_102 : BitVec 32 := 1#32
  let v174 : BitVec 32 := Scalar.addi arg37 c1_i32_102
  let v179 : BitVec 1 := Scalar.cmpi .slt v174 v18
  let v585 : BitVec 32 := Scalar.extui v179
  let c0_i32_219 : BitVec 32 := 0#32
  let v586 : BitVec 1 := Scalar.cmpi .ne v585 c0_i32_219
  v586

def k0_off12 (v18 : BitVec 32) (k0_t1 : Fin (k0_t1_loop v18).trips) (k0_t2 : Fin k0_t2_loop.trips) : Fin 3 → Nat :=
  let c0_i32_89 : BitVec 32 := 0#32
  let c1_i32_91 : BitVec 32 := 1#32
  let arg37 : BitVec 32 := Scf.iv c0_i32_89 c1_i32_91 k0_t1
  let c1_i32_102 : BitVec 32 := 1#32
  let v174 : BitVec 32 := Scalar.addi arg37 c1_i32_102
  let c2_i32_103 : BitVec 32 := 2#32
  let v178 : BitVec 32 := Scalar.remsi v174 c2_i32_103
  let c0_i32_181 : BitVec 32 := 0#32
  let c1_i32_183 : BitVec 32 := 1#32
  let arg38 : BitVec 32 := Scf.iv c0_i32_181 c1_i32_183 k0_t2
  let c1280_i32_286 : BitVec 32 := 1280#32
  let v760 : BitVec 32 := Scalar.muli arg38 c1280_i32_286
  let c0_i32_287 : BitVec 32 := 0#32
  ![v178.toNat, v760.toNat, 0]
def k0_off13 (v177 : BitVec 32) (k0_t2 : Fin k0_t2_loop.trips) : Fin 3 → Nat :=
  let c0_i32_181 : BitVec 32 := 0#32
  let c1_i32_183 : BitVec 32 := 1#32
  let arg38 : BitVec 32 := Scf.iv c0_i32_181 c1_i32_183 k0_t2
  let c1280_i32_286 : BitVec 32 := 1280#32
  let v760 : BitVec 32 := Scalar.muli arg38 c1280_i32_286
  let c0_i32_288 : BitVec 32 := 0#32
  ![v177.toNat, v760.toNat, 0]

def k0_off14 (v18 : BitVec 32) (k0_t1 : Fin (k0_t1_loop v18).trips) (k0_t2 : Fin k0_t2_loop.trips) : Fin 2 → Nat :=
  let c0_i32_89 : BitVec 32 := 0#32
  let c1_i32_91 : BitVec 32 := 1#32
  let arg37 : BitVec 32 := Scf.iv c0_i32_89 c1_i32_91 k0_t1
  let c2_i32_101 : BitVec 32 := 2#32
  let v173 : BitVec 32 := Scalar.remsi arg37 c2_i32_101
  let c0_i32_181 : BitVec 32 := 0#32
  let c1_i32_183 : BitVec 32 := 1#32
  let arg38 : BitVec 32 := Scf.iv c0_i32_181 c1_i32_183 k0_t2
  ![v173.toNat, arg38.toNat]
def k0_off15 (v18 : BitVec 32) (k0_t1 : Fin (k0_t1_loop v18).trips) (k0_t2 : Fin k0_t2_loop.trips) : Fin 3 → Nat :=
  let c0_i32_89 : BitVec 32 := 0#32
  let c1_i32_91 : BitVec 32 := 1#32
  let arg37 : BitVec 32 := Scf.iv c0_i32_89 c1_i32_91 k0_t1
  let c2_i32_101 : BitVec 32 := 2#32
  let v173 : BitVec 32 := Scalar.remsi arg37 c2_i32_101
  let c0_i32_181 : BitVec 32 := 0#32
  let c1_i32_183 : BitVec 32 := 1#32
  let arg38 : BitVec 32 := Scf.iv c0_i32_181 c1_i32_183 k0_t2
  let c1280_i32_220 : BitVec 32 := 1280#32
  let v587 : BitVec 32 := Scalar.muli arg38 c1280_i32_220
  let c0_i32_221 : BitVec 32 := 0#32
  ![v173.toNat, v587.toNat, 0]
def k0_off16 (v172 : BitVec 32) (k0_t2 : Fin k0_t2_loop.trips) : Fin 3 → Nat :=
  let c0_i32_181 : BitVec 32 := 0#32
  let c1_i32_183 : BitVec 32 := 1#32
  let arg38 : BitVec 32 := Scf.iv c0_i32_181 c1_i32_183 k0_t2
  let c1280_i32_220 : BitVec 32 := 1280#32
  let v587 : BitVec 32 := Scalar.muli arg38 c1280_i32_220
  let c0_i32_222 : BitVec 32 := 0#32
  ![v172.toNat, v587.toNat, 0]
def k0_mult1 (k0_t2 : Fin k0_t2_loop.trips) : BitVec 32 :=
  let c0_i32_181 : BitVec 32 := 0#32
  let c1_i32_183 : BitVec 32 := 1#32
  let arg38 : BitVec 32 := Scf.iv c0_i32_181 c1_i32_183 k0_t2
  let c1280_i32_223 : BitVec 32 := 1280#32
  let v594 : BitVec 32 := Scalar.muli arg38 c1280_i32_223
  v594
def k0_off17 (k0_t2 : Fin k0_t2_loop.trips) : Fin 2 → Nat :=
  let c0_224 : Index := 0#32
  let c0_i32_181 : BitVec 32 := 0#32
  let c1_i32_183 : BitVec 32 := 1#32
  let arg38 : BitVec 32 := Scf.iv c0_i32_181 c1_i32_183 k0_t2
  let c1280_i32_223 : BitVec 32 := 1280#32
  let v594 : BitVec 32 := Scalar.muli arg38 c1280_i32_223
  let v595 : BitVec 32 := v594
  let v596 : Index := Scalar.indexCast v595
  ![0, v596.toNat]
def k0_off18 (v18 : BitVec 32) (k0_t1 : Fin (k0_t1_loop v18).trips) (k0_t2 : Fin k0_t2_loop.trips) : Fin 3 → Nat :=
  let c0_i32_89 : BitVec 32 := 0#32
  let c1_i32_91 : BitVec 32 := 1#32
  let arg37 : BitVec 32 := Scf.iv c0_i32_89 c1_i32_91 k0_t1
  let c2_i32_101 : BitVec 32 := 2#32
  let v173 : BitVec 32 := Scalar.remsi arg37 c2_i32_101
  let v598 : Index := Scalar.indexCast v173
  let c0_i32_181 : BitVec 32 := 0#32
  let c1_i32_183 : BitVec 32 := 1#32
  let arg38 : BitVec 32 := Scf.iv c0_i32_181 c1_i32_183 k0_t2
  let c1280_i32_223 : BitVec 32 := 1280#32
  let v594 : BitVec 32 := Scalar.muli arg38 c1280_i32_223
  let v595 : BitVec 32 := v594
  let v599 : Index := Scalar.indexCast v595
  let c0_225 : Index := 0#32
  ![v598.toNat, v599.toNat, 0]
def k0_off19 (k0_t2 : Fin k0_t2_loop.trips) : Fin 2 → Nat :=
  let c0_226 : Index := 0#32
  let c0_i32_181 : BitVec 32 := 0#32
  let c1_i32_183 : BitVec 32 := 1#32
  let arg38 : BitVec 32 := Scf.iv c0_i32_181 c1_i32_183 k0_t2
  let c1280_i32_223 : BitVec 32 := 1280#32
  let v594 : BitVec 32 := Scalar.muli arg38 c1280_i32_223
  let v595 : BitVec 32 := v594
  let v602 : Index := Scalar.indexCast v595
  ![0, v602.toNat]
def k0_off20 (k0_t2 : Fin k0_t2_loop.trips) : Fin 2 → Nat :=
  let c1 : Index := 1#32
  let c0_i32_181 : BitVec 32 := 0#32
  let c1_i32_183 : BitVec 32 := 1#32
  let arg38 : BitVec 32 := Scf.iv c0_i32_181 c1_i32_183 k0_t2
  let c1280_i32_223 : BitVec 32 := 1280#32
  let v594 : BitVec 32 := Scalar.muli arg38 c1280_i32_223
  let v595 : BitVec 32 := v594
  let v606 : Index := Scalar.indexCast v595
  ![1, v606.toNat]
def k0_off21 (v18 : BitVec 32) (k0_t1 : Fin (k0_t1_loop v18).trips) (k0_t2 : Fin k0_t2_loop.trips) : Fin 3 → Nat :=
  let c0_i32_89 : BitVec 32 := 0#32
  let c1_i32_91 : BitVec 32 := 1#32
  let arg37 : BitVec 32 := Scf.iv c0_i32_89 c1_i32_91 k0_t1
  let c2_i32_101 : BitVec 32 := 2#32
  let v173 : BitVec 32 := Scalar.remsi arg37 c2_i32_101
  let v625 : Index := Scalar.indexCast v173
  let c0_i32_181 : BitVec 32 := 0#32
  let c1_i32_183 : BitVec 32 := 1#32
  let arg38 : BitVec 32 := Scf.iv c0_i32_181 c1_i32_183 k0_t2
  let c1280_i32_223 : BitVec 32 := 1280#32
  let v594 : BitVec 32 := Scalar.muli arg38 c1280_i32_223
  let v595 : BitVec 32 := v594
  let v626 : Index := Scalar.indexCast v595
  let c256_236 : Index := 256#32
  ![v625.toNat, v626.toNat, 256]
def k0_off22 (k0_t2 : Fin k0_t2_loop.trips) : Fin 2 → Nat :=
  let c2 : Index := 2#32
  let c0_i32_181 : BitVec 32 := 0#32
  let c1_i32_183 : BitVec 32 := 1#32
  let arg38 : BitVec 32 := Scf.iv c0_i32_181 c1_i32_183 k0_t2
  let c1280_i32_223 : BitVec 32 := 1280#32
  let v594 : BitVec 32 := Scalar.muli arg38 c1280_i32_223
  let v595 : BitVec 32 := v594
  let v629 : Index := Scalar.indexCast v595
  ![2, v629.toNat]
def k0_off23 (k0_t2 : Fin k0_t2_loop.trips) : Fin 2 → Nat :=
  let c3 : Index := 3#32
  let c0_i32_181 : BitVec 32 := 0#32
  let c1_i32_183 : BitVec 32 := 1#32
  let arg38 : BitVec 32 := Scf.iv c0_i32_181 c1_i32_183 k0_t2
  let c1280_i32_223 : BitVec 32 := 1280#32
  let v594 : BitVec 32 := Scalar.muli arg38 c1280_i32_223
  let v595 : BitVec 32 := v594
  let v633 : Index := Scalar.indexCast v595
  ![3, v633.toNat]
def k0_off24 (v18 : BitVec 32) (k0_t1 : Fin (k0_t1_loop v18).trips) (k0_t2 : Fin k0_t2_loop.trips) : Fin 3 → Nat :=
  let c0_i32_89 : BitVec 32 := 0#32
  let c1_i32_91 : BitVec 32 := 1#32
  let arg37 : BitVec 32 := Scf.iv c0_i32_89 c1_i32_91 k0_t1
  let c2_i32_101 : BitVec 32 := 2#32
  let v173 : BitVec 32 := Scalar.remsi arg37 c2_i32_101
  let v652 : Index := Scalar.indexCast v173
  let c0_i32_181 : BitVec 32 := 0#32
  let c1_i32_183 : BitVec 32 := 1#32
  let arg38 : BitVec 32 := Scf.iv c0_i32_181 c1_i32_183 k0_t2
  let c1280_i32_223 : BitVec 32 := 1280#32
  let v594 : BitVec 32 := Scalar.muli arg38 c1280_i32_223
  let v595 : BitVec 32 := v594
  let v653 : Index := Scalar.indexCast v595
  let c512_246 : Index := 512#32
  ![v652.toNat, v653.toNat, 512]
def k0_off25 (k0_t2 : Fin k0_t2_loop.trips) : Fin 2 → Nat :=
  let c4 : Index := 4#32
  let c0_i32_181 : BitVec 32 := 0#32
  let c1_i32_183 : BitVec 32 := 1#32
  let arg38 : BitVec 32 := Scf.iv c0_i32_181 c1_i32_183 k0_t2
  let c1280_i32_223 : BitVec 32 := 1280#32
  let v594 : BitVec 32 := Scalar.muli arg38 c1280_i32_223
  let v595 : BitVec 32 := v594
  let v656 : Index := Scalar.indexCast v595
  ![4, v656.toNat]
def k0_off26 (k0_t2 : Fin k0_t2_loop.trips) : Fin 2 → Nat :=
  let c5 : Index := 5#32
  let c0_i32_181 : BitVec 32 := 0#32
  let c1_i32_183 : BitVec 32 := 1#32
  let arg38 : BitVec 32 := Scf.iv c0_i32_181 c1_i32_183 k0_t2
  let c1280_i32_223 : BitVec 32 := 1280#32
  let v594 : BitVec 32 := Scalar.muli arg38 c1280_i32_223
  let v595 : BitVec 32 := v594
  let v660 : Index := Scalar.indexCast v595
  ![5, v660.toNat]
def k0_off27 (v18 : BitVec 32) (k0_t1 : Fin (k0_t1_loop v18).trips) (k0_t2 : Fin k0_t2_loop.trips) : Fin 3 → Nat :=
  let c0_i32_89 : BitVec 32 := 0#32
  let c1_i32_91 : BitVec 32 := 1#32
  let arg37 : BitVec 32 := Scf.iv c0_i32_89 c1_i32_91 k0_t1
  let c2_i32_101 : BitVec 32 := 2#32
  let v173 : BitVec 32 := Scalar.remsi arg37 c2_i32_101
  let v679 : Index := Scalar.indexCast v173
  let c0_i32_181 : BitVec 32 := 0#32
  let c1_i32_183 : BitVec 32 := 1#32
  let arg38 : BitVec 32 := Scf.iv c0_i32_181 c1_i32_183 k0_t2
  let c1280_i32_223 : BitVec 32 := 1280#32
  let v594 : BitVec 32 := Scalar.muli arg38 c1280_i32_223
  let v595 : BitVec 32 := v594
  let v680 : Index := Scalar.indexCast v595
  let c768_256 : Index := 768#32
  ![v679.toNat, v680.toNat, 768]
def k0_off28 (k0_t2 : Fin k0_t2_loop.trips) : Fin 2 → Nat :=
  let c6 : Index := 6#32
  let c0_i32_181 : BitVec 32 := 0#32
  let c1_i32_183 : BitVec 32 := 1#32
  let arg38 : BitVec 32 := Scf.iv c0_i32_181 c1_i32_183 k0_t2
  let c1280_i32_223 : BitVec 32 := 1280#32
  let v594 : BitVec 32 := Scalar.muli arg38 c1280_i32_223
  let v595 : BitVec 32 := v594
  let v683 : Index := Scalar.indexCast v595
  ![6, v683.toNat]
def k0_off29 (k0_t2 : Fin k0_t2_loop.trips) : Fin 2 → Nat :=
  let c7 : Index := 7#32
  let c0_i32_181 : BitVec 32 := 0#32
  let c1_i32_183 : BitVec 32 := 1#32
  let arg38 : BitVec 32 := Scf.iv c0_i32_181 c1_i32_183 k0_t2
  let c1280_i32_223 : BitVec 32 := 1280#32
  let v594 : BitVec 32 := Scalar.muli arg38 c1280_i32_223
  let v595 : BitVec 32 := v594
  let v687 : Index := Scalar.indexCast v595
  ![7, v687.toNat]
def k0_off30 (v18 : BitVec 32) (k0_t1 : Fin (k0_t1_loop v18).trips) (k0_t2 : Fin k0_t2_loop.trips) : Fin 3 → Nat :=
  let c0_i32_89 : BitVec 32 := 0#32
  let c1_i32_91 : BitVec 32 := 1#32
  let arg37 : BitVec 32 := Scf.iv c0_i32_89 c1_i32_91 k0_t1
  let c2_i32_101 : BitVec 32 := 2#32
  let v173 : BitVec 32 := Scalar.remsi arg37 c2_i32_101
  let v706 : Index := Scalar.indexCast v173
  let c0_i32_181 : BitVec 32 := 0#32
  let c1_i32_183 : BitVec 32 := 1#32
  let arg38 : BitVec 32 := Scf.iv c0_i32_181 c1_i32_183 k0_t2
  let c1280_i32_223 : BitVec 32 := 1280#32
  let v594 : BitVec 32 := Scalar.muli arg38 c1280_i32_223
  let v595 : BitVec 32 := v594
  let v707 : Index := Scalar.indexCast v595
  let c1024_266 : Index := 1024#32
  ![v706.toNat, v707.toNat, 1024]
def k0_off31 (k0_t2 : Fin k0_t2_loop.trips) : Fin 2 → Nat :=
  let c8 : Index := 8#32
  let c0_i32_181 : BitVec 32 := 0#32
  let c1_i32_183 : BitVec 32 := 1#32
  let arg38 : BitVec 32 := Scf.iv c0_i32_181 c1_i32_183 k0_t2
  let c1280_i32_223 : BitVec 32 := 1280#32
  let v594 : BitVec 32 := Scalar.muli arg38 c1280_i32_223
  let v595 : BitVec 32 := v594
  let v710 : Index := Scalar.indexCast v595
  ![8, v710.toNat]
def k0_off32 (k0_t2 : Fin k0_t2_loop.trips) : Fin 2 → Nat :=
  let c9 : Index := 9#32
  let c0_i32_181 : BitVec 32 := 0#32
  let c1_i32_183 : BitVec 32 := 1#32
  let arg38 : BitVec 32 := Scf.iv c0_i32_181 c1_i32_183 k0_t2
  let c1280_i32_223 : BitVec 32 := 1280#32
  let v594 : BitVec 32 := Scalar.muli arg38 c1280_i32_223
  let v595 : BitVec 32 := v594
  let v714 : Index := Scalar.indexCast v595
  ![9, v714.toNat]
def k0_off33 (v18 : BitVec 32) (k0_t1 : Fin (k0_t1_loop v18).trips) (k0_t2 : Fin k0_t2_loop.trips) : Fin 3 → Nat :=
  let c0_i32_89 : BitVec 32 := 0#32
  let c1_i32_91 : BitVec 32 := 1#32
  let arg37 : BitVec 32 := Scf.iv c0_i32_89 c1_i32_91 k0_t1
  let c2_i32_101 : BitVec 32 := 2#32
  let v173 : BitVec 32 := Scalar.remsi arg37 c2_i32_101
  let v733 : Index := Scalar.indexCast v173
  let c0_i32_181 : BitVec 32 := 0#32
  let c1_i32_183 : BitVec 32 := 1#32
  let arg38 : BitVec 32 := Scf.iv c0_i32_181 c1_i32_183 k0_t2
  let c1280_i32_223 : BitVec 32 := 1280#32
  let v594 : BitVec 32 := Scalar.muli arg38 c1280_i32_223
  let v595 : BitVec 32 := v594
  let v734 : Index := Scalar.indexCast v595
  let c1280_276 : Index := 1280#32
  ![v733.toNat, v734.toNat, 1280]
def k0_off34 (k0_t2 : Fin k0_t2_loop.trips) : Fin 2 → Nat :=
  let c10 : Index := 10#32
  let c0_i32_181 : BitVec 32 := 0#32
  let c1_i32_183 : BitVec 32 := 1#32
  let arg38 : BitVec 32 := Scf.iv c0_i32_181 c1_i32_183 k0_t2
  let c1280_i32_223 : BitVec 32 := 1280#32
  let v594 : BitVec 32 := Scalar.muli arg38 c1280_i32_223
  let v595 : BitVec 32 := v594
  let v737 : Index := Scalar.indexCast v595
  ![10, v737.toNat]
def k0_off35 (k0_t2 : Fin k0_t2_loop.trips) : Fin 2 → Nat :=
  let c11 : Index := 11#32
  let c0_i32_181 : BitVec 32 := 0#32
  let c1_i32_183 : BitVec 32 := 1#32
  let arg38 : BitVec 32 := Scf.iv c0_i32_181 c1_i32_183 k0_t2
  let c1280_i32_223 : BitVec 32 := 1280#32
  let v594 : BitVec 32 := Scalar.muli arg38 c1280_i32_223
  let v595 : BitVec 32 := v594
  let v741 : Index := Scalar.indexCast v595
  ![11, v741.toNat]
@[reducible] def k0_t3_loop : Scf.Loop 32 :=
  let c0_i32_215 : BitVec 32 := 0#32
  let c3_i32_216 : BitVec 32 := 3#32
  let v584 : BitVec 32 := Scalar.addi c0_i32_215 c3_i32_216
  let c1_i32_217 : BitVec 32 := 1#32
  ⟨c0_i32_215, v584, c1_i32_217⟩
def k0_off36 (v18 : BitVec 32) (k0_t1 : Fin (k0_t1_loop v18).trips) (k0_t3 : Fin k0_t3_loop.trips) : Fin 2 → Nat :=
  let c0_i32_89 : BitVec 32 := 0#32
  let c1_i32_91 : BitVec 32 := 1#32
  let arg37 : BitVec 32 := Scf.iv c0_i32_89 c1_i32_91 k0_t1
  let c1_i32_102 : BitVec 32 := 1#32
  let v174 : BitVec 32 := Scalar.addi arg37 c1_i32_102
  let c2_i32_103 : BitVec 32 := 2#32
  let v178 : BitVec 32 := Scalar.remsi v174 c2_i32_103
  let c0_i32_215 : BitVec 32 := 0#32
  let c1_i32_217 : BitVec 32 := 1#32
  let arg38 : BitVec 32 := Scf.iv c0_i32_215 c1_i32_217 k0_t3
  ![v178.toNat, arg38.toNat]
def k0_cond2 (v18 : BitVec 32) (k0_t1 : Fin (k0_t1_loop v18).trips) : BitVec 1 :=
  let c0_i32_89 : BitVec 32 := 0#32
  let c1_i32_91 : BitVec 32 := 1#32
  let arg37 : BitVec 32 := Scf.iv c0_i32_89 c1_i32_91 k0_t1
  let c1_i32_102 : BitVec 32 := 1#32
  let v174 : BitVec 32 := Scalar.addi arg37 c1_i32_102
  let v179 : BitVec 1 := Scalar.cmpi .slt v174 v18
  let v585 : BitVec 32 := Scalar.extui v179
  let c0_i32_219 : BitVec 32 := 0#32
  let v586 : BitVec 1 := Scalar.cmpi .ne v585 c0_i32_219
  v586

def k0_off37 (v18 : BitVec 32) (k0_t1 : Fin (k0_t1_loop v18).trips) (k0_t3 : Fin k0_t3_loop.trips) : Fin 3 → Nat :=
  let c0_i32_89 : BitVec 32 := 0#32
  let c1_i32_91 : BitVec 32 := 1#32
  let arg37 : BitVec 32 := Scf.iv c0_i32_89 c1_i32_91 k0_t1
  let c1_i32_102 : BitVec 32 := 1#32
  let v174 : BitVec 32 := Scalar.addi arg37 c1_i32_102
  let c2_i32_103 : BitVec 32 := 2#32
  let v178 : BitVec 32 := Scalar.remsi v174 c2_i32_103
  let c0_i32_215 : BitVec 32 := 0#32
  let c1_i32_217 : BitVec 32 := 1#32
  let arg38 : BitVec 32 := Scf.iv c0_i32_215 c1_i32_217 k0_t3
  let c512_i32_428 : BitVec 32 := 512#32
  let v1179 : BitVec 32 := Scalar.muli arg38 c512_i32_428
  let c0_i32_429 : BitVec 32 := 0#32
  ![v178.toNat, v1179.toNat, 0]
def k0_off38 (v177 : BitVec 32) (k0_t3 : Fin k0_t3_loop.trips) : Fin 3 → Nat :=
  let c0_i32_215 : BitVec 32 := 0#32
  let c1_i32_217 : BitVec 32 := 1#32
  let arg38 : BitVec 32 := Scf.iv c0_i32_215 c1_i32_217 k0_t3
  let c512_i32_428 : BitVec 32 := 512#32
  let v1179 : BitVec 32 := Scalar.muli arg38 c512_i32_428
  let c0_i32_430 : BitVec 32 := 0#32
  ![v177.toNat, v1179.toNat, 0]

def k0_chk4 (v18 : BitVec 32) (k0_t1 : Fin (k0_t1_loop v18).trips) (v177 : BitVec 32) : Prop :=
  (∀ k0_t2 : Fin k0_t2_loop.trips, ∀ (k0_h1 : k0_cond1 v18 k0_t1 = 1#1), ∀ a, (k0_off13 v177 k0_t2) a + S1x1280x1536.size a ≤ S16x5120x1536.size a) ∧
  (∀ k0_t2 : Fin k0_t2_loop.trips, ∀ (k0_h1 : k0_cond1 v18 k0_t1 = 1#1), ∀ (hinb : ∀ a, (k0_off13 v177 k0_t2) a + S1x1280x1536.size a ≤ S16x5120x1536.size a), (Rect.unit (s := S16x5120x1536) (k0_off13 v177 k0_t2) S1x1280x1536.size hinb).WholeWords (EltTy.packing .fp8e4m3)) ∧
  (∀ k0_t3 : Fin k0_t3_loop.trips, ∀ (k0_h2 : k0_cond2 v18 k0_t1 = 1#1), ∀ a, (k0_off38 v177 k0_t3) a + S1x512x5120.size a ≤ S16x1536x5120.size a) ∧
  (∀ k0_t3 : Fin k0_t3_loop.trips, ∀ (k0_h2 : k0_cond2 v18 k0_t1 = 1#1), ∀ (hinb : ∀ a, (k0_off38 v177 k0_t3) a + S1x512x5120.size a ≤ S16x1536x5120.size a), (Rect.unit (s := S16x1536x5120) (k0_off38 v177 k0_t3) S1x512x5120.size hinb).WholeWords (EltTy.packing .fp8e4m3))
theorem k0_off13_inb : ∀ (v18 : BitVec 32) (k0_t1 : Fin (k0_t1_loop v18).trips) (v177 : BitVec 32) (k0_hw4 : k0_chk4 v18 k0_t1 v177) (k0_t2 : Fin k0_t2_loop.trips), ∀ (k0_h1 : k0_cond1 v18 k0_t1 = 1#1), ∀ a, (k0_off13 v177 k0_t2) a + S1x1280x1536.size a ≤ S16x5120x1536.size a := fun v18 k0_t1 v177 k0_hw4 k0_t2 k0_h1 => k0_hw4.1 k0_t2 k0_h1
theorem k0_off13_wordsfp8e4m3 : ∀ (v18 : BitVec 32) (k0_t1 : Fin (k0_t1_loop v18).trips) (v177 : BitVec 32) (k0_hw4 : k0_chk4 v18 k0_t1 v177) (k0_t2 : Fin k0_t2_loop.trips), ∀ (k0_h1 : k0_cond1 v18 k0_t1 = 1#1), (Rect.unit (s := S16x5120x1536) (k0_off13 v177 k0_t2) S1x1280x1536.size (k0_off13_inb v18 k0_t1 v177 k0_hw4 k0_t2 k0_h1)).WholeWords (EltTy.packing .fp8e4m3) := fun v18 k0_t1 v177 k0_hw4 k0_t2 k0_h1 => k0_hw4.2.1 k0_t2 k0_h1 (k0_off13_inb v18 k0_t1 v177 k0_hw4 k0_t2 k0_h1)
theorem k0_off38_inb : ∀ (v18 : BitVec 32) (k0_t1 : Fin (k0_t1_loop v18).trips) (v177 : BitVec 32) (k0_hw4 : k0_chk4 v18 k0_t1 v177) (k0_t3 : Fin k0_t3_loop.trips), ∀ (k0_h2 : k0_cond2 v18 k0_t1 = 1#1), ∀ a, (k0_off38 v177 k0_t3) a + S1x512x5120.size a ≤ S16x1536x5120.size a := fun v18 k0_t1 v177 k0_hw4 k0_t3 k0_h2 => k0_hw4.2.2.1 k0_t3 k0_h2
theorem k0_off38_wordsfp8e4m3 : ∀ (v18 : BitVec 32) (k0_t1 : Fin (k0_t1_loop v18).trips) (v177 : BitVec 32) (k0_hw4 : k0_chk4 v18 k0_t1 v177) (k0_t3 : Fin k0_t3_loop.trips), ∀ (k0_h2 : k0_cond2 v18 k0_t1 = 1#1), (Rect.unit (s := S16x1536x5120) (k0_off38 v177 k0_t3) S1x512x5120.size (k0_off38_inb v18 k0_t1 v177 k0_hw4 k0_t3 k0_h2)).WholeWords (EltTy.packing .fp8e4m3) := fun v18 k0_t1 v177 k0_hw4 k0_t3 k0_h2 => k0_hw4.2.2.2 k0_t3 k0_h2 (k0_off38_inb v18 k0_t1 v177 k0_hw4 k0_t3 k0_h2)

def k0_off39 (v18 : BitVec 32) (k0_t1 : Fin (k0_t1_loop v18).trips) (k0_t3 : Fin k0_t3_loop.trips) : Fin 2 → Nat :=
  let c0_i32_89 : BitVec 32 := 0#32
  let c1_i32_91 : BitVec 32 := 1#32
  let arg37 : BitVec 32 := Scf.iv c0_i32_89 c1_i32_91 k0_t1
  let c2_i32_101 : BitVec 32 := 2#32
  let v173 : BitVec 32 := Scalar.remsi arg37 c2_i32_101
  let c0_i32_215 : BitVec 32 := 0#32
  let c1_i32_217 : BitVec 32 := 1#32
  let arg38 : BitVec 32 := Scf.iv c0_i32_215 c1_i32_217 k0_t3
  ![v173.toNat, arg38.toNat]
def k0_off40 (v18 : BitVec 32) (k0_t1 : Fin (k0_t1_loop v18).trips) (k0_t3 : Fin k0_t3_loop.trips) : Fin 3 → Nat :=
  let c0_i32_89 : BitVec 32 := 0#32
  let c1_i32_91 : BitVec 32 := 1#32
  let arg37 : BitVec 32 := Scf.iv c0_i32_89 c1_i32_91 k0_t1
  let c2_i32_101 : BitVec 32 := 2#32
  let v173 : BitVec 32 := Scalar.remsi arg37 c2_i32_101
  let c0_i32_215 : BitVec 32 := 0#32
  let c1_i32_217 : BitVec 32 := 1#32
  let arg38 : BitVec 32 := Scf.iv c0_i32_215 c1_i32_217 k0_t3
  let c512_i32_220 : BitVec 32 := 512#32
  let v587 : BitVec 32 := Scalar.muli arg38 c512_i32_220
  let c0_i32_221 : BitVec 32 := 0#32
  ![v173.toNat, v587.toNat, 0]
def k0_off41 (v172 : BitVec 32) (k0_t3 : Fin k0_t3_loop.trips) : Fin 3 → Nat :=
  let c0_i32_215 : BitVec 32 := 0#32
  let c1_i32_217 : BitVec 32 := 1#32
  let arg38 : BitVec 32 := Scf.iv c0_i32_215 c1_i32_217 k0_t3
  let c512_i32_220 : BitVec 32 := 512#32
  let v587 : BitVec 32 := Scalar.muli arg38 c512_i32_220
  let c0_i32_222 : BitVec 32 := 0#32
  ![v172.toNat, v587.toNat, 0]

def k0_chk3 (v172 : BitVec 32) : Prop :=
  (∀ a, (k0_off10 v172) a + S12x1x40.size a ≤ S12x16x40.size a) ∧
  (∀ k0_t2 : Fin k0_t2_loop.trips, ∀ a, (k0_off16 v172 k0_t2) a + S1x1280x1536.size a ≤ S16x5120x1536.size a) ∧
  (∀ k0_t2 : Fin k0_t2_loop.trips, ∀ (hinb : ∀ a, (k0_off16 v172 k0_t2) a + S1x1280x1536.size a ≤ S16x5120x1536.size a), (Rect.unit (s := S16x5120x1536) (k0_off16 v172 k0_t2) S1x1280x1536.size hinb).WholeWords (EltTy.packing .fp8e4m3)) ∧
  (∀ k0_t3 : Fin k0_t3_loop.trips, ∀ a, (k0_off41 v172 k0_t3) a + S1x512x5120.size a ≤ S16x1536x5120.size a) ∧
  (∀ k0_t3 : Fin k0_t3_loop.trips, ∀ (hinb : ∀ a, (k0_off41 v172 k0_t3) a + S1x512x5120.size a ≤ S16x1536x5120.size a), (Rect.unit (s := S16x1536x5120) (k0_off41 v172 k0_t3) S1x512x5120.size hinb).WholeWords (EltTy.packing .fp8e4m3))
theorem k0_off10_inb : ∀ (v172 : BitVec 32) (k0_hw3 : k0_chk3 v172), ∀ a, (k0_off10 v172) a + S12x1x40.size a ≤ S12x16x40.size a := fun v172 k0_hw3 => k0_hw3.1
theorem k0_off16_inb : ∀ (v172 : BitVec 32) (k0_hw3 : k0_chk3 v172) (k0_t2 : Fin k0_t2_loop.trips), ∀ a, (k0_off16 v172 k0_t2) a + S1x1280x1536.size a ≤ S16x5120x1536.size a := fun v172 k0_hw3 k0_t2 => k0_hw3.2.1 k0_t2
theorem k0_off16_wordsfp8e4m3 : ∀ (v172 : BitVec 32) (k0_hw3 : k0_chk3 v172) (k0_t2 : Fin k0_t2_loop.trips), (Rect.unit (s := S16x5120x1536) (k0_off16 v172 k0_t2) S1x1280x1536.size (k0_off16_inb v172 k0_hw3 k0_t2)).WholeWords (EltTy.packing .fp8e4m3) := fun v172 k0_hw3 k0_t2 => k0_hw3.2.2.1 k0_t2 (k0_off16_inb v172 k0_hw3 k0_t2)
theorem k0_off41_inb : ∀ (v172 : BitVec 32) (k0_hw3 : k0_chk3 v172) (k0_t3 : Fin k0_t3_loop.trips), ∀ a, (k0_off41 v172 k0_t3) a + S1x512x5120.size a ≤ S16x1536x5120.size a := fun v172 k0_hw3 k0_t3 => k0_hw3.2.2.2.1 k0_t3
theorem k0_off41_wordsfp8e4m3 : ∀ (v172 : BitVec 32) (k0_hw3 : k0_chk3 v172) (k0_t3 : Fin k0_t3_loop.trips), (Rect.unit (s := S16x1536x5120) (k0_off41 v172 k0_t3) S1x512x5120.size (k0_off41_inb v172 k0_hw3 k0_t3)).WholeWords (EltTy.packing .fp8e4m3) := fun v172 k0_hw3 k0_t3 => k0_hw3.2.2.2.2 k0_t3 (k0_off41_inb v172 k0_hw3 k0_t3)

def k0_mult2 (k0_t3 : Fin k0_t3_loop.trips) : BitVec 32 :=
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  v594
def k0_off42 (k0_t3 : Fin k0_t3_loop.trips) : Fin 2 → Nat :=
  let c0_224 : Index := 0#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v596 : Index := Scalar.indexCast v595
  ![0, v596.toNat]
def k0_off43 (v18 : BitVec 32) (k0_t1 : Fin (k0_t1_loop v18).trips) (k0_t3 : Fin k0_t3_loop.trips) : Fin 3 → Nat :=
  let c0_i32_89 : BitVec 32 := 0#32
  let c1_i32_91 : BitVec 32 := 1#32
  let arg37 : BitVec 32 := Scf.iv c0_i32_89 c1_i32_91 k0_t1
  let c2_i32_101 : BitVec 32 := 2#32
  let v173 : BitVec 32 := Scalar.remsi arg37 c2_i32_101
  let v599 : Index := Scalar.indexCast v173
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v600 : Index := Scalar.indexCast v595
  let c0_227 : Index := 0#32
  ![v599.toNat, v600.toNat, 0]
def k0_off44 (k0_t3 : Fin k0_t3_loop.trips) : Fin 2 → Nat :=
  let c0_228 : Index := 0#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v603 : Index := Scalar.indexCast v595
  ![0, v603.toNat]
def k0_off45 (k0_t3 : Fin k0_t3_loop.trips) : Fin 2 → Nat :=
  let c1 : Index := 1#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v607 : Index := Scalar.indexCast v595
  ![1, v607.toNat]
def k0_off46 (v18 : BitVec 32) (k0_t1 : Fin (k0_t1_loop v18).trips) (k0_t3 : Fin k0_t3_loop.trips) : Fin 3 → Nat :=
  let c0_i32_89 : BitVec 32 := 0#32
  let c1_i32_91 : BitVec 32 := 1#32
  let arg37 : BitVec 32 := Scf.iv c0_i32_89 c1_i32_91 k0_t1
  let c2_i32_101 : BitVec 32 := 2#32
  let v173 : BitVec 32 := Scalar.remsi arg37 c2_i32_101
  let v628 : Index := Scalar.indexCast v173
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v629 : Index := Scalar.indexCast v595
  let c256_238 : Index := 256#32
  ![v628.toNat, v629.toNat, 256]
def k0_off47 (k0_t3 : Fin k0_t3_loop.trips) : Fin 2 → Nat :=
  let c2 : Index := 2#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v632 : Index := Scalar.indexCast v595
  ![2, v632.toNat]
def k0_off48 (k0_t3 : Fin k0_t3_loop.trips) : Fin 2 → Nat :=
  let c3 : Index := 3#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v636 : Index := Scalar.indexCast v595
  ![3, v636.toNat]
def k0_off49 (v18 : BitVec 32) (k0_t1 : Fin (k0_t1_loop v18).trips) (k0_t3 : Fin k0_t3_loop.trips) : Fin 3 → Nat :=
  let c0_i32_89 : BitVec 32 := 0#32
  let c1_i32_91 : BitVec 32 := 1#32
  let arg37 : BitVec 32 := Scf.iv c0_i32_89 c1_i32_91 k0_t1
  let c2_i32_101 : BitVec 32 := 2#32
  let v173 : BitVec 32 := Scalar.remsi arg37 c2_i32_101
  let v657 : Index := Scalar.indexCast v173
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v658 : Index := Scalar.indexCast v595
  let c512_248 : Index := 512#32
  ![v657.toNat, v658.toNat, 512]
def k0_off50 (k0_t3 : Fin k0_t3_loop.trips) : Fin 2 → Nat :=
  let c4 : Index := 4#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v661 : Index := Scalar.indexCast v595
  ![4, v661.toNat]
def k0_off51 (k0_t3 : Fin k0_t3_loop.trips) : Fin 2 → Nat :=
  let c5 : Index := 5#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v665 : Index := Scalar.indexCast v595
  ![5, v665.toNat]
def k0_off52 (v18 : BitVec 32) (k0_t1 : Fin (k0_t1_loop v18).trips) (k0_t3 : Fin k0_t3_loop.trips) : Fin 3 → Nat :=
  let c0_i32_89 : BitVec 32 := 0#32
  let c1_i32_91 : BitVec 32 := 1#32
  let arg37 : BitVec 32 := Scf.iv c0_i32_89 c1_i32_91 k0_t1
  let c2_i32_101 : BitVec 32 := 2#32
  let v173 : BitVec 32 := Scalar.remsi arg37 c2_i32_101
  let v686 : Index := Scalar.indexCast v173
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v687 : Index := Scalar.indexCast v595
  let c768_258 : Index := 768#32
  ![v686.toNat, v687.toNat, 768]
def k0_off53 (k0_t3 : Fin k0_t3_loop.trips) : Fin 2 → Nat :=
  let c6 : Index := 6#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v690 : Index := Scalar.indexCast v595
  ![6, v690.toNat]
def k0_off54 (k0_t3 : Fin k0_t3_loop.trips) : Fin 2 → Nat :=
  let c7 : Index := 7#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v694 : Index := Scalar.indexCast v595
  ![7, v694.toNat]
def k0_off55 (v18 : BitVec 32) (k0_t1 : Fin (k0_t1_loop v18).trips) (k0_t3 : Fin k0_t3_loop.trips) : Fin 3 → Nat :=
  let c0_i32_89 : BitVec 32 := 0#32
  let c1_i32_91 : BitVec 32 := 1#32
  let arg37 : BitVec 32 := Scf.iv c0_i32_89 c1_i32_91 k0_t1
  let c2_i32_101 : BitVec 32 := 2#32
  let v173 : BitVec 32 := Scalar.remsi arg37 c2_i32_101
  let v715 : Index := Scalar.indexCast v173
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v716 : Index := Scalar.indexCast v595
  let c1024_268 : Index := 1024#32
  ![v715.toNat, v716.toNat, 1024]
def k0_off56 (k0_t3 : Fin k0_t3_loop.trips) : Fin 2 → Nat :=
  let c8 : Index := 8#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v719 : Index := Scalar.indexCast v595
  ![8, v719.toNat]
def k0_off57 (k0_t3 : Fin k0_t3_loop.trips) : Fin 2 → Nat :=
  let c9 : Index := 9#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v723 : Index := Scalar.indexCast v595
  ![9, v723.toNat]
def k0_off58 (v18 : BitVec 32) (k0_t1 : Fin (k0_t1_loop v18).trips) (k0_t3 : Fin k0_t3_loop.trips) : Fin 3 → Nat :=
  let c0_i32_89 : BitVec 32 := 0#32
  let c1_i32_91 : BitVec 32 := 1#32
  let arg37 : BitVec 32 := Scf.iv c0_i32_89 c1_i32_91 k0_t1
  let c2_i32_101 : BitVec 32 := 2#32
  let v173 : BitVec 32 := Scalar.remsi arg37 c2_i32_101
  let v744 : Index := Scalar.indexCast v173
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v745 : Index := Scalar.indexCast v595
  let c1280_278 : Index := 1280#32
  ![v744.toNat, v745.toNat, 1280]
def k0_off59 (k0_t3 : Fin k0_t3_loop.trips) : Fin 2 → Nat :=
  let c10 : Index := 10#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v748 : Index := Scalar.indexCast v595
  ![10, v748.toNat]
def k0_off60 (k0_t3 : Fin k0_t3_loop.trips) : Fin 2 → Nat :=
  let c11 : Index := 11#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v752 : Index := Scalar.indexCast v595
  ![11, v752.toNat]
def k0_off61 (v18 : BitVec 32) (k0_t1 : Fin (k0_t1_loop v18).trips) (k0_t3 : Fin k0_t3_loop.trips) : Fin 3 → Nat :=
  let c0_i32_89 : BitVec 32 := 0#32
  let c1_i32_91 : BitVec 32 := 1#32
  let arg37 : BitVec 32 := Scf.iv c0_i32_89 c1_i32_91 k0_t1
  let c2_i32_101 : BitVec 32 := 2#32
  let v173 : BitVec 32 := Scalar.remsi arg37 c2_i32_101
  let v773 : Index := Scalar.indexCast v173
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v774 : Index := Scalar.indexCast v595
  let c1536_288 : Index := 1536#32
  ![v773.toNat, v774.toNat, 1536]
def k0_off62 (k0_t3 : Fin k0_t3_loop.trips) : Fin 2 → Nat :=
  let c12 : Index := 12#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v777 : Index := Scalar.indexCast v595
  ![12, v777.toNat]
def k0_off63 (k0_t3 : Fin k0_t3_loop.trips) : Fin 2 → Nat :=
  let c13 : Index := 13#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v781 : Index := Scalar.indexCast v595
  ![13, v781.toNat]
def k0_off64 (v18 : BitVec 32) (k0_t1 : Fin (k0_t1_loop v18).trips) (k0_t3 : Fin k0_t3_loop.trips) : Fin 3 → Nat :=
  let c0_i32_89 : BitVec 32 := 0#32
  let c1_i32_91 : BitVec 32 := 1#32
  let arg37 : BitVec 32 := Scf.iv c0_i32_89 c1_i32_91 k0_t1
  let c2_i32_101 : BitVec 32 := 2#32
  let v173 : BitVec 32 := Scalar.remsi arg37 c2_i32_101
  let v802 : Index := Scalar.indexCast v173
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v803 : Index := Scalar.indexCast v595
  let c1792_298 : Index := 1792#32
  ![v802.toNat, v803.toNat, 1792]
def k0_off65 (k0_t3 : Fin k0_t3_loop.trips) : Fin 2 → Nat :=
  let c14 : Index := 14#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v806 : Index := Scalar.indexCast v595
  ![14, v806.toNat]
def k0_off66 (k0_t3 : Fin k0_t3_loop.trips) : Fin 2 → Nat :=
  let c15 : Index := 15#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v810 : Index := Scalar.indexCast v595
  ![15, v810.toNat]
def k0_off67 (v18 : BitVec 32) (k0_t1 : Fin (k0_t1_loop v18).trips) (k0_t3 : Fin k0_t3_loop.trips) : Fin 3 → Nat :=
  let c0_i32_89 : BitVec 32 := 0#32
  let c1_i32_91 : BitVec 32 := 1#32
  let arg37 : BitVec 32 := Scf.iv c0_i32_89 c1_i32_91 k0_t1
  let c2_i32_101 : BitVec 32 := 2#32
  let v173 : BitVec 32 := Scalar.remsi arg37 c2_i32_101
  let v831 : Index := Scalar.indexCast v173
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v832 : Index := Scalar.indexCast v595
  let c2048_308 : Index := 2048#32
  ![v831.toNat, v832.toNat, 2048]
def k0_off68 (k0_t3 : Fin k0_t3_loop.trips) : Fin 2 → Nat :=
  let c16 : Index := 16#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v835 : Index := Scalar.indexCast v595
  ![16, v835.toNat]
def k0_off69 (k0_t3 : Fin k0_t3_loop.trips) : Fin 2 → Nat :=
  let c17 : Index := 17#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v839 : Index := Scalar.indexCast v595
  ![17, v839.toNat]
def k0_off70 (v18 : BitVec 32) (k0_t1 : Fin (k0_t1_loop v18).trips) (k0_t3 : Fin k0_t3_loop.trips) : Fin 3 → Nat :=
  let c0_i32_89 : BitVec 32 := 0#32
  let c1_i32_91 : BitVec 32 := 1#32
  let arg37 : BitVec 32 := Scf.iv c0_i32_89 c1_i32_91 k0_t1
  let c2_i32_101 : BitVec 32 := 2#32
  let v173 : BitVec 32 := Scalar.remsi arg37 c2_i32_101
  let v860 : Index := Scalar.indexCast v173
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v861 : Index := Scalar.indexCast v595
  let c2304_318 : Index := 2304#32
  ![v860.toNat, v861.toNat, 2304]
def k0_off71 (k0_t3 : Fin k0_t3_loop.trips) : Fin 2 → Nat :=
  let c18 : Index := 18#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v864 : Index := Scalar.indexCast v595
  ![18, v864.toNat]
def k0_off72 (k0_t3 : Fin k0_t3_loop.trips) : Fin 2 → Nat :=
  let c19 : Index := 19#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v868 : Index := Scalar.indexCast v595
  ![19, v868.toNat]
def k0_off73 (v18 : BitVec 32) (k0_t1 : Fin (k0_t1_loop v18).trips) (k0_t3 : Fin k0_t3_loop.trips) : Fin 3 → Nat :=
  let c0_i32_89 : BitVec 32 := 0#32
  let c1_i32_91 : BitVec 32 := 1#32
  let arg37 : BitVec 32 := Scf.iv c0_i32_89 c1_i32_91 k0_t1
  let c2_i32_101 : BitVec 32 := 2#32
  let v173 : BitVec 32 := Scalar.remsi arg37 c2_i32_101
  let v889 : Index := Scalar.indexCast v173
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v890 : Index := Scalar.indexCast v595
  let c2560_328 : Index := 2560#32
  ![v889.toNat, v890.toNat, 2560]
def k0_off74 (k0_t3 : Fin k0_t3_loop.trips) : Fin 2 → Nat :=
  let c20 : Index := 20#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v893 : Index := Scalar.indexCast v595
  ![20, v893.toNat]
def k0_off75 (k0_t3 : Fin k0_t3_loop.trips) : Fin 2 → Nat :=
  let c21 : Index := 21#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v897 : Index := Scalar.indexCast v595
  ![21, v897.toNat]
def k0_off76 (v18 : BitVec 32) (k0_t1 : Fin (k0_t1_loop v18).trips) (k0_t3 : Fin k0_t3_loop.trips) : Fin 3 → Nat :=
  let c0_i32_89 : BitVec 32 := 0#32
  let c1_i32_91 : BitVec 32 := 1#32
  let arg37 : BitVec 32 := Scf.iv c0_i32_89 c1_i32_91 k0_t1
  let c2_i32_101 : BitVec 32 := 2#32
  let v173 : BitVec 32 := Scalar.remsi arg37 c2_i32_101
  let v918 : Index := Scalar.indexCast v173
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v919 : Index := Scalar.indexCast v595
  let c2816_338 : Index := 2816#32
  ![v918.toNat, v919.toNat, 2816]
def k0_off77 (k0_t3 : Fin k0_t3_loop.trips) : Fin 2 → Nat :=
  let c22 : Index := 22#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v922 : Index := Scalar.indexCast v595
  ![22, v922.toNat]
def k0_off78 (k0_t3 : Fin k0_t3_loop.trips) : Fin 2 → Nat :=
  let c23 : Index := 23#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v926 : Index := Scalar.indexCast v595
  ![23, v926.toNat]
def k0_off79 (v18 : BitVec 32) (k0_t1 : Fin (k0_t1_loop v18).trips) (k0_t3 : Fin k0_t3_loop.trips) : Fin 3 → Nat :=
  let c0_i32_89 : BitVec 32 := 0#32
  let c1_i32_91 : BitVec 32 := 1#32
  let arg37 : BitVec 32 := Scf.iv c0_i32_89 c1_i32_91 k0_t1
  let c2_i32_101 : BitVec 32 := 2#32
  let v173 : BitVec 32 := Scalar.remsi arg37 c2_i32_101
  let v947 : Index := Scalar.indexCast v173
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v948 : Index := Scalar.indexCast v595
  let c3072_348 : Index := 3072#32
  ![v947.toNat, v948.toNat, 3072]
def k0_off80 (k0_t3 : Fin k0_t3_loop.trips) : Fin 2 → Nat :=
  let c24 : Index := 24#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v951 : Index := Scalar.indexCast v595
  ![24, v951.toNat]
def k0_off81 (k0_t3 : Fin k0_t3_loop.trips) : Fin 2 → Nat :=
  let c25 : Index := 25#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v955 : Index := Scalar.indexCast v595
  ![25, v955.toNat]
def k0_off82 (v18 : BitVec 32) (k0_t1 : Fin (k0_t1_loop v18).trips) (k0_t3 : Fin k0_t3_loop.trips) : Fin 3 → Nat :=
  let c0_i32_89 : BitVec 32 := 0#32
  let c1_i32_91 : BitVec 32 := 1#32
  let arg37 : BitVec 32 := Scf.iv c0_i32_89 c1_i32_91 k0_t1
  let c2_i32_101 : BitVec 32 := 2#32
  let v173 : BitVec 32 := Scalar.remsi arg37 c2_i32_101
  let v976 : Index := Scalar.indexCast v173
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v977 : Index := Scalar.indexCast v595
  let c3328_358 : Index := 3328#32
  ![v976.toNat, v977.toNat, 3328]
def k0_off83 (k0_t3 : Fin k0_t3_loop.trips) : Fin 2 → Nat :=
  let c26 : Index := 26#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v980 : Index := Scalar.indexCast v595
  ![26, v980.toNat]
def k0_off84 (k0_t3 : Fin k0_t3_loop.trips) : Fin 2 → Nat :=
  let c27 : Index := 27#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v984 : Index := Scalar.indexCast v595
  ![27, v984.toNat]
def k0_off85 (v18 : BitVec 32) (k0_t1 : Fin (k0_t1_loop v18).trips) (k0_t3 : Fin k0_t3_loop.trips) : Fin 3 → Nat :=
  let c0_i32_89 : BitVec 32 := 0#32
  let c1_i32_91 : BitVec 32 := 1#32
  let arg37 : BitVec 32 := Scf.iv c0_i32_89 c1_i32_91 k0_t1
  let c2_i32_101 : BitVec 32 := 2#32
  let v173 : BitVec 32 := Scalar.remsi arg37 c2_i32_101
  let v1005 : Index := Scalar.indexCast v173
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v1006 : Index := Scalar.indexCast v595
  let c3584_368 : Index := 3584#32
  ![v1005.toNat, v1006.toNat, 3584]
def k0_off86 (k0_t3 : Fin k0_t3_loop.trips) : Fin 2 → Nat :=
  let c28 : Index := 28#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v1009 : Index := Scalar.indexCast v595
  ![28, v1009.toNat]
def k0_off87 (k0_t3 : Fin k0_t3_loop.trips) : Fin 2 → Nat :=
  let c29 : Index := 29#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v1013 : Index := Scalar.indexCast v595
  ![29, v1013.toNat]
def k0_off88 (v18 : BitVec 32) (k0_t1 : Fin (k0_t1_loop v18).trips) (k0_t3 : Fin k0_t3_loop.trips) : Fin 3 → Nat :=
  let c0_i32_89 : BitVec 32 := 0#32
  let c1_i32_91 : BitVec 32 := 1#32
  let arg37 : BitVec 32 := Scf.iv c0_i32_89 c1_i32_91 k0_t1
  let c2_i32_101 : BitVec 32 := 2#32
  let v173 : BitVec 32 := Scalar.remsi arg37 c2_i32_101
  let v1034 : Index := Scalar.indexCast v173
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v1035 : Index := Scalar.indexCast v595
  let c3840_378 : Index := 3840#32
  ![v1034.toNat, v1035.toNat, 3840]
def k0_off89 (k0_t3 : Fin k0_t3_loop.trips) : Fin 2 → Nat :=
  let c30 : Index := 30#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v1038 : Index := Scalar.indexCast v595
  ![30, v1038.toNat]
def k0_off90 (k0_t3 : Fin k0_t3_loop.trips) : Fin 2 → Nat :=
  let c31 : Index := 31#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v1042 : Index := Scalar.indexCast v595
  ![31, v1042.toNat]
def k0_off91 (v18 : BitVec 32) (k0_t1 : Fin (k0_t1_loop v18).trips) (k0_t3 : Fin k0_t3_loop.trips) : Fin 3 → Nat :=
  let c0_i32_89 : BitVec 32 := 0#32
  let c1_i32_91 : BitVec 32 := 1#32
  let arg37 : BitVec 32 := Scf.iv c0_i32_89 c1_i32_91 k0_t1
  let c2_i32_101 : BitVec 32 := 2#32
  let v173 : BitVec 32 := Scalar.remsi arg37 c2_i32_101
  let v1063 : Index := Scalar.indexCast v173
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v1064 : Index := Scalar.indexCast v595
  let c4096_388 : Index := 4096#32
  ![v1063.toNat, v1064.toNat, 4096]
def k0_off92 (k0_t3 : Fin k0_t3_loop.trips) : Fin 2 → Nat :=
  let c32 : Index := 32#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v1067 : Index := Scalar.indexCast v595
  ![32, v1067.toNat]
def k0_off93 (k0_t3 : Fin k0_t3_loop.trips) : Fin 2 → Nat :=
  let c33 : Index := 33#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v1071 : Index := Scalar.indexCast v595
  ![33, v1071.toNat]
def k0_off94 (v18 : BitVec 32) (k0_t1 : Fin (k0_t1_loop v18).trips) (k0_t3 : Fin k0_t3_loop.trips) : Fin 3 → Nat :=
  let c0_i32_89 : BitVec 32 := 0#32
  let c1_i32_91 : BitVec 32 := 1#32
  let arg37 : BitVec 32 := Scf.iv c0_i32_89 c1_i32_91 k0_t1
  let c2_i32_101 : BitVec 32 := 2#32
  let v173 : BitVec 32 := Scalar.remsi arg37 c2_i32_101
  let v1092 : Index := Scalar.indexCast v173
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v1093 : Index := Scalar.indexCast v595
  let c4352_398 : Index := 4352#32
  ![v1092.toNat, v1093.toNat, 4352]
def k0_off95 (k0_t3 : Fin k0_t3_loop.trips) : Fin 2 → Nat :=
  let c34 : Index := 34#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v1096 : Index := Scalar.indexCast v595
  ![34, v1096.toNat]
def k0_off96 (k0_t3 : Fin k0_t3_loop.trips) : Fin 2 → Nat :=
  let c35 : Index := 35#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v1100 : Index := Scalar.indexCast v595
  ![35, v1100.toNat]
def k0_off97 (v18 : BitVec 32) (k0_t1 : Fin (k0_t1_loop v18).trips) (k0_t3 : Fin k0_t3_loop.trips) : Fin 3 → Nat :=
  let c0_i32_89 : BitVec 32 := 0#32
  let c1_i32_91 : BitVec 32 := 1#32
  let arg37 : BitVec 32 := Scf.iv c0_i32_89 c1_i32_91 k0_t1
  let c2_i32_101 : BitVec 32 := 2#32
  let v173 : BitVec 32 := Scalar.remsi arg37 c2_i32_101
  let v1121 : Index := Scalar.indexCast v173
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v1122 : Index := Scalar.indexCast v595
  let c4608_408 : Index := 4608#32
  ![v1121.toNat, v1122.toNat, 4608]
def k0_off98 (k0_t3 : Fin k0_t3_loop.trips) : Fin 2 → Nat :=
  let c36 : Index := 36#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v1125 : Index := Scalar.indexCast v595
  ![36, v1125.toNat]
def k0_off99 (k0_t3 : Fin k0_t3_loop.trips) : Fin 2 → Nat :=
  let c37 : Index := 37#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v1129 : Index := Scalar.indexCast v595
  ![37, v1129.toNat]
def k0_off100 (v18 : BitVec 32) (k0_t1 : Fin (k0_t1_loop v18).trips) (k0_t3 : Fin k0_t3_loop.trips) : Fin 3 → Nat :=
  let c0_i32_89 : BitVec 32 := 0#32
  let c1_i32_91 : BitVec 32 := 1#32
  let arg37 : BitVec 32 := Scf.iv c0_i32_89 c1_i32_91 k0_t1
  let c2_i32_101 : BitVec 32 := 2#32
  let v173 : BitVec 32 := Scalar.remsi arg37 c2_i32_101
  let v1150 : Index := Scalar.indexCast v173
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v1151 : Index := Scalar.indexCast v595
  let c4864_418 : Index := 4864#32
  ![v1150.toNat, v1151.toNat, 4864]
def k0_off101 (k0_t3 : Fin k0_t3_loop.trips) : Fin 2 → Nat :=
  let c38 : Index := 38#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v1154 : Index := Scalar.indexCast v595
  ![38, v1154.toNat]
def k0_off102 (k0_t3 : Fin k0_t3_loop.trips) : Fin 2 → Nat :=
  let c39 : Index := 39#32
  let c0_i32_215 : BitVec 32 := 0#32
  let c1_i32_217 : BitVec 32 := 1#32
  let arg38 : BitVec 32 := Scf.iv c0_i32_215 c1_i32_217 k0_t3
  let c512_i32_223 : BitVec 32 := 512#32
  let v594 : BitVec 32 := Scalar.muli arg38 c512_i32_223
  let v595 : BitVec 32 := v594
  let v1158 : Index := Scalar.indexCast v595
  ![39, v1158.toNat]
@[reducible] def k0_t4_loop (v18 : BitVec 32) : Scf.Loop 32 :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let v154 : BitVec 32 := Scalar.addi c0_i32_89 v153
  let c1_i32_92 : BitVec 32 := 1#32
  ⟨v157, v154, c1_i32_92⟩
def k0_off103 (v18 : BitVec 32) (k0_t4 : Fin (k0_t4_loop v18).trips) : Fin 1 → Nat :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let v171 : Index := Scalar.indexCast arg37
  ![v171.toNat]
def k0_off104 (v18 : BitVec 32) (k0_t4 : Fin (k0_t4_loop v18).trips) : Fin 1 → Nat :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c1_i32_102 : BitVec 32 := 1#32
  let v174 : BitVec 32 := Scalar.addi arg37 c1_i32_102
  let c15_i32 : BitVec 32 := 15#32
  let v175 : BitVec 32 := Scalar.minsi v174 c15_i32
  let v176 : Index := Scalar.indexCast v175
  ![v176.toNat]
def k0_off105 (v172 : BitVec 32) : Fin 3 → Nat :=
  let c0_104 : Index := 0#32
  let v180 : Index := Scalar.indexCast v172
  let c0_105 : Index := 0#32
  ![0, v180.toNat, 0]

@[reducible] def k0_t5_loop : Scf.Loop 32 :=
  let c0_i32_181 : BitVec 32 := 0#32
  let c4_i32_182 : BitVec 32 := 4#32
  let v507 : BitVec 32 := Scalar.addi c0_i32_181 c4_i32_182
  let c1_i32_183 : BitVec 32 := 1#32
  ⟨c0_i32_181, v507, c1_i32_183⟩
def k0_off106 (v18 : BitVec 32) (k0_t4 : Fin (k0_t4_loop v18).trips) (k0_t5 : Fin k0_t5_loop.trips) : Fin 2 → Nat :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c1_i32_102 : BitVec 32 := 1#32
  let v174 : BitVec 32 := Scalar.addi arg37 c1_i32_102
  let c2_i32_103 : BitVec 32 := 2#32
  let v178 : BitVec 32 := Scalar.remsi v174 c2_i32_103
  let c0_i32_181 : BitVec 32 := 0#32
  let c1_i32_183 : BitVec 32 := 1#32
  let arg38 : BitVec 32 := Scf.iv c0_i32_181 c1_i32_183 k0_t5
  ![v178.toNat, arg38.toNat]
def k0_cond3 (v18 : BitVec 32) (k0_t4 : Fin (k0_t4_loop v18).trips) : BitVec 1 :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c1_i32_102 : BitVec 32 := 1#32
  let v174 : BitVec 32 := Scalar.addi arg37 c1_i32_102
  let v179 : BitVec 1 := Scalar.cmpi .slt v174 v18
  let v585 : BitVec 32 := Scalar.extui v179
  let c0_i32_219 : BitVec 32 := 0#32
  let v586 : BitVec 1 := Scalar.cmpi .ne v585 c0_i32_219
  v586

def k0_off107 (v18 : BitVec 32) (k0_t4 : Fin (k0_t4_loop v18).trips) (k0_t5 : Fin k0_t5_loop.trips) : Fin 3 → Nat :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c1_i32_102 : BitVec 32 := 1#32
  let v174 : BitVec 32 := Scalar.addi arg37 c1_i32_102
  let c2_i32_103 : BitVec 32 := 2#32
  let v178 : BitVec 32 := Scalar.remsi v174 c2_i32_103
  let c0_i32_181 : BitVec 32 := 0#32
  let c1_i32_183 : BitVec 32 := 1#32
  let arg38 : BitVec 32 := Scf.iv c0_i32_181 c1_i32_183 k0_t5
  let c1280_i32_286 : BitVec 32 := 1280#32
  let v760 : BitVec 32 := Scalar.muli arg38 c1280_i32_286
  let c0_i32_287 : BitVec 32 := 0#32
  ![v178.toNat, v760.toNat, 0]
def k0_off108 (v177 : BitVec 32) (k0_t5 : Fin k0_t5_loop.trips) : Fin 3 → Nat :=
  let c0_i32_181 : BitVec 32 := 0#32
  let c1_i32_183 : BitVec 32 := 1#32
  let arg38 : BitVec 32 := Scf.iv c0_i32_181 c1_i32_183 k0_t5
  let c1280_i32_286 : BitVec 32 := 1280#32
  let v760 : BitVec 32 := Scalar.muli arg38 c1280_i32_286
  let c0_i32_288 : BitVec 32 := 0#32
  ![v177.toNat, v760.toNat, 0]

def k0_off109 (v18 : BitVec 32) (k0_t4 : Fin (k0_t4_loop v18).trips) (k0_t5 : Fin k0_t5_loop.trips) : Fin 2 → Nat :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c2_i32_101 : BitVec 32 := 2#32
  let v173 : BitVec 32 := Scalar.remsi arg37 c2_i32_101
  let c0_i32_181 : BitVec 32 := 0#32
  let c1_i32_183 : BitVec 32 := 1#32
  let arg38 : BitVec 32 := Scf.iv c0_i32_181 c1_i32_183 k0_t5
  ![v173.toNat, arg38.toNat]
def k0_off110 (v18 : BitVec 32) (k0_t4 : Fin (k0_t4_loop v18).trips) (k0_t5 : Fin k0_t5_loop.trips) : Fin 3 → Nat :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c2_i32_101 : BitVec 32 := 2#32
  let v173 : BitVec 32 := Scalar.remsi arg37 c2_i32_101
  let c0_i32_181 : BitVec 32 := 0#32
  let c1_i32_183 : BitVec 32 := 1#32
  let arg38 : BitVec 32 := Scf.iv c0_i32_181 c1_i32_183 k0_t5
  let c1280_i32_220 : BitVec 32 := 1280#32
  let v587 : BitVec 32 := Scalar.muli arg38 c1280_i32_220
  let c0_i32_221 : BitVec 32 := 0#32
  ![v173.toNat, v587.toNat, 0]
def k0_off111 (v172 : BitVec 32) (k0_t5 : Fin k0_t5_loop.trips) : Fin 3 → Nat :=
  let c0_i32_181 : BitVec 32 := 0#32
  let c1_i32_183 : BitVec 32 := 1#32
  let arg38 : BitVec 32 := Scf.iv c0_i32_181 c1_i32_183 k0_t5
  let c1280_i32_220 : BitVec 32 := 1280#32
  let v587 : BitVec 32 := Scalar.muli arg38 c1280_i32_220
  let c0_i32_222 : BitVec 32 := 0#32
  ![v172.toNat, v587.toNat, 0]
def k0_mult3 (k0_t5 : Fin k0_t5_loop.trips) : BitVec 32 :=
  let c0_i32_181 : BitVec 32 := 0#32
  let c1_i32_183 : BitVec 32 := 1#32
  let arg38 : BitVec 32 := Scf.iv c0_i32_181 c1_i32_183 k0_t5
  let c1280_i32_223 : BitVec 32 := 1280#32
  let v594 : BitVec 32 := Scalar.muli arg38 c1280_i32_223
  v594
def k0_off112 (k0_t5 : Fin k0_t5_loop.trips) : Fin 2 → Nat :=
  let c0_224 : Index := 0#32
  let c0_i32_181 : BitVec 32 := 0#32
  let c1_i32_183 : BitVec 32 := 1#32
  let arg38 : BitVec 32 := Scf.iv c0_i32_181 c1_i32_183 k0_t5
  let c1280_i32_223 : BitVec 32 := 1280#32
  let v594 : BitVec 32 := Scalar.muli arg38 c1280_i32_223
  let v595 : BitVec 32 := v594
  let v596 : Index := Scalar.indexCast v595
  ![0, v596.toNat]
def k0_off113 (v18 : BitVec 32) (k0_t4 : Fin (k0_t4_loop v18).trips) (k0_t5 : Fin k0_t5_loop.trips) : Fin 3 → Nat :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c2_i32_101 : BitVec 32 := 2#32
  let v173 : BitVec 32 := Scalar.remsi arg37 c2_i32_101
  let v598 : Index := Scalar.indexCast v173
  let c0_i32_181 : BitVec 32 := 0#32
  let c1_i32_183 : BitVec 32 := 1#32
  let arg38 : BitVec 32 := Scf.iv c0_i32_181 c1_i32_183 k0_t5
  let c1280_i32_223 : BitVec 32 := 1280#32
  let v594 : BitVec 32 := Scalar.muli arg38 c1280_i32_223
  let v595 : BitVec 32 := v594
  let v599 : Index := Scalar.indexCast v595
  let c0_225 : Index := 0#32
  ![v598.toNat, v599.toNat, 0]
def k0_off114 (k0_t5 : Fin k0_t5_loop.trips) : Fin 2 → Nat :=
  let c0_226 : Index := 0#32
  let c0_i32_181 : BitVec 32 := 0#32
  let c1_i32_183 : BitVec 32 := 1#32
  let arg38 : BitVec 32 := Scf.iv c0_i32_181 c1_i32_183 k0_t5
  let c1280_i32_223 : BitVec 32 := 1280#32
  let v594 : BitVec 32 := Scalar.muli arg38 c1280_i32_223
  let v595 : BitVec 32 := v594
  let v602 : Index := Scalar.indexCast v595
  ![0, v602.toNat]
def k0_off115 (k0_t5 : Fin k0_t5_loop.trips) : Fin 2 → Nat :=
  let c1 : Index := 1#32
  let c0_i32_181 : BitVec 32 := 0#32
  let c1_i32_183 : BitVec 32 := 1#32
  let arg38 : BitVec 32 := Scf.iv c0_i32_181 c1_i32_183 k0_t5
  let c1280_i32_223 : BitVec 32 := 1280#32
  let v594 : BitVec 32 := Scalar.muli arg38 c1280_i32_223
  let v595 : BitVec 32 := v594
  let v606 : Index := Scalar.indexCast v595
  ![1, v606.toNat]
def k0_off116 (v18 : BitVec 32) (k0_t4 : Fin (k0_t4_loop v18).trips) (k0_t5 : Fin k0_t5_loop.trips) : Fin 3 → Nat :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c2_i32_101 : BitVec 32 := 2#32
  let v173 : BitVec 32 := Scalar.remsi arg37 c2_i32_101
  let v625 : Index := Scalar.indexCast v173
  let c0_i32_181 : BitVec 32 := 0#32
  let c1_i32_183 : BitVec 32 := 1#32
  let arg38 : BitVec 32 := Scf.iv c0_i32_181 c1_i32_183 k0_t5
  let c1280_i32_223 : BitVec 32 := 1280#32
  let v594 : BitVec 32 := Scalar.muli arg38 c1280_i32_223
  let v595 : BitVec 32 := v594
  let v626 : Index := Scalar.indexCast v595
  let c256_236 : Index := 256#32
  ![v625.toNat, v626.toNat, 256]
def k0_off117 (k0_t5 : Fin k0_t5_loop.trips) : Fin 2 → Nat :=
  let c2 : Index := 2#32
  let c0_i32_181 : BitVec 32 := 0#32
  let c1_i32_183 : BitVec 32 := 1#32
  let arg38 : BitVec 32 := Scf.iv c0_i32_181 c1_i32_183 k0_t5
  let c1280_i32_223 : BitVec 32 := 1280#32
  let v594 : BitVec 32 := Scalar.muli arg38 c1280_i32_223
  let v595 : BitVec 32 := v594
  let v629 : Index := Scalar.indexCast v595
  ![2, v629.toNat]
def k0_off118 (k0_t5 : Fin k0_t5_loop.trips) : Fin 2 → Nat :=
  let c3 : Index := 3#32
  let c0_i32_181 : BitVec 32 := 0#32
  let c1_i32_183 : BitVec 32 := 1#32
  let arg38 : BitVec 32 := Scf.iv c0_i32_181 c1_i32_183 k0_t5
  let c1280_i32_223 : BitVec 32 := 1280#32
  let v594 : BitVec 32 := Scalar.muli arg38 c1280_i32_223
  let v595 : BitVec 32 := v594
  let v633 : Index := Scalar.indexCast v595
  ![3, v633.toNat]
def k0_off119 (v18 : BitVec 32) (k0_t4 : Fin (k0_t4_loop v18).trips) (k0_t5 : Fin k0_t5_loop.trips) : Fin 3 → Nat :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c2_i32_101 : BitVec 32 := 2#32
  let v173 : BitVec 32 := Scalar.remsi arg37 c2_i32_101
  let v652 : Index := Scalar.indexCast v173
  let c0_i32_181 : BitVec 32 := 0#32
  let c1_i32_183 : BitVec 32 := 1#32
  let arg38 : BitVec 32 := Scf.iv c0_i32_181 c1_i32_183 k0_t5
  let c1280_i32_223 : BitVec 32 := 1280#32
  let v594 : BitVec 32 := Scalar.muli arg38 c1280_i32_223
  let v595 : BitVec 32 := v594
  let v653 : Index := Scalar.indexCast v595
  let c512_246 : Index := 512#32
  ![v652.toNat, v653.toNat, 512]
def k0_off120 (k0_t5 : Fin k0_t5_loop.trips) : Fin 2 → Nat :=
  let c4 : Index := 4#32
  let c0_i32_181 : BitVec 32 := 0#32
  let c1_i32_183 : BitVec 32 := 1#32
  let arg38 : BitVec 32 := Scf.iv c0_i32_181 c1_i32_183 k0_t5
  let c1280_i32_223 : BitVec 32 := 1280#32
  let v594 : BitVec 32 := Scalar.muli arg38 c1280_i32_223
  let v595 : BitVec 32 := v594
  let v656 : Index := Scalar.indexCast v595
  ![4, v656.toNat]
def k0_off121 (k0_t5 : Fin k0_t5_loop.trips) : Fin 2 → Nat :=
  let c5 : Index := 5#32
  let c0_i32_181 : BitVec 32 := 0#32
  let c1_i32_183 : BitVec 32 := 1#32
  let arg38 : BitVec 32 := Scf.iv c0_i32_181 c1_i32_183 k0_t5
  let c1280_i32_223 : BitVec 32 := 1280#32
  let v594 : BitVec 32 := Scalar.muli arg38 c1280_i32_223
  let v595 : BitVec 32 := v594
  let v660 : Index := Scalar.indexCast v595
  ![5, v660.toNat]
def k0_off122 (v18 : BitVec 32) (k0_t4 : Fin (k0_t4_loop v18).trips) (k0_t5 : Fin k0_t5_loop.trips) : Fin 3 → Nat :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c2_i32_101 : BitVec 32 := 2#32
  let v173 : BitVec 32 := Scalar.remsi arg37 c2_i32_101
  let v679 : Index := Scalar.indexCast v173
  let c0_i32_181 : BitVec 32 := 0#32
  let c1_i32_183 : BitVec 32 := 1#32
  let arg38 : BitVec 32 := Scf.iv c0_i32_181 c1_i32_183 k0_t5
  let c1280_i32_223 : BitVec 32 := 1280#32
  let v594 : BitVec 32 := Scalar.muli arg38 c1280_i32_223
  let v595 : BitVec 32 := v594
  let v680 : Index := Scalar.indexCast v595
  let c768_256 : Index := 768#32
  ![v679.toNat, v680.toNat, 768]
def k0_off123 (k0_t5 : Fin k0_t5_loop.trips) : Fin 2 → Nat :=
  let c6 : Index := 6#32
  let c0_i32_181 : BitVec 32 := 0#32
  let c1_i32_183 : BitVec 32 := 1#32
  let arg38 : BitVec 32 := Scf.iv c0_i32_181 c1_i32_183 k0_t5
  let c1280_i32_223 : BitVec 32 := 1280#32
  let v594 : BitVec 32 := Scalar.muli arg38 c1280_i32_223
  let v595 : BitVec 32 := v594
  let v683 : Index := Scalar.indexCast v595
  ![6, v683.toNat]
def k0_off124 (k0_t5 : Fin k0_t5_loop.trips) : Fin 2 → Nat :=
  let c7 : Index := 7#32
  let c0_i32_181 : BitVec 32 := 0#32
  let c1_i32_183 : BitVec 32 := 1#32
  let arg38 : BitVec 32 := Scf.iv c0_i32_181 c1_i32_183 k0_t5
  let c1280_i32_223 : BitVec 32 := 1280#32
  let v594 : BitVec 32 := Scalar.muli arg38 c1280_i32_223
  let v595 : BitVec 32 := v594
  let v687 : Index := Scalar.indexCast v595
  ![7, v687.toNat]
def k0_off125 (v18 : BitVec 32) (k0_t4 : Fin (k0_t4_loop v18).trips) (k0_t5 : Fin k0_t5_loop.trips) : Fin 3 → Nat :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c2_i32_101 : BitVec 32 := 2#32
  let v173 : BitVec 32 := Scalar.remsi arg37 c2_i32_101
  let v706 : Index := Scalar.indexCast v173
  let c0_i32_181 : BitVec 32 := 0#32
  let c1_i32_183 : BitVec 32 := 1#32
  let arg38 : BitVec 32 := Scf.iv c0_i32_181 c1_i32_183 k0_t5
  let c1280_i32_223 : BitVec 32 := 1280#32
  let v594 : BitVec 32 := Scalar.muli arg38 c1280_i32_223
  let v595 : BitVec 32 := v594
  let v707 : Index := Scalar.indexCast v595
  let c1024_266 : Index := 1024#32
  ![v706.toNat, v707.toNat, 1024]
def k0_off126 (k0_t5 : Fin k0_t5_loop.trips) : Fin 2 → Nat :=
  let c8 : Index := 8#32
  let c0_i32_181 : BitVec 32 := 0#32
  let c1_i32_183 : BitVec 32 := 1#32
  let arg38 : BitVec 32 := Scf.iv c0_i32_181 c1_i32_183 k0_t5
  let c1280_i32_223 : BitVec 32 := 1280#32
  let v594 : BitVec 32 := Scalar.muli arg38 c1280_i32_223
  let v595 : BitVec 32 := v594
  let v710 : Index := Scalar.indexCast v595
  ![8, v710.toNat]
def k0_off127 (k0_t5 : Fin k0_t5_loop.trips) : Fin 2 → Nat :=
  let c9 : Index := 9#32
  let c0_i32_181 : BitVec 32 := 0#32
  let c1_i32_183 : BitVec 32 := 1#32
  let arg38 : BitVec 32 := Scf.iv c0_i32_181 c1_i32_183 k0_t5
  let c1280_i32_223 : BitVec 32 := 1280#32
  let v594 : BitVec 32 := Scalar.muli arg38 c1280_i32_223
  let v595 : BitVec 32 := v594
  let v714 : Index := Scalar.indexCast v595
  ![9, v714.toNat]
def k0_off128 (v18 : BitVec 32) (k0_t4 : Fin (k0_t4_loop v18).trips) (k0_t5 : Fin k0_t5_loop.trips) : Fin 3 → Nat :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c2_i32_101 : BitVec 32 := 2#32
  let v173 : BitVec 32 := Scalar.remsi arg37 c2_i32_101
  let v733 : Index := Scalar.indexCast v173
  let c0_i32_181 : BitVec 32 := 0#32
  let c1_i32_183 : BitVec 32 := 1#32
  let arg38 : BitVec 32 := Scf.iv c0_i32_181 c1_i32_183 k0_t5
  let c1280_i32_223 : BitVec 32 := 1280#32
  let v594 : BitVec 32 := Scalar.muli arg38 c1280_i32_223
  let v595 : BitVec 32 := v594
  let v734 : Index := Scalar.indexCast v595
  let c1280_276 : Index := 1280#32
  ![v733.toNat, v734.toNat, 1280]
def k0_off129 (k0_t5 : Fin k0_t5_loop.trips) : Fin 2 → Nat :=
  let c10 : Index := 10#32
  let c0_i32_181 : BitVec 32 := 0#32
  let c1_i32_183 : BitVec 32 := 1#32
  let arg38 : BitVec 32 := Scf.iv c0_i32_181 c1_i32_183 k0_t5
  let c1280_i32_223 : BitVec 32 := 1280#32
  let v594 : BitVec 32 := Scalar.muli arg38 c1280_i32_223
  let v595 : BitVec 32 := v594
  let v737 : Index := Scalar.indexCast v595
  ![10, v737.toNat]
def k0_off130 (k0_t5 : Fin k0_t5_loop.trips) : Fin 2 → Nat :=
  let c11 : Index := 11#32
  let c0_i32_181 : BitVec 32 := 0#32
  let c1_i32_183 : BitVec 32 := 1#32
  let arg38 : BitVec 32 := Scf.iv c0_i32_181 c1_i32_183 k0_t5
  let c1280_i32_223 : BitVec 32 := 1280#32
  let v594 : BitVec 32 := Scalar.muli arg38 c1280_i32_223
  let v595 : BitVec 32 := v594
  let v741 : Index := Scalar.indexCast v595
  ![11, v741.toNat]
@[reducible] def k0_t6_loop : Scf.Loop 32 :=
  let c0_i32_215 : BitVec 32 := 0#32
  let c3_i32_216 : BitVec 32 := 3#32
  let v584 : BitVec 32 := Scalar.addi c0_i32_215 c3_i32_216
  let c1_i32_217 : BitVec 32 := 1#32
  ⟨c0_i32_215, v584, c1_i32_217⟩
def k0_off131 (v18 : BitVec 32) (k0_t4 : Fin (k0_t4_loop v18).trips) (k0_t6 : Fin k0_t6_loop.trips) : Fin 2 → Nat :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c1_i32_102 : BitVec 32 := 1#32
  let v174 : BitVec 32 := Scalar.addi arg37 c1_i32_102
  let c2_i32_103 : BitVec 32 := 2#32
  let v178 : BitVec 32 := Scalar.remsi v174 c2_i32_103
  let c0_i32_215 : BitVec 32 := 0#32
  let c1_i32_217 : BitVec 32 := 1#32
  let arg38 : BitVec 32 := Scf.iv c0_i32_215 c1_i32_217 k0_t6
  ![v178.toNat, arg38.toNat]
def k0_cond4 (v18 : BitVec 32) (k0_t4 : Fin (k0_t4_loop v18).trips) : BitVec 1 :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c1_i32_102 : BitVec 32 := 1#32
  let v174 : BitVec 32 := Scalar.addi arg37 c1_i32_102
  let v179 : BitVec 1 := Scalar.cmpi .slt v174 v18
  let v585 : BitVec 32 := Scalar.extui v179
  let c0_i32_219 : BitVec 32 := 0#32
  let v586 : BitVec 1 := Scalar.cmpi .ne v585 c0_i32_219
  v586

def k0_off132 (v18 : BitVec 32) (k0_t4 : Fin (k0_t4_loop v18).trips) (k0_t6 : Fin k0_t6_loop.trips) : Fin 3 → Nat :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c1_i32_102 : BitVec 32 := 1#32
  let v174 : BitVec 32 := Scalar.addi arg37 c1_i32_102
  let c2_i32_103 : BitVec 32 := 2#32
  let v178 : BitVec 32 := Scalar.remsi v174 c2_i32_103
  let c0_i32_215 : BitVec 32 := 0#32
  let c1_i32_217 : BitVec 32 := 1#32
  let arg38 : BitVec 32 := Scf.iv c0_i32_215 c1_i32_217 k0_t6
  let c512_i32_428 : BitVec 32 := 512#32
  let v1179 : BitVec 32 := Scalar.muli arg38 c512_i32_428
  let c0_i32_429 : BitVec 32 := 0#32
  ![v178.toNat, v1179.toNat, 0]
def k0_off133 (v177 : BitVec 32) (k0_t6 : Fin k0_t6_loop.trips) : Fin 3 → Nat :=
  let c0_i32_215 : BitVec 32 := 0#32
  let c1_i32_217 : BitVec 32 := 1#32
  let arg38 : BitVec 32 := Scf.iv c0_i32_215 c1_i32_217 k0_t6
  let c512_i32_428 : BitVec 32 := 512#32
  let v1179 : BitVec 32 := Scalar.muli arg38 c512_i32_428
  let c0_i32_430 : BitVec 32 := 0#32
  ![v177.toNat, v1179.toNat, 0]

def k0_chk6 (v18 : BitVec 32) (k0_t4 : Fin (k0_t4_loop v18).trips) (v177 : BitVec 32) : Prop :=
  (∀ k0_t5 : Fin k0_t5_loop.trips, ∀ (k0_h3 : k0_cond3 v18 k0_t4 = 1#1), ∀ a, (k0_off108 v177 k0_t5) a + S1x1280x1536.size a ≤ S16x5120x1536.size a) ∧
  (∀ k0_t5 : Fin k0_t5_loop.trips, ∀ (k0_h3 : k0_cond3 v18 k0_t4 = 1#1), ∀ (hinb : ∀ a, (k0_off108 v177 k0_t5) a + S1x1280x1536.size a ≤ S16x5120x1536.size a), (Rect.unit (s := S16x5120x1536) (k0_off108 v177 k0_t5) S1x1280x1536.size hinb).WholeWords (EltTy.packing .fp8e4m3)) ∧
  (∀ k0_t6 : Fin k0_t6_loop.trips, ∀ (k0_h4 : k0_cond4 v18 k0_t4 = 1#1), ∀ a, (k0_off133 v177 k0_t6) a + S1x512x5120.size a ≤ S16x1536x5120.size a) ∧
  (∀ k0_t6 : Fin k0_t6_loop.trips, ∀ (k0_h4 : k0_cond4 v18 k0_t4 = 1#1), ∀ (hinb : ∀ a, (k0_off133 v177 k0_t6) a + S1x512x5120.size a ≤ S16x1536x5120.size a), (Rect.unit (s := S16x1536x5120) (k0_off133 v177 k0_t6) S1x512x5120.size hinb).WholeWords (EltTy.packing .fp8e4m3))
theorem k0_off108_inb : ∀ (v18 : BitVec 32) (k0_t4 : Fin (k0_t4_loop v18).trips) (v177 : BitVec 32) (k0_hw6 : k0_chk6 v18 k0_t4 v177) (k0_t5 : Fin k0_t5_loop.trips), ∀ (k0_h3 : k0_cond3 v18 k0_t4 = 1#1), ∀ a, (k0_off108 v177 k0_t5) a + S1x1280x1536.size a ≤ S16x5120x1536.size a := fun v18 k0_t4 v177 k0_hw6 k0_t5 k0_h3 => k0_hw6.1 k0_t5 k0_h3
theorem k0_off108_wordsfp8e4m3 : ∀ (v18 : BitVec 32) (k0_t4 : Fin (k0_t4_loop v18).trips) (v177 : BitVec 32) (k0_hw6 : k0_chk6 v18 k0_t4 v177) (k0_t5 : Fin k0_t5_loop.trips), ∀ (k0_h3 : k0_cond3 v18 k0_t4 = 1#1), (Rect.unit (s := S16x5120x1536) (k0_off108 v177 k0_t5) S1x1280x1536.size (k0_off108_inb v18 k0_t4 v177 k0_hw6 k0_t5 k0_h3)).WholeWords (EltTy.packing .fp8e4m3) := fun v18 k0_t4 v177 k0_hw6 k0_t5 k0_h3 => k0_hw6.2.1 k0_t5 k0_h3 (k0_off108_inb v18 k0_t4 v177 k0_hw6 k0_t5 k0_h3)
theorem k0_off133_inb : ∀ (v18 : BitVec 32) (k0_t4 : Fin (k0_t4_loop v18).trips) (v177 : BitVec 32) (k0_hw6 : k0_chk6 v18 k0_t4 v177) (k0_t6 : Fin k0_t6_loop.trips), ∀ (k0_h4 : k0_cond4 v18 k0_t4 = 1#1), ∀ a, (k0_off133 v177 k0_t6) a + S1x512x5120.size a ≤ S16x1536x5120.size a := fun v18 k0_t4 v177 k0_hw6 k0_t6 k0_h4 => k0_hw6.2.2.1 k0_t6 k0_h4
theorem k0_off133_wordsfp8e4m3 : ∀ (v18 : BitVec 32) (k0_t4 : Fin (k0_t4_loop v18).trips) (v177 : BitVec 32) (k0_hw6 : k0_chk6 v18 k0_t4 v177) (k0_t6 : Fin k0_t6_loop.trips), ∀ (k0_h4 : k0_cond4 v18 k0_t4 = 1#1), (Rect.unit (s := S16x1536x5120) (k0_off133 v177 k0_t6) S1x512x5120.size (k0_off133_inb v18 k0_t4 v177 k0_hw6 k0_t6 k0_h4)).WholeWords (EltTy.packing .fp8e4m3) := fun v18 k0_t4 v177 k0_hw6 k0_t6 k0_h4 => k0_hw6.2.2.2 k0_t6 k0_h4 (k0_off133_inb v18 k0_t4 v177 k0_hw6 k0_t6 k0_h4)

def k0_off134 (v18 : BitVec 32) (k0_t4 : Fin (k0_t4_loop v18).trips) (k0_t6 : Fin k0_t6_loop.trips) : Fin 2 → Nat :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c2_i32_101 : BitVec 32 := 2#32
  let v173 : BitVec 32 := Scalar.remsi arg37 c2_i32_101
  let c0_i32_215 : BitVec 32 := 0#32
  let c1_i32_217 : BitVec 32 := 1#32
  let arg38 : BitVec 32 := Scf.iv c0_i32_215 c1_i32_217 k0_t6
  ![v173.toNat, arg38.toNat]
def k0_off135 (v18 : BitVec 32) (k0_t4 : Fin (k0_t4_loop v18).trips) (k0_t6 : Fin k0_t6_loop.trips) : Fin 3 → Nat :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c2_i32_101 : BitVec 32 := 2#32
  let v173 : BitVec 32 := Scalar.remsi arg37 c2_i32_101
  let c0_i32_215 : BitVec 32 := 0#32
  let c1_i32_217 : BitVec 32 := 1#32
  let arg38 : BitVec 32 := Scf.iv c0_i32_215 c1_i32_217 k0_t6
  let c512_i32_220 : BitVec 32 := 512#32
  let v587 : BitVec 32 := Scalar.muli arg38 c512_i32_220
  let c0_i32_221 : BitVec 32 := 0#32
  ![v173.toNat, v587.toNat, 0]
def k0_off136 (v172 : BitVec 32) (k0_t6 : Fin k0_t6_loop.trips) : Fin 3 → Nat :=
  let c0_i32_215 : BitVec 32 := 0#32
  let c1_i32_217 : BitVec 32 := 1#32
  let arg38 : BitVec 32 := Scf.iv c0_i32_215 c1_i32_217 k0_t6
  let c512_i32_220 : BitVec 32 := 512#32
  let v587 : BitVec 32 := Scalar.muli arg38 c512_i32_220
  let c0_i32_222 : BitVec 32 := 0#32
  ![v172.toNat, v587.toNat, 0]

def k0_chk5 (v172 : BitVec 32) : Prop :=
  (∀ a, (k0_off105 v172) a + S12x1x40.size a ≤ S12x16x40.size a) ∧
  (∀ k0_t5 : Fin k0_t5_loop.trips, ∀ a, (k0_off111 v172 k0_t5) a + S1x1280x1536.size a ≤ S16x5120x1536.size a) ∧
  (∀ k0_t5 : Fin k0_t5_loop.trips, ∀ (hinb : ∀ a, (k0_off111 v172 k0_t5) a + S1x1280x1536.size a ≤ S16x5120x1536.size a), (Rect.unit (s := S16x5120x1536) (k0_off111 v172 k0_t5) S1x1280x1536.size hinb).WholeWords (EltTy.packing .fp8e4m3)) ∧
  (∀ k0_t6 : Fin k0_t6_loop.trips, ∀ a, (k0_off136 v172 k0_t6) a + S1x512x5120.size a ≤ S16x1536x5120.size a) ∧
  (∀ k0_t6 : Fin k0_t6_loop.trips, ∀ (hinb : ∀ a, (k0_off136 v172 k0_t6) a + S1x512x5120.size a ≤ S16x1536x5120.size a), (Rect.unit (s := S16x1536x5120) (k0_off136 v172 k0_t6) S1x512x5120.size hinb).WholeWords (EltTy.packing .fp8e4m3))
theorem k0_off105_inb : ∀ (v172 : BitVec 32) (k0_hw5 : k0_chk5 v172), ∀ a, (k0_off105 v172) a + S12x1x40.size a ≤ S12x16x40.size a := fun v172 k0_hw5 => k0_hw5.1
theorem k0_off111_inb : ∀ (v172 : BitVec 32) (k0_hw5 : k0_chk5 v172) (k0_t5 : Fin k0_t5_loop.trips), ∀ a, (k0_off111 v172 k0_t5) a + S1x1280x1536.size a ≤ S16x5120x1536.size a := fun v172 k0_hw5 k0_t5 => k0_hw5.2.1 k0_t5
theorem k0_off111_wordsfp8e4m3 : ∀ (v172 : BitVec 32) (k0_hw5 : k0_chk5 v172) (k0_t5 : Fin k0_t5_loop.trips), (Rect.unit (s := S16x5120x1536) (k0_off111 v172 k0_t5) S1x1280x1536.size (k0_off111_inb v172 k0_hw5 k0_t5)).WholeWords (EltTy.packing .fp8e4m3) := fun v172 k0_hw5 k0_t5 => k0_hw5.2.2.1 k0_t5 (k0_off111_inb v172 k0_hw5 k0_t5)
theorem k0_off136_inb : ∀ (v172 : BitVec 32) (k0_hw5 : k0_chk5 v172) (k0_t6 : Fin k0_t6_loop.trips), ∀ a, (k0_off136 v172 k0_t6) a + S1x512x5120.size a ≤ S16x1536x5120.size a := fun v172 k0_hw5 k0_t6 => k0_hw5.2.2.2.1 k0_t6
theorem k0_off136_wordsfp8e4m3 : ∀ (v172 : BitVec 32) (k0_hw5 : k0_chk5 v172) (k0_t6 : Fin k0_t6_loop.trips), (Rect.unit (s := S16x1536x5120) (k0_off136 v172 k0_t6) S1x512x5120.size (k0_off136_inb v172 k0_hw5 k0_t6)).WholeWords (EltTy.packing .fp8e4m3) := fun v172 k0_hw5 k0_t6 => k0_hw5.2.2.2.2 k0_t6 (k0_off136_inb v172 k0_hw5 k0_t6)

def k0_mult4 (k0_t6 : Fin k0_t6_loop.trips) : BitVec 32 :=
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  v594
def k0_off137 (k0_t6 : Fin k0_t6_loop.trips) : Fin 2 → Nat :=
  let c0_224 : Index := 0#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v596 : Index := Scalar.indexCast v595
  ![0, v596.toNat]
def k0_off138 (v18 : BitVec 32) (k0_t4 : Fin (k0_t4_loop v18).trips) (k0_t6 : Fin k0_t6_loop.trips) : Fin 3 → Nat :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c2_i32_101 : BitVec 32 := 2#32
  let v173 : BitVec 32 := Scalar.remsi arg37 c2_i32_101
  let v599 : Index := Scalar.indexCast v173
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v600 : Index := Scalar.indexCast v595
  let c0_227 : Index := 0#32
  ![v599.toNat, v600.toNat, 0]
def k0_off139 (k0_t6 : Fin k0_t6_loop.trips) : Fin 2 → Nat :=
  let c0_228 : Index := 0#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v603 : Index := Scalar.indexCast v595
  ![0, v603.toNat]
def k0_off140 (k0_t6 : Fin k0_t6_loop.trips) : Fin 2 → Nat :=
  let c1 : Index := 1#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v607 : Index := Scalar.indexCast v595
  ![1, v607.toNat]
def k0_off141 (v18 : BitVec 32) (k0_t4 : Fin (k0_t4_loop v18).trips) (k0_t6 : Fin k0_t6_loop.trips) : Fin 3 → Nat :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c2_i32_101 : BitVec 32 := 2#32
  let v173 : BitVec 32 := Scalar.remsi arg37 c2_i32_101
  let v628 : Index := Scalar.indexCast v173
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v629 : Index := Scalar.indexCast v595
  let c256_238 : Index := 256#32
  ![v628.toNat, v629.toNat, 256]
def k0_off142 (k0_t6 : Fin k0_t6_loop.trips) : Fin 2 → Nat :=
  let c2 : Index := 2#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v632 : Index := Scalar.indexCast v595
  ![2, v632.toNat]
def k0_off143 (k0_t6 : Fin k0_t6_loop.trips) : Fin 2 → Nat :=
  let c3 : Index := 3#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v636 : Index := Scalar.indexCast v595
  ![3, v636.toNat]
def k0_off144 (v18 : BitVec 32) (k0_t4 : Fin (k0_t4_loop v18).trips) (k0_t6 : Fin k0_t6_loop.trips) : Fin 3 → Nat :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c2_i32_101 : BitVec 32 := 2#32
  let v173 : BitVec 32 := Scalar.remsi arg37 c2_i32_101
  let v657 : Index := Scalar.indexCast v173
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v658 : Index := Scalar.indexCast v595
  let c512_248 : Index := 512#32
  ![v657.toNat, v658.toNat, 512]
def k0_off145 (k0_t6 : Fin k0_t6_loop.trips) : Fin 2 → Nat :=
  let c4 : Index := 4#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v661 : Index := Scalar.indexCast v595
  ![4, v661.toNat]
def k0_off146 (k0_t6 : Fin k0_t6_loop.trips) : Fin 2 → Nat :=
  let c5 : Index := 5#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v665 : Index := Scalar.indexCast v595
  ![5, v665.toNat]
def k0_off147 (v18 : BitVec 32) (k0_t4 : Fin (k0_t4_loop v18).trips) (k0_t6 : Fin k0_t6_loop.trips) : Fin 3 → Nat :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c2_i32_101 : BitVec 32 := 2#32
  let v173 : BitVec 32 := Scalar.remsi arg37 c2_i32_101
  let v686 : Index := Scalar.indexCast v173
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v687 : Index := Scalar.indexCast v595
  let c768_258 : Index := 768#32
  ![v686.toNat, v687.toNat, 768]
def k0_off148 (k0_t6 : Fin k0_t6_loop.trips) : Fin 2 → Nat :=
  let c6 : Index := 6#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v690 : Index := Scalar.indexCast v595
  ![6, v690.toNat]
def k0_off149 (k0_t6 : Fin k0_t6_loop.trips) : Fin 2 → Nat :=
  let c7 : Index := 7#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v694 : Index := Scalar.indexCast v595
  ![7, v694.toNat]
def k0_off150 (v18 : BitVec 32) (k0_t4 : Fin (k0_t4_loop v18).trips) (k0_t6 : Fin k0_t6_loop.trips) : Fin 3 → Nat :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c2_i32_101 : BitVec 32 := 2#32
  let v173 : BitVec 32 := Scalar.remsi arg37 c2_i32_101
  let v715 : Index := Scalar.indexCast v173
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v716 : Index := Scalar.indexCast v595
  let c1024_268 : Index := 1024#32
  ![v715.toNat, v716.toNat, 1024]
def k0_off151 (k0_t6 : Fin k0_t6_loop.trips) : Fin 2 → Nat :=
  let c8 : Index := 8#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v719 : Index := Scalar.indexCast v595
  ![8, v719.toNat]
def k0_off152 (k0_t6 : Fin k0_t6_loop.trips) : Fin 2 → Nat :=
  let c9 : Index := 9#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v723 : Index := Scalar.indexCast v595
  ![9, v723.toNat]
def k0_off153 (v18 : BitVec 32) (k0_t4 : Fin (k0_t4_loop v18).trips) (k0_t6 : Fin k0_t6_loop.trips) : Fin 3 → Nat :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c2_i32_101 : BitVec 32 := 2#32
  let v173 : BitVec 32 := Scalar.remsi arg37 c2_i32_101
  let v744 : Index := Scalar.indexCast v173
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v745 : Index := Scalar.indexCast v595
  let c1280_278 : Index := 1280#32
  ![v744.toNat, v745.toNat, 1280]
def k0_off154 (k0_t6 : Fin k0_t6_loop.trips) : Fin 2 → Nat :=
  let c10 : Index := 10#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v748 : Index := Scalar.indexCast v595
  ![10, v748.toNat]
def k0_off155 (k0_t6 : Fin k0_t6_loop.trips) : Fin 2 → Nat :=
  let c11 : Index := 11#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v752 : Index := Scalar.indexCast v595
  ![11, v752.toNat]
def k0_off156 (v18 : BitVec 32) (k0_t4 : Fin (k0_t4_loop v18).trips) (k0_t6 : Fin k0_t6_loop.trips) : Fin 3 → Nat :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c2_i32_101 : BitVec 32 := 2#32
  let v173 : BitVec 32 := Scalar.remsi arg37 c2_i32_101
  let v773 : Index := Scalar.indexCast v173
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v774 : Index := Scalar.indexCast v595
  let c1536_288 : Index := 1536#32
  ![v773.toNat, v774.toNat, 1536]
def k0_off157 (k0_t6 : Fin k0_t6_loop.trips) : Fin 2 → Nat :=
  let c12 : Index := 12#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v777 : Index := Scalar.indexCast v595
  ![12, v777.toNat]
def k0_off158 (k0_t6 : Fin k0_t6_loop.trips) : Fin 2 → Nat :=
  let c13 : Index := 13#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v781 : Index := Scalar.indexCast v595
  ![13, v781.toNat]
def k0_off159 (v18 : BitVec 32) (k0_t4 : Fin (k0_t4_loop v18).trips) (k0_t6 : Fin k0_t6_loop.trips) : Fin 3 → Nat :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c2_i32_101 : BitVec 32 := 2#32
  let v173 : BitVec 32 := Scalar.remsi arg37 c2_i32_101
  let v802 : Index := Scalar.indexCast v173
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v803 : Index := Scalar.indexCast v595
  let c1792_298 : Index := 1792#32
  ![v802.toNat, v803.toNat, 1792]
def k0_off160 (k0_t6 : Fin k0_t6_loop.trips) : Fin 2 → Nat :=
  let c14 : Index := 14#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v806 : Index := Scalar.indexCast v595
  ![14, v806.toNat]
def k0_off161 (k0_t6 : Fin k0_t6_loop.trips) : Fin 2 → Nat :=
  let c15 : Index := 15#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v810 : Index := Scalar.indexCast v595
  ![15, v810.toNat]
def k0_off162 (v18 : BitVec 32) (k0_t4 : Fin (k0_t4_loop v18).trips) (k0_t6 : Fin k0_t6_loop.trips) : Fin 3 → Nat :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c2_i32_101 : BitVec 32 := 2#32
  let v173 : BitVec 32 := Scalar.remsi arg37 c2_i32_101
  let v831 : Index := Scalar.indexCast v173
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v832 : Index := Scalar.indexCast v595
  let c2048_308 : Index := 2048#32
  ![v831.toNat, v832.toNat, 2048]
def k0_off163 (k0_t6 : Fin k0_t6_loop.trips) : Fin 2 → Nat :=
  let c16 : Index := 16#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v835 : Index := Scalar.indexCast v595
  ![16, v835.toNat]
def k0_off164 (k0_t6 : Fin k0_t6_loop.trips) : Fin 2 → Nat :=
  let c17 : Index := 17#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v839 : Index := Scalar.indexCast v595
  ![17, v839.toNat]
def k0_off165 (v18 : BitVec 32) (k0_t4 : Fin (k0_t4_loop v18).trips) (k0_t6 : Fin k0_t6_loop.trips) : Fin 3 → Nat :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c2_i32_101 : BitVec 32 := 2#32
  let v173 : BitVec 32 := Scalar.remsi arg37 c2_i32_101
  let v860 : Index := Scalar.indexCast v173
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v861 : Index := Scalar.indexCast v595
  let c2304_318 : Index := 2304#32
  ![v860.toNat, v861.toNat, 2304]
def k0_off166 (k0_t6 : Fin k0_t6_loop.trips) : Fin 2 → Nat :=
  let c18 : Index := 18#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v864 : Index := Scalar.indexCast v595
  ![18, v864.toNat]
def k0_off167 (k0_t6 : Fin k0_t6_loop.trips) : Fin 2 → Nat :=
  let c19 : Index := 19#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v868 : Index := Scalar.indexCast v595
  ![19, v868.toNat]
def k0_off168 (v18 : BitVec 32) (k0_t4 : Fin (k0_t4_loop v18).trips) (k0_t6 : Fin k0_t6_loop.trips) : Fin 3 → Nat :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c2_i32_101 : BitVec 32 := 2#32
  let v173 : BitVec 32 := Scalar.remsi arg37 c2_i32_101
  let v889 : Index := Scalar.indexCast v173
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v890 : Index := Scalar.indexCast v595
  let c2560_328 : Index := 2560#32
  ![v889.toNat, v890.toNat, 2560]
def k0_off169 (k0_t6 : Fin k0_t6_loop.trips) : Fin 2 → Nat :=
  let c20 : Index := 20#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v893 : Index := Scalar.indexCast v595
  ![20, v893.toNat]
def k0_off170 (k0_t6 : Fin k0_t6_loop.trips) : Fin 2 → Nat :=
  let c21 : Index := 21#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v897 : Index := Scalar.indexCast v595
  ![21, v897.toNat]
def k0_off171 (v18 : BitVec 32) (k0_t4 : Fin (k0_t4_loop v18).trips) (k0_t6 : Fin k0_t6_loop.trips) : Fin 3 → Nat :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c2_i32_101 : BitVec 32 := 2#32
  let v173 : BitVec 32 := Scalar.remsi arg37 c2_i32_101
  let v918 : Index := Scalar.indexCast v173
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v919 : Index := Scalar.indexCast v595
  let c2816_338 : Index := 2816#32
  ![v918.toNat, v919.toNat, 2816]
def k0_off172 (k0_t6 : Fin k0_t6_loop.trips) : Fin 2 → Nat :=
  let c22 : Index := 22#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v922 : Index := Scalar.indexCast v595
  ![22, v922.toNat]
def k0_off173 (k0_t6 : Fin k0_t6_loop.trips) : Fin 2 → Nat :=
  let c23 : Index := 23#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v926 : Index := Scalar.indexCast v595
  ![23, v926.toNat]
def k0_off174 (v18 : BitVec 32) (k0_t4 : Fin (k0_t4_loop v18).trips) (k0_t6 : Fin k0_t6_loop.trips) : Fin 3 → Nat :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c2_i32_101 : BitVec 32 := 2#32
  let v173 : BitVec 32 := Scalar.remsi arg37 c2_i32_101
  let v947 : Index := Scalar.indexCast v173
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v948 : Index := Scalar.indexCast v595
  let c3072_348 : Index := 3072#32
  ![v947.toNat, v948.toNat, 3072]
def k0_off175 (k0_t6 : Fin k0_t6_loop.trips) : Fin 2 → Nat :=
  let c24 : Index := 24#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v951 : Index := Scalar.indexCast v595
  ![24, v951.toNat]
def k0_off176 (k0_t6 : Fin k0_t6_loop.trips) : Fin 2 → Nat :=
  let c25 : Index := 25#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v955 : Index := Scalar.indexCast v595
  ![25, v955.toNat]
def k0_off177 (v18 : BitVec 32) (k0_t4 : Fin (k0_t4_loop v18).trips) (k0_t6 : Fin k0_t6_loop.trips) : Fin 3 → Nat :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c2_i32_101 : BitVec 32 := 2#32
  let v173 : BitVec 32 := Scalar.remsi arg37 c2_i32_101
  let v976 : Index := Scalar.indexCast v173
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v977 : Index := Scalar.indexCast v595
  let c3328_358 : Index := 3328#32
  ![v976.toNat, v977.toNat, 3328]
def k0_off178 (k0_t6 : Fin k0_t6_loop.trips) : Fin 2 → Nat :=
  let c26 : Index := 26#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v980 : Index := Scalar.indexCast v595
  ![26, v980.toNat]
def k0_off179 (k0_t6 : Fin k0_t6_loop.trips) : Fin 2 → Nat :=
  let c27 : Index := 27#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v984 : Index := Scalar.indexCast v595
  ![27, v984.toNat]
def k0_off180 (v18 : BitVec 32) (k0_t4 : Fin (k0_t4_loop v18).trips) (k0_t6 : Fin k0_t6_loop.trips) : Fin 3 → Nat :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c2_i32_101 : BitVec 32 := 2#32
  let v173 : BitVec 32 := Scalar.remsi arg37 c2_i32_101
  let v1005 : Index := Scalar.indexCast v173
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v1006 : Index := Scalar.indexCast v595
  let c3584_368 : Index := 3584#32
  ![v1005.toNat, v1006.toNat, 3584]
def k0_off181 (k0_t6 : Fin k0_t6_loop.trips) : Fin 2 → Nat :=
  let c28 : Index := 28#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v1009 : Index := Scalar.indexCast v595
  ![28, v1009.toNat]
def k0_off182 (k0_t6 : Fin k0_t6_loop.trips) : Fin 2 → Nat :=
  let c29 : Index := 29#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v1013 : Index := Scalar.indexCast v595
  ![29, v1013.toNat]
def k0_off183 (v18 : BitVec 32) (k0_t4 : Fin (k0_t4_loop v18).trips) (k0_t6 : Fin k0_t6_loop.trips) : Fin 3 → Nat :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c2_i32_101 : BitVec 32 := 2#32
  let v173 : BitVec 32 := Scalar.remsi arg37 c2_i32_101
  let v1034 : Index := Scalar.indexCast v173
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v1035 : Index := Scalar.indexCast v595
  let c3840_378 : Index := 3840#32
  ![v1034.toNat, v1035.toNat, 3840]
def k0_off184 (k0_t6 : Fin k0_t6_loop.trips) : Fin 2 → Nat :=
  let c30 : Index := 30#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v1038 : Index := Scalar.indexCast v595
  ![30, v1038.toNat]
def k0_off185 (k0_t6 : Fin k0_t6_loop.trips) : Fin 2 → Nat :=
  let c31 : Index := 31#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v1042 : Index := Scalar.indexCast v595
  ![31, v1042.toNat]
def k0_off186 (v18 : BitVec 32) (k0_t4 : Fin (k0_t4_loop v18).trips) (k0_t6 : Fin k0_t6_loop.trips) : Fin 3 → Nat :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c2_i32_101 : BitVec 32 := 2#32
  let v173 : BitVec 32 := Scalar.remsi arg37 c2_i32_101
  let v1063 : Index := Scalar.indexCast v173
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v1064 : Index := Scalar.indexCast v595
  let c4096_388 : Index := 4096#32
  ![v1063.toNat, v1064.toNat, 4096]
def k0_off187 (k0_t6 : Fin k0_t6_loop.trips) : Fin 2 → Nat :=
  let c32 : Index := 32#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v1067 : Index := Scalar.indexCast v595
  ![32, v1067.toNat]
def k0_off188 (k0_t6 : Fin k0_t6_loop.trips) : Fin 2 → Nat :=
  let c33 : Index := 33#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v1071 : Index := Scalar.indexCast v595
  ![33, v1071.toNat]
def k0_off189 (v18 : BitVec 32) (k0_t4 : Fin (k0_t4_loop v18).trips) (k0_t6 : Fin k0_t6_loop.trips) : Fin 3 → Nat :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c2_i32_101 : BitVec 32 := 2#32
  let v173 : BitVec 32 := Scalar.remsi arg37 c2_i32_101
  let v1092 : Index := Scalar.indexCast v173
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v1093 : Index := Scalar.indexCast v595
  let c4352_398 : Index := 4352#32
  ![v1092.toNat, v1093.toNat, 4352]
def k0_off190 (k0_t6 : Fin k0_t6_loop.trips) : Fin 2 → Nat :=
  let c34 : Index := 34#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v1096 : Index := Scalar.indexCast v595
  ![34, v1096.toNat]
def k0_off191 (k0_t6 : Fin k0_t6_loop.trips) : Fin 2 → Nat :=
  let c35 : Index := 35#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v1100 : Index := Scalar.indexCast v595
  ![35, v1100.toNat]
def k0_off192 (v18 : BitVec 32) (k0_t4 : Fin (k0_t4_loop v18).trips) (k0_t6 : Fin k0_t6_loop.trips) : Fin 3 → Nat :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c2_i32_101 : BitVec 32 := 2#32
  let v173 : BitVec 32 := Scalar.remsi arg37 c2_i32_101
  let v1121 : Index := Scalar.indexCast v173
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v1122 : Index := Scalar.indexCast v595
  let c4608_408 : Index := 4608#32
  ![v1121.toNat, v1122.toNat, 4608]
def k0_off193 (k0_t6 : Fin k0_t6_loop.trips) : Fin 2 → Nat :=
  let c36 : Index := 36#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v1125 : Index := Scalar.indexCast v595
  ![36, v1125.toNat]
def k0_off194 (k0_t6 : Fin k0_t6_loop.trips) : Fin 2 → Nat :=
  let c37 : Index := 37#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v1129 : Index := Scalar.indexCast v595
  ![37, v1129.toNat]
def k0_off195 (v18 : BitVec 32) (k0_t4 : Fin (k0_t4_loop v18).trips) (k0_t6 : Fin k0_t6_loop.trips) : Fin 3 → Nat :=
  let c0_i32_89 : BitVec 32 := 0#32
  let v153 : BitVec 32 := Scalar.subi v18 c0_i32_89
  let c1_i32_90 : BitVec 32 := 1#32
  let v155 : BitVec 32 := Scalar.divsi v153 c1_i32_90
  let v156 : BitVec 32 := Scalar.muli v155 c1_i32_90
  let v157 : BitVec 32 := Scalar.addi c0_i32_89 v156
  let c1_i32_92 : BitVec 32 := 1#32
  let arg37 : BitVec 32 := Scf.iv v157 c1_i32_92 k0_t4
  let c2_i32_101 : BitVec 32 := 2#32
  let v173 : BitVec 32 := Scalar.remsi arg37 c2_i32_101
  let v1150 : Index := Scalar.indexCast v173
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v1151 : Index := Scalar.indexCast v595
  let c4864_418 : Index := 4864#32
  ![v1150.toNat, v1151.toNat, 4864]

def k0_chk2_0 (v18 : BitVec 32) : Prop :=
  ((k0_t1_loop v18).OK) ∧
  (∀ k0_t1 : Fin (k0_t1_loop v18).trips, ∀ a, (k0_off8 v18 k0_t1) a + S1.size a ≤ S17.size a) ∧
  (∀ k0_t1 : Fin (k0_t1_loop v18).trips, ∀ a, (k0_off9 v18 k0_t1) a + S1.size a ≤ S17.size a) ∧
  (∀ (k0_t1 : Fin (k0_t1_loop v18).trips) (k0_t2 : Fin k0_t2_loop.trips), ∀ (k0_h1 : k0_cond1 v18 k0_t1 = 1#1), ∀ a, (k0_off11 v18 k0_t1 k0_t2) a + S1x1.size a ≤ S2x4.size a) ∧
  (∀ (k0_t1 : Fin (k0_t1_loop v18).trips) (k0_t2 : Fin k0_t2_loop.trips), ∀ (k0_h1 : k0_cond1 v18 k0_t1 = 1#1), ∀ a, (k0_off12 v18 k0_t1 k0_t2) a + S1x1280x1536.size a ≤ S2x5120x1536.size a) ∧
  (∀ (k0_t1 : Fin (k0_t1_loop v18).trips) (k0_t2 : Fin k0_t2_loop.trips), ∀ (k0_h1 : k0_cond1 v18 k0_t1 = 1#1), ∀ (hinb : ∀ a, (k0_off12 v18 k0_t1 k0_t2) a + S1x1280x1536.size a ≤ S2x5120x1536.size a), (Rect.unit (s := S2x5120x1536) (k0_off12 v18 k0_t1 k0_t2) S1x1280x1536.size hinb).WholeWords (EltTy.packing .fp8e4m3)) ∧
  (∀ (k0_t1 : Fin (k0_t1_loop v18).trips) (k0_t2 : Fin k0_t2_loop.trips), ∀ a, (k0_off14 v18 k0_t1 k0_t2) a + S1x1.size a ≤ S2x4.size a) ∧
  (∀ (k0_t1 : Fin (k0_t1_loop v18).trips) (k0_t2 : Fin k0_t2_loop.trips), ∀ a, (k0_off15 v18 k0_t1 k0_t2) a + S1x1280x1536.size a ≤ S2x5120x1536.size a) ∧
  (∀ (k0_t1 : Fin (k0_t1_loop v18).trips) (k0_t2 : Fin k0_t2_loop.trips), ∀ (hinb : ∀ a, (k0_off15 v18 k0_t1 k0_t2) a + S1x1280x1536.size a ≤ S2x5120x1536.size a), (Rect.unit (s := S2x5120x1536) (k0_off15 v18 k0_t1 k0_t2) S1x1280x1536.size hinb).WholeWords (EltTy.packing .fp8e4m3)) ∧
  (∀ (k0_t1 : Fin (k0_t1_loop v18).trips) (k0_t2 : Fin k0_t2_loop.trips), ∀ a, (k0_off18 v18 k0_t1 k0_t2) a + S1x1280x256.size a ≤ S2x5120x1536.size a) ∧
  (∀ (k0_t1 : Fin (k0_t1_loop v18).trips) (k0_t2 : Fin k0_t2_loop.trips), ∀ a, (k0_off21 v18 k0_t1 k0_t2) a + S1x1280x256.size a ≤ S2x5120x1536.size a) ∧
  (∀ (k0_t1 : Fin (k0_t1_loop v18).trips) (k0_t2 : Fin k0_t2_loop.trips), ∀ a, (k0_off24 v18 k0_t1 k0_t2) a + S1x1280x256.size a ≤ S2x5120x1536.size a) ∧
  (∀ (k0_t1 : Fin (k0_t1_loop v18).trips) (k0_t2 : Fin k0_t2_loop.trips), ∀ a, (k0_off27 v18 k0_t1 k0_t2) a + S1x1280x256.size a ≤ S2x5120x1536.size a) ∧
  (∀ (k0_t1 : Fin (k0_t1_loop v18).trips) (k0_t2 : Fin k0_t2_loop.trips), ∀ a, (k0_off30 v18 k0_t1 k0_t2) a + S1x1280x256.size a ≤ S2x5120x1536.size a) ∧
  (∀ (k0_t1 : Fin (k0_t1_loop v18).trips) (k0_t2 : Fin k0_t2_loop.trips), ∀ a, (k0_off33 v18 k0_t1 k0_t2) a + S1x1280x256.size a ≤ S2x5120x1536.size a) ∧
  (∀ (k0_t1 : Fin (k0_t1_loop v18).trips) (k0_t3 : Fin k0_t3_loop.trips), ∀ (k0_h2 : k0_cond2 v18 k0_t1 = 1#1), ∀ a, (k0_off36 v18 k0_t1 k0_t3) a + S1x1.size a ≤ S2x3.size a) ∧
  (∀ (k0_t1 : Fin (k0_t1_loop v18).trips) (k0_t3 : Fin k0_t3_loop.trips), ∀ (k0_h2 : k0_cond2 v18 k0_t1 = 1#1), ∀ a, (k0_off37 v18 k0_t1 k0_t3) a + S1x512x5120.size a ≤ S2x1536x5120.size a) ∧
  (∀ (k0_t1 : Fin (k0_t1_loop v18).trips) (k0_t3 : Fin k0_t3_loop.trips), ∀ (k0_h2 : k0_cond2 v18 k0_t1 = 1#1), ∀ (hinb : ∀ a, (k0_off37 v18 k0_t1 k0_t3) a + S1x512x5120.size a ≤ S2x1536x5120.size a), (Rect.unit (s := S2x1536x5120) (k0_off37 v18 k0_t1 k0_t3) S1x512x5120.size hinb).WholeWords (EltTy.packing .fp8e4m3)) ∧
  (∀ (k0_t1 : Fin (k0_t1_loop v18).trips) (k0_t3 : Fin k0_t3_loop.trips), ∀ a, (k0_off39 v18 k0_t1 k0_t3) a + S1x1.size a ≤ S2x3.size a) ∧
  (∀ (k0_t1 : Fin (k0_t1_loop v18).trips) (k0_t3 : Fin k0_t3_loop.trips), ∀ a, (k0_off40 v18 k0_t1 k0_t3) a + S1x512x5120.size a ≤ S2x1536x5120.size a) ∧
  (∀ (k0_t1 : Fin (k0_t1_loop v18).trips) (k0_t3 : Fin k0_t3_loop.trips), ∀ (hinb : ∀ a, (k0_off40 v18 k0_t1 k0_t3) a + S1x512x5120.size a ≤ S2x1536x5120.size a), (Rect.unit (s := S2x1536x5120) (k0_off40 v18 k0_t1 k0_t3) S1x512x5120.size hinb).WholeWords (EltTy.packing .fp8e4m3)) ∧
  (∀ (k0_t1 : Fin (k0_t1_loop v18).trips) (k0_t3 : Fin k0_t3_loop.trips), ∀ a, (k0_off43 v18 k0_t1 k0_t3) a + S1x512x256.size a ≤ S2x1536x5120.size a) ∧
  (∀ (k0_t1 : Fin (k0_t1_loop v18).trips) (k0_t3 : Fin k0_t3_loop.trips), ∀ a, (k0_off46 v18 k0_t1 k0_t3) a + S1x512x256.size a ≤ S2x1536x5120.size a) ∧
  (∀ (k0_t1 : Fin (k0_t1_loop v18).trips) (k0_t3 : Fin k0_t3_loop.trips), ∀ a, (k0_off49 v18 k0_t1 k0_t3) a + S1x512x256.size a ≤ S2x1536x5120.size a) ∧
  (∀ (k0_t1 : Fin (k0_t1_loop v18).trips) (k0_t3 : Fin k0_t3_loop.trips), ∀ a, (k0_off52 v18 k0_t1 k0_t3) a + S1x512x256.size a ≤ S2x1536x5120.size a) ∧
  (∀ (k0_t1 : Fin (k0_t1_loop v18).trips) (k0_t3 : Fin k0_t3_loop.trips), ∀ a, (k0_off55 v18 k0_t1 k0_t3) a + S1x512x256.size a ≤ S2x1536x5120.size a) ∧
  (∀ (k0_t1 : Fin (k0_t1_loop v18).trips) (k0_t3 : Fin k0_t3_loop.trips), ∀ a, (k0_off58 v18 k0_t1 k0_t3) a + S1x512x256.size a ≤ S2x1536x5120.size a) ∧
  (∀ (k0_t1 : Fin (k0_t1_loop v18).trips) (k0_t3 : Fin k0_t3_loop.trips), ∀ a, (k0_off61 v18 k0_t1 k0_t3) a + S1x512x256.size a ≤ S2x1536x5120.size a) ∧
  (∀ (k0_t1 : Fin (k0_t1_loop v18).trips) (k0_t3 : Fin k0_t3_loop.trips), ∀ a, (k0_off64 v18 k0_t1 k0_t3) a + S1x512x256.size a ≤ S2x1536x5120.size a) ∧
  (∀ (k0_t1 : Fin (k0_t1_loop v18).trips) (k0_t3 : Fin k0_t3_loop.trips), ∀ a, (k0_off67 v18 k0_t1 k0_t3) a + S1x512x256.size a ≤ S2x1536x5120.size a) ∧
  (∀ (k0_t1 : Fin (k0_t1_loop v18).trips) (k0_t3 : Fin k0_t3_loop.trips), ∀ a, (k0_off70 v18 k0_t1 k0_t3) a + S1x512x256.size a ≤ S2x1536x5120.size a) ∧
  (∀ (k0_t1 : Fin (k0_t1_loop v18).trips) (k0_t3 : Fin k0_t3_loop.trips), ∀ a, (k0_off73 v18 k0_t1 k0_t3) a + S1x512x256.size a ≤ S2x1536x5120.size a)
def k0_chk2_1 (v18 : BitVec 32) : Prop :=
  (∀ (k0_t1 : Fin (k0_t1_loop v18).trips) (k0_t3 : Fin k0_t3_loop.trips), ∀ a, (k0_off76 v18 k0_t1 k0_t3) a + S1x512x256.size a ≤ S2x1536x5120.size a) ∧
  (∀ (k0_t1 : Fin (k0_t1_loop v18).trips) (k0_t3 : Fin k0_t3_loop.trips), ∀ a, (k0_off79 v18 k0_t1 k0_t3) a + S1x512x256.size a ≤ S2x1536x5120.size a) ∧
  (∀ (k0_t1 : Fin (k0_t1_loop v18).trips) (k0_t3 : Fin k0_t3_loop.trips), ∀ a, (k0_off82 v18 k0_t1 k0_t3) a + S1x512x256.size a ≤ S2x1536x5120.size a) ∧
  (∀ (k0_t1 : Fin (k0_t1_loop v18).trips) (k0_t3 : Fin k0_t3_loop.trips), ∀ a, (k0_off85 v18 k0_t1 k0_t3) a + S1x512x256.size a ≤ S2x1536x5120.size a) ∧
  (∀ (k0_t1 : Fin (k0_t1_loop v18).trips) (k0_t3 : Fin k0_t3_loop.trips), ∀ a, (k0_off88 v18 k0_t1 k0_t3) a + S1x512x256.size a ≤ S2x1536x5120.size a) ∧
  (∀ (k0_t1 : Fin (k0_t1_loop v18).trips) (k0_t3 : Fin k0_t3_loop.trips), ∀ a, (k0_off91 v18 k0_t1 k0_t3) a + S1x512x256.size a ≤ S2x1536x5120.size a) ∧
  (∀ (k0_t1 : Fin (k0_t1_loop v18).trips) (k0_t3 : Fin k0_t3_loop.trips), ∀ a, (k0_off94 v18 k0_t1 k0_t3) a + S1x512x256.size a ≤ S2x1536x5120.size a) ∧
  (∀ (k0_t1 : Fin (k0_t1_loop v18).trips) (k0_t3 : Fin k0_t3_loop.trips), ∀ a, (k0_off97 v18 k0_t1 k0_t3) a + S1x512x256.size a ≤ S2x1536x5120.size a) ∧
  (∀ (k0_t1 : Fin (k0_t1_loop v18).trips) (k0_t3 : Fin k0_t3_loop.trips), ∀ a, (k0_off100 v18 k0_t1 k0_t3) a + S1x512x256.size a ≤ S2x1536x5120.size a) ∧
  ((k0_t4_loop v18).OK) ∧
  (∀ k0_t4 : Fin (k0_t4_loop v18).trips, ∀ a, (k0_off103 v18 k0_t4) a + S1.size a ≤ S17.size a) ∧
  (∀ k0_t4 : Fin (k0_t4_loop v18).trips, ∀ a, (k0_off104 v18 k0_t4) a + S1.size a ≤ S17.size a) ∧
  (∀ (k0_t4 : Fin (k0_t4_loop v18).trips) (k0_t5 : Fin k0_t5_loop.trips), ∀ (k0_h3 : k0_cond3 v18 k0_t4 = 1#1), ∀ a, (k0_off106 v18 k0_t4 k0_t5) a + S1x1.size a ≤ S2x4.size a) ∧
  (∀ (k0_t4 : Fin (k0_t4_loop v18).trips) (k0_t5 : Fin k0_t5_loop.trips), ∀ (k0_h3 : k0_cond3 v18 k0_t4 = 1#1), ∀ a, (k0_off107 v18 k0_t4 k0_t5) a + S1x1280x1536.size a ≤ S2x5120x1536.size a) ∧
  (∀ (k0_t4 : Fin (k0_t4_loop v18).trips) (k0_t5 : Fin k0_t5_loop.trips), ∀ (k0_h3 : k0_cond3 v18 k0_t4 = 1#1), ∀ (hinb : ∀ a, (k0_off107 v18 k0_t4 k0_t5) a + S1x1280x1536.size a ≤ S2x5120x1536.size a), (Rect.unit (s := S2x5120x1536) (k0_off107 v18 k0_t4 k0_t5) S1x1280x1536.size hinb).WholeWords (EltTy.packing .fp8e4m3)) ∧
  (∀ (k0_t4 : Fin (k0_t4_loop v18).trips) (k0_t5 : Fin k0_t5_loop.trips), ∀ a, (k0_off109 v18 k0_t4 k0_t5) a + S1x1.size a ≤ S2x4.size a) ∧
  (∀ (k0_t4 : Fin (k0_t4_loop v18).trips) (k0_t5 : Fin k0_t5_loop.trips), ∀ a, (k0_off110 v18 k0_t4 k0_t5) a + S1x1280x1536.size a ≤ S2x5120x1536.size a) ∧
  (∀ (k0_t4 : Fin (k0_t4_loop v18).trips) (k0_t5 : Fin k0_t5_loop.trips), ∀ (hinb : ∀ a, (k0_off110 v18 k0_t4 k0_t5) a + S1x1280x1536.size a ≤ S2x5120x1536.size a), (Rect.unit (s := S2x5120x1536) (k0_off110 v18 k0_t4 k0_t5) S1x1280x1536.size hinb).WholeWords (EltTy.packing .fp8e4m3)) ∧
  (∀ (k0_t4 : Fin (k0_t4_loop v18).trips) (k0_t5 : Fin k0_t5_loop.trips), ∀ a, (k0_off113 v18 k0_t4 k0_t5) a + S1x1280x256.size a ≤ S2x5120x1536.size a) ∧
  (∀ (k0_t4 : Fin (k0_t4_loop v18).trips) (k0_t5 : Fin k0_t5_loop.trips), ∀ a, (k0_off116 v18 k0_t4 k0_t5) a + S1x1280x256.size a ≤ S2x5120x1536.size a) ∧
  (∀ (k0_t4 : Fin (k0_t4_loop v18).trips) (k0_t5 : Fin k0_t5_loop.trips), ∀ a, (k0_off119 v18 k0_t4 k0_t5) a + S1x1280x256.size a ≤ S2x5120x1536.size a) ∧
  (∀ (k0_t4 : Fin (k0_t4_loop v18).trips) (k0_t5 : Fin k0_t5_loop.trips), ∀ a, (k0_off122 v18 k0_t4 k0_t5) a + S1x1280x256.size a ≤ S2x5120x1536.size a) ∧
  (∀ (k0_t4 : Fin (k0_t4_loop v18).trips) (k0_t5 : Fin k0_t5_loop.trips), ∀ a, (k0_off125 v18 k0_t4 k0_t5) a + S1x1280x256.size a ≤ S2x5120x1536.size a) ∧
  (∀ (k0_t4 : Fin (k0_t4_loop v18).trips) (k0_t5 : Fin k0_t5_loop.trips), ∀ a, (k0_off128 v18 k0_t4 k0_t5) a + S1x1280x256.size a ≤ S2x5120x1536.size a) ∧
  (∀ (k0_t4 : Fin (k0_t4_loop v18).trips) (k0_t6 : Fin k0_t6_loop.trips), ∀ (k0_h4 : k0_cond4 v18 k0_t4 = 1#1), ∀ a, (k0_off131 v18 k0_t4 k0_t6) a + S1x1.size a ≤ S2x3.size a) ∧
  (∀ (k0_t4 : Fin (k0_t4_loop v18).trips) (k0_t6 : Fin k0_t6_loop.trips), ∀ (k0_h4 : k0_cond4 v18 k0_t4 = 1#1), ∀ a, (k0_off132 v18 k0_t4 k0_t6) a + S1x512x5120.size a ≤ S2x1536x5120.size a) ∧
  (∀ (k0_t4 : Fin (k0_t4_loop v18).trips) (k0_t6 : Fin k0_t6_loop.trips), ∀ (k0_h4 : k0_cond4 v18 k0_t4 = 1#1), ∀ (hinb : ∀ a, (k0_off132 v18 k0_t4 k0_t6) a + S1x512x5120.size a ≤ S2x1536x5120.size a), (Rect.unit (s := S2x1536x5120) (k0_off132 v18 k0_t4 k0_t6) S1x512x5120.size hinb).WholeWords (EltTy.packing .fp8e4m3)) ∧
  (∀ (k0_t4 : Fin (k0_t4_loop v18).trips) (k0_t6 : Fin k0_t6_loop.trips), ∀ a, (k0_off134 v18 k0_t4 k0_t6) a + S1x1.size a ≤ S2x3.size a) ∧
  (∀ (k0_t4 : Fin (k0_t4_loop v18).trips) (k0_t6 : Fin k0_t6_loop.trips), ∀ a, (k0_off135 v18 k0_t4 k0_t6) a + S1x512x5120.size a ≤ S2x1536x5120.size a) ∧
  (∀ (k0_t4 : Fin (k0_t4_loop v18).trips) (k0_t6 : Fin k0_t6_loop.trips), ∀ (hinb : ∀ a, (k0_off135 v18 k0_t4 k0_t6) a + S1x512x5120.size a ≤ S2x1536x5120.size a), (Rect.unit (s := S2x1536x5120) (k0_off135 v18 k0_t4 k0_t6) S1x512x5120.size hinb).WholeWords (EltTy.packing .fp8e4m3)) ∧
  (∀ (k0_t4 : Fin (k0_t4_loop v18).trips) (k0_t6 : Fin k0_t6_loop.trips), ∀ a, (k0_off138 v18 k0_t4 k0_t6) a + S1x512x256.size a ≤ S2x1536x5120.size a) ∧
  (∀ (k0_t4 : Fin (k0_t4_loop v18).trips) (k0_t6 : Fin k0_t6_loop.trips), ∀ a, (k0_off141 v18 k0_t4 k0_t6) a + S1x512x256.size a ≤ S2x1536x5120.size a)
def k0_chk2_2 (v18 : BitVec 32) : Prop :=
  (∀ (k0_t4 : Fin (k0_t4_loop v18).trips) (k0_t6 : Fin k0_t6_loop.trips), ∀ a, (k0_off144 v18 k0_t4 k0_t6) a + S1x512x256.size a ≤ S2x1536x5120.size a) ∧
  (∀ (k0_t4 : Fin (k0_t4_loop v18).trips) (k0_t6 : Fin k0_t6_loop.trips), ∀ a, (k0_off147 v18 k0_t4 k0_t6) a + S1x512x256.size a ≤ S2x1536x5120.size a) ∧
  (∀ (k0_t4 : Fin (k0_t4_loop v18).trips) (k0_t6 : Fin k0_t6_loop.trips), ∀ a, (k0_off150 v18 k0_t4 k0_t6) a + S1x512x256.size a ≤ S2x1536x5120.size a) ∧
  (∀ (k0_t4 : Fin (k0_t4_loop v18).trips) (k0_t6 : Fin k0_t6_loop.trips), ∀ a, (k0_off153 v18 k0_t4 k0_t6) a + S1x512x256.size a ≤ S2x1536x5120.size a) ∧
  (∀ (k0_t4 : Fin (k0_t4_loop v18).trips) (k0_t6 : Fin k0_t6_loop.trips), ∀ a, (k0_off156 v18 k0_t4 k0_t6) a + S1x512x256.size a ≤ S2x1536x5120.size a) ∧
  (∀ (k0_t4 : Fin (k0_t4_loop v18).trips) (k0_t6 : Fin k0_t6_loop.trips), ∀ a, (k0_off159 v18 k0_t4 k0_t6) a + S1x512x256.size a ≤ S2x1536x5120.size a) ∧
  (∀ (k0_t4 : Fin (k0_t4_loop v18).trips) (k0_t6 : Fin k0_t6_loop.trips), ∀ a, (k0_off162 v18 k0_t4 k0_t6) a + S1x512x256.size a ≤ S2x1536x5120.size a) ∧
  (∀ (k0_t4 : Fin (k0_t4_loop v18).trips) (k0_t6 : Fin k0_t6_loop.trips), ∀ a, (k0_off165 v18 k0_t4 k0_t6) a + S1x512x256.size a ≤ S2x1536x5120.size a) ∧
  (∀ (k0_t4 : Fin (k0_t4_loop v18).trips) (k0_t6 : Fin k0_t6_loop.trips), ∀ a, (k0_off168 v18 k0_t4 k0_t6) a + S1x512x256.size a ≤ S2x1536x5120.size a) ∧
  (∀ (k0_t4 : Fin (k0_t4_loop v18).trips) (k0_t6 : Fin k0_t6_loop.trips), ∀ a, (k0_off171 v18 k0_t4 k0_t6) a + S1x512x256.size a ≤ S2x1536x5120.size a) ∧
  (∀ (k0_t4 : Fin (k0_t4_loop v18).trips) (k0_t6 : Fin k0_t6_loop.trips), ∀ a, (k0_off174 v18 k0_t4 k0_t6) a + S1x512x256.size a ≤ S2x1536x5120.size a) ∧
  (∀ (k0_t4 : Fin (k0_t4_loop v18).trips) (k0_t6 : Fin k0_t6_loop.trips), ∀ a, (k0_off177 v18 k0_t4 k0_t6) a + S1x512x256.size a ≤ S2x1536x5120.size a) ∧
  (∀ (k0_t4 : Fin (k0_t4_loop v18).trips) (k0_t6 : Fin k0_t6_loop.trips), ∀ a, (k0_off180 v18 k0_t4 k0_t6) a + S1x512x256.size a ≤ S2x1536x5120.size a) ∧
  (∀ (k0_t4 : Fin (k0_t4_loop v18).trips) (k0_t6 : Fin k0_t6_loop.trips), ∀ a, (k0_off183 v18 k0_t4 k0_t6) a + S1x512x256.size a ≤ S2x1536x5120.size a) ∧
  (∀ (k0_t4 : Fin (k0_t4_loop v18).trips) (k0_t6 : Fin k0_t6_loop.trips), ∀ a, (k0_off186 v18 k0_t4 k0_t6) a + S1x512x256.size a ≤ S2x1536x5120.size a) ∧
  (∀ (k0_t4 : Fin (k0_t4_loop v18).trips) (k0_t6 : Fin k0_t6_loop.trips), ∀ a, (k0_off189 v18 k0_t4 k0_t6) a + S1x512x256.size a ≤ S2x1536x5120.size a) ∧
  (∀ (k0_t4 : Fin (k0_t4_loop v18).trips) (k0_t6 : Fin k0_t6_loop.trips), ∀ a, (k0_off192 v18 k0_t4 k0_t6) a + S1x512x256.size a ≤ S2x1536x5120.size a) ∧
  (∀ (k0_t4 : Fin (k0_t4_loop v18).trips) (k0_t6 : Fin k0_t6_loop.trips), ∀ a, (k0_off195 v18 k0_t4 k0_t6) a + S1x512x256.size a ≤ S2x1536x5120.size a)
def k0_chk2 (v18 : BitVec 32) : Prop :=
  k0_chk2_0 v18 ∧
  k0_chk2_1 v18 ∧
  k0_chk2_2 v18
theorem k0_t1_ok : ∀ (v18 : BitVec 32) (k0_hw2 : k0_chk2 v18), (k0_t1_loop v18).OK := fun v18 k0_hw2 => k0_hw2.1.1
theorem k0_off8_inb : ∀ (v18 : BitVec 32) (k0_hw2 : k0_chk2 v18) (k0_t1 : Fin (k0_t1_loop v18).trips), ∀ a, (k0_off8 v18 k0_t1) a + S1.size a ≤ S17.size a := fun v18 k0_hw2 k0_t1 => k0_hw2.1.2.1 k0_t1
theorem k0_off9_inb : ∀ (v18 : BitVec 32) (k0_hw2 : k0_chk2 v18) (k0_t1 : Fin (k0_t1_loop v18).trips), ∀ a, (k0_off9 v18 k0_t1) a + S1.size a ≤ S17.size a := fun v18 k0_hw2 k0_t1 => k0_hw2.1.2.2.1 k0_t1
theorem k0_off11_inb : ∀ (v18 : BitVec 32) (k0_hw2 : k0_chk2 v18) (k0_t1 : Fin (k0_t1_loop v18).trips) (k0_t2 : Fin k0_t2_loop.trips), ∀ (k0_h1 : k0_cond1 v18 k0_t1 = 1#1), ∀ a, (k0_off11 v18 k0_t1 k0_t2) a + S1x1.size a ≤ S2x4.size a := fun v18 k0_hw2 k0_t1 k0_t2 k0_h1 => k0_hw2.1.2.2.2.1 k0_t1 k0_t2 k0_h1
theorem k0_off12_inb : ∀ (v18 : BitVec 32) (k0_hw2 : k0_chk2 v18) (k0_t1 : Fin (k0_t1_loop v18).trips) (k0_t2 : Fin k0_t2_loop.trips), ∀ (k0_h1 : k0_cond1 v18 k0_t1 = 1#1), ∀ a, (k0_off12 v18 k0_t1 k0_t2) a + S1x1280x1536.size a ≤ S2x5120x1536.size a := fun v18 k0_hw2 k0_t1 k0_t2 k0_h1 => k0_hw2.1.2.2.2.2.1 k0_t1 k0_t2 k0_h1
theorem k0_off12_wordsfp8e4m3 : ∀ (v18 : BitVec 32) (k0_hw2 : k0_chk2 v18) (k0_t1 : Fin (k0_t1_loop v18).trips) (k0_t2 : Fin k0_t2_loop.trips), ∀ (k0_h1 : k0_cond1 v18 k0_t1 = 1#1), (Rect.unit (s := S2x5120x1536) (k0_off12 v18 k0_t1 k0_t2) S1x1280x1536.size (k0_off12_inb v18 k0_hw2 k0_t1 k0_t2 k0_h1)).WholeWords (EltTy.packing .fp8e4m3) := fun v18 k0_hw2 k0_t1 k0_t2 k0_h1 => k0_hw2.1.2.2.2.2.2.1 k0_t1 k0_t2 k0_h1 (k0_off12_inb v18 k0_hw2 k0_t1 k0_t2 k0_h1)
theorem k0_off14_inb : ∀ (v18 : BitVec 32) (k0_hw2 : k0_chk2 v18) (k0_t1 : Fin (k0_t1_loop v18).trips) (k0_t2 : Fin k0_t2_loop.trips), ∀ a, (k0_off14 v18 k0_t1 k0_t2) a + S1x1.size a ≤ S2x4.size a := fun v18 k0_hw2 k0_t1 k0_t2 => k0_hw2.1.2.2.2.2.2.2.1 k0_t1 k0_t2
theorem k0_off15_inb : ∀ (v18 : BitVec 32) (k0_hw2 : k0_chk2 v18) (k0_t1 : Fin (k0_t1_loop v18).trips) (k0_t2 : Fin k0_t2_loop.trips), ∀ a, (k0_off15 v18 k0_t1 k0_t2) a + S1x1280x1536.size a ≤ S2x5120x1536.size a := fun v18 k0_hw2 k0_t1 k0_t2 => k0_hw2.1.2.2.2.2.2.2.2.1 k0_t1 k0_t2
theorem k0_off15_wordsfp8e4m3 : ∀ (v18 : BitVec 32) (k0_hw2 : k0_chk2 v18) (k0_t1 : Fin (k0_t1_loop v18).trips) (k0_t2 : Fin k0_t2_loop.trips), (Rect.unit (s := S2x5120x1536) (k0_off15 v18 k0_t1 k0_t2) S1x1280x1536.size (k0_off15_inb v18 k0_hw2 k0_t1 k0_t2)).WholeWords (EltTy.packing .fp8e4m3) := fun v18 k0_hw2 k0_t1 k0_t2 => k0_hw2.1.2.2.2.2.2.2.2.2.1 k0_t1 k0_t2 (k0_off15_inb v18 k0_hw2 k0_t1 k0_t2)
theorem k0_off18_inb : ∀ (v18 : BitVec 32) (k0_hw2 : k0_chk2 v18) (k0_t1 : Fin (k0_t1_loop v18).trips) (k0_t2 : Fin k0_t2_loop.trips), ∀ a, (k0_off18 v18 k0_t1 k0_t2) a + S1x1280x256.size a ≤ S2x5120x1536.size a := fun v18 k0_hw2 k0_t1 k0_t2 => k0_hw2.1.2.2.2.2.2.2.2.2.2.1 k0_t1 k0_t2
theorem k0_off21_inb : ∀ (v18 : BitVec 32) (k0_hw2 : k0_chk2 v18) (k0_t1 : Fin (k0_t1_loop v18).trips) (k0_t2 : Fin k0_t2_loop.trips), ∀ a, (k0_off21 v18 k0_t1 k0_t2) a + S1x1280x256.size a ≤ S2x5120x1536.size a := fun v18 k0_hw2 k0_t1 k0_t2 => k0_hw2.1.2.2.2.2.2.2.2.2.2.2.1 k0_t1 k0_t2
theorem k0_off24_inb : ∀ (v18 : BitVec 32) (k0_hw2 : k0_chk2 v18) (k0_t1 : Fin (k0_t1_loop v18).trips) (k0_t2 : Fin k0_t2_loop.trips), ∀ a, (k0_off24 v18 k0_t1 k0_t2) a + S1x1280x256.size a ≤ S2x5120x1536.size a := fun v18 k0_hw2 k0_t1 k0_t2 => k0_hw2.1.2.2.2.2.2.2.2.2.2.2.2.1 k0_t1 k0_t2
theorem k0_off27_inb : ∀ (v18 : BitVec 32) (k0_hw2 : k0_chk2 v18) (k0_t1 : Fin (k0_t1_loop v18).trips) (k0_t2 : Fin k0_t2_loop.trips), ∀ a, (k0_off27 v18 k0_t1 k0_t2) a + S1x1280x256.size a ≤ S2x5120x1536.size a := fun v18 k0_hw2 k0_t1 k0_t2 => k0_hw2.1.2.2.2.2.2.2.2.2.2.2.2.2.1 k0_t1 k0_t2
theorem k0_off30_inb : ∀ (v18 : BitVec 32) (k0_hw2 : k0_chk2 v18) (k0_t1 : Fin (k0_t1_loop v18).trips) (k0_t2 : Fin k0_t2_loop.trips), ∀ a, (k0_off30 v18 k0_t1 k0_t2) a + S1x1280x256.size a ≤ S2x5120x1536.size a := fun v18 k0_hw2 k0_t1 k0_t2 => k0_hw2.1.2.2.2.2.2.2.2.2.2.2.2.2.2.1 k0_t1 k0_t2
theorem k0_off33_inb : ∀ (v18 : BitVec 32) (k0_hw2 : k0_chk2 v18) (k0_t1 : Fin (k0_t1_loop v18).trips) (k0_t2 : Fin k0_t2_loop.trips), ∀ a, (k0_off33 v18 k0_t1 k0_t2) a + S1x1280x256.size a ≤ S2x5120x1536.size a := fun v18 k0_hw2 k0_t1 k0_t2 => k0_hw2.1.2.2.2.2.2.2.2.2.2.2.2.2.2.2.1 k0_t1 k0_t2
theorem k0_off36_inb : ∀ (v18 : BitVec 32) (k0_hw2 : k0_chk2 v18) (k0_t1 : Fin (k0_t1_loop v18).trips) (k0_t3 : Fin k0_t3_loop.trips), ∀ (k0_h2 : k0_cond2 v18 k0_t1 = 1#1), ∀ a, (k0_off36 v18 k0_t1 k0_t3) a + S1x1.size a ≤ S2x3.size a := fun v18 k0_hw2 k0_t1 k0_t3 k0_h2 => k0_hw2.1.2.2.2.2.2.2.2.2.2.2.2.2.2.2.2.1 k0_t1 k0_t3 k0_h2
theorem k0_off37_inb : ∀ (v18 : BitVec 32) (k0_hw2 : k0_chk2 v18) (k0_t1 : Fin (k0_t1_loop v18).trips) (k0_t3 : Fin k0_t3_loop.trips), ∀ (k0_h2 : k0_cond2 v18 k0_t1 = 1#1), ∀ a, (k0_off37 v18 k0_t1 k0_t3) a + S1x512x5120.size a ≤ S2x1536x5120.size a := fun v18 k0_hw2 k0_t1 k0_t3 k0_h2 => k0_hw2.1.2.2.2.2.2.2.2.2.2.2.2.2.2.2.2.2.1 k0_t1 k0_t3 k0_h2
theorem k0_off37_wordsfp8e4m3 : ∀ (v18 : BitVec 32) (k0_hw2 : k0_chk2 v18) (k0_t1 : Fin (k0_t1_loop v18).trips) (k0_t3 : Fin k0_t3_loop.trips), ∀ (k0_h2 : k0_cond2 v18 k0_t1 = 1#1), (Rect.unit (s := S2x1536x5120) (k0_off37 v18 k0_t1 k0_t3) S1x512x5120.size (k0_off37_inb v18 k0_hw2 k0_t1 k0_t3 k0_h2)).WholeWords (EltTy.packing .fp8e4m3) := fun v18 k0_hw2 k0_t1 k0_t3 k0_h2 => k0_hw2.1.2.2.2.2.2.2.2.2.2.2.2.2.2.2.2.2.2.1 k0_t1 k0_t3 k0_h2 (k0_off37_inb v18 k0_hw2 k0_t1 k0_t3 k0_h2)
theorem k0_off39_inb : ∀ (v18 : BitVec 32) (k0_hw2 : k0_chk2 v18) (k0_t1 : Fin (k0_t1_loop v18).trips) (k0_t3 : Fin k0_t3_loop.trips), ∀ a, (k0_off39 v18 k0_t1 k0_t3) a + S1x1.size a ≤ S2x3.size a := fun v18 k0_hw2 k0_t1 k0_t3 => k0_hw2.1.2.2.2.2.2.2.2.2.2.2.2.2.2.2.2.2.2.2.1 k0_t1 k0_t3
theorem k0_off40_inb : ∀ (v18 : BitVec 32) (k0_hw2 : k0_chk2 v18) (k0_t1 : Fin (k0_t1_loop v18).trips) (k0_t3 : Fin k0_t3_loop.trips), ∀ a, (k0_off40 v18 k0_t1 k0_t3) a + S1x512x5120.size a ≤ S2x1536x5120.size a := fun v18 k0_hw2 k0_t1 k0_t3 => k0_hw2.1.2.2.2.2.2.2.2.2.2.2.2.2.2.2.2.2.2.2.2.1 k0_t1 k0_t3
theorem k0_off40_wordsfp8e4m3 : ∀ (v18 : BitVec 32) (k0_hw2 : k0_chk2 v18) (k0_t1 : Fin (k0_t1_loop v18).trips) (k0_t3 : Fin k0_t3_loop.trips), (Rect.unit (s := S2x1536x5120) (k0_off40 v18 k0_t1 k0_t3) S1x512x5120.size (k0_off40_inb v18 k0_hw2 k0_t1 k0_t3)).WholeWords (EltTy.packing .fp8e4m3) := fun v18 k0_hw2 k0_t1 k0_t3 => k0_hw2.1.2.2.2.2.2.2.2.2.2.2.2.2.2.2.2.2.2.2.2.2.1 k0_t1 k0_t3 (k0_off40_inb v18 k0_hw2 k0_t1 k0_t3)
theorem k0_off43_inb : ∀ (v18 : BitVec 32) (k0_hw2 : k0_chk2 v18) (k0_t1 : Fin (k0_t1_loop v18).trips) (k0_t3 : Fin k0_t3_loop.trips), ∀ a, (k0_off43 v18 k0_t1 k0_t3) a + S1x512x256.size a ≤ S2x1536x5120.size a := fun v18 k0_hw2 k0_t1 k0_t3 => k0_hw2.1.2.2.2.2.2.2.2.2.2.2.2.2.2.2.2.2.2.2.2.2.2.1 k0_t1 k0_t3
theorem k0_off46_inb : ∀ (v18 : BitVec 32) (k0_hw2 : k0_chk2 v18) (k0_t1 : Fin (k0_t1_loop v18).trips) (k0_t3 : Fin k0_t3_loop.trips), ∀ a, (k0_off46 v18 k0_t1 k0_t3) a + S1x512x256.size a ≤ S2x1536x5120.size a := fun v18 k0_hw2 k0_t1 k0_t3 => k0_hw2.1.2.2.2.2.2.2.2.2.2.2.2.2.2.2.2.2.2.2.2.2.2.2.1 k0_t1 k0_t3
theorem k0_off49_inb : ∀ (v18 : BitVec 32) (k0_hw2 : k0_chk2 v18) (k0_t1 : Fin (k0_t1_loop v18).trips) (k0_t3 : Fin k0_t3_loop.trips), ∀ a, (k0_off49 v18 k0_t1 k0_t3) a + S1x512x256.size a ≤ S2x1536x5120.size a := fun v18 k0_hw2 k0_t1 k0_t3 => k0_hw2.1.2.2.2.2.2.2.2.2.2.2.2.2.2.2.2.2.2.2.2.2.2.2.2.1 k0_t1 k0_t3
theorem k0_off52_inb : ∀ (v18 : BitVec 32) (k0_hw2 : k0_chk2 v18) (k0_t1 : Fin (k0_t1_loop v18).trips) (k0_t3 : Fin k0_t3_loop.trips), ∀ a, (k0_off52 v18 k0_t1 k0_t3) a + S1x512x256.size a ≤ S2x1536x5120.size a := fun v18 k0_hw2 k0_t1 k0_t3 => k0_hw2.1.2.2.2.2.2.2.2.2.2.2.2.2.2.2.2.2.2.2.2.2.2.2.2.2.1 k0_t1 k0_t3
theorem k0_off55_inb : ∀ (v18 : BitVec 32) (k0_hw2 : k0_chk2 v18) (k0_t1 : Fin (k0_t1_loop v18).trips) (k0_t3 : Fin k0_t3_loop.trips), ∀ a, (k0_off55 v18 k0_t1 k0_t3) a + S1x512x256.size a ≤ S2x1536x5120.size a := fun v18 k0_hw2 k0_t1 k0_t3 => k0_hw2.1.2.2.2.2.2.2.2.2.2.2.2.2.2.2.2.2.2.2.2.2.2.2.2.2.2.1 k0_t1 k0_t3
theorem k0_off58_inb : ∀ (v18 : BitVec 32) (k0_hw2 : k0_chk2 v18) (k0_t1 : Fin (k0_t1_loop v18).trips) (k0_t3 : Fin k0_t3_loop.trips), ∀ a, (k0_off58 v18 k0_t1 k0_t3) a + S1x512x256.size a ≤ S2x1536x5120.size a := fun v18 k0_hw2 k0_t1 k0_t3 => k0_hw2.1.2.2.2.2.2.2.2.2.2.2.2.2.2.2.2.2.2.2.2.2.2.2.2.2.2.2.1 k0_t1 k0_t3
theorem k0_off61_inb : ∀ (v18 : BitVec 32) (k0_hw2 : k0_chk2 v18) (k0_t1 : Fin (k0_t1_loop v18).trips) (k0_t3 : Fin k0_t3_loop.trips), ∀ a, (k0_off61 v18 k0_t1 k0_t3) a + S1x512x256.size a ≤ S2x1536x5120.size a := fun v18 k0_hw2 k0_t1 k0_t3 => k0_hw2.1.2.2.2.2.2.2.2.2.2.2.2.2.2.2.2.2.2.2.2.2.2.2.2.2.2.2.2.1 k0_t1 k0_t3
theorem k0_off64_inb : ∀ (v18 : BitVec 32) (k0_hw2 : k0_chk2 v18) (k0_t1 : Fin (k0_t1_loop v18).trips) (k0_t3 : Fin k0_t3_loop.trips), ∀ a, (k0_off64 v18 k0_t1 k0_t3) a + S1x512x256.size a ≤ S2x1536x5120.size a := fun v18 k0_hw2 k0_t1 k0_t3 => k0_hw2.1.2.2.2.2.2.2.2.2.2.2.2.2.2.2.2.2.2.2.2.2.2.2.2.2.2.2.2.2.1 k0_t1 k0_t3
theorem k0_off67_inb : ∀ (v18 : BitVec 32) (k0_hw2 : k0_chk2 v18) (k0_t1 : Fin (k0_t1_loop v18).trips) (k0_t3 : Fin k0_t3_loop.trips), ∀ a, (k0_off67 v18 k0_t1 k0_t3) a + S1x512x256.size a ≤ S2x1536x5120.size a := fun v18 k0_hw2 k0_t1 k0_t3 => k0_hw2.1.2.2.2.2.2.2.2.2.2.2.2.2.2.2.2.2.2.2.2.2.2.2.2.2.2.2.2.2.2.1 k0_t1 k0_t3
theorem k0_off70_inb : ∀ (v18 : BitVec 32) (k0_hw2 : k0_chk2 v18) (k0_t1 : Fin (k0_t1_loop v18).trips) (k0_t3 : Fin k0_t3_loop.trips), ∀ a, (k0_off70 v18 k0_t1 k0_t3) a + S1x512x256.size a ≤ S2x1536x5120.size a := fun v18 k0_hw2 k0_t1 k0_t3 => k0_hw2.1.2.2.2.2.2.2.2.2.2.2.2.2.2.2.2.2.2.2.2.2.2.2.2.2.2.2.2.2.2.2.1 k0_t1 k0_t3
theorem k0_off73_inb : ∀ (v18 : BitVec 32) (k0_hw2 : k0_chk2 v18) (k0_t1 : Fin (k0_t1_loop v18).trips) (k0_t3 : Fin k0_t3_loop.trips), ∀ a, (k0_off73 v18 k0_t1 k0_t3) a + S1x512x256.size a ≤ S2x1536x5120.size a := fun v18 k0_hw2 k0_t1 k0_t3 => k0_hw2.1.2.2.2.2.2.2.2.2.2.2.2.2.2.2.2.2.2.2.2.2.2.2.2.2.2.2.2.2.2.2.2 k0_t1 k0_t3
theorem k0_off76_inb : ∀ (v18 : BitVec 32) (k0_hw2 : k0_chk2 v18) (k0_t1 : Fin (k0_t1_loop v18).trips) (k0_t3 : Fin k0_t3_loop.trips), ∀ a, (k0_off76 v18 k0_t1 k0_t3) a + S1x512x256.size a ≤ S2x1536x5120.size a := fun v18 k0_hw2 k0_t1 k0_t3 => k0_hw2.2.1.1 k0_t1 k0_t3
theorem k0_off79_inb : ∀ (v18 : BitVec 32) (k0_hw2 : k0_chk2 v18) (k0_t1 : Fin (k0_t1_loop v18).trips) (k0_t3 : Fin k0_t3_loop.trips), ∀ a, (k0_off79 v18 k0_t1 k0_t3) a + S1x512x256.size a ≤ S2x1536x5120.size a := fun v18 k0_hw2 k0_t1 k0_t3 => k0_hw2.2.1.2.1 k0_t1 k0_t3
theorem k0_off82_inb : ∀ (v18 : BitVec 32) (k0_hw2 : k0_chk2 v18) (k0_t1 : Fin (k0_t1_loop v18).trips) (k0_t3 : Fin k0_t3_loop.trips), ∀ a, (k0_off82 v18 k0_t1 k0_t3) a + S1x512x256.size a ≤ S2x1536x5120.size a := fun v18 k0_hw2 k0_t1 k0_t3 => k0_hw2.2.1.2.2.1 k0_t1 k0_t3
theorem k0_off85_inb : ∀ (v18 : BitVec 32) (k0_hw2 : k0_chk2 v18) (k0_t1 : Fin (k0_t1_loop v18).trips) (k0_t3 : Fin k0_t3_loop.trips), ∀ a, (k0_off85 v18 k0_t1 k0_t3) a + S1x512x256.size a ≤ S2x1536x5120.size a := fun v18 k0_hw2 k0_t1 k0_t3 => k0_hw2.2.1.2.2.2.1 k0_t1 k0_t3
theorem k0_off88_inb : ∀ (v18 : BitVec 32) (k0_hw2 : k0_chk2 v18) (k0_t1 : Fin (k0_t1_loop v18).trips) (k0_t3 : Fin k0_t3_loop.trips), ∀ a, (k0_off88 v18 k0_t1 k0_t3) a + S1x512x256.size a ≤ S2x1536x5120.size a := fun v18 k0_hw2 k0_t1 k0_t3 => k0_hw2.2.1.2.2.2.2.1 k0_t1 k0_t3
theorem k0_off91_inb : ∀ (v18 : BitVec 32) (k0_hw2 : k0_chk2 v18) (k0_t1 : Fin (k0_t1_loop v18).trips) (k0_t3 : Fin k0_t3_loop.trips), ∀ a, (k0_off91 v18 k0_t1 k0_t3) a + S1x512x256.size a ≤ S2x1536x5120.size a := fun v18 k0_hw2 k0_t1 k0_t3 => k0_hw2.2.1.2.2.2.2.2.1 k0_t1 k0_t3
theorem k0_off94_inb : ∀ (v18 : BitVec 32) (k0_hw2 : k0_chk2 v18) (k0_t1 : Fin (k0_t1_loop v18).trips) (k0_t3 : Fin k0_t3_loop.trips), ∀ a, (k0_off94 v18 k0_t1 k0_t3) a + S1x512x256.size a ≤ S2x1536x5120.size a := fun v18 k0_hw2 k0_t1 k0_t3 => k0_hw2.2.1.2.2.2.2.2.2.1 k0_t1 k0_t3
theorem k0_off97_inb : ∀ (v18 : BitVec 32) (k0_hw2 : k0_chk2 v18) (k0_t1 : Fin (k0_t1_loop v18).trips) (k0_t3 : Fin k0_t3_loop.trips), ∀ a, (k0_off97 v18 k0_t1 k0_t3) a + S1x512x256.size a ≤ S2x1536x5120.size a := fun v18 k0_hw2 k0_t1 k0_t3 => k0_hw2.2.1.2.2.2.2.2.2.2.1 k0_t1 k0_t3
theorem k0_off100_inb : ∀ (v18 : BitVec 32) (k0_hw2 : k0_chk2 v18) (k0_t1 : Fin (k0_t1_loop v18).trips) (k0_t3 : Fin k0_t3_loop.trips), ∀ a, (k0_off100 v18 k0_t1 k0_t3) a + S1x512x256.size a ≤ S2x1536x5120.size a := fun v18 k0_hw2 k0_t1 k0_t3 => k0_hw2.2.1.2.2.2.2.2.2.2.2.1 k0_t1 k0_t3
theorem k0_t4_ok : ∀ (v18 : BitVec 32) (k0_hw2 : k0_chk2 v18), (k0_t4_loop v18).OK := fun v18 k0_hw2 => k0_hw2.2.1.2.2.2.2.2.2.2.2.2.1
theorem k0_off103_inb : ∀ (v18 : BitVec 32) (k0_hw2 : k0_chk2 v18) (k0_t4 : Fin (k0_t4_loop v18).trips), ∀ a, (k0_off103 v18 k0_t4) a + S1.size a ≤ S17.size a := fun v18 k0_hw2 k0_t4 => k0_hw2.2.1.2.2.2.2.2.2.2.2.2.2.1 k0_t4
theorem k0_off104_inb : ∀ (v18 : BitVec 32) (k0_hw2 : k0_chk2 v18) (k0_t4 : Fin (k0_t4_loop v18).trips), ∀ a, (k0_off104 v18 k0_t4) a + S1.size a ≤ S17.size a := fun v18 k0_hw2 k0_t4 => k0_hw2.2.1.2.2.2.2.2.2.2.2.2.2.2.1 k0_t4
theorem k0_off106_inb : ∀ (v18 : BitVec 32) (k0_hw2 : k0_chk2 v18) (k0_t4 : Fin (k0_t4_loop v18).trips) (k0_t5 : Fin k0_t5_loop.trips), ∀ (k0_h3 : k0_cond3 v18 k0_t4 = 1#1), ∀ a, (k0_off106 v18 k0_t4 k0_t5) a + S1x1.size a ≤ S2x4.size a := fun v18 k0_hw2 k0_t4 k0_t5 k0_h3 => k0_hw2.2.1.2.2.2.2.2.2.2.2.2.2.2.2.1 k0_t4 k0_t5 k0_h3
theorem k0_off107_inb : ∀ (v18 : BitVec 32) (k0_hw2 : k0_chk2 v18) (k0_t4 : Fin (k0_t4_loop v18).trips) (k0_t5 : Fin k0_t5_loop.trips), ∀ (k0_h3 : k0_cond3 v18 k0_t4 = 1#1), ∀ a, (k0_off107 v18 k0_t4 k0_t5) a + S1x1280x1536.size a ≤ S2x5120x1536.size a := fun v18 k0_hw2 k0_t4 k0_t5 k0_h3 => k0_hw2.2.1.2.2.2.2.2.2.2.2.2.2.2.2.2.1 k0_t4 k0_t5 k0_h3
theorem k0_off107_wordsfp8e4m3 : ∀ (v18 : BitVec 32) (k0_hw2 : k0_chk2 v18) (k0_t4 : Fin (k0_t4_loop v18).trips) (k0_t5 : Fin k0_t5_loop.trips), ∀ (k0_h3 : k0_cond3 v18 k0_t4 = 1#1), (Rect.unit (s := S2x5120x1536) (k0_off107 v18 k0_t4 k0_t5) S1x1280x1536.size (k0_off107_inb v18 k0_hw2 k0_t4 k0_t5 k0_h3)).WholeWords (EltTy.packing .fp8e4m3) := fun v18 k0_hw2 k0_t4 k0_t5 k0_h3 => k0_hw2.2.1.2.2.2.2.2.2.2.2.2.2.2.2.2.2.1 k0_t4 k0_t5 k0_h3 (k0_off107_inb v18 k0_hw2 k0_t4 k0_t5 k0_h3)
theorem k0_off109_inb : ∀ (v18 : BitVec 32) (k0_hw2 : k0_chk2 v18) (k0_t4 : Fin (k0_t4_loop v18).trips) (k0_t5 : Fin k0_t5_loop.trips), ∀ a, (k0_off109 v18 k0_t4 k0_t5) a + S1x1.size a ≤ S2x4.size a := fun v18 k0_hw2 k0_t4 k0_t5 => k0_hw2.2.1.2.2.2.2.2.2.2.2.2.2.2.2.2.2.2.1 k0_t4 k0_t5
theorem k0_off110_inb : ∀ (v18 : BitVec 32) (k0_hw2 : k0_chk2 v18) (k0_t4 : Fin (k0_t4_loop v18).trips) (k0_t5 : Fin k0_t5_loop.trips), ∀ a, (k0_off110 v18 k0_t4 k0_t5) a + S1x1280x1536.size a ≤ S2x5120x1536.size a := fun v18 k0_hw2 k0_t4 k0_t5 => k0_hw2.2.1.2.2.2.2.2.2.2.2.2.2.2.2.2.2.2.2.1 k0_t4 k0_t5
theorem k0_off110_wordsfp8e4m3 : ∀ (v18 : BitVec 32) (k0_hw2 : k0_chk2 v18) (k0_t4 : Fin (k0_t4_loop v18).trips) (k0_t5 : Fin k0_t5_loop.trips), (Rect.unit (s := S2x5120x1536) (k0_off110 v18 k0_t4 k0_t5) S1x1280x1536.size (k0_off110_inb v18 k0_hw2 k0_t4 k0_t5)).WholeWords (EltTy.packing .fp8e4m3) := fun v18 k0_hw2 k0_t4 k0_t5 => k0_hw2.2.1.2.2.2.2.2.2.2.2.2.2.2.2.2.2.2.2.2.1 k0_t4 k0_t5 (k0_off110_inb v18 k0_hw2 k0_t4 k0_t5)
theorem k0_off113_inb : ∀ (v18 : BitVec 32) (k0_hw2 : k0_chk2 v18) (k0_t4 : Fin (k0_t4_loop v18).trips) (k0_t5 : Fin k0_t5_loop.trips), ∀ a, (k0_off113 v18 k0_t4 k0_t5) a + S1x1280x256.size a ≤ S2x5120x1536.size a := fun v18 k0_hw2 k0_t4 k0_t5 => k0_hw2.2.1.2.2.2.2.2.2.2.2.2.2.2.2.2.2.2.2.2.2.1 k0_t4 k0_t5
theorem k0_off116_inb : ∀ (v18 : BitVec 32) (k0_hw2 : k0_chk2 v18) (k0_t4 : Fin (k0_t4_loop v18).trips) (k0_t5 : Fin k0_t5_loop.trips), ∀ a, (k0_off116 v18 k0_t4 k0_t5) a + S1x1280x256.size a ≤ S2x5120x1536.size a := fun v18 k0_hw2 k0_t4 k0_t5 => k0_hw2.2.1.2.2.2.2.2.2.2.2.2.2.2.2.2.2.2.2.2.2.2.1 k0_t4 k0_t5
theorem k0_off119_inb : ∀ (v18 : BitVec 32) (k0_hw2 : k0_chk2 v18) (k0_t4 : Fin (k0_t4_loop v18).trips) (k0_t5 : Fin k0_t5_loop.trips), ∀ a, (k0_off119 v18 k0_t4 k0_t5) a + S1x1280x256.size a ≤ S2x5120x1536.size a := fun v18 k0_hw2 k0_t4 k0_t5 => k0_hw2.2.1.2.2.2.2.2.2.2.2.2.2.2.2.2.2.2.2.2.2.2.2.1 k0_t4 k0_t5
theorem k0_off122_inb : ∀ (v18 : BitVec 32) (k0_hw2 : k0_chk2 v18) (k0_t4 : Fin (k0_t4_loop v18).trips) (k0_t5 : Fin k0_t5_loop.trips), ∀ a, (k0_off122 v18 k0_t4 k0_t5) a + S1x1280x256.size a ≤ S2x5120x1536.size a := fun v18 k0_hw2 k0_t4 k0_t5 => k0_hw2.2.1.2.2.2.2.2.2.2.2.2.2.2.2.2.2.2.2.2.2.2.2.2.1 k0_t4 k0_t5
theorem k0_off125_inb : ∀ (v18 : BitVec 32) (k0_hw2 : k0_chk2 v18) (k0_t4 : Fin (k0_t4_loop v18).trips) (k0_t5 : Fin k0_t5_loop.trips), ∀ a, (k0_off125 v18 k0_t4 k0_t5) a + S1x1280x256.size a ≤ S2x5120x1536.size a := fun v18 k0_hw2 k0_t4 k0_t5 => k0_hw2.2.1.2.2.2.2.2.2.2.2.2.2.2.2.2.2.2.2.2.2.2.2.2.2.1 k0_t4 k0_t5
theorem k0_off128_inb : ∀ (v18 : BitVec 32) (k0_hw2 : k0_chk2 v18) (k0_t4 : Fin (k0_t4_loop v18).trips) (k0_t5 : Fin k0_t5_loop.trips), ∀ a, (k0_off128 v18 k0_t4 k0_t5) a + S1x1280x256.size a ≤ S2x5120x1536.size a := fun v18 k0_hw2 k0_t4 k0_t5 => k0_hw2.2.1.2.2.2.2.2.2.2.2.2.2.2.2.2.2.2.2.2.2.2.2.2.2.2.1 k0_t4 k0_t5
theorem k0_off131_inb : ∀ (v18 : BitVec 32) (k0_hw2 : k0_chk2 v18) (k0_t4 : Fin (k0_t4_loop v18).trips) (k0_t6 : Fin k0_t6_loop.trips), ∀ (k0_h4 : k0_cond4 v18 k0_t4 = 1#1), ∀ a, (k0_off131 v18 k0_t4 k0_t6) a + S1x1.size a ≤ S2x3.size a := fun v18 k0_hw2 k0_t4 k0_t6 k0_h4 => k0_hw2.2.1.2.2.2.2.2.2.2.2.2.2.2.2.2.2.2.2.2.2.2.2.2.2.2.2.1 k0_t4 k0_t6 k0_h4
theorem k0_off132_inb : ∀ (v18 : BitVec 32) (k0_hw2 : k0_chk2 v18) (k0_t4 : Fin (k0_t4_loop v18).trips) (k0_t6 : Fin k0_t6_loop.trips), ∀ (k0_h4 : k0_cond4 v18 k0_t4 = 1#1), ∀ a, (k0_off132 v18 k0_t4 k0_t6) a + S1x512x5120.size a ≤ S2x1536x5120.size a := fun v18 k0_hw2 k0_t4 k0_t6 k0_h4 => k0_hw2.2.1.2.2.2.2.2.2.2.2.2.2.2.2.2.2.2.2.2.2.2.2.2.2.2.2.2.1 k0_t4 k0_t6 k0_h4
theorem k0_off132_wordsfp8e4m3 : ∀ (v18 : BitVec 32) (k0_hw2 : k0_chk2 v18) (k0_t4 : Fin (k0_t4_loop v18).trips) (k0_t6 : Fin k0_t6_loop.trips), ∀ (k0_h4 : k0_cond4 v18 k0_t4 = 1#1), (Rect.unit (s := S2x1536x5120) (k0_off132 v18 k0_t4 k0_t6) S1x512x5120.size (k0_off132_inb v18 k0_hw2 k0_t4 k0_t6 k0_h4)).WholeWords (EltTy.packing .fp8e4m3) := fun v18 k0_hw2 k0_t4 k0_t6 k0_h4 => k0_hw2.2.1.2.2.2.2.2.2.2.2.2.2.2.2.2.2.2.2.2.2.2.2.2.2.2.2.2.2.1 k0_t4 k0_t6 k0_h4 (k0_off132_inb v18 k0_hw2 k0_t4 k0_t6 k0_h4)
theorem k0_off134_inb : ∀ (v18 : BitVec 32) (k0_hw2 : k0_chk2 v18) (k0_t4 : Fin (k0_t4_loop v18).trips) (k0_t6 : Fin k0_t6_loop.trips), ∀ a, (k0_off134 v18 k0_t4 k0_t6) a + S1x1.size a ≤ S2x3.size a := fun v18 k0_hw2 k0_t4 k0_t6 => k0_hw2.2.1.2.2.2.2.2.2.2.2.2.2.2.2.2.2.2.2.2.2.2.2.2.2.2.2.2.2.2.1 k0_t4 k0_t6
theorem k0_off135_inb : ∀ (v18 : BitVec 32) (k0_hw2 : k0_chk2 v18) (k0_t4 : Fin (k0_t4_loop v18).trips) (k0_t6 : Fin k0_t6_loop.trips), ∀ a, (k0_off135 v18 k0_t4 k0_t6) a + S1x512x5120.size a ≤ S2x1536x5120.size a := fun v18 k0_hw2 k0_t4 k0_t6 => k0_hw2.2.1.2.2.2.2.2.2.2.2.2.2.2.2.2.2.2.2.2.2.2.2.2.2.2.2.2.2.2.2.1 k0_t4 k0_t6
theorem k0_off135_wordsfp8e4m3 : ∀ (v18 : BitVec 32) (k0_hw2 : k0_chk2 v18) (k0_t4 : Fin (k0_t4_loop v18).trips) (k0_t6 : Fin k0_t6_loop.trips), (Rect.unit (s := S2x1536x5120) (k0_off135 v18 k0_t4 k0_t6) S1x512x5120.size (k0_off135_inb v18 k0_hw2 k0_t4 k0_t6)).WholeWords (EltTy.packing .fp8e4m3) := fun v18 k0_hw2 k0_t4 k0_t6 => k0_hw2.2.1.2.2.2.2.2.2.2.2.2.2.2.2.2.2.2.2.2.2.2.2.2.2.2.2.2.2.2.2.2.1 k0_t4 k0_t6 (k0_off135_inb v18 k0_hw2 k0_t4 k0_t6)
theorem k0_off138_inb : ∀ (v18 : BitVec 32) (k0_hw2 : k0_chk2 v18) (k0_t4 : Fin (k0_t4_loop v18).trips) (k0_t6 : Fin k0_t6_loop.trips), ∀ a, (k0_off138 v18 k0_t4 k0_t6) a + S1x512x256.size a ≤ S2x1536x5120.size a := fun v18 k0_hw2 k0_t4 k0_t6 => k0_hw2.2.1.2.2.2.2.2.2.2.2.2.2.2.2.2.2.2.2.2.2.2.2.2.2.2.2.2.2.2.2.2.2.1 k0_t4 k0_t6
theorem k0_off141_inb : ∀ (v18 : BitVec 32) (k0_hw2 : k0_chk2 v18) (k0_t4 : Fin (k0_t4_loop v18).trips) (k0_t6 : Fin k0_t6_loop.trips), ∀ a, (k0_off141 v18 k0_t4 k0_t6) a + S1x512x256.size a ≤ S2x1536x5120.size a := fun v18 k0_hw2 k0_t4 k0_t6 => k0_hw2.2.1.2.2.2.2.2.2.2.2.2.2.2.2.2.2.2.2.2.2.2.2.2.2.2.2.2.2.2.2.2.2.2 k0_t4 k0_t6
theorem k0_off144_inb : ∀ (v18 : BitVec 32) (k0_hw2 : k0_chk2 v18) (k0_t4 : Fin (k0_t4_loop v18).trips) (k0_t6 : Fin k0_t6_loop.trips), ∀ a, (k0_off144 v18 k0_t4 k0_t6) a + S1x512x256.size a ≤ S2x1536x5120.size a := fun v18 k0_hw2 k0_t4 k0_t6 => k0_hw2.2.2.1 k0_t4 k0_t6
theorem k0_off147_inb : ∀ (v18 : BitVec 32) (k0_hw2 : k0_chk2 v18) (k0_t4 : Fin (k0_t4_loop v18).trips) (k0_t6 : Fin k0_t6_loop.trips), ∀ a, (k0_off147 v18 k0_t4 k0_t6) a + S1x512x256.size a ≤ S2x1536x5120.size a := fun v18 k0_hw2 k0_t4 k0_t6 => k0_hw2.2.2.2.1 k0_t4 k0_t6
theorem k0_off150_inb : ∀ (v18 : BitVec 32) (k0_hw2 : k0_chk2 v18) (k0_t4 : Fin (k0_t4_loop v18).trips) (k0_t6 : Fin k0_t6_loop.trips), ∀ a, (k0_off150 v18 k0_t4 k0_t6) a + S1x512x256.size a ≤ S2x1536x5120.size a := fun v18 k0_hw2 k0_t4 k0_t6 => k0_hw2.2.2.2.2.1 k0_t4 k0_t6
theorem k0_off153_inb : ∀ (v18 : BitVec 32) (k0_hw2 : k0_chk2 v18) (k0_t4 : Fin (k0_t4_loop v18).trips) (k0_t6 : Fin k0_t6_loop.trips), ∀ a, (k0_off153 v18 k0_t4 k0_t6) a + S1x512x256.size a ≤ S2x1536x5120.size a := fun v18 k0_hw2 k0_t4 k0_t6 => k0_hw2.2.2.2.2.2.1 k0_t4 k0_t6
theorem k0_off156_inb : ∀ (v18 : BitVec 32) (k0_hw2 : k0_chk2 v18) (k0_t4 : Fin (k0_t4_loop v18).trips) (k0_t6 : Fin k0_t6_loop.trips), ∀ a, (k0_off156 v18 k0_t4 k0_t6) a + S1x512x256.size a ≤ S2x1536x5120.size a := fun v18 k0_hw2 k0_t4 k0_t6 => k0_hw2.2.2.2.2.2.2.1 k0_t4 k0_t6
theorem k0_off159_inb : ∀ (v18 : BitVec 32) (k0_hw2 : k0_chk2 v18) (k0_t4 : Fin (k0_t4_loop v18).trips) (k0_t6 : Fin k0_t6_loop.trips), ∀ a, (k0_off159 v18 k0_t4 k0_t6) a + S1x512x256.size a ≤ S2x1536x5120.size a := fun v18 k0_hw2 k0_t4 k0_t6 => k0_hw2.2.2.2.2.2.2.2.1 k0_t4 k0_t6
theorem k0_off162_inb : ∀ (v18 : BitVec 32) (k0_hw2 : k0_chk2 v18) (k0_t4 : Fin (k0_t4_loop v18).trips) (k0_t6 : Fin k0_t6_loop.trips), ∀ a, (k0_off162 v18 k0_t4 k0_t6) a + S1x512x256.size a ≤ S2x1536x5120.size a := fun v18 k0_hw2 k0_t4 k0_t6 => k0_hw2.2.2.2.2.2.2.2.2.1 k0_t4 k0_t6
theorem k0_off165_inb : ∀ (v18 : BitVec 32) (k0_hw2 : k0_chk2 v18) (k0_t4 : Fin (k0_t4_loop v18).trips) (k0_t6 : Fin k0_t6_loop.trips), ∀ a, (k0_off165 v18 k0_t4 k0_t6) a + S1x512x256.size a ≤ S2x1536x5120.size a := fun v18 k0_hw2 k0_t4 k0_t6 => k0_hw2.2.2.2.2.2.2.2.2.2.1 k0_t4 k0_t6
theorem k0_off168_inb : ∀ (v18 : BitVec 32) (k0_hw2 : k0_chk2 v18) (k0_t4 : Fin (k0_t4_loop v18).trips) (k0_t6 : Fin k0_t6_loop.trips), ∀ a, (k0_off168 v18 k0_t4 k0_t6) a + S1x512x256.size a ≤ S2x1536x5120.size a := fun v18 k0_hw2 k0_t4 k0_t6 => k0_hw2.2.2.2.2.2.2.2.2.2.2.1 k0_t4 k0_t6
theorem k0_off171_inb : ∀ (v18 : BitVec 32) (k0_hw2 : k0_chk2 v18) (k0_t4 : Fin (k0_t4_loop v18).trips) (k0_t6 : Fin k0_t6_loop.trips), ∀ a, (k0_off171 v18 k0_t4 k0_t6) a + S1x512x256.size a ≤ S2x1536x5120.size a := fun v18 k0_hw2 k0_t4 k0_t6 => k0_hw2.2.2.2.2.2.2.2.2.2.2.2.1 k0_t4 k0_t6
theorem k0_off174_inb : ∀ (v18 : BitVec 32) (k0_hw2 : k0_chk2 v18) (k0_t4 : Fin (k0_t4_loop v18).trips) (k0_t6 : Fin k0_t6_loop.trips), ∀ a, (k0_off174 v18 k0_t4 k0_t6) a + S1x512x256.size a ≤ S2x1536x5120.size a := fun v18 k0_hw2 k0_t4 k0_t6 => k0_hw2.2.2.2.2.2.2.2.2.2.2.2.2.1 k0_t4 k0_t6
theorem k0_off177_inb : ∀ (v18 : BitVec 32) (k0_hw2 : k0_chk2 v18) (k0_t4 : Fin (k0_t4_loop v18).trips) (k0_t6 : Fin k0_t6_loop.trips), ∀ a, (k0_off177 v18 k0_t4 k0_t6) a + S1x512x256.size a ≤ S2x1536x5120.size a := fun v18 k0_hw2 k0_t4 k0_t6 => k0_hw2.2.2.2.2.2.2.2.2.2.2.2.2.2.1 k0_t4 k0_t6
theorem k0_off180_inb : ∀ (v18 : BitVec 32) (k0_hw2 : k0_chk2 v18) (k0_t4 : Fin (k0_t4_loop v18).trips) (k0_t6 : Fin k0_t6_loop.trips), ∀ a, (k0_off180 v18 k0_t4 k0_t6) a + S1x512x256.size a ≤ S2x1536x5120.size a := fun v18 k0_hw2 k0_t4 k0_t6 => k0_hw2.2.2.2.2.2.2.2.2.2.2.2.2.2.2.1 k0_t4 k0_t6
theorem k0_off183_inb : ∀ (v18 : BitVec 32) (k0_hw2 : k0_chk2 v18) (k0_t4 : Fin (k0_t4_loop v18).trips) (k0_t6 : Fin k0_t6_loop.trips), ∀ a, (k0_off183 v18 k0_t4 k0_t6) a + S1x512x256.size a ≤ S2x1536x5120.size a := fun v18 k0_hw2 k0_t4 k0_t6 => k0_hw2.2.2.2.2.2.2.2.2.2.2.2.2.2.2.2.1 k0_t4 k0_t6
theorem k0_off186_inb : ∀ (v18 : BitVec 32) (k0_hw2 : k0_chk2 v18) (k0_t4 : Fin (k0_t4_loop v18).trips) (k0_t6 : Fin k0_t6_loop.trips), ∀ a, (k0_off186 v18 k0_t4 k0_t6) a + S1x512x256.size a ≤ S2x1536x5120.size a := fun v18 k0_hw2 k0_t4 k0_t6 => k0_hw2.2.2.2.2.2.2.2.2.2.2.2.2.2.2.2.2.1 k0_t4 k0_t6
theorem k0_off189_inb : ∀ (v18 : BitVec 32) (k0_hw2 : k0_chk2 v18) (k0_t4 : Fin (k0_t4_loop v18).trips) (k0_t6 : Fin k0_t6_loop.trips), ∀ a, (k0_off189 v18 k0_t4 k0_t6) a + S1x512x256.size a ≤ S2x1536x5120.size a := fun v18 k0_hw2 k0_t4 k0_t6 => k0_hw2.2.2.2.2.2.2.2.2.2.2.2.2.2.2.2.2.2.1 k0_t4 k0_t6
theorem k0_off192_inb : ∀ (v18 : BitVec 32) (k0_hw2 : k0_chk2 v18) (k0_t4 : Fin (k0_t4_loop v18).trips) (k0_t6 : Fin k0_t6_loop.trips), ∀ a, (k0_off192 v18 k0_t4 k0_t6) a + S1x512x256.size a ≤ S2x1536x5120.size a := fun v18 k0_hw2 k0_t4 k0_t6 => k0_hw2.2.2.2.2.2.2.2.2.2.2.2.2.2.2.2.2.2.2.1 k0_t4 k0_t6
theorem k0_off195_inb : ∀ (v18 : BitVec 32) (k0_hw2 : k0_chk2 v18) (k0_t4 : Fin (k0_t4_loop v18).trips) (k0_t6 : Fin k0_t6_loop.trips), ∀ a, (k0_off195 v18 k0_t4 k0_t6) a + S1x512x256.size a ≤ S2x1536x5120.size a := fun v18 k0_hw2 k0_t4 k0_t6 => k0_hw2.2.2.2.2.2.2.2.2.2.2.2.2.2.2.2.2.2.2.2 k0_t4 k0_t6

def k0_off196 (k0_t6 : Fin k0_t6_loop.trips) : Fin 2 → Nat :=
  let c38 : Index := 38#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v1154 : Index := Scalar.indexCast v595
  ![38, v1154.toNat]
def k0_off197 (k0_t6 : Fin k0_t6_loop.trips) : Fin 2 → Nat :=
  let c39 : Index := 39#32
  let c0_i32_215 : BitVec 32 := 0#32
  let c1_i32_217 : BitVec 32 := 1#32
  let arg38 : BitVec 32 := Scf.iv c0_i32_215 c1_i32_217 k0_t6
  let c512_i32_223 : BitVec 32 := 512#32
  let v594 : BitVec 32 := Scalar.muli arg38 c512_i32_223
  let v595 : BitVec 32 := v594
  let v1158 : Index := Scalar.indexCast v595
  ![39, v1158.toNat]
-- ==== ReferenceIdeal.lean ====
abbrev S17 : Shape := ⟨1, ![17]⟩
abbrev S1 : Shape := ⟨1, ![1]⟩
abbrev S8x1x5120 : Shape := ⟨3, ![8, 1, 5120]⟩
abbrev S8x1x8 : Shape := ⟨3, ![8, 1, 8]⟩
abbrev S16x5120x1536 : Shape := ⟨3, ![16, 5120, 1536]⟩
abbrev S16x40x12 : Shape := ⟨3, ![16, 40, 12]⟩
abbrev S16x1536x5120 : Shape := ⟨3, ![16, 1536, 5120]⟩
abbrev S16x12x40 : Shape := ⟨3, ![16, 12, 40]⟩
abbrev S8x5120 : Shape := ⟨2, ![8, 5120]⟩
abbrev S1x8 : Shape := ⟨2, ![1, 8]⟩
abbrev S8 : Shape := ⟨1, ![8]⟩
abbrev S8x1 : Shape := ⟨2, ![8, 1]⟩
abbrev S1x246 : Shape := ⟨2, ![1, 246]⟩
abbrev S8x246 : Shape := ⟨2, ![8, 246]⟩
abbrev S16x40x128x12x128 : Shape := ⟨5, ![16, 40, 128, 12, 128]⟩
abbrev S16x40x1x12x1 : Shape := ⟨5, ![16, 40, 1, 12, 1]⟩
abbrev S16x12x128x40x128 : Shape := ⟨5, ![16, 12, 128, 40, 128]⟩
abbrev S16x12x1x40x1 : Shape := ⟨5, ![16, 12, 1, 40, 1]⟩
abbrev S1x8x8 : Shape := ⟨3, ![1, 8, 8]⟩
abbrev S1x8x5120 : Shape := ⟨3, ![1, 8, 5120]⟩
abbrev S16x8x5120 : Shape := ⟨3, ![16, 8, 5120]⟩
abbrev S16x8x1536 : Shape := ⟨3, ![16, 8, 1536]⟩
abbrev S16x8 : Shape := ⟨2, ![16, 8]⟩
abbrev S16x8x1 : Shape := ⟨3, ![16, 8, 1]⟩
abbrev S1x1x246 : Shape := ⟨3, ![1, 1, 246]⟩
abbrev S16x8x246 : Shape := ⟨3, ![16, 8, 246]⟩
abbrev S16x8x8 : Shape := ⟨3, ![16, 8, 8]⟩

abbrev nBuf : Space → Nat
  | .hbm => 12
  | .vmem => 10
  | .smem => 0
  | _ => 0

abbrev bufTy : (tb : Table) → Fin (tcTables nBuf tb) → BufTy
  | .hbm, ⟨0, _⟩ => ⟨S17, .i32⟩
  | .hbm, ⟨1, _⟩ => ⟨S1, .i32⟩
  | .hbm, ⟨2, _⟩ => ⟨S8x1x5120, .bf16⟩
  | .hbm, ⟨3, _⟩ => ⟨S8x1x8, .i32⟩
  | .hbm, ⟨4, _⟩ => ⟨S8x1x8, .f32⟩
  | .hbm, ⟨5, _⟩ => ⟨S16x5120x1536, .fp8e4m3⟩
  | .hbm, ⟨6, _⟩ => ⟨S16x40x12, .f32⟩
  | .hbm, ⟨7, _⟩ => ⟨S16x1536x5120, .fp8e4m3⟩
  | .hbm, ⟨8, _⟩ => ⟨S16x12x40, .f32⟩
  | .hbm, ⟨9, _⟩ => ⟨S8x5120, .bf16⟩
  | .hbm, ⟨10, _⟩ => ⟨S8x5120, .fp8e4m3⟩
  | .hbm, ⟨11, _⟩ => ⟨S1x8, .f32⟩
  | .local _ .vmem, ⟨0, _⟩ => ⟨S8x1x5120, .bf16⟩
  | .local _ .vmem, ⟨1, _⟩ => ⟨S8x1x8, .i32⟩
  | .local _ .vmem, ⟨2, _⟩ => ⟨S8x1x8, .f32⟩
  | .local _ .vmem, ⟨3, _⟩ => ⟨S16x5120x1536, .fp8e4m3⟩
  | .local _ .vmem, ⟨4, _⟩ => ⟨S16x40x12, .f32⟩
  | .local _ .vmem, ⟨5, _⟩ => ⟨S16x1536x5120, .fp8e4m3⟩
  | .local _ .vmem, ⟨6, _⟩ => ⟨S16x12x40, .f32⟩
  | .local _ .vmem, ⟨7, _⟩ => ⟨S8x5120, .bf16⟩
  | .local _ .vmem, ⟨8, _⟩ => ⟨S8x5120, .fp8e4m3⟩
  | .local _ .vmem, ⟨9, _⟩ => ⟨S1x8, .f32⟩
  | _, _ => ⟨S17, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8x1x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1x8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x5120x1536 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x40x12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1536x5120 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x12x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x5120 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x5120 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.K.Names.lean ====
/-
  Canonical names for the pieces of the two weight streams, and the closed forms of the offsets the kernel
  computes.

  The up weights of one expert (5120x1536) arrive in four chunks of 1280 rows, the down weights (1536x5120) in
  three chunks of 512 rows, each into one of two slots of a scratch buffer, each on a semaphore of its own. Here
  a chunk of an expert in HBM (`srcU`, `srcD`), a chunk of a slot (`slotU`, `slotD`) and its semaphore (`csmU`,
  `csmD`) get names at literal offsets; the equations marked `sl_canon` say that the slices the program takes at
  a symbolic trip are these. The side conditions that the program checks (`k0_chk1` ... `k0_chk4`) hold for an
  expert number below 16 and a count of at most 16.
-/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The expert a word names. -/
def ex (v : BitVec 32) : Fin 16 := Fin.ofNat 16 v.toNat
theorem ex_val {v : BitVec 32} (h : v.toNat < 16) : (ex v).val = v.toNat := Nat.mod_eq_of_lt h

/-! ## Names at literal offsets -/

abbrev wUM : Memref sig .tc .hbm S16x5120x1536 .fp8e4m3 := Memref.whole main_arg5
abbrev bufUM : Memref sig .tc .vmem S2x5120x1536 .fp8e4m3 := Memref.whole cc0_scratch7
abbrev srcOffU (e : Fin 16) (c : Fin 4) : Fin 3 → Nat := ![e.val, 1280 * c.val, 0]
theorem srcOffU_inb (e : Fin 16) (c : Fin 4) : ∀ a, srcOffU e c a + S1x1280x1536.size a ≤ S16x5120x1536.size a := by
  have := e.isLt; have := c.isLt; intro a; fin_cases a
  · show e.val + 1 ≤ 16; omega
  · show 1280 * c.val + 1280 ≤ 5120; omega
  · show 0 + 1536 ≤ 1536; omega
abbrev slotOffU (s : Fin 2) (c : Fin 4) : Fin 3 → Nat := ![s.val, 1280 * c.val, 0]
theorem slotOffU_inb (s : Fin 2) (c : Fin 4) : ∀ a, slotOffU s c a + S1x1280x1536.size a ≤ S2x5120x1536.size a := by
  have := s.isLt; have := c.isLt; intro a; fin_cases a
  · show s.val + 1 ≤ 2; omega
  · show 1280 * c.val + 1280 ≤ 5120; omega
  · show 0 + 1536 ≤ 1536; omega
abbrev semOffU (s : Fin 2) (c : Fin 4) : Fin 2 → Nat := ![s.val, c.val]
theorem semOffU_inb (s : Fin 2) (c : Fin 4) : ∀ a, semOffU s c a + S1x1.size a ≤ S2x4.size a := by
  have := s.isLt; have := c.isLt; intro a; fin_cases a
  · show s.val + 1 ≤ 2; omega
  · show c.val + 1 ≤ 4; omega
/-- Chunk `c` of expert `e`'s weights, as the program slices and squeezes it. -/
def srcU (e : Fin 16) (c : Fin 4) : Memref sig .tc .hbm S1280x1536 .fp8e4m3 :=
  (wUM.slice (Rect.unit (s := S16x5120x1536) (srcOffU e c) S1x1280x1536.size (srcOffU_inb e c)) (fun _ => rfl)).squeeze S1280x1536 squeezes_S1x1280x1536_S1280x1536
/-- Chunk `c` of slot `s` of the scratch buffer. -/
def slotU (s : Fin 2) (c : Fin 4) : Memref sig .tc .vmem S1280x1536 .fp8e4m3 :=
  (bufUM.slice (Rect.unit (s := S2x5120x1536) (slotOffU s c) S1x1280x1536.size (slotOffU_inb s c)) (fun _ => rfl)).squeeze S1280x1536 squeezes_S1x1280x1536_S1280x1536
/-- The semaphore of chunk `c` of slot `s`. -/
def csmU (s : Fin 2) (c : Fin 4) : DmaSems sig S_ :=
  (cc0_scratch22.slice (Rect.unit (s := S2x4) (semOffU s c) S1x1.size (semOffU_inb s c))).squeeze S_ squeezes_S1x1_S_

instance (e : Fin 16) (c : Fin 4) : ClosedOff (srcOffU e c) := ⟨srcOffU e c, rfl⟩
instance (s : Fin 2) (c : Fin 4) : ClosedOff (slotOffU s c) := ⟨slotOffU s c, rfl⟩

theorem csmU_congr {off : Fin 2 → Nat} {s : Fin 2} {c : Fin 4} (e : off = semOffU s c) (hh) :
    (cc0_scratch22.slice (Rect.unit (s := S2x4) off S1x1.size hh)).squeeze S_ squeezes_S1x1_S_ = csmU s c :=
  congrArg (fun A : DmaSems sig S1x1 => A.squeeze S_ squeezes_S1x1_S_) (SemArray.slice_unit_congr _ e _ _)
theorem slotU_congr {off : Fin 3 → Nat} {s : Fin 2} {c : Fin 4} (e : off = slotOffU s c) (hh hs) :
    (bufUM.slice (Rect.unit (s := S2x5120x1536) off S1x1280x1536.size hh) hs).squeeze S1280x1536 squeezes_S1x1280x1536_S1280x1536 = slotU s c :=
  congrArg (fun M : Memref sig .tc .vmem S1x1280x1536 .fp8e4m3 => M.squeeze S1280x1536 squeezes_S1x1280x1536_S1280x1536) (Memref.slice_unit_congr _ e _ _ _ _)
theorem srcU_congr {off : Fin 3 → Nat} {e : Fin 16} {c : Fin 4} (h : off = srcOffU e c) (hh hs) :
    (wUM.slice (Rect.unit (s := S16x5120x1536) off S1x1280x1536.size hh) hs).squeeze S1280x1536 squeezes_S1x1280x1536_S1280x1536 = srcU e c :=
  congrArg (fun M : Memref sig .tc .hbm S1x1280x1536 .fp8e4m3 => M.squeeze S1280x1536 squeezes_S1x1280x1536_S1280x1536) (Memref.slice_unit_congr _ h _ _ _ _)

abbrev wDM : Memref sig .tc .hbm S16x1536x5120 .fp8e4m3 := Memref.whole main_arg7
abbrev bufDM : Memref sig .tc .vmem S2x1536x5120 .fp8e4m3 := Memref.whole cc0_scratch8
abbrev srcOffD (e : Fin 16) (c : Fin 3) : Fin 3 → Nat := ![e.val, 512 * c.val, 0]
theorem srcOffD_inb (e : Fin 16) (c : Fin 3) : ∀ a, srcOffD e c a + S1x512x5120.size a ≤ S16x1536x5120.size a := by
  have := e.isLt; have := c.isLt; intro a; fin_cases a
  · show e.val + 1 ≤ 16; omega
  · show 512 * c.val + 512 ≤ 1536; omega
  · show 0 + 5120 ≤ 5120; omega
abbrev slotOffD (s : Fin 2) (c : Fin 3) : Fin 3 → Nat := ![s.val, 512 * c.val, 0]
theorem slotOffD_inb (s : Fin 2) (c : Fin 3) : ∀ a, slotOffD s c a + S1x512x5120.size a ≤ S2x1536x5120.size a := by
  have := s.isLt; have := c.isLt; intro a; fin_cases a
  · show s.val + 1 ≤ 2; omega
  · show 512 * c.val + 512 ≤ 1536; omega
  · show 0 + 5120 ≤ 5120; omega
abbrev semOffD (s : Fin 2) (c : Fin 3) : Fin 2 → Nat := ![s.val, c.val]
theorem semOffD_inb (s : Fin 2) (c : Fin 3) : ∀ a, semOffD s c a + S1x1.size a ≤ S2x3.size a := by
  have := s.isLt; have := c.isLt; intro a; fin_cases a
  · show s.val + 1 ≤ 2; omega
  · show c.val + 1 ≤ 3; omega
/-- Chunk `c` of expert `e`'s weights, as the program slices and squeezes it. -/
def srcD (e : Fin 16) (c : Fin 3) : Memref sig .tc .hbm S512x5120 .fp8e4m3 :=
  (wDM.slice (Rect.unit (s := S16x1536x5120) (srcOffD e c) S1x512x5120.size (srcOffD_inb e c)) (fun _ => rfl)).squeeze S512x5120 squeezes_S1x512x5120_S512x5120
/-- Chunk `c` of slot `s` of the scratch buffer. -/
def slotD (s : Fin 2) (c : Fin 3) : Memref sig .tc .vmem S512x5120 .fp8e4m3 :=
  (bufDM.slice (Rect.unit (s := S2x1536x5120) (slotOffD s c) S1x512x5120.size (slotOffD_inb s c)) (fun _ => rfl)).squeeze S512x5120 squeezes_S1x512x5120_S512x5120
/-- The semaphore of chunk `c` of slot `s`. -/
def csmD (s : Fin 2) (c : Fin 3) : DmaSems sig S_ :=
  (cc0_scratch23.slice (Rect.unit (s := S2x3) (semOffD s c) S1x1.size (semOffD_inb s c))).squeeze S_ squeezes_S1x1_S_

instance (e : Fin 16) (c : Fin 3) : ClosedOff (srcOffD e c) := ⟨srcOffD e c, rfl⟩
instance (s : Fin 2) (c : Fin 3) : ClosedOff (slotOffD s c) := ⟨slotOffD s c, rfl⟩

theorem csmD_congr {off : Fin 2 → Nat} {s : Fin 2} {c : Fin 3} (e : off = semOffD s c) (hh) :
    (cc0_scratch23.slice (Rect.unit (s := S2x3) off S1x1.size hh)).squeeze S_ squeezes_S1x1_S_ = csmD s c :=
  congrArg (fun A : DmaSems sig S1x1 => A.squeeze S_ squeezes_S1x1_S_) (SemArray.slice_unit_congr _ e _ _)
theorem slotD_congr {off : Fin 3 → Nat} {s : Fin 2} {c : Fin 3} (e : off = slotOffD s c) (hh hs) :
    (bufDM.slice (Rect.unit (s := S2x1536x5120) off S1x512x5120.size hh) hs).squeeze S512x5120 squeezes_S1x512x5120_S512x5120 = slotD s c :=
  congrArg (fun M : Memref sig .tc .vmem S1x512x5120 .fp8e4m3 => M.squeeze S512x5120 squeezes_S1x512x5120_S512x5120) (Memref.slice_unit_congr _ e _ _ _ _)
theorem srcD_congr {off : Fin 3 → Nat} {e : Fin 16} {c : Fin 3} (h : off = srcOffD e c) (hh hs) :
    (wDM.slice (Rect.unit (s := S16x1536x5120) off S1x512x5120.size hh) hs).squeeze S512x5120 squeezes_S1x512x5120_S512x5120 = srcD e c :=
  congrArg (fun M : Memref sig .tc .hbm S1x512x5120 .fp8e4m3 => M.squeeze S512x5120 squeezes_S1x512x5120_S512x5120) (Memref.slice_unit_congr _ h _ _ _ _)

/-! ## The loops' trip counts, and the induction variables' chains in closed form -/

section Chain
variable (v : BitVec 32)
open Affine

theorem isInt_ub : IsInt (Scalar.addi 0#32 (Scalar.muli (Scalar.divsi (Scalar.subi v 0#32) 1#32) 1#32)) v.toInt := by
  have hr := word_range v
  have h15 : IsInt (Scalar.subi v 0#32) v.toInt :=
    subi (e := v.toInt) (word v) (ofNat (e := 0) 0 ⟨rfl, by decide⟩) ⟨by omega, by omega, by omega⟩
  have h17 : IsInt (Scalar.divsi (Scalar.subi v 0#32) 1#32) v.toInt := divsi_one h15 (ofNat (e := 1) 1 ⟨rfl, by decide⟩) ⟨rfl, rfl⟩
  have h18 : IsInt (Scalar.muli (Scalar.divsi (Scalar.subi v 0#32) 1#32) 1#32) v.toInt :=
    muli (e := v.toInt) h17 (ofNat (e := 1) 1 ⟨rfl, by decide⟩) ⟨by omega, by omega, by omega⟩
  exact addi (e := v.toInt) (ofNat (e := 0) 0 ⟨rfl, by decide⟩) h18 ⟨by omega, by omega, by omega⟩
theorem isInt_ub' : IsInt (Scalar.addi 0#32 (Scalar.subi v 0#32)) v.toInt := by
  have hr := word_range v
  exact addi (e := v.toInt) (ofNat (e := 0) 0 ⟨rfl, by decide⟩)
    (subi (e := v.toInt) (word v) (ofNat (e := 0) 0 ⟨rfl, by decide⟩) ⟨by omega, by omega, by omega⟩) ⟨by omega, by omega, by omega⟩

theorem toInt_of_isInt {x : BitVec 32} {e : Int} (h : IsInt x e) : x.toInt = e := by
  delta Affine.IsInt at h; exact h

/-- The expert loop runs `v` trips, `v` read signed; -/
theorem trips1_eq : (k0_t1_loop v).trips = v.toInt.toNat := by
  show Scf.trips 0#32 (Scalar.addi 0#32 (Scalar.muli (Scalar.divsi (Scalar.subi v 0#32) 1#32) 1#32)) 1#32 = _
  unfold Scf.trips; rw [toInt_of_isInt (isInt_ub v)]; simp
/-- its remainder loop none; -/
theorem trips4_eq : (k0_t4_loop v).trips = 0 := by
  show Scf.trips (Scalar.addi 0#32 (Scalar.muli (Scalar.divsi (Scalar.subi v 0#32) 1#32) 1#32)) (Scalar.addi 0#32 (Scalar.subi v 0#32)) 1#32 = 0
  unfold Scf.trips; rw [toInt_of_isInt (isInt_ub v), toInt_of_isInt (isInt_ub' v)]; simp
/-- the loop over the up chunks four, the loop over the down chunks three. -/
theorem trips2_eq : k0_t2_loop.trips = 4 := by decide
theorem trips3_eq : k0_t3_loop.trips = 3 := by decide

theorem trips1_lt (k : Fin (k0_t1_loop v).trips) : (k.val : Int) < v.toInt := by
  have h := Nat.lt_of_lt_of_eq k.isLt (trips1_eq v); have := word_range v; omega

theorem isInt_iv (k : Fin (k0_t1_loop v).trips) : IsInt (Scf.iv 0#32 1#32 k.val) k.val :=
  iv (e := k.val) (ofNat (e := 0) 0 ⟨rfl, by decide⟩) (ofNat (e := 1) 1 ⟨rfl, by decide⟩) k.val
    ⟨by omega, by omega, by have := trips1_lt v k; have := word_range v; omega⟩
theorem isInt_nx (k : Fin (k0_t1_loop v).trips) : IsInt (Scalar.addi (Scf.iv 0#32 1#32 k.val) 1#32) (k.val + 1 : Nat) :=
  addi (e := (k.val + 1 : Nat)) (isInt_iv v k) (ofNat (e := 1) 1 ⟨rfl, by decide⟩)
    ⟨by push_cast; omega, by omega, by have := trips1_lt v k; have := word_range v; push_cast; omega⟩
theorem isInt_rem (k : Fin (k0_t1_loop v).trips) : IsInt (Scalar.remsi (Scf.iv 0#32 1#32 k.val) 2#32) ((Ring.sl 2 k.val).val : Nat) :=
  remsi (e := (k.val % 2 : Nat)) (isInt_iv v k) (ofNat (e := 2) 2 ⟨rfl, by decide⟩) ⟨by omega, by omega, by omega⟩
theorem isInt_rem' (k : Fin (k0_t1_loop v).trips) :
    IsInt (Scalar.remsi (Scalar.addi (Scf.iv 0#32 1#32 k.val) 1#32) 2#32) ((Ring.sl 2 (k.val + 1)).val : Nat) :=
  remsi (e := ((k.val + 1) % 2 : Nat)) (isInt_nx v k) (ofNat (e := 2) 2 ⟨rfl, by decide⟩) ⟨by omega, by omega, by omega⟩
/-- A small trip number, alone and times a chunk's rows. -/
theorem isInt_ck (k : Nat) (hk : k < 4) : IsInt (Scf.iv 0#32 1#32 k) k :=
  iv (e := k) (ofNat (e := 0) 0 ⟨rfl, by decide⟩) (ofNat (e := 1) 1 ⟨rfl, by decide⟩) k ⟨by omega, by omega, by omega⟩
theorem isInt_row (r : Nat) (hr : r ≤ 1280) (k : Nat) (hk : k < 4) : IsInt (Scalar.muli (Scf.iv 0#32 1#32 k) (BitVec.ofNat 32 r)) (r * k : Nat) :=
  muli (e := (r * k : Nat)) (isInt_ck k hk) (ofNat (e := r) r ⟨rfl, by omega⟩)
    ⟨by push_cast; rw [Int.mul_comm], by omega, by have : r * k ≤ 1280 * 4 := Nat.mul_le_mul hr (by omega); omega⟩

/-- There is a next expert: the guard of the two prefetches. -/
theorem more1_iff (k : Fin (k0_t1_loop v).trips) : k0_cond1 v k = 1#1 ↔ k.val + 1 < (k0_t1_loop v).trips := by
  show Scalar.cmpi .ne (Scalar.extui (Scalar.cmpi .slt (Scalar.addi (Scf.iv 0#32 1#32 k.val) 1#32) v)) 0#32 = 1#1 ↔ _
  rw [show (Scalar.cmpi .ne (Scalar.extui (Scalar.cmpi .slt (Scalar.addi (Scf.iv 0#32 1#32 k.val) 1#32) v)) 0#32 = 1#1)
      ↔ (Scalar.cmpi .slt (Scalar.addi (Scf.iv 0#32 1#32 k.val) 1#32) v = 1#1) from Scalar.guard_iff _]
  rw [show (Scalar.cmpi .slt (Scalar.addi (Scf.iv 0#32 1#32 k.val) 1#32) v = 1#1)
      ↔ (Scalar.addi (Scf.iv 0#32 1#32 k.val) 1#32).toInt < v.toInt from IntOp.cmpi_slt]
  have e := trips1_eq v
  rw [toInt_of_isInt (isInt_nx v k)]; omega
theorem cond2_eq (k : Fin (k0_t1_loop v).trips) : k0_cond2 v k = k0_cond1 v k := rfl

theorem off8_eq (k : Fin (k0_t1_loop v).trips) : k0_off8 v k = ![k.val] := vec_cons (indexCast (isInt_iv v k)) rfl vec_nil
theorem off9_eq (k : Fin (k0_t1_loop v).trips) : k0_off9 v k = ![min (k.val + 1) 15] :=
  vec_cons (indexCast (minsi (isInt_nx v k) (ofNat (e := 15) 15 ⟨rfl, by decide⟩) rfl)) (by push_cast; omega) vec_nil
theorem off10_eq (w : BitVec 32) (h : w.toNat < 16) : k0_off10 w = ![0, (ex w).val, 0] := by
  rw [ex_val h]; rfl
instance (k : Fin (k0_t1_loop v).trips) : ClosedOff (k0_off8 v k) := ⟨_, off8_eq v k⟩
instance (k : Fin (k0_t1_loop v).trips) : ClosedOff (k0_off9 v k) := ⟨_, off9_eq v k⟩

theorem ckU_lt (t : Fin k0_t2_loop.trips) : t.val < 4 := Nat.lt_of_lt_of_eq t.isLt trips2_eq
theorem ckU_val (t : Fin k0_t2_loop.trips) : (Ring.bk 4 t.val).val = t.val := Ring.bk_val (ckU_lt t)
theorem isInt_ckU (t : Fin k0_t2_loop.trips) : IsInt (Scf.iv 0#32 1#32 t.val) ((Ring.bk 4 t.val).val : Nat) := by
  rw [ckU_val]; exact isInt_ck t.val (by have := ckU_lt t; omega)
theorem isInt_rowU (t : Fin k0_t2_loop.trips) : IsInt (Scalar.muli (Scf.iv 0#32 1#32 t.val) 1280#32) (1280 * (Ring.bk 4 t.val).val : Nat) := by
  rw [ckU_val]; exact isInt_row 1280 (by decide) t.val (by have := ckU_lt t; omega)
theorem off11_eq (k : Fin (k0_t1_loop v).trips) (t : Fin k0_t2_loop.trips) : k0_off11 v k t = semOffU (Ring.sl 2 (k.val + 1)) (Ring.bk 4 t.val) :=
  vec_cons (isInt_rem' v k) rfl (vec_cons (isInt_ckU t) rfl vec_nil)
theorem off12_eq (k : Fin (k0_t1_loop v).trips) (t : Fin k0_t2_loop.trips) : k0_off12 v k t = slotOffU (Ring.sl 2 (k.val + 1)) (Ring.bk 4 t.val) :=
  vec_cons (isInt_rem' v k) rfl (vec_cons (isInt_rowU t) rfl rfl)
theorem off14_eq (k : Fin (k0_t1_loop v).trips) (t : Fin k0_t2_loop.trips) : k0_off14 v k t = semOffU (Ring.sl 2 k.val) (Ring.bk 4 t.val) :=
  vec_cons (isInt_rem v k) rfl (vec_cons (isInt_ckU t) rfl vec_nil)
theorem off15_eq (k : Fin (k0_t1_loop v).trips) (t : Fin k0_t2_loop.trips) : k0_off15 v k t = slotOffU (Ring.sl 2 k.val) (Ring.bk 4 t.val) :=
  vec_cons (isInt_rem v k) rfl (vec_cons (isInt_rowU t) rfl rfl)
theorem off13_eq (w : BitVec 32) (h : w.toNat < 16) (t : Fin k0_t2_loop.trips) : k0_off13 w t = srcOffU (ex w) (Ring.bk 4 t.val) := by
  unfold srcOffU; rw [ex_val h]
  exact congrArg (fun r : Nat => (![w.toNat, r, 0] : Fin 3 → Nat)) (nat_eq (isInt_rowU t) _ rfl)
theorem off16_eq (w : BitVec 32) (h : w.toNat < 16) (t : Fin k0_t2_loop.trips) : k0_off16 w t = srcOffU (ex w) (Ring.bk 4 t.val) := by
  unfold srcOffU; rw [ex_val h]
  exact congrArg (fun r : Nat => (![w.toNat, r, 0] : Fin 3 → Nat)) (nat_eq (isInt_rowU t) _ rfl)
theorem off18_eq (k : Fin (k0_t1_loop v).trips) (t : Fin k0_t2_loop.trips) : k0_off18 v k t = ![(Ring.sl 2 k.val).val, 1280 * (Ring.bk 4 t.val).val, 0] :=
  vec_cons (indexCast (isInt_rem v k)) rfl (vec_cons (indexCast (isInt_rowU t)) rfl rfl)
instance (k : Fin (k0_t1_loop v).trips) (t : Fin k0_t2_loop.trips) : ClosedOff (k0_off18 v k t) := ⟨_, off18_eq v k t⟩
theorem off21_eq (k : Fin (k0_t1_loop v).trips) (t : Fin k0_t2_loop.trips) : k0_off21 v k t = ![(Ring.sl 2 k.val).val, 1280 * (Ring.bk 4 t.val).val, 256] :=
  vec_cons (indexCast (isInt_rem v k)) rfl (vec_cons (indexCast (isInt_rowU t)) rfl rfl)
instance (k : Fin (k0_t1_loop v).trips) (t : Fin k0_t2_loop.trips) : ClosedOff (k0_off21 v k t) := ⟨_, off21_eq v k t⟩
theorem off24_eq (k : Fin (k0_t1_loop v).trips) (t : Fin k0_t2_loop.trips) : k0_off24 v k t = ![(Ring.sl 2 k.val).val, 1280 * (Ring.bk 4 t.val).val, 512] :=
  vec_cons (indexCast (isInt_rem v k)) rfl (vec_cons (indexCast (isInt_rowU t)) rfl rfl)
instance (k : Fin (k0_t1_loop v).trips) (t : Fin k0_t2_loop.trips) : ClosedOff (k0_off24 v k t) := ⟨_, off24_eq v k t⟩
theorem off27_eq (k : Fin (k0_t1_loop v).trips) (t : Fin k0_t2_loop.trips) : k0_off27 v k t = ![(Ring.sl 2 k.val).val, 1280 * (Ring.bk 4 t.val).val, 768] :=
  vec_cons (indexCast (isInt_rem v k)) rfl (vec_cons (indexCast (isInt_rowU t)) rfl rfl)
instance (k : Fin (k0_t1_loop v).trips) (t : Fin k0_t2_loop.trips) : ClosedOff (k0_off27 v k t) := ⟨_, off27_eq v k t⟩
theorem off30_eq (k : Fin (k0_t1_loop v).trips) (t : Fin k0_t2_loop.trips) : k0_off30 v k t = ![(Ring.sl 2 k.val).val, 1280 * (Ring.bk 4 t.val).val, 1024] :=
  vec_cons (indexCast (isInt_rem v k)) rfl (vec_cons (indexCast (isInt_rowU t)) rfl rfl)
instance (k : Fin (k0_t1_loop v).trips) (t : Fin k0_t2_loop.trips) : ClosedOff (k0_off30 v k t) := ⟨_, off30_eq v k t⟩
theorem off33_eq (k : Fin (k0_t1_loop v).trips) (t : Fin k0_t2_loop.trips) : k0_off33 v k t = ![(Ring.sl 2 k.val).val, 1280 * (Ring.bk 4 t.val).val, 1280] :=
  vec_cons (indexCast (isInt_rem v k)) rfl (vec_cons (indexCast (isInt_rowU t)) rfl rfl)
instance (k : Fin (k0_t1_loop v).trips) (t : Fin k0_t2_loop.trips) : ClosedOff (k0_off33 v k t) := ⟨_, off33_eq v k t⟩

theorem ckD_lt (t : Fin k0_t3_loop.trips) : t.val < 3 := Nat.lt_of_lt_of_eq t.isLt trips3_eq
theorem ckD_val (t : Fin k0_t3_loop.trips) : (Ring.bk 3 t.val).val = t.val := Ring.bk_val (ckD_lt t)
theorem isInt_ckD (t : Fin k0_t3_loop.trips) : IsInt (Scf.iv 0#32 1#32 t.val) ((Ring.bk 3 t.val).val : Nat) := by
  rw [ckD_val]; exact isInt_ck t.val (by have := ckD_lt t; omega)
theorem isInt_rowD (t : Fin k0_t3_loop.trips) : IsInt (Scalar.muli (Scf.iv 0#32 1#32 t.val) 512#32) (512 * (Ring.bk 3 t.val).val : Nat) := by
  rw [ckD_val]; exact isInt_row 512 (by decide) t.val (by have := ckD_lt t; omega)
theorem off36_eq (k : Fin (k0_t1_loop v).trips) (t : Fin k0_t3_loop.trips) : k0_off36 v k t = semOffD (Ring.sl 2 (k.val + 1)) (Ring.bk 3 t.val) :=
  vec_cons (isInt_rem' v k) rfl (vec_cons (isInt_ckD t) rfl vec_nil)
theorem off37_eq (k : Fin (k0_t1_loop v).trips) (t : Fin k0_t3_loop.trips) : k0_off37 v k t = slotOffD (Ring.sl 2 (k.val + 1)) (Ring.bk 3 t.val) :=
  vec_cons (isInt_rem' v k) rfl (vec_cons (isInt_rowD t) rfl rfl)
theorem off39_eq (k : Fin (k0_t1_loop v).trips) (t : Fin k0_t3_loop.trips) : k0_off39 v k t = semOffD (Ring.sl 2 k.val) (Ring.bk 3 t.val) :=
  vec_cons (isInt_rem v k) rfl (vec_cons (isInt_ckD t) rfl vec_nil)
theorem off40_eq (k : Fin (k0_t1_loop v).trips) (t : Fin k0_t3_loop.trips) : k0_off40 v k t = slotOffD (Ring.sl 2 k.val) (Ring.bk 3 t.val) :=
  vec_cons (isInt_rem v k) rfl (vec_cons (isInt_rowD t) rfl rfl)
theorem off38_eq (w : BitVec 32) (h : w.toNat < 16) (t : Fin k0_t3_loop.trips) : k0_off38 w t = srcOffD (ex w) (Ring.bk 3 t.val) := by
  unfold srcOffD; rw [ex_val h]
  exact congrArg (fun r : Nat => (![w.toNat, r, 0] : Fin 3 → Nat)) (nat_eq (isInt_rowD t) _ rfl)
theorem off41_eq (w : BitVec 32) (h : w.toNat < 16) (t : Fin k0_t3_loop.trips) : k0_off41 w t = srcOffD (ex w) (Ring.bk 3 t.val) := by
  unfold srcOffD; rw [ex_val h]
  exact congrArg (fun r : Nat => (![w.toNat, r, 0] : Fin 3 → Nat)) (nat_eq (isInt_rowD t) _ rfl)
theorem off43_eq (k : Fin (k0_t1_loop v).trips) (t : Fin k0_t3_loop.trips) : k0_off43 v k t = ![(Ring.sl 2 k.val).val, 512 * (Ring.bk 3 t.val).val, 0] :=
  vec_cons (indexCast (isInt_rem v k)) rfl (vec_cons (indexCast (isInt_rowD t)) rfl rfl)
instance (k : Fin (k0_t1_loop v).trips) (t : Fin k0_t3_loop.trips) : ClosedOff (k0_off43 v k t) := ⟨_, off43_eq v k t⟩
theorem off46_eq (k : Fin (k0_t1_loop v).trips) (t : Fin k0_t3_loop.trips) : k0_off46 v k t = ![(Ring.sl 2 k.val).val, 512 * (Ring.bk 3 t.val).val, 256] :=
  vec_cons (indexCast (isInt_rem v k)) rfl (vec_cons (indexCast (isInt_rowD t)) rfl rfl)
instance (k : Fin (k0_t1_loop v).trips) (t : Fin k0_t3_loop.trips) : ClosedOff (k0_off46 v k t) := ⟨_, off46_eq v k t⟩
theorem off49_eq (k : Fin (k0_t1_loop v).trips) (t : Fin k0_t3_loop.trips) : k0_off49 v k t = ![(Ring.sl 2 k.val).val, 512 * (Ring.bk 3 t.val).val, 512] :=
  vec_cons (indexCast (isInt_rem v k)) rfl (vec_cons (indexCast (isInt_rowD t)) rfl rfl)
instance (k : Fin (k0_t1_loop v).trips) (t : Fin k0_t3_loop.trips) : ClosedOff (k0_off49 v k t) := ⟨_, off49_eq v k t⟩
theorem off52_eq (k : Fin (k0_t1_loop v).trips) (t : Fin k0_t3_loop.trips) : k0_off52 v k t = ![(Ring.sl 2 k.val).val, 512 * (Ring.bk 3 t.val).val, 768] :=
  vec_cons (indexCast (isInt_rem v k)) rfl (vec_cons (indexCast (isInt_rowD t)) rfl rfl)
instance (k : Fin (k0_t1_loop v).trips) (t : Fin k0_t3_loop.trips) : ClosedOff (k0_off52 v k t) := ⟨_, off52_eq v k t⟩
theorem off55_eq (k : Fin (k0_t1_loop v).trips) (t : Fin k0_t3_loop.trips) : k0_off55 v k t = ![(Ring.sl 2 k.val).val, 512 * (Ring.bk 3 t.val).val, 1024] :=
  vec_cons (indexCast (isInt_rem v k)) rfl (vec_cons (indexCast (isInt_rowD t)) rfl rfl)
instance (k : Fin (k0_t1_loop v).trips) (t : Fin k0_t3_loop.trips) : ClosedOff (k0_off55 v k t) := ⟨_, off55_eq v k t⟩
theorem off58_eq (k : Fin (k0_t1_loop v).trips) (t : Fin k0_t3_loop.trips) : k0_off58 v k t = ![(Ring.sl 2 k.val).val, 512 * (Ring.bk 3 t.val).val, 1280] :=
  vec_cons (indexCast (isInt_rem v k)) rfl (vec_cons (indexCast (isInt_rowD t)) rfl rfl)
instance (k : Fin (k0_t1_loop v).trips) (t : Fin k0_t3_loop.trips) : ClosedOff (k0_off58 v k t) := ⟨_, off58_eq v k t⟩
theorem off61_eq (k : Fin (k0_t1_loop v).trips) (t : Fin k0_t3_loop.trips) : k0_off61 v k t = ![(Ring.sl 2 k.val).val, 512 * (Ring.bk 3 t.val).val, 1536] :=
  vec_cons (indexCast (isInt_rem v k)) rfl (vec_cons (indexCast (isInt_rowD t)) rfl rfl)
instance (k : Fin (k0_t1_loop v).trips) (t : Fin k0_t3_loop.trips) : ClosedOff (k0_off61 v k t) := ⟨_, off61_eq v k t⟩
theorem off64_eq (k : Fin (k0_t1_loop v).trips) (t : Fin k0_t3_loop.trips) : k0_off64 v k t = ![(Ring.sl 2 k.val).val, 512 * (Ring.bk 3 t.val).val, 1792] :=
  vec_cons (indexCast (isInt_rem v k)) rfl (vec_cons (indexCast (isInt_rowD t)) rfl rfl)
instance (k : Fin (k0_t1_loop v).trips) (t : Fin k0_t3_loop.trips) : ClosedOff (k0_off64 v k t) := ⟨_, off64_eq v k t⟩
theorem off67_eq (k : Fin (k0_t1_loop v).trips) (t : Fin k0_t3_loop.trips) : k0_off67 v k t = ![(Ring.sl 2 k.val).val, 512 * (Ring.bk 3 t.val).val, 2048] :=
  vec_cons (indexCast (isInt_rem v k)) rfl (vec_cons (indexCast (isInt_rowD t)) rfl rfl)
instance (k : Fin (k0_t1_loop v).trips) (t : Fin k0_t3_loop.trips) : ClosedOff (k0_off67 v k t) := ⟨_, off67_eq v k t⟩
theorem off70_eq (k : Fin (k0_t1_loop v).trips) (t : Fin k0_t3_loop.trips) : k0_off70 v k t = ![(Ring.sl 2 k.val).val, 512 * (Ring.bk 3 t.val).val, 2304] :=
  vec_cons (indexCast (isInt_rem v k)) rfl (vec_cons (indexCast (isInt_rowD t)) rfl rfl)
instance (k : Fin (k0_t1_loop v).trips) (t : Fin k0_t3_loop.trips) : ClosedOff (k0_off70 v k t) := ⟨_, off70_eq v k t⟩
theorem off73_eq (k : Fin (k0_t1_loop v).trips) (t : Fin k0_t3_loop.trips) : k0_off73 v k t = ![(Ring.sl 2 k.val).val, 512 * (Ring.bk 3 t.val).val, 2560] :=
  vec_cons (indexCast (isInt_rem v k)) rfl (vec_cons (indexCast (isInt_rowD t)) rfl rfl)
instance (k : Fin (k0_t1_loop v).trips) (t : Fin k0_t3_loop.trips) : ClosedOff (k0_off73 v k t) := ⟨_, off73_eq v k t⟩
theorem off76_eq (k : Fin (k0_t1_loop v).trips) (t : Fin k0_t3_loop.trips) : k0_off76 v k t = ![(Ring.sl 2 k.val).val, 512 * (Ring.bk 3 t.val).val, 2816] :=
  vec_cons (indexCast (isInt_rem v k)) rfl (vec_cons (indexCast (isInt_rowD t)) rfl rfl)
instance (k : Fin (k0_t1_loop v).trips) (t : Fin k0_t3_loop.trips) : ClosedOff (k0_off76 v k t) := ⟨_, off76_eq v k t⟩
theorem off79_eq (k : Fin (k0_t1_loop v).trips) (t : Fin k0_t3_loop.trips) : k0_off79 v k t = ![(Ring.sl 2 k.val).val, 512 * (Ring.bk 3 t.val).val, 3072] :=
  vec_cons (indexCast (isInt_rem v k)) rfl (vec_cons (indexCast (isInt_rowD t)) rfl rfl)
instance (k : Fin (k0_t1_loop v).trips) (t : Fin k0_t3_loop.trips) : ClosedOff (k0_off79 v k t) := ⟨_, off79_eq v k t⟩
theorem off82_eq (k : Fin (k0_t1_loop v).trips) (t : Fin k0_t3_loop.trips) : k0_off82 v k t = ![(Ring.sl 2 k.val).val, 512 * (Ring.bk 3 t.val).val, 3328] :=
  vec_cons (indexCast (isInt_rem v k)) rfl (vec_cons (indexCast (isInt_rowD t)) rfl rfl)
instance (k : Fin (k0_t1_loop v).trips) (t : Fin k0_t3_loop.trips) : ClosedOff (k0_off82 v k t) := ⟨_, off82_eq v k t⟩
theorem off85_eq (k : Fin (k0_t1_loop v).trips) (t : Fin k0_t3_loop.trips) : k0_off85 v k t = ![(Ring.sl 2 k.val).val, 512 * (Ring.bk 3 t.val).val, 3584] :=
  vec_cons (indexCast (isInt_rem v k)) rfl (vec_cons (indexCast (isInt_rowD t)) rfl rfl)
instance (k : Fin (k0_t1_loop v).trips) (t : Fin k0_t3_loop.trips) : ClosedOff (k0_off85 v k t) := ⟨_, off85_eq v k t⟩
theorem off88_eq (k : Fin (k0_t1_loop v).trips) (t : Fin k0_t3_loop.trips) : k0_off88 v k t = ![(Ring.sl 2 k.val).val, 512 * (Ring.bk 3 t.val).val, 3840] :=
  vec_cons (indexCast (isInt_rem v k)) rfl (vec_cons (indexCast (isInt_rowD t)) rfl rfl)
instance (k : Fin (k0_t1_loop v).trips) (t : Fin k0_t3_loop.trips) : ClosedOff (k0_off88 v k t) := ⟨_, off88_eq v k t⟩
theorem off91_eq (k : Fin (k0_t1_loop v).trips) (t : Fin k0_t3_loop.trips) : k0_off91 v k t = ![(Ring.sl 2 k.val).val, 512 * (Ring.bk 3 t.val).val, 4096] :=
  vec_cons (indexCast (isInt_rem v k)) rfl (vec_cons (indexCast (isInt_rowD t)) rfl rfl)
instance (k : Fin (k0_t1_loop v).trips) (t : Fin k0_t3_loop.trips) : ClosedOff (k0_off91 v k t) := ⟨_, off91_eq v k t⟩
theorem off94_eq (k : Fin (k0_t1_loop v).trips) (t : Fin k0_t3_loop.trips) : k0_off94 v k t = ![(Ring.sl 2 k.val).val, 512 * (Ring.bk 3 t.val).val, 4352] :=
  vec_cons (indexCast (isInt_rem v k)) rfl (vec_cons (indexCast (isInt_rowD t)) rfl rfl)
instance (k : Fin (k0_t1_loop v).trips) (t : Fin k0_t3_loop.trips) : ClosedOff (k0_off94 v k t) := ⟨_, off94_eq v k t⟩
theorem off97_eq (k : Fin (k0_t1_loop v).trips) (t : Fin k0_t3_loop.trips) : k0_off97 v k t = ![(Ring.sl 2 k.val).val, 512 * (Ring.bk 3 t.val).val, 4608] :=
  vec_cons (indexCast (isInt_rem v k)) rfl (vec_cons (indexCast (isInt_rowD t)) rfl rfl)
instance (k : Fin (k0_t1_loop v).trips) (t : Fin k0_t3_loop.trips) : ClosedOff (k0_off97 v k t) := ⟨_, off97_eq v k t⟩
theorem off100_eq (k : Fin (k0_t1_loop v).trips) (t : Fin k0_t3_loop.trips) : k0_off100 v k t = ![(Ring.sl 2 k.val).val, 512 * (Ring.bk 3 t.val).val, 4864] :=
  vec_cons (indexCast (isInt_rem v k)) rfl (vec_cons (indexCast (isInt_rowD t)) rfl rfl)
instance (k : Fin (k0_t1_loop v).trips) (t : Fin k0_t3_loop.trips) : ClosedOff (k0_off100 v k t) := ⟨_, off100_eq v k t⟩

end Chain

/-! ## The canonical-name equations -/

section Canon
variable (v : BitVec 32)
@[sl_canon] theorem canon_off11 (k : Fin (k0_t1_loop v).trips) (t : Fin k0_t2_loop.trips) (hh) :
    (cc0_scratch22.slice (Rect.unit (s := S2x4) (k0_off11 v k t) S1x1.size hh)).squeeze S_ squeezes_S1x1_S_ = csmU (Ring.sl 2 (k.val + 1)) (Ring.bk 4 t.val) := csmU_congr (off11_eq v k t) _
@[sl_canon] theorem canon_off14 (k : Fin (k0_t1_loop v).trips) (t : Fin k0_t2_loop.trips) (hh) :
    (cc0_scratch22.slice (Rect.unit (s := S2x4) (k0_off14 v k t) S1x1.size hh)).squeeze S_ squeezes_S1x1_S_ = csmU (Ring.sl 2 k.val) (Ring.bk 4 t.val) := csmU_congr (off14_eq v k t) _
@[sl_canon] theorem canon_off12 (k : Fin (k0_t1_loop v).trips) (t : Fin k0_t2_loop.trips) (hh hs) :
    (bufUM.slice (Rect.unit (s := S2x5120x1536) (k0_off12 v k t) S1x1280x1536.size hh) hs).squeeze S1280x1536 squeezes_S1x1280x1536_S1280x1536 = slotU (Ring.sl 2 (k.val + 1)) (Ring.bk 4 t.val) := slotU_congr (off12_eq v k t) _ _
@[sl_canon] theorem canon_off15 (k : Fin (k0_t1_loop v).trips) (t : Fin k0_t2_loop.trips) (hh hs) :
    (bufUM.slice (Rect.unit (s := S2x5120x1536) (k0_off15 v k t) S1x1280x1536.size hh) hs).squeeze S1280x1536 squeezes_S1x1280x1536_S1280x1536 = slotU (Ring.sl 2 k.val) (Ring.bk 4 t.val) := slotU_congr (off15_eq v k t) _ _
@[sl_canon] theorem canon_off13 (w : BitVec 32) (h : w.toNat < 16) (t : Fin k0_t2_loop.trips) (hh hs) :
    (wUM.slice (Rect.unit (s := S16x5120x1536) (k0_off13 w t) S1x1280x1536.size hh) hs).squeeze S1280x1536 squeezes_S1x1280x1536_S1280x1536 = srcU (ex w) (Ring.bk 4 t.val) := srcU_congr (off13_eq w h t) _ _
@[sl_canon] theorem canon_off16 (w : BitVec 32) (h : w.toNat < 16) (t : Fin k0_t2_loop.trips) (hh hs) :
    (wUM.slice (Rect.unit (s := S16x5120x1536) (k0_off16 w t) S1x1280x1536.size hh) hs).squeeze S1280x1536 squeezes_S1x1280x1536_S1280x1536 = srcU (ex w) (Ring.bk 4 t.val) := srcU_congr (off16_eq w h t) _ _
theorem off1_eq (w : BitVec 32) (h : w.toNat < 16) : k0_off1 w = srcOffU (ex w) 0 := by
  unfold srcOffU; rw [ex_val h]; rfl
@[sl_canon] theorem canon_off1 (w : BitVec 32) (h : w.toNat < 16) (hh hs) :
    (wUM.slice (Rect.unit (s := S16x5120x1536) (k0_off1 w) S1x1280x1536.size hh) hs).squeeze S1280x1536 squeezes_S1x1280x1536_S1280x1536 = srcU (ex w) 0 := srcU_congr (off1_eq w h) _ _
@[sl_canon] theorem semU_0 (hh) :
    (cc0_scratch22.slice (Rect.unit (s := S2x4) ![0, 0] S1x1.size hh)).squeeze S_ squeezes_S1x1_S_ = csmU 0 0 := csmU_congr (by decide) _
@[sl_canon] theorem slotU_0 (hh hs) :
    (bufUM.slice (Rect.unit (s := S2x5120x1536) ![0, 0, 0] S1x1280x1536.size hh) hs).squeeze S1280x1536 squeezes_S1x1280x1536_S1280x1536 = slotU 0 0 := slotU_congr (by decide) _ _
theorem off2_eq (w : BitVec 32) (h : w.toNat < 16) : k0_off2 w = srcOffU (ex w) 1 := by
  unfold srcOffU; rw [ex_val h]; rfl
@[sl_canon] theorem canon_off2 (w : BitVec 32) (h : w.toNat < 16) (hh hs) :
    (wUM.slice (Rect.unit (s := S16x5120x1536) (k0_off2 w) S1x1280x1536.size hh) hs).squeeze S1280x1536 squeezes_S1x1280x1536_S1280x1536 = srcU (ex w) 1 := srcU_congr (off2_eq w h) _ _
@[sl_canon] theorem semU_1 (hh) :
    (cc0_scratch22.slice (Rect.unit (s := S2x4) ![0, 1] S1x1.size hh)).squeeze S_ squeezes_S1x1_S_ = csmU 0 1 := csmU_congr (by decide) _
@[sl_canon] theorem slotU_1 (hh hs) :
    (bufUM.slice (Rect.unit (s := S2x5120x1536) ![0, 1280, 0] S1x1280x1536.size hh) hs).squeeze S1280x1536 squeezes_S1x1280x1536_S1280x1536 = slotU 0 1 := slotU_congr (by decide) _ _
theorem off3_eq (w : BitVec 32) (h : w.toNat < 16) : k0_off3 w = srcOffU (ex w) 2 := by
  unfold srcOffU; rw [ex_val h]; rfl
@[sl_canon] theorem canon_off3 (w : BitVec 32) (h : w.toNat < 16) (hh hs) :
    (wUM.slice (Rect.unit (s := S16x5120x1536) (k0_off3 w) S1x1280x1536.size hh) hs).squeeze S1280x1536 squeezes_S1x1280x1536_S1280x1536 = srcU (ex w) 2 := srcU_congr (off3_eq w h) _ _
@[sl_canon] theorem semU_2 (hh) :
    (cc0_scratch22.slice (Rect.unit (s := S2x4) ![0, 2] S1x1.size hh)).squeeze S_ squeezes_S1x1_S_ = csmU 0 2 := csmU_congr (by decide) _
@[sl_canon] theorem slotU_2 (hh hs) :
    (bufUM.slice (Rect.unit (s := S2x5120x1536) ![0, 2560, 0] S1x1280x1536.size hh) hs).squeeze S1280x1536 squeezes_S1x1280x1536_S1280x1536 = slotU 0 2 := slotU_congr (by decide) _ _
theorem off4_eq (w : BitVec 32) (h : w.toNat < 16) : k0_off4 w = srcOffU (ex w) 3 := by
  unfold srcOffU; rw [ex_val h]; rfl
@[sl_canon] theorem canon_off4 (w : BitVec 32) (h : w.toNat < 16) (hh hs) :
    (wUM.slice (Rect.unit (s := S16x5120x1536) (k0_off4 w) S1x1280x1536.size hh) hs).squeeze S1280x1536 squeezes_S1x1280x1536_S1280x1536 = srcU (ex w) 3 := srcU_congr (off4_eq w h) _ _
@[sl_canon] theorem semU_3 (hh) :
    (cc0_scratch22.slice (Rect.unit (s := S2x4) ![0, 3] S1x1.size hh)).squeeze S_ squeezes_S1x1_S_ = csmU 0 3 := csmU_congr (by decide) _
@[sl_canon] theorem slotU_3 (hh hs) :
    (bufUM.slice (Rect.unit (s := S2x5120x1536) ![0, 3840, 0] S1x1280x1536.size hh) hs).squeeze S1280x1536 squeezes_S1x1280x1536_S1280x1536 = slotU 0 3 := slotU_congr (by decide) _ _
@[sl_canon] theorem canon_off36 (k : Fin (k0_t1_loop v).trips) (t : Fin k0_t3_loop.trips) (hh) :
    (cc0_scratch23.slice (Rect.unit (s := S2x3) (k0_off36 v k t) S1x1.size hh)).squeeze S_ squeezes_S1x1_S_ = csmD (Ring.sl 2 (k.val + 1)) (Ring.bk 3 t.val) := csmD_congr (off36_eq v k t) _
@[sl_canon] theorem canon_off39 (k : Fin (k0_t1_loop v).trips) (t : Fin k0_t3_loop.trips) (hh) :
    (cc0_scratch23.slice (Rect.unit (s := S2x3) (k0_off39 v k t) S1x1.size hh)).squeeze S_ squeezes_S1x1_S_ = csmD (Ring.sl 2 k.val) (Ring.bk 3 t.val) := csmD_congr (off39_eq v k t) _
@[sl_canon] theorem canon_off37 (k : Fin (k0_t1_loop v).trips) (t : Fin k0_t3_loop.trips) (hh hs) :
    (bufDM.slice (Rect.unit (s := S2x1536x5120) (k0_off37 v k t) S1x512x5120.size hh) hs).squeeze S512x5120 squeezes_S1x512x5120_S512x5120 = slotD (Ring.sl 2 (k.val + 1)) (Ring.bk 3 t.val) := slotD_congr (off37_eq v k t) _ _
@[sl_canon] theorem canon_off40 (k : Fin (k0_t1_loop v).trips) (t : Fin k0_t3_loop.trips) (hh hs) :
    (bufDM.slice (Rect.unit (s := S2x1536x5120) (k0_off40 v k t) S1x512x5120.size hh) hs).squeeze S512x5120 squeezes_S1x512x5120_S512x5120 = slotD (Ring.sl 2 k.val) (Ring.bk 3 t.val) := slotD_congr (off40_eq v k t) _ _
@[sl_canon] theorem canon_off38 (w : BitVec 32) (h : w.toNat < 16) (t : Fin k0_t3_loop.trips) (hh hs) :
    (wDM.slice (Rect.unit (s := S16x1536x5120) (k0_off38 w t) S1x512x5120.size hh) hs).squeeze S512x5120 squeezes_S1x512x5120_S512x5120 = srcD (ex w) (Ring.bk 3 t.val) := srcD_congr (off38_eq w h t) _ _
@[sl_canon] theorem canon_off41 (w : BitVec 32) (h : w.toNat < 16) (t : Fin k0_t3_loop.trips) (hh hs) :
    (wDM.slice (Rect.unit (s := S16x1536x5120) (k0_off41 w t) S1x512x5120.size hh) hs).squeeze S512x5120 squeezes_S1x512x5120_S512x5120 = srcD (ex w) (Ring.bk 3 t.val) := srcD_congr (off41_eq w h t) _ _
theorem off5_eq (w : BitVec 32) (h : w.toNat < 16) : k0_off5 w = srcOffD (ex w) 0 := by
  unfold srcOffD; rw [ex_val h]; rfl
@[sl_canon] theorem canon_off5 (w : BitVec 32) (h : w.toNat < 16) (hh hs) :
    (wDM.slice (Rect.unit (s := S16x1536x5120) (k0_off5 w) S1x512x5120.size hh) hs).squeeze S512x5120 squeezes_S1x512x5120_S512x5120 = srcD (ex w) 0 := srcD_congr (off5_eq w h) _ _
@[sl_canon] theorem semD_0 (hh) :
    (cc0_scratch23.slice (Rect.unit (s := S2x3) ![0, 0] S1x1.size hh)).squeeze S_ squeezes_S1x1_S_ = csmD 0 0 := csmD_congr (by decide) _
@[sl_canon] theorem slotD_0 (hh hs) :
    (bufDM.slice (Rect.unit (s := S2x1536x5120) ![0, 0, 0] S1x512x5120.size hh) hs).squeeze S512x5120 squeezes_S1x512x5120_S512x5120 = slotD 0 0 := slotD_congr (by decide) _ _
theorem off6_eq (w : BitVec 32) (h : w.toNat < 16) : k0_off6 w = srcOffD (ex w) 1 := by
  unfold srcOffD; rw [ex_val h]; rfl
@[sl_canon] theorem canon_off6 (w : BitVec 32) (h : w.toNat < 16) (hh hs) :
    (wDM.slice (Rect.unit (s := S16x1536x5120) (k0_off6 w) S1x512x5120.size hh) hs).squeeze S512x5120 squeezes_S1x512x5120_S512x5120 = srcD (ex w) 1 := srcD_congr (off6_eq w h) _ _
@[sl_canon] theorem semD_1 (hh) :
    (cc0_scratch23.slice (Rect.unit (s := S2x3) ![0, 1] S1x1.size hh)).squeeze S_ squeezes_S1x1_S_ = csmD 0 1 := csmD_congr (by decide) _
@[sl_canon] theorem slotD_1 (hh hs) :
    (bufDM.slice (Rect.unit (s := S2x1536x5120) ![0, 512, 0] S1x512x5120.size hh) hs).squeeze S512x5120 squeezes_S1x512x5120_S512x5120 = slotD 0 1 := slotD_congr (by decide) _ _
theorem off7_eq (w : BitVec 32) (h : w.toNat < 16) : k0_off7 w = srcOffD (ex w) 2 := by
  unfold srcOffD; rw [ex_val h]; rfl
@[sl_canon] theorem canon_off7 (w : BitVec 32) (h : w.toNat < 16) (hh hs) :
    (wDM.slice (Rect.unit (s := S16x1536x5120) (k0_off7 w) S1x512x5120.size hh) hs).squeeze S512x5120 squeezes_S1x512x5120_S512x5120 = srcD (ex w) 2 := srcD_congr (off7_eq w h) _ _
@[sl_canon] theorem semD_2 (hh) :
    (cc0_scratch23.slice (Rect.unit (s := S2x3) ![0, 2] S1x1.size hh)).squeeze S_ squeezes_S1x1_S_ = csmD 0 2 := csmD_congr (by decide) _
@[sl_canon] theorem slotD_2 (hh hs) :
    (bufDM.slice (Rect.unit (s := S2x1536x5120) ![0, 1024, 0] S1x512x5120.size hh) hs).squeeze S512x5120 squeezes_S1x512x5120_S512x5120 = slotD 0 2 := slotD_congr (by decide) _ _

end Canon

/-! ## The side conditions the program checks -/

/-- A statement about words holds below `n` when it holds at each of the `n` literals. -/
theorem of_lits {P : BitVec 32 → Prop} (n : Nat) (h : ∀ i : Fin n, P (BitVec.ofNat 32 i.val)) (w : BitVec 32) (hw : w.toNat < n) : P w := by
  have := h ⟨w.toNat, hw⟩; rwa [show BitVec.ofNat 32 w.toNat = w by simp] at this

set_option maxRecDepth 100000 in
theorem chk1_lits : ∀ i : Fin 16, k0_chk1 (BitVec.ofNat 32 i.val) := by decide +kernel
set_option maxRecDepth 100000 in
theorem chk3_lits : ∀ i : Fin 16, k0_chk3 (BitVec.ofNat 32 i.val) := by decide +kernel
set_option maxRecDepth 100000 in
theorem chk4_lits : ∀ i : Fin 16,
  (∀ k0_t2 : Fin k0_t2_loop.trips, ∀ a, (k0_off13 (BitVec.ofNat 32 i.val) k0_t2) a + S1x1280x1536.size a ≤ S16x5120x1536.size a) ∧
  (∀ k0_t2 : Fin k0_t2_loop.trips, ∀ (hinb : ∀ a, (k0_off13 (BitVec.ofNat 32 i.val) k0_t2) a + S1x1280x1536.size a ≤ S16x5120x1536.size a), (Rect.unit (s := S16x5120x1536) (k0_off13 (BitVec.ofNat 32 i.val) k0_t2) S1x1280x1536.size hinb).WholeWords (EltTy.packing .fp8e4m3)) ∧
  (∀ k0_t3 : Fin k0_t3_loop.trips, ∀ a, (k0_off38 (BitVec.ofNat 32 i.val) k0_t3) a + S1x512x5120.size a ≤ S16x1536x5120.size a) ∧
  (∀ k0_t3 : Fin k0_t3_loop.trips, ∀ (hinb : ∀ a, (k0_off38 (BitVec.ofNat 32 i.val) k0_t3) a + S1x512x5120.size a ≤ S16x1536x5120.size a), (Rect.unit (s := S16x1536x5120) (k0_off38 (BitVec.ofNat 32 i.val) k0_t3) S1x512x5120.size hinb).WholeWords (EltTy.packing .fp8e4m3)) := by
  decide +kernel

theorem chk1_of (w : BitVec 32) (h : w.toNat < 16) : k0_chk1 w := of_lits 16 chk1_lits w h
theorem chk3_of (w : BitVec 32) (h : w.toNat < 16) : k0_chk3 w := of_lits 16 chk3_lits w h
theorem chk4_of (v : BitVec 32) (k : Fin (k0_t1_loop v).trips) (w : BitVec 32) (h : w.toNat < 16) : k0_chk4 v k w := by
  obtain ⟨h1, h2, h3, h4⟩ := of_lits (P := fun w =>
    (∀ k0_t2 : Fin k0_t2_loop.trips, ∀ a, (k0_off13 w k0_t2) a + S1x1280x1536.size a ≤ S16x5120x1536.size a) ∧
    (∀ k0_t2 : Fin k0_t2_loop.trips, ∀ (hinb : ∀ a, (k0_off13 w k0_t2) a + S1x1280x1536.size a ≤ S16x5120x1536.size a), (Rect.unit (s := S16x5120x1536) (k0_off13 w k0_t2) S1x1280x1536.size hinb).WholeWords (EltTy.packing .fp8e4m3)) ∧
    (∀ k0_t3 : Fin k0_t3_loop.trips, ∀ a, (k0_off38 w k0_t3) a + S1x512x5120.size a ≤ S16x1536x5120.size a) ∧
    (∀ k0_t3 : Fin k0_t3_loop.trips, ∀ (hinb : ∀ a, (k0_off38 w k0_t3) a + S1x512x5120.size a ≤ S16x1536x5120.size a), (Rect.unit (s := S16x1536x5120) (k0_off38 w k0_t3) S1x512x5120.size hinb).WholeWords (EltTy.packing .fp8e4m3)))
    16 chk4_lits w h
  exact ⟨fun t _ => h1 t, fun t _ => h2 t, fun t _ => h3 t, fun t _ => h4 t⟩

end Cert.Proof.K
-- ==== Proof.K.Pieces.lean ====
/-
  The pieces of the two weight streams as resources: a chunk idle, a chunk in flight with an expert's weights, and
  the family of the chunks before trip `t` of a loop over them.
-/
module

public import proofs.«01_k».proof.Proof.K.Names

@[expose] public section

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's, beside the counters the kernel's own transfers ride on -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-- A buffer of a core, held whole at contents `f`. -/
abbrev own (c : Dev nD) (b : Ref sig .tc) (f : Buf (Elt F) ((c : Thread nD τ).loc b)) : sProp 𝕄 :=
  (Memref.whole b).view.loc (c : Thread nD τ) ↦[(Memref.whole b).view.set]{fullShare} f

/-- A checked expert number is below 16. -/
theorem lt_of_chk3 {w : BitVec 32} (h : k0_chk3 w) : w.toNat < 16 := by
  have : w.toNat + 1 ≤ 16 := k0_off10_inb w h 1
  omega
theorem lt_of_chk4 {v : BitVec 32} {k : Fin (k0_t1_loop v).trips} {w : BitVec 32} (h : k0_chk4 v k w) (hc : k0_cond1 v k = 1#1) : w.toNat < 16 := by
  have : w.toNat + 1 ≤ 16 := k0_off13_inb v k w h ⟨0, by decide⟩ hc 0
  omega

section PiecesU
variable (c : Dev nD) (W : Buf (Elt F) (wUM.view.loc (c : Thread nD τ)))

/-- The read token of the weights that chunk `k` of slot `s` transfers with. -/
abbrev tokU (s : Fin 2) (k : Fin 4) : PosShare TreeShare := Transfers.shareTokN fullShare (4 * s.val + k.val)
abbrev cellU (s : Fin 2) (k : Fin 4) : sProp 𝕄 := semVal ((c : Thread nD τ), SemLoc.dma (csmU s k).sem) 0
abbrev slotPU (s : Fin 2) (k : Fin 4) (f : Buf (Elt F) ((slotU s k).view.loc (c : Thread nD τ))) : sProp 𝕄 :=
  (slotU s k).view.loc (c : Thread nD τ) ↦[(slotU s k).view.set]{fullShare} f
/-- Chunk `k` of expert `e` at the token of slot `s`, and the rest of the weights at that token. -/
abbrev winU (s : Fin 2) (k : Fin 4) (e : Fin 16) : sProp 𝕄 :=
  (srcU e k).view.loc (c : Thread nD τ) ↦[(srcU e k).view.set]{tokU s k} W
def restU (s : Fin 2) (k : Fin 4) (e : Fin 16) : sProp 𝕄 :=
  (wUM.view.loc (c : Thread nD τ) ↦[Finset.univ \ (srcU e k).view.set]{tokU s k} W)
def tokPU (s : Fin 2) (k : Fin 4) : sProp 𝕄 := (wUM.view.loc (c : Thread nD τ) ↦[Finset.univ]{tokU s k} W)
theorem tokU_eq (s : Fin 2) (k : Fin 4) (e : Fin 16) : (tokPU c W s k : sProp 𝕄) ⊣⊢ iprop(winU c W s k e ∗ restU c W s k e) :=
  pointsTo_split_subset (ℓ := wUM.view.loc (c : Thread nD τ)) (Finset.subset_univ _)
/-- What the transfer of expert `e`'s chunk leaves in the slot over prior contents `f`: the chunk, written whole. -/
abbrev landedU (s : Fin 2) (k : Fin 4) (e : Fin 16) (f : Buf (Elt F) ((slotU s k).view.loc (c : Thread nD τ))) :
    Buf (Elt F) ((slotU s k).view.loc (c : Thread nD τ)) :=
  (slotU s k).view.writes (Elt F) f [⟨Rect.whole S1280x1536, ReadAs.same.apply ((srcU e k).view.read (Elt F) W)⟩]
abbrev flightPU (s : Fin 2) (k : Fin 4) (e : Fin 16) (f : Buf (Elt F) ((slotU s k).view.loc (c : Thread nD τ))) : sProp 𝕄 :=
  Transfers.Flight countersEmb (c : Thread nD τ) (SemLoc.dma (csmU s k).sem) () 61440 iprop(slotPU c s k (landedU c W s k e f) ∗ winU c W s k e)
/-- Chunk `k` of slot `s` idle: its window of the buffer at anything, its semaphore at zero, its token. -/
def freeU (s : Fin 2) (k : Fin 4) : sProp 𝕄 := iprop((∃ f, slotPU c s k f) ∗ cellU c s k ∗ tokPU c W s k)
/-- Chunk `k` of slot `s` in flight with expert `e`'s weights. -/
def busyU (s : Fin 2) (k : Fin 4) (e : Fin 16) : sProp 𝕄 := iprop((∃ f, flightPU c W s k e f) ∗ restU c W s k e)
/-- In flight when `p`, idle otherwise. -/
def busyIfU (p : Prop) [Decidable p] (s : Fin 2) (k : Fin 4) (e : Fin 16) : sProp 𝕄 := if p then busyU c W s k e else freeU c W s k

variable (v18 : BitVec 32) (k0_t1 : Fin (k0_t1_loop v18).trips) (v172 v177 : BitVec 32)
/-- Chunk `k` before its trip: the current expert's in flight, the other slot idle; -/
def todoU (k : Fin 4) : sProp 𝕄 := iprop(busyU c W (Ring.sl 2 k0_t1.val) k (ex v172) ∗ freeU c W (Ring.sl 2 (k0_t1.val + 1)) k)
/-- after it: the current slot idle, the next expert's chunk in flight if there is a next expert. -/
def doneU (k : Fin 4) : sProp 𝕄 :=
  iprop(freeU c W (Ring.sl 2 k0_t1.val) k ∗ busyIfU c W (k0_cond1 v18 k0_t1 = 1#1) (Ring.sl 2 (k0_t1.val + 1)) k (ex v177))
def chunkU (t : ℕ) (k : Fin 4) : sProp 𝕄 := if k.val < t then doneU c W v18 k0_t1 v177 k else todoU c W v18 k0_t1 v172 k

theorem chunksU_here (t : ℕ) (ht : t < 4) : bigSep Finset.univ (chunkU c W v18 k0_t1 v172 v177 t)
    = iprop(todoU c W v18 k0_t1 v172 (Ring.bk 4 t) ∗ bigSep (Finset.univ.erase (Ring.bk 4 t)) (chunkU c W v18 k0_t1 v172 v177 t)) := by
  conv_lhs => rw [← Finset.insert_erase (Finset.mem_univ (Ring.bk 4 t)), bigSep_insert (Finset.notMem_erase _ _)]
  rw [show chunkU c W v18 k0_t1 v172 v177 t (Ring.bk 4 t) = todoU c W v18 k0_t1 v172 (Ring.bk 4 t) from
    if_neg (by rw [Ring.bk_val ht]; omega)]
  rfl
theorem chunksU_next (t : ℕ) (ht : t < 4) : bigSep Finset.univ (chunkU c W v18 k0_t1 v172 v177 (t + 1))
    = iprop(doneU c W v18 k0_t1 v177 (Ring.bk 4 t) ∗ bigSep (Finset.univ.erase (Ring.bk 4 t)) (chunkU c W v18 k0_t1 v172 v177 t)) := by
  conv_lhs => rw [← Finset.insert_erase (Finset.mem_univ (Ring.bk 4 t)), bigSep_insert (Finset.notMem_erase _ _)]
  rw [show chunkU c W v18 k0_t1 v172 v177 (t + 1) (Ring.bk 4 t) = doneU c W v18 k0_t1 v177 (Ring.bk 4 t) from
    if_pos (by rw [Ring.bk_val ht]; omega)]
  refine congrArg (fun P : sProp 𝕄 => iprop(_ ∗ P)) (bigSep_congr fun b hb => ?_)
  have hne : b.val ≠ t := fun e => Finset.ne_of_mem_erase hb (Fin.ext (by rw [Ring.bk_val ht]; exact e))
  unfold chunkU
  by_cases h : b.val < t
  · rw [if_pos h, if_pos (by omega)]
  · rw [if_neg h, if_neg (by omega)]
theorem chunksU_start : bigSep Finset.univ (chunkU c W v18 k0_t1 v172 v177 0) = bigSep Finset.univ (todoU c W v18 k0_t1 v172) :=
  bigSep_congr fun b _ => if_neg (Nat.not_lt_zero _)
theorem chunksU_end : bigSep Finset.univ (chunkU c W v18 k0_t1 v172 v177 4) = bigSep Finset.univ (doneU c W v18 k0_t1 v177) :=
  bigSep_congr fun b _ => if_pos b.isLt
end PiecesU

section PiecesD
variable (c : Dev nD) (W : Buf (Elt F) (wDM.view.loc (c : Thread nD τ)))

/-- The read token of the weights that chunk `k` of slot `s` transfers with. -/
abbrev tokD (s : Fin 2) (k : Fin 3) : PosShare TreeShare := Transfers.shareTokN fullShare (3 * s.val + k.val)
abbrev cellD (s : Fin 2) (k : Fin 3) : sProp 𝕄 := semVal ((c : Thread nD τ), SemLoc.dma (csmD s k).sem) 0
abbrev slotPD (s : Fin 2) (k : Fin 3) (f : Buf (Elt F) ((slotD s k).view.loc (c : Thread nD τ))) : sProp 𝕄 :=
  (slotD s k).view.loc (c : Thread nD τ) ↦[(slotD s k).view.set]{fullShare} f
/-- Chunk `k` of expert `e` at the token of slot `s`, and the rest of the weights at that token. -/
abbrev winD (s : Fin 2) (k : Fin 3) (e : Fin 16) : sProp 𝕄 :=
  (srcD e k).view.loc (c : Thread nD τ) ↦[(srcD e k).view.set]{tokD s k} W
def restD (s : Fin 2) (k : Fin 3) (e : Fin 16) : sProp 𝕄 :=
  (wDM.view.loc (c : Thread nD τ) ↦[Finset.univ \ (srcD e k).view.set]{tokD s k} W)
def tokPD (s : Fin 2) (k : Fin 3) : sProp 𝕄 := (wDM.view.loc (c : Thread nD τ) ↦[Finset.univ]{tokD s k} W)
theorem tokD_eq (s : Fin 2) (k : Fin 3) (e : Fin 16) : (tokPD c W s k : sProp 𝕄) ⊣⊢ iprop(winD c W s k e ∗ restD c W s k e) :=
  pointsTo_split_subset (ℓ := wDM.view.loc (c : Thread nD τ)) (Finset.subset_univ _)
/-- What the transfer of expert `e`'s chunk leaves in the slot over prior contents `f`: the chunk, written whole. -/
abbrev landedD (s : Fin 2) (k : Fin 3) (e : Fin 16) (f : Buf (Elt F) ((slotD s k).view.loc (c : Thread nD τ))) :
    Buf (Elt F) ((slotD s k).view.loc (c : Thread nD τ)) :=
  (slotD s k).view.writes (Elt F) f [⟨Rect.whole S512x5120, ReadAs.same.apply ((srcD e k).view.read (Elt F) W)⟩]
abbrev flightPD (s : Fin 2) (k : Fin 3) (e : Fin 16) (f : Buf (Elt F) ((slotD s k).view.loc (c : Thread nD τ))) : sProp 𝕄 :=
  Transfers.Flight countersEmb (c : Thread nD τ) (SemLoc.dma (csmD s k).sem) () 81920 iprop(slotPD c s k (landedD c W s k e f) ∗ winD c W s k e)
/-- Chunk `k` of slot `s` idle: its window of the buffer at anything, its semaphore at zero, its token. -/
def freeD (s : Fin 2) (k : Fin 3) : sProp 𝕄 := iprop((∃ f, slotPD c s k f) ∗ cellD c s k ∗ tokPD c W s k)
/-- Chunk `k` of slot `s` in flight with expert `e`'s weights. -/
def busyD (s : Fin 2) (k : Fin 3) (e : Fin 16) : sProp 𝕄 := iprop((∃ f, flightPD c W s k e f) ∗ restD c W s k e)
/-- In flight when `p`, idle otherwise. -/
def busyIfD (p : Prop) [Decidable p] (s : Fin 2) (k : Fin 3) (e : Fin 16) : sProp 𝕄 := if p then busyD c W s k e else freeD c W s k

variable (v18 : BitVec 32) (k0_t1 : Fin (k0_t1_loop v18).trips) (v172 v177 : BitVec 32)
/-- Chunk `k` before its trip: the current expert's in flight, the other slot idle; -/
def todoD (k : Fin 3) : sProp 𝕄 := iprop(busyD c W (Ring.sl 2 k0_t1.val) k (ex v172) ∗ freeD c W (Ring.sl 2 (k0_t1.val + 1)) k)
/-- after it: the current slot idle, the next expert's chunk in flight if there is a next expert. -/
def doneD (k : Fin 3) : sProp 𝕄 :=
  iprop(freeD c W (Ring.sl 2 k0_t1.val) k ∗ busyIfD c W (k0_cond1 v18 k0_t1 = 1#1) (Ring.sl 2 (k0_t1.val + 1)) k (ex v177))
def chunkD (t : ℕ) (k : Fin 3) : sProp 𝕄 := if k.val < t then doneD c W v18 k0_t1 v177 k else todoD c W v18 k0_t1 v172 k

theorem chunksD_here (t : ℕ) (ht : t < 3) : bigSep Finset.univ (chunkD c W v18 k0_t1 v172 v177 t)
    = iprop(todoD c W v18 k0_t1 v172 (Ring.bk 3 t) ∗ bigSep (Finset.univ.erase (Ring.bk 3 t)) (chunkD c W v18 k0_t1 v172 v177 t)) := by
  conv_lhs => rw [← Finset.insert_erase (Finset.mem_univ (Ring.bk 3 t)), bigSep_insert (Finset.notMem_erase _ _)]
  rw [show chunkD c W v18 k0_t1 v172 v177 t (Ring.bk 3 t) = todoD c W v18 k0_t1 v172 (Ring.bk 3 t) from
    if_neg (by rw [Ring.bk_val ht]; omega)]
  rfl
theorem chunksD_next (t : ℕ) (ht : t < 3) : bigSep Finset.univ (chunkD c W v18 k0_t1 v172 v177 (t + 1))
    = iprop(doneD c W v18 k0_t1 v177 (Ring.bk 3 t) ∗ bigSep (Finset.univ.erase (Ring.bk 3 t)) (chunkD c W v18 k0_t1 v172 v177 t)) := by
  conv_lhs => rw [← Finset.insert_erase (Finset.mem_univ (Ring.bk 3 t)), bigSep_insert (Finset.notMem_erase _ _)]
  rw [show chunkD c W v18 k0_t1 v172 v177 (t + 1) (Ring.bk 3 t) = doneD c W v18 k0_t1 v177 (Ring.bk 3 t) from
    if_pos (by rw [Ring.bk_val ht]; omega)]
  refine congrArg (fun P : sProp 𝕄 => iprop(_ ∗ P)) (bigSep_congr fun b hb => ?_)
  have hne : b.val ≠ t := fun e => Finset.ne_of_mem_erase hb (Fin.ext (by rw [Ring.bk_val ht]; exact e))
  unfold chunkD
  by_cases h : b.val < t
  · rw [if_pos h, if_pos (by omega)]
  · rw [if_neg h, if_neg (by omega)]
theorem chunksD_start : bigSep Finset.univ (chunkD c W v18 k0_t1 v172 v177 0) = bigSep Finset.univ (todoD c W v18 k0_t1 v172) :=
  bigSep_congr fun b _ => if_neg (Nat.not_lt_zero _)
theorem chunksD_end : bigSep Finset.univ (chunkD c W v18 k0_t1 v172 v177 3) = bigSep Finset.univ (doneD c W v18 k0_t1 v177) :=
  bigSep_congr fun b _ => if_pos b.isLt
end PiecesD

end Cert.Proof.K
-- ==== Proof.K.TripU.lean ====
module

public import proofs.«01_k».proof.Proof.K.Pieces

@[expose] public section

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section TripU
variable (c : Dev nD) (WU : Buf (Elt F) (wUM.view.loc (c : Thread nD τ)))
  (XQ : Buf (Elt F) ((c : Thread nD τ).loc cc0_scratch9)) (SX : Buf (Elt F) ((c : Thread nD τ).loc cc0_scratch10))
  (v18 : BitVec 32) (k0_hw2 : k0_chk2 v18) (v150 : IVec S8x8 32) (v152 : FVec F S8x8 .f32) (k0_t1 : Fin (k0_t1_loop v18).trips)
  (v172 : BitVec 32) (k0_hw3 : k0_chk3 v172) (v173 : BitVec 32) (v177 : BitVec 32) (k0_hw4 : k0_chk4 v18 k0_t1 v177) (v179 : BitVec 1)
  (v430 : FVec F S40x12 .f32) (v487 : FVec F S40x128 .f32)

/-- The resources before trip `k` of the loop over the up chunks, the accumulator at `fo`. -/
def resU (k : ℕ) (fo : Buf (Elt F) ((c : Thread nD τ).loc cc0_scratch15)) : sProp 𝕄 :=
  iprop(own c cc0_scratch15 fo ∗ own c cc0_scratch9 XQ ∗ own c cc0_scratch10 SX ∗ (∃ W, owes (c : Thread nD τ) 0 W)
    ∗ bigSep Finset.univ (chunkU c WU v18 k0_t1 v172 v177 k))

abbrev tripGU (k : Fin k0_t2_loop.trips) : Prog (TpuEff nD τ sig (Elt F) Λ₀ .tc) Unit :=
  k0_t2_body (F := F) (Memref.whole main_arg0) (Memref.isWhole_whole _) (Memref.whole main_arg1) (Memref.isWhole_whole _) (Memref.whole main_arg3) (Memref.isWhole_whole _) (Memref.whole main_arg4) (Memref.isWhole_whole _) (Memref.whole main_v0) (Memref.isWhole_whole _) (Memref.whole main_arg5) (Memref.isWhole_whole _) (Memref.whole main_v1) (Memref.isWhole_whole _) (Memref.whole main_arg7) (Memref.isWhole_whole _) (Memref.whole main_v2) (Memref.isWhole_whole _) (Memref.whole main_v3_0) (Memref.isWhole_whole _) (Memref.whole main_v3_1) (Memref.isWhole_whole _) (Memref.whole main_v3_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) cc0_scratch20 cc0_scratch21 cc0_scratch22 cc0_scratch23 cc0_scratch24 v18 k0_hw2 v150 v152 k0_t1 v172 k0_hw3 v173 v177 k0_hw4 v179 v430 v487 k ()

set_option backward.proofsInPublic true in
/-- ONE TRIP at a symbolic `k`: the next expert's chunk issued (if there is a next expert), the current expert's
    waited and read, the accumulator's twelve blocks stored. What they then hold is found by the run. -/
def tripRunU (k : Fin k0_t2_loop.trips) (fo : Buf (Elt F) ((c : Thread nD τ).loc cc0_scratch15)) :
    { f' : Buf (Elt F) ((c : Thread nD τ).loc cc0_scratch15) //
      resU c WU XQ SX v18 k0_t1 v172 v177 k fo ⊢ wp frame (wpE (defs₀ (F := F)) 𝒱₀ (c : Thread nD τ) none) Set.univ
        (tripGU v18 k0_hw2 v150 v152 k0_t1 v172 k0_hw3 v173 v177 k0_hw4 v179 v430 v487 k)
        (fun _ => resU c WU XQ SX v18 k0_t1 v172 v177 (k.val + 1) f') } := by
  refine ⟨?_, ?run⟩
  case run =>
    have hk : k.val < 4 := ckU_lt k
    have h172 := lt_of_chk3 k0_hw3
    unfold resU
    rw [chunksU_here c WU v18 k0_t1 v172 v177 k.val hk, chunksU_next c WU v18 k0_t1 v172 v177 k.val hk]
    unfold todoU doneU busyIfU
    by_cases hm : k0_cond1 v18 k0_t1 = 1#1
    · have h177 := lt_of_chk4 k0_hw4 hm
      rw [if_pos hm]
      unfold busyU freeU
      iintro ⟨HO, HX, HSX, ⟨%W, HW⟩, ⟨⟨⟨%f0, HF⟩, HR⟩, ⟨%f1, HS⟩, HC, HT⟩, Hrest⟩
      ihave HT2 := (tokU_eq c WU (Ring.sl 2 (k0_t1.val + 1)) (Ring.bk 4 k.val) (ex v177)).1 $$ HT
      icases HT2 with ⟨HTW, HTR⟩
      dsimp only [tripGU]
      sl_unfold [k0_t2_body]
      sl_exec
      sl_step
      isplitl [HO]; · iexact HO
      isplitl [HX]; · iexact HX
      isplitl [HSX]; · iexact HSX
      isplitl [HW]; · iexists _; iexact HW
      isplitr [Hrest]
      · isplitl [HF_dst HF HF_src HR]
        · isplitl [HF_dst]; · iexists _; iexact HF_dst
          isplitl [HF]; · iexact HF
          iapply (tokU_eq c WU (Ring.sl 2 k0_t1.val) (Ring.bk 4 k.val) (ex v172)).2
          isplitl [HF_src]; · iexact HF_src
          iexact HR
        · isplitl [HC]; · iexists f1; iexact HC
          iexact HTR
      · iexact Hrest
    · rw [if_neg hm]
      unfold busyU
      iintro ⟨HO, HX, HSX, ⟨%W, HW⟩, ⟨⟨⟨%f0, HF⟩, HR⟩, HN⟩, Hrest⟩
      dsimp only [tripGU]
      sl_unfold [k0_t2_body]
      sl_exec
      sl_step
      isplitl [HO]; · iexact HO
      isplitl [HX]; · iexact HX
      isplitl [HSX]; · iexact HSX
      isplitl [HW]; · iexists _; iexact HW
      isplitr [Hrest]
      · isplitr [HN]
        · unfold freeU
          isplitl [HF_dst]; · iexists _; iexact HF_dst
          isplitl [HF]; · iexact HF
          iapply (tokU_eq c WU (Ring.sl 2 k0_t1.val) (Ring.bk 4 k.val) (ex v172)).2
          isplitl [HF_src]; · iexact HF_src
          iexact HR
        · iexact HN
      · iexact Hrest

/-- The accumulator before trip `k` from `o0` at the loop's entry. -/
def accU (o0 : Buf (Elt F) ((c : Thread nD τ).loc cc0_scratch15)) : ℕ → Buf (Elt F) ((c : Thread nD τ).loc cc0_scratch15)
  | 0 => o0
  | k + 1 =>
    if h : k < k0_t2_loop.trips then
      (tripRunU c WU XQ SX v18 k0_hw2 v150 v152 k0_t1 v172 k0_hw3 v173 v177 k0_hw4 v179 v430 v487 ⟨k, h⟩ (accU o0 k)).1
    else accU o0 k

set_option warn.classDefReducibility false in
/-- THE LOOP OVER THE UP CHUNKS, its invariant: `resU` at the accumulator so far. -/
@[sl_loop] def loopInvU (o0 : Buf (Elt F) ((c : Thread nD τ).loc cc0_scratch15)) :
    LoopInvTy_k0_t2 (F := F) Unit ℕ (UU nD τ) ℕ 𝒱₀ c none Set.univ (Memref.whole main_arg0) (Memref.isWhole_whole _) (Memref.whole main_arg1) (Memref.isWhole_whole _) (Memref.whole main_arg3) (Memref.isWhole_whole _) (Memref.whole main_arg4) (Memref.isWhole_whole _) (Memref.whole main_v0) (Memref.isWhole_whole _) (Memref.whole main_arg5) (Memref.isWhole_whole _) (Memref.whole main_v1) (Memref.isWhole_whole _) (Memref.whole main_arg7) (Memref.isWhole_whole _) (Memref.whole main_v2) (Memref.isWhole_whole _) (Memref.whole main_v3_0) (Memref.isWhole_whole _) (Memref.whole main_v3_1) (Memref.isWhole_whole _) (Memref.whole main_v3_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) cc0_scratch20 cc0_scratch21 cc0_scratch22 cc0_scratch23 cc0_scratch24 v18 k0_hw2 v150 v152 k0_t1 v172 k0_hw3 v173 v177 k0_hw4 v179 v430 v487 where
  inv k _ := resU c WU XQ SX v18 k0_t1 v172 v177 k (accU c WU XQ SX v18 k0_hw2 v150 v152 k0_t1 v172 k0_hw3 v173 v177 k0_hw4 v179 v430 v487 o0 k)
  step k _ := by
    have e : accU c WU XQ SX v18 k0_hw2 v150 v152 k0_t1 v172 k0_hw3 v173 v177 k0_hw4 v179 v430 v487 o0 (k.val + 1)
        = (tripRunU c WU XQ SX v18 k0_hw2 v150 v152 k0_t1 v172 k0_hw3 v173 v177 k0_hw4 v179 v430 v487 k
            (accU c WU XQ SX v18 k0_hw2 v150 v152 k0_t1 v172 k0_hw3 v173 v177 k0_hw4 v179 v430 v487 o0 k)).1 := by
      rw [accU, dif_pos k.isLt]
    rw [e]
    exact (tripRunU c WU XQ SX v18 k0_hw2 v150 v152 k0_t1 v172 k0_hw3 v173 v177 k0_hw4 v179 v430 v487 k _).2
end TripU

end Cert.Proof.K
-- ==== Proof.K.TripD.lean ====
module

public import proofs.«01_k».proof.Proof.K.Pieces

@[expose] public section

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section TripD
variable (c : Dev nD) (WD : Buf (Elt F) (wDM.view.loc (c : Thread nD τ)))
  (HQ : Buf (Elt F) ((c : Thread nD τ).loc cc0_scratch13)) (WT : Buf (Elt F) ((c : Thread nD τ).loc cc0_scratch14)) (SX : Buf (Elt F) ((c : Thread nD τ).loc cc0_scratch11))
  (v18 : BitVec 32) (k0_hw2 : k0_chk2 v18) (v119 : FVec F S8x1 .f32) (v125 : FVec F S8x5120 .f32) (v126 : Vec F S8x5120 .f32) (k0_t1 : Fin (k0_t1_loop v18).trips)
  (v172 : BitVec 32) (k0_hw3 : k0_chk3 v172) (v173 : BitVec 32) (v177 : BitVec 32) (k0_hw4 : k0_chk4 v18 k0_t1 v177) (v179 : BitVec 1)

/-- The resources before trip `k` of the loop over the down chunks, the accumulator at `fo`. -/
def resD (k : ℕ) (fo : Buf (Elt F) ((c : Thread nD τ).loc cc0_scratch16)) : sProp 𝕄 :=
  iprop(own c cc0_scratch16 fo ∗ own c cc0_scratch13 HQ ∗ own c cc0_scratch14 WT ∗ own c cc0_scratch11 SX ∗ (∃ W, owes (c : Thread nD τ) 0 W)
    ∗ bigSep Finset.univ (chunkD c WD v18 k0_t1 v172 v177 k))

abbrev tripGD (k : Fin k0_t3_loop.trips) : Prog (TpuEff nD τ sig (Elt F) Λ₀ .tc) Unit :=
  k0_t3_body (F := F) (Memref.whole main_arg0) (Memref.isWhole_whole _) (Memref.whole main_arg1) (Memref.isWhole_whole _) (Memref.whole main_arg3) (Memref.isWhole_whole _) (Memref.whole main_arg4) (Memref.isWhole_whole _) (Memref.whole main_v0) (Memref.isWhole_whole _) (Memref.whole main_arg5) (Memref.isWhole_whole _) (Memref.whole main_v1) (Memref.isWhole_whole _) (Memref.whole main_arg7) (Memref.isWhole_whole _) (Memref.whole main_v2) (Memref.isWhole_whole _) (Memref.whole main_v3_0) (Memref.isWhole_whole _) (Memref.whole main_v3_1) (Memref.isWhole_whole _) (Memref.whole main_v3_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) cc0_scratch20 cc0_scratch21 cc0_scratch22 cc0_scratch23 cc0_scratch24 v18 k0_hw2 v119 v125 v126 k0_t1 v172 k0_hw3 v173 v177 k0_hw4 v179 k ()

set_option backward.proofsInPublic true in
/-- ONE TRIP at a symbolic `k`: the next expert's chunk issued (if there is a next expert), the current expert's
    waited and read, the accumulator's forty blocks stored. What they then hold is found by the run. -/
def tripRunD (k : Fin k0_t3_loop.trips) (fo : Buf (Elt F) ((c : Thread nD τ).loc cc0_scratch16)) :
    { f' : Buf (Elt F) ((c : Thread nD τ).loc cc0_scratch16) //
      resD c WD HQ WT SX v18 k0_t1 v172 v177 k fo ⊢ wp frame (wpE (defs₀ (F := F)) 𝒱₀ (c : Thread nD τ) none) Set.univ
        (tripGD v18 k0_hw2 v119 v125 v126 k0_t1 v172 k0_hw3 v173 v177 k0_hw4 v179 k)
        (fun _ => resD c WD HQ WT SX v18 k0_t1 v172 v177 (k.val + 1) f') } := by
  refine ⟨?_, ?run⟩
  case run =>
    have hk : k.val < 3 := ckD_lt k
    have h172 := lt_of_chk3 k0_hw3
    unfold resD
    rw [chunksD_here c WD v18 k0_t1 v172 v177 k.val hk, chunksD_next c WD v18 k0_t1 v172 v177 k.val hk]
    unfold todoD doneD busyIfD
    by_cases hm : k0_cond1 v18 k0_t1 = 1#1
    · have h177 := lt_of_chk4 k0_hw4 hm
      rw [if_pos hm]
      unfold busyD freeD
      iintro ⟨HO, HX, HWT, HSX, ⟨%W, HW⟩, ⟨⟨⟨%f0, HF⟩, HR⟩, ⟨%f1, HS⟩, HC, HT⟩, Hrest⟩
      ihave HT2 := (tokD_eq c WD (Ring.sl 2 (k0_t1.val + 1)) (Ring.bk 3 k.val) (ex v177)).1 $$ HT
      icases HT2 with ⟨HTW, HTR⟩
      dsimp only [tripGD]
      sl_unfold [k0_t3_body]
      sl_exec
      sl_step
      isplitl [HO]; · iexact HO
      isplitl [HX]; · iexact HX
      isplitl [HWT]; · iexact HWT
      isplitl [HSX]; · iexact HSX
      isplitl [HW]; · iexists _; iexact HW
      isplitr [Hrest]
      · isplitl [HF_dst HF HF_src HR]
        · isplitl [HF_dst]; · iexists _; iexact HF_dst
          isplitl [HF]; · iexact HF
          iapply (tokD_eq c WD (Ring.sl 2 k0_t1.val) (Ring.bk 3 k.val) (ex v172)).2
          isplitl [HF_src]; · iexact HF_src
          iexact HR
        · isplitl [HC]; · iexists f1; iexact HC
          iexact HTR
      · iexact Hrest
    · rw [if_neg hm]
      unfold busyD
      iintro ⟨HO, HX, HWT, HSX, ⟨%W, HW⟩, ⟨⟨⟨%f0, HF⟩, HR⟩, HN⟩, Hrest⟩
      dsimp only [tripGD]
      sl_unfold [k0_t3_body]
      sl_exec
      sl_step
      isplitl [HO]; · iexact HO
      isplitl [HX]; · iexact HX
      isplitl [HWT]; · iexact HWT
      isplitl [HSX]; · iexact HSX
      isplitl [HW]; · iexists _; iexact HW
      isplitr [Hrest]
      · isplitr [HN]
        · unfold freeD
          isplitl [HF_dst]; · iexists _; iexact HF_dst
          isplitl [HF]; · iexact HF
          iapply (tokD_eq c WD (Ring.sl 2 k0_t1.val) (Ring.bk 3 k.val) (ex v172)).2
          isplitl [HF_src]; · iexact HF_src
          iexact HR
        · iexact HN
      · iexact Hrest

/-- The accumulator before trip `k` from `o0` at the loop's entry. -/
def accD (o0 : Buf (Elt F) ((c : Thread nD τ).loc cc0_scratch16)) : ℕ → Buf (Elt F) ((c : Thread nD τ).loc cc0_scratch16)
  | 0 => o0
  | k + 1 =>
    if h : k < k0_t3_loop.trips then
      (tripRunD c WD HQ WT SX v18 k0_hw2 v119 v125 v126 k0_t1 v172 k0_hw3 v173 v177 k0_hw4 v179 ⟨k, h⟩ (accD o0 k)).1
    else accD o0 k

set_option warn.classDefReducibility false in
/-- THE LOOP OVER THE DOWN CHUNKS, its invariant: `resD` at the accumulator so far. -/
@[sl_loop] def loopInvD (o0 : Buf (Elt F) ((c : Thread nD τ).loc cc0_scratch16)) :
    LoopInvTy_k0_t3 (F := F) Unit ℕ (UU nD τ) ℕ 𝒱₀ c none Set.univ (Memref.whole main_arg0) (Memref.isWhole_whole _) (Memref.whole main_arg1) (Memref.isWhole_whole _) (Memref.whole main_arg3) (Memref.isWhole_whole _) (Memref.whole main_arg4) (Memref.isWhole_whole _) (Memref.whole main_v0) (Memref.isWhole_whole _) (Memref.whole main_arg5) (Memref.isWhole_whole _) (Memref.whole main_v1) (Memref.isWhole_whole _) (Memref.whole main_arg7) (Memref.isWhole_whole _) (Memref.whole main_v2) (Memref.isWhole_whole _) (Memref.whole main_v3_0) (Memref.isWhole_whole _) (Memref.whole main_v3_1) (Memref.isWhole_whole _) (Memref.whole main_v3_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) cc0_scratch20 cc0_scratch21 cc0_scratch22 cc0_scratch23 cc0_scratch24 v18 k0_hw2 v119 v125 v126 k0_t1 v172 k0_hw3 v173 v177 k0_hw4 v179 where
  inv k _ := resD c WD HQ WT SX v18 k0_t1 v172 v177 k (accD c WD HQ WT SX v18 k0_hw2 v119 v125 v126 k0_t1 v172 k0_hw3 v173 v177 k0_hw4 v179 o0 k)
  step k _ := by
    have e : accD c WD HQ WT SX v18 k0_hw2 v119 v125 v126 k0_t1 v172 k0_hw3 v173 v177 k0_hw4 v179 o0 (k.val + 1)
        = (tripRunD c WD HQ WT SX v18 k0_hw2 v119 v125 v126 k0_t1 v172 k0_hw3 v173 v177 k0_hw4 v179 k
            (accD c WD HQ WT SX v18 k0_hw2 v119 v125 v126 k0_t1 v172 k0_hw3 v173 v177 k0_hw4 v179 o0 k)).1 := by
      rw [accD, dif_pos k.isLt]
    rw [e]
    exact (tripRunD c WD HQ WT SX v18 k0_hw2 v119 v125 v126 k0_t1 v172 k0_hw3 v173 v177 k0_hw4 v179 k _).2
end TripD

end Cert.Proof.K
-- ==== Proof.K.TripE.lean ====
module

public import proofs.«01_k».proof.Proof.K.TripU
public import proofs.«01_k».proof.Proof.K.TripD

@[expose] public section

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## The two streams before trip `i` of the expert loop -/

section Streams
variable (c : Dev nD) (LS : Buf (Elt F) ((c : Thread nD τ).loc cc0_scratch0)) (v18 : BitVec 32)

/-- The index of entry `i` of the list of experts. -/
def listIx (i : ℕ) : S17.Idx := fun a => ⟨i % 17, by fin_cases a; exact Nat.mod_lt _ (by decide)⟩
/-- Entry `i` of the list of experts. -/
def word (i : ℕ) : BitVec 32 := LS (listIx i)
/-- The count is at most 16 and the experts listed are below 16. -/
def ListOK : Prop := (k0_t1_loop v18).trips ≤ 16 ∧ ∀ i < (k0_t1_loop v18).trips, (word c LS i).toNat < 16

omit [FloatOps F] in
theorem sl2_add2 (k : ℕ) : Ring.sl 2 (k + 1 + 1) = Ring.sl 2 k := by rw [show k + 1 + 1 = k + 2 from rfl, Ring.sl_add]

section StreamU
variable (W : Buf (Elt F) (wUM.view.loc (c : Thread nD τ)))
/-- Chunk `b` of the stream before trip `i`: in flight into slot `i % 2` if there is an `i`-th expert; the other slot idle. -/
def outU (i : ℕ) (b : Fin 4) : sProp 𝕄 :=
  iprop(busyIfU c W (i < (k0_t1_loop v18).trips) (Ring.sl 2 i) b (ex (word c LS i)) ∗ freeU c W (Ring.sl 2 (i + 1)) b)
theorem outU_start (k : Fin (k0_t1_loop v18).trips) (w : BitVec 32) (hw : w = word c LS k.val) :
    bigSep Finset.univ (outU c LS v18 W k.val) = bigSep Finset.univ (todoU c W v18 k w) :=
  bigSep_congr fun b _ => by unfold outU todoU busyIfU; rw [if_pos k.isLt, hw]
theorem outU_end (k : Fin (k0_t1_loop v18).trips) (w : BitVec 32) (hw : k0_cond1 v18 k = 1#1 → w = word c LS (k.val + 1)) :
    bigSep Finset.univ (doneU c W v18 k w) ⊢ bigSep Finset.univ (outU c LS v18 W (k.val + 1)) :=
  bigSep_mono fun b _ => by
    unfold outU doneU busyIfU
    rw [sl2_add2]
    by_cases h : k0_cond1 v18 k = 1#1
    · rw [if_pos h, if_pos ((more1_iff v18 k).1 h), hw h]; exact BI.sep_comm
    · rw [if_neg h, if_neg (fun h' => h ((more1_iff v18 k).2 h'))]; exact BI.sep_comm
theorem outU_last : bigSep Finset.univ (outU c LS v18 W (k0_t1_loop v18).trips)
    ⊢ bigSep Finset.univ (fun b => iprop(freeU c W (Ring.sl 2 (k0_t1_loop v18).trips) b ∗ freeU c W (Ring.sl 2 ((k0_t1_loop v18).trips + 1)) b)) :=
  bigSep_mono fun b _ => by unfold outU busyIfU; rw [if_neg (Nat.lt_irrefl _)]; exact entails_of_eq rfl
end StreamU

section StreamD
variable (W : Buf (Elt F) (wDM.view.loc (c : Thread nD τ)))
/-- Chunk `b` of the stream before trip `i`: in flight into slot `i % 2` if there is an `i`-th expert; the other slot idle. -/
def outD (i : ℕ) (b : Fin 3) : sProp 𝕄 :=
  iprop(busyIfD c W (i < (k0_t1_loop v18).trips) (Ring.sl 2 i) b (ex (word c LS i)) ∗ freeD c W (Ring.sl 2 (i + 1)) b)
theorem outD_start (k : Fin (k0_t1_loop v18).trips) (w : BitVec 32) (hw : w = word c LS k.val) :
    bigSep Finset.univ (outD c LS v18 W k.val) = bigSep Finset.univ (todoD c W v18 k w) :=
  bigSep_congr fun b _ => by unfold outD todoD busyIfD; rw [if_pos k.isLt, hw]
theorem outD_end (k : Fin (k0_t1_loop v18).trips) (w : BitVec 32) (hw : k0_cond1 v18 k = 1#1 → w = word c LS (k.val + 1)) :
    bigSep Finset.univ (doneD c W v18 k w) ⊢ bigSep Finset.univ (outD c LS v18 W (k.val + 1)) :=
  bigSep_mono fun b _ => by
    unfold outD doneD busyIfD
    rw [sl2_add2]
    by_cases h : k0_cond1 v18 k = 1#1
    · rw [if_pos h, if_pos ((more1_iff v18 k).1 h), hw h]; exact BI.sep_comm
    · rw [if_neg h, if_neg (fun h' => h ((more1_iff v18 k).2 h'))]; exact BI.sep_comm
theorem outD_last : bigSep Finset.univ (outD c LS v18 W (k0_t1_loop v18).trips)
    ⊢ bigSep Finset.univ (fun b => iprop(freeD c W (Ring.sl 2 (k0_t1_loop v18).trips) b ∗ freeD c W (Ring.sl 2 ((k0_t1_loop v18).trips + 1)) b)) :=
  bigSep_mono fun b _ => by unfold outD busyIfD; rw [if_neg (Nat.lt_irrefl _)]; exact entails_of_eq rfl
end StreamD

end Streams

theorem chk4_of' (v : BitVec 32) (k : Fin (k0_t1_loop v).trips) (w : BitVec 32) (h : k0_cond1 v k = 1#1 → w.toNat < 16) : k0_chk4 v k w := by
  by_cases hc : k0_cond1 v k = 1#1
  · exact chk4_of v k w (h hc)
  · exact ⟨fun _ hc' => absurd hc' hc, fun _ hc' => absurd hc' hc, fun _ hc' => absurd hc' hc, fun _ hc' => absurd hc' hc⟩

theorem word_read (c : Dev nD) (LS : Buf (Elt F) ((c : Thread nD τ).loc cc0_scratch0)) (n : ℕ) (hn : n < 17) (off : Fin 1 → Nat) (h : off = ![n])
    (inb : ∀ a, off a + S1.size a ≤ S17.size a) (j : (Rect.unit (s := S17) off S1.size inb).shape.Idx) :
    (Memref.whole cc0_scratch0 : Memref sig .tc .smem S17 .i32).view.read (Elt F) LS ((Rect.unit (s := S17) off S1.size inb).idx j) = word c LS n := by
  subst h
  show LS _ = LS _
  refine congrArg LS (funext fun a => Fin.ext ?_)
  fin_cases a
  have hj : (j 0).val < 1 := (j 0).isLt
  show n + 1 * (j 0).val = n % 17
  omega

section TripE
variable (c : Dev nD) (WU : Buf (Elt F) (wUM.view.loc (c : Thread nD τ))) (WD : Buf (Elt F) (wDM.view.loc (c : Thread nD τ)))
  (LS : Buf (Elt F) ((c : Thread nD τ).loc cc0_scratch0)) (SU : Buf (Elt F) ((c : Thread nD τ).loc cc0_scratch5)) (SD : Buf (Elt F) ((c : Thread nD τ).loc cc0_scratch6))
  (XQ : Buf (Elt F) ((c : Thread nD τ).loc cc0_scratch9))
  (v18 : BitVec 32) (k0_hw2 : k0_chk2 v18) (v119 : FVec F S8x1 .f32) (v125 : FVec F S8x5120 .f32) (v126 : Vec F S8x5120 .f32)
  (v149 : Vec F S8x1x8 .i32) (v151 : Vec F S8x1x8 .f32)

/-- The resources before trip `i` of the expert loop, the output accumulator at `fy`. -/
def resE (i : ℕ) (fy : Buf (Elt F) ((c : Thread nD τ).loc cc0_scratch16)) : sProp 𝕄 :=
  iprop(own c cc0_scratch16 fy ∗ own c cc0_scratch0 LS ∗ own c cc0_scratch5 SU ∗ own c cc0_scratch6 SD ∗ own c cc0_scratch9 XQ
    ∗ (∃ f, own c cc0_scratch10 f) ∗ (∃ f, own c cc0_scratch11 f) ∗ (∃ f, own c cc0_scratch12 f) ∗ (∃ f, own c cc0_scratch13 f)
    ∗ (∃ f, own c cc0_scratch14 f) ∗ (∃ f, own c cc0_scratch15 f) ∗ (∃ W, owes (c : Thread nD τ) 0 W)
    ∗ bigSep Finset.univ (outU c LS v18 WU i) ∗ bigSep Finset.univ (outD c LS v18 WD i))

abbrev tripGE (k : Fin (k0_t1_loop v18).trips) : Prog (TpuEff nD τ sig (Elt F) Λ₀ .tc) Unit :=
  k0_t1_body (F := F) (Memref.whole main_arg0) (Memref.isWhole_whole _) (Memref.whole main_arg1) (Memref.isWhole_whole _) (Memref.whole main_arg3) (Memref.isWhole_whole _) (Memref.whole main_arg4) (Memref.isWhole_whole _) (Memref.whole main_v0) (Memref.isWhole_whole _) (Memref.whole main_arg5) (Memref.isWhole_whole _) (Memref.whole main_v1) (Memref.isWhole_whole _) (Memref.whole main_arg7) (Memref.isWhole_whole _) (Memref.whole main_v2) (Memref.isWhole_whole _) (Memref.whole main_v3_0) (Memref.isWhole_whole _) (Memref.whole main_v3_1) (Memref.isWhole_whole _) (Memref.whole main_v3_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) cc0_scratch20 cc0_scratch21 cc0_scratch22 cc0_scratch23 cc0_scratch24 v18 k0_hw2 v119 v125 v126 v149 v151 k ()

set_option backward.proofsInPublic true in
def tripRunE (k : Fin (k0_t1_loop v18).trips) (hL : ListOK c LS v18) (fy : Buf (Elt F) ((c : Thread nD τ).loc cc0_scratch16)) :
    { f' : Buf (Elt F) ((c : Thread nD τ).loc cc0_scratch16) //
      resE c WU WD LS SU SD XQ v18 k fy ⊢ wp frame (wpE (defs₀ (F := F)) 𝒱₀ (c : Thread nD τ) none) Set.univ
        (tripGE v18 k0_hw2 v119 v125 v126 v149 v151 k)
        (fun _ => resE c WU WD LS SU SD XQ v18 (k.val + 1) f') } := by
  have hk16 : k.val < 16 := lt_of_lt_of_le k.isLt hL.1
  refine ⟨?_, ?run⟩
  case run =>
    unfold resE
    iintro ⟨HY, HL, HSU, HSD, HXQ, ⟨%f10, H10⟩, ⟨%f11, H11⟩, ⟨%f12, H12⟩, ⟨%f13, H13⟩, ⟨%f14, H14⟩, ⟨%f15, H15⟩, ⟨%W, HW⟩, HBU, HBD⟩
    dsimp only [tripGE]
    sl_unfold [k0_t1_body]
    sl_exec
    have e172 : tripRunE.sl.r c LS v18 k0_hw2 k = word c LS k.val := by
      unfold tripRunE.sl.r
      rw [View.readAt_apply]
      exact word_read c LS k.val (by omega) _ (off8_eq v18 k) _ _
    have hchk3 : k0_chk3 (tripRunE.sl.r c LS v18 k0_hw2 k) := chk3_of _ (by rw [e172]; exact hL.2 k.val k.isLt)
    sl_exec
    have e177 : k0_cond1 v18 k = 1#1 → tripRunE.sl.r_1 c LS v18 k0_hw2 k = word c LS (k.val + 1) := by
      intro hc
      have h1 : k.val + 1 < (k0_t1_loop v18).trips := (more1_iff v18 k).1 hc
      have h2 := hL.1
      unfold tripRunE.sl.r_1
      rw [View.readAt_apply]
      exact word_read c LS (k.val + 1) (by omega) _ ((off9_eq v18 k).trans (by rw [Nat.min_eq_left (by omega)])) _ _
    have hchk4 : k0_chk4 v18 k (tripRunE.sl.r_1 c LS v18 k0_hw2 k) :=
      chk4_of' v18 k _ (fun hc => by rw [e177 hc]; exact hL.2 _ ((more1_iff v18 k).1 hc))
    ihave HCU := (entails_of_eq ((outU_start c LS v18 WU k _ e172).trans (chunksU_start c WU v18 k _ (tripRunE.sl.r_1 c LS v18 k0_hw2 k)).symm)) $$ HBU
    ihave HCD := (entails_of_eq ((outD_start c LS v18 WD k _ e172).trans (chunksD_start c WD v18 k _ (tripRunE.sl.r_1 c LS v18 k0_hw2 k)).symm)) $$ HBD
    sl_exec
    sl_step
    have q4 : hchk4 = chk4_of' v18 k _ (fun hc => by
        have h1 : k.val + 1 < (k0_t1_loop v18).trips := (more1_iff v18 k).1 hc
        have h2 := hL.1
        unfold tripRunE.sl.r_1
        rw [View.readAt_apply, word_read c LS (k.val + 1) (by omega) _ ((off9_eq v18 k).trans (by rw [Nat.min_eq_left (by omega)])) _ _]
        exact hL.2 _ h1) := rfl
    subst q4
    have q3 : hchk3 = chk3_of _ (by
        unfold tripRunE.sl.r
        rw [View.readAt_apply, word_read c LS k.val (by omega) _ (off8_eq v18 k) _ _]
        exact hL.2 k.val k.isLt) := rfl
    subst q3
    isplitl [HY]; · iexact HY
    isplitl [HL]; · iexact HL
    isplitl [HSU]; · iexact HSU
    isplitl [HSD]; · iexact HSD
    isplitl [HXQ]; · iexact HXQ
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [HW]; · iexists _; iexact HW
    isplitl [HCU]
    · iapply (outU_end c LS v18 WU k _ e177)
      iapply (entails_of_eq (chunksU_end c WU v18 k (tripRunE.sl.r c LS v18 k0_hw2 k) (tripRunE.sl.r_1 c LS v18 k0_hw2 k)))
      iexact HCU
    · iapply (outD_end c LS v18 WD k _ e177)
      iapply (entails_of_eq (chunksD_end c WD v18 k (tripRunE.sl.r c LS v18 k0_hw2 k) (tripRunE.sl.r_1 c LS v18 k0_hw2 k)))
      iexact HCD
end TripE

end Cert.Proof.K
-- ==== Proof.K.Count.lean ====
/-
  The count check: `k0_chk2` holds for each count of experts from 0 to 16 (the loops' bounds, the slices and the
  whole-word conditions of every trip, by evaluation at each literal).
-/
module

public import proofs.«01_k».proof.Proof.K.Names

@[expose] public section

namespace Cert.Proof.K

open Cert.Kernel Cert.Kernel.Gen
open Idealize.ShloMosaic

set_option maxRecDepth 100000 in
theorem chk2_0 : k0_chk2 0#32 := by decide +kernel
set_option maxRecDepth 100000 in
theorem chk2_1 : k0_chk2 1#32 := by decide +kernel
set_option maxRecDepth 100000 in
theorem chk2_2 : k0_chk2 2#32 := by decide +kernel
set_option maxRecDepth 100000 in
theorem chk2_3 : k0_chk2 3#32 := by decide +kernel
set_option maxRecDepth 100000 in
theorem chk2_4 : k0_chk2 4#32 := by decide +kernel
set_option maxRecDepth 100000 in
theorem chk2_5 : k0_chk2 5#32 := by decide +kernel
set_option maxRecDepth 100000 in
theorem chk2_6 : k0_chk2 6#32 := by decide +kernel
set_option maxRecDepth 100000 in
theorem chk2_7 : k0_chk2 7#32 := by decide +kernel
set_option maxRecDepth 100000 in
theorem chk2_8 : k0_chk2 8#32 := by decide +kernel
set_option maxRecDepth 100000 in
theorem chk2_9 : k0_chk2 9#32 := by decide +kernel
set_option maxRecDepth 100000 in
theorem chk2_10 : k0_chk2 10#32 := by decide +kernel
set_option maxRecDepth 100000 in
theorem chk2_11 : k0_chk2 11#32 := by decide +kernel
set_option maxRecDepth 100000 in
theorem chk2_12 : k0_chk2 12#32 := by decide +kernel
set_option maxRecDepth 100000 in
theorem chk2_13 : k0_chk2 13#32 := by decide +kernel
set_option maxRecDepth 100000 in
theorem chk2_14 : k0_chk2 14#32 := by decide +kernel
set_option maxRecDepth 100000 in
theorem chk2_15 : k0_chk2 15#32 := by decide +kernel
set_option maxRecDepth 100000 in
theorem chk2_16 : k0_chk2 16#32 := by decide +kernel

theorem chk2_of (v : BitVec 32) (h : v.toNat ≤ 16) : k0_chk2 v := by
  have e : v = BitVec.ofNat 32 v.toNat := by simp
  rw [e]
  match hn : v.toNat, h with
  | 0, _ => exact chk2_0
  | 1, _ => exact chk2_1
  | 2, _ => exact chk2_2
  | 3, _ => exact chk2_3
  | 4, _ => exact chk2_4
  | 5, _ => exact chk2_5
  | 6, _ => exact chk2_6
  | 7, _ => exact chk2_7
  | 8, _ => exact chk2_8
  | 9, _ => exact chk2_9
  | 10, _ => exact chk2_10
  | 11, _ => exact chk2_11
  | 12, _ => exact chk2_12
  | 13, _ => exact chk2_13
  | 14, _ => exact chk2_14
  | 15, _ => exact chk2_15
  | 16, _ => exact chk2_16
  | n + 17, h => omega

end Cert.Proof.K
-- ==== Proof.K.Loop.lean ====
module

public import proofs.«01_k».proof.Proof.K.TripE
public import proofs.«01_k».proof.Proof.K.Count

@[expose] public section

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## The loop over the experts -/

section LoopE
variable (c : Dev nD) (WU : Buf (Elt F) (wUM.view.loc (c : Thread nD τ))) (WD : Buf (Elt F) (wDM.view.loc (c : Thread nD τ)))
  (LS : Buf (Elt F) ((c : Thread nD τ).loc cc0_scratch0)) (SU : Buf (Elt F) ((c : Thread nD τ).loc cc0_scratch5)) (SD : Buf (Elt F) ((c : Thread nD τ).loc cc0_scratch6))
  (XQ : Buf (Elt F) ((c : Thread nD τ).loc cc0_scratch9))
  (v18 : BitVec 32) (k0_hw2 : k0_chk2 v18) (v119 : FVec F S8x1 .f32) (v125 : FVec F S8x5120 .f32) (v126 : Vec F S8x5120 .f32)
  (v149 : Vec F S8x1x8 .i32) (v151 : Vec F S8x1x8 .f32) (hL : ListOK c LS v18)

/-- The output accumulator before trip `k` from `o0` at the loop's entry. -/
def accE (o0 : Buf (Elt F) ((c : Thread nD τ).loc cc0_scratch16)) : ℕ → Buf (Elt F) ((c : Thread nD τ).loc cc0_scratch16)
  | 0 => o0
  | k + 1 =>
    if h : k < (k0_t1_loop v18).trips then
      (tripRunE c WU WD LS SU SD XQ v18 k0_hw2 v119 v125 v126 v149 v151 ⟨k, h⟩ hL (accE o0 k)).1
    else accE o0 k

/-- THE LOOP OVER THE EXPERTS, its invariant: `resE` at the accumulator so far. -/
@[reducible] def loopInvE (o0 : Buf (Elt F) ((c : Thread nD τ).loc cc0_scratch16)) :
    LoopInvTy_k0_t1 (F := F) Unit ℕ (UU nD τ) ℕ 𝒱₀ c none Set.univ (Memref.whole main_arg0) (Memref.isWhole_whole _) (Memref.whole main_arg1) (Memref.isWhole_whole _) (Memref.whole main_arg3) (Memref.isWhole_whole _) (Memref.whole main_arg4) (Memref.isWhole_whole _) (Memref.whole main_v0) (Memref.isWhole_whole _) (Memref.whole main_arg5) (Memref.isWhole_whole _) (Memref.whole main_v1) (Memref.isWhole_whole _) (Memref.whole main_arg7) (Memref.isWhole_whole _) (Memref.whole main_v2) (Memref.isWhole_whole _) (Memref.whole main_v3_0) (Memref.isWhole_whole _) (Memref.whole main_v3_1) (Memref.isWhole_whole _) (Memref.whole main_v3_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) cc0_scratch20 cc0_scratch21 cc0_scratch22 cc0_scratch23 cc0_scratch24 v18 k0_hw2 v119 v125 v126 v149 v151 where
  inv k _ := resE c WU WD LS SU SD XQ v18 k (accE c WU WD LS SU SD XQ v18 k0_hw2 v119 v125 v126 v149 v151 hL o0 k)
  step k _ := by
    have e : accE c WU WD LS SU SD XQ v18 k0_hw2 v119 v125 v126 v149 v151 hL o0 (k.val + 1)
        = (tripRunE c WU WD LS SU SD XQ v18 k0_hw2 v119 v125 v126 v149 v151 k hL
            (accE c WU WD LS SU SD XQ v18 k0_hw2 v119 v125 v126 v149 v151 hL o0 k)).1 := by
      rw [accE, dif_pos k.isLt]
    rw [e]
    exact (tripRunE c WU WD LS SU SD XQ v18 k0_hw2 v119 v125 v126 v149 v151 k hL _).2

theorem loopInvE_inv (o0 : Buf (Elt F) ((c : Thread nD τ).loc cc0_scratch16)) (k : ℕ) (a : PUnit) :
    (loopInvE c WU WD LS SU SD XQ v18 k0_hw2 v119 v125 v126 v149 v151 hL o0).inv k a
      = resE c WU WD LS SU SD XQ v18 k (accE c WU WD LS SU SD XQ v18 k0_hw2 v119 v125 v126 v149 v151 hL o0 k) := rfl

/-- The remainder loop has no trip: any resources stay. -/
@[reducible] def loopInv4 (v157 : BitVec 32) (P : sProp 𝕄) :
    LoopInvTy_k0_t4 (F := F) Unit ℕ (UU nD τ) ℕ 𝒱₀ c none Set.univ (Memref.whole main_arg0) (Memref.isWhole_whole _) (Memref.whole main_arg1) (Memref.isWhole_whole _) (Memref.whole main_arg3) (Memref.isWhole_whole _) (Memref.whole main_arg4) (Memref.isWhole_whole _) (Memref.whole main_v0) (Memref.isWhole_whole _) (Memref.whole main_arg5) (Memref.isWhole_whole _) (Memref.whole main_v1) (Memref.isWhole_whole _) (Memref.whole main_arg7) (Memref.isWhole_whole _) (Memref.whole main_v2) (Memref.isWhole_whole _) (Memref.whole main_v3_0) (Memref.isWhole_whole _) (Memref.whole main_v3_1) (Memref.isWhole_whole _) (Memref.whole main_v3_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) cc0_scratch20 cc0_scratch21 cc0_scratch22 cc0_scratch23 cc0_scratch24 v18 k0_hw2 v119 v125 v126 v149 v151 v157 where
  inv _ _ := P
  step k _ := absurd (trips4_eq v18 ▸ k.isLt : k.val < 0) (Nat.not_lt_zero _)
theorem loopInv4_inv (v157 : BitVec 32) (P : sProp 𝕄) (k : ℕ) (a : PUnit) :
    (loopInv4 c v18 k0_hw2 v119 v125 v126 v149 v151 v157 P).inv k a = P := rfl
end LoopE

end Cert.Proof.K
-- ==== Proof.K.BodyP.lean ====
module

public import proofs.«01_k».proof.Proof.K.Loop

@[expose] public section

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## The body -/

section Body
variable (c : Dev nD) (WU : Buf (Elt F) (wUM.view.loc (c : Thread nD τ))) (WD : Buf (Elt F) (wDM.view.loc (c : Thread nD τ)))
  (AL : Buf (Elt F) ((c : Thread nD τ).loc main_arg0)) (AC : Buf (Elt F) ((c : Thread nD τ).loc main_arg1))
  (AI : Buf (Elt F) ((c : Thread nD τ).loc main_arg3)) (AW : Buf (Elt F) ((c : Thread nD τ).loc main_arg4))
  (AX : Buf (Elt F) ((c : Thread nD τ).loc main_v0)) (AU : Buf (Elt F) ((c : Thread nD τ).loc main_v1)) (AD : Buf (Elt F) ((c : Thread nD τ).loc main_v2))

/-- The count's one index, the count, and expert `i` of the list. -/
def cntIx : S1.Idx := fun a => ⟨0, by fin_cases a; decide⟩
def cntOf : BitVec 32 := AC cntIx
def listOf (i : ℕ) : BitVec 32 := AL (listIx i)

/-- What the body needs of its list and its count: between 1 and 16 experts, each listed one below 16. -/
def InOK : Prop := 1 ≤ (cntOf c AC).toNat ∧ (cntOf c AC).toNat ≤ 16
  ∧ ∀ i < (cntOf c AC).toNat, (listOf c AL i).toNat < 16

/-- The semaphores of the small copies at zero. -/
def cellsS : sProp 𝕄 :=
  iprop(semVal ((c : Thread nD τ), SemLoc.dma ((cc0_scratch20.slice (Rect.unit (s := S5) ![0] S1.size inb_S5_S1_0)).squeeze S_ squeezes_S1_S_).sem) 0
    ∗ semVal ((c : Thread nD τ), SemLoc.dma ((cc0_scratch20.slice (Rect.unit (s := S5) ![1] S1.size inb_S5_S1_1)).squeeze S_ squeezes_S1_S_).sem) 0
    ∗ semVal ((c : Thread nD τ), SemLoc.dma ((cc0_scratch20.slice (Rect.unit (s := S5) ![2] S1.size inb_S5_S1_2)).squeeze S_ squeezes_S1_S_).sem) 0
    ∗ semVal ((c : Thread nD τ), SemLoc.dma ((cc0_scratch20.slice (Rect.unit (s := S5) ![3] S1.size inb_S5_S1_3)).squeeze S_ squeezes_S1_S_).sem) 0
    ∗ semVal ((c : Thread nD τ), SemLoc.dma ((cc0_scratch20.slice (Rect.unit (s := S5) ![4] S1.size inb_S5_S1_4)).squeeze S_ squeezes_S1_S_).sem) 0
    ∗ semVal ((c : Thread nD τ), SemLoc.dma ((cc0_scratch21.slice (Rect.unit (s := S2) ![0] S1.size inb_S2_S1_0)).squeeze S_ squeezes_S1_S_).sem) 0
    ∗ semVal ((c : Thread nD τ), SemLoc.dma ((cc0_scratch21.slice (Rect.unit (s := S2) ![1] S1.size inb_S2_S1_1)).squeeze S_ squeezes_S1_S_).sem) 0
    ∗ semVal ((c : Thread nD τ), SemLoc.dma ((cc0_scratch24.slice (Rect.unit (s := S3) ![0] S1.size inb_S3_S1_0)).squeeze S_ squeezes_S1_S_).sem) 0
    ∗ semVal ((c : Thread nD τ), SemLoc.dma ((cc0_scratch24.slice (Rect.unit (s := S3) ![1] S1.size inb_S3_S1_1)).squeeze S_ squeezes_S1_S_).sem) 0
    ∗ semVal ((c : Thread nD τ), SemLoc.dma ((cc0_scratch24.slice (Rect.unit (s := S3) ![2] S1.size inb_S3_S1_2)).squeeze S_ squeezes_S1_S_).sem) 0)

/-- The arrays the body only reads, the weights apart. -/
def readsP : sProp 𝕄 :=
  iprop(own c main_arg0 AL ∗ own c main_arg1 AC ∗ own c main_arg3 AI ∗ own c main_arg4 AW ∗ own c main_v0 AX ∗ own c main_v1 AU ∗ own c main_v2 AD)
/-- The scratch buffers at anything, the slots of the weights and the four buffers of `bodyRun`'s arguments apart. -/
def scratchP : sProp 𝕄 :=
  iprop((∃ f, own c cc0_scratch0 f) ∗ (∃ f, own c cc0_scratch1 f) ∗ (∃ f, own c cc0_scratch2 f) ∗ (∃ f, own c cc0_scratch3 f) ∗ (∃ f, own c cc0_scratch4 f)
    ∗ (∃ f, own c cc0_scratch5 f) ∗ (∃ f, own c cc0_scratch6 f) ∗ (∃ f, own c cc0_scratch10 f) ∗ (∃ f, own c cc0_scratch11 f) ∗ (∃ f, own c cc0_scratch12 f)
    ∗ (∃ f, own c cc0_scratch13 f) ∗ (∃ f, own c cc0_scratch14 f) ∗ (∃ f, own c cc0_scratch15 f) ∗ (∃ f, own c cc0_scratch16 f))
/-- The two slots of both weights idle. -/
def streamsP : sProp 𝕄 :=
  iprop(bigSep Finset.univ (freeU c WU 0) ∗ bigSep Finset.univ (freeU c WU 1) ∗ bigSep Finset.univ (freeD c WD 0) ∗ bigSep Finset.univ (freeD c WD 1))

omit [FloatOps F] in
theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ
omit [FloatOps F] in
theorem bigSep_fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

/-- A buffer written whole holds what was written. -/
theorem landed_whole (b : Ref sig .tc) (f : b.ty.Contents (Elt F)) (p : b.ty.Contents (Elt F)) :
    (Memref.whole b).view.writes (Elt F) f [⟨Rect.whole b.ty.shape, p⟩] = p :=
  View.read_writes_whole (Val := Elt F) (Memref.whole b).view f p

theorem outU_init (c : Dev nD) (LS : Buf (Elt F) ((c : Thread nD τ).loc cc0_scratch0)) (v18 : BitVec 32) (W : Buf (Elt F) (wUM.view.loc (c : Thread nD τ)))
    (h0 : 0 < (k0_t1_loop v18).trips) (w : BitVec 32) (hw : w = word c LS 0) :
    (iprop(bigSep Finset.univ (fun b => busyU c W 0 b (ex w)) ∗ bigSep Finset.univ (freeU c W 1)) : sProp 𝕄) ⊢ bigSep Finset.univ (outU c LS v18 W 0) := by
  exact entails_of_eq ((bigSep_sep (Finset.univ : Finset (Fin 4)) (fun b => busyU c W 0 b (ex w)) (freeU c W 1)).symm.trans (bigSep_congr fun b _ => by unfold outU busyIfU; rw [if_pos h0, hw]; rfl))
theorem outU_fin (c : Dev nD) (LS : Buf (Elt F) ((c : Thread nD τ).loc cc0_scratch0)) (v18 : BitVec 32) (W : Buf (Elt F) (wUM.view.loc (c : Thread nD τ))) :
    (bigSep Finset.univ (outU c LS v18 W (k0_t1_loop v18).trips) : sProp 𝕄) ⊢ iprop(bigSep Finset.univ (freeU c W 0) ∗ bigSep Finset.univ (freeU c W 1)) := by
  refine (outU_last c LS v18 W).trans ?_
  generalize (k0_t1_loop v18).trips = n
  refine (entails_of_eq (bigSep_sep (Finset.univ : Finset (Fin 4)) (freeU c W (Ring.sl 2 n)) (freeU c W (Ring.sl 2 (n + 1))))).trans ?_
  rcases Nat.mod_two_eq_zero_or_one n with h | h
  · rw [show Ring.sl 2 n = (0 : Fin 2) from Fin.ext h, show Ring.sl 2 (n + 1) = (1 : Fin 2) from Fin.ext (show (n + 1) % 2 = 1 by omega)]
    exact entails_of_eq rfl
  · rw [show Ring.sl 2 n = (1 : Fin 2) from Fin.ext h, show Ring.sl 2 (n + 1) = (0 : Fin 2) from Fin.ext (show (n + 1) % 2 = 0 by omega)]
    exact BI.sep_comm

theorem outD_init (c : Dev nD) (LS : Buf (Elt F) ((c : Thread nD τ).loc cc0_scratch0)) (v18 : BitVec 32) (W : Buf (Elt F) (wDM.view.loc (c : Thread nD τ)))
    (h0 : 0 < (k0_t1_loop v18).trips) (w : BitVec 32) (hw : w = word c LS 0) :
    (iprop(bigSep Finset.univ (fun b => busyD c W 0 b (ex w)) ∗ bigSep Finset.univ (freeD c W 1)) : sProp 𝕄) ⊢ bigSep Finset.univ (outD c LS v18 W 0) := by
  exact entails_of_eq ((bigSep_sep (Finset.univ : Finset (Fin 3)) (fun b => busyD c W 0 b (ex w)) (freeD c W 1)).symm.trans (bigSep_congr fun b _ => by unfold outD busyIfD; rw [if_pos h0, hw]; rfl))
theorem outD_fin (c : Dev nD) (LS : Buf (Elt F) ((c : Thread nD τ).loc cc0_scratch0)) (v18 : BitVec 32) (W : Buf (Elt F) (wDM.view.loc (c : Thread nD τ))) :
    (bigSep Finset.univ (outD c LS v18 W (k0_t1_loop v18).trips) : sProp 𝕄) ⊢ iprop(bigSep Finset.univ (freeD c W 0) ∗ bigSep Finset.univ (freeD c W 1)) := by
  refine (outD_last c LS v18 W).trans ?_
  generalize (k0_t1_loop v18).trips = n
  refine (entails_of_eq (bigSep_sep (Finset.univ : Finset (Fin 3)) (freeD c W (Ring.sl 2 n)) (freeD c W (Ring.sl 2 (n + 1))))).trans ?_
  rcases Nat.mod_two_eq_zero_or_one n with h | h
  · rw [show Ring.sl 2 n = (0 : Fin 2) from Fin.ext h, show Ring.sl 2 (n + 1) = (1 : Fin 2) from Fin.ext (show (n + 1) % 2 = 1 by omega)]
    exact entails_of_eq rfl
  · rw [show Ring.sl 2 n = (1 : Fin 2) from Fin.ext h, show Ring.sl 2 (n + 1) = (0 : Fin 2) from Fin.ext (show (n + 1) % 2 = 0 by omega)]
    exact BI.sep_comm

theorem cnt_read (c : Dev nD) (AC : Buf (Elt F) ((c : Thread nD τ).loc main_arg1)) (inb) (j) :
    (Memref.whole cc0_scratch1 : Memref sig .tc .smem S1 .i32).view.readCov (Val := Elt F) [⟨Rect.whole S1, AC⟩]
      (Rect.unit (s := S1) ![0] S1.size inb).toLoadRect j = cntOf c AC := by
  unfold View.readCov
  rw [View.readAt_apply]
  refine (congrFun (View.read_writes_whole (Val := Elt F) (Memref.whole cc0_scratch1 : Memref sig .tc .smem S1 .i32).view _ AC) _).trans ?_
  refine congrArg AC (funext fun a => Fin.ext ?_)
  fin_cases a
  have hj : (j 0).val < 1 := (j 0).isLt
  show 0 + 1 * (j 0).val = 0
  omega

omit [FloatOps F] in
theorem trips_of (hok : InOK c AL AC) (v : BitVec 32) (er : v = cntOf c AC) : (k0_t1_loop v).trips = (cntOf c AC).toNat := by
  rw [er, trips1_eq, BitVec.toInt_eq_toNat_of_lt (by have := hok.2.1; omega)]; rfl
omit [FloatOps F] in
theorem listOK_of (hok : InOK c AL AC) (v : BitVec 32) (er : v = cntOf c AC) : ListOK c AL v :=
  ⟨by rw [trips_of c AL AC hok v er]; exact hok.2.1, by rw [trips_of c AL AC hok v er]; exact hok.2.2⟩

/-- The body, on the whole arrays. -/
abbrev bodyG : Prog (TpuEff nD τ sig (Elt F) Λ₀ .tc) PUnit := cc0_moe_fp8_lora (F := F) (Memref.whole main_arg0) (Memref.isWhole_whole _) (Memref.whole main_arg1) (Memref.isWhole_whole _) (Memref.whole main_arg3) (Memref.isWhole_whole _) (Memref.whole main_arg4) (Memref.isWhole_whole _) (Memref.whole main_v0) (Memref.isWhole_whole _) (Memref.whole main_arg5) (Memref.isWhole_whole _) (Memref.whole main_v1) (Memref.isWhole_whole _) (Memref.whole main_arg7) (Memref.isWhole_whole _) (Memref.whole main_v2) (Memref.isWhole_whole _) (Memref.whole main_v3_0) (Memref.isWhole_whole _) (Memref.whole main_v3_1) (Memref.isWhole_whole _) (Memref.whole main_v3_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) cc0_scratch20 cc0_scratch21 cc0_scratch22 cc0_scratch23 cc0_scratch24

end Body

end Cert.Proof.K
-- ==== Proof.K.Body.lean ====
module

public import proofs.«01_k».proof.Proof.K.BodyP

@[expose] public section

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## The body -/

section Body
variable (c : Dev nD) (WU : Buf (Elt F) (wUM.view.loc (c : Thread nD τ))) (WD : Buf (Elt F) (wDM.view.loc (c : Thread nD τ)))
  (AL : Buf (Elt F) ((c : Thread nD τ).loc main_arg0)) (AC : Buf (Elt F) ((c : Thread nD τ).loc main_arg1))
  (AI : Buf (Elt F) ((c : Thread nD τ).loc main_arg3)) (AW : Buf (Elt F) ((c : Thread nD τ).loc main_arg4))
  (AX : Buf (Elt F) ((c : Thread nD τ).loc main_v0)) (AU : Buf (Elt F) ((c : Thread nD τ).loc main_v1)) (AD : Buf (Elt F) ((c : Thread nD τ).loc main_v2))

structure Outs where
  y : Buf (Elt F) ((c : Thread nD τ).loc main_v3_0)
  xc : Buf (Elt F) ((c : Thread nD τ).loc main_v3_1)
  xs : Buf (Elt F) ((c : Thread nD τ).loc main_v3_2)

/-- The three result arrays at given contents. -/
def outsP (o : Outs (F := F) c) : sProp 𝕄 := iprop(own c main_v3_0 o.y ∗ own c main_v3_1 o.xc ∗ own c main_v3_2 o.xs)

set_option backward.proofsInPublic true in
/-- THE BODY: from the arrays at their contents and everything else idle it ends with the results at the found
    contents and everything else idle again. `f9`, `f17`, `f18` and `f19` are what the buffers of the
    scaled inputs, of the rounded output, of the codes and of the scales hold at the start. -/
def bodyRun (hok : InOK c AL AC) (f9 : Buf (Elt F) ((c : Thread nD τ).loc cc0_scratch9))
    (f17 : Buf (Elt F) ((c : Thread nD τ).loc cc0_scratch17)) (f18 : Buf (Elt F) ((c : Thread nD τ).loc cc0_scratch18)) (f19 : Buf (Elt F) ((c : Thread nD τ).loc cc0_scratch19)) :
    { o : Outs (F := F) c //
      iprop(readsP c AL AC AI AW AX AU AD ∗ (∃ o, outsP c o) ∗ scratchP c ∗ own c cc0_scratch9 f9 ∗ own c cc0_scratch17 f17 ∗ own c cc0_scratch18 f18 ∗ own c cc0_scratch19 f19 ∗ streamsP c WU WD ∗ cellsS c ∗ (∃ W, owes (c : Thread nD τ) 0 W))
      ⊢ wp frame (wpE (defs₀ (F := F)) 𝒱₀ (c : Thread nD τ) none) Set.univ bodyG
        (fun _ => iprop(readsP c AL AC AI AW AX AU AD ∗ outsP c o ∗ scratchP c ∗ (∃ f, own c cc0_scratch9 f) ∗ (∃ f, own c cc0_scratch17 f) ∗ (∃ f, own c cc0_scratch18 f) ∗ (∃ f, own c cc0_scratch19 f) ∗ streamsP c WU WD ∗ cellsS c ∗ (∃ W, owes (c : Thread nD τ) 0 W))) } := by
  refine ⟨⟨?_, ?_, ?_⟩, ?run⟩
  case run =>
    unfold readsP outsP scratchP streamsP cellsS
    rw [bigSep_fin4, bigSep_fin3]
    unfold freeU freeD
    iintro ⟨⟨HAL, HAC, HAI, HAW, HAX, HAU, HAD⟩, ⟨%o, HOY, HOC, HOS⟩, ⟨⟨%f0, H0⟩, ⟨%f1, H1⟩, ⟨%f2, H2⟩, ⟨%f3, H3⟩, ⟨%f4, H4⟩, ⟨%f5, H5⟩, ⟨%f6, H6⟩, ⟨%f10, H10⟩, ⟨%f11, H11⟩, ⟨%f12, H12⟩, ⟨%f13, H13⟩, ⟨%f14, H14⟩, ⟨%f15, H15⟩, ⟨%f16, H16⟩⟩, H9, H17, H18, H19, ⟨⟨⟨⟨%g0, HU0⟩, HCU0, HTU0⟩, ⟨⟨%g1, HU1⟩, HCU1, HTU1⟩, ⟨⟨%g2, HU2⟩, HCU2, HTU2⟩, ⟨%g3, HU3⟩, HCU3, HTU3⟩, HFU, ⟨⟨⟨%d0, HD0⟩, HCD0, HTD0⟩, ⟨⟨%d1, HD1⟩, HCD1, HTD1⟩, ⟨%d2, HD2⟩, HCD2, HTD2⟩, HFD⟩, ⟨HI0, HI1, HI2, HI3, HI4, HS0, HS1, HO0, HO1, HO2⟩, ⟨%W, HW⟩⟩
    dsimp only [bodyG]
    sl_unfold [cc0_moe_fp8_lora]
    sl_exec
    have er : bodyRun.sl.r c AC = cntOf c AC := by
      unfold bodyRun.sl.r bodyRun.sl.f
      exact cnt_read c AC _ _
    have hchk2 : k0_chk2 (bodyRun.sl.r c AC) := chk2_of _ (by rw [er]; exact hok.2.1)
    ihave HLS := (entails_of_eq (congrArg (own c cc0_scratch0) (landed_whole cc0_scratch0 f0 (bodyRun.sl.dma0 c AL)))) $$ H0
    sl_exec
    have er1 : bodyRun.sl.r_1 c AL = listOf c AL 0 := by
      unfold bodyRun.sl.r_1
      rw [View.readAt_apply]
      exact word_read c (bodyRun.sl.dma0 c AL) 0 (by omega) _ rfl _ _
    have hw1 : (bodyRun.sl.r_1 c AL).toNat < 16 := by rw [er1]; exact hok.2.2 0 hok.1
    have hchk1 : k0_chk1 (bodyRun.sl.r_1 c AL) := chk1_of _ hw1
    ihave HTU0 := (tokU_eq c WU 0 0 (ex (bodyRun.sl.r_1 c AL))).1 $$ HTU0
    icases HTU0 with ⟨HWU0, HRU0⟩
    ihave HTU1 := (tokU_eq c WU 0 1 (ex (bodyRun.sl.r_1 c AL))).1 $$ HTU1
    icases HTU1 with ⟨HWU1, HRU1⟩
    ihave HTU2 := (tokU_eq c WU 0 2 (ex (bodyRun.sl.r_1 c AL))).1 $$ HTU2
    icases HTU2 with ⟨HWU2, HRU2⟩
    ihave HTU3 := (tokU_eq c WU 0 3 (ex (bodyRun.sl.r_1 c AL))).1 $$ HTU3
    icases HTU3 with ⟨HWU3, HRU3⟩
    ihave HTD0 := (tokD_eq c WD 0 0 (ex (bodyRun.sl.r_1 c AL))).1 $$ HTD0
    icases HTD0 with ⟨HWD0, HRD0⟩
    ihave HTD1 := (tokD_eq c WD 0 1 (ex (bodyRun.sl.r_1 c AL))).1 $$ HTD1
    icases HTD1 with ⟨HWD1, HRD1⟩
    ihave HTD2 := (tokD_eq c WD 0 2 (ex (bodyRun.sl.r_1 c AL))).1 $$ HTD2
    icases HTD2 with ⟨HWD2, HRD2⟩
    sl_exec
    have etr : (k0_t1_loop (bodyRun.sl.r c AC)).trips = (cntOf c AC).toNat := by
      rw [er, trips1_eq, BitVec.toInt_eq_toNat_of_lt (by have := hok.2.1; omega)]; rfl
    have hpos : 0 < (k0_t1_loop (bodyRun.sl.r c AC)).trips := by rw [etr]; exact hok.1
    have hL : ListOK c (bodyRun.sl.dma0 c AL) (bodyRun.sl.r c AC) := ⟨by rw [etr]; exact hok.2.1, by rw [etr]; exact hok.2.2⟩
    ihave HBU := (outU_init c (bodyRun.sl.dma0 c AL) (bodyRun.sl.r c AC) WU hpos (bodyRun.sl.r_1 c AL) er1) $$ [HCU0 HRU0 HCU1 HRU1 HCU2 HRU2 HCU3 HRU3 HFU]
    · isplitr [HFU]
      · irw [bigSep_fin4]
        unfold busyU
        isplitl [HCU0 HRU0]
        · isplitl [HCU0]; · iexists _; iexact HCU0
          iexact HRU0
        isplitl [HCU1 HRU1]
        · isplitl [HCU1]; · iexists _; iexact HCU1
          iexact HRU1
        isplitl [HCU2 HRU2]
        · isplitl [HCU2]; · iexists _; iexact HCU2
          iexact HRU2
        isplitl [HCU3]; · iexists _; iexact HCU3
        iexact HRU3
      · iexact HFU
    ihave HBD := (outD_init c (bodyRun.sl.dma0 c AL) (bodyRun.sl.r c AC) WD hpos (bodyRun.sl.r_1 c AL) er1) $$ [HCD0 HRD0 HCD1 HRD1 HCD2 HRD2 HFD]
    · isplitr [HFD]
      · irw [bigSep_fin3]
        unfold busyD
        isplitl [HCD0 HRD0]
        · isplitl [HCD0]; · iexists _; iexact HCD0
          iexact HRD0
        isplitl [HCD1 HRD1]
        · isplitl [HCD1]; · iexists _; iexact HCD1
          iexact HRD1
        isplitl [HCD2]; · iexists _; iexact HCD2
        iexact HRD2
      · iexact HFD
    ihave H5 := (entails_of_eq (congrArg (own c cc0_scratch5) (landed_whole cc0_scratch5 (Memref.whole cc0_scratch5).view.junk (bodyRun.sl.dma0_5 c AU)))) $$ H5
    ihave H6 := (entails_of_eq (congrArg (own c cc0_scratch6) (landed_whole cc0_scratch6 (Memref.whole cc0_scratch6).view.junk (bodyRun.sl.dma0_6 c AD)))) $$ H6
    sl_for (loopInvE c WU WD (bodyRun.sl.dma0 c AL) (bodyRun.sl.dma0_5 c AU) (bodyRun.sl.dma0_6 c AD) ((Memref.whole cc0_scratch9).view.writes (Elt F) (Memref.whole cc0_scratch9).view.junk (bodyRun.sl.H9_1 c AX)) (bodyRun.sl.r c AC) hchk2 (bodyRun.sl.r_4 c AX) (bodyRun.sl.r_5 c AX) (bodyRun.sl.r_6 c f9) (bodyRun.sl.v149 c AI) (bodyRun.sl.v151 c AW) hL ((Memref.whole cc0_scratch16).view.writes (Elt F) (Memref.whole cc0_scratch16).view.junk bodyRun.sl.H16_1)).inv $$ [H16 HLS H5 H6 H9 H10 H11 H12 H13 H14 H15 HW HBU HBD]
    · exact fun k acc => (loopInvE c WU WD (bodyRun.sl.dma0 c AL) (bodyRun.sl.dma0_5 c AU) (bodyRun.sl.dma0_6 c AD) ((Memref.whole cc0_scratch9).view.writes (Elt F) (Memref.whole cc0_scratch9).view.junk (bodyRun.sl.H9_1 c AX)) (bodyRun.sl.r c AC) hchk2 (bodyRun.sl.r_4 c AX) (bodyRun.sl.r_5 c AX) (bodyRun.sl.r_6 c f9) (bodyRun.sl.v149 c AI) (bodyRun.sl.v151 c AW) hL ((Memref.whole cc0_scratch16).view.writes (Elt F) (Memref.whole cc0_scratch16).view.junk bodyRun.sl.H16_1)).step k acc
    · iapply (entails_of_eq (loopInvE_inv _ _ _ _ _ _ _ _ _ _ _ _ _ _ _ _ _ _).symm)
      unfold resE
      isplitl [H16]; · iexact H16
      isplitl [HLS]; · iexact HLS
      isplitl [H5]; · iexact H5
      isplitl [H6]; · iexact H6
      isplitl [H9]; · iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [HW]; · iexists _; iexact HW
      isplitl [HBU]; · iexact HBU
      iexact HBD
    iintro %acc HI
    ihave HI := (entails_of_eq (loopInvE_inv _ _ _ _ _ _ _ _ _ _ _ _ _ _ _ _ _ _)) $$ HI
    unfold resE
    icases HI with ⟨HY, HLS, H5, H6, H9, ⟨%h10, H10⟩, ⟨%h11, H11⟩, ⟨%h12, H12⟩, ⟨%h13, H13⟩, ⟨%h14, H14⟩, ⟨%h15, H15⟩, ⟨%W', HW⟩, HBU, HBD⟩
    ihave HBU := (outU_fin c (bodyRun.sl.dma0 c AL) (bodyRun.sl.r c AC) WU) $$ HBU
    ihave HBD := (outD_fin c (bodyRun.sl.dma0 c AL) (bodyRun.sl.r c AC) WD) $$ HBD
    sl_exec
    sl_for (loopInv4 c (bodyRun.sl.r c AC) hchk2 (bodyRun.sl.r_4 c AX) (bodyRun.sl.r_5 c AX) (bodyRun.sl.r_6 c f9) (bodyRun.sl.v149 c AI) (bodyRun.sl.v151 c AW) (bodyRun.sl.v157 c AC) (own c cc0_scratch10 h10)).inv $$ [H10]
    · exact fun k acc => (loopInv4 c (bodyRun.sl.r c AC) hchk2 (bodyRun.sl.r_4 c AX) (bodyRun.sl.r_5 c AX) (bodyRun.sl.r_6 c f9) (bodyRun.sl.v149 c AI) (bodyRun.sl.v151 c AW) (bodyRun.sl.v157 c AC) (own c cc0_scratch10 h10)).step k acc
    · iexact H10
    iintro %acc2 H10
    ihave H10 := (entails_of_eq (loopInv4_inv _ _ _ _ _ _ _ _ _ _ _ _)) $$ H10
    sl_exec
    sl_step
    ihave HOC := (entails_of_eq (congrArg (own c main_v3_1) (landed_whole main_v3_1 o.2 (bodyRun.sl.dma7 c AX f18)))) $$ HOC
    ihave HOS := (entails_of_eq (congrArg (own c main_v3_2) (landed_whole main_v3_2 o.3 (bodyRun.sl.dma7_1 c AX f19)))) $$ HOS
    ihave HOY := (entails_of_eq (congrArg (own c main_v3_0) (landed_whole main_v3_0 o.1 (bodyRun.sl.dma3 c WU WD AL AC AI AW AX AU AD f9 f17 hchk2 hL)))) $$ HOY
    icases HBU with ⟨HBU0, HBU1⟩
    icases HBD with ⟨HBD0, HBD1⟩
    ihave HBU0 := (entails_of_eq (bigSep_fin4 _)) $$ HBU0
    ihave HBD0 := (entails_of_eq (bigSep_fin3 _)) $$ HBD0
    have q2 : hchk2 = chk2_of _ (by
        unfold bodyRun.sl.r bodyRun.sl.f
        exact (congrArg BitVec.toNat (cnt_read c AC _ _)).le.trans hok.2.1) := rfl
    subst q2
    have qL : hL = listOK_of c AL AC hok _ (by
        unfold bodyRun.sl.r bodyRun.sl.f
        exact cnt_read c AC _ _) := rfl
    subst qL
    isplitl [HAL HAC HAI HAW HAX HAU HAD]
    · isplitl [HAL]; · iexact HAL
      isplitl [HAC]; · iexact HAC
      isplitl [HAI]; · iexact HAI
      isplitl [HAW]; · iexact HAW
      isplitl [HAX]; · iexact HAX
      isplitl [HAU]; · iexact HAU
      iexact HAD
    isplitl [HOY HOC HOS]
    · isplitl [HOY]; · iexact HOY
      isplitl [HOC]; · iexact HOC
      iexact HOS
    isplitl [HLS H1 H2 H3 H4 H5 H6 H10 H11 H12 H13 H14 H15 HY]
    · isplitl [HLS]; · iexists _; iexact HLS
      isplitl [H1]; · iexists _; iexact H1
      isplitl [H2]; · iexists _; iexact H2
      isplitl [H3]; · iexists _; iexact H3
      isplitl [H4]; · iexists _; iexact H4
      isplitl [H5]; · iexists _; iexact H5
      isplitl [H6]; · iexists _; iexact H6
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      iexists _; iexact HY
    isplitl [H9]; · iexists _; iexact H9
    isplitl [H17]; · iexists _; iexact H17
    isplitl [H18]; · iexists _; iexact H18
    isplitl [H19]; · iexists _; iexact H19
    isplitl [HBU0 HBU1 HBD0 HBD1]
    · isplitl [HBU0]; · iexact HBU0
      isplitl [HBU1]; · iexact HBU1
      isplitl [HBD0]; · iexact HBD0
      iexact HBD1
    isplitl [HI0 HI1 HI2 HI3 HI4 HS0 HS1 HO0 HO1 HO2]
    · isplitl [HI0]; · iexact HI0
      isplitl [HI1]; · iexact HI1
      isplitl [HI2]; · iexact HI2
      isplitl [HI3]; · iexact HI3
      isplitl [HI4]; · iexact HI4
      isplitl [HS0]; · iexact HS0
      isplitl [HS1]; · iexact HS1
      isplitl [HO0]; · iexact HO0
      isplitl [HO1]; · iexact HO1
      iexact HO2
    iexists _; iexact HW

end Body

end Cert.Proof.K
-- ==== Proof.K.Idle.lean ====
module

public import proofs.«01_k».proof.Proof.K.BodyP
public import Idealize.ShloMosaic.Lib.Ring
public import Idealize.ShloMosaic.Lib.Transfers

@[expose] public section

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## The stream of `main_arg5` -/

section IdleU
/-- The elements of chunk `b.2` of slot `b.1`. -/
abbrev setU (b : Fin 2 × Fin 4) : Finset S2x5120x1536.Idx := (Rect.unit (s := S2x5120x1536) (slotOffU b.1 b.2) S1x1280x1536.size (slotOffU_inb b.1 b.2)).set
theorem slot_setU (s : Fin 2) (k : Fin 4) : (slotU s k).view.set = setU (s, k) := (View.set_reshape _ _).trans (View.set_slice_whole _ _)
theorem mem_setU (b : Fin 2 × Fin 4) (y : S2x5120x1536.Idx) : y ∈ setU b ↔ (y 0).val = b.1.val ∧ 1280 * b.2.val ≤ (y 1).val ∧ (y 1).val < 1280 * b.2.val + 1280 := by
  rw [Rect.mem_set_unit]
  have h2 : (y 2).val < 1536 := (y 2).isLt
  constructor
  · intro H
    have a0 : b.1.val ≤ (y 0).val ∧ (y 0).val < b.1.val + 1 := H 0
    have a1 : 1280 * b.2.val ≤ (y 1).val ∧ (y 1).val < 1280 * b.2.val + 1280 := H 1
    omega
  · intro H i; fin_cases i
    · show b.1.val ≤ (y 0).val ∧ (y 0).val < b.1.val + 1; omega
    · show 1280 * b.2.val ≤ (y 1).val ∧ (y 1).val < 1280 * b.2.val + 1280; omega
    · show 0 ≤ (y 2).val ∧ (y 2).val < 0 + 1536; omega
theorem setU_disjoint : ∀ b b' : Fin 2 × Fin 4, b ≠ b' → Disjoint (setU b) (setU b') := by
  intro b b' hne; rw [Finset.disjoint_left]; intro y hy hy'; rw [mem_setU] at hy hy'
  exact hne (Prod.ext (Fin.ext (by omega)) (Fin.ext (by omega)))
theorem setU_cover : (Finset.univ : Finset (Fin 2 × Fin 4)).biUnion setU = Finset.univ := by
  ext y; simp only [Finset.mem_biUnion, Finset.mem_univ, true_and, iff_true]
  have h0 : (y 0).val < 2 := (y 0).isLt
  have h1 : (y 1).val < 5120 := (y 1).isLt
  exact ⟨(⟨(y 0).val, h0⟩, ⟨(y 1).val / 1280, by omega⟩), by rw [mem_setU]; dsimp only; omega⟩

variable (c : Dev nD) (W : Buf (Elt F) (wUM.view.loc (c : Thread nD τ)))

omit [FloatOps F] in
theorem slotPU_eq (s : Fin 2) (k : Fin 4) (f) : slotPU c s k f = (((c : Thread nD τ).loc cc0_scratch7) ↦[setU (s, k)]{fullShare} f : sProp 𝕄) :=
  congrArg (fun S => (_ ↦[S]{fullShare} f : sProp 𝕄)) (slot_setU s k)
omit [FloatOps F] in
theorem bigSep_pairsU (Φ : Fin 2 × Fin 4 → sProp 𝕄) : bigSep Finset.univ Φ = iprop(Φ (0, 0) ∗ Φ (0, 1) ∗ Φ (0, 2) ∗ Φ (0, 3) ∗ Φ (1, 0) ∗ Φ (1, 1) ∗ Φ (1, 2) ∗ Φ (1, 3)) :=
  bigSep_univ_eq_bigSepL [((0 : Fin 2), (0 : Fin 4)), ((0 : Fin 2), (1 : Fin 4)), ((0 : Fin 2), (2 : Fin 4)), ((0 : Fin 2), (3 : Fin 4)), ((1 : Fin 2), (0 : Fin 4)), ((1 : Fin 2), (1 : Fin 4)), ((1 : Fin 2), (2 : Fin 4)), ((1 : Fin 2), (3 : Fin 4))] (by decide) (by decide) Φ
omit [FloatOps F] in
theorem bigSep_listU (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), (1 : Fin 8), (2 : Fin 8), (3 : Fin 8), (4 : Fin 8), (5 : Fin 8), (6 : Fin 8), (7 : Fin 8)] (by decide) (by decide) Φ

/-- The scratch buffer whole is its windows, -/
theorem bufU_split : iprop(∃ f : Buf (Elt F) ((c : Thread nD τ).loc cc0_scratch7), ((c : Thread nD τ).loc cc0_scratch7) ↦{fullShare} f) ⊢ (iprop((∃ f, slotPU c 0 0 f) ∗ (∃ f, slotPU c 0 1 f) ∗ (∃ f, slotPU c 0 2 f) ∗ (∃ f, slotPU c 0 3 f) ∗ (∃ f, slotPU c 1 0 f) ∗ (∃ f, slotPU c 1 1 f) ∗ (∃ f, slotPU c 1 2 f) ∗ (∃ f, slotPU c 1 3 f)) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch7) setU setU_disjoint setU_cover f).trans (bigSep_pairsU _))) $$ H
  icases H2 with ⟨H00, H01, H02, H03, H10, H11, H12, H13⟩
  isplitl [H00]; · iexists f; iapply (entails_of_eq (slotPU_eq c 0 0 f).symm); iexact H00
  isplitl [H01]; · iexists f; iapply (entails_of_eq (slotPU_eq c 0 1 f).symm); iexact H01
  isplitl [H02]; · iexists f; iapply (entails_of_eq (slotPU_eq c 0 2 f).symm); iexact H02
  isplitl [H03]; · iexists f; iapply (entails_of_eq (slotPU_eq c 0 3 f).symm); iexact H03
  isplitl [H10]; · iexists f; iapply (entails_of_eq (slotPU_eq c 1 0 f).symm); iexact H10
  isplitl [H11]; · iexists f; iapply (entails_of_eq (slotPU_eq c 1 1 f).symm); iexact H11
  isplitl [H12]; · iexists f; iapply (entails_of_eq (slotPU_eq c 1 2 f).symm); iexact H12
  iexists f; iapply (entails_of_eq (slotPU_eq c 1 3 f).symm); iexact H13
/-- and back. -/
theorem bufU_join : iprop((∃ f, slotPU c 0 0 f) ∗ (∃ f, slotPU c 0 1 f) ∗ (∃ f, slotPU c 0 2 f) ∗ (∃ f, slotPU c 0 3 f) ∗ (∃ f, slotPU c 1 0 f) ∗ (∃ f, slotPU c 1 1 f) ∗ (∃ f, slotPU c 1 2 f) ∗ (∃ f, slotPU c 1 3 f)) ⊢ (iprop(∃ f : Buf (Elt F) ((c : Thread nD τ).loc cc0_scratch7), ((c : Thread nD τ).loc cc0_scratch7) ↦{fullShare} f) : sProp 𝕄) := by
  iintro ⟨⟨%f00, H00⟩, ⟨%f01, H01⟩, ⟨%f02, H02⟩, ⟨%f03, H03⟩, ⟨%f10, H10⟩, ⟨%f11, H11⟩, ⟨%f12, H12⟩, ⟨%f13, H13⟩⟩
  iapply (Ring.pointsTo_blocks_join_exists (ℓ := (c : Thread nD τ).loc cc0_scratch7) setU setU_disjoint setU_cover f00)
  irw [bigSep_pairsU]
  isplitl [H00]; · iexists f00; iapply (entails_of_eq (slotPU_eq c 0 0 f00)); iexact H00
  isplitl [H01]; · iexists f01; iapply (entails_of_eq (slotPU_eq c 0 1 f01)); iexact H01
  isplitl [H02]; · iexists f02; iapply (entails_of_eq (slotPU_eq c 0 2 f02)); iexact H02
  isplitl [H03]; · iexists f03; iapply (entails_of_eq (slotPU_eq c 0 3 f03)); iexact H03
  isplitl [H10]; · iexists f10; iapply (entails_of_eq (slotPU_eq c 1 0 f10)); iexact H10
  isplitl [H11]; · iexists f11; iapply (entails_of_eq (slotPU_eq c 1 1 f11)); iexact H11
  isplitl [H12]; · iexists f12; iapply (entails_of_eq (slotPU_eq c 1 2 f12)); iexact H12
  iexists f13; iapply (entails_of_eq (slotPU_eq c 1 3 f13)); iexact H13

/-- The array whole is its read tokens and what is left of it. -/
theorem toksU : (((c : Thread nD τ).loc main_arg5) ↦{fullShare} W : sProp 𝕄)
    ⊣⊢ iprop((((c : Thread nD τ).loc main_arg5) ↦{Transfers.shareDrop fullShare 8} W) ∗ tokPU c W 0 0 ∗ tokPU c W 0 1 ∗ tokPU c W 0 2 ∗ tokPU c W 0 3 ∗ tokPU c W 1 0 ∗ tokPU c W 1 1 ∗ tokPU c W 1 2 ∗ tokPU c W 1 3) := by
  have h := Transfers.pointsTo_toks (Ix := Unit) (Name := ℕ) (U := UU nD τ) (Lvl := ℕ) (S := Finset.univ) (ℓ := (c : Thread nD τ).loc main_arg5) (f := W) fullShare 8
  rw [bigSep_listU] at h
  exact h

/-- From the scratch buffer, the semaphores at zero and the array: both slots idle, -/
theorem idleU_in : iprop((∃ f : Buf (Elt F) ((c : Thread nD τ).loc cc0_scratch7), ((c : Thread nD τ).loc cc0_scratch7) ↦{fullShare} f) ∗ (cellU c 0 0 ∗ cellU c 0 1 ∗ cellU c 0 2 ∗ cellU c 0 3 ∗ cellU c 1 0 ∗ cellU c 1 1 ∗ cellU c 1 2 ∗ cellU c 1 3) ∗ (((c : Thread nD τ).loc main_arg5) ↦{fullShare} W))
    ⊢ (iprop((((c : Thread nD τ).loc main_arg5) ↦{Transfers.shareDrop fullShare 8} W) ∗ bigSep Finset.univ (freeU c W 0) ∗ bigSep Finset.univ (freeU c W 1)) : sProp 𝕄) := by
  iintro ⟨HB, ⟨HC00, HC01, HC02, HC03, HC10, HC11, HC12, HC13⟩, HW⟩
  ihave HB := (bufU_split c) $$ HB
  icases HB with ⟨HS00, HS01, HS02, HS03, HS10, HS11, HS12, HS13⟩
  ihave HW := (toksU c W).1 $$ HW
  icases HW with ⟨HW, HT00, HT01, HT02, HT03, HT10, HT11, HT12, HT13⟩
  isplitl [HW]; · iexact HW
  isplitl [HS00 HC00 HT00 HS01 HC01 HT01 HS02 HC02 HT02 HS03 HC03 HT03]
  · irw [bigSep_fin4]
    unfold freeU
    isplitl [HS00 HC00 HT00]
    · isplitl [HS00]; · iexact HS00
      isplitl [HC00]; · iexact HC00
      iexact HT00
    isplitl [HS01 HC01 HT01]
    · isplitl [HS01]; · iexact HS01
      isplitl [HC01]; · iexact HC01
      iexact HT01
    isplitl [HS02 HC02 HT02]
    · isplitl [HS02]; · iexact HS02
      isplitl [HC02]; · iexact HC02
      iexact HT02
    isplitl [HS03]; · iexact HS03
    isplitl [HC03]; · iexact HC03
    iexact HT03
  · irw [bigSep_fin4]
    unfold freeU
    isplitl [HS10 HC10 HT10]
    · isplitl [HS10]; · iexact HS10
      isplitl [HC10]; · iexact HC10
      iexact HT10
    isplitl [HS11 HC11 HT11]
    · isplitl [HS11]; · iexact HS11
      isplitl [HC11]; · iexact HC11
      iexact HT11
    isplitl [HS12 HC12 HT12]
    · isplitl [HS12]; · iexact HS12
      isplitl [HC12]; · iexact HC12
      iexact HT12
    isplitl [HS13]; · iexact HS13
    isplitl [HC13]; · iexact HC13
    iexact HT13

/-- and back. -/
theorem idleU_out : iprop((((c : Thread nD τ).loc main_arg5) ↦{Transfers.shareDrop fullShare 8} W) ∗ bigSep Finset.univ (freeU c W 0) ∗ bigSep Finset.univ (freeU c W 1))
    ⊢ (iprop((∃ f : Buf (Elt F) ((c : Thread nD τ).loc cc0_scratch7), ((c : Thread nD τ).loc cc0_scratch7) ↦{fullShare} f) ∗ (cellU c 0 0 ∗ cellU c 0 1 ∗ cellU c 0 2 ∗ cellU c 0 3 ∗ cellU c 1 0 ∗ cellU c 1 1 ∗ cellU c 1 2 ∗ cellU c 1 3) ∗ (((c : Thread nD τ).loc main_arg5) ↦{fullShare} W)) : sProp 𝕄) := by
  rw [bigSep_fin4, bigSep_fin4]
  unfold freeU
  iintro ⟨HW, ⟨⟨HS00, HC00, HT00⟩, ⟨HS01, HC01, HT01⟩, ⟨HS02, HC02, HT02⟩, ⟨HS03, HC03, HT03⟩⟩, ⟨⟨HS10, HC10, HT10⟩, ⟨HS11, HC11, HT11⟩, ⟨HS12, HC12, HT12⟩, ⟨HS13, HC13, HT13⟩⟩⟩
  isplitl [HS00 HS01 HS02 HS03 HS10 HS11 HS12 HS13]
  · iapply (bufU_join c)
    isplitl [HS00]; · iexact HS00
    isplitl [HS01]; · iexact HS01
    isplitl [HS02]; · iexact HS02
    isplitl [HS03]; · iexact HS03
    isplitl [HS10]; · iexact HS10
    isplitl [HS11]; · iexact HS11
    isplitl [HS12]; · iexact HS12
    iexact HS13
  isplitl [HC00 HC01 HC02 HC03 HC10 HC11 HC12 HC13]
  · isplitl [HC00]; · iexact HC00
    isplitl [HC01]; · iexact HC01
    isplitl [HC02]; · iexact HC02
    isplitl [HC03]; · iexact HC03
    isplitl [HC10]; · iexact HC10
    isplitl [HC11]; · iexact HC11
    isplitl [HC12]; · iexact HC12
    iexact HC13
  iapply (toksU c W).2
  isplitl [HW]; · iexact HW
  isplitl [HT00]; · iexact HT00
  isplitl [HT01]; · iexact HT01
  isplitl [HT02]; · iexact HT02
  isplitl [HT03]; · iexact HT03
  isplitl [HT10]; · iexact HT10
  isplitl [HT11]; · iexact HT11
  isplitl [HT12]; · iexact HT12
  iexact HT13
end IdleU

/-! ## The stream of `main_arg7` -/

section IdleD
/-- The elements of chunk `b.2` of slot `b.1`. -/
abbrev setD (b : Fin 2 × Fin 3) : Finset S2x1536x5120.Idx := (Rect.unit (s := S2x1536x5120) (slotOffD b.1 b.2) S1x512x5120.size (slotOffD_inb b.1 b.2)).set
theorem slot_setD (s : Fin 2) (k : Fin 3) : (slotD s k).view.set = setD (s, k) := (View.set_reshape _ _).trans (View.set_slice_whole _ _)
theorem mem_setD (b : Fin 2 × Fin 3) (y : S2x1536x5120.Idx) : y ∈ setD b ↔ (y 0).val = b.1.val ∧ 512 * b.2.val ≤ (y 1).val ∧ (y 1).val < 512 * b.2.val + 512 := by
  rw [Rect.mem_set_unit]
  have h2 : (y 2).val < 5120 := (y 2).isLt
  constructor
  · intro H
    have a0 : b.1.val ≤ (y 0).val ∧ (y 0).val < b.1.val + 1 := H 0
    have a1 : 512 * b.2.val ≤ (y 1).val ∧ (y 1).val < 512 * b.2.val + 512 := H 1
    omega
  · intro H i; fin_cases i
    · show b.1.val ≤ (y 0).val ∧ (y 0).val < b.1.val + 1; omega
    · show 512 * b.2.val ≤ (y 1).val ∧ (y 1).val < 512 * b.2.val + 512; omega
    · show 0 ≤ (y 2).val ∧ (y 2).val < 0 + 5120; omega
theorem setD_disjoint : ∀ b b' : Fin 2 × Fin 3, b ≠ b' → Disjoint (setD b) (setD b') := by
  intro b b' hne; rw [Finset.disjoint_left]; intro y hy hy'; rw [mem_setD] at hy hy'
  exact hne (Prod.ext (Fin.ext (by omega)) (Fin.ext (by omega)))
theorem setD_cover : (Finset.univ : Finset (Fin 2 × Fin 3)).biUnion setD = Finset.univ := by
  ext y; simp only [Finset.mem_biUnion, Finset.mem_univ, true_and, iff_true]
  have h0 : (y 0).val < 2 := (y 0).isLt
  have h1 : (y 1).val < 1536 := (y 1).isLt
  exact ⟨(⟨(y 0).val, h0⟩, ⟨(y 1).val / 512, by omega⟩), by rw [mem_setD]; dsimp only; omega⟩

variable (c : Dev nD) (W : Buf (Elt F) (wDM.view.loc (c : Thread nD τ)))

omit [FloatOps F] in
theorem slotPD_eq (s : Fin 2) (k : Fin 3) (f) : slotPD c s k f = (((c : Thread nD τ).loc cc0_scratch8) ↦[setD (s, k)]{fullShare} f : sProp 𝕄) :=
  congrArg (fun S => (_ ↦[S]{fullShare} f : sProp 𝕄)) (slot_setD s k)
omit [FloatOps F] in
theorem bigSep_pairsD (Φ : Fin 2 × Fin 3 → sProp 𝕄) : bigSep Finset.univ Φ = iprop(Φ (0, 0) ∗ Φ (0, 1) ∗ Φ (0, 2) ∗ Φ (1, 0) ∗ Φ (1, 1) ∗ Φ (1, 2)) :=
  bigSep_univ_eq_bigSepL [((0 : Fin 2), (0 : Fin 3)), ((0 : Fin 2), (1 : Fin 3)), ((0 : Fin 2), (2 : Fin 3)), ((1 : Fin 2), (0 : Fin 3)), ((1 : Fin 2), (1 : Fin 3)), ((1 : Fin 2), (2 : Fin 3))] (by decide) (by decide) Φ
omit [FloatOps F] in
theorem bigSep_listD (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), (1 : Fin 6), (2 : Fin 6), (3 : Fin 6), (4 : Fin 6), (5 : Fin 6)] (by decide) (by decide) Φ

/-- The scratch buffer whole is its windows, -/
theorem bufD_split : iprop(∃ f : Buf (Elt F) ((c : Thread nD τ).loc cc0_scratch8), ((c : Thread nD τ).loc cc0_scratch8) ↦{fullShare} f) ⊢ (iprop((∃ f, slotPD c 0 0 f) ∗ (∃ f, slotPD c 0 1 f) ∗ (∃ f, slotPD c 0 2 f) ∗ (∃ f, slotPD c 1 0 f) ∗ (∃ f, slotPD c 1 1 f) ∗ (∃ f, slotPD c 1 2 f)) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch8) setD setD_disjoint setD_cover f).trans (bigSep_pairsD _))) $$ H
  icases H2 with ⟨H00, H01, H02, H10, H11, H12⟩
  isplitl [H00]; · iexists f; iapply (entails_of_eq (slotPD_eq c 0 0 f).symm); iexact H00
  isplitl [H01]; · iexists f; iapply (entails_of_eq (slotPD_eq c 0 1 f).symm); iexact H01
  isplitl [H02]; · iexists f; iapply (entails_of_eq (slotPD_eq c 0 2 f).symm); iexact H02
  isplitl [H10]; · iexists f; iapply (entails_of_eq (slotPD_eq c 1 0 f).symm); iexact H10
  isplitl [H11]; · iexists f; iapply (entails_of_eq (slotPD_eq c 1 1 f).symm); iexact H11
  iexists f; iapply (entails_of_eq (slotPD_eq c 1 2 f).symm); iexact H12
/-- and back. -/
theorem bufD_join : iprop((∃ f, slotPD c 0 0 f) ∗ (∃ f, slotPD c 0 1 f) ∗ (∃ f, slotPD c 0 2 f) ∗ (∃ f, slotPD c 1 0 f) ∗ (∃ f, slotPD c 1 1 f) ∗ (∃ f, slotPD c 1 2 f)) ⊢ (iprop(∃ f : Buf (Elt F) ((c : Thread nD τ).loc cc0_scratch8), ((c : Thread nD τ).loc cc0_scratch8) ↦{fullShare} f) : sProp 𝕄) := by
  iintro ⟨⟨%f00, H00⟩, ⟨%f01, H01⟩, ⟨%f02, H02⟩, ⟨%f10, H10⟩, ⟨%f11, H11⟩, ⟨%f12, H12⟩⟩
  iapply (Ring.pointsTo_blocks_join_exists (ℓ := (c : Thread nD τ).loc cc0_scratch8) setD setD_disjoint setD_cover f00)
  irw [bigSep_pairsD]
  isplitl [H00]; · iexists f00; iapply (entails_of_eq (slotPD_eq c 0 0 f00)); iexact H00
  isplitl [H01]; · iexists f01; iapply (entails_of_eq (slotPD_eq c 0 1 f01)); iexact H01
  isplitl [H02]; · iexists f02; iapply (entails_of_eq (slotPD_eq c 0 2 f02)); iexact H02
  isplitl [H10]; · iexists f10; iapply (entails_of_eq (slotPD_eq c 1 0 f10)); iexact H10
  isplitl [H11]; · iexists f11; iapply (entails_of_eq (slotPD_eq c 1 1 f11)); iexact H11
  iexists f12; iapply (entails_of_eq (slotPD_eq c 1 2 f12)); iexact H12

/-- The array whole is its read tokens and what is left of it. -/
theorem toksD : (((c : Thread nD τ).loc main_arg7) ↦{fullShare} W : sProp 𝕄)
    ⊣⊢ iprop((((c : Thread nD τ).loc main_arg7) ↦{Transfers.shareDrop fullShare 6} W) ∗ tokPD c W 0 0 ∗ tokPD c W 0 1 ∗ tokPD c W 0 2 ∗ tokPD c W 1 0 ∗ tokPD c W 1 1 ∗ tokPD c W 1 2) := by
  have h := Transfers.pointsTo_toks (Ix := Unit) (Name := ℕ) (U := UU nD τ) (Lvl := ℕ) (S := Finset.univ) (ℓ := (c : Thread nD τ).loc main_arg7) (f := W) fullShare 6
  rw [bigSep_listD] at h
  exact h

/-- From the scratch buffer, the semaphores at zero and the array: both slots idle, -/
theorem idleD_in : iprop((∃ f : Buf (Elt F) ((c : Thread nD τ).loc cc0_scratch8), ((c : Thread nD τ).loc cc0_scratch8) ↦{fullShare} f) ∗ (cellD c 0 0 ∗ cellD c 0 1 ∗ cellD c 0 2 ∗ cellD c 1 0 ∗ cellD c 1 1 ∗ cellD c 1 2) ∗ (((c : Thread nD τ).loc main_arg7) ↦{fullShare} W))
    ⊢ (iprop((((c : Thread nD τ).loc main_arg7) ↦{Transfers.shareDrop fullShare 6} W) ∗ bigSep Finset.univ (freeD c W 0) ∗ bigSep Finset.univ (freeD c W 1)) : sProp 𝕄) := by
  iintro ⟨HB, ⟨HC00, HC01, HC02, HC10, HC11, HC12⟩, HW⟩
  ihave HB := (bufD_split c) $$ HB
  icases HB with ⟨HS00, HS01, HS02, HS10, HS11, HS12⟩
  ihave HW := (toksD c W).1 $$ HW
  icases HW with ⟨HW, HT00, HT01, HT02, HT10, HT11, HT12⟩
  isplitl [HW]; · iexact HW
  isplitl [HS00 HC00 HT00 HS01 HC01 HT01 HS02 HC02 HT02]
  · irw [bigSep_fin3]
    unfold freeD
    isplitl [HS00 HC00 HT00]
    · isplitl [HS00]; · iexact HS00
      isplitl [HC00]; · iexact HC00
      iexact HT00
    isplitl [HS01 HC01 HT01]
    · isplitl [HS01]; · iexact HS01
      isplitl [HC01]; · iexact HC01
      iexact HT01
    isplitl [HS02]; · iexact HS02
    isplitl [HC02]; · iexact HC02
    iexact HT02
  · irw [bigSep_fin3]
    unfold freeD
    isplitl [HS10 HC10 HT10]
    · isplitl [HS10]; · iexact HS10
      isplitl [HC10]; · iexact HC10
      iexact HT10
    isplitl [HS11 HC11 HT11]
    · isplitl [HS11]; · iexact HS11
      isplitl [HC11]; · iexact HC11
      iexact HT11
    isplitl [HS12]; · iexact HS12
    isplitl [HC12]; · iexact HC12
    iexact HT12

/-- and back. -/
theorem idleD_out : iprop((((c : Thread nD τ).loc main_arg7) ↦{Transfers.shareDrop fullShare 6} W) ∗ bigSep Finset.univ (freeD c W 0) ∗ bigSep Finset.univ (freeD c W 1))
    ⊢ (iprop((∃ f : Buf (Elt F) ((c : Thread nD τ).loc cc0_scratch8), ((c : Thread nD τ).loc cc0_scratch8) ↦{fullShare} f) ∗ (cellD c 0 0 ∗ cellD c 0 1 ∗ cellD c 0 2 ∗ cellD c 1 0 ∗ cellD c 1 1 ∗ cellD c 1 2) ∗ (((c : Thread nD τ).loc main_arg7) ↦{fullShare} W)) : sProp 𝕄) := by
  rw [bigSep_fin3, bigSep_fin3]
  unfold freeD
  iintro ⟨HW, ⟨⟨HS00, HC00, HT00⟩, ⟨HS01, HC01, HT01⟩, ⟨HS02, HC02, HT02⟩⟩, ⟨⟨HS10, HC10, HT10⟩, ⟨HS11, HC11, HT11⟩, ⟨HS12, HC12, HT12⟩⟩⟩
  isplitl [HS00 HS01 HS02 HS10 HS11 HS12]
  · iapply (bufD_join c)
    isplitl [HS00]; · iexact HS00
    isplitl [HS01]; · iexact HS01
    isplitl [HS02]; · iexact HS02
    isplitl [HS10]; · iexact HS10
    isplitl [HS11]; · iexact HS11
    iexact HS12
  isplitl [HC00 HC01 HC02 HC10 HC11 HC12]
  · isplitl [HC00]; · iexact HC00
    isplitl [HC01]; · iexact HC01
    isplitl [HC02]; · iexact HC02
    isplitl [HC10]; · iexact HC10
    isplitl [HC11]; · iexact HC11
    iexact HC12
  iapply (toksD c W).2
  isplitl [HW]; · iexact HW
  isplitl [HT00]; · iexact HT00
  isplitl [HT01]; · iexact HT01
  isplitl [HT02]; · iexact HT02
  isplitl [HT10]; · iexact HT10
  isplitl [HT11]; · iexact HT11
  iexact HT12
end IdleD

end Cert.Proof.K
-- ==== Proof.K.Launch.lean ====
module

public import proofs.«01_k».proof.Proof.K.Body
public import proofs.«01_k».proof.Proof.K.Idle
public import proofs.«01_k».proof.Proof.Gen.Kernel.Frame
public import Idealize.ShloMosaic.Lib.Pipeline.KitQuiescent

@[expose] public section

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (m : (ℓ : Loc nD τ sig) → Buf (Elt F) ℓ) (ρ : Dev nD → PrngReg)

omit [FloatOps F] in
theorem own_eq (c : Dev nD) (b : Ref sig .tc) (f : Buf (Elt F) ((c : Thread nD τ).loc b)) :
    own c b f = (((c : Thread nD τ).loc b) ↦{fullShare} f : sProp 𝕄) :=
  congrArg (fun S => (((c : Thread nD τ).loc b) ↦[S]{fullShare} f : sProp 𝕄)) (View.set_whole b)

/-! ## The kernel's own semaphores -/

abbrev osem : Fin 24 → SemLoc sig := fun i => .dma ⟨i.val, i.isLt⟩
theorem ownSemFacts : Pipeline.OwnSemFacts cfg0.spec osem := by decide
omit [FloatOps F] in
theorem bigSep_fin24 (Φ : Fin 24 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23) :=
  bigSep_univ_eq_bigSepL [(0 : Fin 24), (1 : Fin 24), (2 : Fin 24), (3 : Fin 24), (4 : Fin 24), (5 : Fin 24), (6 : Fin 24), (7 : Fin 24), (8 : Fin 24), (9 : Fin 24), (10 : Fin 24), (11 : Fin 24), (12 : Fin 24), (13 : Fin 24), (14 : Fin 24), (15 : Fin 24), (16 : Fin 24), (17 : Fin 24), (18 : Fin 24), (19 : Fin 24), (20 : Fin 24), (21 : Fin 24), (22 : Fin 24), (23 : Fin 24)] (by decide) (by decide) Φ
omit [FloatOps F] in
/-- The kernel's semaphores at zero are those of the small copies and those of the two streams, -/
theorem sems_in (c : Dev nD) : (Pipeline.ownSems0 (Ix := Unit) (Name := ℕ) (U := UU nD τ) (Lvl := ℕ) (Val := Elt F) (τ := τ) osem c : sProp 𝕄)
    ⊢ iprop(cellsS c ∗ (cellU c 0 0 ∗ cellU c 0 1 ∗ cellU c 0 2 ∗ cellU c 0 3 ∗ cellU c 1 0 ∗ cellU c 1 1 ∗ cellU c 1 2 ∗ cellU c 1 3) ∗ (cellD c 0 0 ∗ cellD c 0 1 ∗ cellD c 0 2 ∗ cellD c 1 0 ∗ cellD c 1 1 ∗ cellD c 1 2)) := by
  unfold Pipeline.ownSems0 cellsS
  rw [bigSep_fin24]
  iintro ⟨HQ0, HQ1, HQ2, HQ3, HQ4, HQ5, HQ6, HQ7, HQ8, HQ9, HQ10, HQ11, HQ12, HQ13, HQ14, HQ15, HQ16, HQ17, HQ18, HQ19, HQ20, HQ21, HQ22, HQ23⟩
  isplitl [HQ0 HQ1 HQ2 HQ3 HQ4 HQ5 HQ6 HQ21 HQ22 HQ23]
  · isplitl [HQ0]; · iexact HQ0
    isplitl [HQ1]; · iexact HQ1
    isplitl [HQ2]; · iexact HQ2
    isplitl [HQ3]; · iexact HQ3
    isplitl [HQ4]; · iexact HQ4
    isplitl [HQ5]; · iexact HQ5
    isplitl [HQ6]; · iexact HQ6
    isplitl [HQ21]; · iexact HQ21
    isplitl [HQ22]; · iexact HQ22
    iexact HQ23
  isplitl [HQ7 HQ8 HQ9 HQ10 HQ11 HQ12 HQ13 HQ14]
  · isplitl [HQ7]; · iexact HQ7
    isplitl [HQ8]; · iexact HQ8
    isplitl [HQ9]; · iexact HQ9
    isplitl [HQ10]; · iexact HQ10
    isplitl [HQ11]; · iexact HQ11
    isplitl [HQ12]; · iexact HQ12
    isplitl [HQ13]; · iexact HQ13
    iexact HQ14
  isplitl [HQ15]; · iexact HQ15
  isplitl [HQ16]; · iexact HQ16
  isplitl [HQ17]; · iexact HQ17
  isplitl [HQ18]; · iexact HQ18
  isplitl [HQ19]; · iexact HQ19
  iexact HQ20

omit [FloatOps F] in
/-- and back. -/
theorem sems_out (c : Dev nD) : iprop(cellsS c ∗ (cellU c 0 0 ∗ cellU c 0 1 ∗ cellU c 0 2 ∗ cellU c 0 3 ∗ cellU c 1 0 ∗ cellU c 1 1 ∗ cellU c 1 2 ∗ cellU c 1 3) ∗ (cellD c 0 0 ∗ cellD c 0 1 ∗ cellD c 0 2 ∗ cellD c 1 0 ∗ cellD c 1 1 ∗ cellD c 1 2))
    ⊢ (Pipeline.ownSems0 (Ix := Unit) (Name := ℕ) (U := UU nD τ) (Lvl := ℕ) (Val := Elt F) (τ := τ) osem c : sProp 𝕄) := by
  unfold Pipeline.ownSems0 cellsS
  rw [bigSep_fin24]
  iintro ⟨⟨HQ0, HQ1, HQ2, HQ3, HQ4, HQ5, HQ6, HQ21, HQ22, HQ23⟩, ⟨HQ7, HQ8, HQ9, HQ10, HQ11, HQ12, HQ13, HQ14⟩, ⟨HQ15, HQ16, HQ17, HQ18, HQ19, HQ20⟩⟩
  isplitl [HQ0]; · iexact HQ0
  isplitl [HQ1]; · iexact HQ1
  isplitl [HQ2]; · iexact HQ2
  isplitl [HQ3]; · iexact HQ3
  isplitl [HQ4]; · iexact HQ4
  isplitl [HQ5]; · iexact HQ5
  isplitl [HQ6]; · iexact HQ6
  isplitl [HQ7]; · iexact HQ7
  isplitl [HQ8]; · iexact HQ8
  isplitl [HQ9]; · iexact HQ9
  isplitl [HQ10]; · iexact HQ10
  isplitl [HQ11]; · iexact HQ11
  isplitl [HQ12]; · iexact HQ12
  isplitl [HQ13]; · iexact HQ13
  isplitl [HQ14]; · iexact HQ14
  isplitl [HQ15]; · iexact HQ15
  isplitl [HQ16]; · iexact HQ16
  isplitl [HQ17]; · iexact HQ17
  isplitl [HQ18]; · iexact HQ18
  isplitl [HQ19]; · iexact HQ19
  isplitl [HQ20]; · iexact HQ20
  isplitl [HQ21]; · iexact HQ21
  isplitl [HQ22]; · iexact HQ22
  iexact HQ23

/-! ## The proof data of the region -/

/-- What the proof needs of the memory at launch: on every core the list and the count are in range. -/
def PreOK : Prop := ∀ c : Dev nD, InOK c (V m c main_arg0) (V m c main_arg1)

/-- The results the body finds on core `c` when its four buffers hold `f9`, `f17`, `f18`, `f19` at the start. -/
def outOf (h : PreOK m) (c : Dev nD) (f9 : Buf (Elt F) ((c : Thread nD τ).loc cc0_scratch9)) (f17 : Buf (Elt F) ((c : Thread nD τ).loc cc0_scratch17))
    (f18 : Buf (Elt F) ((c : Thread nD τ).loc cc0_scratch18)) (f19 : Buf (Elt F) ((c : Thread nD τ).loc cc0_scratch19)) : Outs (F := F) c :=
  (bodyRun c (V m c main_arg5) (V m c main_arg7) (V m c main_arg0) (V m c main_arg1) (V m c main_arg3) (V m c main_arg4) (V m c main_v0) (V m c main_v1) (V m c main_v2) (h c) f9 f17 f18 f19).1

/-- The body, from idle arrays and buffers to idle ones and the results it finds. -/
theorem body_wp (h : PreOK m) (c : Dev nD) (f9 : Buf (Elt F) ((c : Thread nD τ).loc cc0_scratch9)) (f17 : Buf (Elt F) ((c : Thread nD τ).loc cc0_scratch17))
    (f18 : Buf (Elt F) ((c : Thread nD τ).loc cc0_scratch18)) (f19 : Buf (Elt F) ((c : Thread nD τ).loc cc0_scratch19)) :
    iprop(readsP c (V m c main_arg0) (V m c main_arg1) (V m c main_arg3) (V m c main_arg4) (V m c main_v0) (V m c main_v1) (V m c main_v2) ∗ (∃ o, outsP c o) ∗ scratchP c ∗ own c cc0_scratch9 f9 ∗ own c cc0_scratch17 f17
      ∗ own c cc0_scratch18 f18 ∗ own c cc0_scratch19 f19 ∗ streamsP c (V m c main_arg5) (V m c main_arg7) ∗ cellsS c ∗ (∃ W, owes c 0 W))
    ⊢ wp frame (wpE defs₀ 𝒱₀ c none) Set.univ bodyG
      (fun _ => iprop(readsP c (V m c main_arg0) (V m c main_arg1) (V m c main_arg3) (V m c main_arg4) (V m c main_v0) (V m c main_v1) (V m c main_v2) ∗ outsP c (outOf m h c f9 f17 f18 f19) ∗ scratchP c ∗ (∃ f, own c cc0_scratch9 f) ∗ (∃ f, own c cc0_scratch17 f)
        ∗ (∃ f, own c cc0_scratch18 f) ∗ (∃ f, own c cc0_scratch19 f) ∗ streamsP c (V m c main_arg5) (V m c main_arg7) ∗ cellsS c ∗ (∃ W, owes c 0 W))) :=
  (bodyRun c (V m c main_arg5) (V m c main_arg7) (V m c main_arg0) (V m c main_arg1) (V m c main_arg3) (V m c main_arg4) (V m c main_v0) (V m c main_v1) (V m c main_v2) (h c) f9 f17 f18 f19).2

/-- The same, with a continuation. -/
theorem body_run (h : PreOK m) (c : Dev nD) (f9 : Buf (Elt F) ((c : Thread nD τ).loc cc0_scratch9)) (f17 : Buf (Elt F) ((c : Thread nD τ).loc cc0_scratch17))
    (f18 : Buf (Elt F) ((c : Thread nD τ).loc cc0_scratch18)) (f19 : Buf (Elt F) ((c : Thread nD τ).loc cc0_scratch19)) (Q : PUnit → sProp 𝕄) :
    iprop((readsP c (V m c main_arg0) (V m c main_arg1) (V m c main_arg3) (V m c main_arg4) (V m c main_v0) (V m c main_v1) (V m c main_v2) ∗ (∃ o, outsP c o) ∗ scratchP c ∗ own c cc0_scratch9 f9 ∗ own c cc0_scratch17 f17
      ∗ own c cc0_scratch18 f18 ∗ own c cc0_scratch19 f19 ∗ streamsP c (V m c main_arg5) (V m c main_arg7) ∗ cellsS c ∗ (∃ W, owes c 0 W))
      ∗ (∀ a, (readsP c (V m c main_arg0) (V m c main_arg1) (V m c main_arg3) (V m c main_arg4) (V m c main_v0) (V m c main_v1) (V m c main_v2) ∗ outsP c (outOf m h c f9 f17 f18 f19) ∗ scratchP c ∗ (∃ f, own c cc0_scratch9 f) ∗ (∃ f, own c cc0_scratch17 f)
        ∗ (∃ f, own c cc0_scratch18 f) ∗ (∃ f, own c cc0_scratch19 f) ∗ streamsP c (V m c main_arg5) (V m c main_arg7) ∗ cellsS c ∗ (∃ W, owes c 0 W)) -∗ Q a))
    ⊢ wp frame (wpE defs₀ 𝒱₀ c none) Set.univ bodyG Q :=
  (BI.sep_mono_l (body_wp m h c f9 f17 f18 f19)).trans (wp_wand_r frame (wpE defs₀ 𝒱₀ c none) Set.univ)

/-- The results are those the body finds, for some contents of its buffers at the start. -/
def IsOut (h : PreOK m) (c : Dev nD) (o : Outs (F := F) c) : Prop := ∃ f9 f17 f18 f19, o = outOf m h c f9 f17 f18 f19

/-- Everything but the results, idle. -/
def restP (c : Dev nD) : sProp 𝕄 :=
  iprop(readsP c (V m c main_arg0) (V m c main_arg1) (V m c main_arg3) (V m c main_arg4) (V m c main_v0) (V m c main_v1) (V m c main_v2) ∗ scratchP c
    ∗ (∃ f, own c cc0_scratch9 f) ∗ (∃ f, own c cc0_scratch17 f) ∗ (∃ f, own c cc0_scratch18 f) ∗ (∃ f, own c cc0_scratch19 f)
    ∗ streamsP c (V m c main_arg5) (V m c main_arg7) ∗ cellsS c
    ∗ (((c : Thread nD τ).loc main_arg5) ↦{Transfers.shareDrop fullShare 8} V m c main_arg5)
    ∗ (((c : Thread nD τ).loc main_arg7) ↦{Transfers.shareDrop fullShare 6} V m c main_arg7))

/-- Before the one point the results hold anything, after it what the body finds. -/
def Φ (h : PreOK m) (c : Dev nD) (t : Fin (cfg0.N + 1)) : sProp 𝕄 :=
  iprop(restP m c ∗ ∃ o, outsP c o ∗ ⌜t.val = 0 ∨ IsOut m h c o⌝)

def dats (h : PreOK m) (_ : Fin 1) (c : Dev nD) : Pipeline.Dat τ (Elt F) Unit ℕ (UU nD τ) ℕ cfg0 c where
  A w := V m c (Pipeline.arrRef cfg0.spec w)
  after w _ := w.elim0
  Φ t := Φ m h c t
  q _ := fullShare
  owed _ := 0

/-! ## The body obligation -/

theorem defs_tc : (defs₀ (F := F)) .tc cfg0.body = fun _ => bodyG := rfl
theorem prog_eq (t : Fin cfg0.N) : (defs₀ (F := F)) .tc cfg0.body (cfg0.bodyArgs t (cfg0.slots t)) = bodyG :=
  (congrFun defs_tc _).trans rfl

omit [FloatOps F] in
theorem bigSep_noWin (Ψ : Fin cfg0.W → sProp 𝕄) : bigSep Finset.univ Ψ = (BI.emp : sProp 𝕄) := by
  rw [show (Finset.univ : Finset (Fin cfg0.W)) = ∅ from rfl, BI.bigSep_empty]

set_option backward.isDefEq.respectTransparency.types false in
theorem body_obligation (h : PreOK m) (c : Dev nD) : Pipeline.BodyObligation (dats (F := F) m h 0 c) (defs₀ (F := F)) 𝒱₀ () Set.univ := fun t => by
  rw [bigSep_noWin, bigSep_noWin]
  dsimp only
  rw [show (dats m h 0 c).Φ t.castSucc = Φ m h c t.castSucc from rfl, show (dats m h 0 c).Φ t.succ = Φ m h c t.succ from rfl]
  unfold Pipeline.Dat.owesAt Pipeline.owesWithin
  rw [show (dats m h 0 c).owed t.castSucc = 0 from rfl, show (dats m h 0 c).owed t.succ = 0 from rfl]
  unfold Φ restP
  iintro ⟨⟨⟨HR, HS, ⟨%f9, H9⟩, ⟨%f17, H17⟩, ⟨%f18, H18⟩, ⟨%f19, H19⟩, HT, HC, HWU, HWD⟩, ⟨%o, HO, -⟩⟩, ⟨%W, -, HW⟩, -⟩
  sl_rw [prog_eq t]
  iapply (body_run m h c f9 f17 f18 f19)
  isplitl [HR HO HS H9 H17 H18 H19 HT HC HW]
  · isplitl [HR]; · iexact HR
    isplitl [HO]; · iexists o; iexact HO
    isplitl [HS]; · iexact HS
    isplitl [H9]; · iexact H9
    isplitl [H17]; · iexact H17
    isplitl [H18]; · iexact H18
    isplitl [H19]; · iexact H19
    isplitl [HT]; · iexact HT
    isplitl [HC]; · iexact HC
    iexists W; iexact HW
  · iintro %_ ⟨HR, HO, HS, H9, H17, H18, H19, HT, HC, ⟨%W', HW⟩⟩
    isplitl [HR HO HS H9 H17 H18 H19 HT HC HWU HWD]
    · isplitl [HR HS H9 H17 H18 H19 HT HC HWU HWD]
      · isplitl [HR]; · iexact HR
        isplitl [HS]; · iexact HS
        isplitl [H9]; · iexact H9
        isplitl [H17]; · iexact H17
        isplitl [H18]; · iexact H18
        isplitl [H19]; · iexact H19
        isplitl [HT]; · iexact HT
        isplitl [HC]; · iexact HC
        isplitl [HWU]; · iexact HWU
        iexact HWD
      iexists (outOf m h c f9 f17 f18 f19)
      isplitl [HO]; · iexact HO
      ipureintro; exact Or.inr ⟨f9, f17, f18, f19, rfl⟩
    isplitl [HW]
    · iexists W'; isplitr; · ipureintro; exact fun _ _ => Or.inl trivial
      iexact HW
    iempintro

/-! ## The run -/

/-- The arrays that the region finds, but for the three the kernel does not take. -/
def intoΦ (c : Dev nD) : sProp 𝕄 :=
  iprop(readsP c (V m c main_arg0) (V m c main_arg1) (V m c main_arg3) (V m c main_arg4) (V m c main_v0) (V m c main_v1) (V m c main_v2) ∗ (∃ o, outsP c o)
    ∗ (((c : Thread nD τ).loc main_arg5) ↦{fullShare} V m c main_arg5) ∗ (((c : Thread nD τ).loc main_arg7) ↦{fullShare} V m c main_arg7)
    ∗ Pipeline.ownSems0 osem c)
/-- and as it leaves them. -/
def outOfΦ (h : PreOK m) (c : Dev nD) : sProp 𝕄 :=
  iprop(readsP c (V m c main_arg0) (V m c main_arg1) (V m c main_arg3) (V m c main_arg4) (V m c main_v0) (V m c main_v1) (V m c main_v2) ∗ (∃ o, outsP c o ∗ ⌜IsOut m h c o⌝)
    ∗ (((c : Thread nD τ).loc main_arg5) ↦{fullShare} V m c main_arg5) ∗ (((c : Thread nD τ).loc main_arg7) ↦{fullShare} V m c main_arg7))
/-- The three arguments the kernel does not take. -/
def asideP (c : Dev nD) : sProp 𝕄 :=
  iprop((((c : Thread nD τ).loc main_arg2) ↦{fullShare} V m c main_arg2) ∗ (((c : Thread nD τ).loc main_arg6) ↦{fullShare} V m c main_arg6)
    ∗ (((c : Thread nD τ).loc main_arg8) ↦{fullShare} V m c main_arg8))
def u₀ : UU nD τ := (initOf (Pipeline.cells cfgs cellOf_inj) (Pipeline.launchToks cfgs cellOf_inj), 1)

/-- What the run leaves on core `c`: the results the body finds, and the arguments as launched. -/
def QY (h : PreOK m) (c : Dev nD) (s : MemSt nD τ sig (Elt F)) : Prop :=
  (∃ o, IsOut m h c o ∧ s.mem ((c : Thread nD τ).loc main_v3_0) = o.y ∧ s.mem ((c : Thread nD τ).loc main_v3_1) = o.xc ∧ s.mem ((c : Thread nD τ).loc main_v3_2) = o.xs)
  ∧ s.mem ((c : Thread nD τ).loc main_arg0) = m ((c : Thread nD τ).loc main_arg0) ∧ s.mem ((c : Thread nD τ).loc main_arg1) = m ((c : Thread nD τ).loc main_arg1) ∧ s.mem ((c : Thread nD τ).loc main_arg2) = m ((c : Thread nD τ).loc main_arg2) ∧ s.mem ((c : Thread nD τ).loc main_arg3) = m ((c : Thread nD τ).loc main_arg3) ∧ s.mem ((c : Thread nD τ).loc main_arg4) = m ((c : Thread nD τ).loc main_arg4) ∧ s.mem ((c : Thread nD τ).loc main_arg5) = m ((c : Thread nD τ).loc main_arg5) ∧ s.mem ((c : Thread nD τ).loc main_arg6) = m ((c : Thread nD τ).loc main_arg6) ∧ s.mem ((c : Thread nD τ).loc main_arg7) = m ((c : Thread nD τ).loc main_arg7) ∧ s.mem ((c : Thread nD τ).loc main_arg8) = m ((c : Thread nD τ).loc main_arg8)

theorem hmainU : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

theorem enter (h : PreOK m) (c : Dev nD) : iprop(intoΦ m c ∗ Pipeline.scopedRest cfg0.spec c) ⊢ (dats (F := F) m h 0 c).Φ 0 := by
  rw [scopedRest0_eq, show (dats m h 0 c).Φ 0 = Φ m h c 0 from rfl]
  unfold intoΦ Φ restP scratchP streamsP
  simp only [own_eq]
  iintro ⟨⟨HR, ⟨%o, HO⟩, HA5, HA7, HQ⟩, H2, H3, H4, H5, H6, H7, H8, H9, H10, H11, H12, H13, H14, H15, H16, H17, H18, H19, H0, H1⟩
  ihave HQ := (sems_in c) $$ HQ
  icases HQ with ⟨HQ, HQU, HQD⟩
  ihave HU := (idleU_in c (V m c main_arg5)) $$ [H7 HQU HA5]
  · isplitl [H7]; · iexact H7
    isplitl [HQU]; · iexact HQU
    iexact HA5
  ihave HD := (idleD_in c (V m c main_arg7)) $$ [H8 HQD HA7]
  · isplitl [H8]; · iexact H8
    isplitl [HQD]; · iexact HQD
    iexact HA7
  icases HU with ⟨HA5, HU0, HU1⟩
  icases HD with ⟨HA7, HD0, HD1⟩
  isplitr [HO]
  · isplitl [HR]; · iexact HR
    isplitl [H0 H1 H2 H3 H4 H5 H6 H10 H11 H12 H13 H14 H15 H16]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H10]; · iexact H10
      isplitl [H11]; · iexact H11
      isplitl [H12]; · iexact H12
      isplitl [H13]; · iexact H13
      isplitl [H14]; · iexact H14
      isplitl [H15]; · iexact H15
      iexact H16
    isplitl [H9]; · iexact H9
    isplitl [H17]; · iexact H17
    isplitl [H18]; · iexact H18
    isplitl [H19]; · iexact H19
    isplitl [HU0 HU1 HD0 HD1]
    · isplitl [HU0]; · iexact HU0
      isplitl [HU1]; · iexact HU1
      isplitl [HD0]; · iexact HD0
      iexact HD1
    isplitl [HQ]; · iexact HQ
    isplitl [HA5]; · iexact HA5
    iexact HA7
  iexists o
  isplitl [HO]; · iexact HO
  ipureintro; exact Or.inl rfl

theorem leave (h : PreOK m) (c : Dev nD) :
    (dats (F := F) m h 0 c).Φ (Fin.last cfg0.N) ⊢ iprop(outOfΦ m h c ∗ Pipeline.ownSems0 osem c ∗ Pipeline.scopedRest cfg0.spec c) := by
  rw [scopedRest0_eq, show (dats m h 0 c).Φ (Fin.last cfg0.N) = Φ m h c (Fin.last cfg0.N) from rfl]
  unfold outOfΦ Φ restP scratchP streamsP
  simp only [own_eq]
  iintro ⟨⟨HR, ⟨H0, H1, H2, H3, H4, H5, H6, H10, H11, H12, H13, H14, H15, H16⟩, H9, H17, H18, H19, ⟨HU0, HU1, HD0, HD1⟩, HQ, HA5, HA7⟩, ⟨%o, HO, %ho⟩⟩
  ihave HU := (idleU_out c (V m c main_arg5)) $$ [HA5 HU0 HU1]
  · isplitl [HA5]; · iexact HA5
    isplitl [HU0]; · iexact HU0
    iexact HU1
  ihave HD := (idleD_out c (V m c main_arg7)) $$ [HA7 HD0 HD1]
  · isplitl [HA7]; · iexact HA7
    isplitl [HD0]; · iexact HD0
    iexact HD1
  icases HU with ⟨H7, HQU, HA5⟩
  icases HD with ⟨H8, HQD, HA7⟩
  isplitl [HR HO HA5 HA7]
  · isplitl [HR]; · iexact HR
    isplitl [HO]
    · iexists o; isplitl [HO]; · iexact HO
      ipureintro; exact ho.resolve_left (by rw [show (Fin.last cfg0.N).val = cfg0.N from rfl, show cfg0.N = 1 from N_0]; decide)
    isplitl [HA5]; · iexact HA5
    iexact HA7
  isplitl [HQ HQU HQD]
  · iapply (sems_out c)
    isplitl [HQ]; · iexact HQ
    isplitl [HQU]; · iexact HQU
    iexact HQD
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H0]; · iexact H0
  iexact H1

theorem readOff (h : PreOK m) (c : Dev nD) (s' : Phys nD τ sig (Elt F)) : iprop(outOfΦ m h c ∗ asideP m c ∗ SI s') ⊢ |={Set.univ}=> (iprop(⌜QY m h c s'.mem⌝ ∗ SI s') : sProp 𝕄) := by
  unfold outOfΦ asideP readsP outsP
  simp only [own_eq]
  iintro ⟨⟨⟨H0, H1, H3, H4, -, -, -⟩, ⟨%o, ⟨HY, HC, HS⟩, %ho⟩, H5, H7⟩, ⟨H2, H6, H8⟩, HSI⟩
  icombine HSI H0 gives %h0
  icombine HSI H1 gives %h1
  icombine HSI H2 gives %h2
  icombine HSI H3 gives %h3
  icombine HSI H4 gives %h4
  icombine HSI H5 gives %h5
  icombine HSI H6 gives %h6
  icombine HSI H7 gives %h7
  icombine HSI H8 gives %h8
  icombine HSI HY gives %hy
  icombine HSI HC gives %hc
  icombine HSI HS gives %hs
  imodintro
  isplitr
  · ipureintro
    exact ⟨⟨o, ho, Buf.eq_of_forall_mem_univ hy, Buf.eq_of_forall_mem_univ hc, Buf.eq_of_forall_mem_univ hs⟩, (Buf.eq_of_forall_mem_univ h0).trans (V_main_arg0 m c), (Buf.eq_of_forall_mem_univ h1).trans (V_main_arg1 m c), (Buf.eq_of_forall_mem_univ h2).trans (V_main_arg2 m c), (Buf.eq_of_forall_mem_univ h3).trans (V_main_arg3 m c), (Buf.eq_of_forall_mem_univ h4).trans (V_main_arg4 m c), (Buf.eq_of_forall_mem_univ h5).trans (V_main_arg5 m c), (Buf.eq_of_forall_mem_univ h6).trans (V_main_arg6 m c), (Buf.eq_of_forall_mem_univ h7).trans (V_main_arg7 m c), (Buf.eq_of_forall_mem_univ h8).trans (V_main_arg8 m c)⟩
  iexact HSI

set_option backward.isDefEq.respectTransparency.types false in
/-- From any memory with zero counters whose list and count are in range on every core: every weakly fair execution of
    @main terminates, and every final state has the results the body finds, the arguments unchanged and every semaphore
    counter at zero. -/
theorem run_main (h : PreOK m) : θ_run defs (onTc (τ := τ) (main (F := F))) ⟨m, fun _ => 0, ρ⟩ (fun r => (∀ c, QY m h c r.2) ∧ r.2.sem = fun _ => 0) :=
  Pipeline.θ_run_region_kit_quiescent cfgs (dats m h) () (0 : Fin 1) launch0 ownSemFacts EP defs₀ 𝒱₀ m ρ main
    (hbody := fun c => (body_obligation m h c).loose) (hshare := fun c => (dats m h 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmainU m)
    (hA := fun _ _ => rfl)
    (X := intoΦ m) (Y := outOfΦ m h) (Z := asideP m)
    (hX := fun c => by
      rw [unscopedRest0_eq]
      unfold intoΦ asideP readsP outsP
      simp only [own_eq]
      iintro ⟨⟨H0, H1, H2, H3, H4, H5, H6, H7, H8, HX, HU, HD, HY, HC, HS⟩, HQ, -, -, -⟩; imodintro
      isplitr [H2 H6 H8]
      · isplitl [H0 H1 H3 H4 HX HU HD]
        · isplitl [H0]; · iexact H0
          isplitl [H1]; · iexact H1
          isplitl [H3]; · iexact H3
          isplitl [H4]; · iexact H4
          isplitl [HX]; · iexact HX
          isplitl [HU]; · iexact HU
          iexact HD
        isplitl [HY HC HS]
        · iexists (⟨V m c main_v3_0, V m c main_v3_1, V m c main_v3_2⟩ : Outs (F := F) c)
          isplitl [HY]; · iexact HY
          isplitl [HC]; · iexact HC
          iexact HS
        isplitl [H5]; · iexact H5
        isplitl [H7]; · iexact H7
        iexact HQ
      · isplitl [H2]; · iexact H2
        isplitl [H6]; · iexact H6
        iexact H8)
    (hin := enter m h)
    (hout := leave m h)
    (QY := QY m h)
    (hY := readOff m h)
    (hQ := fun _ hh hz => ⟨fun c => (hh c).2, hz⟩)

end Cert.Proof.K
-- ==== Proof.Pre.lean ====
/- The precondition of the frames, read out of the printed predicate: the list of experts and its count are in range. -/
module

public import proofs.«01_k».proof.Pre_list_names_experts
public import Idealize.ShloMosaic.PureOps.Ideal
public import Idealize.ShloMosaic.Lib.ReduceAll

@[expose] public section

noncomputable section

namespace Cert.Proof

open Idealize.ShloMosaic

theorem andi_one (x y : BitVec 1) : IntOp.andi x y = 1#1 ↔ x = 1#1 ∧ y = 1#1 := by
  revert x y; decide
theorem ori_one (x y : BitVec 1) : IntOp.ori x y = 1#1 ↔ x = 1#1 ∨ y = 1#1 := by
  revert x y; decide
theorem noti_one (x : BitVec 1) : ~~~x = 1#1 ↔ ¬ x = 1#1 := by
  revert x; decide
theorem ofBool_one (b : Bool) : BitVec.ofBool b = 1#1 ↔ b = true := by
  cases b <;> decide
theorem sge_one (x y : BitVec 32) : IntOp.cmpi .sge x y = 1#1 ↔ y.toInt ≤ x.toInt := by
  unfold IntOp.cmpi; rw [ofBool_one]; exact BitVec.sle_iff_toInt_le
theorem sle_one (x y : BitVec 32) : IntOp.cmpi .sle x y = 1#1 ↔ x.toInt ≤ y.toInt := by
  unfold IntOp.cmpi; rw [ofBool_one]; exact BitVec.sle_iff_toInt_le
theorem slt_one (x y : BitVec 32) : IntOp.cmpi .slt x y = 1#1 ↔ x.toInt < y.toInt := by
  unfold IntOp.cmpi; rw [ofBool_one]; exact BitVec.slt_iff_toInt_lt
theorem eq_one (x y : BitVec 32) : IntOp.cmpi .eq x y = 1#1 ↔ x = y := by
  unfold IntOp.cmpi; rw [ofBool_one]; exact beq_iff_eq
theorem ne_one (x y : BitVec 32) : IntOp.cmpi .ne x y = 1#1 ↔ x ≠ y := by
  unfold IntOp.cmpi; rw [ofBool_one]; exact bne_iff_ne

theorem toNat_of_toInt (x : BitVec 32) (h : 0 ≤ x.toInt) : (x.toNat : ℤ) = x.toInt := by
  rw [BitVec.toInt_eq_toNat_cond] at h ⊢
  split_ifs at h ⊢ with h1
  · rfl
  · exfalso; have := x.isLt; omega

def ix1 (i : ℕ) (hi : i < 17) : Pre_list_names_experts.S17.Idx := fun a => ⟨i, by fin_cases a; exact hi⟩
def ix0 : Pre_list_names_experts.S1.Idx := fun a => ⟨0, by fin_cases a; decide⟩
theorem ix0_eq (j : Pre_list_names_experts.S1.Idx) : j = ix0 :=
  funext fun a => Fin.ext (by fin_cases a; have h : (j 0).val < 1 := (j 0).isLt; show (j 0).val = 0; omega)

/-- The list and the count are in range. -/
def InRange (AL : IVec Pre_list_names_experts.S17 32) (AC : IVec Pre_list_names_experts.S1 32) : Prop :=
  1 ≤ (AC ix0).toNat ∧ (AC ix0).toNat ≤ 16 ∧ ∀ i (hi : i < 17), i < (AC ix0).toNat → (AL (ix1 i hi)).toNat < 16

theorem inRange_of_bits (AL : IVec Pre_list_names_experts.S17 32) (AC : IVec Pre_list_names_experts.S1 32)
    (h : ∀ i (hi : i < 17), IntOp.andi (IntOp.andi (IntOp.cmpi .sge (AC ix0) 1#32) (IntOp.cmpi .sle (AC ix0) 16#32))
      (IntOp.ori (~~~(IntOp.cmpi .slt (BitVec.ofNat 32 i) (AC ix0)))
        (IntOp.andi (IntOp.cmpi .sge (AL (ix1 i hi)) 0#32) (IntOp.cmpi .slt (AL (ix1 i hi)) 16#32))) = 1#1) : InRange AL AC := by
  simp only [andi_one, ori_one, noti_one, sge_one, sle_one, slt_one] at h
  have e1 : (1#32).toInt = 1 := by decide
  have e16 : (16#32).toInt = 16 := by decide
  have e0 : (0#32).toInt = 0 := by decide
  rw [e1, e16, e0] at h
  have hc := toNat_of_toInt (AC ix0) (by have := (h 0 (by omega)).1.1; omega)
  refine ⟨by have := (h 0 (by omega)).1.1; omega, by have := (h 0 (by omega)).1.2; omega, fun i hi hlt => ?_⟩
  rcases (h i hi).2 with h1 | ⟨h1, h2⟩
  · exfalso; apply h1
    rw [BitVec.toInt_eq_toNat_of_lt (by rw [BitVec.toNat_ofNat]; omega), BitVec.toNat_ofNat]
    omega
  · have := toNat_of_toInt _ h1; omega

variable {F : FTy → Type} [FloatOps F]

/-- The precondition of the frames says that the list and the count are in range. -/
theorem inRange_of_names [Pre_list_names_experts.Facts] (AL : IVec Pre_list_names_experts.S17 32) (AC : IVec Pre_list_names_experts.S1 32)
    {a2 a3 a4 a5 a6 a7 a8} (h : Pre_list_names_experts.fn (F := F) AL AC a2 a3 a4 a5 a6 a7 a8 = fun _ => 1#1) : InRange AL AC := by
  refine inRange_of_bits AL AC fun i hi => ?_
  have q := congrFun h (ix1 i hi)
  simp only [Pre_list_names_experts.fn, andi, cmpi, broadcastInDim, constantI, noti, ori, iotaInDim] at q
  simp only [ix0_eq] at q
  exact q

end Cert.Proof

end
-- ==== Proof.K.Safe.lean ====
/- From an in-range list and count, the kernel runs, its arguments end unchanged and every semaphore ends at zero. -/
module

public import proofs.«01_k».proof.Proof.K.Launch
public import proofs.«01_k».proof.Proof.Pre

@[expose] public section

noncomputable section

namespace Cert.Proof.K

open Cert.Kernel Cert.Kernel.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- A list and a count in range are what the body needs. -/
theorem preOK_of (h : ∀ c : Dev nD, InRange (m ((c : Thread nD τ).loc main_arg0)) (m ((c : Thread nD τ).loc main_arg1))) : PreOK m := fun c => by
  rw [V_main_arg0, V_main_arg1]
  obtain ⟨h1, h2, h3⟩ := h c
  have e : cntOf c (m ((c : Thread nD τ).loc main_arg1)) = m ((c : Thread nD τ).loc main_arg1) ix0 := congrArg (m ((c : Thread nD τ).loc main_arg1)) (ix0_eq cntIx)
  refine ⟨by rw [e]; exact h1, by rw [e]; exact h2, fun i hi => ?_⟩
  rw [e] at hi
  have hi17 : i < 17 := by omega
  have el : listOf c (m ((c : Thread nD τ).loc main_arg0)) i = m ((c : Thread nD τ).loc main_arg0) (ix1 i hi17) :=
    congrArg (m ((c : Thread nD τ).loc main_arg0)) (funext fun a => Fin.ext (by
      fin_cases a
      first
        | rfl
        | exact Nat.mod_eq_of_lt hi17))
  rw [el]
  exact h3 i hi17 hi

/-- The frame of the kernel. -/
theorem frame_of (h : PreOK m) : θ_run defs (onTc (τ := τ) (main (F := F))) ⟨m, fun _ => 0, ρ⟩ (fun r => (∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8))
    ∧ r.2.sem = fun _ => 0) :=
  (θ_run defs _ _).mono (fun _ hh => ⟨fun c => (hh.1 c).2, hh.2⟩) (run_main m ρ h)

end Cert.Proof.K

end
-- ==== Proof.I.Names.lean ====
/-
  Canonical names for the pieces of the two weight streams, and the closed forms of the offsets the kernel
  computes.

  The up weights of one expert (5120x1536) arrive in four chunks of 1280 rows, the down weights (1536x5120) in
  three chunks of 512 rows, each into one of two slots of a scratch buffer, each on a semaphore of its own. Here
  a chunk of an expert in HBM (`srcU`, `srcD`), a chunk of a slot (`slotU`, `slotD`) and its semaphore (`csmU`,
  `csmD`) get names at literal offsets; the equations marked `sl_canon` say that the slices the program takes at
  a symbolic trip are these. The side conditions that the program checks (`k0_chk1` ... `k0_chk4`) hold for an
  expert number below 16 and a count of at most 16.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.I

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The expert a word names. -/
def ex (v : BitVec 32) : Fin 16 := Fin.ofNat 16 v.toNat
theorem ex_val {v : BitVec 32} (h : v.toNat < 16) : (ex v).val = v.toNat := Nat.mod_eq_of_lt h

/-! ## Names at literal offsets -/

abbrev wUM : Memref sig .tc .hbm S16x5120x1536 .fp8e4m3 := Memref.whole main_arg5
abbrev bufUM : Memref sig .tc .vmem S2x5120x1536 .fp8e4m3 := Memref.whole cc0_scratch7
abbrev srcOffU (e : Fin 16) (c : Fin 4) : Fin 3 → Nat := ![e.val, 1280 * c.val, 0]
theorem srcOffU_inb (e : Fin 16) (c : Fin 4) : ∀ a, srcOffU e c a + S1x1280x1536.size a ≤ S16x5120x1536.size a := by
  have := e.isLt; have := c.isLt; intro a; fin_cases a
  · show e.val + 1 ≤ 16; omega
  · show 1280 * c.val + 1280 ≤ 5120; omega
  · show 0 + 1536 ≤ 1536; omega
abbrev slotOffU (s : Fin 2) (c : Fin 4) : Fin 3 → Nat := ![s.val, 1280 * c.val, 0]
theorem slotOffU_inb (s : Fin 2) (c : Fin 4) : ∀ a, slotOffU s c a + S1x1280x1536.size a ≤ S2x5120x1536.size a := by
  have := s.isLt; have := c.isLt; intro a; fin_cases a
  · show s.val + 1 ≤ 2; omega
  · show 1280 * c.val + 1280 ≤ 5120; omega
  · show 0 + 1536 ≤ 1536; omega
abbrev semOffU (s : Fin 2) (c : Fin 4) : Fin 2 → Nat := ![s.val, c.val]
theorem semOffU_inb (s : Fin 2) (c : Fin 4) : ∀ a, semOffU s c a + S1x1.size a ≤ S2x4.size a := by
  have := s.isLt; have := c.isLt; intro a; fin_cases a
  · show s.val + 1 ≤ 2; omega
  · show c.val + 1 ≤ 4; omega
/-- Chunk `c` of expert `e`'s weights, as the program slices and squeezes it. -/
def srcU (e : Fin 16) (c : Fin 4) : Memref sig .tc .hbm S1280x1536 .fp8e4m3 :=
  (wUM.slice (Rect.unit (s := S16x5120x1536) (srcOffU e c) S1x1280x1536.size (srcOffU_inb e c)) (fun _ => rfl)).squeeze S1280x1536 squeezes_S1x1280x1536_S1280x1536
/-- Chunk `c` of slot `s` of the scratch buffer. -/
def slotU (s : Fin 2) (c : Fin 4) : Memref sig .tc .vmem S1280x1536 .fp8e4m3 :=
  (bufUM.slice (Rect.unit (s := S2x5120x1536) (slotOffU s c) S1x1280x1536.size (slotOffU_inb s c)) (fun _ => rfl)).squeeze S1280x1536 squeezes_S1x1280x1536_S1280x1536
/-- The semaphore of chunk `c` of slot `s`. -/
def csmU (s : Fin 2) (c : Fin 4) : DmaSems sig S_ :=
  (cc0_scratch22.slice (Rect.unit (s := S2x4) (semOffU s c) S1x1.size (semOffU_inb s c))).squeeze S_ squeezes_S1x1_S_

instance (e : Fin 16) (c : Fin 4) : ClosedOff (srcOffU e c) := ⟨srcOffU e c, rfl⟩
instance (s : Fin 2) (c : Fin 4) : ClosedOff (slotOffU s c) := ⟨slotOffU s c, rfl⟩

theorem csmU_congr {off : Fin 2 → Nat} {s : Fin 2} {c : Fin 4} (e : off = semOffU s c) (hh) :
    (cc0_scratch22.slice (Rect.unit (s := S2x4) off S1x1.size hh)).squeeze S_ squeezes_S1x1_S_ = csmU s c :=
  congrArg (fun A : DmaSems sig S1x1 => A.squeeze S_ squeezes_S1x1_S_) (SemArray.slice_unit_congr _ e _ _)
theorem slotU_congr {off : Fin 3 → Nat} {s : Fin 2} {c : Fin 4} (e : off = slotOffU s c) (hh hs) :
    (bufUM.slice (Rect.unit (s := S2x5120x1536) off S1x1280x1536.size hh) hs).squeeze S1280x1536 squeezes_S1x1280x1536_S1280x1536 = slotU s c :=
  congrArg (fun M : Memref sig .tc .vmem S1x1280x1536 .fp8e4m3 => M.squeeze S1280x1536 squeezes_S1x1280x1536_S1280x1536) (Memref.slice_unit_congr _ e _ _ _ _)
theorem srcU_congr {off : Fin 3 → Nat} {e : Fin 16} {c : Fin 4} (h : off = srcOffU e c) (hh hs) :
    (wUM.slice (Rect.unit (s := S16x5120x1536) off S1x1280x1536.size hh) hs).squeeze S1280x1536 squeezes_S1x1280x1536_S1280x1536 = srcU e c :=
  congrArg (fun M : Memref sig .tc .hbm S1x1280x1536 .fp8e4m3 => M.squeeze S1280x1536 squeezes_S1x1280x1536_S1280x1536) (Memref.slice_unit_congr _ h _ _ _ _)

abbrev wDM : Memref sig .tc .hbm S16x1536x5120 .fp8e4m3 := Memref.whole main_arg7
abbrev bufDM : Memref sig .tc .vmem S2x1536x5120 .fp8e4m3 := Memref.whole cc0_scratch8
abbrev srcOffD (e : Fin 16) (c : Fin 3) : Fin 3 → Nat := ![e.val, 512 * c.val, 0]
theorem srcOffD_inb (e : Fin 16) (c : Fin 3) : ∀ a, srcOffD e c a + S1x512x5120.size a ≤ S16x1536x5120.size a := by
  have := e.isLt; have := c.isLt; intro a; fin_cases a
  · show e.val + 1 ≤ 16; omega
  · show 512 * c.val + 512 ≤ 1536; omega
  · show 0 + 5120 ≤ 5120; omega
abbrev slotOffD (s : Fin 2) (c : Fin 3) : Fin 3 → Nat := ![s.val, 512 * c.val, 0]
theorem slotOffD_inb (s : Fin 2) (c : Fin 3) : ∀ a, slotOffD s c a + S1x512x5120.size a ≤ S2x1536x5120.size a := by
  have := s.isLt; have := c.isLt; intro a; fin_cases a
  · show s.val + 1 ≤ 2; omega
  · show 512 * c.val + 512 ≤ 1536; omega
  · show 0 + 5120 ≤ 5120; omega
abbrev semOffD (s : Fin 2) (c : Fin 3) : Fin 2 → Nat := ![s.val, c.val]
theorem semOffD_inb (s : Fin 2) (c : Fin 3) : ∀ a, semOffD s c a + S1x1.size a ≤ S2x3.size a := by
  have := s.isLt; have := c.isLt; intro a; fin_cases a
  · show s.val + 1 ≤ 2; omega
  · show c.val + 1 ≤ 3; omega
/-- Chunk `c` of expert `e`'s weights, as the program slices and squeezes it. -/
def srcD (e : Fin 16) (c : Fin 3) : Memref sig .tc .hbm S512x5120 .fp8e4m3 :=
  (wDM.slice (Rect.unit (s := S16x1536x5120) (srcOffD e c) S1x512x5120.size (srcOffD_inb e c)) (fun _ => rfl)).squeeze S512x5120 squeezes_S1x512x5120_S512x5120
/-- Chunk `c` of slot `s` of the scratch buffer. -/
def slotD (s : Fin 2) (c : Fin 3) : Memref sig .tc .vmem S512x5120 .fp8e4m3 :=
  (bufDM.slice (Rect.unit (s := S2x1536x5120) (slotOffD s c) S1x512x5120.size (slotOffD_inb s c)) (fun _ => rfl)).squeeze S512x5120 squeezes_S1x512x5120_S512x5120
/-- The semaphore of chunk `c` of slot `s`. -/
def csmD (s : Fin 2) (c : Fin 3) : DmaSems sig S_ :=
  (cc0_scratch23.slice (Rect.unit (s := S2x3) (semOffD s c) S1x1.size (semOffD_inb s c))).squeeze S_ squeezes_S1x1_S_

instance (e : Fin 16) (c : Fin 3) : ClosedOff (srcOffD e c) := ⟨srcOffD e c, rfl⟩
instance (s : Fin 2) (c : Fin 3) : ClosedOff (slotOffD s c) := ⟨slotOffD s c, rfl⟩

theorem csmD_congr {off : Fin 2 → Nat} {s : Fin 2} {c : Fin 3} (e : off = semOffD s c) (hh) :
    (cc0_scratch23.slice (Rect.unit (s := S2x3) off S1x1.size hh)).squeeze S_ squeezes_S1x1_S_ = csmD s c :=
  congrArg (fun A : DmaSems sig S1x1 => A.squeeze S_ squeezes_S1x1_S_) (SemArray.slice_unit_congr _ e _ _)
theorem slotD_congr {off : Fin 3 → Nat} {s : Fin 2} {c : Fin 3} (e : off = slotOffD s c) (hh hs) :
    (bufDM.slice (Rect.unit (s := S2x1536x5120) off S1x512x5120.size hh) hs).squeeze S512x5120 squeezes_S1x512x5120_S512x5120 = slotD s c :=
  congrArg (fun M : Memref sig .tc .vmem S1x512x5120 .fp8e4m3 => M.squeeze S512x5120 squeezes_S1x512x5120_S512x5120) (Memref.slice_unit_congr _ e _ _ _ _)
theorem srcD_congr {off : Fin 3 → Nat} {e : Fin 16} {c : Fin 3} (h : off = srcOffD e c) (hh hs) :
    (wDM.slice (Rect.unit (s := S16x1536x5120) off S1x512x5120.size hh) hs).squeeze S512x5120 squeezes_S1x512x5120_S512x5120 = srcD e c :=
  congrArg (fun M : Memref sig .tc .hbm S1x512x5120 .fp8e4m3 => M.squeeze S512x5120 squeezes_S1x512x5120_S512x5120) (Memref.slice_unit_congr _ h _ _ _ _)

/-! ## The loops' trip counts, and the induction variables' chains in closed form -/

section Chain
variable (v : BitVec 32)
open Affine

theorem isInt_ub : IsInt (Scalar.addi 0#32 (Scalar.muli (Scalar.divsi (Scalar.subi v 0#32) 1#32) 1#32)) v.toInt := by
  have hr := word_range v
  have h15 : IsInt (Scalar.subi v 0#32) v.toInt :=
    subi (e := v.toInt) (word v) (ofNat (e := 0) 0 ⟨rfl, by decide⟩) ⟨by omega, by omega, by omega⟩
  have h17 : IsInt (Scalar.divsi (Scalar.subi v 0#32) 1#32) v.toInt := divsi_one h15 (ofNat (e := 1) 1 ⟨rfl, by decide⟩) ⟨rfl, rfl⟩
  have h18 : IsInt (Scalar.muli (Scalar.divsi (Scalar.subi v 0#32) 1#32) 1#32) v.toInt :=
    muli (e := v.toInt) h17 (ofNat (e := 1) 1 ⟨rfl, by decide⟩) ⟨by omega, by omega, by omega⟩
  exact addi (e := v.toInt) (ofNat (e := 0) 0 ⟨rfl, by decide⟩) h18 ⟨by omega, by omega, by omega⟩
theorem isInt_ub' : IsInt (Scalar.addi 0#32 (Scalar.subi v 0#32)) v.toInt := by
  have hr := word_range v
  exact addi (e := v.toInt) (ofNat (e := 0) 0 ⟨rfl, by decide⟩)
    (subi (e := v.toInt) (word v) (ofNat (e := 0) 0 ⟨rfl, by decide⟩) ⟨by omega, by omega, by omega⟩) ⟨by omega, by omega, by omega⟩

theorem toInt_of_isInt {x : BitVec 32} {e : Int} (h : IsInt x e) : x.toInt = e := by
  delta Affine.IsInt at h; exact h

/-- The expert loop runs `v` trips, `v` read signed; -/
theorem trips1_eq : (k0_t1_loop v).trips = v.toInt.toNat := by
  show Scf.trips 0#32 (Scalar.addi 0#32 (Scalar.muli (Scalar.divsi (Scalar.subi v 0#32) 1#32) 1#32)) 1#32 = _
  unfold Scf.trips; rw [toInt_of_isInt (isInt_ub v)]; simp
/-- its remainder loop none; -/
theorem trips4_eq : (k0_t4_loop v).trips = 0 := by
  show Scf.trips (Scalar.addi 0#32 (Scalar.muli (Scalar.divsi (Scalar.subi v 0#32) 1#32) 1#32)) (Scalar.addi 0#32 (Scalar.subi v 0#32)) 1#32 = 0
  unfold Scf.trips; rw [toInt_of_isInt (isInt_ub v), toInt_of_isInt (isInt_ub' v)]; simp
/-- the loop over the up chunks four, the loop over the down chunks three. -/
theorem trips2_eq : k0_t2_loop.trips = 4 := by decide
theorem trips3_eq : k0_t3_loop.trips = 3 := by decide

theorem trips1_lt (k : Fin (k0_t1_loop v).trips) : (k.val : Int) < v.toInt := by
  have h := Nat.lt_of_lt_of_eq k.isLt (trips1_eq v); have := word_range v; omega

theorem isInt_iv (k : Fin (k0_t1_loop v).trips) : IsInt (Scf.iv 0#32 1#32 k.val) k.val :=
  iv (e := k.val) (ofNat (e := 0) 0 ⟨rfl, by decide⟩) (ofNat (e := 1) 1 ⟨rfl, by decide⟩) k.val
    ⟨by omega, by omega, by have := trips1_lt v k; have := word_range v; omega⟩
theorem isInt_nx (k : Fin (k0_t1_loop v).trips) : IsInt (Scalar.addi (Scf.iv 0#32 1#32 k.val) 1#32) (k.val + 1 : Nat) :=
  addi (e := (k.val + 1 : Nat)) (isInt_iv v k) (ofNat (e := 1) 1 ⟨rfl, by decide⟩)
    ⟨by push_cast; omega, by omega, by have := trips1_lt v k; have := word_range v; push_cast; omega⟩
theorem isInt_rem (k : Fin (k0_t1_loop v).trips) : IsInt (Scalar.remsi (Scf.iv 0#32 1#32 k.val) 2#32) ((Ring.sl 2 k.val).val : Nat) :=
  remsi (e := (k.val % 2 : Nat)) (isInt_iv v k) (ofNat (e := 2) 2 ⟨rfl, by decide⟩) ⟨by omega, by omega, by omega⟩
theorem isInt_rem' (k : Fin (k0_t1_loop v).trips) :
    IsInt (Scalar.remsi (Scalar.addi (Scf.iv 0#32 1#32 k.val) 1#32) 2#32) ((Ring.sl 2 (k.val + 1)).val : Nat) :=
  remsi (e := ((k.val + 1) % 2 : Nat)) (isInt_nx v k) (ofNat (e := 2) 2 ⟨rfl, by decide⟩) ⟨by omega, by omega, by omega⟩
/-- A small trip number, alone and times a chunk's rows. -/
theorem isInt_ck (k : Nat) (hk : k < 4) : IsInt (Scf.iv 0#32 1#32 k) k :=
  iv (e := k) (ofNat (e := 0) 0 ⟨rfl, by decide⟩) (ofNat (e := 1) 1 ⟨rfl, by decide⟩) k ⟨by omega, by omega, by omega⟩
theorem isInt_row (r : Nat) (hr : r ≤ 1280) (k : Nat) (hk : k < 4) : IsInt (Scalar.muli (Scf.iv 0#32 1#32 k) (BitVec.ofNat 32 r)) (r * k : Nat) :=
  muli (e := (r * k : Nat)) (isInt_ck k hk) (ofNat (e := r) r ⟨rfl, by omega⟩)
    ⟨by push_cast; rw [Int.mul_comm], by omega, by have : r * k ≤ 1280 * 4 := Nat.mul_le_mul hr (by omega); omega⟩

/-- There is a next expert: the guard of the two prefetches. -/
theorem more1_iff (k : Fin (k0_t1_loop v).trips) : k0_cond1 v k = 1#1 ↔ k.val + 1 < (k0_t1_loop v).trips := by
  show Scalar.cmpi .ne (Scalar.extui (Scalar.cmpi .slt (Scalar.addi (Scf.iv 0#32 1#32 k.val) 1#32) v)) 0#32 = 1#1 ↔ _
  rw [show (Scalar.cmpi .ne (Scalar.extui (Scalar.cmpi .slt (Scalar.addi (Scf.iv 0#32 1#32 k.val) 1#32) v)) 0#32 = 1#1)
      ↔ (Scalar.cmpi .slt (Scalar.addi (Scf.iv 0#32 1#32 k.val) 1#32) v = 1#1) from Scalar.guard_iff _]
  rw [show (Scalar.cmpi .slt (Scalar.addi (Scf.iv 0#32 1#32 k.val) 1#32) v = 1#1)
      ↔ (Scalar.addi (Scf.iv 0#32 1#32 k.val) 1#32).toInt < v.toInt from IntOp.cmpi_slt]
  have e := trips1_eq v
  rw [toInt_of_isInt (isInt_nx v k)]; omega
theorem cond2_eq (k : Fin (k0_t1_loop v).trips) : k0_cond2 v k = k0_cond1 v k := rfl

theorem off8_eq (k : Fin (k0_t1_loop v).trips) : k0_off8 v k = ![k.val] := vec_cons (indexCast (isInt_iv v k)) rfl vec_nil
theorem off9_eq (k : Fin (k0_t1_loop v).trips) : k0_off9 v k = ![min (k.val + 1) 15] :=
  vec_cons (indexCast (minsi (isInt_nx v k) (ofNat (e := 15) 15 ⟨rfl, by decide⟩) rfl)) (by push_cast; omega) vec_nil
theorem off10_eq (w : BitVec 32) (h : w.toNat < 16) : k0_off10 w = ![0, (ex w).val, 0] := by
  rw [ex_val h]; rfl
instance (k : Fin (k0_t1_loop v).trips) : ClosedOff (k0_off8 v k) := ⟨_, off8_eq v k⟩
instance (k : Fin (k0_t1_loop v).trips) : ClosedOff (k0_off9 v k) := ⟨_, off9_eq v k⟩

theorem ckU_lt (t : Fin k0_t2_loop.trips) : t.val < 4 := Nat.lt_of_lt_of_eq t.isLt trips2_eq
theorem ckU_val (t : Fin k0_t2_loop.trips) : (Ring.bk 4 t.val).val = t.val := Ring.bk_val (ckU_lt t)
theorem isInt_ckU (t : Fin k0_t2_loop.trips) : IsInt (Scf.iv 0#32 1#32 t.val) ((Ring.bk 4 t.val).val : Nat) := by
  rw [ckU_val]; exact isInt_ck t.val (by have := ckU_lt t; omega)
theorem isInt_rowU (t : Fin k0_t2_loop.trips) : IsInt (Scalar.muli (Scf.iv 0#32 1#32 t.val) 1280#32) (1280 * (Ring.bk 4 t.val).val : Nat) := by
  rw [ckU_val]; exact isInt_row 1280 (by decide) t.val (by have := ckU_lt t; omega)
theorem off11_eq (k : Fin (k0_t1_loop v).trips) (t : Fin k0_t2_loop.trips) : k0_off11 v k t = semOffU (Ring.sl 2 (k.val + 1)) (Ring.bk 4 t.val) :=
  vec_cons (isInt_rem' v k) rfl (vec_cons (isInt_ckU t) rfl vec_nil)
theorem off12_eq (k : Fin (k0_t1_loop v).trips) (t : Fin k0_t2_loop.trips) : k0_off12 v k t = slotOffU (Ring.sl 2 (k.val + 1)) (Ring.bk 4 t.val) :=
  vec_cons (isInt_rem' v k) rfl (vec_cons (isInt_rowU t) rfl rfl)
theorem off14_eq (k : Fin (k0_t1_loop v).trips) (t : Fin k0_t2_loop.trips) : k0_off14 v k t = semOffU (Ring.sl 2 k.val) (Ring.bk 4 t.val) :=
  vec_cons (isInt_rem v k) rfl (vec_cons (isInt_ckU t) rfl vec_nil)
theorem off15_eq (k : Fin (k0_t1_loop v).trips) (t : Fin k0_t2_loop.trips) : k0_off15 v k t = slotOffU (Ring.sl 2 k.val) (Ring.bk 4 t.val) :=
  vec_cons (isInt_rem v k) rfl (vec_cons (isInt_rowU t) rfl rfl)
theorem off13_eq (w : BitVec 32) (h : w.toNat < 16) (t : Fin k0_t2_loop.trips) : k0_off13 w t = srcOffU (ex w) (Ring.bk 4 t.val) := by
  unfold srcOffU; rw [ex_val h]
  exact congrArg (fun r : Nat => (![w.toNat, r, 0] : Fin 3 → Nat)) (nat_eq (isInt_rowU t) _ rfl)
theorem off16_eq (w : BitVec 32) (h : w.toNat < 16) (t : Fin k0_t2_loop.trips) : k0_off16 w t = srcOffU (ex w) (Ring.bk 4 t.val) := by
  unfold srcOffU; rw [ex_val h]
  exact congrArg (fun r : Nat => (![w.toNat, r, 0] : Fin 3 → Nat)) (nat_eq (isInt_rowU t) _ rfl)
theorem off18_eq (k : Fin (k0_t1_loop v).trips) (t : Fin k0_t2_loop.trips) : k0_off18 v k t = ![(Ring.sl 2 k.val).val, 1280 * (Ring.bk 4 t.val).val, 0] :=
  vec_cons (indexCast (isInt_rem v k)) rfl (vec_cons (indexCast (isInt_rowU t)) rfl rfl)
instance (k : Fin (k0_t1_loop v).trips) (t : Fin k0_t2_loop.trips) : ClosedOff (k0_off18 v k t) := ⟨_, off18_eq v k t⟩
theorem off21_eq (k : Fin (k0_t1_loop v).trips) (t : Fin k0_t2_loop.trips) : k0_off21 v k t = ![(Ring.sl 2 k.val).val, 1280 * (Ring.bk 4 t.val).val, 256] :=
  vec_cons (indexCast (isInt_rem v k)) rfl (vec_cons (indexCast (isInt_rowU t)) rfl rfl)
instance (k : Fin (k0_t1_loop v).trips) (t : Fin k0_t2_loop.trips) : ClosedOff (k0_off21 v k t) := ⟨_, off21_eq v k t⟩
theorem off24_eq (k : Fin (k0_t1_loop v).trips) (t : Fin k0_t2_loop.trips) : k0_off24 v k t = ![(Ring.sl 2 k.val).val, 1280 * (Ring.bk 4 t.val).val, 512] :=
  vec_cons (indexCast (isInt_rem v k)) rfl (vec_cons (indexCast (isInt_rowU t)) rfl rfl)
instance (k : Fin (k0_t1_loop v).trips) (t : Fin k0_t2_loop.trips) : ClosedOff (k0_off24 v k t) := ⟨_, off24_eq v k t⟩
theorem off27_eq (k : Fin (k0_t1_loop v).trips) (t : Fin k0_t2_loop.trips) : k0_off27 v k t = ![(Ring.sl 2 k.val).val, 1280 * (Ring.bk 4 t.val).val, 768] :=
  vec_cons (indexCast (isInt_rem v k)) rfl (vec_cons (indexCast (isInt_rowU t)) rfl rfl)
instance (k : Fin (k0_t1_loop v).trips) (t : Fin k0_t2_loop.trips) : ClosedOff (k0_off27 v k t) := ⟨_, off27_eq v k t⟩
theorem off30_eq (k : Fin (k0_t1_loop v).trips) (t : Fin k0_t2_loop.trips) : k0_off30 v k t = ![(Ring.sl 2 k.val).val, 1280 * (Ring.bk 4 t.val).val, 1024] :=
  vec_cons (indexCast (isInt_rem v k)) rfl (vec_cons (indexCast (isInt_rowU t)) rfl rfl)
instance (k : Fin (k0_t1_loop v).trips) (t : Fin k0_t2_loop.trips) : ClosedOff (k0_off30 v k t) := ⟨_, off30_eq v k t⟩
theorem off33_eq (k : Fin (k0_t1_loop v).trips) (t : Fin k0_t2_loop.trips) : k0_off33 v k t = ![(Ring.sl 2 k.val).val, 1280 * (Ring.bk 4 t.val).val, 1280] :=
  vec_cons (indexCast (isInt_rem v k)) rfl (vec_cons (indexCast (isInt_rowU t)) rfl rfl)
instance (k : Fin (k0_t1_loop v).trips) (t : Fin k0_t2_loop.trips) : ClosedOff (k0_off33 v k t) := ⟨_, off33_eq v k t⟩

theorem ckD_lt (t : Fin k0_t3_loop.trips) : t.val < 3 := Nat.lt_of_lt_of_eq t.isLt trips3_eq
theorem ckD_val (t : Fin k0_t3_loop.trips) : (Ring.bk 3 t.val).val = t.val := Ring.bk_val (ckD_lt t)
theorem isInt_ckD (t : Fin k0_t3_loop.trips) : IsInt (Scf.iv 0#32 1#32 t.val) ((Ring.bk 3 t.val).val : Nat) := by
  rw [ckD_val]; exact isInt_ck t.val (by have := ckD_lt t; omega)
theorem isInt_rowD (t : Fin k0_t3_loop.trips) : IsInt (Scalar.muli (Scf.iv 0#32 1#32 t.val) 512#32) (512 * (Ring.bk 3 t.val).val : Nat) := by
  rw [ckD_val]; exact isInt_row 512 (by decide) t.val (by have := ckD_lt t; omega)
theorem off36_eq (k : Fin (k0_t1_loop v).trips) (t : Fin k0_t3_loop.trips) : k0_off36 v k t = semOffD (Ring.sl 2 (k.val + 1)) (Ring.bk 3 t.val) :=
  vec_cons (isInt_rem' v k) rfl (vec_cons (isInt_ckD t) rfl vec_nil)
theorem off37_eq (k : Fin (k0_t1_loop v).trips) (t : Fin k0_t3_loop.trips) : k0_off37 v k t = slotOffD (Ring.sl 2 (k.val + 1)) (Ring.bk 3 t.val) :=
  vec_cons (isInt_rem' v k) rfl (vec_cons (isInt_rowD t) rfl rfl)
theorem off39_eq (k : Fin (k0_t1_loop v).trips) (t : Fin k0_t3_loop.trips) : k0_off39 v k t = semOffD (Ring.sl 2 k.val) (Ring.bk 3 t.val) :=
  vec_cons (isInt_rem v k) rfl (vec_cons (isInt_ckD t) rfl vec_nil)
theorem off40_eq (k : Fin (k0_t1_loop v).trips) (t : Fin k0_t3_loop.trips) : k0_off40 v k t = slotOffD (Ring.sl 2 k.val) (Ring.bk 3 t.val) :=
  vec_cons (isInt_rem v k) rfl (vec_cons (isInt_rowD t) rfl rfl)
theorem off38_eq (w : BitVec 32) (h : w.toNat < 16) (t : Fin k0_t3_loop.trips) : k0_off38 w t = srcOffD (ex w) (Ring.bk 3 t.val) := by
  unfold srcOffD; rw [ex_val h]
  exact congrArg (fun r : Nat => (![w.toNat, r, 0] : Fin 3 → Nat)) (nat_eq (isInt_rowD t) _ rfl)
theorem off41_eq (w : BitVec 32) (h : w.toNat < 16) (t : Fin k0_t3_loop.trips) : k0_off41 w t = srcOffD (ex w) (Ring.bk 3 t.val) := by
  unfold srcOffD; rw [ex_val h]
  exact congrArg (fun r : Nat => (![w.toNat, r, 0] : Fin 3 → Nat)) (nat_eq (isInt_rowD t) _ rfl)
theorem off43_eq (k : Fin (k0_t1_loop v).trips) (t : Fin k0_t3_loop.trips) : k0_off43 v k t = ![(Ring.sl 2 k.val).val, 512 * (Ring.bk 3 t.val).val, 0] :=
  vec_cons (indexCast (isInt_rem v k)) rfl (vec_cons (indexCast (isInt_rowD t)) rfl rfl)
instance (k : Fin (k0_t1_loop v).trips) (t : Fin k0_t3_loop.trips) : ClosedOff (k0_off43 v k t) := ⟨_, off43_eq v k t⟩
theorem off46_eq (k : Fin (k0_t1_loop v).trips) (t : Fin k0_t3_loop.trips) : k0_off46 v k t = ![(Ring.sl 2 k.val).val, 512 * (Ring.bk 3 t.val).val, 256] :=
  vec_cons (indexCast (isInt_rem v k)) rfl (vec_cons (indexCast (isInt_rowD t)) rfl rfl)
instance (k : Fin (k0_t1_loop v).trips) (t : Fin k0_t3_loop.trips) : ClosedOff (k0_off46 v k t) := ⟨_, off46_eq v k t⟩
theorem off49_eq (k : Fin (k0_t1_loop v).trips) (t : Fin k0_t3_loop.trips) : k0_off49 v k t = ![(Ring.sl 2 k.val).val, 512 * (Ring.bk 3 t.val).val, 512] :=
  vec_cons (indexCast (isInt_rem v k)) rfl (vec_cons (indexCast (isInt_rowD t)) rfl rfl)
instance (k : Fin (k0_t1_loop v).trips) (t : Fin k0_t3_loop.trips) : ClosedOff (k0_off49 v k t) := ⟨_, off49_eq v k t⟩
theorem off52_eq (k : Fin (k0_t1_loop v).trips) (t : Fin k0_t3_loop.trips) : k0_off52 v k t = ![(Ring.sl 2 k.val).val, 512 * (Ring.bk 3 t.val).val, 768] :=
  vec_cons (indexCast (isInt_rem v k)) rfl (vec_cons (indexCast (isInt_rowD t)) rfl rfl)
instance (k : Fin (k0_t1_loop v).trips) (t : Fin k0_t3_loop.trips) : ClosedOff (k0_off52 v k t) := ⟨_, off52_eq v k t⟩
theorem off55_eq (k : Fin (k0_t1_loop v).trips) (t : Fin k0_t3_loop.trips) : k0_off55 v k t = ![(Ring.sl 2 k.val).val, 512 * (Ring.bk 3 t.val).val, 1024] :=
  vec_cons (indexCast (isInt_rem v k)) rfl (vec_cons (indexCast (isInt_rowD t)) rfl rfl)
instance (k : Fin (k0_t1_loop v).trips) (t : Fin k0_t3_loop.trips) : ClosedOff (k0_off55 v k t) := ⟨_, off55_eq v k t⟩
theorem off58_eq (k : Fin (k0_t1_loop v).trips) (t : Fin k0_t3_loop.trips) : k0_off58 v k t = ![(Ring.sl 2 k.val).val, 512 * (Ring.bk 3 t.val).val, 1280] :=
  vec_cons (indexCast (isInt_rem v k)) rfl (vec_cons (indexCast (isInt_rowD t)) rfl rfl)
instance (k : Fin (k0_t1_loop v).trips) (t : Fin k0_t3_loop.trips) : ClosedOff (k0_off58 v k t) := ⟨_, off58_eq v k t⟩
theorem off61_eq (k : Fin (k0_t1_loop v).trips) (t : Fin k0_t3_loop.trips) : k0_off61 v k t = ![(Ring.sl 2 k.val).val, 512 * (Ring.bk 3 t.val).val, 1536] :=
  vec_cons (indexCast (isInt_rem v k)) rfl (vec_cons (indexCast (isInt_rowD t)) rfl rfl)
instance (k : Fin (k0_t1_loop v).trips) (t : Fin k0_t3_loop.trips) : ClosedOff (k0_off61 v k t) := ⟨_, off61_eq v k t⟩
theorem off64_eq (k : Fin (k0_t1_loop v).trips) (t : Fin k0_t3_loop.trips) : k0_off64 v k t = ![(Ring.sl 2 k.val).val, 512 * (Ring.bk 3 t.val).val, 1792] :=
  vec_cons (indexCast (isInt_rem v k)) rfl (vec_cons (indexCast (isInt_rowD t)) rfl rfl)
instance (k : Fin (k0_t1_loop v).trips) (t : Fin k0_t3_loop.trips) : ClosedOff (k0_off64 v k t) := ⟨_, off64_eq v k t⟩
theorem off67_eq (k : Fin (k0_t1_loop v).trips) (t : Fin k0_t3_loop.trips) : k0_off67 v k t = ![(Ring.sl 2 k.val).val, 512 * (Ring.bk 3 t.val).val, 2048] :=
  vec_cons (indexCast (isInt_rem v k)) rfl (vec_cons (indexCast (isInt_rowD t)) rfl rfl)
instance (k : Fin (k0_t1_loop v).trips) (t : Fin k0_t3_loop.trips) : ClosedOff (k0_off67 v k t) := ⟨_, off67_eq v k t⟩
theorem off70_eq (k : Fin (k0_t1_loop v).trips) (t : Fin k0_t3_loop.trips) : k0_off70 v k t = ![(Ring.sl 2 k.val).val, 512 * (Ring.bk 3 t.val).val, 2304] :=
  vec_cons (indexCast (isInt_rem v k)) rfl (vec_cons (indexCast (isInt_rowD t)) rfl rfl)
instance (k : Fin (k0_t1_loop v).trips) (t : Fin k0_t3_loop.trips) : ClosedOff (k0_off70 v k t) := ⟨_, off70_eq v k t⟩
theorem off73_eq (k : Fin (k0_t1_loop v).trips) (t : Fin k0_t3_loop.trips) : k0_off73 v k t = ![(Ring.sl 2 k.val).val, 512 * (Ring.bk 3 t.val).val, 2560] :=
  vec_cons (indexCast (isInt_rem v k)) rfl (vec_cons (indexCast (isInt_rowD t)) rfl rfl)
instance (k : Fin (k0_t1_loop v).trips) (t : Fin k0_t3_loop.trips) : ClosedOff (k0_off73 v k t) := ⟨_, off73_eq v k t⟩
theorem off76_eq (k : Fin (k0_t1_loop v).trips) (t : Fin k0_t3_loop.trips) : k0_off76 v k t = ![(Ring.sl 2 k.val).val, 512 * (Ring.bk 3 t.val).val, 2816] :=
  vec_cons (indexCast (isInt_rem v k)) rfl (vec_cons (indexCast (isInt_rowD t)) rfl rfl)
instance (k : Fin (k0_t1_loop v).trips) (t : Fin k0_t3_loop.trips) : ClosedOff (k0_off76 v k t) := ⟨_, off76_eq v k t⟩
theorem off79_eq (k : Fin (k0_t1_loop v).trips) (t : Fin k0_t3_loop.trips) : k0_off79 v k t = ![(Ring.sl 2 k.val).val, 512 * (Ring.bk 3 t.val).val, 3072] :=
  vec_cons (indexCast (isInt_rem v k)) rfl (vec_cons (indexCast (isInt_rowD t)) rfl rfl)
instance (k : Fin (k0_t1_loop v).trips) (t : Fin k0_t3_loop.trips) : ClosedOff (k0_off79 v k t) := ⟨_, off79_eq v k t⟩
theorem off82_eq (k : Fin (k0_t1_loop v).trips) (t : Fin k0_t3_loop.trips) : k0_off82 v k t = ![(Ring.sl 2 k.val).val, 512 * (Ring.bk 3 t.val).val, 3328] :=
  vec_cons (indexCast (isInt_rem v k)) rfl (vec_cons (indexCast (isInt_rowD t)) rfl rfl)
instance (k : Fin (k0_t1_loop v).trips) (t : Fin k0_t3_loop.trips) : ClosedOff (k0_off82 v k t) := ⟨_, off82_eq v k t⟩
theorem off85_eq (k : Fin (k0_t1_loop v).trips) (t : Fin k0_t3_loop.trips) : k0_off85 v k t = ![(Ring.sl 2 k.val).val, 512 * (Ring.bk 3 t.val).val, 3584] :=
  vec_cons (indexCast (isInt_rem v k)) rfl (vec_cons (indexCast (isInt_rowD t)) rfl rfl)
instance (k : Fin (k0_t1_loop v).trips) (t : Fin k0_t3_loop.trips) : ClosedOff (k0_off85 v k t) := ⟨_, off85_eq v k t⟩
theorem off88_eq (k : Fin (k0_t1_loop v).trips) (t : Fin k0_t3_loop.trips) : k0_off88 v k t = ![(Ring.sl 2 k.val).val, 512 * (Ring.bk 3 t.val).val, 3840] :=
  vec_cons (indexCast (isInt_rem v k)) rfl (vec_cons (indexCast (isInt_rowD t)) rfl rfl)
instance (k : Fin (k0_t1_loop v).trips) (t : Fin k0_t3_loop.trips) : ClosedOff (k0_off88 v k t) := ⟨_, off88_eq v k t⟩
theorem off91_eq (k : Fin (k0_t1_loop v).trips) (t : Fin k0_t3_loop.trips) : k0_off91 v k t = ![(Ring.sl 2 k.val).val, 512 * (Ring.bk 3 t.val).val, 4096] :=
  vec_cons (indexCast (isInt_rem v k)) rfl (vec_cons (indexCast (isInt_rowD t)) rfl rfl)
instance (k : Fin (k0_t1_loop v).trips) (t : Fin k0_t3_loop.trips) : ClosedOff (k0_off91 v k t) := ⟨_, off91_eq v k t⟩
theorem off94_eq (k : Fin (k0_t1_loop v).trips) (t : Fin k0_t3_loop.trips) : k0_off94 v k t = ![(Ring.sl 2 k.val).val, 512 * (Ring.bk 3 t.val).val, 4352] :=
  vec_cons (indexCast (isInt_rem v k)) rfl (vec_cons (indexCast (isInt_rowD t)) rfl rfl)
instance (k : Fin (k0_t1_loop v).trips) (t : Fin k0_t3_loop.trips) : ClosedOff (k0_off94 v k t) := ⟨_, off94_eq v k t⟩
theorem off97_eq (k : Fin (k0_t1_loop v).trips) (t : Fin k0_t3_loop.trips) : k0_off97 v k t = ![(Ring.sl 2 k.val).val, 512 * (Ring.bk 3 t.val).val, 4608] :=
  vec_cons (indexCast (isInt_rem v k)) rfl (vec_cons (indexCast (isInt_rowD t)) rfl rfl)
instance (k : Fin (k0_t1_loop v).trips) (t : Fin k0_t3_loop.trips) : ClosedOff (k0_off97 v k t) := ⟨_, off97_eq v k t⟩
theorem off100_eq (k : Fin (k0_t1_loop v).trips) (t : Fin k0_t3_loop.trips) : k0_off100 v k t = ![(Ring.sl 2 k.val).val, 512 * (Ring.bk 3 t.val).val, 4864] :=
  vec_cons (indexCast (isInt_rem v k)) rfl (vec_cons (indexCast (isInt_rowD t)) rfl rfl)
instance (k : Fin (k0_t1_loop v).trips) (t : Fin k0_t3_loop.trips) : ClosedOff (k0_off100 v k t) := ⟨_, off100_eq v k t⟩

end Chain

/-! ## The canonical-name equations -/

section Canon
variable (v : BitVec 32)
@[sl_canon] theorem canon_off11 (k : Fin (k0_t1_loop v).trips) (t : Fin k0_t2_loop.trips) (hh) :
    (cc0_scratch22.slice (Rect.unit (s := S2x4) (k0_off11 v k t) S1x1.size hh)).squeeze S_ squeezes_S1x1_S_ = csmU (Ring.sl 2 (k.val + 1)) (Ring.bk 4 t.val) := csmU_congr (off11_eq v k t) _
@[sl_canon] theorem canon_off14 (k : Fin (k0_t1_loop v).trips) (t : Fin k0_t2_loop.trips) (hh) :
    (cc0_scratch22.slice (Rect.unit (s := S2x4) (k0_off14 v k t) S1x1.size hh)).squeeze S_ squeezes_S1x1_S_ = csmU (Ring.sl 2 k.val) (Ring.bk 4 t.val) := csmU_congr (off14_eq v k t) _
@[sl_canon] theorem canon_off12 (k : Fin (k0_t1_loop v).trips) (t : Fin k0_t2_loop.trips) (hh hs) :
    (bufUM.slice (Rect.unit (s := S2x5120x1536) (k0_off12 v k t) S1x1280x1536.size hh) hs).squeeze S1280x1536 squeezes_S1x1280x1536_S1280x1536 = slotU (Ring.sl 2 (k.val + 1)) (Ring.bk 4 t.val) := slotU_congr (off12_eq v k t) _ _
@[sl_canon] theorem canon_off15 (k : Fin (k0_t1_loop v).trips) (t : Fin k0_t2_loop.trips) (hh hs) :
    (bufUM.slice (Rect.unit (s := S2x5120x1536) (k0_off15 v k t) S1x1280x1536.size hh) hs).squeeze S1280x1536 squeezes_S1x1280x1536_S1280x1536 = slotU (Ring.sl 2 k.val) (Ring.bk 4 t.val) := slotU_congr (off15_eq v k t) _ _
@[sl_canon] theorem canon_off13 (w : BitVec 32) (h : w.toNat < 16) (t : Fin k0_t2_loop.trips) (hh hs) :
    (wUM.slice (Rect.unit (s := S16x5120x1536) (k0_off13 w t) S1x1280x1536.size hh) hs).squeeze S1280x1536 squeezes_S1x1280x1536_S1280x1536 = srcU (ex w) (Ring.bk 4 t.val) := srcU_congr (off13_eq w h t) _ _
@[sl_canon] theorem canon_off16 (w : BitVec 32) (h : w.toNat < 16) (t : Fin k0_t2_loop.trips) (hh hs) :
    (wUM.slice (Rect.unit (s := S16x5120x1536) (k0_off16 w t) S1x1280x1536.size hh) hs).squeeze S1280x1536 squeezes_S1x1280x1536_S1280x1536 = srcU (ex w) (Ring.bk 4 t.val) := srcU_congr (off16_eq w h t) _ _
theorem off1_eq (w : BitVec 32) (h : w.toNat < 16) : k0_off1 w = srcOffU (ex w) 0 := by
  unfold srcOffU; rw [ex_val h]; rfl
@[sl_canon] theorem canon_off1 (w : BitVec 32) (h : w.toNat < 16) (hh hs) :
    (wUM.slice (Rect.unit (s := S16x5120x1536) (k0_off1 w) S1x1280x1536.size hh) hs).squeeze S1280x1536 squeezes_S1x1280x1536_S1280x1536 = srcU (ex w) 0 := srcU_congr (off1_eq w h) _ _
@[sl_canon] theorem semU_0 (hh) :
    (cc0_scratch22.slice (Rect.unit (s := S2x4) ![0, 0] S1x1.size hh)).squeeze S_ squeezes_S1x1_S_ = csmU 0 0 := csmU_congr (by decide) _
@[sl_canon] theorem slotU_0 (hh hs) :
    (bufUM.slice (Rect.unit (s := S2x5120x1536) ![0, 0, 0] S1x1280x1536.size hh) hs).squeeze S1280x1536 squeezes_S1x1280x1536_S1280x1536 = slotU 0 0 := slotU_congr (by decide) _ _
theorem off2_eq (w : BitVec 32) (h : w.toNat < 16) : k0_off2 w = srcOffU (ex w) 1 := by
  unfold srcOffU; rw [ex_val h]; rfl
@[sl_canon] theorem canon_off2 (w : BitVec 32) (h : w.toNat < 16) (hh hs) :
    (wUM.slice (Rect.unit (s := S16x5120x1536) (k0_off2 w) S1x1280x1536.size hh) hs).squeeze S1280x1536 squeezes_S1x1280x1536_S1280x1536 = srcU (ex w) 1 := srcU_congr (off2_eq w h) _ _
@[sl_canon] theorem semU_1 (hh) :
    (cc0_scratch22.slice (Rect.unit (s := S2x4) ![0, 1] S1x1.size hh)).squeeze S_ squeezes_S1x1_S_ = csmU 0 1 := csmU_congr (by decide) _
@[sl_canon] theorem slotU_1 (hh hs) :
    (bufUM.slice (Rect.unit (s := S2x5120x1536) ![0, 1280, 0] S1x1280x1536.size hh) hs).squeeze S1280x1536 squeezes_S1x1280x1536_S1280x1536 = slotU 0 1 := slotU_congr (by decide) _ _
theorem off3_eq (w : BitVec 32) (h : w.toNat < 16) : k0_off3 w = srcOffU (ex w) 2 := by
  unfold srcOffU; rw [ex_val h]; rfl
@[sl_canon] theorem canon_off3 (w : BitVec 32) (h : w.toNat < 16) (hh hs) :
    (wUM.slice (Rect.unit (s := S16x5120x1536) (k0_off3 w) S1x1280x1536.size hh) hs).squeeze S1280x1536 squeezes_S1x1280x1536_S1280x1536 = srcU (ex w) 2 := srcU_congr (off3_eq w h) _ _
@[sl_canon] theorem semU_2 (hh) :
    (cc0_scratch22.slice (Rect.unit (s := S2x4) ![0, 2] S1x1.size hh)).squeeze S_ squeezes_S1x1_S_ = csmU 0 2 := csmU_congr (by decide) _
@[sl_canon] theorem slotU_2 (hh hs) :
    (bufUM.slice (Rect.unit (s := S2x5120x1536) ![0, 2560, 0] S1x1280x1536.size hh) hs).squeeze S1280x1536 squeezes_S1x1280x1536_S1280x1536 = slotU 0 2 := slotU_congr (by decide) _ _
theorem off4_eq (w : BitVec 32) (h : w.toNat < 16) : k0_off4 w = srcOffU (ex w) 3 := by
  unfold srcOffU; rw [ex_val h]; rfl
@[sl_canon] theorem canon_off4 (w : BitVec 32) (h : w.toNat < 16) (hh hs) :
    (wUM.slice (Rect.unit (s := S16x5120x1536) (k0_off4 w) S1x1280x1536.size hh) hs).squeeze S1280x1536 squeezes_S1x1280x1536_S1280x1536 = srcU (ex w) 3 := srcU_congr (off4_eq w h) _ _
@[sl_canon] theorem semU_3 (hh) :
    (cc0_scratch22.slice (Rect.unit (s := S2x4) ![0, 3] S1x1.size hh)).squeeze S_ squeezes_S1x1_S_ = csmU 0 3 := csmU_congr (by decide) _
@[sl_canon] theorem slotU_3 (hh hs) :
    (bufUM.slice (Rect.unit (s := S2x5120x1536) ![0, 3840, 0] S1x1280x1536.size hh) hs).squeeze S1280x1536 squeezes_S1x1280x1536_S1280x1536 = slotU 0 3 := slotU_congr (by decide) _ _
@[sl_canon] theorem canon_off36 (k : Fin (k0_t1_loop v).trips) (t : Fin k0_t3_loop.trips) (hh) :
    (cc0_scratch23.slice (Rect.unit (s := S2x3) (k0_off36 v k t) S1x1.size hh)).squeeze S_ squeezes_S1x1_S_ = csmD (Ring.sl 2 (k.val + 1)) (Ring.bk 3 t.val) := csmD_congr (off36_eq v k t) _
@[sl_canon] theorem canon_off39 (k : Fin (k0_t1_loop v).trips) (t : Fin k0_t3_loop.trips) (hh) :
    (cc0_scratch23.slice (Rect.unit (s := S2x3) (k0_off39 v k t) S1x1.size hh)).squeeze S_ squeezes_S1x1_S_ = csmD (Ring.sl 2 k.val) (Ring.bk 3 t.val) := csmD_congr (off39_eq v k t) _
@[sl_canon] theorem canon_off37 (k : Fin (k0_t1_loop v).trips) (t : Fin k0_t3_loop.trips) (hh hs) :
    (bufDM.slice (Rect.unit (s := S2x1536x5120) (k0_off37 v k t) S1x512x5120.size hh) hs).squeeze S512x5120 squeezes_S1x512x5120_S512x5120 = slotD (Ring.sl 2 (k.val + 1)) (Ring.bk 3 t.val) := slotD_congr (off37_eq v k t) _ _
@[sl_canon] theorem canon_off40 (k : Fin (k0_t1_loop v).trips) (t : Fin k0_t3_loop.trips) (hh hs) :
    (bufDM.slice (Rect.unit (s := S2x1536x5120) (k0_off40 v k t) S1x512x5120.size hh) hs).squeeze S512x5120 squeezes_S1x512x5120_S512x5120 = slotD (Ring.sl 2 k.val) (Ring.bk 3 t.val) := slotD_congr (off40_eq v k t) _ _
@[sl_canon] theorem canon_off38 (w : BitVec 32) (h : w.toNat < 16) (t : Fin k0_t3_loop.trips) (hh hs) :
    (wDM.slice (Rect.unit (s := S16x1536x5120) (k0_off38 w t) S1x512x5120.size hh) hs).squeeze S512x5120 squeezes_S1x512x5120_S512x5120 = srcD (ex w) (Ring.bk 3 t.val) := srcD_congr (off38_eq w h t) _ _
@[sl_canon] theorem canon_off41 (w : BitVec 32) (h : w.toNat < 16) (t : Fin k0_t3_loop.trips) (hh hs) :
    (wDM.slice (Rect.unit (s := S16x1536x5120) (k0_off41 w t) S1x512x5120.size hh) hs).squeeze S512x5120 squeezes_S1x512x5120_S512x5120 = srcD (ex w) (Ring.bk 3 t.val) := srcD_congr (off41_eq w h t) _ _
theorem off5_eq (w : BitVec 32) (h : w.toNat < 16) : k0_off5 w = srcOffD (ex w) 0 := by
  unfold srcOffD; rw [ex_val h]; rfl
@[sl_canon] theorem canon_off5 (w : BitVec 32) (h : w.toNat < 16) (hh hs) :
    (wDM.slice (Rect.unit (s := S16x1536x5120) (k0_off5 w) S1x512x5120.size hh) hs).squeeze S512x5120 squeezes_S1x512x5120_S512x5120 = srcD (ex w) 0 := srcD_congr (off5_eq w h) _ _
@[sl_canon] theorem semD_0 (hh) :
    (cc0_scratch23.slice (Rect.unit (s := S2x3) ![0, 0] S1x1.size hh)).squeeze S_ squeezes_S1x1_S_ = csmD 0 0 := csmD_congr (by decide) _
@[sl_canon] theorem slotD_0 (hh hs) :
    (bufDM.slice (Rect.unit (s := S2x1536x5120) ![0, 0, 0] S1x512x5120.size hh) hs).squeeze S512x5120 squeezes_S1x512x5120_S512x5120 = slotD 0 0 := slotD_congr (by decide) _ _
theorem off6_eq (w : BitVec 32) (h : w.toNat < 16) : k0_off6 w = srcOffD (ex w) 1 := by
  unfold srcOffD; rw [ex_val h]; rfl
@[sl_canon] theorem canon_off6 (w : BitVec 32) (h : w.toNat < 16) (hh hs) :
    (wDM.slice (Rect.unit (s := S16x1536x5120) (k0_off6 w) S1x512x5120.size hh) hs).squeeze S512x5120 squeezes_S1x512x5120_S512x5120 = srcD (ex w) 1 := srcD_congr (off6_eq w h) _ _
@[sl_canon] theorem semD_1 (hh) :
    (cc0_scratch23.slice (Rect.unit (s := S2x3) ![0, 1] S1x1.size hh)).squeeze S_ squeezes_S1x1_S_ = csmD 0 1 := csmD_congr (by decide) _
@[sl_canon] theorem slotD_1 (hh hs) :
    (bufDM.slice (Rect.unit (s := S2x1536x5120) ![0, 512, 0] S1x512x5120.size hh) hs).squeeze S512x5120 squeezes_S1x512x5120_S512x5120 = slotD 0 1 := slotD_congr (by decide) _ _
theorem off7_eq (w : BitVec 32) (h : w.toNat < 16) : k0_off7 w = srcOffD (ex w) 2 := by
  unfold srcOffD; rw [ex_val h]; rfl
@[sl_canon] theorem canon_off7 (w : BitVec 32) (h : w.toNat < 16) (hh hs) :
    (wDM.slice (Rect.unit (s := S16x1536x5120) (k0_off7 w) S1x512x5120.size hh) hs).squeeze S512x5120 squeezes_S1x512x5120_S512x5120 = srcD (ex w) 2 := srcD_congr (off7_eq w h) _ _
@[sl_canon] theorem semD_2 (hh) :
    (cc0_scratch23.slice (Rect.unit (s := S2x3) ![0, 2] S1x1.size hh)).squeeze S_ squeezes_S1x1_S_ = csmD 0 2 := csmD_congr (by decide) _
@[sl_canon] theorem slotD_2 (hh hs) :
    (bufDM.slice (Rect.unit (s := S2x1536x5120) ![0, 1024, 0] S1x512x5120.size hh) hs).squeeze S512x5120 squeezes_S1x512x5120_S512x5120 = slotD 0 2 := slotD_congr (by decide) _ _

end Canon

/-! ## The side conditions the program checks -/

/-- A statement about words holds below `n` when it holds at each of the `n` literals. -/
theorem of_lits {P : BitVec 32 → Prop} (n : Nat) (h : ∀ i : Fin n, P (BitVec.ofNat 32 i.val)) (w : BitVec 32) (hw : w.toNat < n) : P w := by
  have := h ⟨w.toNat, hw⟩; rwa [show BitVec.ofNat 32 w.toNat = w by simp] at this

set_option maxRecDepth 100000 in
theorem chk1_lits : ∀ i : Fin 16, k0_chk1 (BitVec.ofNat 32 i.val) := by decide +kernel
set_option maxRecDepth 100000 in
theorem chk3_lits : ∀ i : Fin 16, k0_chk3 (BitVec.ofNat 32 i.val) := by decide +kernel
set_option maxRecDepth 100000 in
theorem chk4_lits : ∀ i : Fin 16,
  (∀ k0_t2 : Fin k0_t2_loop.trips, ∀ a, (k0_off13 (BitVec.ofNat 32 i.val) k0_t2) a + S1x1280x1536.size a ≤ S16x5120x1536.size a) ∧
  (∀ k0_t2 : Fin k0_t2_loop.trips, ∀ (hinb : ∀ a, (k0_off13 (BitVec.ofNat 32 i.val) k0_t2) a + S1x1280x1536.size a ≤ S16x5120x1536.size a), (Rect.unit (s := S16x5120x1536) (k0_off13 (BitVec.ofNat 32 i.val) k0_t2) S1x1280x1536.size hinb).WholeWords (EltTy.packing .fp8e4m3)) ∧
  (∀ k0_t3 : Fin k0_t3_loop.trips, ∀ a, (k0_off38 (BitVec.ofNat 32 i.val) k0_t3) a + S1x512x5120.size a ≤ S16x1536x5120.size a) ∧
  (∀ k0_t3 : Fin k0_t3_loop.trips, ∀ (hinb : ∀ a, (k0_off38 (BitVec.ofNat 32 i.val) k0_t3) a + S1x512x5120.size a ≤ S16x1536x5120.size a), (Rect.unit (s := S16x1536x5120) (k0_off38 (BitVec.ofNat 32 i.val) k0_t3) S1x512x5120.size hinb).WholeWords (EltTy.packing .fp8e4m3)) := by
  decide +kernel

theorem chk1_of (w : BitVec 32) (h : w.toNat < 16) : k0_chk1 w := of_lits 16 chk1_lits w h
theorem chk3_of (w : BitVec 32) (h : w.toNat < 16) : k0_chk3 w := of_lits 16 chk3_lits w h
theorem chk4_of (v : BitVec 32) (k : Fin (k0_t1_loop v).trips) (w : BitVec 32) (h : w.toNat < 16) : k0_chk4 v k w := by
  obtain ⟨h1, h2, h3, h4⟩ := of_lits (P := fun w =>
    (∀ k0_t2 : Fin k0_t2_loop.trips, ∀ a, (k0_off13 w k0_t2) a + S1x1280x1536.size a ≤ S16x5120x1536.size a) ∧
    (∀ k0_t2 : Fin k0_t2_loop.trips, ∀ (hinb : ∀ a, (k0_off13 w k0_t2) a + S1x1280x1536.size a ≤ S16x5120x1536.size a), (Rect.unit (s := S16x5120x1536) (k0_off13 w k0_t2) S1x1280x1536.size hinb).WholeWords (EltTy.packing .fp8e4m3)) ∧
    (∀ k0_t3 : Fin k0_t3_loop.trips, ∀ a, (k0_off38 w k0_t3) a + S1x512x5120.size a ≤ S16x1536x5120.size a) ∧
    (∀ k0_t3 : Fin k0_t3_loop.trips, ∀ (hinb : ∀ a, (k0_off38 w k0_t3) a + S1x512x5120.size a ≤ S16x1536x5120.size a), (Rect.unit (s := S16x1536x5120) (k0_off38 w k0_t3) S1x512x5120.size hinb).WholeWords (EltTy.packing .fp8e4m3)))
    16 chk4_lits w h
  exact ⟨fun t _ => h1 t, fun t _ => h2 t, fun t _ => h3 t, fun t _ => h4 t⟩

end Cert.Proof.I
-- ==== Proof.I.Pieces.lean ====
/-
  The pieces of the two weight streams as resources: a chunk idle, a chunk in flight with an expert's weights, and
  the family of the chunks before trip `t` of a loop over them.
-/
module

public import proofs.«01_k».proof.Proof.I.Names

@[expose] public section

noncomputable section

namespace Cert.Proof.I

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's, beside the counters the kernel's own transfers ride on -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-- A buffer of a core, held whole at contents `f`. -/
abbrev own (c : Dev nD) (b : Ref sig .tc) (f : Buf (Elt F) ((c : Thread nD τ).loc b)) : sProp 𝕄 :=
  (Memref.whole b).view.loc (c : Thread nD τ) ↦[(Memref.whole b).view.set]{fullShare} f

/-- A checked expert number is below 16. -/
theorem lt_of_chk3 {w : BitVec 32} (h : k0_chk3 w) : w.toNat < 16 := by
  have : w.toNat + 1 ≤ 16 := k0_off10_inb w h 1
  omega
theorem lt_of_chk4 {v : BitVec 32} {k : Fin (k0_t1_loop v).trips} {w : BitVec 32} (h : k0_chk4 v k w) (hc : k0_cond1 v k = 1#1) : w.toNat < 16 := by
  have : w.toNat + 1 ≤ 16 := k0_off13_inb v k w h ⟨0, by decide⟩ hc 0
  omega

section PiecesU
variable (c : Dev nD) (W : Buf (Elt F) (wUM.view.loc (c : Thread nD τ)))

/-- The read token of the weights that chunk `k` of slot `s` transfers with. -/
abbrev tokU (s : Fin 2) (k : Fin 4) : PosShare TreeShare := Transfers.shareTokN fullShare (4 * s.val + k.val)
abbrev cellU (s : Fin 2) (k : Fin 4) : sProp 𝕄 := semVal ((c : Thread nD τ), SemLoc.dma (csmU s k).sem) 0
abbrev slotPU (s : Fin 2) (k : Fin 4) (f : Buf (Elt F) ((slotU s k).view.loc (c : Thread nD τ))) : sProp 𝕄 :=
  (slotU s k).view.loc (c : Thread nD τ) ↦[(slotU s k).view.set]{fullShare} f
/-- Chunk `k` of expert `e` at the token of slot `s`, and the rest of the weights at that token. -/
abbrev winU (s : Fin 2) (k : Fin 4) (e : Fin 16) : sProp 𝕄 :=
  (srcU e k).view.loc (c : Thread nD τ) ↦[(srcU e k).view.set]{tokU s k} W
def restU (s : Fin 2) (k : Fin 4) (e : Fin 16) : sProp 𝕄 :=
  (wUM.view.loc (c : Thread nD τ) ↦[Finset.univ \ (srcU e k).view.set]{tokU s k} W)
def tokPU (s : Fin 2) (k : Fin 4) : sProp 𝕄 := (wUM.view.loc (c : Thread nD τ) ↦[Finset.univ]{tokU s k} W)
theorem tokU_eq (s : Fin 2) (k : Fin 4) (e : Fin 16) : (tokPU c W s k : sProp 𝕄) ⊣⊢ iprop(winU c W s k e ∗ restU c W s k e) :=
  pointsTo_split_subset (ℓ := wUM.view.loc (c : Thread nD τ)) (Finset.subset_univ _)
/-- What the transfer of expert `e`'s chunk leaves in the slot over prior contents `f`: the chunk, written whole. -/
abbrev landedU (s : Fin 2) (k : Fin 4) (e : Fin 16) (f : Buf (Elt F) ((slotU s k).view.loc (c : Thread nD τ))) :
    Buf (Elt F) ((slotU s k).view.loc (c : Thread nD τ)) :=
  (slotU s k).view.writes (Elt F) f [⟨Rect.whole S1280x1536, ReadAs.same.apply ((srcU e k).view.read (Elt F) W)⟩]
abbrev flightPU (s : Fin 2) (k : Fin 4) (e : Fin 16) (f : Buf (Elt F) ((slotU s k).view.loc (c : Thread nD τ))) : sProp 𝕄 :=
  Transfers.Flight countersEmb (c : Thread nD τ) (SemLoc.dma (csmU s k).sem) () 61440 iprop(slotPU c s k (landedU c W s k e f) ∗ winU c W s k e)
/-- Chunk `k` of slot `s` idle: its window of the buffer at anything, its semaphore at zero, its token. -/
def freeU (s : Fin 2) (k : Fin 4) : sProp 𝕄 := iprop((∃ f, slotPU c s k f) ∗ cellU c s k ∗ tokPU c W s k)
/-- Chunk `k` of slot `s` in flight with expert `e`'s weights. -/
def busyU (s : Fin 2) (k : Fin 4) (e : Fin 16) : sProp 𝕄 := iprop((∃ f, flightPU c W s k e f) ∗ restU c W s k e)
/-- In flight when `p`, idle otherwise. -/
def busyIfU (p : Prop) [Decidable p] (s : Fin 2) (k : Fin 4) (e : Fin 16) : sProp 𝕄 := if p then busyU c W s k e else freeU c W s k

variable (v18 : BitVec 32) (k0_t1 : Fin (k0_t1_loop v18).trips) (v172 v177 : BitVec 32)
/-- Chunk `k` before its trip: the current expert's in flight, the other slot idle; -/
def todoU (k : Fin 4) : sProp 𝕄 := iprop(busyU c W (Ring.sl 2 k0_t1.val) k (ex v172) ∗ freeU c W (Ring.sl 2 (k0_t1.val + 1)) k)
/-- after it: the current slot idle, the next expert's chunk in flight if there is a next expert. -/
def doneU (k : Fin 4) : sProp 𝕄 :=
  iprop(freeU c W (Ring.sl 2 k0_t1.val) k ∗ busyIfU c W (k0_cond1 v18 k0_t1 = 1#1) (Ring.sl 2 (k0_t1.val + 1)) k (ex v177))
def chunkU (t : ℕ) (k : Fin 4) : sProp 𝕄 := if k.val < t then doneU c W v18 k0_t1 v177 k else todoU c W v18 k0_t1 v172 k

theorem chunksU_here (t : ℕ) (ht : t < 4) : bigSep Finset.univ (chunkU c W v18 k0_t1 v172 v177 t)
    = iprop(todoU c W v18 k0_t1 v172 (Ring.bk 4 t) ∗ bigSep (Finset.univ.erase (Ring.bk 4 t)) (chunkU c W v18 k0_t1 v172 v177 t)) := by
  conv_lhs => rw [← Finset.insert_erase (Finset.mem_univ (Ring.bk 4 t)), bigSep_insert (Finset.notMem_erase _ _)]
  rw [show chunkU c W v18 k0_t1 v172 v177 t (Ring.bk 4 t) = todoU c W v18 k0_t1 v172 (Ring.bk 4 t) from
    if_neg (by rw [Ring.bk_val ht]; omega)]
  rfl
theorem chunksU_next (t : ℕ) (ht : t < 4) : bigSep Finset.univ (chunkU c W v18 k0_t1 v172 v177 (t + 1))
    = iprop(doneU c W v18 k0_t1 v177 (Ring.bk 4 t) ∗ bigSep (Finset.univ.erase (Ring.bk 4 t)) (chunkU c W v18 k0_t1 v172 v177 t)) := by
  conv_lhs => rw [← Finset.insert_erase (Finset.mem_univ (Ring.bk 4 t)), bigSep_insert (Finset.notMem_erase _ _)]
  rw [show chunkU c W v18 k0_t1 v172 v177 (t + 1) (Ring.bk 4 t) = doneU c W v18 k0_t1 v177 (Ring.bk 4 t) from
    if_pos (by rw [Ring.bk_val ht]; omega)]
  refine congrArg (fun P : sProp 𝕄 => iprop(_ ∗ P)) (bigSep_congr fun b hb => ?_)
  have hne : b.val ≠ t := fun e => Finset.ne_of_mem_erase hb (Fin.ext (by rw [Ring.bk_val ht]; exact e))
  unfold chunkU
  by_cases h : b.val < t
  · rw [if_pos h, if_pos (by omega)]
  · rw [if_neg h, if_neg (by omega)]
theorem chunksU_start : bigSep Finset.univ (chunkU c W v18 k0_t1 v172 v177 0) = bigSep Finset.univ (todoU c W v18 k0_t1 v172) :=
  bigSep_congr fun b _ => if_neg (Nat.not_lt_zero _)
theorem chunksU_end : bigSep Finset.univ (chunkU c W v18 k0_t1 v172 v177 4) = bigSep Finset.univ (doneU c W v18 k0_t1 v177) :=
  bigSep_congr fun b _ => if_pos b.isLt
end PiecesU

section PiecesD
variable (c : Dev nD) (W : Buf (Elt F) (wDM.view.loc (c : Thread nD τ)))

/-- The read token of the weights that chunk `k` of slot `s` transfers with. -/
abbrev tokD (s : Fin 2) (k : Fin 3) : PosShare TreeShare := Transfers.shareTokN fullShare (3 * s.val + k.val)
abbrev cellD (s : Fin 2) (k : Fin 3) : sProp 𝕄 := semVal ((c : Thread nD τ), SemLoc.dma (csmD s k).sem) 0
abbrev slotPD (s : Fin 2) (k : Fin 3) (f : Buf (Elt F) ((slotD s k).view.loc (c : Thread nD τ))) : sProp 𝕄 :=
  (slotD s k).view.loc (c : Thread nD τ) ↦[(slotD s k).view.set]{fullShare} f
/-- Chunk `k` of expert `e` at the token of slot `s`, and the rest of the weights at that token. -/
abbrev winD (s : Fin 2) (k : Fin 3) (e : Fin 16) : sProp 𝕄 :=
  (srcD e k).view.loc (c : Thread nD τ) ↦[(srcD e k).view.set]{tokD s k} W
def restD (s : Fin 2) (k : Fin 3) (e : Fin 16) : sProp 𝕄 :=
  (wDM.view.loc (c : Thread nD τ) ↦[Finset.univ \ (srcD e k).view.set]{tokD s k} W)
def tokPD (s : Fin 2) (k : Fin 3) : sProp 𝕄 := (wDM.view.loc (c : Thread nD τ) ↦[Finset.univ]{tokD s k} W)
theorem tokD_eq (s : Fin 2) (k : Fin 3) (e : Fin 16) : (tokPD c W s k : sProp 𝕄) ⊣⊢ iprop(winD c W s k e ∗ restD c W s k e) :=
  pointsTo_split_subset (ℓ := wDM.view.loc (c : Thread nD τ)) (Finset.subset_univ _)
/-- What the transfer of expert `e`'s chunk leaves in the slot over prior contents `f`: the chunk, written whole. -/
abbrev landedD (s : Fin 2) (k : Fin 3) (e : Fin 16) (f : Buf (Elt F) ((slotD s k).view.loc (c : Thread nD τ))) :
    Buf (Elt F) ((slotD s k).view.loc (c : Thread nD τ)) :=
  (slotD s k).view.writes (Elt F) f [⟨Rect.whole S512x5120, ReadAs.same.apply ((srcD e k).view.read (Elt F) W)⟩]
abbrev flightPD (s : Fin 2) (k : Fin 3) (e : Fin 16) (f : Buf (Elt F) ((slotD s k).view.loc (c : Thread nD τ))) : sProp 𝕄 :=
  Transfers.Flight countersEmb (c : Thread nD τ) (SemLoc.dma (csmD s k).sem) () 81920 iprop(slotPD c s k (landedD c W s k e f) ∗ winD c W s k e)
/-- Chunk `k` of slot `s` idle: its window of the buffer at anything, its semaphore at zero, its token. -/
def freeD (s : Fin 2) (k : Fin 3) : sProp 𝕄 := iprop((∃ f, slotPD c s k f) ∗ cellD c s k ∗ tokPD c W s k)
/-- Chunk `k` of slot `s` in flight with expert `e`'s weights. -/
def busyD (s : Fin 2) (k : Fin 3) (e : Fin 16) : sProp 𝕄 := iprop((∃ f, flightPD c W s k e f) ∗ restD c W s k e)
/-- In flight when `p`, idle otherwise. -/
def busyIfD (p : Prop) [Decidable p] (s : Fin 2) (k : Fin 3) (e : Fin 16) : sProp 𝕄 := if p then busyD c W s k e else freeD c W s k

variable (v18 : BitVec 32) (k0_t1 : Fin (k0_t1_loop v18).trips) (v172 v177 : BitVec 32)
/-- Chunk `k` before its trip: the current expert's in flight, the other slot idle; -/
def todoD (k : Fin 3) : sProp 𝕄 := iprop(busyD c W (Ring.sl 2 k0_t1.val) k (ex v172) ∗ freeD c W (Ring.sl 2 (k0_t1.val + 1)) k)
/-- after it: the current slot idle, the next expert's chunk in flight if there is a next expert. -/
def doneD (k : Fin 3) : sProp 𝕄 :=
  iprop(freeD c W (Ring.sl 2 k0_t1.val) k ∗ busyIfD c W (k0_cond1 v18 k0_t1 = 1#1) (Ring.sl 2 (k0_t1.val + 1)) k (ex v177))
def chunkD (t : ℕ) (k : Fin 3) : sProp 𝕄 := if k.val < t then doneD c W v18 k0_t1 v177 k else todoD c W v18 k0_t1 v172 k

theorem chunksD_here (t : ℕ) (ht : t < 3) : bigSep Finset.univ (chunkD c W v18 k0_t1 v172 v177 t)
    = iprop(todoD c W v18 k0_t1 v172 (Ring.bk 3 t) ∗ bigSep (Finset.univ.erase (Ring.bk 3 t)) (chunkD c W v18 k0_t1 v172 v177 t)) := by
  conv_lhs => rw [← Finset.insert_erase (Finset.mem_univ (Ring.bk 3 t)), bigSep_insert (Finset.notMem_erase _ _)]
  rw [show chunkD c W v18 k0_t1 v172 v177 t (Ring.bk 3 t) = todoD c W v18 k0_t1 v172 (Ring.bk 3 t) from
    if_neg (by rw [Ring.bk_val ht]; omega)]
  rfl
theorem chunksD_next (t : ℕ) (ht : t < 3) : bigSep Finset.univ (chunkD c W v18 k0_t1 v172 v177 (t + 1))
    = iprop(doneD c W v18 k0_t1 v177 (Ring.bk 3 t) ∗ bigSep (Finset.univ.erase (Ring.bk 3 t)) (chunkD c W v18 k0_t1 v172 v177 t)) := by
  conv_lhs => rw [← Finset.insert_erase (Finset.mem_univ (Ring.bk 3 t)), bigSep_insert (Finset.notMem_erase _ _)]
  rw [show chunkD c W v18 k0_t1 v172 v177 (t + 1) (Ring.bk 3 t) = doneD c W v18 k0_t1 v177 (Ring.bk 3 t) from
    if_pos (by rw [Ring.bk_val ht]; omega)]
  refine congrArg (fun P : sProp 𝕄 => iprop(_ ∗ P)) (bigSep_congr fun b hb => ?_)
  have hne : b.val ≠ t := fun e => Finset.ne_of_mem_erase hb (Fin.ext (by rw [Ring.bk_val ht]; exact e))
  unfold chunkD
  by_cases h : b.val < t
  · rw [if_pos h, if_pos (by omega)]
  · rw [if_neg h, if_neg (by omega)]
theorem chunksD_start : bigSep Finset.univ (chunkD c W v18 k0_t1 v172 v177 0) = bigSep Finset.univ (todoD c W v18 k0_t1 v172) :=
  bigSep_congr fun b _ => if_neg (Nat.not_lt_zero _)
theorem chunksD_end : bigSep Finset.univ (chunkD c W v18 k0_t1 v172 v177 3) = bigSep Finset.univ (doneD c W v18 k0_t1 v177) :=
  bigSep_congr fun b _ => if_pos b.isLt
end PiecesD

end Cert.Proof.I
-- ==== Proof.I.TripU.lean ====
module

public import proofs.«01_k».proof.Proof.I.Pieces

@[expose] public section

noncomputable section

namespace Cert.Proof.I

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section TripU
variable (c : Dev nD) (WU : Buf (Elt F) (wUM.view.loc (c : Thread nD τ)))
  (XQ : Buf (Elt F) ((c : Thread nD τ).loc cc0_scratch9)) (SX : Buf (Elt F) ((c : Thread nD τ).loc cc0_scratch10))
  (v18 : BitVec 32) (k0_hw2 : k0_chk2 v18) (v150 : IVec S8x8 32) (v152 : FVec F S8x8 .f32) (k0_t1 : Fin (k0_t1_loop v18).trips)
  (v172 : BitVec 32) (k0_hw3 : k0_chk3 v172) (v173 : BitVec 32) (v177 : BitVec 32) (k0_hw4 : k0_chk4 v18 k0_t1 v177) (v179 : BitVec 1)
  (v430 : FVec F S40x12 .f32) (v487 : FVec F S40x128 .f32)

/-- The resources before trip `k` of the loop over the up chunks, the accumulator at `fo`. -/
def resU (k : ℕ) (fo : Buf (Elt F) ((c : Thread nD τ).loc cc0_scratch15)) : sProp 𝕄 :=
  iprop(own c cc0_scratch15 fo ∗ own c cc0_scratch9 XQ ∗ own c cc0_scratch10 SX ∗ (∃ W, owes (c : Thread nD τ) 0 W)
    ∗ bigSep Finset.univ (chunkU c WU v18 k0_t1 v172 v177 k))

abbrev tripGU (k : Fin k0_t2_loop.trips) : Prog (TpuEff nD τ sig (Elt F) Λ₀ .tc) Unit :=
  k0_t2_body (F := F) (Memref.whole main_arg0) (Memref.isWhole_whole _) (Memref.whole main_arg1) (Memref.isWhole_whole _) (Memref.whole main_arg3) (Memref.isWhole_whole _) (Memref.whole main_arg4) (Memref.isWhole_whole _) (Memref.whole main_v0) (Memref.isWhole_whole _) (Memref.whole main_arg5) (Memref.isWhole_whole _) (Memref.whole main_v1) (Memref.isWhole_whole _) (Memref.whole main_arg7) (Memref.isWhole_whole _) (Memref.whole main_v2) (Memref.isWhole_whole _) (Memref.whole main_v3_0) (Memref.isWhole_whole _) (Memref.whole main_v3_1) (Memref.isWhole_whole _) (Memref.whole main_v3_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) cc0_scratch20 cc0_scratch21 cc0_scratch22 cc0_scratch23 cc0_scratch24 v18 k0_hw2 v150 v152 k0_t1 v172 k0_hw3 v173 v177 k0_hw4 v179 v430 v487 k ()

set_option backward.proofsInPublic true in
/-- ONE TRIP at a symbolic `k`: the next expert's chunk issued (if there is a next expert), the current expert's
    waited and read, the accumulator's twelve blocks stored. What they then hold is found by the run. -/
def tripRunU (k : Fin k0_t2_loop.trips) (fo : Buf (Elt F) ((c : Thread nD τ).loc cc0_scratch15)) :
    { f' : Buf (Elt F) ((c : Thread nD τ).loc cc0_scratch15) //
      resU c WU XQ SX v18 k0_t1 v172 v177 k fo ⊢ wp frame (wpE (defs₀ (F := F)) 𝒱₀ (c : Thread nD τ) none) Set.univ
        (tripGU v18 k0_hw2 v150 v152 k0_t1 v172 k0_hw3 v173 v177 k0_hw4 v179 v430 v487 k)
        (fun _ => resU c WU XQ SX v18 k0_t1 v172 v177 (k.val + 1) f') } := by
  refine ⟨?_, ?run⟩
  case run =>
    have hk : k.val < 4 := ckU_lt k
    have h172 := lt_of_chk3 k0_hw3
    unfold resU
    rw [chunksU_here c WU v18 k0_t1 v172 v177 k.val hk, chunksU_next c WU v18 k0_t1 v172 v177 k.val hk]
    unfold todoU doneU busyIfU
    by_cases hm : k0_cond1 v18 k0_t1 = 1#1
    · have h177 := lt_of_chk4 k0_hw4 hm
      rw [if_pos hm]
      unfold busyU freeU
      iintro ⟨HO, HX, HSX, ⟨%W, HW⟩, ⟨⟨⟨%f0, HF⟩, HR⟩, ⟨%f1, HS⟩, HC, HT⟩, Hrest⟩
      ihave HT2 := (tokU_eq c WU (Ring.sl 2 (k0_t1.val + 1)) (Ring.bk 4 k.val) (ex v177)).1 $$ HT
      icases HT2 with ⟨HTW, HTR⟩
      dsimp only [tripGU]
      sl_unfold [k0_t2_body]
      sl_exec
      sl_step
      isplitl [HO]; · iexact HO
      isplitl [HX]; · iexact HX
      isplitl [HSX]; · iexact HSX
      isplitl [HW]; · iexists _; iexact HW
      isplitr [Hrest]
      · isplitl [HF_dst HF HF_src HR]
        · isplitl [HF_dst]; · iexists _; iexact HF_dst
          isplitl [HF]; · iexact HF
          iapply (tokU_eq c WU (Ring.sl 2 k0_t1.val) (Ring.bk 4 k.val) (ex v172)).2
          isplitl [HF_src]; · iexact HF_src
          iexact HR
        · isplitl [HC]; · iexists f1; iexact HC
          iexact HTR
      · iexact Hrest
    · rw [if_neg hm]
      unfold busyU
      iintro ⟨HO, HX, HSX, ⟨%W, HW⟩, ⟨⟨⟨%f0, HF⟩, HR⟩, HN⟩, Hrest⟩
      dsimp only [tripGU]
      sl_unfold [k0_t2_body]
      sl_exec
      sl_step
      isplitl [HO]; · iexact HO
      isplitl [HX]; · iexact HX
      isplitl [HSX]; · iexact HSX
      isplitl [HW]; · iexists _; iexact HW
      isplitr [Hrest]
      · isplitr [HN]
        · unfold freeU
          isplitl [HF_dst]; · iexists _; iexact HF_dst
          isplitl [HF]; · iexact HF
          iapply (tokU_eq c WU (Ring.sl 2 k0_t1.val) (Ring.bk 4 k.val) (ex v172)).2
          isplitl [HF_src]; · iexact HF_src
          iexact HR
        · iexact HN
      · iexact Hrest

/-- The accumulator before trip `k` from `o0` at the loop's entry. -/
def accU (o0 : Buf (Elt F) ((c : Thread nD τ).loc cc0_scratch15)) : ℕ → Buf (Elt F) ((c : Thread nD τ).loc cc0_scratch15)
  | 0 => o0
  | k + 1 =>
    if h : k < k0_t2_loop.trips then
      (tripRunU c WU XQ SX v18 k0_hw2 v150 v152 k0_t1 v172 k0_hw3 v173 v177 k0_hw4 v179 v430 v487 ⟨k, h⟩ (accU o0 k)).1
    else accU o0 k

set_option warn.classDefReducibility false in
/-- THE LOOP OVER THE UP CHUNKS, its invariant: `resU` at the accumulator so far. -/
@[sl_loop] def loopInvU (o0 : Buf (Elt F) ((c : Thread nD τ).loc cc0_scratch15)) :
    LoopInvTy_k0_t2 (F := F) Unit ℕ (UU nD τ) ℕ 𝒱₀ c none Set.univ (Memref.whole main_arg0) (Memref.isWhole_whole _) (Memref.whole main_arg1) (Memref.isWhole_whole _) (Memref.whole main_arg3) (Memref.isWhole_whole _) (Memref.whole main_arg4) (Memref.isWhole_whole _) (Memref.whole main_v0) (Memref.isWhole_whole _) (Memref.whole main_arg5) (Memref.isWhole_whole _) (Memref.whole main_v1) (Memref.isWhole_whole _) (Memref.whole main_arg7) (Memref.isWhole_whole _) (Memref.whole main_v2) (Memref.isWhole_whole _) (Memref.whole main_v3_0) (Memref.isWhole_whole _) (Memref.whole main_v3_1) (Memref.isWhole_whole _) (Memref.whole main_v3_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) cc0_scratch20 cc0_scratch21 cc0_scratch22 cc0_scratch23 cc0_scratch24 v18 k0_hw2 v150 v152 k0_t1 v172 k0_hw3 v173 v177 k0_hw4 v179 v430 v487 where
  inv k _ := resU c WU XQ SX v18 k0_t1 v172 v177 k (accU c WU XQ SX v18 k0_hw2 v150 v152 k0_t1 v172 k0_hw3 v173 v177 k0_hw4 v179 v430 v487 o0 k)
  step k _ := by
    have e : accU c WU XQ SX v18 k0_hw2 v150 v152 k0_t1 v172 k0_hw3 v173 v177 k0_hw4 v179 v430 v487 o0 (k.val + 1)
        = (tripRunU c WU XQ SX v18 k0_hw2 v150 v152 k0_t1 v172 k0_hw3 v173 v177 k0_hw4 v179 v430 v487 k
            (accU c WU XQ SX v18 k0_hw2 v150 v152 k0_t1 v172 k0_hw3 v173 v177 k0_hw4 v179 v430 v487 o0 k)).1 := by
      rw [accU, dif_pos k.isLt]
    rw [e]
    exact (tripRunU c WU XQ SX v18 k0_hw2 v150 v152 k0_t1 v172 k0_hw3 v173 v177 k0_hw4 v179 v430 v487 k _).2
end TripU

end Cert.Proof.I
-- ==== Proof.I.TripD.lean ====
module

public import proofs.«01_k».proof.Proof.I.Pieces

@[expose] public section

noncomputable section

namespace Cert.Proof.I

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section TripD
variable (c : Dev nD) (WD : Buf (Elt F) (wDM.view.loc (c : Thread nD τ)))
  (HQ : Buf (Elt F) ((c : Thread nD τ).loc cc0_scratch13)) (WT : Buf (Elt F) ((c : Thread nD τ).loc cc0_scratch14)) (SX : Buf (Elt F) ((c : Thread nD τ).loc cc0_scratch11))
  (v18 : BitVec 32) (k0_hw2 : k0_chk2 v18) (v119 : FVec F S8x1 .f32) (v125 : FVec F S8x5120 .f32) (v126 : Vec F S8x5120 .f32) (k0_t1 : Fin (k0_t1_loop v18).trips)
  (v172 : BitVec 32) (k0_hw3 : k0_chk3 v172) (v173 : BitVec 32) (v177 : BitVec 32) (k0_hw4 : k0_chk4 v18 k0_t1 v177) (v179 : BitVec 1)

/-- The resources before trip `k` of the loop over the down chunks, the accumulator at `fo`. -/
def resD (k : ℕ) (fo : Buf (Elt F) ((c : Thread nD τ).loc cc0_scratch16)) : sProp 𝕄 :=
  iprop(own c cc0_scratch16 fo ∗ own c cc0_scratch13 HQ ∗ own c cc0_scratch14 WT ∗ own c cc0_scratch11 SX ∗ (∃ W, owes (c : Thread nD τ) 0 W)
    ∗ bigSep Finset.univ (chunkD c WD v18 k0_t1 v172 v177 k))

abbrev tripGD (k : Fin k0_t3_loop.trips) : Prog (TpuEff nD τ sig (Elt F) Λ₀ .tc) Unit :=
  k0_t3_body (F := F) (Memref.whole main_arg0) (Memref.isWhole_whole _) (Memref.whole main_arg1) (Memref.isWhole_whole _) (Memref.whole main_arg3) (Memref.isWhole_whole _) (Memref.whole main_arg4) (Memref.isWhole_whole _) (Memref.whole main_v0) (Memref.isWhole_whole _) (Memref.whole main_arg5) (Memref.isWhole_whole _) (Memref.whole main_v1) (Memref.isWhole_whole _) (Memref.whole main_arg7) (Memref.isWhole_whole _) (Memref.whole main_v2) (Memref.isWhole_whole _) (Memref.whole main_v3_0) (Memref.isWhole_whole _) (Memref.whole main_v3_1) (Memref.isWhole_whole _) (Memref.whole main_v3_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) cc0_scratch20 cc0_scratch21 cc0_scratch22 cc0_scratch23 cc0_scratch24 v18 k0_hw2 v119 v125 v126 k0_t1 v172 k0_hw3 v173 v177 k0_hw4 v179 k ()

set_option backward.proofsInPublic true in
/-- ONE TRIP at a symbolic `k`: the next expert's chunk issued (if there is a next expert), the current expert's
    waited and read, the accumulator's forty blocks stored. What they then hold is found by the run. -/
def tripRunD (k : Fin k0_t3_loop.trips) (fo : Buf (Elt F) ((c : Thread nD τ).loc cc0_scratch16)) :
    { f' : Buf (Elt F) ((c : Thread nD τ).loc cc0_scratch16) //
      resD c WD HQ WT SX v18 k0_t1 v172 v177 k fo ⊢ wp frame (wpE (defs₀ (F := F)) 𝒱₀ (c : Thread nD τ) none) Set.univ
        (tripGD v18 k0_hw2 v119 v125 v126 k0_t1 v172 k0_hw3 v173 v177 k0_hw4 v179 k)
        (fun _ => resD c WD HQ WT SX v18 k0_t1 v172 v177 (k.val + 1) f') } := by
  refine ⟨?_, ?run⟩
  case run =>
    have hk : k.val < 3 := ckD_lt k
    have h172 := lt_of_chk3 k0_hw3
    unfold resD
    rw [chunksD_here c WD v18 k0_t1 v172 v177 k.val hk, chunksD_next c WD v18 k0_t1 v172 v177 k.val hk]
    unfold todoD doneD busyIfD
    by_cases hm : k0_cond1 v18 k0_t1 = 1#1
    · have h177 := lt_of_chk4 k0_hw4 hm
      rw [if_pos hm]
      unfold busyD freeD
      iintro ⟨HO, HX, HWT, HSX, ⟨%W, HW⟩, ⟨⟨⟨%f0, HF⟩, HR⟩, ⟨%f1, HS⟩, HC, HT⟩, Hrest⟩
      ihave HT2 := (tokD_eq c WD (Ring.sl 2 (k0_t1.val + 1)) (Ring.bk 3 k.val) (ex v177)).1 $$ HT
      icases HT2 with ⟨HTW, HTR⟩
      dsimp only [tripGD]
      sl_unfold [k0_t3_body]
      sl_exec
      sl_step
      isplitl [HO]; · iexact HO
      isplitl [HX]; · iexact HX
      isplitl [HWT]; · iexact HWT
      isplitl [HSX]; · iexact HSX
      isplitl [HW]; · iexists _; iexact HW
      isplitr [Hrest]
      · isplitl [HF_dst HF HF_src HR]
        · isplitl [HF_dst]; · iexists _; iexact HF_dst
          isplitl [HF]; · iexact HF
          iapply (tokD_eq c WD (Ring.sl 2 k0_t1.val) (Ring.bk 3 k.val) (ex v172)).2
          isplitl [HF_src]; · iexact HF_src
          iexact HR
        · isplitl [HC]; · iexists f1; iexact HC
          iexact HTR
      · iexact Hrest
    · rw [if_neg hm]
      unfold busyD
      iintro ⟨HO, HX, HWT, HSX, ⟨%W, HW⟩, ⟨⟨⟨%f0, HF⟩, HR⟩, HN⟩, Hrest⟩
      dsimp only [tripGD]
      sl_unfold [k0_t3_body]
      sl_exec
      sl_step
      isplitl [HO]; · iexact HO
      isplitl [HX]; · iexact HX
      isplitl [HWT]; · iexact HWT
      isplitl [HSX]; · iexact HSX
      isplitl [HW]; · iexists _; iexact HW
      isplitr [Hrest]
      · isplitr [HN]
        · unfold freeD
          isplitl [HF_dst]; · iexists _; iexact HF_dst
          isplitl [HF]; · iexact HF
          iapply (tokD_eq c WD (Ring.sl 2 k0_t1.val) (Ring.bk 3 k.val) (ex v172)).2
          isplitl [HF_src]; · iexact HF_src
          iexact HR
        · iexact HN
      · iexact Hrest

/-- The accumulator before trip `k` from `o0` at the loop's entry. -/
def accD (o0 : Buf (Elt F) ((c : Thread nD τ).loc cc0_scratch16)) : ℕ → Buf (Elt F) ((c : Thread nD τ).loc cc0_scratch16)
  | 0 => o0
  | k + 1 =>
    if h : k < k0_t3_loop.trips then
      (tripRunD c WD HQ WT SX v18 k0_hw2 v119 v125 v126 k0_t1 v172 k0_hw3 v173 v177 k0_hw4 v179 ⟨k, h⟩ (accD o0 k)).1
    else accD o0 k

set_option warn.classDefReducibility false in
/-- THE LOOP OVER THE DOWN CHUNKS, its invariant: `resD` at the accumulator so far. -/
@[sl_loop] def loopInvD (o0 : Buf (Elt F) ((c : Thread nD τ).loc cc0_scratch16)) :
    LoopInvTy_k0_t3 (F := F) Unit ℕ (UU nD τ) ℕ 𝒱₀ c none Set.univ (Memref.whole main_arg0) (Memref.isWhole_whole _) (Memref.whole main_arg1) (Memref.isWhole_whole _) (Memref.whole main_arg3) (Memref.isWhole_whole _) (Memref.whole main_arg4) (Memref.isWhole_whole _) (Memref.whole main_v0) (Memref.isWhole_whole _) (Memref.whole main_arg5) (Memref.isWhole_whole _) (Memref.whole main_v1) (Memref.isWhole_whole _) (Memref.whole main_arg7) (Memref.isWhole_whole _) (Memref.whole main_v2) (Memref.isWhole_whole _) (Memref.whole main_v3_0) (Memref.isWhole_whole _) (Memref.whole main_v3_1) (Memref.isWhole_whole _) (Memref.whole main_v3_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) cc0_scratch20 cc0_scratch21 cc0_scratch22 cc0_scratch23 cc0_scratch24 v18 k0_hw2 v119 v125 v126 k0_t1 v172 k0_hw3 v173 v177 k0_hw4 v179 where
  inv k _ := resD c WD HQ WT SX v18 k0_t1 v172 v177 k (accD c WD HQ WT SX v18 k0_hw2 v119 v125 v126 k0_t1 v172 k0_hw3 v173 v177 k0_hw4 v179 o0 k)
  step k _ := by
    have e : accD c WD HQ WT SX v18 k0_hw2 v119 v125 v126 k0_t1 v172 k0_hw3 v173 v177 k0_hw4 v179 o0 (k.val + 1)
        = (tripRunD c WD HQ WT SX v18 k0_hw2 v119 v125 v126 k0_t1 v172 k0_hw3 v173 v177 k0_hw4 v179 k
            (accD c WD HQ WT SX v18 k0_hw2 v119 v125 v126 k0_t1 v172 k0_hw3 v173 v177 k0_hw4 v179 o0 k)).1 := by
      rw [accD, dif_pos k.isLt]
    rw [e]
    exact (tripRunD c WD HQ WT SX v18 k0_hw2 v119 v125 v126 k0_t1 v172 k0_hw3 v173 v177 k0_hw4 v179 k _).2
end TripD

end Cert.Proof.I
-- ==== Proof.I.TripE.lean ====
module

public import proofs.«01_k».proof.Proof.I.TripU
public import proofs.«01_k».proof.Proof.I.TripD

@[expose] public section

noncomputable section

namespace Cert.Proof.I

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## The two streams before trip `i` of the expert loop -/

section Streams
variable (c : Dev nD) (LS : Buf (Elt F) ((c : Thread nD τ).loc cc0_scratch0)) (v18 : BitVec 32)

/-- The index of entry `i` of the list of experts. -/
def listIx (i : ℕ) : S17.Idx := fun a => ⟨i % 17, by fin_cases a; exact Nat.mod_lt _ (by decide)⟩
/-- Entry `i` of the list of experts. -/
def word (i : ℕ) : BitVec 32 := LS (listIx i)
/-- The count is at most 16 and the experts listed are below 16. -/
def ListOK : Prop := (k0_t1_loop v18).trips ≤ 16 ∧ ∀ i < (k0_t1_loop v18).trips, (word c LS i).toNat < 16

omit [FloatOps F] in
theorem sl2_add2 (k : ℕ) : Ring.sl 2 (k + 1 + 1) = Ring.sl 2 k := by rw [show k + 1 + 1 = k + 2 from rfl, Ring.sl_add]

section StreamU
variable (W : Buf (Elt F) (wUM.view.loc (c : Thread nD τ)))
/-- Chunk `b` of the stream before trip `i`: in flight into slot `i % 2` if there is an `i`-th expert; the other slot idle. -/
def outU (i : ℕ) (b : Fin 4) : sProp 𝕄 :=
  iprop(busyIfU c W (i < (k0_t1_loop v18).trips) (Ring.sl 2 i) b (ex (word c LS i)) ∗ freeU c W (Ring.sl 2 (i + 1)) b)
theorem outU_start (k : Fin (k0_t1_loop v18).trips) (w : BitVec 32) (hw : w = word c LS k.val) :
    bigSep Finset.univ (outU c LS v18 W k.val) = bigSep Finset.univ (todoU c W v18 k w) :=
  bigSep_congr fun b _ => by unfold outU todoU busyIfU; rw [if_pos k.isLt, hw]
theorem outU_end (k : Fin (k0_t1_loop v18).trips) (w : BitVec 32) (hw : k0_cond1 v18 k = 1#1 → w = word c LS (k.val + 1)) :
    bigSep Finset.univ (doneU c W v18 k w) ⊢ bigSep Finset.univ (outU c LS v18 W (k.val + 1)) :=
  bigSep_mono fun b _ => by
    unfold outU doneU busyIfU
    rw [sl2_add2]
    by_cases h : k0_cond1 v18 k = 1#1
    · rw [if_pos h, if_pos ((more1_iff v18 k).1 h), hw h]; exact BI.sep_comm
    · rw [if_neg h, if_neg (fun h' => h ((more1_iff v18 k).2 h'))]; exact BI.sep_comm
theorem outU_last : bigSep Finset.univ (outU c LS v18 W (k0_t1_loop v18).trips)
    ⊢ bigSep Finset.univ (fun b => iprop(freeU c W (Ring.sl 2 (k0_t1_loop v18).trips) b ∗ freeU c W (Ring.sl 2 ((k0_t1_loop v18).trips + 1)) b)) :=
  bigSep_mono fun b _ => by unfold outU busyIfU; rw [if_neg (Nat.lt_irrefl _)]; exact entails_of_eq rfl
end StreamU

section StreamD
variable (W : Buf (Elt F) (wDM.view.loc (c : Thread nD τ)))
/-- Chunk `b` of the stream before trip `i`: in flight into slot `i % 2` if there is an `i`-th expert; the other slot idle. -/
def outD (i : ℕ) (b : Fin 3) : sProp 𝕄 :=
  iprop(busyIfD c W (i < (k0_t1_loop v18).trips) (Ring.sl 2 i) b (ex (word c LS i)) ∗ freeD c W (Ring.sl 2 (i + 1)) b)
theorem outD_start (k : Fin (k0_t1_loop v18).trips) (w : BitVec 32) (hw : w = word c LS k.val) :
    bigSep Finset.univ (outD c LS v18 W k.val) = bigSep Finset.univ (todoD c W v18 k w) :=
  bigSep_congr fun b _ => by unfold outD todoD busyIfD; rw [if_pos k.isLt, hw]
theorem outD_end (k : Fin (k0_t1_loop v18).trips) (w : BitVec 32) (hw : k0_cond1 v18 k = 1#1 → w = word c LS (k.val + 1)) :
    bigSep Finset.univ (doneD c W v18 k w) ⊢ bigSep Finset.univ (outD c LS v18 W (k.val + 1)) :=
  bigSep_mono fun b _ => by
    unfold outD doneD busyIfD
    rw [sl2_add2]
    by_cases h : k0_cond1 v18 k = 1#1
    · rw [if_pos h, if_pos ((more1_iff v18 k).1 h), hw h]; exact BI.sep_comm
    · rw [if_neg h, if_neg (fun h' => h ((more1_iff v18 k).2 h'))]; exact BI.sep_comm
theorem outD_last : bigSep Finset.univ (outD c LS v18 W (k0_t1_loop v18).trips)
    ⊢ bigSep Finset.univ (fun b => iprop(freeD c W (Ring.sl 2 (k0_t1_loop v18).trips) b ∗ freeD c W (Ring.sl 2 ((k0_t1_loop v18).trips + 1)) b)) :=
  bigSep_mono fun b _ => by unfold outD busyIfD; rw [if_neg (Nat.lt_irrefl _)]; exact entails_of_eq rfl
end StreamD

end Streams

theorem chk4_of' (v : BitVec 32) (k : Fin (k0_t1_loop v).trips) (w : BitVec 32) (h : k0_cond1 v k = 1#1 → w.toNat < 16) : k0_chk4 v k w := by
  by_cases hc : k0_cond1 v k = 1#1
  · exact chk4_of v k w (h hc)
  · exact ⟨fun _ hc' => absurd hc' hc, fun _ hc' => absurd hc' hc, fun _ hc' => absurd hc' hc, fun _ hc' => absurd hc' hc⟩

theorem word_read (c : Dev nD) (LS : Buf (Elt F) ((c : Thread nD τ).loc cc0_scratch0)) (n : ℕ) (hn : n < 17) (off : Fin 1 → Nat) (h : off = ![n])
    (inb : ∀ a, off a + S1.size a ≤ S17.size a) (j : (Rect.unit (s := S17) off S1.size inb).shape.Idx) :
    (Memref.whole cc0_scratch0 : Memref sig .tc .smem S17 .i32).view.read (Elt F) LS ((Rect.unit (s := S17) off S1.size inb).idx j) = word c LS n := by
  subst h
  show LS _ = LS _
  refine congrArg LS (funext fun a => Fin.ext ?_)
  fin_cases a
  have hj : (j 0).val < 1 := (j 0).isLt
  show n + 1 * (j 0).val = n % 17
  omega

section TripE
variable (c : Dev nD) (WU : Buf (Elt F) (wUM.view.loc (c : Thread nD τ))) (WD : Buf (Elt F) (wDM.view.loc (c : Thread nD τ)))
  (LS : Buf (Elt F) ((c : Thread nD τ).loc cc0_scratch0)) (SU : Buf (Elt F) ((c : Thread nD τ).loc cc0_scratch5)) (SD : Buf (Elt F) ((c : Thread nD τ).loc cc0_scratch6))
  (XQ : Buf (Elt F) ((c : Thread nD τ).loc cc0_scratch9))
  (v18 : BitVec 32) (k0_hw2 : k0_chk2 v18) (v119 : FVec F S8x1 .f32) (v125 : FVec F S8x5120 .f32) (v126 : Vec F S8x5120 .f32)
  (v149 : Vec F S8x1x8 .i32) (v151 : Vec F S8x1x8 .f32)

/-- The resources before trip `i` of the expert loop, the output accumulator at `fy`. -/
def resE (i : ℕ) (fy : Buf (Elt F) ((c : Thread nD τ).loc cc0_scratch16)) : sProp 𝕄 :=
  iprop(own c cc0_scratch16 fy ∗ own c cc0_scratch0 LS ∗ own c cc0_scratch5 SU ∗ own c cc0_scratch6 SD ∗ own c cc0_scratch9 XQ
    ∗ (∃ f, own c cc0_scratch10 f) ∗ (∃ f, own c cc0_scratch11 f) ∗ (∃ f, own c cc0_scratch12 f) ∗ (∃ f, own c cc0_scratch13 f)
    ∗ (∃ f, own c cc0_scratch14 f) ∗ (∃ f, own c cc0_scratch15 f) ∗ (∃ W, owes (c : Thread nD τ) 0 W)
    ∗ bigSep Finset.univ (outU c LS v18 WU i) ∗ bigSep Finset.univ (outD c LS v18 WD i))

abbrev tripGE (k : Fin (k0_t1_loop v18).trips) : Prog (TpuEff nD τ sig (Elt F) Λ₀ .tc) Unit :=
  k0_t1_body (F := F) (Memref.whole main_arg0) (Memref.isWhole_whole _) (Memref.whole main_arg1) (Memref.isWhole_whole _) (Memref.whole main_arg3) (Memref.isWhole_whole _) (Memref.whole main_arg4) (Memref.isWhole_whole _) (Memref.whole main_v0) (Memref.isWhole_whole _) (Memref.whole main_arg5) (Memref.isWhole_whole _) (Memref.whole main_v1) (Memref.isWhole_whole _) (Memref.whole main_arg7) (Memref.isWhole_whole _) (Memref.whole main_v2) (Memref.isWhole_whole _) (Memref.whole main_v3_0) (Memref.isWhole_whole _) (Memref.whole main_v3_1) (Memref.isWhole_whole _) (Memref.whole main_v3_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) cc0_scratch20 cc0_scratch21 cc0_scratch22 cc0_scratch23 cc0_scratch24 v18 k0_hw2 v119 v125 v126 v149 v151 k ()

set_option backward.proofsInPublic true in
def tripRunE (k : Fin (k0_t1_loop v18).trips) (hL : ListOK c LS v18) (fy : Buf (Elt F) ((c : Thread nD τ).loc cc0_scratch16)) :
    { f' : Buf (Elt F) ((c : Thread nD τ).loc cc0_scratch16) //
      resE c WU WD LS SU SD XQ v18 k fy ⊢ wp frame (wpE (defs₀ (F := F)) 𝒱₀ (c : Thread nD τ) none) Set.univ
        (tripGE v18 k0_hw2 v119 v125 v126 v149 v151 k)
        (fun _ => resE c WU WD LS SU SD XQ v18 (k.val + 1) f') } := by
  have hk16 : k.val < 16 := lt_of_lt_of_le k.isLt hL.1
  refine ⟨?_, ?run⟩
  case run =>
    unfold resE
    iintro ⟨HY, HL, HSU, HSD, HXQ, ⟨%f10, H10⟩, ⟨%f11, H11⟩, ⟨%f12, H12⟩, ⟨%f13, H13⟩, ⟨%f14, H14⟩, ⟨%f15, H15⟩, ⟨%W, HW⟩, HBU, HBD⟩
    dsimp only [tripGE]
    sl_unfold [k0_t1_body]
    sl_exec
    have e172 : tripRunE.sl.r c LS v18 k0_hw2 k = word c LS k.val := by
      unfold tripRunE.sl.r
      rw [View.readAt_apply]
      exact word_read c LS k.val (by omega) _ (off8_eq v18 k) _ _
    have hchk3 : k0_chk3 (tripRunE.sl.r c LS v18 k0_hw2 k) := chk3_of _ (by rw [e172]; exact hL.2 k.val k.isLt)
    sl_exec
    have e177 : k0_cond1 v18 k = 1#1 → tripRunE.sl.r_1 c LS v18 k0_hw2 k = word c LS (k.val + 1) := by
      intro hc
      have h1 : k.val + 1 < (k0_t1_loop v18).trips := (more1_iff v18 k).1 hc
      have h2 := hL.1
      unfold tripRunE.sl.r_1
      rw [View.readAt_apply]
      exact word_read c LS (k.val + 1) (by omega) _ ((off9_eq v18 k).trans (by rw [Nat.min_eq_left (by omega)])) _ _
    have hchk4 : k0_chk4 v18 k (tripRunE.sl.r_1 c LS v18 k0_hw2 k) :=
      chk4_of' v18 k _ (fun hc => by rw [e177 hc]; exact hL.2 _ ((more1_iff v18 k).1 hc))
    ihave HCU := (entails_of_eq ((outU_start c LS v18 WU k _ e172).trans (chunksU_start c WU v18 k _ (tripRunE.sl.r_1 c LS v18 k0_hw2 k)).symm)) $$ HBU
    ihave HCD := (entails_of_eq ((outD_start c LS v18 WD k _ e172).trans (chunksD_start c WD v18 k _ (tripRunE.sl.r_1 c LS v18 k0_hw2 k)).symm)) $$ HBD
    sl_exec
    sl_step
    have q4 : hchk4 = chk4_of' v18 k _ (fun hc => by
        have h1 : k.val + 1 < (k0_t1_loop v18).trips := (more1_iff v18 k).1 hc
        have h2 := hL.1
        unfold tripRunE.sl.r_1
        rw [View.readAt_apply, word_read c LS (k.val + 1) (by omega) _ ((off9_eq v18 k).trans (by rw [Nat.min_eq_left (by omega)])) _ _]
        exact hL.2 _ h1) := rfl
    subst q4
    have q3 : hchk3 = chk3_of _ (by
        unfold tripRunE.sl.r
        rw [View.readAt_apply, word_read c LS k.val (by omega) _ (off8_eq v18 k) _ _]
        exact hL.2 k.val k.isLt) := rfl
    subst q3
    isplitl [HY]; · iexact HY
    isplitl [HL]; · iexact HL
    isplitl [HSU]; · iexact HSU
    isplitl [HSD]; · iexact HSD
    isplitl [HXQ]; · iexact HXQ
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [HW]; · iexists _; iexact HW
    isplitl [HCU]
    · iapply (outU_end c LS v18 WU k _ e177)
      iapply (entails_of_eq (chunksU_end c WU v18 k (tripRunE.sl.r c LS v18 k0_hw2 k) (tripRunE.sl.r_1 c LS v18 k0_hw2 k)))
      iexact HCU
    · iapply (outD_end c LS v18 WD k _ e177)
      iapply (entails_of_eq (chunksD_end c WD v18 k (tripRunE.sl.r c LS v18 k0_hw2 k) (tripRunE.sl.r_1 c LS v18 k0_hw2 k)))
      iexact HCD
end TripE

end Cert.Proof.I
-- ==== Proof.I.Count.lean ====
/-
  The count check: `k0_chk2` holds for each count of experts from 0 to 16 (the loops' bounds, the slices and the
  whole-word conditions of every trip, by evaluation at each literal).
-/
module

public import proofs.«01_k».proof.Proof.I.Names

@[expose] public section

namespace Cert.Proof.I

open Cert.KernelIdeal Cert.KernelIdeal.Gen
open Idealize.ShloMosaic

set_option maxRecDepth 100000 in
theorem chk2_0 : k0_chk2 0#32 := by decide +kernel
set_option maxRecDepth 100000 in
theorem chk2_1 : k0_chk2 1#32 := by decide +kernel
set_option maxRecDepth 100000 in
theorem chk2_2 : k0_chk2 2#32 := by decide +kernel
set_option maxRecDepth 100000 in
theorem chk2_3 : k0_chk2 3#32 := by decide +kernel
set_option maxRecDepth 100000 in
theorem chk2_4 : k0_chk2 4#32 := by decide +kernel
set_option maxRecDepth 100000 in
theorem chk2_5 : k0_chk2 5#32 := by decide +kernel
set_option maxRecDepth 100000 in
theorem chk2_6 : k0_chk2 6#32 := by decide +kernel
set_option maxRecDepth 100000 in
theorem chk2_7 : k0_chk2 7#32 := by decide +kernel
set_option maxRecDepth 100000 in
theorem chk2_8 : k0_chk2 8#32 := by decide +kernel
set_option maxRecDepth 100000 in
theorem chk2_9 : k0_chk2 9#32 := by decide +kernel
set_option maxRecDepth 100000 in
theorem chk2_10 : k0_chk2 10#32 := by decide +kernel
set_option maxRecDepth 100000 in
theorem chk2_11 : k0_chk2 11#32 := by decide +kernel
set_option maxRecDepth 100000 in
theorem chk2_12 : k0_chk2 12#32 := by decide +kernel
set_option maxRecDepth 100000 in
theorem chk2_13 : k0_chk2 13#32 := by decide +kernel
set_option maxRecDepth 100000 in
theorem chk2_14 : k0_chk2 14#32 := by decide +kernel
set_option maxRecDepth 100000 in
theorem chk2_15 : k0_chk2 15#32 := by decide +kernel
set_option maxRecDepth 100000 in
theorem chk2_16 : k0_chk2 16#32 := by decide +kernel

theorem chk2_of (v : BitVec 32) (h : v.toNat ≤ 16) : k0_chk2 v := by
  have e : v = BitVec.ofNat 32 v.toNat := by simp
  rw [e]
  match hn : v.toNat, h with
  | 0, _ => exact chk2_0
  | 1, _ => exact chk2_1
  | 2, _ => exact chk2_2
  | 3, _ => exact chk2_3
  | 4, _ => exact chk2_4
  | 5, _ => exact chk2_5
  | 6, _ => exact chk2_6
  | 7, _ => exact chk2_7
  | 8, _ => exact chk2_8
  | 9, _ => exact chk2_9
  | 10, _ => exact chk2_10
  | 11, _ => exact chk2_11
  | 12, _ => exact chk2_12
  | 13, _ => exact chk2_13
  | 14, _ => exact chk2_14
  | 15, _ => exact chk2_15
  | 16, _ => exact chk2_16
  | n + 17, h => omega

end Cert.Proof.I
-- ==== Proof.I.Loop.lean ====
module

public import proofs.«01_k».proof.Proof.I.TripE
public import proofs.«01_k».proof.Proof.I.Count

@[expose] public section

noncomputable section

namespace Cert.Proof.I

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## The loop over the experts -/

section LoopE
variable (c : Dev nD) (WU : Buf (Elt F) (wUM.view.loc (c : Thread nD τ))) (WD : Buf (Elt F) (wDM.view.loc (c : Thread nD τ)))
  (LS : Buf (Elt F) ((c : Thread nD τ).loc cc0_scratch0)) (SU : Buf (Elt F) ((c : Thread nD τ).loc cc0_scratch5)) (SD : Buf (Elt F) ((c : Thread nD τ).loc cc0_scratch6))
  (XQ : Buf (Elt F) ((c : Thread nD τ).loc cc0_scratch9))
  (v18 : BitVec 32) (k0_hw2 : k0_chk2 v18) (v119 : FVec F S8x1 .f32) (v125 : FVec F S8x5120 .f32) (v126 : Vec F S8x5120 .f32)
  (v149 : Vec F S8x1x8 .i32) (v151 : Vec F S8x1x8 .f32) (hL : ListOK c LS v18)

/-- The output accumulator before trip `k` from `o0` at the loop's entry. -/
def accE (o0 : Buf (Elt F) ((c : Thread nD τ).loc cc0_scratch16)) : ℕ → Buf (Elt F) ((c : Thread nD τ).loc cc0_scratch16)
  | 0 => o0
  | k + 1 =>
    if h : k < (k0_t1_loop v18).trips then
      (tripRunE c WU WD LS SU SD XQ v18 k0_hw2 v119 v125 v126 v149 v151 ⟨k, h⟩ hL (accE o0 k)).1
    else accE o0 k

/-- THE LOOP OVER THE EXPERTS, its invariant: `resE` at the accumulator so far. -/
@[reducible] def loopInvE (o0 : Buf (Elt F) ((c : Thread nD τ).loc cc0_scratch16)) :
    LoopInvTy_k0_t1 (F := F) Unit ℕ (UU nD τ) ℕ 𝒱₀ c none Set.univ (Memref.whole main_arg0) (Memref.isWhole_whole _) (Memref.whole main_arg1) (Memref.isWhole_whole _) (Memref.whole main_arg3) (Memref.isWhole_whole _) (Memref.whole main_arg4) (Memref.isWhole_whole _) (Memref.whole main_v0) (Memref.isWhole_whole _) (Memref.whole main_arg5) (Memref.isWhole_whole _) (Memref.whole main_v1) (Memref.isWhole_whole _) (Memref.whole main_arg7) (Memref.isWhole_whole _) (Memref.whole main_v2) (Memref.isWhole_whole _) (Memref.whole main_v3_0) (Memref.isWhole_whole _) (Memref.whole main_v3_1) (Memref.isWhole_whole _) (Memref.whole main_v3_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) cc0_scratch20 cc0_scratch21 cc0_scratch22 cc0_scratch23 cc0_scratch24 v18 k0_hw2 v119 v125 v126 v149 v151 where
  inv k _ := resE c WU WD LS SU SD XQ v18 k (accE c WU WD LS SU SD XQ v18 k0_hw2 v119 v125 v126 v149 v151 hL o0 k)
  step k _ := by
    have e : accE c WU WD LS SU SD XQ v18 k0_hw2 v119 v125 v126 v149 v151 hL o0 (k.val + 1)
        = (tripRunE c WU WD LS SU SD XQ v18 k0_hw2 v119 v125 v126 v149 v151 k hL
            (accE c WU WD LS SU SD XQ v18 k0_hw2 v119 v125 v126 v149 v151 hL o0 k)).1 := by
      rw [accE, dif_pos k.isLt]
    rw [e]
    exact (tripRunE c WU WD LS SU SD XQ v18 k0_hw2 v119 v125 v126 v149 v151 k hL _).2

theorem loopInvE_inv (o0 : Buf (Elt F) ((c : Thread nD τ).loc cc0_scratch16)) (k : ℕ) (a : PUnit) :
    (loopInvE c WU WD LS SU SD XQ v18 k0_hw2 v119 v125 v126 v149 v151 hL o0).inv k a
      = resE c WU WD LS SU SD XQ v18 k (accE c WU WD LS SU SD XQ v18 k0_hw2 v119 v125 v126 v149 v151 hL o0 k) := rfl

/-- The remainder loop has no trip: any resources stay. -/
@[reducible] def loopInv4 (v157 : BitVec 32) (P : sProp 𝕄) :
    LoopInvTy_k0_t4 (F := F) Unit ℕ (UU nD τ) ℕ 𝒱₀ c none Set.univ (Memref.whole main_arg0) (Memref.isWhole_whole _) (Memref.whole main_arg1) (Memref.isWhole_whole _) (Memref.whole main_arg3) (Memref.isWhole_whole _) (Memref.whole main_arg4) (Memref.isWhole_whole _) (Memref.whole main_v0) (Memref.isWhole_whole _) (Memref.whole main_arg5) (Memref.isWhole_whole _) (Memref.whole main_v1) (Memref.isWhole_whole _) (Memref.whole main_arg7) (Memref.isWhole_whole _) (Memref.whole main_v2) (Memref.isWhole_whole _) (Memref.whole main_v3_0) (Memref.isWhole_whole _) (Memref.whole main_v3_1) (Memref.isWhole_whole _) (Memref.whole main_v3_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) cc0_scratch20 cc0_scratch21 cc0_scratch22 cc0_scratch23 cc0_scratch24 v18 k0_hw2 v119 v125 v126 v149 v151 v157 where
  inv _ _ := P
  step k _ := absurd (trips4_eq v18 ▸ k.isLt : k.val < 0) (Nat.not_lt_zero _)
theorem loopInv4_inv (v157 : BitVec 32) (P : sProp 𝕄) (k : ℕ) (a : PUnit) :
    (loopInv4 c v18 k0_hw2 v119 v125 v126 v149 v151 v157 P).inv k a = P := rfl
end LoopE

end Cert.Proof.I
-- ==== Proof.I.BodyP.lean ====
module

public import proofs.«01_k».proof.Proof.I.Loop

@[expose] public section

noncomputable section

namespace Cert.Proof.I

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## The body -/

section Body
variable (c : Dev nD) (WU : Buf (Elt F) (wUM.view.loc (c : Thread nD τ))) (WD : Buf (Elt F) (wDM.view.loc (c : Thread nD τ)))
  (AL : Buf (Elt F) ((c : Thread nD τ).loc main_arg0)) (AC : Buf (Elt F) ((c : Thread nD τ).loc main_arg1))
  (AI : Buf (Elt F) ((c : Thread nD τ).loc main_arg3)) (AW : Buf (Elt F) ((c : Thread nD τ).loc main_arg4))
  (AX : Buf (Elt F) ((c : Thread nD τ).loc main_v0)) (AU : Buf (Elt F) ((c : Thread nD τ).loc main_v1)) (AD : Buf (Elt F) ((c : Thread nD τ).loc main_v2))

/-- The count's one index, the count, and expert `i` of the list. -/
def cntIx : S1.Idx := fun a => ⟨0, by fin_cases a; decide⟩
def cntOf : BitVec 32 := AC cntIx
def listOf (i : ℕ) : BitVec 32 := AL (listIx i)

/-- What the body needs of its list and its count: between 1 and 16 experts, each listed one below 16. -/
def InOK : Prop := 1 ≤ (cntOf c AC).toNat ∧ (cntOf c AC).toNat ≤ 16
  ∧ ∀ i < (cntOf c AC).toNat, (listOf c AL i).toNat < 16

/-- The semaphores of the small copies at zero. -/
def cellsS : sProp 𝕄 :=
  iprop(semVal ((c : Thread nD τ), SemLoc.dma ((cc0_scratch20.slice (Rect.unit (s := S5) ![0] S1.size inb_S5_S1_0)).squeeze S_ squeezes_S1_S_).sem) 0
    ∗ semVal ((c : Thread nD τ), SemLoc.dma ((cc0_scratch20.slice (Rect.unit (s := S5) ![1] S1.size inb_S5_S1_1)).squeeze S_ squeezes_S1_S_).sem) 0
    ∗ semVal ((c : Thread nD τ), SemLoc.dma ((cc0_scratch20.slice (Rect.unit (s := S5) ![2] S1.size inb_S5_S1_2)).squeeze S_ squeezes_S1_S_).sem) 0
    ∗ semVal ((c : Thread nD τ), SemLoc.dma ((cc0_scratch20.slice (Rect.unit (s := S5) ![3] S1.size inb_S5_S1_3)).squeeze S_ squeezes_S1_S_).sem) 0
    ∗ semVal ((c : Thread nD τ), SemLoc.dma ((cc0_scratch20.slice (Rect.unit (s := S5) ![4] S1.size inb_S5_S1_4)).squeeze S_ squeezes_S1_S_).sem) 0
    ∗ semVal ((c : Thread nD τ), SemLoc.dma ((cc0_scratch21.slice (Rect.unit (s := S2) ![0] S1.size inb_S2_S1_0)).squeeze S_ squeezes_S1_S_).sem) 0
    ∗ semVal ((c : Thread nD τ), SemLoc.dma ((cc0_scratch21.slice (Rect.unit (s := S2) ![1] S1.size inb_S2_S1_1)).squeeze S_ squeezes_S1_S_).sem) 0
    ∗ semVal ((c : Thread nD τ), SemLoc.dma ((cc0_scratch24.slice (Rect.unit (s := S3) ![0] S1.size inb_S3_S1_0)).squeeze S_ squeezes_S1_S_).sem) 0
    ∗ semVal ((c : Thread nD τ), SemLoc.dma ((cc0_scratch24.slice (Rect.unit (s := S3) ![1] S1.size inb_S3_S1_1)).squeeze S_ squeezes_S1_S_).sem) 0
    ∗ semVal ((c : Thread nD τ), SemLoc.dma ((cc0_scratch24.slice (Rect.unit (s := S3) ![2] S1.size inb_S3_S1_2)).squeeze S_ squeezes_S1_S_).sem) 0)

/-- The arrays the body only reads, the weights apart. -/
def readsP : sProp 𝕄 :=
  iprop(own c main_arg0 AL ∗ own c main_arg1 AC ∗ own c main_arg3 AI ∗ own c main_arg4 AW ∗ own c main_v0 AX ∗ own c main_v1 AU ∗ own c main_v2 AD)
/-- The scratch buffers at anything, the slots of the weights and the four buffers of `bodyRun`'s arguments apart. -/
def scratchP : sProp 𝕄 :=
  iprop((∃ f, own c cc0_scratch0 f) ∗ (∃ f, own c cc0_scratch1 f) ∗ (∃ f, own c cc0_scratch2 f) ∗ (∃ f, own c cc0_scratch3 f) ∗ (∃ f, own c cc0_scratch4 f)
    ∗ (∃ f, own c cc0_scratch5 f) ∗ (∃ f, own c cc0_scratch6 f) ∗ (∃ f, own c cc0_scratch10 f) ∗ (∃ f, own c cc0_scratch11 f) ∗ (∃ f, own c cc0_scratch12 f)
    ∗ (∃ f, own c cc0_scratch13 f) ∗ (∃ f, own c cc0_scratch14 f) ∗ (∃ f, own c cc0_scratch15 f) ∗ (∃ f, own c cc0_scratch16 f))
/-- The two slots of both weights idle. -/
def streamsP : sProp 𝕄 :=
  iprop(bigSep Finset.univ (freeU c WU 0) ∗ bigSep Finset.univ (freeU c WU 1) ∗ bigSep Finset.univ (freeD c WD 0) ∗ bigSep Finset.univ (freeD c WD 1))

omit [FloatOps F] in
theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ
omit [FloatOps F] in
theorem bigSep_fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

/-- A buffer written whole holds what was written. -/
theorem landed_whole (b : Ref sig .tc) (f : b.ty.Contents (Elt F)) (p : b.ty.Contents (Elt F)) :
    (Memref.whole b).view.writes (Elt F) f [⟨Rect.whole b.ty.shape, p⟩] = p :=
  View.read_writes_whole (Val := Elt F) (Memref.whole b).view f p

theorem outU_init (c : Dev nD) (LS : Buf (Elt F) ((c : Thread nD τ).loc cc0_scratch0)) (v18 : BitVec 32) (W : Buf (Elt F) (wUM.view.loc (c : Thread nD τ)))
    (h0 : 0 < (k0_t1_loop v18).trips) (w : BitVec 32) (hw : w = word c LS 0) :
    (iprop(bigSep Finset.univ (fun b => busyU c W 0 b (ex w)) ∗ bigSep Finset.univ (freeU c W 1)) : sProp 𝕄) ⊢ bigSep Finset.univ (outU c LS v18 W 0) := by
  exact entails_of_eq ((bigSep_sep (Finset.univ : Finset (Fin 4)) (fun b => busyU c W 0 b (ex w)) (freeU c W 1)).symm.trans (bigSep_congr fun b _ => by unfold outU busyIfU; rw [if_pos h0, hw]; rfl))
theorem outU_fin (c : Dev nD) (LS : Buf (Elt F) ((c : Thread nD τ).loc cc0_scratch0)) (v18 : BitVec 32) (W : Buf (Elt F) (wUM.view.loc (c : Thread nD τ))) :
    (bigSep Finset.univ (outU c LS v18 W (k0_t1_loop v18).trips) : sProp 𝕄) ⊢ iprop(bigSep Finset.univ (freeU c W 0) ∗ bigSep Finset.univ (freeU c W 1)) := by
  refine (outU_last c LS v18 W).trans ?_
  generalize (k0_t1_loop v18).trips = n
  refine (entails_of_eq (bigSep_sep (Finset.univ : Finset (Fin 4)) (freeU c W (Ring.sl 2 n)) (freeU c W (Ring.sl 2 (n + 1))))).trans ?_
  rcases Nat.mod_two_eq_zero_or_one n with h | h
  · rw [show Ring.sl 2 n = (0 : Fin 2) from Fin.ext h, show Ring.sl 2 (n + 1) = (1 : Fin 2) from Fin.ext (show (n + 1) % 2 = 1 by omega)]
    exact entails_of_eq rfl
  · rw [show Ring.sl 2 n = (1 : Fin 2) from Fin.ext h, show Ring.sl 2 (n + 1) = (0 : Fin 2) from Fin.ext (show (n + 1) % 2 = 0 by omega)]
    exact BI.sep_comm

theorem outD_init (c : Dev nD) (LS : Buf (Elt F) ((c : Thread nD τ).loc cc0_scratch0)) (v18 : BitVec 32) (W : Buf (Elt F) (wDM.view.loc (c : Thread nD τ)))
    (h0 : 0 < (k0_t1_loop v18).trips) (w : BitVec 32) (hw : w = word c LS 0) :
    (iprop(bigSep Finset.univ (fun b => busyD c W 0 b (ex w)) ∗ bigSep Finset.univ (freeD c W 1)) : sProp 𝕄) ⊢ bigSep Finset.univ (outD c LS v18 W 0) := by
  exact entails_of_eq ((bigSep_sep (Finset.univ : Finset (Fin 3)) (fun b => busyD c W 0 b (ex w)) (freeD c W 1)).symm.trans (bigSep_congr fun b _ => by unfold outD busyIfD; rw [if_pos h0, hw]; rfl))
theorem outD_fin (c : Dev nD) (LS : Buf (Elt F) ((c : Thread nD τ).loc cc0_scratch0)) (v18 : BitVec 32) (W : Buf (Elt F) (wDM.view.loc (c : Thread nD τ))) :
    (bigSep Finset.univ (outD c LS v18 W (k0_t1_loop v18).trips) : sProp 𝕄) ⊢ iprop(bigSep Finset.univ (freeD c W 0) ∗ bigSep Finset.univ (freeD c W 1)) := by
  refine (outD_last c LS v18 W).trans ?_
  generalize (k0_t1_loop v18).trips = n
  refine (entails_of_eq (bigSep_sep (Finset.univ : Finset (Fin 3)) (freeD c W (Ring.sl 2 n)) (freeD c W (Ring.sl 2 (n + 1))))).trans ?_
  rcases Nat.mod_two_eq_zero_or_one n with h | h
  · rw [show Ring.sl 2 n = (0 : Fin 2) from Fin.ext h, show Ring.sl 2 (n + 1) = (1 : Fin 2) from Fin.ext (show (n + 1) % 2 = 1 by omega)]
    exact entails_of_eq rfl
  · rw [show Ring.sl 2 n = (1 : Fin 2) from Fin.ext h, show Ring.sl 2 (n + 1) = (0 : Fin 2) from Fin.ext (show (n + 1) % 2 = 0 by omega)]
    exact BI.sep_comm

theorem cnt_read (c : Dev nD) (AC : Buf (Elt F) ((c : Thread nD τ).loc main_arg1)) (inb) (j) :
    (Memref.whole cc0_scratch1 : Memref sig .tc .smem S1 .i32).view.readCov (Val := Elt F) [⟨Rect.whole S1, AC⟩]
      (Rect.unit (s := S1) ![0] S1.size inb).toLoadRect j = cntOf c AC := by
  unfold View.readCov
  rw [View.readAt_apply]
  refine (congrFun (View.read_writes_whole (Val := Elt F) (Memref.whole cc0_scratch1 : Memref sig .tc .smem S1 .i32).view _ AC) _).trans ?_
  refine congrArg AC (funext fun a => Fin.ext ?_)
  fin_cases a
  have hj : (j 0).val < 1 := (j 0).isLt
  show 0 + 1 * (j 0).val = 0
  omega

omit [FloatOps F] in
theorem trips_of (hok : InOK c AL AC) (v : BitVec 32) (er : v = cntOf c AC) : (k0_t1_loop v).trips = (cntOf c AC).toNat := by
  rw [er, trips1_eq, BitVec.toInt_eq_toNat_of_lt (by have := hok.2.1; omega)]; rfl
omit [FloatOps F] in
theorem listOK_of (hok : InOK c AL AC) (v : BitVec 32) (er : v = cntOf c AC) : ListOK c AL v :=
  ⟨by rw [trips_of c AL AC hok v er]; exact hok.2.1, by rw [trips_of c AL AC hok v er]; exact hok.2.2⟩

/-- The body, on the whole arrays. -/
abbrev bodyG : Prog (TpuEff nD τ sig (Elt F) Λ₀ .tc) PUnit := cc0_moe_fp8_lora (F := F) (Memref.whole main_arg0) (Memref.isWhole_whole _) (Memref.whole main_arg1) (Memref.isWhole_whole _) (Memref.whole main_arg3) (Memref.isWhole_whole _) (Memref.whole main_arg4) (Memref.isWhole_whole _) (Memref.whole main_v0) (Memref.isWhole_whole _) (Memref.whole main_arg5) (Memref.isWhole_whole _) (Memref.whole main_v1) (Memref.isWhole_whole _) (Memref.whole main_arg7) (Memref.isWhole_whole _) (Memref.whole main_v2) (Memref.isWhole_whole _) (Memref.whole main_v3_0) (Memref.isWhole_whole _) (Memref.whole main_v3_1) (Memref.isWhole_whole _) (Memref.whole main_v3_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) cc0_scratch20 cc0_scratch21 cc0_scratch22 cc0_scratch23 cc0_scratch24

end Body

end Cert.Proof.I
-- ==== Proof.I.Body.lean ====
module

public import proofs.«01_k».proof.Proof.I.BodyP

@[expose] public section

noncomputable section

namespace Cert.Proof.I

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## The body -/

section Body
variable (c : Dev nD) (WU : Buf (Elt F) (wUM.view.loc (c : Thread nD τ))) (WD : Buf (Elt F) (wDM.view.loc (c : Thread nD τ)))
  (AL : Buf (Elt F) ((c : Thread nD τ).loc main_arg0)) (AC : Buf (Elt F) ((c : Thread nD τ).loc main_arg1))
  (AI : Buf (Elt F) ((c : Thread nD τ).loc main_arg3)) (AW : Buf (Elt F) ((c : Thread nD τ).loc main_arg4))
  (AX : Buf (Elt F) ((c : Thread nD τ).loc main_v0)) (AU : Buf (Elt F) ((c : Thread nD τ).loc main_v1)) (AD : Buf (Elt F) ((c : Thread nD τ).loc main_v2))

structure Outs where
  y : Buf (Elt F) ((c : Thread nD τ).loc main_v3_0)
  xc : Buf (Elt F) ((c : Thread nD τ).loc main_v3_1)
  xs : Buf (Elt F) ((c : Thread nD τ).loc main_v3_2)

/-- The three result arrays at given contents. -/
def outsP (o : Outs (F := F) c) : sProp 𝕄 := iprop(own c main_v3_0 o.y ∗ own c main_v3_1 o.xc ∗ own c main_v3_2 o.xs)

set_option backward.proofsInPublic true in
/-- THE BODY: from the arrays at their contents and everything else idle it ends with the results at the found
    contents and everything else idle again. `f9`, `f17`, `f18` and `f19` are what the buffers of the
    scaled inputs, of the rounded output, of the codes and of the scales hold at the start. -/
def bodyRun (hok : InOK c AL AC) (f9 : Buf (Elt F) ((c : Thread nD τ).loc cc0_scratch9))
    (f17 : Buf (Elt F) ((c : Thread nD τ).loc cc0_scratch17)) (f18 : Buf (Elt F) ((c : Thread nD τ).loc cc0_scratch18)) (f19 : Buf (Elt F) ((c : Thread nD τ).loc cc0_scratch19)) :
    { o : Outs (F := F) c //
      iprop(readsP c AL AC AI AW AX AU AD ∗ (∃ o, outsP c o) ∗ scratchP c ∗ own c cc0_scratch9 f9 ∗ own c cc0_scratch17 f17 ∗ own c cc0_scratch18 f18 ∗ own c cc0_scratch19 f19 ∗ streamsP c WU WD ∗ cellsS c ∗ (∃ W, owes (c : Thread nD τ) 0 W))
      ⊢ wp frame (wpE (defs₀ (F := F)) 𝒱₀ (c : Thread nD τ) none) Set.univ bodyG
        (fun _ => iprop(readsP c AL AC AI AW AX AU AD ∗ outsP c o ∗ scratchP c ∗ (∃ f, own c cc0_scratch9 f) ∗ (∃ f, own c cc0_scratch17 f) ∗ (∃ f, own c cc0_scratch18 f) ∗ (∃ f, own c cc0_scratch19 f) ∗ streamsP c WU WD ∗ cellsS c ∗ (∃ W, owes (c : Thread nD τ) 0 W))) } := by
  refine ⟨⟨?_, ?_, ?_⟩, ?run⟩
  case run =>
    unfold readsP outsP scratchP streamsP cellsS
    rw [bigSep_fin4, bigSep_fin3]
    unfold freeU freeD
    iintro ⟨⟨HAL, HAC, HAI, HAW, HAX, HAU, HAD⟩, ⟨%o, HOY, HOC, HOS⟩, ⟨⟨%f0, H0⟩, ⟨%f1, H1⟩, ⟨%f2, H2⟩, ⟨%f3, H3⟩, ⟨%f4, H4⟩, ⟨%f5, H5⟩, ⟨%f6, H6⟩, ⟨%f10, H10⟩, ⟨%f11, H11⟩, ⟨%f12, H12⟩, ⟨%f13, H13⟩, ⟨%f14, H14⟩, ⟨%f15, H15⟩, ⟨%f16, H16⟩⟩, H9, H17, H18, H19, ⟨⟨⟨⟨%g0, HU0⟩, HCU0, HTU0⟩, ⟨⟨%g1, HU1⟩, HCU1, HTU1⟩, ⟨⟨%g2, HU2⟩, HCU2, HTU2⟩, ⟨%g3, HU3⟩, HCU3, HTU3⟩, HFU, ⟨⟨⟨%d0, HD0⟩, HCD0, HTD0⟩, ⟨⟨%d1, HD1⟩, HCD1, HTD1⟩, ⟨%d2, HD2⟩, HCD2, HTD2⟩, HFD⟩, ⟨HI0, HI1, HI2, HI3, HI4, HS0, HS1, HO0, HO1, HO2⟩, ⟨%W, HW⟩⟩
    dsimp only [bodyG]
    sl_unfold [cc0_moe_fp8_lora]
    sl_exec
    have er : bodyRun.sl.r c AC = cntOf c AC := by
      unfold bodyRun.sl.r bodyRun.sl.f
      exact cnt_read c AC _ _
    have hchk2 : k0_chk2 (bodyRun.sl.r c AC) := chk2_of _ (by rw [er]; exact hok.2.1)
    ihave HLS := (entails_of_eq (congrArg (own c cc0_scratch0) (landed_whole cc0_scratch0 f0 (bodyRun.sl.dma0 c AL)))) $$ H0
    sl_exec
    have er1 : bodyRun.sl.r_1 c AL = listOf c AL 0 := by
      unfold bodyRun.sl.r_1
      rw [View.readAt_apply]
      exact word_read c (bodyRun.sl.dma0 c AL) 0 (by omega) _ rfl _ _
    have hw1 : (bodyRun.sl.r_1 c AL).toNat < 16 := by rw [er1]; exact hok.2.2 0 hok.1
    have hchk1 : k0_chk1 (bodyRun.sl.r_1 c AL) := chk1_of _ hw1
    ihave HTU0 := (tokU_eq c WU 0 0 (ex (bodyRun.sl.r_1 c AL))).1 $$ HTU0
    icases HTU0 with ⟨HWU0, HRU0⟩
    ihave HTU1 := (tokU_eq c WU 0 1 (ex (bodyRun.sl.r_1 c AL))).1 $$ HTU1
    icases HTU1 with ⟨HWU1, HRU1⟩
    ihave HTU2 := (tokU_eq c WU 0 2 (ex (bodyRun.sl.r_1 c AL))).1 $$ HTU2
    icases HTU2 with ⟨HWU2, HRU2⟩
    ihave HTU3 := (tokU_eq c WU 0 3 (ex (bodyRun.sl.r_1 c AL))).1 $$ HTU3
    icases HTU3 with ⟨HWU3, HRU3⟩
    ihave HTD0 := (tokD_eq c WD 0 0 (ex (bodyRun.sl.r_1 c AL))).1 $$ HTD0
    icases HTD0 with ⟨HWD0, HRD0⟩
    ihave HTD1 := (tokD_eq c WD 0 1 (ex (bodyRun.sl.r_1 c AL))).1 $$ HTD1
    icases HTD1 with ⟨HWD1, HRD1⟩
    ihave HTD2 := (tokD_eq c WD 0 2 (ex (bodyRun.sl.r_1 c AL))).1 $$ HTD2
    icases HTD2 with ⟨HWD2, HRD2⟩
    sl_exec
    have etr : (k0_t1_loop (bodyRun.sl.r c AC)).trips = (cntOf c AC).toNat := by
      rw [er, trips1_eq, BitVec.toInt_eq_toNat_of_lt (by have := hok.2.1; omega)]; rfl
    have hpos : 0 < (k0_t1_loop (bodyRun.sl.r c AC)).trips := by rw [etr]; exact hok.1
    have hL : ListOK c (bodyRun.sl.dma0 c AL) (bodyRun.sl.r c AC) := ⟨by rw [etr]; exact hok.2.1, by rw [etr]; exact hok.2.2⟩
    ihave HBU := (outU_init c (bodyRun.sl.dma0 c AL) (bodyRun.sl.r c AC) WU hpos (bodyRun.sl.r_1 c AL) er1) $$ [HCU0 HRU0 HCU1 HRU1 HCU2 HRU2 HCU3 HRU3 HFU]
    · isplitr [HFU]
      · irw [bigSep_fin4]
        unfold busyU
        isplitl [HCU0 HRU0]
        · isplitl [HCU0]; · iexists _; iexact HCU0
          iexact HRU0
        isplitl [HCU1 HRU1]
        · isplitl [HCU1]; · iexists _; iexact HCU1
          iexact HRU1
        isplitl [HCU2 HRU2]
        · isplitl [HCU2]; · iexists _; iexact HCU2
          iexact HRU2
        isplitl [HCU3]; · iexists _; iexact HCU3
        iexact HRU3
      · iexact HFU
    ihave HBD := (outD_init c (bodyRun.sl.dma0 c AL) (bodyRun.sl.r c AC) WD hpos (bodyRun.sl.r_1 c AL) er1) $$ [HCD0 HRD0 HCD1 HRD1 HCD2 HRD2 HFD]
    · isplitr [HFD]
      · irw [bigSep_fin3]
        unfold busyD
        isplitl [HCD0 HRD0]
        · isplitl [HCD0]; · iexists _; iexact HCD0
          iexact HRD0
        isplitl [HCD1 HRD1]
        · isplitl [HCD1]; · iexists _; iexact HCD1
          iexact HRD1
        isplitl [HCD2]; · iexists _; iexact HCD2
        iexact HRD2
      · iexact HFD
    ihave H5 := (entails_of_eq (congrArg (own c cc0_scratch5) (landed_whole cc0_scratch5 (Memref.whole cc0_scratch5).view.junk (bodyRun.sl.dma0_5 c AU)))) $$ H5
    ihave H6 := (entails_of_eq (congrArg (own c cc0_scratch6) (landed_whole cc0_scratch6 (Memref.whole cc0_scratch6).view.junk (bodyRun.sl.dma0_6 c AD)))) $$ H6
    sl_for (loopInvE c WU WD (bodyRun.sl.dma0 c AL) (bodyRun.sl.dma0_5 c AU) (bodyRun.sl.dma0_6 c AD) ((Memref.whole cc0_scratch9).view.writes (Elt F) (Memref.whole cc0_scratch9).view.junk (bodyRun.sl.H9_1 c AX)) (bodyRun.sl.r c AC) hchk2 (bodyRun.sl.r_4 c AX) (bodyRun.sl.r_5 c AX) (bodyRun.sl.r_6 c f9) (bodyRun.sl.v149 c AI) (bodyRun.sl.v151 c AW) hL ((Memref.whole cc0_scratch16).view.writes (Elt F) (Memref.whole cc0_scratch16).view.junk bodyRun.sl.H16_1)).inv $$ [H16 HLS H5 H6 H9 H10 H11 H12 H13 H14 H15 HW HBU HBD]
    · exact fun k acc => (loopInvE c WU WD (bodyRun.sl.dma0 c AL) (bodyRun.sl.dma0_5 c AU) (bodyRun.sl.dma0_6 c AD) ((Memref.whole cc0_scratch9).view.writes (Elt F) (Memref.whole cc0_scratch9).view.junk (bodyRun.sl.H9_1 c AX)) (bodyRun.sl.r c AC) hchk2 (bodyRun.sl.r_4 c AX) (bodyRun.sl.r_5 c AX) (bodyRun.sl.r_6 c f9) (bodyRun.sl.v149 c AI) (bodyRun.sl.v151 c AW) hL ((Memref.whole cc0_scratch16).view.writes (Elt F) (Memref.whole cc0_scratch16).view.junk bodyRun.sl.H16_1)).step k acc
    · iapply (entails_of_eq (loopInvE_inv _ _ _ _ _ _ _ _ _ _ _ _ _ _ _ _ _ _).symm)
      unfold resE
      isplitl [H16]; · iexact H16
      isplitl [HLS]; · iexact HLS
      isplitl [H5]; · iexact H5
      isplitl [H6]; · iexact H6
      isplitl [H9]; · iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [HW]; · iexists _; iexact HW
      isplitl [HBU]; · iexact HBU
      iexact HBD
    iintro %acc HI
    ihave HI := (entails_of_eq (loopInvE_inv _ _ _ _ _ _ _ _ _ _ _ _ _ _ _ _ _ _)) $$ HI
    unfold resE
    icases HI with ⟨HY, HLS, H5, H6, H9, ⟨%h10, H10⟩, ⟨%h11, H11⟩, ⟨%h12, H12⟩, ⟨%h13, H13⟩, ⟨%h14, H14⟩, ⟨%h15, H15⟩, ⟨%W', HW⟩, HBU, HBD⟩
    ihave HBU := (outU_fin c (bodyRun.sl.dma0 c AL) (bodyRun.sl.r c AC) WU) $$ HBU
    ihave HBD := (outD_fin c (bodyRun.sl.dma0 c AL) (bodyRun.sl.r c AC) WD) $$ HBD
    sl_exec
    sl_for (loopInv4 c (bodyRun.sl.r c AC) hchk2 (bodyRun.sl.r_4 c AX) (bodyRun.sl.r_5 c AX) (bodyRun.sl.r_6 c f9) (bodyRun.sl.v149 c AI) (bodyRun.sl.v151 c AW) (bodyRun.sl.v157 c AC) (own c cc0_scratch10 h10)).inv $$ [H10]
    · exact fun k acc => (loopInv4 c (bodyRun.sl.r c AC) hchk2 (bodyRun.sl.r_4 c AX) (bodyRun.sl.r_5 c AX) (bodyRun.sl.r_6 c f9) (bodyRun.sl.v149 c AI) (bodyRun.sl.v151 c AW) (bodyRun.sl.v157 c AC) (own c cc0_scratch10 h10)).step k acc
    · iexact H10
    iintro %acc2 H10
    ihave H10 := (entails_of_eq (loopInv4_inv _ _ _ _ _ _ _ _ _ _ _ _)) $$ H10
    sl_exec
    sl_step
    ihave HOC := (entails_of_eq (congrArg (own c main_v3_1) (landed_whole main_v3_1 o.2 (bodyRun.sl.dma7 c AX f18)))) $$ HOC
    ihave HOS := (entails_of_eq (congrArg (own c main_v3_2) (landed_whole main_v3_2 o.3 (bodyRun.sl.dma7_1 c AX f19)))) $$ HOS
    ihave HOY := (entails_of_eq (congrArg (own c main_v3_0) (landed_whole main_v3_0 o.1 (bodyRun.sl.dma3 c WU WD AL AC AI AW AX AU AD f9 f17 hchk2 hL)))) $$ HOY
    icases HBU with ⟨HBU0, HBU1⟩
    icases HBD with ⟨HBD0, HBD1⟩
    ihave HBU0 := (entails_of_eq (bigSep_fin4 _)) $$ HBU0
    ihave HBD0 := (entails_of_eq (bigSep_fin3 _)) $$ HBD0
    have q2 : hchk2 = chk2_of _ (by
        unfold bodyRun.sl.r bodyRun.sl.f
        exact (congrArg BitVec.toNat (cnt_read c AC _ _)).le.trans hok.2.1) := rfl
    subst q2
    have qL : hL = listOK_of c AL AC hok _ (by
        unfold bodyRun.sl.r bodyRun.sl.f
        exact cnt_read c AC _ _) := rfl
    subst qL
    isplitl [HAL HAC HAI HAW HAX HAU HAD]
    · isplitl [HAL]; · iexact HAL
      isplitl [HAC]; · iexact HAC
      isplitl [HAI]; · iexact HAI
      isplitl [HAW]; · iexact HAW
      isplitl [HAX]; · iexact HAX
      isplitl [HAU]; · iexact HAU
      iexact HAD
    isplitl [HOY HOC HOS]
    · isplitl [HOY]; · iexact HOY
      isplitl [HOC]; · iexact HOC
      iexact HOS
    isplitl [HLS H1 H2 H3 H4 H5 H6 H10 H11 H12 H13 H14 H15 HY]
    · isplitl [HLS]; · iexists _; iexact HLS
      isplitl [H1]; · iexists _; iexact H1
      isplitl [H2]; · iexists _; iexact H2
      isplitl [H3]; · iexists _; iexact H3
      isplitl [H4]; · iexists _; iexact H4
      isplitl [H5]; · iexists _; iexact H5
      isplitl [H6]; · iexists _; iexact H6
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      iexists _; iexact HY
    isplitl [H9]; · iexists _; iexact H9
    isplitl [H17]; · iexists _; iexact H17
    isplitl [H18]; · iexists _; iexact H18
    isplitl [H19]; · iexists _; iexact H19
    isplitl [HBU0 HBU1 HBD0 HBD1]
    · isplitl [HBU0]; · iexact HBU0
      isplitl [HBU1]; · iexact HBU1
      isplitl [HBD0]; · iexact HBD0
      iexact HBD1
    isplitl [HI0 HI1 HI2 HI3 HI4 HS0 HS1 HO0 HO1 HO2]
    · isplitl [HI0]; · iexact HI0
      isplitl [HI1]; · iexact HI1
      isplitl [HI2]; · iexact HI2
      isplitl [HI3]; · iexact HI3
      isplitl [HI4]; · iexact HI4
      isplitl [HS0]; · iexact HS0
      isplitl [HS1]; · iexact HS1
      isplitl [HO0]; · iexact HO0
      isplitl [HO1]; · iexact HO1
      iexact HO2
    iexists _; iexact HW

end Body

end Cert.Proof.I
-- ==== Proof.I.Idle.lean ====
module

public import proofs.«01_k».proof.Proof.I.BodyP
public import Idealize.ShloMosaic.Lib.Ring
public import Idealize.ShloMosaic.Lib.Transfers

@[expose] public section

noncomputable section

namespace Cert.Proof.I

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## The stream of `main_arg5` -/

section IdleU
/-- The elements of chunk `b.2` of slot `b.1`. -/
abbrev setU (b : Fin 2 × Fin 4) : Finset S2x5120x1536.Idx := (Rect.unit (s := S2x5120x1536) (slotOffU b.1 b.2) S1x1280x1536.size (slotOffU_inb b.1 b.2)).set
theorem slot_setU (s : Fin 2) (k : Fin 4) : (slotU s k).view.set = setU (s, k) := (View.set_reshape _ _).trans (View.set_slice_whole _ _)
theorem mem_setU (b : Fin 2 × Fin 4) (y : S2x5120x1536.Idx) : y ∈ setU b ↔ (y 0).val = b.1.val ∧ 1280 * b.2.val ≤ (y 1).val ∧ (y 1).val < 1280 * b.2.val + 1280 := by
  rw [Rect.mem_set_unit]
  have h2 : (y 2).val < 1536 := (y 2).isLt
  constructor
  · intro H
    have a0 : b.1.val ≤ (y 0).val ∧ (y 0).val < b.1.val + 1 := H 0
    have a1 : 1280 * b.2.val ≤ (y 1).val ∧ (y 1).val < 1280 * b.2.val + 1280 := H 1
    omega
  · intro H i; fin_cases i
    · show b.1.val ≤ (y 0).val ∧ (y 0).val < b.1.val + 1; omega
    · show 1280 * b.2.val ≤ (y 1).val ∧ (y 1).val < 1280 * b.2.val + 1280; omega
    · show 0 ≤ (y 2).val ∧ (y 2).val < 0 + 1536; omega
theorem setU_disjoint : ∀ b b' : Fin 2 × Fin 4, b ≠ b' → Disjoint (setU b) (setU b') := by
  intro b b' hne; rw [Finset.disjoint_left]; intro y hy hy'; rw [mem_setU] at hy hy'
  exact hne (Prod.ext (Fin.ext (by omega)) (Fin.ext (by omega)))
theorem setU_cover : (Finset.univ : Finset (Fin 2 × Fin 4)).biUnion setU = Finset.univ := by
  ext y; simp only [Finset.mem_biUnion, Finset.mem_univ, true_and, iff_true]
  have h0 : (y 0).val < 2 := (y 0).isLt
  have h1 : (y 1).val < 5120 := (y 1).isLt
  exact ⟨(⟨(y 0).val, h0⟩, ⟨(y 1).val / 1280, by omega⟩), by rw [mem_setU]; dsimp only; omega⟩

variable (c : Dev nD) (W : Buf (Elt F) (wUM.view.loc (c : Thread nD τ)))

omit [FloatOps F] in
theorem slotPU_eq (s : Fin 2) (k : Fin 4) (f) : slotPU c s k f = (((c : Thread nD τ).loc cc0_scratch7) ↦[setU (s, k)]{fullShare} f : sProp 𝕄) :=
  congrArg (fun S => (_ ↦[S]{fullShare} f : sProp 𝕄)) (slot_setU s k)
omit [FloatOps F] in
theorem bigSep_pairsU (Φ : Fin 2 × Fin 4 → sProp 𝕄) : bigSep Finset.univ Φ = iprop(Φ (0, 0) ∗ Φ (0, 1) ∗ Φ (0, 2) ∗ Φ (0, 3) ∗ Φ (1, 0) ∗ Φ (1, 1) ∗ Φ (1, 2) ∗ Φ (1, 3)) :=
  bigSep_univ_eq_bigSepL [((0 : Fin 2), (0 : Fin 4)), ((0 : Fin 2), (1 : Fin 4)), ((0 : Fin 2), (2 : Fin 4)), ((0 : Fin 2), (3 : Fin 4)), ((1 : Fin 2), (0 : Fin 4)), ((1 : Fin 2), (1 : Fin 4)), ((1 : Fin 2), (2 : Fin 4)), ((1 : Fin 2), (3 : Fin 4))] (by decide) (by decide) Φ
omit [FloatOps F] in
theorem bigSep_listU (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), (1 : Fin 8), (2 : Fin 8), (3 : Fin 8), (4 : Fin 8), (5 : Fin 8), (6 : Fin 8), (7 : Fin 8)] (by decide) (by decide) Φ

/-- The scratch buffer whole is its windows, -/
theorem bufU_split : iprop(∃ f : Buf (Elt F) ((c : Thread nD τ).loc cc0_scratch7), ((c : Thread nD τ).loc cc0_scratch7) ↦{fullShare} f) ⊢ (iprop((∃ f, slotPU c 0 0 f) ∗ (∃ f, slotPU c 0 1 f) ∗ (∃ f, slotPU c 0 2 f) ∗ (∃ f, slotPU c 0 3 f) ∗ (∃ f, slotPU c 1 0 f) ∗ (∃ f, slotPU c 1 1 f) ∗ (∃ f, slotPU c 1 2 f) ∗ (∃ f, slotPU c 1 3 f)) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch7) setU setU_disjoint setU_cover f).trans (bigSep_pairsU _))) $$ H
  icases H2 with ⟨H00, H01, H02, H03, H10, H11, H12, H13⟩
  isplitl [H00]; · iexists f; iapply (entails_of_eq (slotPU_eq c 0 0 f).symm); iexact H00
  isplitl [H01]; · iexists f; iapply (entails_of_eq (slotPU_eq c 0 1 f).symm); iexact H01
  isplitl [H02]; · iexists f; iapply (entails_of_eq (slotPU_eq c 0 2 f).symm); iexact H02
  isplitl [H03]; · iexists f; iapply (entails_of_eq (slotPU_eq c 0 3 f).symm); iexact H03
  isplitl [H10]; · iexists f; iapply (entails_of_eq (slotPU_eq c 1 0 f).symm); iexact H10
  isplitl [H11]; · iexists f; iapply (entails_of_eq (slotPU_eq c 1 1 f).symm); iexact H11
  isplitl [H12]; · iexists f; iapply (entails_of_eq (slotPU_eq c 1 2 f).symm); iexact H12
  iexists f; iapply (entails_of_eq (slotPU_eq c 1 3 f).symm); iexact H13
/-- and back. -/
theorem bufU_join : iprop((∃ f, slotPU c 0 0 f) ∗ (∃ f, slotPU c 0 1 f) ∗ (∃ f, slotPU c 0 2 f) ∗ (∃ f, slotPU c 0 3 f) ∗ (∃ f, slotPU c 1 0 f) ∗ (∃ f, slotPU c 1 1 f) ∗ (∃ f, slotPU c 1 2 f) ∗ (∃ f, slotPU c 1 3 f)) ⊢ (iprop(∃ f : Buf (Elt F) ((c : Thread nD τ).loc cc0_scratch7), ((c : Thread nD τ).loc cc0_scratch7) ↦{fullShare} f) : sProp 𝕄) := by
  iintro ⟨⟨%f00, H00⟩, ⟨%f01, H01⟩, ⟨%f02, H02⟩, ⟨%f03, H03⟩, ⟨%f10, H10⟩, ⟨%f11, H11⟩, ⟨%f12, H12⟩, ⟨%f13, H13⟩⟩
  iapply (Ring.pointsTo_blocks_join_exists (ℓ := (c : Thread nD τ).loc cc0_scratch7) setU setU_disjoint setU_cover f00)
  irw [bigSep_pairsU]
  isplitl [H00]; · iexists f00; iapply (entails_of_eq (slotPU_eq c 0 0 f00)); iexact H00
  isplitl [H01]; · iexists f01; iapply (entails_of_eq (slotPU_eq c 0 1 f01)); iexact H01
  isplitl [H02]; · iexists f02; iapply (entails_of_eq (slotPU_eq c 0 2 f02)); iexact H02
  isplitl [H03]; · iexists f03; iapply (entails_of_eq (slotPU_eq c 0 3 f03)); iexact H03
  isplitl [H10]; · iexists f10; iapply (entails_of_eq (slotPU_eq c 1 0 f10)); iexact H10
  isplitl [H11]; · iexists f11; iapply (entails_of_eq (slotPU_eq c 1 1 f11)); iexact H11
  isplitl [H12]; · iexists f12; iapply (entails_of_eq (slotPU_eq c 1 2 f12)); iexact H12
  iexists f13; iapply (entails_of_eq (slotPU_eq c 1 3 f13)); iexact H13

/-- The array whole is its read tokens and what is left of it. -/
theorem toksU : (((c : Thread nD τ).loc main_arg5) ↦{fullShare} W : sProp 𝕄)
    ⊣⊢ iprop((((c : Thread nD τ).loc main_arg5) ↦{Transfers.shareDrop fullShare 8} W) ∗ tokPU c W 0 0 ∗ tokPU c W 0 1 ∗ tokPU c W 0 2 ∗ tokPU c W 0 3 ∗ tokPU c W 1 0 ∗ tokPU c W 1 1 ∗ tokPU c W 1 2 ∗ tokPU c W 1 3) := by
  have h := Transfers.pointsTo_toks (Ix := Unit) (Name := ℕ) (U := UU nD τ) (Lvl := ℕ) (S := Finset.univ) (ℓ := (c : Thread nD τ).loc main_arg5) (f := W) fullShare 8
  rw [bigSep_listU] at h
  exact h

/-- From the scratch buffer, the semaphores at zero and the array: both slots idle, -/
theorem idleU_in : iprop((∃ f : Buf (Elt F) ((c : Thread nD τ).loc cc0_scratch7), ((c : Thread nD τ).loc cc0_scratch7) ↦{fullShare} f) ∗ (cellU c 0 0 ∗ cellU c 0 1 ∗ cellU c 0 2 ∗ cellU c 0 3 ∗ cellU c 1 0 ∗ cellU c 1 1 ∗ cellU c 1 2 ∗ cellU c 1 3) ∗ (((c : Thread nD τ).loc main_arg5) ↦{fullShare} W))
    ⊢ (iprop((((c : Thread nD τ).loc main_arg5) ↦{Transfers.shareDrop fullShare 8} W) ∗ bigSep Finset.univ (freeU c W 0) ∗ bigSep Finset.univ (freeU c W 1)) : sProp 𝕄) := by
  iintro ⟨HB, ⟨HC00, HC01, HC02, HC03, HC10, HC11, HC12, HC13⟩, HW⟩
  ihave HB := (bufU_split c) $$ HB
  icases HB with ⟨HS00, HS01, HS02, HS03, HS10, HS11, HS12, HS13⟩
  ihave HW := (toksU c W).1 $$ HW
  icases HW with ⟨HW, HT00, HT01, HT02, HT03, HT10, HT11, HT12, HT13⟩
  isplitl [HW]; · iexact HW
  isplitl [HS00 HC00 HT00 HS01 HC01 HT01 HS02 HC02 HT02 HS03 HC03 HT03]
  · irw [bigSep_fin4]
    unfold freeU
    isplitl [HS00 HC00 HT00]
    · isplitl [HS00]; · iexact HS00
      isplitl [HC00]; · iexact HC00
      iexact HT00
    isplitl [HS01 HC01 HT01]
    · isplitl [HS01]; · iexact HS01
      isplitl [HC01]; · iexact HC01
      iexact HT01
    isplitl [HS02 HC02 HT02]
    · isplitl [HS02]; · iexact HS02
      isplitl [HC02]; · iexact HC02
      iexact HT02
    isplitl [HS03]; · iexact HS03
    isplitl [HC03]; · iexact HC03
    iexact HT03
  · irw [bigSep_fin4]
    unfold freeU
    isplitl [HS10 HC10 HT10]
    · isplitl [HS10]; · iexact HS10
      isplitl [HC10]; · iexact HC10
      iexact HT10
    isplitl [HS11 HC11 HT11]
    · isplitl [HS11]; · iexact HS11
      isplitl [HC11]; · iexact HC11
      iexact HT11
    isplitl [HS12 HC12 HT12]
    · isplitl [HS12]; · iexact HS12
      isplitl [HC12]; · iexact HC12
      iexact HT12
    isplitl [HS13]; · iexact HS13
    isplitl [HC13]; · iexact HC13
    iexact HT13

/-- and back. -/
theorem idleU_out : iprop((((c : Thread nD τ).loc main_arg5) ↦{Transfers.shareDrop fullShare 8} W) ∗ bigSep Finset.univ (freeU c W 0) ∗ bigSep Finset.univ (freeU c W 1))
    ⊢ (iprop((∃ f : Buf (Elt F) ((c : Thread nD τ).loc cc0_scratch7), ((c : Thread nD τ).loc cc0_scratch7) ↦{fullShare} f) ∗ (cellU c 0 0 ∗ cellU c 0 1 ∗ cellU c 0 2 ∗ cellU c 0 3 ∗ cellU c 1 0 ∗ cellU c 1 1 ∗ cellU c 1 2 ∗ cellU c 1 3) ∗ (((c : Thread nD τ).loc main_arg5) ↦{fullShare} W)) : sProp 𝕄) := by
  rw [bigSep_fin4, bigSep_fin4]
  unfold freeU
  iintro ⟨HW, ⟨⟨HS00, HC00, HT00⟩, ⟨HS01, HC01, HT01⟩, ⟨HS02, HC02, HT02⟩, ⟨HS03, HC03, HT03⟩⟩, ⟨⟨HS10, HC10, HT10⟩, ⟨HS11, HC11, HT11⟩, ⟨HS12, HC12, HT12⟩, ⟨HS13, HC13, HT13⟩⟩⟩
  isplitl [HS00 HS01 HS02 HS03 HS10 HS11 HS12 HS13]
  · iapply (bufU_join c)
    isplitl [HS00]; · iexact HS00
    isplitl [HS01]; · iexact HS01
    isplitl [HS02]; · iexact HS02
    isplitl [HS03]; · iexact HS03
    isplitl [HS10]; · iexact HS10
    isplitl [HS11]; · iexact HS11
    isplitl [HS12]; · iexact HS12
    iexact HS13
  isplitl [HC00 HC01 HC02 HC03 HC10 HC11 HC12 HC13]
  · isplitl [HC00]; · iexact HC00
    isplitl [HC01]; · iexact HC01
    isplitl [HC02]; · iexact HC02
    isplitl [HC03]; · iexact HC03
    isplitl [HC10]; · iexact HC10
    isplitl [HC11]; · iexact HC11
    isplitl [HC12]; · iexact HC12
    iexact HC13
  iapply (toksU c W).2
  isplitl [HW]; · iexact HW
  isplitl [HT00]; · iexact HT00
  isplitl [HT01]; · iexact HT01
  isplitl [HT02]; · iexact HT02
  isplitl [HT03]; · iexact HT03
  isplitl [HT10]; · iexact HT10
  isplitl [HT11]; · iexact HT11
  isplitl [HT12]; · iexact HT12
  iexact HT13
end IdleU

/-! ## The stream of `main_arg7` -/

section IdleD
/-- The elements of chunk `b.2` of slot `b.1`. -/
abbrev setD (b : Fin 2 × Fin 3) : Finset S2x1536x5120.Idx := (Rect.unit (s := S2x1536x5120) (slotOffD b.1 b.2) S1x512x5120.size (slotOffD_inb b.1 b.2)).set
theorem slot_setD (s : Fin 2) (k : Fin 3) : (slotD s k).view.set = setD (s, k) := (View.set_reshape _ _).trans (View.set_slice_whole _ _)
theorem mem_setD (b : Fin 2 × Fin 3) (y : S2x1536x5120.Idx) : y ∈ setD b ↔ (y 0).val = b.1.val ∧ 512 * b.2.val ≤ (y 1).val ∧ (y 1).val < 512 * b.2.val + 512 := by
  rw [Rect.mem_set_unit]
  have h2 : (y 2).val < 5120 := (y 2).isLt
  constructor
  · intro H
    have a0 : b.1.val ≤ (y 0).val ∧ (y 0).val < b.1.val + 1 := H 0
    have a1 : 512 * b.2.val ≤ (y 1).val ∧ (y 1).val < 512 * b.2.val + 512 := H 1
    omega
  · intro H i; fin_cases i
    · show b.1.val ≤ (y 0).val ∧ (y 0).val < b.1.val + 1; omega
    · show 512 * b.2.val ≤ (y 1).val ∧ (y 1).val < 512 * b.2.val + 512; omega
    · show 0 ≤ (y 2).val ∧ (y 2).val < 0 + 5120; omega
theorem setD_disjoint : ∀ b b' : Fin 2 × Fin 3, b ≠ b' → Disjoint (setD b) (setD b') := by
  intro b b' hne; rw [Finset.disjoint_left]; intro y hy hy'; rw [mem_setD] at hy hy'
  exact hne (Prod.ext (Fin.ext (by omega)) (Fin.ext (by omega)))
theorem setD_cover : (Finset.univ : Finset (Fin 2 × Fin 3)).biUnion setD = Finset.univ := by
  ext y; simp only [Finset.mem_biUnion, Finset.mem_univ, true_and, iff_true]
  have h0 : (y 0).val < 2 := (y 0).isLt
  have h1 : (y 1).val < 1536 := (y 1).isLt
  exact ⟨(⟨(y 0).val, h0⟩, ⟨(y 1).val / 512, by omega⟩), by rw [mem_setD]; dsimp only; omega⟩

variable (c : Dev nD) (W : Buf (Elt F) (wDM.view.loc (c : Thread nD τ)))

omit [FloatOps F] in
theorem slotPD_eq (s : Fin 2) (k : Fin 3) (f) : slotPD c s k f = (((c : Thread nD τ).loc cc0_scratch8) ↦[setD (s, k)]{fullShare} f : sProp 𝕄) :=
  congrArg (fun S => (_ ↦[S]{fullShare} f : sProp 𝕄)) (slot_setD s k)
omit [FloatOps F] in
theorem bigSep_pairsD (Φ : Fin 2 × Fin 3 → sProp 𝕄) : bigSep Finset.univ Φ = iprop(Φ (0, 0) ∗ Φ (0, 1) ∗ Φ (0, 2) ∗ Φ (1, 0) ∗ Φ (1, 1) ∗ Φ (1, 2)) :=
  bigSep_univ_eq_bigSepL [((0 : Fin 2), (0 : Fin 3)), ((0 : Fin 2), (1 : Fin 3)), ((0 : Fin 2), (2 : Fin 3)), ((1 : Fin 2), (0 : Fin 3)), ((1 : Fin 2), (1 : Fin 3)), ((1 : Fin 2), (2 : Fin 3))] (by decide) (by decide) Φ
omit [FloatOps F] in
theorem bigSep_listD (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), (1 : Fin 6), (2 : Fin 6), (3 : Fin 6), (4 : Fin 6), (5 : Fin 6)] (by decide) (by decide) Φ

/-- The scratch buffer whole is its windows, -/
theorem bufD_split : iprop(∃ f : Buf (Elt F) ((c : Thread nD τ).loc cc0_scratch8), ((c : Thread nD τ).loc cc0_scratch8) ↦{fullShare} f) ⊢ (iprop((∃ f, slotPD c 0 0 f) ∗ (∃ f, slotPD c 0 1 f) ∗ (∃ f, slotPD c 0 2 f) ∗ (∃ f, slotPD c 1 0 f) ∗ (∃ f, slotPD c 1 1 f) ∗ (∃ f, slotPD c 1 2 f)) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch8) setD setD_disjoint setD_cover f).trans (bigSep_pairsD _))) $$ H
  icases H2 with ⟨H00, H01, H02, H10, H11, H12⟩
  isplitl [H00]; · iexists f; iapply (entails_of_eq (slotPD_eq c 0 0 f).symm); iexact H00
  isplitl [H01]; · iexists f; iapply (entails_of_eq (slotPD_eq c 0 1 f).symm); iexact H01
  isplitl [H02]; · iexists f; iapply (entails_of_eq (slotPD_eq c 0 2 f).symm); iexact H02
  isplitl [H10]; · iexists f; iapply (entails_of_eq (slotPD_eq c 1 0 f).symm); iexact H10
  isplitl [H11]; · iexists f; iapply (entails_of_eq (slotPD_eq c 1 1 f).symm); iexact H11
  iexists f; iapply (entails_of_eq (slotPD_eq c 1 2 f).symm); iexact H12
/-- and back. -/
theorem bufD_join : iprop((∃ f, slotPD c 0 0 f) ∗ (∃ f, slotPD c 0 1 f) ∗ (∃ f, slotPD c 0 2 f) ∗ (∃ f, slotPD c 1 0 f) ∗ (∃ f, slotPD c 1 1 f) ∗ (∃ f, slotPD c 1 2 f)) ⊢ (iprop(∃ f : Buf (Elt F) ((c : Thread nD τ).loc cc0_scratch8), ((c : Thread nD τ).loc cc0_scratch8) ↦{fullShare} f) : sProp 𝕄) := by
  iintro ⟨⟨%f00, H00⟩, ⟨%f01, H01⟩, ⟨%f02, H02⟩, ⟨%f10, H10⟩, ⟨%f11, H11⟩, ⟨%f12, H12⟩⟩
  iapply (Ring.pointsTo_blocks_join_exists (ℓ := (c : Thread nD τ).loc cc0_scratch8) setD setD_disjoint setD_cover f00)
  irw [bigSep_pairsD]
  isplitl [H00]; · iexists f00; iapply (entails_of_eq (slotPD_eq c 0 0 f00)); iexact H00
  isplitl [H01]; · iexists f01; iapply (entails_of_eq (slotPD_eq c 0 1 f01)); iexact H01
  isplitl [H02]; · iexists f02; iapply (entails_of_eq (slotPD_eq c 0 2 f02)); iexact H02
  isplitl [H10]; · iexists f10; iapply (entails_of_eq (slotPD_eq c 1 0 f10)); iexact H10
  isplitl [H11]; · iexists f11; iapply (entails_of_eq (slotPD_eq c 1 1 f11)); iexact H11
  iexists f12; iapply (entails_of_eq (slotPD_eq c 1 2 f12)); iexact H12

/-- The array whole is its read tokens and what is left of it. -/
theorem toksD : (((c : Thread nD τ).loc main_arg7) ↦{fullShare} W : sProp 𝕄)
    ⊣⊢ iprop((((c : Thread nD τ).loc main_arg7) ↦{Transfers.shareDrop fullShare 6} W) ∗ tokPD c W 0 0 ∗ tokPD c W 0 1 ∗ tokPD c W 0 2 ∗ tokPD c W 1 0 ∗ tokPD c W 1 1 ∗ tokPD c W 1 2) := by
  have h := Transfers.pointsTo_toks (Ix := Unit) (Name := ℕ) (U := UU nD τ) (Lvl := ℕ) (S := Finset.univ) (ℓ := (c : Thread nD τ).loc main_arg7) (f := W) fullShare 6
  rw [bigSep_listD] at h
  exact h

/-- From the scratch buffer, the semaphores at zero and the array: both slots idle, -/
theorem idleD_in : iprop((∃ f : Buf (Elt F) ((c : Thread nD τ).loc cc0_scratch8), ((c : Thread nD τ).loc cc0_scratch8) ↦{fullShare} f) ∗ (cellD c 0 0 ∗ cellD c 0 1 ∗ cellD c 0 2 ∗ cellD c 1 0 ∗ cellD c 1 1 ∗ cellD c 1 2) ∗ (((c : Thread nD τ).loc main_arg7) ↦{fullShare} W))
    ⊢ (iprop((((c : Thread nD τ).loc main_arg7) ↦{Transfers.shareDrop fullShare 6} W) ∗ bigSep Finset.univ (freeD c W 0) ∗ bigSep Finset.univ (freeD c W 1)) : sProp 𝕄) := by
  iintro ⟨HB, ⟨HC00, HC01, HC02, HC10, HC11, HC12⟩, HW⟩
  ihave HB := (bufD_split c) $$ HB
  icases HB with ⟨HS00, HS01, HS02, HS10, HS11, HS12⟩
  ihave HW := (toksD c W).1 $$ HW
  icases HW with ⟨HW, HT00, HT01, HT02, HT10, HT11, HT12⟩
  isplitl [HW]; · iexact HW
  isplitl [HS00 HC00 HT00 HS01 HC01 HT01 HS02 HC02 HT02]
  · irw [bigSep_fin3]
    unfold freeD
    isplitl [HS00 HC00 HT00]
    · isplitl [HS00]; · iexact HS00
      isplitl [HC00]; · iexact HC00
      iexact HT00
    isplitl [HS01 HC01 HT01]
    · isplitl [HS01]; · iexact HS01
      isplitl [HC01]; · iexact HC01
      iexact HT01
    isplitl [HS02]; · iexact HS02
    isplitl [HC02]; · iexact HC02
    iexact HT02
  · irw [bigSep_fin3]
    unfold freeD
    isplitl [HS10 HC10 HT10]
    · isplitl [HS10]; · iexact HS10
      isplitl [HC10]; · iexact HC10
      iexact HT10
    isplitl [HS11 HC11 HT11]
    · isplitl [HS11]; · iexact HS11
      isplitl [HC11]; · iexact HC11
      iexact HT11
    isplitl [HS12]; · iexact HS12
    isplitl [HC12]; · iexact HC12
    iexact HT12

/-- and back. -/
theorem idleD_out : iprop((((c : Thread nD τ).loc main_arg7) ↦{Transfers.shareDrop fullShare 6} W) ∗ bigSep Finset.univ (freeD c W 0) ∗ bigSep Finset.univ (freeD c W 1))
    ⊢ (iprop((∃ f : Buf (Elt F) ((c : Thread nD τ).loc cc0_scratch8), ((c : Thread nD τ).loc cc0_scratch8) ↦{fullShare} f) ∗ (cellD c 0 0 ∗ cellD c 0 1 ∗ cellD c 0 2 ∗ cellD c 1 0 ∗ cellD c 1 1 ∗ cellD c 1 2) ∗ (((c : Thread nD τ).loc main_arg7) ↦{fullShare} W)) : sProp 𝕄) := by
  rw [bigSep_fin3, bigSep_fin3]
  unfold freeD
  iintro ⟨HW, ⟨⟨HS00, HC00, HT00⟩, ⟨HS01, HC01, HT01⟩, ⟨HS02, HC02, HT02⟩⟩, ⟨⟨HS10, HC10, HT10⟩, ⟨HS11, HC11, HT11⟩, ⟨HS12, HC12, HT12⟩⟩⟩
  isplitl [HS00 HS01 HS02 HS10 HS11 HS12]
  · iapply (bufD_join c)
    isplitl [HS00]; · iexact HS00
    isplitl [HS01]; · iexact HS01
    isplitl [HS02]; · iexact HS02
    isplitl [HS10]; · iexact HS10
    isplitl [HS11]; · iexact HS11
    iexact HS12
  isplitl [HC00 HC01 HC02 HC10 HC11 HC12]
  · isplitl [HC00]; · iexact HC00
    isplitl [HC01]; · iexact HC01
    isplitl [HC02]; · iexact HC02
    isplitl [HC10]; · iexact HC10
    isplitl [HC11]; · iexact HC11
    iexact HC12
  iapply (toksD c W).2
  isplitl [HW]; · iexact HW
  isplitl [HT00]; · iexact HT00
  isplitl [HT01]; · iexact HT01
  isplitl [HT02]; · iexact HT02
  isplitl [HT10]; · iexact HT10
  isplitl [HT11]; · iexact HT11
  iexact HT12
end IdleD

end Cert.Proof.I
-- ==== Proof.I.Launch.lean ====
module

public import proofs.«01_k».proof.Proof.I.Body
public import proofs.«01_k».proof.Proof.I.Idle
public import proofs.«01_k».proof.Proof.Gen.KernelIdeal.Frame
public import Idealize.ShloMosaic.Lib.Pipeline.KitQuiescent

@[expose] public section

noncomputable section

namespace Cert.Proof.I

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (m : (ℓ : Loc nD τ sig) → Buf (Elt F) ℓ) (ρ : Dev nD → PrngReg)

omit [FloatOps F] in
theorem own_eq (c : Dev nD) (b : Ref sig .tc) (f : Buf (Elt F) ((c : Thread nD τ).loc b)) :
    own c b f = (((c : Thread nD τ).loc b) ↦{fullShare} f : sProp 𝕄) :=
  congrArg (fun S => (((c : Thread nD τ).loc b) ↦[S]{fullShare} f : sProp 𝕄)) (View.set_whole b)

/-! ## The kernel's own semaphores -/

abbrev osem : Fin 24 → SemLoc sig := fun i => .dma ⟨i.val, i.isLt⟩
theorem ownSemFacts : Pipeline.OwnSemFacts cfg0.spec osem := by decide
omit [FloatOps F] in
theorem bigSep_fin24 (Φ : Fin 24 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23) :=
  bigSep_univ_eq_bigSepL [(0 : Fin 24), (1 : Fin 24), (2 : Fin 24), (3 : Fin 24), (4 : Fin 24), (5 : Fin 24), (6 : Fin 24), (7 : Fin 24), (8 : Fin 24), (9 : Fin 24), (10 : Fin 24), (11 : Fin 24), (12 : Fin 24), (13 : Fin 24), (14 : Fin 24), (15 : Fin 24), (16 : Fin 24), (17 : Fin 24), (18 : Fin 24), (19 : Fin 24), (20 : Fin 24), (21 : Fin 24), (22 : Fin 24), (23 : Fin 24)] (by decide) (by decide) Φ
omit [FloatOps F] in
/-- The kernel's semaphores at zero are those of the small copies and those of the two streams, -/
theorem sems_in (c : Dev nD) : (Pipeline.ownSems0 (Ix := Unit) (Name := ℕ) (U := UU nD τ) (Lvl := ℕ) (Val := Elt F) (τ := τ) osem c : sProp 𝕄)
    ⊢ iprop(cellsS c ∗ (cellU c 0 0 ∗ cellU c 0 1 ∗ cellU c 0 2 ∗ cellU c 0 3 ∗ cellU c 1 0 ∗ cellU c 1 1 ∗ cellU c 1 2 ∗ cellU c 1 3) ∗ (cellD c 0 0 ∗ cellD c 0 1 ∗ cellD c 0 2 ∗ cellD c 1 0 ∗ cellD c 1 1 ∗ cellD c 1 2)) := by
  unfold Pipeline.ownSems0 cellsS
  rw [bigSep_fin24]
  iintro ⟨HQ0, HQ1, HQ2, HQ3, HQ4, HQ5, HQ6, HQ7, HQ8, HQ9, HQ10, HQ11, HQ12, HQ13, HQ14, HQ15, HQ16, HQ17, HQ18, HQ19, HQ20, HQ21, HQ22, HQ23⟩
  isplitl [HQ0 HQ1 HQ2 HQ3 HQ4 HQ5 HQ6 HQ21 HQ22 HQ23]
  · isplitl [HQ0]; · iexact HQ0
    isplitl [HQ1]; · iexact HQ1
    isplitl [HQ2]; · iexact HQ2
    isplitl [HQ3]; · iexact HQ3
    isplitl [HQ4]; · iexact HQ4
    isplitl [HQ5]; · iexact HQ5
    isplitl [HQ6]; · iexact HQ6
    isplitl [HQ21]; · iexact HQ21
    isplitl [HQ22]; · iexact HQ22
    iexact HQ23
  isplitl [HQ7 HQ8 HQ9 HQ10 HQ11 HQ12 HQ13 HQ14]
  · isplitl [HQ7]; · iexact HQ7
    isplitl [HQ8]; · iexact HQ8
    isplitl [HQ9]; · iexact HQ9
    isplitl [HQ10]; · iexact HQ10
    isplitl [HQ11]; · iexact HQ11
    isplitl [HQ12]; · iexact HQ12
    isplitl [HQ13]; · iexact HQ13
    iexact HQ14
  isplitl [HQ15]; · iexact HQ15
  isplitl [HQ16]; · iexact HQ16
  isplitl [HQ17]; · iexact HQ17
  isplitl [HQ18]; · iexact HQ18
  isplitl [HQ19]; · iexact HQ19
  iexact HQ20

omit [FloatOps F] in
/-- and back. -/
theorem sems_out (c : Dev nD) : iprop(cellsS c ∗ (cellU c 0 0 ∗ cellU c 0 1 ∗ cellU c 0 2 ∗ cellU c 0 3 ∗ cellU c 1 0 ∗ cellU c 1 1 ∗ cellU c 1 2 ∗ cellU c 1 3) ∗ (cellD c 0 0 ∗ cellD c 0 1 ∗ cellD c 0 2 ∗ cellD c 1 0 ∗ cellD c 1 1 ∗ cellD c 1 2))
    ⊢ (Pipeline.ownSems0 (Ix := Unit) (Name := ℕ) (U := UU nD τ) (Lvl := ℕ) (Val := Elt F) (τ := τ) osem c : sProp 𝕄) := by
  unfold Pipeline.ownSems0 cellsS
  rw [bigSep_fin24]
  iintro ⟨⟨HQ0, HQ1, HQ2, HQ3, HQ4, HQ5, HQ6, HQ21, HQ22, HQ23⟩, ⟨HQ7, HQ8, HQ9, HQ10, HQ11, HQ12, HQ13, HQ14⟩, ⟨HQ15, HQ16, HQ17, HQ18, HQ19, HQ20⟩⟩
  isplitl [HQ0]; · iexact HQ0
  isplitl [HQ1]; · iexact HQ1
  isplitl [HQ2]; · iexact HQ2
  isplitl [HQ3]; · iexact HQ3
  isplitl [HQ4]; · iexact HQ4
  isplitl [HQ5]; · iexact HQ5
  isplitl [HQ6]; · iexact HQ6
  isplitl [HQ7]; · iexact HQ7
  isplitl [HQ8]; · iexact HQ8
  isplitl [HQ9]; · iexact HQ9
  isplitl [HQ10]; · iexact HQ10
  isplitl [HQ11]; · iexact HQ11
  isplitl [HQ12]; · iexact HQ12
  isplitl [HQ13]; · iexact HQ13
  isplitl [HQ14]; · iexact HQ14
  isplitl [HQ15]; · iexact HQ15
  isplitl [HQ16]; · iexact HQ16
  isplitl [HQ17]; · iexact HQ17
  isplitl [HQ18]; · iexact HQ18
  isplitl [HQ19]; · iexact HQ19
  isplitl [HQ20]; · iexact HQ20
  isplitl [HQ21]; · iexact HQ21
  isplitl [HQ22]; · iexact HQ22
  iexact HQ23

/-! ## The proof data of the region -/

/-- What the proof needs of the memory at launch: on every core the list and the count are in range. -/
def PreOK : Prop := ∀ c : Dev nD, InOK c (V m c main_arg0) (V m c main_arg1)

/-- The results the body finds on core `c` when its four buffers hold `f9`, `f17`, `f18`, `f19` at the start. -/
def outOf (h : PreOK m) (c : Dev nD) (f9 : Buf (Elt F) ((c : Thread nD τ).loc cc0_scratch9)) (f17 : Buf (Elt F) ((c : Thread nD τ).loc cc0_scratch17))
    (f18 : Buf (Elt F) ((c : Thread nD τ).loc cc0_scratch18)) (f19 : Buf (Elt F) ((c : Thread nD τ).loc cc0_scratch19)) : Outs (F := F) c :=
  (bodyRun c (V m c main_arg5) (V m c main_arg7) (V m c main_arg0) (V m c main_arg1) (V m c main_arg3) (V m c main_arg4) (V m c main_v0) (V m c main_v1) (V m c main_v2) (h c) f9 f17 f18 f19).1

/-- The body, from idle arrays and buffers to idle ones and the results it finds. -/
theorem body_wp (h : PreOK m) (c : Dev nD) (f9 : Buf (Elt F) ((c : Thread nD τ).loc cc0_scratch9)) (f17 : Buf (Elt F) ((c : Thread nD τ).loc cc0_scratch17))
    (f18 : Buf (Elt F) ((c : Thread nD τ).loc cc0_scratch18)) (f19 : Buf (Elt F) ((c : Thread nD τ).loc cc0_scratch19)) :
    iprop(readsP c (V m c main_arg0) (V m c main_arg1) (V m c main_arg3) (V m c main_arg4) (V m c main_v0) (V m c main_v1) (V m c main_v2) ∗ (∃ o, outsP c o) ∗ scratchP c ∗ own c cc0_scratch9 f9 ∗ own c cc0_scratch17 f17
      ∗ own c cc0_scratch18 f18 ∗ own c cc0_scratch19 f19 ∗ streamsP c (V m c main_arg5) (V m c main_arg7) ∗ cellsS c ∗ (∃ W, owes c 0 W))
    ⊢ wp frame (wpE defs₀ 𝒱₀ c none) Set.univ bodyG
      (fun _ => iprop(readsP c (V m c main_arg0) (V m c main_arg1) (V m c main_arg3) (V m c main_arg4) (V m c main_v0) (V m c main_v1) (V m c main_v2) ∗ outsP c (outOf m h c f9 f17 f18 f19) ∗ scratchP c ∗ (∃ f, own c cc0_scratch9 f) ∗ (∃ f, own c cc0_scratch17 f)
        ∗ (∃ f, own c cc0_scratch18 f) ∗ (∃ f, own c cc0_scratch19 f) ∗ streamsP c (V m c main_arg5) (V m c main_arg7) ∗ cellsS c ∗ (∃ W, owes c 0 W))) :=
  (bodyRun c (V m c main_arg5) (V m c main_arg7) (V m c main_arg0) (V m c main_arg1) (V m c main_arg3) (V m c main_arg4) (V m c main_v0) (V m c main_v1) (V m c main_v2) (h c) f9 f17 f18 f19).2

/-- The same, with a continuation. -/
theorem body_run (h : PreOK m) (c : Dev nD) (f9 : Buf (Elt F) ((c : Thread nD τ).loc cc0_scratch9)) (f17 : Buf (Elt F) ((c : Thread nD τ).loc cc0_scratch17))
    (f18 : Buf (Elt F) ((c : Thread nD τ).loc cc0_scratch18)) (f19 : Buf (Elt F) ((c : Thread nD τ).loc cc0_scratch19)) (Q : PUnit → sProp 𝕄) :
    iprop((readsP c (V m c main_arg0) (V m c main_arg1) (V m c main_arg3) (V m c main_arg4) (V m c main_v0) (V m c main_v1) (V m c main_v2) ∗ (∃ o, outsP c o) ∗ scratchP c ∗ own c cc0_scratch9 f9 ∗ own c cc0_scratch17 f17
      ∗ own c cc0_scratch18 f18 ∗ own c cc0_scratch19 f19 ∗ streamsP c (V m c main_arg5) (V m c main_arg7) ∗ cellsS c ∗ (∃ W, owes c 0 W))
      ∗ (∀ a, (readsP c (V m c main_arg0) (V m c main_arg1) (V m c main_arg3) (V m c main_arg4) (V m c main_v0) (V m c main_v1) (V m c main_v2) ∗ outsP c (outOf m h c f9 f17 f18 f19) ∗ scratchP c ∗ (∃ f, own c cc0_scratch9 f) ∗ (∃ f, own c cc0_scratch17 f)
        ∗ (∃ f, own c cc0_scratch18 f) ∗ (∃ f, own c cc0_scratch19 f) ∗ streamsP c (V m c main_arg5) (V m c main_arg7) ∗ cellsS c ∗ (∃ W, owes c 0 W)) -∗ Q a))
    ⊢ wp frame (wpE defs₀ 𝒱₀ c none) Set.univ bodyG Q :=
  (BI.sep_mono_l (body_wp m h c f9 f17 f18 f19)).trans (wp_wand_r frame (wpE defs₀ 𝒱₀ c none) Set.univ)

/-- The results are those the body finds, for some contents of its buffers at the start. -/
def IsOut (h : PreOK m) (c : Dev nD) (o : Outs (F := F) c) : Prop := ∃ f9 f17 f18 f19, o = outOf m h c f9 f17 f18 f19

/-- Everything but the results, idle. -/
def restP (c : Dev nD) : sProp 𝕄 :=
  iprop(readsP c (V m c main_arg0) (V m c main_arg1) (V m c main_arg3) (V m c main_arg4) (V m c main_v0) (V m c main_v1) (V m c main_v2) ∗ scratchP c
    ∗ (∃ f, own c cc0_scratch9 f) ∗ (∃ f, own c cc0_scratch17 f) ∗ (∃ f, own c cc0_scratch18 f) ∗ (∃ f, own c cc0_scratch19 f)
    ∗ streamsP c (V m c main_arg5) (V m c main_arg7) ∗ cellsS c
    ∗ (((c : Thread nD τ).loc main_arg5) ↦{Transfers.shareDrop fullShare 8} V m c main_arg5)
    ∗ (((c : Thread nD τ).loc main_arg7) ↦{Transfers.shareDrop fullShare 6} V m c main_arg7))

/-- Before the one point the results hold anything, after it what the body finds. -/
def Φ (h : PreOK m) (c : Dev nD) (t : Fin (cfg0.N + 1)) : sProp 𝕄 :=
  iprop(restP m c ∗ ∃ o, outsP c o ∗ ⌜t.val = 0 ∨ IsOut m h c o⌝)

def dats (h : PreOK m) (_ : Fin 1) (c : Dev nD) : Pipeline.Dat τ (Elt F) Unit ℕ (UU nD τ) ℕ cfg0 c where
  A w := V m c (Pipeline.arrRef cfg0.spec w)
  after w _ := w.elim0
  Φ t := Φ m h c t
  q _ := fullShare
  owed _ := 0

/-! ## The body obligation -/

theorem defs_tc : (defs₀ (F := F)) .tc cfg0.body = fun _ => bodyG := rfl
theorem prog_eq (t : Fin cfg0.N) : (defs₀ (F := F)) .tc cfg0.body (cfg0.bodyArgs t (cfg0.slots t)) = bodyG :=
  (congrFun defs_tc _).trans rfl

omit [FloatOps F] in
theorem bigSep_noWin (Ψ : Fin cfg0.W → sProp 𝕄) : bigSep Finset.univ Ψ = (BI.emp : sProp 𝕄) := by
  rw [show (Finset.univ : Finset (Fin cfg0.W)) = ∅ from rfl, BI.bigSep_empty]

set_option backward.isDefEq.respectTransparency.types false in
theorem body_obligation (h : PreOK m) (c : Dev nD) : Pipeline.BodyObligation (dats (F := F) m h 0 c) (defs₀ (F := F)) 𝒱₀ () Set.univ := fun t => by
  rw [bigSep_noWin, bigSep_noWin]
  dsimp only
  rw [show (dats m h 0 c).Φ t.castSucc = Φ m h c t.castSucc from rfl, show (dats m h 0 c).Φ t.succ = Φ m h c t.succ from rfl]
  unfold Pipeline.Dat.owesAt Pipeline.owesWithin
  rw [show (dats m h 0 c).owed t.castSucc = 0 from rfl, show (dats m h 0 c).owed t.succ = 0 from rfl]
  unfold Φ restP
  iintro ⟨⟨⟨HR, HS, ⟨%f9, H9⟩, ⟨%f17, H17⟩, ⟨%f18, H18⟩, ⟨%f19, H19⟩, HT, HC, HWU, HWD⟩, ⟨%o, HO, -⟩⟩, ⟨%W, -, HW⟩, -⟩
  sl_rw [prog_eq t]
  iapply (body_run m h c f9 f17 f18 f19)
  isplitl [HR HO HS H9 H17 H18 H19 HT HC HW]
  · isplitl [HR]; · iexact HR
    isplitl [HO]; · iexists o; iexact HO
    isplitl [HS]; · iexact HS
    isplitl [H9]; · iexact H9
    isplitl [H17]; · iexact H17
    isplitl [H18]; · iexact H18
    isplitl [H19]; · iexact H19
    isplitl [HT]; · iexact HT
    isplitl [HC]; · iexact HC
    iexists W; iexact HW
  · iintro %_ ⟨HR, HO, HS, H9, H17, H18, H19, HT, HC, ⟨%W', HW⟩⟩
    isplitl [HR HO HS H9 H17 H18 H19 HT HC HWU HWD]
    · isplitl [HR HS H9 H17 H18 H19 HT HC HWU HWD]
      · isplitl [HR]; · iexact HR
        isplitl [HS]; · iexact HS
        isplitl [H9]; · iexact H9
        isplitl [H17]; · iexact H17
        isplitl [H18]; · iexact H18
        isplitl [H19]; · iexact H19
        isplitl [HT]; · iexact HT
        isplitl [HC]; · iexact HC
        isplitl [HWU]; · iexact HWU
        iexact HWD
      iexists (outOf m h c f9 f17 f18 f19)
      isplitl [HO]; · iexact HO
      ipureintro; exact Or.inr ⟨f9, f17, f18, f19, rfl⟩
    isplitl [HW]
    · iexists W'; isplitr; · ipureintro; exact fun _ _ => Or.inl trivial
      iexact HW
    iempintro

/-! ## The run -/

/-- The arrays that the region finds, but for the three the kernel does not take. -/
def intoΦ (c : Dev nD) : sProp 𝕄 :=
  iprop(readsP c (V m c main_arg0) (V m c main_arg1) (V m c main_arg3) (V m c main_arg4) (V m c main_v0) (V m c main_v1) (V m c main_v2) ∗ (∃ o, outsP c o)
    ∗ (((c : Thread nD τ).loc main_arg5) ↦{fullShare} V m c main_arg5) ∗ (((c : Thread nD τ).loc main_arg7) ↦{fullShare} V m c main_arg7)
    ∗ Pipeline.ownSems0 osem c)
/-- and as it leaves them. -/
def outOfΦ (h : PreOK m) (c : Dev nD) : sProp 𝕄 :=
  iprop(readsP c (V m c main_arg0) (V m c main_arg1) (V m c main_arg3) (V m c main_arg4) (V m c main_v0) (V m c main_v1) (V m c main_v2) ∗ (∃ o, outsP c o ∗ ⌜IsOut m h c o⌝)
    ∗ (((c : Thread nD τ).loc main_arg5) ↦{fullShare} V m c main_arg5) ∗ (((c : Thread nD τ).loc main_arg7) ↦{fullShare} V m c main_arg7))
/-- The three arguments the kernel does not take. -/
def asideP (c : Dev nD) : sProp 𝕄 :=
  iprop((((c : Thread nD τ).loc main_arg2) ↦{fullShare} V m c main_arg2) ∗ (((c : Thread nD τ).loc main_arg6) ↦{fullShare} V m c main_arg6)
    ∗ (((c : Thread nD τ).loc main_arg8) ↦{fullShare} V m c main_arg8))
def u₀ : UU nD τ := (initOf (Pipeline.cells cfgs cellOf_inj) (Pipeline.launchToks cfgs cellOf_inj), 1)

/-- What the run leaves on core `c`: the results the body finds, and the arguments as launched. -/
def QY (h : PreOK m) (c : Dev nD) (s : MemSt nD τ sig (Elt F)) : Prop :=
  (∃ o, IsOut m h c o ∧ s.mem ((c : Thread nD τ).loc main_v3_0) = o.y ∧ s.mem ((c : Thread nD τ).loc main_v3_1) = o.xc ∧ s.mem ((c : Thread nD τ).loc main_v3_2) = o.xs)
  ∧ s.mem ((c : Thread nD τ).loc main_arg0) = m ((c : Thread nD τ).loc main_arg0) ∧ s.mem ((c : Thread nD τ).loc main_arg1) = m ((c : Thread nD τ).loc main_arg1) ∧ s.mem ((c : Thread nD τ).loc main_arg2) = m ((c : Thread nD τ).loc main_arg2) ∧ s.mem ((c : Thread nD τ).loc main_arg3) = m ((c : Thread nD τ).loc main_arg3) ∧ s.mem ((c : Thread nD τ).loc main_arg4) = m ((c : Thread nD τ).loc main_arg4) ∧ s.mem ((c : Thread nD τ).loc main_arg5) = m ((c : Thread nD τ).loc main_arg5) ∧ s.mem ((c : Thread nD τ).loc main_arg6) = m ((c : Thread nD τ).loc main_arg6) ∧ s.mem ((c : Thread nD τ).loc main_arg7) = m ((c : Thread nD τ).loc main_arg7) ∧ s.mem ((c : Thread nD τ).loc main_arg8) = m ((c : Thread nD τ).loc main_arg8)

theorem hmainU : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

theorem enter (h : PreOK m) (c : Dev nD) : iprop(intoΦ m c ∗ Pipeline.scopedRest cfg0.spec c) ⊢ (dats (F := F) m h 0 c).Φ 0 := by
  rw [scopedRest0_eq, show (dats m h 0 c).Φ 0 = Φ m h c 0 from rfl]
  unfold intoΦ Φ restP scratchP streamsP
  simp only [own_eq]
  iintro ⟨⟨HR, ⟨%o, HO⟩, HA5, HA7, HQ⟩, H2, H3, H4, H5, H6, H7, H8, H9, H10, H11, H12, H13, H14, H15, H16, H17, H18, H19, H0, H1⟩
  ihave HQ := (sems_in c) $$ HQ
  icases HQ with ⟨HQ, HQU, HQD⟩
  ihave HU := (idleU_in c (V m c main_arg5)) $$ [H7 HQU HA5]
  · isplitl [H7]; · iexact H7
    isplitl [HQU]; · iexact HQU
    iexact HA5
  ihave HD := (idleD_in c (V m c main_arg7)) $$ [H8 HQD HA7]
  · isplitl [H8]; · iexact H8
    isplitl [HQD]; · iexact HQD
    iexact HA7
  icases HU with ⟨HA5, HU0, HU1⟩
  icases HD with ⟨HA7, HD0, HD1⟩
  isplitr [HO]
  · isplitl [HR]; · iexact HR
    isplitl [H0 H1 H2 H3 H4 H5 H6 H10 H11 H12 H13 H14 H15 H16]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H10]; · iexact H10
      isplitl [H11]; · iexact H11
      isplitl [H12]; · iexact H12
      isplitl [H13]; · iexact H13
      isplitl [H14]; · iexact H14
      isplitl [H15]; · iexact H15
      iexact H16
    isplitl [H9]; · iexact H9
    isplitl [H17]; · iexact H17
    isplitl [H18]; · iexact H18
    isplitl [H19]; · iexact H19
    isplitl [HU0 HU1 HD0 HD1]
    · isplitl [HU0]; · iexact HU0
      isplitl [HU1]; · iexact HU1
      isplitl [HD0]; · iexact HD0
      iexact HD1
    isplitl [HQ]; · iexact HQ
    isplitl [HA5]; · iexact HA5
    iexact HA7
  iexists o
  isplitl [HO]; · iexact HO
  ipureintro; exact Or.inl rfl

theorem leave (h : PreOK m) (c : Dev nD) :
    (dats (F := F) m h 0 c).Φ (Fin.last cfg0.N) ⊢ iprop(outOfΦ m h c ∗ Pipeline.ownSems0 osem c ∗ Pipeline.scopedRest cfg0.spec c) := by
  rw [scopedRest0_eq, show (dats m h 0 c).Φ (Fin.last cfg0.N) = Φ m h c (Fin.last cfg0.N) from rfl]
  unfold outOfΦ Φ restP scratchP streamsP
  simp only [own_eq]
  iintro ⟨⟨HR, ⟨H0, H1, H2, H3, H4, H5, H6, H10, H11, H12, H13, H14, H15, H16⟩, H9, H17, H18, H19, ⟨HU0, HU1, HD0, HD1⟩, HQ, HA5, HA7⟩, ⟨%o, HO, %ho⟩⟩
  ihave HU := (idleU_out c (V m c main_arg5)) $$ [HA5 HU0 HU1]
  · isplitl [HA5]; · iexact HA5
    isplitl [HU0]; · iexact HU0
    iexact HU1
  ihave HD := (idleD_out c (V m c main_arg7)) $$ [HA7 HD0 HD1]
  · isplitl [HA7]; · iexact HA7
    isplitl [HD0]; · iexact HD0
    iexact HD1
  icases HU with ⟨H7, HQU, HA5⟩
  icases HD with ⟨H8, HQD, HA7⟩
  isplitl [HR HO HA5 HA7]
  · isplitl [HR]; · iexact HR
    isplitl [HO]
    · iexists o; isplitl [HO]; · iexact HO
      ipureintro; exact ho.resolve_left (by rw [show (Fin.last cfg0.N).val = cfg0.N from rfl, show cfg0.N = 1 from N_0]; decide)
    isplitl [HA5]; · iexact HA5
    iexact HA7
  isplitl [HQ HQU HQD]
  · iapply (sems_out c)
    isplitl [HQ]; · iexact HQ
    isplitl [HQU]; · iexact HQU
    iexact HQD
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H0]; · iexact H0
  iexact H1

theorem readOff (h : PreOK m) (c : Dev nD) (s' : Phys nD τ sig (Elt F)) : iprop(outOfΦ m h c ∗ asideP m c ∗ SI s') ⊢ |={Set.univ}=> (iprop(⌜QY m h c s'.mem⌝ ∗ SI s') : sProp 𝕄) := by
  unfold outOfΦ asideP readsP outsP
  simp only [own_eq]
  iintro ⟨⟨⟨H0, H1, H3, H4, -, -, -⟩, ⟨%o, ⟨HY, HC, HS⟩, %ho⟩, H5, H7⟩, ⟨H2, H6, H8⟩, HSI⟩
  icombine HSI H0 gives %h0
  icombine HSI H1 gives %h1
  icombine HSI H2 gives %h2
  icombine HSI H3 gives %h3
  icombine HSI H4 gives %h4
  icombine HSI H5 gives %h5
  icombine HSI H6 gives %h6
  icombine HSI H7 gives %h7
  icombine HSI H8 gives %h8
  icombine HSI HY gives %hy
  icombine HSI HC gives %hc
  icombine HSI HS gives %hs
  imodintro
  isplitr
  · ipureintro
    exact ⟨⟨o, ho, Buf.eq_of_forall_mem_univ hy, Buf.eq_of_forall_mem_univ hc, Buf.eq_of_forall_mem_univ hs⟩, (Buf.eq_of_forall_mem_univ h0).trans (V_main_arg0 m c), (Buf.eq_of_forall_mem_univ h1).trans (V_main_arg1 m c), (Buf.eq_of_forall_mem_univ h2).trans (V_main_arg2 m c), (Buf.eq_of_forall_mem_univ h3).trans (V_main_arg3 m c), (Buf.eq_of_forall_mem_univ h4).trans (V_main_arg4 m c), (Buf.eq_of_forall_mem_univ h5).trans (V_main_arg5 m c), (Buf.eq_of_forall_mem_univ h6).trans (V_main_arg6 m c), (Buf.eq_of_forall_mem_univ h7).trans (V_main_arg7 m c), (Buf.eq_of_forall_mem_univ h8).trans (V_main_arg8 m c)⟩
  iexact HSI

set_option backward.isDefEq.respectTransparency.types false in
/-- From any memory with zero counters whose list and count are in range on every core: every weakly fair execution of
    @main terminates, and every final state has the results the body finds, the arguments unchanged and every semaphore
    counter at zero. -/
theorem run_main (h : PreOK m) : θ_run defs (onTc (τ := τ) (main (F := F))) ⟨m, fun _ => 0, ρ⟩ (fun r => (∀ c, QY m h c r.2) ∧ r.2.sem = fun _ => 0) :=
  Pipeline.θ_run_region_kit_quiescent cfgs (dats m h) () (0 : Fin 1) launch0 ownSemFacts EP defs₀ 𝒱₀ m ρ main
    (hbody := fun c => (body_obligation m h c).loose) (hshare := fun c => (dats m h 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmainU m)
    (hA := fun _ _ => rfl)
    (X := intoΦ m) (Y := outOfΦ m h) (Z := asideP m)
    (hX := fun c => by
      rw [unscopedRest0_eq]
      unfold intoΦ asideP readsP outsP
      simp only [own_eq]
      iintro ⟨⟨H0, H1, H2, H3, H4, H5, H6, H7, H8, HX, HU, HD, HY, HC, HS⟩, HQ, -, -, -⟩; imodintro
      isplitr [H2 H6 H8]
      · isplitl [H0 H1 H3 H4 HX HU HD]
        · isplitl [H0]; · iexact H0
          isplitl [H1]; · iexact H1
          isplitl [H3]; · iexact H3
          isplitl [H4]; · iexact H4
          isplitl [HX]; · iexact HX
          isplitl [HU]; · iexact HU
          iexact HD
        isplitl [HY HC HS]
        · iexists (⟨V m c main_v3_0, V m c main_v3_1, V m c main_v3_2⟩ : Outs (F := F) c)
          isplitl [HY]; · iexact HY
          isplitl [HC]; · iexact HC
          iexact HS
        isplitl [H5]; · iexact H5
        isplitl [H7]; · iexact H7
        iexact HQ
      · isplitl [H2]; · iexact H2
        isplitl [H6]; · iexact H6
        iexact H8)
    (hin := enter m h)
    (hout := leave m h)
    (QY := QY m h)
    (hY := readOff m h)
    (hQ := fun _ hh hz => ⟨fun c => (hh c).2, hz⟩)

end Cert.Proof.I
-- ==== Proof.I.Safe.lean ====
/- From an in-range list and count, the kernel runs, its arguments end unchanged and every semaphore ends at zero. -/
module

public import proofs.«01_k».proof.Proof.I.Launch
public import proofs.«01_k».proof.Proof.Pre

@[expose] public section

noncomputable section

namespace Cert.Proof.I

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- A list and a count in range are what the body needs. -/
theorem preOK_of (h : ∀ c : Dev nD, InRange (m ((c : Thread nD τ).loc main_arg0)) (m ((c : Thread nD τ).loc main_arg1))) : PreOK m := fun c => by
  rw [V_main_arg0, V_main_arg1]
  obtain ⟨h1, h2, h3⟩ := h c
  have e : cntOf c (m ((c : Thread nD τ).loc main_arg1)) = m ((c : Thread nD τ).loc main_arg1) ix0 := congrArg (m ((c : Thread nD τ).loc main_arg1)) (ix0_eq cntIx)
  refine ⟨by rw [e]; exact h1, by rw [e]; exact h2, fun i hi => ?_⟩
  rw [e] at hi
  have hi17 : i < 17 := by omega
  have el : listOf c (m ((c : Thread nD τ).loc main_arg0)) i = m ((c : Thread nD τ).loc main_arg0) (ix1 i hi17) :=
    congrArg (m ((c : Thread nD τ).loc main_arg0)) (funext fun a => Fin.ext (by
      fin_cases a
      first
        | rfl
        | exact Nat.mod_eq_of_lt hi17))
  rw [el]
  exact h3 i hi17 hi

/-- The frame of the kernel. -/
theorem frame_of (h : PreOK m) : θ_run defs (onTc (τ := τ) (main (F := F))) ⟨m, fun _ => 0, ρ⟩ (fun r => (∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8))
    ∧ r.2.sem = fun _ => 0) :=
  (θ_run defs _ _).mono (fun _ hh => ⟨fun c => (hh.1 c).2, hh.2⟩) (run_main m ρ h)

end Cert.Proof.I

end
-- ==== Proof.Routing.lean ====
/- The precondition of the value claim, read out of the printed predicate: the list holds every expert that a token
   names, once, and the weights are finite and not negative. -/
module

public import proofs.«01_k».proof.Pre_list_is_the_routing
public import proofs.«01_k».proof.Proof.Pre
public import Idealize.ShloMosaic.PureOps.Ideal
public import Idealize.ShloMosaic.Lib.ReduceAll

@[expose] public section

noncomputable section

namespace Cert.Proof

open Idealize.ShloMosaic

def ix64 (q : ℕ) (hq : q < 64) : Pre_list_is_the_routing.S64.Idx := fun a => ⟨q, by fin_cases a; exact hq⟩
def ixCol (q : ℕ) (hq : q < 64) : Pre_list_is_the_routing.S64x1.Idx := fun a => ⟨![q, 0] a, by fin_cases a <;> simp <;> omega⟩
def ixQab (q a b : ℕ) (hq : q < 64) (ha : a < 17) (hb : b < 17) : Pre_list_is_the_routing.S64x17x17.Idx :=
  fun d => ⟨![q, a, b] d, by fin_cases d <;> simp <;> omega⟩

theorem ix1_eta (j : Pre_list_names_experts.S17.Idx) : j = ix1 (j 0).val (j 0).isLt :=
  funext fun a => Fin.ext (by fin_cases a; rfl)
theorem ix64_eta (j : Pre_list_is_the_routing.S64.Idx) : j = ix64 (j 0).val (j 0).isLt :=
  funext fun a => Fin.ext (by fin_cases a; rfl)
theorem ixCol_eta (j : Pre_list_is_the_routing.S64x1.Idx) : j = ixCol (j 0).val (j 0).isLt :=
  funext fun a => Fin.ext (by
    fin_cases a
    · rfl
    · have h : (j 1).val < 1 := (j 1).isLt
      show (j 1).val = 0; omega)

/-- A left fold by `or` over one-bit words that came out 1 from 0 met a 1. -/
theorem foldl_ori_one {ι : Type} (f : ι → BitVec 1) :
    ∀ (l : List ι) (init : BitVec 1), l.foldl (fun r n => IntOp.ori r (f n)) init = 1#1 → init = 1#1 ∨ ∃ n ∈ l, f n = 1#1
  | [], _, h => Or.inl h
  | a :: l, init, h => by
    rcases foldl_ori_one f l _ h with h1 | ⟨n, hn, h1⟩
    · rcases (ori_one _ _).1 h1 with h2 | h2
      · exact Or.inl h2
      · exact Or.inr ⟨a, List.mem_cons_self .., h2⟩
    · exact Or.inr ⟨n, List.mem_cons_of_mem _ hn, h1⟩

theorem reduce_ori_one {s t u : Shape} {axes : List (Fin s.rank)} (x : s.Idx → BitVec 1) (init : u.Idx → BitVec 1) (h : s.ReducesTo axes t) (hu : 0 < u.numel)
    (j : t.Idx) (h0 : init (Shape.Idx.first hu) = 0#1) (e : Host.reduce IntOp.ori x init h hu j = 1#1) : ∃ i : s.Idx, h.drop i = j ∧ x i = 1#1 := by
  rw [Host.reduce_eq_foldl] at e
  rcases foldl_ori_one x _ _ e with h1 | ⟨i, hi, h1⟩
  · rw [h0] at h1; exact absurd h1 (by decide)
  · rw [List.mem_filter] at hi
    exact ⟨i, by simpa using hi.2, h1⟩

/-- What the routing's precondition says: the list and the count are in range, the listed experts are distinct, every
    expert below 16 that a token names is listed, and the weights are finite and not negative. -/
structure Routing (AL : IVec Pre_list_names_experts.S17 32) (AC : IVec Pre_list_names_experts.S1 32)
    (AI : IVec Pre_list_is_the_routing.S8x1x8 32) (AW : FVec Ideal Pre_list_is_the_routing.S8x1x8 .f32) : Prop where
  inRange : InRange AL AC
  once : ∀ i j (hi : i < 17) (hj : j < 17), i < (AC ix0).toNat → j < (AC ix0).toNat → i ≠ j → AL (ix1 i hi) ≠ AL (ix1 j hj)
  present : ∀ p, (AI p).toNat < 16 → ∃ i, ∃ hi : i < 17, i < (AC ix0).toNat ∧ AL (ix1 i hi) = AI p
  weight : ∀ p, 0 ≤ (show EReal from AW p) ∧ (show EReal from AW p) < ⊤

theorem listed_iff (n : BitVec 32) (h1 : 1 ≤ n.toNat) (h2 : n.toNat ≤ 16) (i : ℕ) (hi : i < 17) : (BitVec.ofNat 32 i).toInt < n.toInt ↔ i < n.toNat := by
  rw [BitVec.toInt_eq_toNat_of_lt (by rw [BitVec.toNat_ofNat]; omega), BitVec.toInt_eq_toNat_of_lt (by omega), BitVec.toNat_ofNat]
  omega

theorem inf_bits : (Ideal.ofBits .f32 0x7F800000#32 : EReal) = ⊤ := by simp [Ideal.ofBits, Ideal.ieee]
theorem zero_bits : (Ideal.ofBits .f32 0x00000000#32 : EReal) = 0 := by simp [Ideal.ofBits, Ideal.ieee]

/-- The predicate's bits at row `q` of the 64 (token, choice) pairs and positions `a`, `b` of the list. -/
theorem routing_bits [Pre_list_is_the_routing.Facts] (AL : IVec Pre_list_names_experts.S17 32) (AC : IVec Pre_list_names_experts.S1 32)
    (AI : IVec Pre_list_is_the_routing.S8x1x8 32) (AW : FVec Ideal Pre_list_is_the_routing.S8x1x8 .f32)
    {a2 a5 a6 a7 a8} (h : Pre_list_is_the_routing.fn (F := Ideal) AL AC a2 AI AW a5 a6 a7 a8 = fun _ => 1#1)
    (p : Pre_list_is_the_routing.S8x1x8.Idx) (a b : ℕ) (ha : a < 17) (hb : b < 17) :
    IntOp.andi
      (IntOp.andi (IntOp.andi (IntOp.cmpi .sge (AC ix0) 1#32) (IntOp.cmpi .sle (AC ix0) 16#32))
        (IntOp.ori (~~~(IntOp.cmpi .slt (BitVec.ofNat 32 a) (AC ix0)))
          (IntOp.andi (IntOp.cmpi .sge (AL (ix1 a ha)) 0#32) (IntOp.cmpi .slt (AL (ix1 a ha)) 16#32))))
      (IntOp.ori (~~~(IntOp.andi (IntOp.andi (IntOp.cmpi .slt (BitVec.ofNat 32 a) (AC ix0)) (IntOp.cmpi .slt (BitVec.ofNat 32 b) (AC ix0)))
          (IntOp.cmpi .ne (BitVec.ofNat 32 a) (BitVec.ofNat 32 b))))
        (IntOp.cmpi .ne (AL (ix1 a ha)) (AL (ix1 b hb)))) = 1#1
    ∧ ((∃ i, ∃ hi : i < 17, IntOp.andi (IntOp.cmpi .slt (BitVec.ofNat 32 i) (AC ix0)) (IntOp.cmpi .eq (AL (ix1 i hi)) (AI p)) = 1#1)
      ∨ IntOp.cmpi .slt (AI p) 0#32 = 1#1 ∨ IntOp.cmpi .sge (AI p) 16#32 = 1#1)
    ∧ Ideal.cmp .oge (AW p) (Ideal.ofBits .f32 0x00000000#32) = 1#1 ∧ Ideal.cmp .olt (AW p) (Ideal.ofBits .f32 0x7F800000#32) = 1#1 := by
  obtain ⟨al, hal⟩ : ∃ al : ℕ → BitVec 32, ∀ j, AL j = al (j 0).val :=
    ⟨fun i => if hi : i < 17 then AL (ix1 i hi) else 0, fun j => by
      show AL j = if hi : (j 0).val < 17 then AL (ix1 (j 0).val hi) else 0
      rw [dif_pos (show (j 0).val < 17 from (j 0).isLt)]; exact congrArg AL (ix1_eta j)⟩
  let col := (Shape.reshapeEquiv Pre_list_is_the_routing.Facts.shapeCasts_S8x1x8_S64x1).symm p
  obtain ⟨ai, hai⟩ : ∃ ai : ℕ → BitVec 32, ∀ j, shapeCast Pre_list_is_the_routing.S64x1 AI Pre_list_is_the_routing.Facts.shapeCasts_S8x1x8_S64x1 j = ai (j 0).val :=
    ⟨fun i => if hi : i < 64 then shapeCast Pre_list_is_the_routing.S64x1 AI Pre_list_is_the_routing.Facts.shapeCasts_S8x1x8_S64x1 (ixCol i hi) else 0, fun j => by
      show shapeCast Pre_list_is_the_routing.S64x1 AI Pre_list_is_the_routing.Facts.shapeCasts_S8x1x8_S64x1 j = if hi : (j 0).val < 64 then shapeCast Pre_list_is_the_routing.S64x1 AI Pre_list_is_the_routing.Facts.shapeCasts_S8x1x8_S64x1 (ixCol (j 0).val hi) else 0
      rw [dif_pos (show (j 0).val < 64 from (j 0).isLt)]; exact congrArg _ (ixCol_eta j)⟩
  obtain ⟨aw, haw⟩ : ∃ aw : ℕ → Ideal .f32, ∀ j, shapeCast Pre_list_is_the_routing.S64x1 AW Pre_list_is_the_routing.Facts.shapeCasts_S8x1x8_S64x1 j = aw (j 0).val :=
    ⟨fun i => if hi : i < 64 then shapeCast Pre_list_is_the_routing.S64x1 AW Pre_list_is_the_routing.Facts.shapeCasts_S8x1x8_S64x1 (ixCol i hi) else (0 : EReal), fun j => by
      show shapeCast Pre_list_is_the_routing.S64x1 AW Pre_list_is_the_routing.Facts.shapeCasts_S8x1x8_S64x1 j = if hi : (j 0).val < 64 then shapeCast Pre_list_is_the_routing.S64x1 AW Pre_list_is_the_routing.Facts.shapeCasts_S8x1x8_S64x1 (ixCol (j 0).val hi) else (0 : EReal)
      rw [dif_pos (show (j 0).val < 64 from (j 0).isLt)]; exact congrArg _ (ixCol_eta j)⟩
  have eai : AI p = ai (col 0).val := by
    rw [← hai]; exact congrArg AI ((Shape.reshapeEquiv Pre_list_is_the_routing.Facts.shapeCasts_S8x1x8_S64x1).apply_symm_apply p).symm
  have eaw : AW p = aw (col 0).val := by
    rw [← haw]; exact congrArg AW ((Shape.reshapeEquiv Pre_list_is_the_routing.Facts.shapeCasts_S8x1x8_S64x1).apply_symm_apply p).symm
  have q := congrFun h (ixQab (col 0).val a b (col 0).isLt ha hb)
  simp only [Pre_list_is_the_routing.fn, Pre_list_is_the_routing.fn_part1, Pre_list_is_the_routing.fn_part2, Pre_list_is_the_routing.fn_part3] at q
  generalize shapeCast Pre_list_is_the_routing.S64x1 AI Pre_list_is_the_routing.Facts.shapeCasts_S8x1x8_S64x1 = AI' at q hai
  generalize shapeCast Pre_list_is_the_routing.S64x1 AW Pre_list_is_the_routing.Facts.shapeCasts_S8x1x8_S64x1 = AW' at q haw
  rw [eai, eaw]
  simp only [hal]
  simp only [andi, cmpi, broadcastInDim, constantI, noti, ori, iotaInDim, cmpf, constant, hal, hai, haw, andi_one, ix0_eq] at q ⊢
  obtain ⟨q1, q2, q3⟩ := q
  refine ⟨q1, ?_, q3⟩
  rcases (ori_one _ _).1 q2 with q2 | q2
  · rcases (ori_one _ _).1 q2 with q2 | q2
    · obtain ⟨i, hd, hi⟩ := reduce_ori_one _ _ _ _ _ rfl q2
      left
      have e0 : (i 0).val = (col 0).val := (Shape.ReducesTo.drop_apply_val Pre_list_is_the_routing.Facts.reducesTo_S64x17_S64_d1 i 0).symm.trans (congrArg (fun j => (j 0).val) hd)
      refine ⟨(i 1).val, (i 1).isLt, ?_⟩
      rw [← e0]
      simp only [andi, cmpi, broadcastInDim, constantI, noti, ori, iotaInDim, hal, hai, andi_one, ix0_eq] at hi
      exact hi
    · exact Or.inr (Or.inl q2)
  · exact Or.inr (Or.inr q2)

/-- The precondition of the value claim, read out. -/
theorem routing_of [Pre_list_is_the_routing.Facts] (AL : IVec Pre_list_names_experts.S17 32) (AC : IVec Pre_list_names_experts.S1 32)
    (AI : IVec Pre_list_is_the_routing.S8x1x8 32) (AW : FVec Ideal Pre_list_is_the_routing.S8x1x8 .f32)
    {a2 a5 a6 a7 a8} (h : Pre_list_is_the_routing.fn (F := Ideal) AL AC a2 AI AW a5 a6 a7 a8 = fun _ => 1#1) : Routing AL AC AI AW := by
  have B := routing_bits AL AC AI AW h
  let p0 : Pre_list_is_the_routing.S8x1x8.Idx := fun d => ⟨0, by fin_cases d <;> decide⟩
  have R : InRange AL AC := inRange_of_bits AL AC fun i hi => ((andi_one _ _).1 (B p0 i 0 hi (by omega)).1).1
  refine ⟨R, fun i j hi hj li lj hne => ?_, fun p hp => ?_, fun p => ?_⟩
  · have q := ((andi_one _ _).1 (B p0 i j hi hj).1).2
    rcases (ori_one _ _).1 q with q | q
    · exfalso
      rw [noti_one, andi_one, andi_one, slt_one, slt_one, ne_one, listed_iff _ R.1 R.2.1 _ hi, listed_iff _ R.1 R.2.1 _ hj] at q
      refine q ⟨⟨li, lj⟩, fun e => hne ?_⟩
      have e' := congrArg BitVec.toNat e
      rw [BitVec.toNat_ofNat, BitVec.toNat_ofNat] at e'
      omega
    · exact (ne_one _ _).1 q
  · rcases (B p 0 0 (by omega) (by omega)).2.1 with ⟨i, hi, q⟩ | q | q
    · rw [andi_one, slt_one, eq_one, listed_iff _ R.1 R.2.1 _ hi] at q
      exact ⟨i, hi, q⟩
    · exfalso
      rw [slt_one, BitVec.toInt_eq_toNat_of_lt (by omega), show (0#32).toInt = 0 by decide] at q; omega
    · exfalso
      rw [sge_one, show (16#32).toInt = 16 by decide, BitVec.toInt_eq_toNat_of_lt (by omega)] at q; omega
  · obtain ⟨q1, q2⟩ := (B p 0 0 (by omega) (by omega)).2.2
    rw [zero_bits] at q1
    rw [inf_bits] at q2
    exact ⟨of_decide_eq_true ((ofBool_one _).1 q1), of_decide_eq_true ((ofBool_one _).1 q2)⟩

end Cert.Proof

end
-- ==== Proof.V.Read.lean ====
/- Arrays read at pairs and triples of natural numbers, and the two-block matrix product of the kernel read at an entry. -/
module

public import proofs.«01_k».proof.Proof.Gen.KernelIdeal.Skeleton
public import Idealize.ShloMosaic.Lib.MatmulPlain
public import Idealize.ShloMosaic.Lib.Pipeline.Value
public import Idealize.ShloMosaic.Lib.ValueLayout
public import Idealize.ShloMosaic.Lib.ValueLayoutCasts
public import Idealize.ShloMosaic.PureOps.Ideal.Laws

@[expose] public section

noncomputable section

namespace Cert.Proof.V

open Idealize.ShloMosaic Idealize.ShloMosaic.ValueIdx

variable {n m l : ℕ}

/-- An array of two axes at a pair of numbers, 0 outside it. -/
def at2 (X : (⟨2, ![n, m]⟩ : Shape).Idx → EReal) (a b : ℕ) : EReal :=
  if h : a < n ∧ b < m then X (ix2 ⟨a, h.1⟩ ⟨b, h.2⟩) else 0

/-- An array of three axes at a triple of numbers, 0 outside it. -/
def at3 (X : (⟨3, ![n, m, l]⟩ : Shape).Idx → EReal) (a b c : ℕ) : EReal :=
  if h : a < n ∧ b < m ∧ c < l then X (ix3 ⟨a, h.1⟩ ⟨b, h.2.1⟩ ⟨c, h.2.2⟩) else 0

theorem at2_of (X : (⟨2, ![n, m]⟩ : Shape).Idx → EReal) (i : (⟨2, ![n, m]⟩ : Shape).Idx) (a b : ℕ)
    (ha : (i 0).val = a) (hb : (i 1).val = b) : X i = at2 X a b := by
  subst ha hb
  have h0 : (i 0).val < n := (i 0).isLt
  have h1 : (i 1).val < m := (i 1).isLt
  unfold at2
  rw [dif_pos ⟨h0, h1⟩]
  congr 1
  funext k; fin_cases k <;> rfl

theorem at3_of (X : (⟨3, ![n, m, l]⟩ : Shape).Idx → EReal) (i : (⟨3, ![n, m, l]⟩ : Shape).Idx) (a b c : ℕ)
    (ha : (i 0).val = a) (hb : (i 1).val = b) (hc : (i 2).val = c) : X i = at3 X a b c := by
  subst ha hb hc
  have h0 : (i 0).val < n := (i 0).isLt
  have h1 : (i 1).val < m := (i 1).isLt
  have h2 : (i 2).val < l := (i 2).isLt
  unfold at3
  rw [dif_pos ⟨h0, h1, h2⟩]
  congr 1
  funext k; fin_cases k <;> rfl

/-- What a rectangle at offset `(r, c0)` reads. -/
theorem rd2 {a b r c0 : ℕ} {off : Fin 2 → ℕ} (hoff : off = ![r, c0]) (inb : ∀ k, off k + (![a, b] : Fin 2 → ℕ) k ≤ (![n, m] : Fin 2 → ℕ) k)
    (X : (⟨2, ![n, m]⟩ : Shape).Idx → EReal) (i : Fin a) (j : Fin b) :
    X ((Rect.unit (s := ⟨2, ![n, m]⟩) off ![a, b] inb).toLoadRect.idx (ix2 i j)) = at2 X (r + i.val) (c0 + j.val) := by
  subst hoff
  refine at2_of X _ _ _ ?_ ?_
  · show r + 1 * i.val = _; omega
  · show c0 + 1 * j.val = _; omega

theorem rd3 {a b d r c0 e0 : ℕ} {off : Fin 3 → ℕ} (hoff : off = ![r, c0, e0])
    (inb : ∀ k, off k + (![a, b, d] : Fin 3 → ℕ) k ≤ (![n, m, l] : Fin 3 → ℕ) k)
    (X : (⟨3, ![n, m, l]⟩ : Shape).Idx → EReal) (i : Fin a) (j : Fin b) (k : Fin d) :
    X ((Rect.unit (s := ⟨3, ![n, m, l]⟩) off ![a, b, d] inb).toLoadRect.idx (ix3 i j k)) = at3 X (r + i.val) (c0 + j.val) (e0 + k.val) := by
  subst hoff
  refine at3_of X _ _ _ _ ?_ ?_ ?_
  · show r + 1 * i.val = _; omega
  · show c0 + 1 * j.val = _; omega
  · show e0 + 1 * k.val = _; omega

/-- The product of a left-hand side of two stacked blocks, each the rows scaled by a row of scales, by a block of
    weights: the first eight rows. -/
theorem stacked_lo {K : ℕ} (x : FVec Ideal ⟨2, ![8, K]⟩ .f32) (s0 s1 : FVec Ideal ⟨2, ![1, K]⟩ .f32) (w : FVec Ideal ⟨3, ![1, K, 256]⟩ .fp8e4m3)
    (hb : (⟨2, ![1, K]⟩ : Shape).Broadcasts ⟨2, ![8, K]⟩) (hb' : (⟨2, ![1, K]⟩ : Shape).Broadcasts ⟨2, ![8, K]⟩)
    (hc : Shape.Concatenates [⟨2, ![8, K]⟩, ⟨2, ![8, K]⟩] ⟨2, ![16, K]⟩ 0) (hs : (⟨3, ![1, K, 256]⟩ : Shape).ShapeCasts ⟨2, ![K, 256]⟩)
    (hlt : FTy.bits .bf16 < FTy.bits .f32) (t : Fin 8) (j : Fin 256) :
    FloatOps.matmul (F := Ideal) (φ₁ := .bf16) (φ₂ := .fp8e4m3) (DotDims.plain 16 K 256) none
      (truncf .bf16 (concatenate ⟨2, ![16, K]⟩ 0 [⟨⟨2, ![8, K]⟩, mulf x (broadcastTo ⟨2, ![8, K]⟩ s0 hb)⟩, ⟨⟨2, ![8, K]⟩, mulf x (broadcastTo ⟨2, ![8, K]⟩ s1 hb')⟩] hc) hlt)
      (shapeCast ⟨2, ![K, 256]⟩ w hs) (constant ⟨2, ![16, 256]⟩ .f32 0x00000000#32) (ix2 ⟨t.val, by omega⟩ j)
      = ∑ q : Fin K, x (ix2 t q) * s0 (ix2 0 q) * w (ix3 0 q j) := by
  rw [Ideal.matmul_plain_apply]
  rw [show (constant ⟨2, ![16, 256]⟩ .f32 0x00000000#32 : FVec Ideal _ .f32) (ix2 ⟨t.val, by omega⟩ j) = 0 from Ideal.ofBits_zero_f32, zero_add]
  refine Finset.sum_congr rfl fun q _ => ?_
  congr 1
  · refine (concatenate_pair_apply_left (t := ⟨2, ![16, K]⟩) 0 _ _ hc _ rfl (ix2 t q) (fun b => by fin_cases b <;> rfl)).trans ?_
    show x (ix2 t q) * broadcastTo _ s0 hb (ix2 t q) = _
    rw [broadcastTo_apply s0 hb (ix2 t q) (ix2 0 q) (fun a => by
      have := q.isLt
      fin_cases a
      · rfl
      · show q.val = if K = 1 then 0 else q.val
        split_ifs <;> omega)]
  · rw [shapeCast_1ab_ab_apply]

/-- The same product: the last eight rows. -/
theorem stacked_hi {K : ℕ} (x : FVec Ideal ⟨2, ![8, K]⟩ .f32) (s0 s1 : FVec Ideal ⟨2, ![1, K]⟩ .f32) (w : FVec Ideal ⟨3, ![1, K, 256]⟩ .fp8e4m3)
    (hb : (⟨2, ![1, K]⟩ : Shape).Broadcasts ⟨2, ![8, K]⟩) (hb' : (⟨2, ![1, K]⟩ : Shape).Broadcasts ⟨2, ![8, K]⟩)
    (hc : Shape.Concatenates [⟨2, ![8, K]⟩, ⟨2, ![8, K]⟩] ⟨2, ![16, K]⟩ 0) (hs : (⟨3, ![1, K, 256]⟩ : Shape).ShapeCasts ⟨2, ![K, 256]⟩)
    (hlt : FTy.bits .bf16 < FTy.bits .f32) (t : Fin 8) (j : Fin 256) :
    FloatOps.matmul (F := Ideal) (φ₁ := .bf16) (φ₂ := .fp8e4m3) (DotDims.plain 16 K 256) none
      (truncf .bf16 (concatenate ⟨2, ![16, K]⟩ 0 [⟨⟨2, ![8, K]⟩, mulf x (broadcastTo ⟨2, ![8, K]⟩ s0 hb)⟩, ⟨⟨2, ![8, K]⟩, mulf x (broadcastTo ⟨2, ![8, K]⟩ s1 hb')⟩] hc) hlt)
      (shapeCast ⟨2, ![K, 256]⟩ w hs) (constant ⟨2, ![16, 256]⟩ .f32 0x00000000#32) (ix2 ⟨8 + t.val, by omega⟩ j)
      = ∑ q : Fin K, x (ix2 t q) * s1 (ix2 0 q) * w (ix3 0 q j) := by
  rw [Ideal.matmul_plain_apply]
  rw [show (constant ⟨2, ![16, 256]⟩ .f32 0x00000000#32 : FVec Ideal _ .f32) (ix2 ⟨8 + t.val, by omega⟩ j) = 0 from Ideal.ofBits_zero_f32, zero_add]
  refine Finset.sum_congr rfl fun q _ => ?_
  congr 1
  · refine (concatenate_pair_apply_right (t := ⟨2, ![16, K]⟩) 0 _ _ hc _ rfl rfl (ix2 t q)
      (fun b hb => by
        fin_cases b
        · exact absurd rfl hb
        · rfl) (by show t.val + 8 = 8 + t.val; omega)).trans ?_
    show x (ix2 t q) * broadcastTo _ s1 hb' (ix2 t q) = _
    rw [broadcastTo_apply s1 hb' (ix2 t q) (ix2 0 q) (fun a => by
      have := q.isLt
      fin_cases a
      · rfl
      · show q.val = if K = 1 then 0 else q.val
        split_ifs <;> omega)]
  · rw [shapeCast_1ab_ab_apply]

end Cert.Proof.V
-- ==== Proof.V.Blocks.lean ====
/- The two arrays of scales spread over blocks of lanes, and buffers written whole, read at an entry. -/
module

public import proofs.«01_k».proof.Proof.I.TripE
public import proofs.«01_k».proof.Proof.V.Read

@[expose] public section

noncomputable section

namespace Cert.Proof.V

open Cert.KernelIdeal Cert.KernelIdeal.Gen Cert.Proof.I
open Idealize.ShloMosaic Idealize.ShloMosaic.ValueIdx Idealize.ShloMosaic.TcCoe

/-- The rectangle of a whole array of two axes moves nothing. -/
theorem emb_zero2 {n m : ℕ} (inb) (y : (⟨2, ![n, m]⟩ : Shape).Idx) : (Rect.unit (s := ⟨2, ![n, m]⟩) ![0, 0] ![n, m] inb).emb y = y := by
  funext a
  refine Fin.ext ?_
  fin_cases a
  · show 0 + 1 * (y 0).val = (y 0).val; omega
  · show 0 + 1 * (y 1).val = (y 1).val; omega

theorem idx_zero2 {n m : ℕ} (inb) (y : (⟨2, ![n, m]⟩ : Shape).Idx) : (Rect.unit (s := ⟨2, ![n, m]⟩) ![0, 0] ![n, m] inb).toLoadRect.idx y = y := by
  funext a
  refine Fin.ext ?_
  fin_cases a
  · show 0 + 1 * (y 0).val = (y 0).val; omega
  · show 0 + 1 * (y 1).val = (y 1).val; omega

theorem idx_zero3 {n m l : ℕ} (inb) (y : (⟨3, ![n, m, l]⟩ : Shape).Idx) : (Rect.unit (s := ⟨3, ![n, m, l]⟩) ![0, 0, 0] ![n, m, l] inb).toLoadRect.idx y = y := by
  funext a
  refine Fin.ext ?_
  fin_cases a
  · show 0 + 1 * (y 0).val = (y 0).val; omega
  · show 0 + 1 * (y 1).val = (y 1).val; omega
  · show 0 + 1 * (y 2).val = (y 2).val; omega

/-- A column of `v` for every block of 128 lanes. -/
def spread {a b m : ℕ} (v : (⟨2, ![a, b]⟩ : Shape).Idx → EReal) : (⟨2, ![a, m]⟩ : Shape).Idx → EReal := fun y => at2 v (y 0).val ((y 1).val / 128)

/-- Block `n` of the spread array: column `n` of `v` in every lane. -/
theorem colPiece {a b m : ℕ} (v : FVec Ideal ⟨2, ![a, b]⟩ .f32) (n : ℕ) (hn : n < b) {p : FVec Ideal ⟨2, ![a, 128]⟩ .f32} {off : Fin 2 → ℕ} {inb} (hoff : off = ![0, 128 * n])
    (hs : (⟨2, ![a, b]⟩ : Shape).Slices ![0, n] ⟨2, ![a, 1]⟩) (hb : (⟨2, ![a, 1]⟩ : Shape).Broadcasts ⟨2, ![a, 128]⟩)
    (hp : p = broadcastTo ⟨2, ![a, 128]⟩ (extractStridedSlice ⟨2, ![a, 1]⟩ ![0, n] v hs) hb) (y : (⟨2, ![a, 128]⟩ : Shape).Idx) :
    p y = spread (m := m) v ((Rect.unit (s := ⟨2, ![a, m]⟩) off ![a, 128] inb).emb y) := by
  subst hp
  obtain ⟨t, j, rfl⟩ : ∃ (t : Fin a) (j : Fin 128), y = ix2 t j := ⟨y 0, y 1, by funext i; fin_cases i <;> rfl⟩
  unfold spread
  have h0 : ((Rect.unit (s := ⟨2, ![a, m]⟩) off ![a, 128] inb).emb (ix2 t j) 0).val = t.val := by
    subst hoff; show 0 + 1 * t.val = _; omega
  have h1 : ((Rect.unit (s := ⟨2, ![a, m]⟩) off ![a, 128] inb).emb (ix2 t j) 1).val = 128 * n + j.val := by
    subst hoff; show 128 * n + 1 * j.val = _; omega
  rw [h0, h1, show (128 * n + j.val) / 128 = n by have := j.isLt; omega]
  have ht := t.isLt
  refine (broadcastTo_apply _ _ _ (ix2 t 0) (fun i => by
    fin_cases i
    · show t.val = if a = 1 then 0 else t.val
      split
      · omega
      · rfl
    · rfl)).trans ?_
  refine (extractStridedSlice_apply ![0, n] v hs (ix2 t 0) (ix2 t ⟨n, hn⟩) (fun i => by fin_cases i; exact (Nat.zero_add _).symm; rfl)).trans ?_
  exact at2_of v _ _ _ rfl rfl

/-- The same piece with the casts between equal shapes. -/
theorem colCasts {a b : ℕ} (v : FVec Ideal ⟨2, ![a, b]⟩ .f32) (n : ℕ) (hs : (⟨2, ![a, b]⟩ : Shape).Slices ![0, n] ⟨2, ![a, 1]⟩) (hb : (⟨2, ![a, 1]⟩ : Shape).Broadcasts ⟨2, ![a, 128]⟩)
    (h1 : (⟨2, ![a, 1]⟩ : Shape).ShapeCasts ⟨2, ![a, 1]⟩) (h2 : (⟨2, ![a, 128]⟩ : Shape).ShapeCasts ⟨2, ![a, 128]⟩) :
    shapeCast ⟨2, ![a, 128]⟩ (broadcastTo ⟨2, ![a, 128]⟩ (shapeCast ⟨2, ![a, 1]⟩ (extractStridedSlice ⟨2, ![a, 1]⟩ ![0, n] v hs) h1) hb) h2
      = broadcastTo ⟨2, ![a, 128]⟩ (extractStridedSlice ⟨2, ![a, 1]⟩ ![0, n] v hs) hb := by
  rw [shapeCast_self, shapeCast_self]

section Trip
variable (c : Dev nD) (LS : S17.Idx → BitVec 32) (SU SD : S12x16x40.Idx → EReal) (v18 : BitVec 32) (k0_hw2 : k0_chk2 v18) (k : Fin (k0_t1_loop v18).trips)
  (hchk3 : k0_chk3 (tripRunE.sl.r (F := Ideal) c LS v18 k0_hw2 k))

/-- The up scales of the expert, spread over the lanes of the contracted axis. -/
theorem sx10_eq : (Memref.whole cc0_scratch10 : Memref sig .tc .vmem S12x5120 .f32).view.writes (Elt Ideal) (Memref.whole cc0_scratch10 : Memref sig .tc .vmem S12x5120 .f32).view.junk
      (tripRunE.sl.H10_40 (F := Ideal) c LS SU v18 k0_hw2 k hchk3) = spread (tripRunE.sl.v186 (F := Ideal) c LS SU v18 k0_hw2 k hchk3) := by
  funext y
  refine View.read_writes_apply_of_pieces (Val := Elt Ideal) (v := (Memref.whole cc0_scratch10 : Memref sig .tc .vmem S12x5120 .f32).view) (f := (Memref.whole cc0_scratch10 : Memref sig .tc .vmem S12x5120 .f32).view.junk)
    (spread (tripRunE.sl.v186 (F := Ideal) c LS SU v18 k0_hw2 k hchk3)) (tripRunE.sl.H10_40 (F := Ideal) c LS SU v18 k0_hw2 k hchk3) ?_ y ?_
  · unfold tripRunE.sl.H10_40
    simp only [List.forall_mem_cons, List.not_mem_nil, false_imp_iff, implies_true, and_true]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
    · exact colPiece (m := 5120) (tripRunE.sl.v186 (F := Ideal) c LS SU v18 k0_hw2 k hchk3) 39 (by decide) rfl slices_S12x40_o0_39_S12x1 broadcasts_S12x1_S12x128 ((show tripRunE.sl.v426 (F := Ideal) c LS SU v18 k0_hw2 k hchk3 = _ from rfl).trans (colCasts (tripRunE.sl.v186 (F := Ideal) c LS SU v18 k0_hw2 k hchk3) 39 slices_S12x40_o0_39_S12x1 broadcasts_S12x1_S12x128 shapeCasts_S12x1_S12x1 shapeCasts_S12x128_S12x128))
    · exact colPiece (m := 5120) (tripRunE.sl.v186 (F := Ideal) c LS SU v18 k0_hw2 k hchk3) 38 (by decide) rfl slices_S12x40_o0_38_S12x1 broadcasts_S12x1_S12x128 ((show tripRunE.sl.v420 (F := Ideal) c LS SU v18 k0_hw2 k hchk3 = _ from rfl).trans (colCasts (tripRunE.sl.v186 (F := Ideal) c LS SU v18 k0_hw2 k hchk3) 38 slices_S12x40_o0_38_S12x1 broadcasts_S12x1_S12x128 shapeCasts_S12x1_S12x1 shapeCasts_S12x128_S12x128))
    · exact colPiece (m := 5120) (tripRunE.sl.v186 (F := Ideal) c LS SU v18 k0_hw2 k hchk3) 37 (by decide) rfl slices_S12x40_o0_37_S12x1 broadcasts_S12x1_S12x128 ((show tripRunE.sl.v414 (F := Ideal) c LS SU v18 k0_hw2 k hchk3 = _ from rfl).trans (colCasts (tripRunE.sl.v186 (F := Ideal) c LS SU v18 k0_hw2 k hchk3) 37 slices_S12x40_o0_37_S12x1 broadcasts_S12x1_S12x128 shapeCasts_S12x1_S12x1 shapeCasts_S12x128_S12x128))
    · exact colPiece (m := 5120) (tripRunE.sl.v186 (F := Ideal) c LS SU v18 k0_hw2 k hchk3) 36 (by decide) rfl slices_S12x40_o0_36_S12x1 broadcasts_S12x1_S12x128 ((show tripRunE.sl.v408 (F := Ideal) c LS SU v18 k0_hw2 k hchk3 = _ from rfl).trans (colCasts (tripRunE.sl.v186 (F := Ideal) c LS SU v18 k0_hw2 k hchk3) 36 slices_S12x40_o0_36_S12x1 broadcasts_S12x1_S12x128 shapeCasts_S12x1_S12x1 shapeCasts_S12x128_S12x128))
    · exact colPiece (m := 5120) (tripRunE.sl.v186 (F := Ideal) c LS SU v18 k0_hw2 k hchk3) 35 (by decide) rfl slices_S12x40_o0_35_S12x1 broadcasts_S12x1_S12x128 ((show tripRunE.sl.v402 (F := Ideal) c LS SU v18 k0_hw2 k hchk3 = _ from rfl).trans (colCasts (tripRunE.sl.v186 (F := Ideal) c LS SU v18 k0_hw2 k hchk3) 35 slices_S12x40_o0_35_S12x1 broadcasts_S12x1_S12x128 shapeCasts_S12x1_S12x1 shapeCasts_S12x128_S12x128))
    · exact colPiece (m := 5120) (tripRunE.sl.v186 (F := Ideal) c LS SU v18 k0_hw2 k hchk3) 34 (by decide) rfl slices_S12x40_o0_34_S12x1 broadcasts_S12x1_S12x128 ((show tripRunE.sl.v396 (F := Ideal) c LS SU v18 k0_hw2 k hchk3 = _ from rfl).trans (colCasts (tripRunE.sl.v186 (F := Ideal) c LS SU v18 k0_hw2 k hchk3) 34 slices_S12x40_o0_34_S12x1 broadcasts_S12x1_S12x128 shapeCasts_S12x1_S12x1 shapeCasts_S12x128_S12x128))
    · exact colPiece (m := 5120) (tripRunE.sl.v186 (F := Ideal) c LS SU v18 k0_hw2 k hchk3) 33 (by decide) rfl slices_S12x40_o0_33_S12x1 broadcasts_S12x1_S12x128 ((show tripRunE.sl.v390 (F := Ideal) c LS SU v18 k0_hw2 k hchk3 = _ from rfl).trans (colCasts (tripRunE.sl.v186 (F := Ideal) c LS SU v18 k0_hw2 k hchk3) 33 slices_S12x40_o0_33_S12x1 broadcasts_S12x1_S12x128 shapeCasts_S12x1_S12x1 shapeCasts_S12x128_S12x128))
    · exact colPiece (m := 5120) (tripRunE.sl.v186 (F := Ideal) c LS SU v18 k0_hw2 k hchk3) 32 (by decide) rfl slices_S12x40_o0_32_S12x1 broadcasts_S12x1_S12x128 ((show tripRunE.sl.v384 (F := Ideal) c LS SU v18 k0_hw2 k hchk3 = _ from rfl).trans (colCasts (tripRunE.sl.v186 (F := Ideal) c LS SU v18 k0_hw2 k hchk3) 32 slices_S12x40_o0_32_S12x1 broadcasts_S12x1_S12x128 shapeCasts_S12x1_S12x1 shapeCasts_S12x128_S12x128))
    · exact colPiece (m := 5120) (tripRunE.sl.v186 (F := Ideal) c LS SU v18 k0_hw2 k hchk3) 31 (by decide) rfl slices_S12x40_o0_31_S12x1 broadcasts_S12x1_S12x128 ((show tripRunE.sl.v378 (F := Ideal) c LS SU v18 k0_hw2 k hchk3 = _ from rfl).trans (colCasts (tripRunE.sl.v186 (F := Ideal) c LS SU v18 k0_hw2 k hchk3) 31 slices_S12x40_o0_31_S12x1 broadcasts_S12x1_S12x128 shapeCasts_S12x1_S12x1 shapeCasts_S12x128_S12x128))
    · exact colPiece (m := 5120) (tripRunE.sl.v186 (F := Ideal) c LS SU v18 k0_hw2 k hchk3) 30 (by decide) rfl slices_S12x40_o0_30_S12x1 broadcasts_S12x1_S12x128 ((show tripRunE.sl.v372 (F := Ideal) c LS SU v18 k0_hw2 k hchk3 = _ from rfl).trans (colCasts (tripRunE.sl.v186 (F := Ideal) c LS SU v18 k0_hw2 k hchk3) 30 slices_S12x40_o0_30_S12x1 broadcasts_S12x1_S12x128 shapeCasts_S12x1_S12x1 shapeCasts_S12x128_S12x128))
    · exact colPiece (m := 5120) (tripRunE.sl.v186 (F := Ideal) c LS SU v18 k0_hw2 k hchk3) 29 (by decide) rfl slices_S12x40_o0_29_S12x1 broadcasts_S12x1_S12x128 ((show tripRunE.sl.v366 (F := Ideal) c LS SU v18 k0_hw2 k hchk3 = _ from rfl).trans (colCasts (tripRunE.sl.v186 (F := Ideal) c LS SU v18 k0_hw2 k hchk3) 29 slices_S12x40_o0_29_S12x1 broadcasts_S12x1_S12x128 shapeCasts_S12x1_S12x1 shapeCasts_S12x128_S12x128))
    · exact colPiece (m := 5120) (tripRunE.sl.v186 (F := Ideal) c LS SU v18 k0_hw2 k hchk3) 28 (by decide) rfl slices_S12x40_o0_28_S12x1 broadcasts_S12x1_S12x128 ((show tripRunE.sl.v360 (F := Ideal) c LS SU v18 k0_hw2 k hchk3 = _ from rfl).trans (colCasts (tripRunE.sl.v186 (F := Ideal) c LS SU v18 k0_hw2 k hchk3) 28 slices_S12x40_o0_28_S12x1 broadcasts_S12x1_S12x128 shapeCasts_S12x1_S12x1 shapeCasts_S12x128_S12x128))
    · exact colPiece (m := 5120) (tripRunE.sl.v186 (F := Ideal) c LS SU v18 k0_hw2 k hchk3) 27 (by decide) rfl slices_S12x40_o0_27_S12x1 broadcasts_S12x1_S12x128 ((show tripRunE.sl.v354 (F := Ideal) c LS SU v18 k0_hw2 k hchk3 = _ from rfl).trans (colCasts (tripRunE.sl.v186 (F := Ideal) c LS SU v18 k0_hw2 k hchk3) 27 slices_S12x40_o0_27_S12x1 broadcasts_S12x1_S12x128 shapeCasts_S12x1_S12x1 shapeCasts_S12x128_S12x128))
    · exact colPiece (m := 5120) (tripRunE.sl.v186 (F := Ideal) c LS SU v18 k0_hw2 k hchk3) 26 (by decide) rfl slices_S12x40_o0_26_S12x1 broadcasts_S12x1_S12x128 ((show tripRunE.sl.v348 (F := Ideal) c LS SU v18 k0_hw2 k hchk3 = _ from rfl).trans (colCasts (tripRunE.sl.v186 (F := Ideal) c LS SU v18 k0_hw2 k hchk3) 26 slices_S12x40_o0_26_S12x1 broadcasts_S12x1_S12x128 shapeCasts_S12x1_S12x1 shapeCasts_S12x128_S12x128))
    · exact colPiece (m := 5120) (tripRunE.sl.v186 (F := Ideal) c LS SU v18 k0_hw2 k hchk3) 25 (by decide) rfl slices_S12x40_o0_25_S12x1 broadcasts_S12x1_S12x128 ((show tripRunE.sl.v342 (F := Ideal) c LS SU v18 k0_hw2 k hchk3 = _ from rfl).trans (colCasts (tripRunE.sl.v186 (F := Ideal) c LS SU v18 k0_hw2 k hchk3) 25 slices_S12x40_o0_25_S12x1 broadcasts_S12x1_S12x128 shapeCasts_S12x1_S12x1 shapeCasts_S12x128_S12x128))
    · exact colPiece (m := 5120) (tripRunE.sl.v186 (F := Ideal) c LS SU v18 k0_hw2 k hchk3) 24 (by decide) rfl slices_S12x40_o0_24_S12x1 broadcasts_S12x1_S12x128 ((show tripRunE.sl.v336 (F := Ideal) c LS SU v18 k0_hw2 k hchk3 = _ from rfl).trans (colCasts (tripRunE.sl.v186 (F := Ideal) c LS SU v18 k0_hw2 k hchk3) 24 slices_S12x40_o0_24_S12x1 broadcasts_S12x1_S12x128 shapeCasts_S12x1_S12x1 shapeCasts_S12x128_S12x128))
    · exact colPiece (m := 5120) (tripRunE.sl.v186 (F := Ideal) c LS SU v18 k0_hw2 k hchk3) 23 (by decide) rfl slices_S12x40_o0_23_S12x1 broadcasts_S12x1_S12x128 ((show tripRunE.sl.v330 (F := Ideal) c LS SU v18 k0_hw2 k hchk3 = _ from rfl).trans (colCasts (tripRunE.sl.v186 (F := Ideal) c LS SU v18 k0_hw2 k hchk3) 23 slices_S12x40_o0_23_S12x1 broadcasts_S12x1_S12x128 shapeCasts_S12x1_S12x1 shapeCasts_S12x128_S12x128))
    · exact colPiece (m := 5120) (tripRunE.sl.v186 (F := Ideal) c LS SU v18 k0_hw2 k hchk3) 22 (by decide) rfl slices_S12x40_o0_22_S12x1 broadcasts_S12x1_S12x128 ((show tripRunE.sl.v324 (F := Ideal) c LS SU v18 k0_hw2 k hchk3 = _ from rfl).trans (colCasts (tripRunE.sl.v186 (F := Ideal) c LS SU v18 k0_hw2 k hchk3) 22 slices_S12x40_o0_22_S12x1 broadcasts_S12x1_S12x128 shapeCasts_S12x1_S12x1 shapeCasts_S12x128_S12x128))
    · exact colPiece (m := 5120) (tripRunE.sl.v186 (F := Ideal) c LS SU v18 k0_hw2 k hchk3) 21 (by decide) rfl slices_S12x40_o0_21_S12x1 broadcasts_S12x1_S12x128 ((show tripRunE.sl.v318 (F := Ideal) c LS SU v18 k0_hw2 k hchk3 = _ from rfl).trans (colCasts (tripRunE.sl.v186 (F := Ideal) c LS SU v18 k0_hw2 k hchk3) 21 slices_S12x40_o0_21_S12x1 broadcasts_S12x1_S12x128 shapeCasts_S12x1_S12x1 shapeCasts_S12x128_S12x128))
    · exact colPiece (m := 5120) (tripRunE.sl.v186 (F := Ideal) c LS SU v18 k0_hw2 k hchk3) 20 (by decide) rfl slices_S12x40_o0_20_S12x1 broadcasts_S12x1_S12x128 ((show tripRunE.sl.v312 (F := Ideal) c LS SU v18 k0_hw2 k hchk3 = _ from rfl).trans (colCasts (tripRunE.sl.v186 (F := Ideal) c LS SU v18 k0_hw2 k hchk3) 20 slices_S12x40_o0_20_S12x1 broadcasts_S12x1_S12x128 shapeCasts_S12x1_S12x1 shapeCasts_S12x128_S12x128))
    · exact colPiece (m := 5120) (tripRunE.sl.v186 (F := Ideal) c LS SU v18 k0_hw2 k hchk3) 19 (by decide) rfl slices_S12x40_o0_19_S12x1 broadcasts_S12x1_S12x128 ((show tripRunE.sl.v306 (F := Ideal) c LS SU v18 k0_hw2 k hchk3 = _ from rfl).trans (colCasts (tripRunE.sl.v186 (F := Ideal) c LS SU v18 k0_hw2 k hchk3) 19 slices_S12x40_o0_19_S12x1 broadcasts_S12x1_S12x128 shapeCasts_S12x1_S12x1 shapeCasts_S12x128_S12x128))
    · exact colPiece (m := 5120) (tripRunE.sl.v186 (F := Ideal) c LS SU v18 k0_hw2 k hchk3) 18 (by decide) rfl slices_S12x40_o0_18_S12x1 broadcasts_S12x1_S12x128 ((show tripRunE.sl.v300 (F := Ideal) c LS SU v18 k0_hw2 k hchk3 = _ from rfl).trans (colCasts (tripRunE.sl.v186 (F := Ideal) c LS SU v18 k0_hw2 k hchk3) 18 slices_S12x40_o0_18_S12x1 broadcasts_S12x1_S12x128 shapeCasts_S12x1_S12x1 shapeCasts_S12x128_S12x128))
    · exact colPiece (m := 5120) (tripRunE.sl.v186 (F := Ideal) c LS SU v18 k0_hw2 k hchk3) 17 (by decide) rfl slices_S12x40_o0_17_S12x1 broadcasts_S12x1_S12x128 ((show tripRunE.sl.v294 (F := Ideal) c LS SU v18 k0_hw2 k hchk3 = _ from rfl).trans (colCasts (tripRunE.sl.v186 (F := Ideal) c LS SU v18 k0_hw2 k hchk3) 17 slices_S12x40_o0_17_S12x1 broadcasts_S12x1_S12x128 shapeCasts_S12x1_S12x1 shapeCasts_S12x128_S12x128))
    · exact colPiece (m := 5120) (tripRunE.sl.v186 (F := Ideal) c LS SU v18 k0_hw2 k hchk3) 16 (by decide) rfl slices_S12x40_o0_16_S12x1 broadcasts_S12x1_S12x128 ((show tripRunE.sl.v288 (F := Ideal) c LS SU v18 k0_hw2 k hchk3 = _ from rfl).trans (colCasts (tripRunE.sl.v186 (F := Ideal) c LS SU v18 k0_hw2 k hchk3) 16 slices_S12x40_o0_16_S12x1 broadcasts_S12x1_S12x128 shapeCasts_S12x1_S12x1 shapeCasts_S12x128_S12x128))
    · exact colPiece (m := 5120) (tripRunE.sl.v186 (F := Ideal) c LS SU v18 k0_hw2 k hchk3) 15 (by decide) rfl slices_S12x40_o0_15_S12x1 broadcasts_S12x1_S12x128 ((show tripRunE.sl.v282 (F := Ideal) c LS SU v18 k0_hw2 k hchk3 = _ from rfl).trans (colCasts (tripRunE.sl.v186 (F := Ideal) c LS SU v18 k0_hw2 k hchk3) 15 slices_S12x40_o0_15_S12x1 broadcasts_S12x1_S12x128 shapeCasts_S12x1_S12x1 shapeCasts_S12x128_S12x128))
    · exact colPiece (m := 5120) (tripRunE.sl.v186 (F := Ideal) c LS SU v18 k0_hw2 k hchk3) 14 (by decide) rfl slices_S12x40_o0_14_S12x1 broadcasts_S12x1_S12x128 ((show tripRunE.sl.v276 (F := Ideal) c LS SU v18 k0_hw2 k hchk3 = _ from rfl).trans (colCasts (tripRunE.sl.v186 (F := Ideal) c LS SU v18 k0_hw2 k hchk3) 14 slices_S12x40_o0_14_S12x1 broadcasts_S12x1_S12x128 shapeCasts_S12x1_S12x1 shapeCasts_S12x128_S12x128))
    · exact colPiece (m := 5120) (tripRunE.sl.v186 (F := Ideal) c LS SU v18 k0_hw2 k hchk3) 13 (by decide) rfl slices_S12x40_o0_13_S12x1 broadcasts_S12x1_S12x128 ((show tripRunE.sl.v270 (F := Ideal) c LS SU v18 k0_hw2 k hchk3 = _ from rfl).trans (colCasts (tripRunE.sl.v186 (F := Ideal) c LS SU v18 k0_hw2 k hchk3) 13 slices_S12x40_o0_13_S12x1 broadcasts_S12x1_S12x128 shapeCasts_S12x1_S12x1 shapeCasts_S12x128_S12x128))
    · exact colPiece (m := 5120) (tripRunE.sl.v186 (F := Ideal) c LS SU v18 k0_hw2 k hchk3) 12 (by decide) rfl slices_S12x40_o0_12_S12x1 broadcasts_S12x1_S12x128 ((show tripRunE.sl.v264 (F := Ideal) c LS SU v18 k0_hw2 k hchk3 = _ from rfl).trans (colCasts (tripRunE.sl.v186 (F := Ideal) c LS SU v18 k0_hw2 k hchk3) 12 slices_S12x40_o0_12_S12x1 broadcasts_S12x1_S12x128 shapeCasts_S12x1_S12x1 shapeCasts_S12x128_S12x128))
    · exact colPiece (m := 5120) (tripRunE.sl.v186 (F := Ideal) c LS SU v18 k0_hw2 k hchk3) 11 (by decide) rfl slices_S12x40_o0_11_S12x1 broadcasts_S12x1_S12x128 ((show tripRunE.sl.v258 (F := Ideal) c LS SU v18 k0_hw2 k hchk3 = _ from rfl).trans (colCasts (tripRunE.sl.v186 (F := Ideal) c LS SU v18 k0_hw2 k hchk3) 11 slices_S12x40_o0_11_S12x1 broadcasts_S12x1_S12x128 shapeCasts_S12x1_S12x1 shapeCasts_S12x128_S12x128))
    · exact colPiece (m := 5120) (tripRunE.sl.v186 (F := Ideal) c LS SU v18 k0_hw2 k hchk3) 10 (by decide) rfl slices_S12x40_o0_10_S12x1 broadcasts_S12x1_S12x128 ((show tripRunE.sl.v252 (F := Ideal) c LS SU v18 k0_hw2 k hchk3 = _ from rfl).trans (colCasts (tripRunE.sl.v186 (F := Ideal) c LS SU v18 k0_hw2 k hchk3) 10 slices_S12x40_o0_10_S12x1 broadcasts_S12x1_S12x128 shapeCasts_S12x1_S12x1 shapeCasts_S12x128_S12x128))
    · exact colPiece (m := 5120) (tripRunE.sl.v186 (F := Ideal) c LS SU v18 k0_hw2 k hchk3) 9 (by decide) rfl slices_S12x40_o0_9_S12x1 broadcasts_S12x1_S12x128 ((show tripRunE.sl.v246 (F := Ideal) c LS SU v18 k0_hw2 k hchk3 = _ from rfl).trans (colCasts (tripRunE.sl.v186 (F := Ideal) c LS SU v18 k0_hw2 k hchk3) 9 slices_S12x40_o0_9_S12x1 broadcasts_S12x1_S12x128 shapeCasts_S12x1_S12x1 shapeCasts_S12x128_S12x128))
    · exact colPiece (m := 5120) (tripRunE.sl.v186 (F := Ideal) c LS SU v18 k0_hw2 k hchk3) 8 (by decide) rfl slices_S12x40_o0_8_S12x1 broadcasts_S12x1_S12x128 ((show tripRunE.sl.v240 (F := Ideal) c LS SU v18 k0_hw2 k hchk3 = _ from rfl).trans (colCasts (tripRunE.sl.v186 (F := Ideal) c LS SU v18 k0_hw2 k hchk3) 8 slices_S12x40_o0_8_S12x1 broadcasts_S12x1_S12x128 shapeCasts_S12x1_S12x1 shapeCasts_S12x128_S12x128))
    · exact colPiece (m := 5120) (tripRunE.sl.v186 (F := Ideal) c LS SU v18 k0_hw2 k hchk3) 7 (by decide) rfl slices_S12x40_o0_7_S12x1 broadcasts_S12x1_S12x128 ((show tripRunE.sl.v234 (F := Ideal) c LS SU v18 k0_hw2 k hchk3 = _ from rfl).trans (colCasts (tripRunE.sl.v186 (F := Ideal) c LS SU v18 k0_hw2 k hchk3) 7 slices_S12x40_o0_7_S12x1 broadcasts_S12x1_S12x128 shapeCasts_S12x1_S12x1 shapeCasts_S12x128_S12x128))
    · exact colPiece (m := 5120) (tripRunE.sl.v186 (F := Ideal) c LS SU v18 k0_hw2 k hchk3) 6 (by decide) rfl slices_S12x40_o0_6_S12x1 broadcasts_S12x1_S12x128 ((show tripRunE.sl.v228 (F := Ideal) c LS SU v18 k0_hw2 k hchk3 = _ from rfl).trans (colCasts (tripRunE.sl.v186 (F := Ideal) c LS SU v18 k0_hw2 k hchk3) 6 slices_S12x40_o0_6_S12x1 broadcasts_S12x1_S12x128 shapeCasts_S12x1_S12x1 shapeCasts_S12x128_S12x128))
    · exact colPiece (m := 5120) (tripRunE.sl.v186 (F := Ideal) c LS SU v18 k0_hw2 k hchk3) 5 (by decide) rfl slices_S12x40_o0_5_S12x1 broadcasts_S12x1_S12x128 ((show tripRunE.sl.v222 (F := Ideal) c LS SU v18 k0_hw2 k hchk3 = _ from rfl).trans (colCasts (tripRunE.sl.v186 (F := Ideal) c LS SU v18 k0_hw2 k hchk3) 5 slices_S12x40_o0_5_S12x1 broadcasts_S12x1_S12x128 shapeCasts_S12x1_S12x1 shapeCasts_S12x128_S12x128))
    · exact colPiece (m := 5120) (tripRunE.sl.v186 (F := Ideal) c LS SU v18 k0_hw2 k hchk3) 4 (by decide) rfl slices_S12x40_o0_4_S12x1 broadcasts_S12x1_S12x128 ((show tripRunE.sl.v216 (F := Ideal) c LS SU v18 k0_hw2 k hchk3 = _ from rfl).trans (colCasts (tripRunE.sl.v186 (F := Ideal) c LS SU v18 k0_hw2 k hchk3) 4 slices_S12x40_o0_4_S12x1 broadcasts_S12x1_S12x128 shapeCasts_S12x1_S12x1 shapeCasts_S12x128_S12x128))
    · exact colPiece (m := 5120) (tripRunE.sl.v186 (F := Ideal) c LS SU v18 k0_hw2 k hchk3) 3 (by decide) rfl slices_S12x40_o0_3_S12x1 broadcasts_S12x1_S12x128 ((show tripRunE.sl.v210 (F := Ideal) c LS SU v18 k0_hw2 k hchk3 = _ from rfl).trans (colCasts (tripRunE.sl.v186 (F := Ideal) c LS SU v18 k0_hw2 k hchk3) 3 slices_S12x40_o0_3_S12x1 broadcasts_S12x1_S12x128 shapeCasts_S12x1_S12x1 shapeCasts_S12x128_S12x128))
    · exact colPiece (m := 5120) (tripRunE.sl.v186 (F := Ideal) c LS SU v18 k0_hw2 k hchk3) 2 (by decide) rfl slices_S12x40_o0_2_S12x1 broadcasts_S12x1_S12x128 ((show tripRunE.sl.v204 (F := Ideal) c LS SU v18 k0_hw2 k hchk3 = _ from rfl).trans (colCasts (tripRunE.sl.v186 (F := Ideal) c LS SU v18 k0_hw2 k hchk3) 2 slices_S12x40_o0_2_S12x1 broadcasts_S12x1_S12x128 shapeCasts_S12x1_S12x1 shapeCasts_S12x128_S12x128))
    · exact colPiece (m := 5120) (tripRunE.sl.v186 (F := Ideal) c LS SU v18 k0_hw2 k hchk3) 1 (by decide) rfl slices_S12x40_o0_1_S12x1 broadcasts_S12x1_S12x128 ((show tripRunE.sl.v198 (F := Ideal) c LS SU v18 k0_hw2 k hchk3 = _ from rfl).trans (colCasts (tripRunE.sl.v186 (F := Ideal) c LS SU v18 k0_hw2 k hchk3) 1 slices_S12x40_o0_1_S12x1 broadcasts_S12x1_S12x128 shapeCasts_S12x1_S12x1 shapeCasts_S12x128_S12x128))
    · exact colPiece (m := 5120) (tripRunE.sl.v186 (F := Ideal) c LS SU v18 k0_hw2 k hchk3) 0 (by decide) rfl slices_S12x40_o0_0_S12x1 broadcasts_S12x1_S12x128 ((show tripRunE.sl.v192 (F := Ideal) c LS SU v18 k0_hw2 k hchk3 = _ from rfl).trans (colCasts (tripRunE.sl.v186 (F := Ideal) c LS SU v18 k0_hw2 k hchk3) 0 slices_S12x40_o0_0_S12x1 broadcasts_S12x1_S12x128 shapeCasts_S12x1_S12x1 shapeCasts_S12x128_S12x128))
  · unfold tripRunE.sl.H10_40
    exact View.cover_of_tiled (s := S12x5120) _ S12x128.size rfl y

/-- The down scales of the expert, spread over the lanes of the contracted axis. -/
theorem sx11_eq : (Memref.whole cc0_scratch11 : Memref sig .tc .vmem S40x1536 .f32).view.writes (Elt Ideal) (Memref.whole cc0_scratch11 : Memref sig .tc .vmem S40x1536 .f32).view.junk
      (tripRunE.sl.H11_12 (F := Ideal) c LS SD v18 k0_hw2 k hchk3) = spread (tripRunE.sl.v430 (F := Ideal) c LS SD v18 k0_hw2 k hchk3) := by
  funext y
  refine View.read_writes_apply_of_pieces (Val := Elt Ideal) (v := (Memref.whole cc0_scratch11 : Memref sig .tc .vmem S40x1536 .f32).view) (f := (Memref.whole cc0_scratch11 : Memref sig .tc .vmem S40x1536 .f32).view.junk)
    (spread (tripRunE.sl.v430 (F := Ideal) c LS SD v18 k0_hw2 k hchk3)) (tripRunE.sl.H11_12 (F := Ideal) c LS SD v18 k0_hw2 k hchk3) ?_ y ?_
  · unfold tripRunE.sl.H11_12
    simp only [List.forall_mem_cons, List.not_mem_nil, false_imp_iff, implies_true, and_true]
    refine ⟨?_, ?_, ?_, ?_, ?_, ?_, ?_, ?_, ?_, ?_, ?_, ?_⟩
    · exact colPiece (m := 1536) (tripRunE.sl.v430 (F := Ideal) c LS SD v18 k0_hw2 k hchk3) 11 (by decide) rfl slices_S40x12_o0_11_S40x1 broadcasts_S40x1_S40x128 ((show k0_pay151 (F := Ideal) (tripRunE.sl.v430 (F := Ideal) c LS SD v18 k0_hw2 k hchk3) = _ from rfl).trans (colCasts (tripRunE.sl.v430 (F := Ideal) c LS SD v18 k0_hw2 k hchk3) 11 slices_S40x12_o0_11_S40x1 broadcasts_S40x1_S40x128 shapeCasts_S40x1_S40x1 shapeCasts_S40x128_S40x128))
    · exact colPiece (m := 1536) (tripRunE.sl.v430 (F := Ideal) c LS SD v18 k0_hw2 k hchk3) 10 (by decide) rfl slices_S40x12_o0_10_S40x1 broadcasts_S40x1_S40x128 ((show k0_pay150 (F := Ideal) (tripRunE.sl.v430 (F := Ideal) c LS SD v18 k0_hw2 k hchk3) = _ from rfl).trans (colCasts (tripRunE.sl.v430 (F := Ideal) c LS SD v18 k0_hw2 k hchk3) 10 slices_S40x12_o0_10_S40x1 broadcasts_S40x1_S40x128 shapeCasts_S40x1_S40x1 shapeCasts_S40x128_S40x128))
    · exact colPiece (m := 1536) (tripRunE.sl.v430 (F := Ideal) c LS SD v18 k0_hw2 k hchk3) 9 (by decide) rfl slices_S40x12_o0_9_S40x1 broadcasts_S40x1_S40x128 ((show k0_pay149 (F := Ideal) (tripRunE.sl.v487 (F := Ideal) c LS SD v18 k0_hw2 k hchk3) = _ from rfl).trans (colCasts (tripRunE.sl.v430 (F := Ideal) c LS SD v18 k0_hw2 k hchk3) 9 slices_S40x12_o0_9_S40x1 broadcasts_S40x1_S40x128 shapeCasts_S40x1_S40x1 shapeCasts_S40x128_S40x128))
    · exact colPiece (m := 1536) (tripRunE.sl.v430 (F := Ideal) c LS SD v18 k0_hw2 k hchk3) 8 (by decide) rfl slices_S40x12_o0_8_S40x1 broadcasts_S40x1_S40x128 ((show tripRunE.sl.v484 (F := Ideal) c LS SD v18 k0_hw2 k hchk3 = _ from rfl).trans (colCasts (tripRunE.sl.v430 (F := Ideal) c LS SD v18 k0_hw2 k hchk3) 8 slices_S40x12_o0_8_S40x1 broadcasts_S40x1_S40x128 shapeCasts_S40x1_S40x1 shapeCasts_S40x128_S40x128))
    · exact colPiece (m := 1536) (tripRunE.sl.v430 (F := Ideal) c LS SD v18 k0_hw2 k hchk3) 7 (by decide) rfl slices_S40x12_o0_7_S40x1 broadcasts_S40x1_S40x128 ((show tripRunE.sl.v478 (F := Ideal) c LS SD v18 k0_hw2 k hchk3 = _ from rfl).trans (colCasts (tripRunE.sl.v430 (F := Ideal) c LS SD v18 k0_hw2 k hchk3) 7 slices_S40x12_o0_7_S40x1 broadcasts_S40x1_S40x128 shapeCasts_S40x1_S40x1 shapeCasts_S40x128_S40x128))
    · exact colPiece (m := 1536) (tripRunE.sl.v430 (F := Ideal) c LS SD v18 k0_hw2 k hchk3) 6 (by decide) rfl slices_S40x12_o0_6_S40x1 broadcasts_S40x1_S40x128 ((show tripRunE.sl.v472 (F := Ideal) c LS SD v18 k0_hw2 k hchk3 = _ from rfl).trans (colCasts (tripRunE.sl.v430 (F := Ideal) c LS SD v18 k0_hw2 k hchk3) 6 slices_S40x12_o0_6_S40x1 broadcasts_S40x1_S40x128 shapeCasts_S40x1_S40x1 shapeCasts_S40x128_S40x128))
    · exact colPiece (m := 1536) (tripRunE.sl.v430 (F := Ideal) c LS SD v18 k0_hw2 k hchk3) 5 (by decide) rfl slices_S40x12_o0_5_S40x1 broadcasts_S40x1_S40x128 ((show tripRunE.sl.v466 (F := Ideal) c LS SD v18 k0_hw2 k hchk3 = _ from rfl).trans (colCasts (tripRunE.sl.v430 (F := Ideal) c LS SD v18 k0_hw2 k hchk3) 5 slices_S40x12_o0_5_S40x1 broadcasts_S40x1_S40x128 shapeCasts_S40x1_S40x1 shapeCasts_S40x128_S40x128))
    · exact colPiece (m := 1536) (tripRunE.sl.v430 (F := Ideal) c LS SD v18 k0_hw2 k hchk3) 4 (by decide) rfl slices_S40x12_o0_4_S40x1 broadcasts_S40x1_S40x128 ((show tripRunE.sl.v460 (F := Ideal) c LS SD v18 k0_hw2 k hchk3 = _ from rfl).trans (colCasts (tripRunE.sl.v430 (F := Ideal) c LS SD v18 k0_hw2 k hchk3) 4 slices_S40x12_o0_4_S40x1 broadcasts_S40x1_S40x128 shapeCasts_S40x1_S40x1 shapeCasts_S40x128_S40x128))
    · exact colPiece (m := 1536) (tripRunE.sl.v430 (F := Ideal) c LS SD v18 k0_hw2 k hchk3) 3 (by decide) rfl slices_S40x12_o0_3_S40x1 broadcasts_S40x1_S40x128 ((show tripRunE.sl.v454 (F := Ideal) c LS SD v18 k0_hw2 k hchk3 = _ from rfl).trans (colCasts (tripRunE.sl.v430 (F := Ideal) c LS SD v18 k0_hw2 k hchk3) 3 slices_S40x12_o0_3_S40x1 broadcasts_S40x1_S40x128 shapeCasts_S40x1_S40x1 shapeCasts_S40x128_S40x128))
    · exact colPiece (m := 1536) (tripRunE.sl.v430 (F := Ideal) c LS SD v18 k0_hw2 k hchk3) 2 (by decide) rfl slices_S40x12_o0_2_S40x1 broadcasts_S40x1_S40x128 ((show tripRunE.sl.v448 (F := Ideal) c LS SD v18 k0_hw2 k hchk3 = _ from rfl).trans (colCasts (tripRunE.sl.v430 (F := Ideal) c LS SD v18 k0_hw2 k hchk3) 2 slices_S40x12_o0_2_S40x1 broadcasts_S40x1_S40x128 shapeCasts_S40x1_S40x1 shapeCasts_S40x128_S40x128))
    · exact colPiece (m := 1536) (tripRunE.sl.v430 (F := Ideal) c LS SD v18 k0_hw2 k hchk3) 1 (by decide) rfl slices_S40x12_o0_1_S40x1 broadcasts_S40x1_S40x128 ((show tripRunE.sl.v442 (F := Ideal) c LS SD v18 k0_hw2 k hchk3 = _ from rfl).trans (colCasts (tripRunE.sl.v430 (F := Ideal) c LS SD v18 k0_hw2 k hchk3) 1 slices_S40x12_o0_1_S40x1 broadcasts_S40x1_S40x128 shapeCasts_S40x1_S40x1 shapeCasts_S40x128_S40x128))
    · exact colPiece (m := 1536) (tripRunE.sl.v430 (F := Ideal) c LS SD v18 k0_hw2 k hchk3) 0 (by decide) rfl slices_S40x12_o0_0_S40x1 broadcasts_S40x1_S40x128 ((show tripRunE.sl.v436 (F := Ideal) c LS SD v18 k0_hw2 k hchk3 = _ from rfl).trans (colCasts (tripRunE.sl.v430 (F := Ideal) c LS SD v18 k0_hw2 k hchk3) 0 slices_S40x12_o0_0_S40x1 broadcasts_S40x1_S40x128 shapeCasts_S40x1_S40x1 shapeCasts_S40x128_S40x128))
  · unfold tripRunE.sl.H11_12
    exact View.cover_of_tiled (s := S40x1536) _ S40x128.size rfl y
end Trip

end Cert.Proof.V
-- ==== Proof.V.Slot.lean ====
/- What a chunk of a slot of the weight buffers holds after its copy. -/
module

public import proofs.«01_k».proof.Proof.I.Names
public import proofs.«01_k».proof.Proof.V.Read
public import Idealize.ShloMosaic.Lib.Writes

@[expose] public section

noncomputable section

namespace Cert.Proof.V

open Cert.KernelIdeal Cert.KernelIdeal.Gen Cert.Proof.I
open Idealize.ShloMosaic Idealize.ShloMosaic.ValueIdx

/-- The source chunk's entry `(q, col)` is the weights' entry at expert `e`, row `1280 c + q`, column `col`. -/
theorem srcU_read (W : S16x5120x1536.Idx → EReal) (e : Fin 16) (c : Fin 4) (q : Fin 1280) (col : Fin 1536) :
    View.read (Elt Ideal) (srcU e c).view W (ix2 q col) = at3 W e.val (1280 * c.val + q.val) col.val := by
  refine (shapeCast_1ab_ab_apply (a := 1280) (b := 1536)
    (wUM.view.readAt (Elt Ideal) (Rect.unit (s := S16x5120x1536) (srcOffU e c) S1x1280x1536.size (srcOffU_inb e c)).toLoadRect W)
    (by decide) q col).trans ?_
  refine (rd3 (a := 1) (b := 1280) (d := 1536) rfl (srcOffU_inb e c) W 0 q col).trans ?_
  congr 1
  exact Nat.zero_add _

/-- The slot's chunk read at `(q, col)` is the buffer at slot `s`, row `1280 c + q`, column `col`. -/
theorem slotU_read (g : S2x5120x1536.Idx → EReal) (s : Fin 2) (c : Fin 4) (q : Fin 1280) (col : Fin 1536) :
    View.read (Elt Ideal) (slotU s c).view g (ix2 q col) = at3 g s.val (1280 * c.val + q.val) col.val := by
  refine (shapeCast_1ab_ab_apply (a := 1280) (b := 1536)
    (bufUM.view.readAt (Elt Ideal) (Rect.unit (s := S2x5120x1536) (slotOffU s c) S1x1280x1536.size (slotOffU_inb s c)).toLoadRect g)
    (by decide) q col).trans ?_
  refine (rd3 (a := 1) (b := 1280) (d := 1536) rfl (slotOffU_inb s c) g 0 q col).trans ?_
  congr 1
  exact Nat.zero_add _

/-- The buffer after the copy of expert `e`'s chunk `c` into chunk `c` of slot `s`. -/
def landedU (W : S16x5120x1536.Idx → EReal) (f : S2x5120x1536.Idx → EReal) (s : Fin 2) (e : Fin 16) (c : Fin 4) : S2x5120x1536.Idx → EReal :=
  (slotU s c).view.writes (Elt Ideal) f [⟨Rect.whole S1280x1536, ReadAs.same.apply (View.read (Elt Ideal) (srcU e c).view W)⟩]

/-- What chunk `c` of slot `s` holds at row `q` and column `col` after the copy of expert `e`'s chunk `c`. -/
theorem slotU_at (W : S16x5120x1536.Idx → EReal) (f : S2x5120x1536.Idx → EReal) (s : Fin 2) (e : Fin 16) (c : Fin 4)
    (q : Fin 1280) (col : Fin 1536) :
    at3 (landedU W f s e c) s.val (1280 * c.val + q.val) col.val = at3 W e.val (1280 * c.val + q.val) col.val := by
  rw [← slotU_read, ← srcU_read]
  unfold landedU
  have h2 := View.read_writes_cons_emb (Val := Elt Ideal) (v := (slotU s c).view) (f := f) (Rect.whole S1280x1536)
    (View.read (Elt Ideal) (srcU e c).view W) [] (ix2 q col)
  rw [Rect.emb_whole_apply] at h2
  exact h2

/-- The source chunk's entry `(q, col)` is the weights' entry at expert `e`, row `512 c + q`, column `col`. -/
theorem srcD_read (W : S16x1536x5120.Idx → EReal) (e : Fin 16) (c : Fin 3) (q : Fin 512) (col : Fin 5120) :
    View.read (Elt Ideal) (srcD e c).view W (ix2 q col) = at3 W e.val (512 * c.val + q.val) col.val := by
  refine (shapeCast_1ab_ab_apply (a := 512) (b := 5120)
    (wDM.view.readAt (Elt Ideal) (Rect.unit (s := S16x1536x5120) (srcOffD e c) S1x512x5120.size (srcOffD_inb e c)).toLoadRect W)
    (by decide) q col).trans ?_
  refine (rd3 (a := 1) (b := 512) (d := 5120) rfl (srcOffD_inb e c) W 0 q col).trans ?_
  congr 1
  exact Nat.zero_add _

/-- The slot's chunk read at `(q, col)` is the buffer at slot `s`, row `512 c + q`, column `col`. -/
theorem slotD_read (g : S2x1536x5120.Idx → EReal) (s : Fin 2) (c : Fin 3) (q : Fin 512) (col : Fin 5120) :
    View.read (Elt Ideal) (slotD s c).view g (ix2 q col) = at3 g s.val (512 * c.val + q.val) col.val := by
  refine (shapeCast_1ab_ab_apply (a := 512) (b := 5120)
    (bufDM.view.readAt (Elt Ideal) (Rect.unit (s := S2x1536x5120) (slotOffD s c) S1x512x5120.size (slotOffD_inb s c)).toLoadRect g)
    (by decide) q col).trans ?_
  refine (rd3 (a := 1) (b := 512) (d := 5120) rfl (slotOffD_inb s c) g 0 q col).trans ?_
  congr 1
  exact Nat.zero_add _

/-- The buffer after the copy of expert `e`'s chunk `c` into chunk `c` of slot `s`. -/
def landedD (W : S16x1536x5120.Idx → EReal) (f : S2x1536x5120.Idx → EReal) (s : Fin 2) (e : Fin 16) (c : Fin 3) : S2x1536x5120.Idx → EReal :=
  (slotD s c).view.writes (Elt Ideal) f [⟨Rect.whole S512x5120, ReadAs.same.apply (View.read (Elt Ideal) (srcD e c).view W)⟩]

/-- What chunk `c` of slot `s` holds at row `q` and column `col` after the copy of expert `e`'s chunk `c`. -/
theorem slotD_at (W : S16x1536x5120.Idx → EReal) (f : S2x1536x5120.Idx → EReal) (s : Fin 2) (e : Fin 16) (c : Fin 3)
    (q : Fin 512) (col : Fin 5120) :
    at3 (landedD W f s e c) s.val (512 * c.val + q.val) col.val = at3 W e.val (512 * c.val + q.val) col.val := by
  rw [← slotD_read, ← srcD_read]
  unfold landedD
  have h2 := View.read_writes_cons_emb (Val := Elt Ideal) (v := (slotD s c).view) (f := f) (Rect.whole S512x5120)
    (View.read (Elt Ideal) (srcD e c).view W) [] (ix2 q col)
  rw [Rect.emb_whole_apply] at h2
  exact h2

end Cert.Proof.V
-- ==== Proof.V.Up.lean ====
/- One trip of the loop over the chunks of the up projection, and the whole loop: what the accumulator holds. -/
module

public import proofs.«01_k».proof.Proof.I.TripU
public import proofs.«01_k».proof.Proof.V.Slot

@[expose] public section

noncomputable section

namespace Cert.Proof.V

open Cert.KernelIdeal Cert.KernelIdeal.Gen Cert.Proof.I
open Idealize.ShloMosaic Idealize.ShloMosaic.ValueIdx Idealize.ShloMosaic.TcCoe

/-- The entries a rectangle of sizes `a × b` at `off` reads. -/
abbrev ld2 {n m a b : ℕ} (X : (⟨2, ![n, m]⟩ : Shape).Idx → EReal) (off : Fin 2 → ℕ)
    (inb : ∀ k, off k + (![a, b] : Fin 2 → ℕ) k ≤ (![n, m] : Fin 2 → ℕ) k) : (⟨2, ![a, b]⟩ : Shape).Idx → EReal :=
  fun y => X ((Rect.unit (s := ⟨2, ![n, m]⟩) off ![a, b] inb).toLoadRect.idx y)

abbrev ld3 {n m l a b d : ℕ} (X : (⟨3, ![n, m, l]⟩ : Shape).Idx → EReal) (off : Fin 3 → ℕ)
    (inb : ∀ k, off k + (![a, b, d] : Fin 3 → ℕ) k ≤ (![n, m, l] : Fin 3 → ℕ) k) : (⟨3, ![a, b, d]⟩ : Shape).Idx → EReal :=
  fun y => X ((Rect.unit (s := ⟨3, ![n, m, l]⟩) off ![a, b, d] inb).toLoadRect.idx y)

/-- The part of row `t`, column `col` of the up projection that chunk `k` of the rows of the weights contributes. -/
def upTerm (XQ : S8x5120.Idx → EReal) (SX : S12x5120.Idx → EReal) (WU : S16x5120x1536.Idx → EReal) (e k t col : ℕ) : EReal :=
  ∑ q : Fin 1280, at2 XQ t (1280 * k + q.val) * at2 SX (col / 128) (1280 * k + q.val) * at3 WU e (1280 * k + q.val) col

theorem pay3_at (x : FVec Ideal S8x1280 .f32) (w : FVec Ideal S1x1280x256 .fp8e4m3) (s0 s1 : FVec Ideal S1x1280 .f32) (v : FVec Ideal S8x128 .f32)
    (t : Fin 8) (j : Fin 128) : k0_pay3 (F := Ideal) x w s0 s1 v (ix2 t j)
      = v (ix2 t j) + ∑ q : Fin 1280, x (ix2 t q) * s0 (ix2 0 q) * w (ix3 0 q ⟨j.val, by omega⟩) := by
  rw [← stacked_lo x s0 s1 w broadcasts_S1x1280_S8x1280 broadcasts_S1x1280_S8x1280 concatenates_S8x1280_S8x1280_S16x1280_d0 shapeCasts_S1x1280x256_S1280x256 bitsLt_bf16_f32 t ⟨j.val, by omega⟩]
  show shapeCast S8x128 (addf v (extractStridedSlice S8x128 ![0, 0] (k0_pay2 x w s0 s1) slices_S16x256_o0_0_S8x128)) shapeCasts_S8x128_S8x128 (ix2 t j) = _
  refine (congrFun (shapeCast_self _ _) _).trans ?_
  refine congrArg (v (ix2 t j) + ·) ?_
  exact extractStridedSlice_apply ![0, 0] _ slices_S16x256_o0_0_S8x128 (ix2 t j) (ix2 ⟨t.val, by omega⟩ ⟨j.val, by omega⟩)
    (fun a => by fin_cases a <;> exact (Nat.zero_add _).symm)

theorem pay5_at (x : FVec Ideal S8x1280 .f32) (w : FVec Ideal S1x1280x256 .fp8e4m3) (s0 s1 : FVec Ideal S1x1280 .f32) (v : FVec Ideal S8x128 .f32)
    (t : Fin 8) (j : Fin 128) : k0_pay5 (F := Ideal) (k0_pay4 (F := Ideal) x w s0 s1 v) (ix2 t j)
      = v (ix2 t j) + ∑ q : Fin 1280, x (ix2 t q) * s1 (ix2 0 q) * w (ix3 0 q ⟨128 + j.val, by omega⟩) := by
  rw [← stacked_hi x s0 s1 w broadcasts_S1x1280_S8x1280 broadcasts_S1x1280_S8x1280 concatenates_S8x1280_S8x1280_S16x1280_d0 shapeCasts_S1x1280x256_S1280x256 bitsLt_bf16_f32 t ⟨128 + j.val, by omega⟩]
  show shapeCast S8x128 (addf v (extractStridedSlice S8x128 ![8, 128] (k0_pay2 x w s0 s1) slices_S16x256_o8_128_S8x128)) shapeCasts_S8x128_S8x128 (ix2 t j) = _
  refine (congrFun (shapeCast_self _ _) _).trans ?_
  refine congrArg (v (ix2 t j) + ·) ?_
  exact extractStridedSlice_apply ![8, 128] _ slices_S16x256_o8_128_S8x128 (ix2 t j) (ix2 ⟨8 + t.val, by omega⟩ ⟨128 + j.val, by omega⟩)
    (fun a => by fin_cases a <;> rfl)

section Piece
variable (XQ : S8x5120.Idx → EReal) (SX : S12x5120.Idx → EReal) (WU : S16x5120x1536.Idx → EReal) (fo : S8x1536.Idx → EReal)
  (e : Fin 16) (c : Fin 4)

/-- The accumulator after chunk `c`. -/
def accOneU : S8x1536.Idx → EReal := fun y => fo y + upTerm XQ SX WU e.val c.val (y 0).val (y 1).val

/-- The even block `2 * j` of the accumulator after one trip, from what the trip reads. -/
theorem pieceU_lo (j : ℕ) (hj : j < 6) {x : FVec Ideal S8x1280 .f32} {w : FVec Ideal S1x1280x256 .fp8e4m3} {s0 s1 : FVec Ideal S1x1280 .f32}
    {v p : FVec Ideal S8x128 .f32} {ov : Fin 2 → ℕ} {iv} (hp : p = k0_pay3 (F := Ideal) x w s0 s1 v) (hov : ov = ![0, 256 * j])
    (hx : ∀ (t : Fin 8) (q : Fin 1280), x (ix2 t q) = at2 XQ (0 + t.val) (1280 * c.val + q.val))
    (hw : ∀ (q : Fin 1280) (cc : Fin 256), w (ix3 0 q cc) = at3 WU e.val (1280 * c.val + q.val) (256 * j + cc.val))
    (hs : ∀ q : Fin 1280, s0 (ix2 0 q) = at2 SX (2 * j + 0) (1280 * c.val + q.val))
    (hv : ∀ y, v y = fo ((Rect.unit (s := S8x1536) ov S8x128.size iv).emb y)) (y : S8x128.Idx) :
    p y = accOneU XQ SX WU fo e c ((Rect.unit (s := S8x1536) ov S8x128.size iv).emb y) := by
  subst hp
  obtain ⟨t, jj, rfl⟩ : ∃ (t : Fin 8) (jj : Fin 128), y = ix2 t jj := ⟨y 0, y 1, by funext a; fin_cases a <;> rfl⟩
  rw [pay3_at]
  unfold accOneU
  have hv0 : ((Rect.unit (s := S8x1536) ov S8x128.size iv).emb (ix2 t jj) 0).val = t.val := by
    subst hov; show 0 + 1 * t.val = _; omega
  have hv1 : ((Rect.unit (s := S8x1536) ov S8x128.size iv).emb (ix2 t jj) 1).val = 256 * j + jj.val := by
    subst hov; show 256 * j + 1 * jj.val = _; omega
  rw [hv0, hv1]
  refine congrArg₂ (· + ·) (hv _) ?_
  unfold upTerm
  refine Finset.sum_congr rfl fun q _ => ?_
  rw [show (256 * j + jj.val) / 128 = 2 * j by omega, hx, hs, hw, Nat.zero_add, Nat.add_zero]

/-- The odd block `2 * j + 1` of the accumulator after one trip, from what the trip reads. -/
theorem pieceU_hi (j : ℕ) (hj : j < 6) {x : FVec Ideal S8x1280 .f32} {w : FVec Ideal S1x1280x256 .fp8e4m3} {s0 s1 : FVec Ideal S1x1280 .f32}
    {v p : FVec Ideal S8x128 .f32} {ov : Fin 2 → ℕ} {iv} (hp : p = k0_pay5 (F := Ideal) (k0_pay4 (F := Ideal) x w s0 s1 v)) (hov : ov = ![0, 256 * j + 128])
    (hx : ∀ (t : Fin 8) (q : Fin 1280), x (ix2 t q) = at2 XQ (0 + t.val) (1280 * c.val + q.val))
    (hw : ∀ (q : Fin 1280) (cc : Fin 256), w (ix3 0 q cc) = at3 WU e.val (1280 * c.val + q.val) (256 * j + cc.val))
    (hs : ∀ q : Fin 1280, s1 (ix2 0 q) = at2 SX (2 * j + 1 + 0) (1280 * c.val + q.val))
    (hv : ∀ y, v y = fo ((Rect.unit (s := S8x1536) ov S8x128.size iv).emb y)) (y : S8x128.Idx) :
    p y = accOneU XQ SX WU fo e c ((Rect.unit (s := S8x1536) ov S8x128.size iv).emb y) := by
  subst hp
  obtain ⟨t, jj, rfl⟩ : ∃ (t : Fin 8) (jj : Fin 128), y = ix2 t jj := ⟨y 0, y 1, by funext a; fin_cases a <;> rfl⟩
  rw [pay5_at]
  unfold accOneU
  have hv0 : ((Rect.unit (s := S8x1536) ov S8x128.size iv).emb (ix2 t jj) 0).val = t.val := by
    subst hov; show 0 + 1 * t.val = _; omega
  have hv1 : ((Rect.unit (s := S8x1536) ov S8x128.size iv).emb (ix2 t jj) 1).val = 256 * j + 128 + jj.val := by
    subst hov; show 256 * j + 128 + 1 * jj.val = _; omega
  rw [hv0, hv1]
  refine congrArg₂ (· + ·) (hv _) ?_
  unfold upTerm
  refine Finset.sum_congr rfl fun q _ => ?_
  rw [show (256 * j + 128 + jj.val) / 128 = 2 * j + 1 by omega, hx, hs, hw, Nat.zero_add, Nat.add_zero]
  rw [Nat.add_assoc]

end Piece

/-- A block of weights read out of the buffer. -/
theorem rdSlotU (g : S2x5120x1536.Idx → EReal) {off : Fin 3 → ℕ} {r a b : ℕ} (ho : off = ![r, a, b]) (h) (q : Fin 1280) (col : Fin 256) :
    View.readAt (Elt Ideal) (Memref.whole cc0_scratch7).view (Rect.unit (s := S2x5120x1536) off S1x1280x256.size h).toLoadRect g (ix3 0 q col)
      = at3 g (r + 0) (a + q.val) (b + col.val) :=
  rd3 ho h g 0 q col

/-- A block of weights read out of the buffer after the copy of an expert's chunk. -/
theorem rdLandU (W : S16x5120x1536.Idx → EReal) {s : Fin 2} {e : Fin 16} {c : Fin 4} {f : S2x5120x1536.Idx → EReal}
    {off : Fin 3 → ℕ} {b : ℕ} (hb : b ≤ 1280) (ho : off = ![s.val, 1280 * c.val, b]) (h) (q : Fin 1280) (col : Fin 256) :
    View.readAt (Elt Ideal) (Memref.whole cc0_scratch7).view (Rect.unit (s := S2x5120x1536) off S1x1280x256.size h).toLoadRect
      ((slotU s c).view.writes (Elt Ideal) f [⟨Rect.whole S1280x1536, ReadAs.same.apply (View.read (Elt Ideal) (srcU e c).view W)⟩]) (ix3 0 q col)
      = at3 W e.val (1280 * c.val + q.val) (b + col.val) :=
  (rdSlotU _ ho h q col).trans (slotU_at W f s e c q ⟨b + col.val, by omega⟩)

theorem offU17 : ∀ k : Fin k0_t2_loop.trips, k0_off17 k = ![0, 1280 * (Ring.bk 4 k.val : Fin 4).val] := by decide +kernel
theorem offU19 : ∀ k : Fin k0_t2_loop.trips, k0_off19 k = ![0, 1280 * (Ring.bk 4 k.val : Fin 4).val] := by decide +kernel
theorem offU20 : ∀ k : Fin k0_t2_loop.trips, k0_off20 k = ![1, 1280 * (Ring.bk 4 k.val : Fin 4).val] := by decide +kernel
theorem offU22 : ∀ k : Fin k0_t2_loop.trips, k0_off22 k = ![2, 1280 * (Ring.bk 4 k.val : Fin 4).val] := by decide +kernel
theorem offU23 : ∀ k : Fin k0_t2_loop.trips, k0_off23 k = ![3, 1280 * (Ring.bk 4 k.val : Fin 4).val] := by decide +kernel
theorem offU25 : ∀ k : Fin k0_t2_loop.trips, k0_off25 k = ![4, 1280 * (Ring.bk 4 k.val : Fin 4).val] := by decide +kernel
theorem offU26 : ∀ k : Fin k0_t2_loop.trips, k0_off26 k = ![5, 1280 * (Ring.bk 4 k.val : Fin 4).val] := by decide +kernel
theorem offU28 : ∀ k : Fin k0_t2_loop.trips, k0_off28 k = ![6, 1280 * (Ring.bk 4 k.val : Fin 4).val] := by decide +kernel
theorem offU29 : ∀ k : Fin k0_t2_loop.trips, k0_off29 k = ![7, 1280 * (Ring.bk 4 k.val : Fin 4).val] := by decide +kernel
theorem offU31 : ∀ k : Fin k0_t2_loop.trips, k0_off31 k = ![8, 1280 * (Ring.bk 4 k.val : Fin 4).val] := by decide +kernel
theorem offU32 : ∀ k : Fin k0_t2_loop.trips, k0_off32 k = ![9, 1280 * (Ring.bk 4 k.val : Fin 4).val] := by decide +kernel
theorem offU34 : ∀ k : Fin k0_t2_loop.trips, k0_off34 k = ![10, 1280 * (Ring.bk 4 k.val : Fin 4).val] := by decide +kernel
theorem offU35 : ∀ k : Fin k0_t2_loop.trips, k0_off35 k = ![11, 1280 * (Ring.bk 4 k.val : Fin 4).val] := by decide +kernel

end Cert.Proof.V
-- ==== Proof.V.UpTrip.lean ====
/- One trip of the loop over the chunks of the up projection. -/
module

public import proofs.«01_k».proof.Proof.V.Up

@[expose] public section

noncomputable section

namespace Cert.Proof.V

open Cert.KernelIdeal Cert.KernelIdeal.Gen Cert.Proof.I
open Idealize.ShloMosaic Idealize.ShloMosaic.ValueIdx Idealize.ShloMosaic.TcCoe

/-! The stored values of the twelve blocks: one form for the even blocks, one for the odd ones. -/

theorem formU1408 (x : FVec Ideal S8x1280 .f32) (w : FVec Ideal S1x1280x256 .fp8e4m3) (s0 s1 : FVec Ideal S1x1280 .f32) (v : FVec Ideal S8x128 .f32) :
    k0_pay155 (F := Ideal) x (k0_pay21 (F := Ideal) w) (k0_pay22 (F := Ideal) x s0) s1 v = k0_pay5 (F := Ideal) (k0_pay4 (F := Ideal) x w s0 s1 v) := rfl
theorem formU1280 (x : FVec Ideal S8x1280 .f32) (w : FVec Ideal S1x1280x256 .fp8e4m3) (s0 s1 : FVec Ideal S1x1280 .f32) (v : FVec Ideal S8x128 .f32) :
    k0_pay154 (F := Ideal) x (k0_pay21 (F := Ideal) w) (k0_pay22 (F := Ideal) x s0) s1 v = k0_pay3 (F := Ideal) x w s0 s1 v := rfl
theorem formU1152 (x : FVec Ideal S8x1280 .f32) (w : FVec Ideal S1x1280x256 .fp8e4m3) (s0 s1 : FVec Ideal S1x1280 .f32) (v : FVec Ideal S8x128 .f32) :
    k0_pay20 (F := Ideal) x w s0 s1 v = k0_pay5 (F := Ideal) (k0_pay4 (F := Ideal) x w s0 s1 v) := rfl
theorem formU1024 (x : FVec Ideal S8x1280 .f32) (w : FVec Ideal S1x1280x256 .fp8e4m3) (s0 s1 : FVec Ideal S1x1280 .f32) (v : FVec Ideal S8x128 .f32) :
    k0_pay19 (F := Ideal) x w s0 s1 v = k0_pay3 (F := Ideal) x w s0 s1 v := rfl
theorem formU896 (x : FVec Ideal S8x1280 .f32) (w : FVec Ideal S1x1280x256 .fp8e4m3) (s0 s1 : FVec Ideal S1x1280 .f32) (v : FVec Ideal S8x128 .f32) :
    k0_pay17 (F := Ideal) (k0_pay16 (F := Ideal) x w s0 s1 v) = k0_pay5 (F := Ideal) (k0_pay4 (F := Ideal) x w s0 s1 v) := rfl
theorem formU768 (x : FVec Ideal S8x1280 .f32) (w : FVec Ideal S1x1280x256 .fp8e4m3) (s0 s1 : FVec Ideal S1x1280 .f32) (v : FVec Ideal S8x128 .f32) :
    k0_pay15 (F := Ideal) x w s0 s1 v = k0_pay3 (F := Ideal) x w s0 s1 v := rfl
theorem formU640 (x : FVec Ideal S8x1280 .f32) (w : FVec Ideal S1x1280x256 .fp8e4m3) (s0 s1 : FVec Ideal S1x1280 .f32) (v : FVec Ideal S8x128 .f32) :
    k0_pay13 (F := Ideal) (k0_pay9 (F := Ideal) w) (k0_pay10 (F := Ideal) x s0 s1) v = k0_pay5 (F := Ideal) (k0_pay4 (F := Ideal) x w s0 s1 v) := rfl
theorem formU512 (x : FVec Ideal S8x1280 .f32) (w : FVec Ideal S1x1280x256 .fp8e4m3) (s0 s1 : FVec Ideal S1x1280 .f32) (v : FVec Ideal S8x128 .f32) :
    k0_pay12 (F := Ideal) (k0_pay9 (F := Ideal) w) (k0_pay10 (F := Ideal) x s0 s1) v = k0_pay3 (F := Ideal) x w s0 s1 v := rfl
theorem formU384 (x : FVec Ideal S8x1280 .f32) (w : FVec Ideal S1x1280x256 .fp8e4m3) (s0 s1 : FVec Ideal S1x1280 .f32) (v : FVec Ideal S8x128 .f32) :
    k0_pay8 (F := Ideal) x w s0 s1 v = k0_pay5 (F := Ideal) (k0_pay4 (F := Ideal) x w s0 s1 v) := rfl
theorem formU256 (x : FVec Ideal S8x1280 .f32) (w : FVec Ideal S1x1280x256 .fp8e4m3) (s0 s1 : FVec Ideal S1x1280 .f32) (v : FVec Ideal S8x128 .f32) :
    k0_pay7 (F := Ideal) x w s0 s1 v = k0_pay3 (F := Ideal) x w s0 s1 v := rfl
theorem formU128 (x : FVec Ideal S8x1280 .f32) (w : FVec Ideal S1x1280x256 .fp8e4m3) (s0 s1 : FVec Ideal S1x1280 .f32) (v : FVec Ideal S8x128 .f32) :
    k0_pay5 (F := Ideal) (k0_pay4 (F := Ideal) x w s0 s1 v) = k0_pay5 (F := Ideal) (k0_pay4 (F := Ideal) x w s0 s1 v) := rfl
theorem formU0 (x : FVec Ideal S8x1280 .f32) (w : FVec Ideal S1x1280x256 .fp8e4m3) (s0 s1 : FVec Ideal S1x1280 .f32) (v : FVec Ideal S8x128 .f32) :
    k0_pay3 (F := Ideal) x w s0 s1 v = k0_pay3 (F := Ideal) x w s0 s1 v := rfl

set_option maxHeartbeats 1000000 in
/-- ONE TRIP: every entry of the accumulator gains the chunk's part. -/
theorem tripU_eq (c : Dev nD) (WU : S16x5120x1536.Idx → EReal) (XQ : S8x5120.Idx → EReal) (SX : S12x5120.Idx → EReal)
    (v18 : BitVec 32) (k0_hw2 : k0_chk2 v18) (v150 : IVec S8x8 32) (v152 : FVec Ideal S8x8 .f32) (k0_t1 : Fin (k0_t1_loop v18).trips)
    (v172 : BitVec 32) (k0_hw3 : k0_chk3 v172) (v173 : BitVec 32) (v177 : BitVec 32) (k0_hw4 : k0_chk4 v18 k0_t1 v177) (v179 : BitVec 1)
    (v430 : FVec Ideal S40x12 .f32) (v487 : FVec Ideal S40x128 .f32) (k : Fin k0_t2_loop.trips) (fo : S8x1536.Idx → EReal) :
    (tripRunU (F := Ideal) c WU XQ SX v18 k0_hw2 v150 v152 k0_t1 v172 k0_hw3 v173 v177 k0_hw4 v179 v430 v487 k fo).1
      = accOneU XQ SX WU fo (ex v172) (Ring.bk 4 k.val) := by
  funext y
  unfold tripRunU
  refine View.read_writes_apply_of_pieces (Val := Elt Ideal) (v := (Memref.whole cc0_scratch15).view) (f := fo)
    (accOneU XQ SX WU fo (ex v172) (Ring.bk 4 k.val)) _ ?_ y ?_
  · simp only [List.forall_mem_cons, List.not_mem_nil, false_imp_iff, implies_true, and_true]
    refine ⟨?_, ?_, ?_, ?_, ?_, ?_, ?_, ?_, ?_, ?_, ?_, ?_⟩
    · exact pieceU_hi XQ SX WU fo (ex v172) (Ring.bk 4 k.val) 5 (by decide) (formU1408 _ _ _ _ _) rfl (fun t q => rd2 (offU17 k) _ XQ t q) (fun q cc => rdLandU WU (by decide) (off33_eq v18 k0_t1 k) _ q cc) (fun q => rd2 (offU35 k) _ SX 0 q) (fun y => rfl)
    · exact pieceU_lo XQ SX WU fo (ex v172) (Ring.bk 4 k.val) 5 (by decide) (formU1280 _ _ _ _ _) rfl (fun t q => rd2 (offU17 k) _ XQ t q) (fun q cc => rdLandU WU (by decide) (off33_eq v18 k0_t1 k) _ q cc) (fun q => rd2 (offU34 k) _ SX 0 q) (fun y => rfl)
    · exact pieceU_hi XQ SX WU fo (ex v172) (Ring.bk 4 k.val) 4 (by decide) (formU1152 _ _ _ _ _) rfl (fun t q => rd2 (offU17 k) _ XQ t q) (fun q cc => rdLandU WU (by decide) (off30_eq v18 k0_t1 k) _ q cc) (fun q => rd2 (offU32 k) _ SX 0 q) (fun y => rfl)
    · exact pieceU_lo XQ SX WU fo (ex v172) (Ring.bk 4 k.val) 4 (by decide) (formU1024 _ _ _ _ _) rfl (fun t q => rd2 (offU17 k) _ XQ t q) (fun q cc => rdLandU WU (by decide) (off30_eq v18 k0_t1 k) _ q cc) (fun q => rd2 (offU31 k) _ SX 0 q) (fun y => rfl)
    · exact pieceU_hi XQ SX WU fo (ex v172) (Ring.bk 4 k.val) 3 (by decide) (formU896 _ _ _ _ _) rfl (fun t q => rd2 (offU17 k) _ XQ t q) (fun q cc => rdLandU WU (by decide) (off27_eq v18 k0_t1 k) _ q cc) (fun q => rd2 (offU29 k) _ SX 0 q) (fun y => rfl)
    · exact pieceU_lo XQ SX WU fo (ex v172) (Ring.bk 4 k.val) 3 (by decide) (formU768 _ _ _ _ _) rfl (fun t q => rd2 (offU17 k) _ XQ t q) (fun q cc => rdLandU WU (by decide) (off27_eq v18 k0_t1 k) _ q cc) (fun q => rd2 (offU28 k) _ SX 0 q) (fun y => rfl)
    · exact pieceU_hi XQ SX WU fo (ex v172) (Ring.bk 4 k.val) 2 (by decide) (formU640 _ _ _ _ _) rfl (fun t q => rd2 (offU17 k) _ XQ t q) (fun q cc => rdLandU WU (by decide) (off24_eq v18 k0_t1 k) _ q cc) (fun q => rd2 (offU26 k) _ SX 0 q) (fun y => rfl)
    · exact pieceU_lo XQ SX WU fo (ex v172) (Ring.bk 4 k.val) 2 (by decide) (formU512 _ _ _ _ _) rfl (fun t q => rd2 (offU17 k) _ XQ t q) (fun q cc => rdLandU WU (by decide) (off24_eq v18 k0_t1 k) _ q cc) (fun q => rd2 (offU25 k) _ SX 0 q) (fun y => rfl)
    · exact pieceU_hi XQ SX WU fo (ex v172) (Ring.bk 4 k.val) 1 (by decide) (formU384 _ _ _ _ _) rfl (fun t q => rd2 (offU17 k) _ XQ t q) (fun q cc => rdLandU WU (by decide) (off21_eq v18 k0_t1 k) _ q cc) (fun q => rd2 (offU23 k) _ SX 0 q) (fun y => rfl)
    · exact pieceU_lo XQ SX WU fo (ex v172) (Ring.bk 4 k.val) 1 (by decide) (formU256 _ _ _ _ _) rfl (fun t q => rd2 (offU17 k) _ XQ t q) (fun q cc => rdLandU WU (by decide) (off21_eq v18 k0_t1 k) _ q cc) (fun q => rd2 (offU22 k) _ SX 0 q) (fun y => rfl)
    · exact pieceU_hi XQ SX WU fo (ex v172) (Ring.bk 4 k.val) 0 (by decide) (formU128 _ _ _ _ _) rfl (fun t q => rd2 (offU17 k) _ XQ t q) (fun q cc => rdLandU WU (by decide) (off18_eq v18 k0_t1 k) _ q cc) (fun q => rd2 (offU20 k) _ SX 0 q) (fun y => rfl)
    · exact pieceU_lo XQ SX WU fo (ex v172) (Ring.bk 4 k.val) 0 (by decide) (formU0 _ _ _ _ _) rfl (fun t q => rd2 (offU17 k) _ XQ t q) (fun q cc => rdLandU WU (by decide) (off18_eq v18 k0_t1 k) _ q cc) (fun q => rd2 (offU19 k) _ SX 0 q) (fun y => rfl)
  · exact View.cover_of_tiled (s := S8x1536) _ S8x128.size rfl y

end Cert.Proof.V
-- ==== Proof.V.Down.lean ====
/- What one trip of the loop over the chunks of the down projection stores. -/
module

public import proofs.«01_k».proof.Proof.I.TripD
public import proofs.«01_k».proof.Proof.V.Slot

@[expose] public section

noncomputable section

namespace Cert.Proof.V

open Cert.KernelIdeal Cert.KernelIdeal.Gen Cert.Proof.I
open Idealize.ShloMosaic Idealize.ShloMosaic.ValueIdx Idealize.ShloMosaic.TcCoe

/-- The part of row `t`, column `col` of the down projection that chunk `k` of the rows of the weights contributes. -/
def downTerm (HQ : S8x1536.Idx → EReal) (SX : S40x1536.Idx → EReal) (WD : S16x1536x5120.Idx → EReal) (e k t col : ℕ) : EReal :=
  ∑ q : Fin 512, at2 HQ t (512 * k + q.val) * at2 SX (col / 128) (512 * k + q.val) * at3 WD e (512 * k + q.val) col

theorem pay24_at (x : FVec Ideal S8x512 .f32) (w : FVec Ideal S1x512x256 .fp8e4m3) (s0 s1 : FVec Ideal S1x512 .f32) (W v : FVec Ideal S8x128 .f32)
    (t : Fin 8) (j : Fin 128) : k0_pay24 (F := Ideal) x W w s0 s1 v (ix2 t j)
      = v (ix2 t j) + (∑ q : Fin 512, x (ix2 t q) * s0 (ix2 0 q) * w (ix3 0 q ⟨j.val, by omega⟩)) * W (ix2 t j) := by
  rw [← stacked_lo x s0 s1 w broadcasts_S1x512_S8x512 broadcasts_S1x512_S8x512 concatenates_S8x512_S8x512_S16x512_d0 shapeCasts_S1x512x256_S512x256 bitsLt_bf16_f32 t ⟨j.val, by omega⟩]
  show shapeCast S8x128 (addf v (mulf (extractStridedSlice S8x128 ![0, 0] (k0_pay23 x w s0 s1) slices_S16x256_o0_0_S8x128) W)) shapeCasts_S8x128_S8x128 (ix2 t j) = _
  refine (congrFun (shapeCast_self _ _) _).trans ?_
  refine congrArg (fun z => v (ix2 t j) + z * W (ix2 t j)) ?_
  exact extractStridedSlice_apply ![0, 0] _ slices_S16x256_o0_0_S8x128 (ix2 t j) (ix2 ⟨t.val, by omega⟩ ⟨j.val, by omega⟩)
    (fun a => by fin_cases a <;> exact (Nat.zero_add _).symm)

theorem pay26_at (x : FVec Ideal S8x512 .f32) (w : FVec Ideal S1x512x256 .fp8e4m3) (s0 s1 : FVec Ideal S1x512 .f32) (W v : FVec Ideal S8x128 .f32)
    (t : Fin 8) (j : Fin 128) : k0_pay26 (F := Ideal) W v (k0_pay25 (F := Ideal) x w s0 s1) (ix2 t j)
      = v (ix2 t j) + (∑ q : Fin 512, x (ix2 t q) * s1 (ix2 0 q) * w (ix3 0 q ⟨128 + j.val, by omega⟩)) * W (ix2 t j) := by
  rw [← stacked_hi x s0 s1 w broadcasts_S1x512_S8x512 broadcasts_S1x512_S8x512 concatenates_S8x512_S8x512_S16x512_d0 shapeCasts_S1x512x256_S512x256 bitsLt_bf16_f32 t ⟨128 + j.val, by omega⟩]
  show shapeCast S8x128 (addf v (mulf (extractStridedSlice S8x128 ![8, 128] (k0_pay23 x w s0 s1) slices_S16x256_o8_128_S8x128) W)) shapeCasts_S8x128_S8x128 (ix2 t j) = _
  refine (congrFun (shapeCast_self _ _) _).trans ?_
  refine congrArg (fun z => v (ix2 t j) + z * W (ix2 t j)) ?_
  exact extractStridedSlice_apply ![8, 128] _ slices_S16x256_o8_128_S8x128 (ix2 t j) (ix2 ⟨8 + t.val, by omega⟩ ⟨128 + j.val, by omega⟩)
    (fun a => by fin_cases a <;> rfl)

section Piece
variable (HQ : S8x1536.Idx → EReal) (SX : S40x1536.Idx → EReal) (WD : S16x1536x5120.Idx → EReal) (WT : S8x128.Idx → EReal)
  (fo : S8x5120.Idx → EReal) (e : Fin 16) (c : Fin 3)

/-- The accumulator after chunk `c`: the chunk's part times the token's weight is added. -/
def accOneD : S8x5120.Idx → EReal :=
  fun y => fo y + downTerm HQ SX WD e.val c.val (y 0).val (y 1).val * at2 WT (y 0).val ((y 1).val % 128)

/-- The even block `2 * j` of the accumulator after one trip, from what the trip reads. -/
theorem pieceD_lo (j : ℕ) (hj : j < 20) {x : FVec Ideal S8x512 .f32} {w : FVec Ideal S1x512x256 .fp8e4m3} {s0 s1 : FVec Ideal S1x512 .f32}
    {W v p : FVec Ideal S8x128 .f32} {ov : Fin 2 → ℕ} {iv} (hp : p = k0_pay24 (F := Ideal) x W w s0 s1 v) (hov : ov = ![0, 256 * j])
    (hx : ∀ (t : Fin 8) (q : Fin 512), x (ix2 t q) = at2 HQ (0 + t.val) (512 * c.val + q.val))
    (hw : ∀ (q : Fin 512) (cc : Fin 256), w (ix3 0 q cc) = at3 WD e.val (512 * c.val + q.val) (256 * j + cc.val))
    (hs : ∀ q : Fin 512, s0 (ix2 0 q) = at2 SX (2 * j + 0) (512 * c.val + q.val))
    (hW : ∀ (t : Fin 8) (l : Fin 128), W (ix2 t l) = at2 WT (0 + t.val) (0 + l.val))
    (hv : ∀ y, v y = fo ((Rect.unit (s := S8x5120) ov S8x128.size iv).emb y)) (y : S8x128.Idx) :
    p y = accOneD HQ SX WD WT fo e c ((Rect.unit (s := S8x5120) ov S8x128.size iv).emb y) := by
  subst hp
  obtain ⟨t, jj, rfl⟩ : ∃ (t : Fin 8) (jj : Fin 128), y = ix2 t jj := ⟨y 0, y 1, by funext a; fin_cases a <;> rfl⟩
  rw [pay24_at]
  unfold accOneD
  have hv0 : ((Rect.unit (s := S8x5120) ov S8x128.size iv).emb (ix2 t jj) 0).val = t.val := by
    subst hov; show 0 + 1 * t.val = _; omega
  have hv1 : ((Rect.unit (s := S8x5120) ov S8x128.size iv).emb (ix2 t jj) 1).val = 256 * j + jj.val := by
    subst hov; show 256 * j + 1 * jj.val = _; omega
  rw [hv0, hv1, hW, Nat.zero_add, Nat.zero_add, show (256 * j + jj.val) % 128 = jj.val by omega]
  refine congrArg₂ (· + ·) (hv _) (congrArg (· * at2 WT t.val jj.val) ?_)
  unfold downTerm
  refine Finset.sum_congr rfl fun q _ => ?_
  rw [show (256 * j + jj.val) / 128 = 2 * j by omega, hx, hs, hw, Nat.zero_add, Nat.add_zero]

/-- The odd block `2 * j + 1` of the accumulator after one trip, from what the trip reads. -/
theorem pieceD_hi (j : ℕ) (hj : j < 20) {x : FVec Ideal S8x512 .f32} {w : FVec Ideal S1x512x256 .fp8e4m3} {s0 s1 : FVec Ideal S1x512 .f32}
    {W v p : FVec Ideal S8x128 .f32} {ov : Fin 2 → ℕ} {iv} (hp : p = k0_pay26 (F := Ideal) W v (k0_pay25 (F := Ideal) x w s0 s1)) (hov : ov = ![0, 256 * j + 128])
    (hx : ∀ (t : Fin 8) (q : Fin 512), x (ix2 t q) = at2 HQ (0 + t.val) (512 * c.val + q.val))
    (hw : ∀ (q : Fin 512) (cc : Fin 256), w (ix3 0 q cc) = at3 WD e.val (512 * c.val + q.val) (256 * j + cc.val))
    (hs : ∀ q : Fin 512, s1 (ix2 0 q) = at2 SX (2 * j + 1 + 0) (512 * c.val + q.val))
    (hW : ∀ (t : Fin 8) (l : Fin 128), W (ix2 t l) = at2 WT (0 + t.val) (0 + l.val))
    (hv : ∀ y, v y = fo ((Rect.unit (s := S8x5120) ov S8x128.size iv).emb y)) (y : S8x128.Idx) :
    p y = accOneD HQ SX WD WT fo e c ((Rect.unit (s := S8x5120) ov S8x128.size iv).emb y) := by
  subst hp
  obtain ⟨t, jj, rfl⟩ : ∃ (t : Fin 8) (jj : Fin 128), y = ix2 t jj := ⟨y 0, y 1, by funext a; fin_cases a <;> rfl⟩
  rw [pay26_at]
  unfold accOneD
  have hv0 : ((Rect.unit (s := S8x5120) ov S8x128.size iv).emb (ix2 t jj) 0).val = t.val := by
    subst hov; show 0 + 1 * t.val = _; omega
  have hv1 : ((Rect.unit (s := S8x5120) ov S8x128.size iv).emb (ix2 t jj) 1).val = 256 * j + 128 + jj.val := by
    subst hov; show 256 * j + 128 + 1 * jj.val = _; omega
  rw [hv0, hv1, hW, Nat.zero_add, Nat.zero_add, show (256 * j + 128 + jj.val) % 128 = jj.val by omega]
  refine congrArg₂ (· + ·) (hv _) (congrArg (· * at2 WT t.val jj.val) ?_)
  unfold downTerm
  refine Finset.sum_congr rfl fun q _ => ?_
  rw [show (256 * j + 128 + jj.val) / 128 = 2 * j + 1 by omega, hx, hs, hw, Nat.zero_add, Nat.add_zero]
  rw [Nat.add_assoc]

end Piece

/-- A block of weights read out of the buffer. -/
theorem rdSlotD (g : S2x1536x5120.Idx → EReal) {off : Fin 3 → ℕ} {r a b : ℕ} (ho : off = ![r, a, b]) (h) (q : Fin 512) (col : Fin 256) :
    View.readAt (Elt Ideal) (Memref.whole cc0_scratch8).view (Rect.unit (s := S2x1536x5120) off S1x512x256.size h).toLoadRect g (ix3 0 q col)
      = at3 g (r + 0) (a + q.val) (b + col.val) :=
  rd3 ho h g 0 q col

/-- A block of weights read out of the buffer after the copy of an expert's chunk. -/
theorem rdLandD (W : S16x1536x5120.Idx → EReal) {s : Fin 2} {e : Fin 16} {c : Fin 3} {f : S2x1536x5120.Idx → EReal}
    {off : Fin 3 → ℕ} {b : ℕ} (hb : b ≤ 4864) (ho : off = ![s.val, 512 * c.val, b]) (h) (q : Fin 512) (col : Fin 256) :
    View.readAt (Elt Ideal) (Memref.whole cc0_scratch8).view (Rect.unit (s := S2x1536x5120) off S1x512x256.size h).toLoadRect
      ((slotD s c).view.writes (Elt Ideal) f [⟨Rect.whole S512x5120, ReadAs.same.apply (View.read (Elt Ideal) (srcD e c).view W)⟩]) (ix3 0 q col)
      = at3 W e.val (512 * c.val + q.val) (b + col.val) :=
  (rdSlotD _ ho h q col).trans (slotD_at W f s e c q ⟨b + col.val, by omega⟩)

theorem offD42 : ∀ k : Fin k0_t3_loop.trips, k0_off42 k = ![0, 512 * (Ring.bk 3 k.val : Fin 3).val] := by decide +kernel
theorem offD44 : ∀ k : Fin k0_t3_loop.trips, k0_off44 k = ![0, 512 * (Ring.bk 3 k.val : Fin 3).val] := by decide +kernel
theorem offD45 : ∀ k : Fin k0_t3_loop.trips, k0_off45 k = ![1, 512 * (Ring.bk 3 k.val : Fin 3).val] := by decide +kernel
theorem offD47 : ∀ k : Fin k0_t3_loop.trips, k0_off47 k = ![2, 512 * (Ring.bk 3 k.val : Fin 3).val] := by decide +kernel
theorem offD48 : ∀ k : Fin k0_t3_loop.trips, k0_off48 k = ![3, 512 * (Ring.bk 3 k.val : Fin 3).val] := by decide +kernel
theorem offD50 : ∀ k : Fin k0_t3_loop.trips, k0_off50 k = ![4, 512 * (Ring.bk 3 k.val : Fin 3).val] := by decide +kernel
theorem offD51 : ∀ k : Fin k0_t3_loop.trips, k0_off51 k = ![5, 512 * (Ring.bk 3 k.val : Fin 3).val] := by decide +kernel
theorem offD53 : ∀ k : Fin k0_t3_loop.trips, k0_off53 k = ![6, 512 * (Ring.bk 3 k.val : Fin 3).val] := by decide +kernel
theorem offD54 : ∀ k : Fin k0_t3_loop.trips, k0_off54 k = ![7, 512 * (Ring.bk 3 k.val : Fin 3).val] := by decide +kernel
theorem offD56 : ∀ k : Fin k0_t3_loop.trips, k0_off56 k = ![8, 512 * (Ring.bk 3 k.val : Fin 3).val] := by decide +kernel
theorem offD57 : ∀ k : Fin k0_t3_loop.trips, k0_off57 k = ![9, 512 * (Ring.bk 3 k.val : Fin 3).val] := by decide +kernel
theorem offD59 : ∀ k : Fin k0_t3_loop.trips, k0_off59 k = ![10, 512 * (Ring.bk 3 k.val : Fin 3).val] := by decide +kernel
theorem offD60 : ∀ k : Fin k0_t3_loop.trips, k0_off60 k = ![11, 512 * (Ring.bk 3 k.val : Fin 3).val] := by decide +kernel
theorem offD62 : ∀ k : Fin k0_t3_loop.trips, k0_off62 k = ![12, 512 * (Ring.bk 3 k.val : Fin 3).val] := by decide +kernel
theorem offD63 : ∀ k : Fin k0_t3_loop.trips, k0_off63 k = ![13, 512 * (Ring.bk 3 k.val : Fin 3).val] := by decide +kernel
theorem offD65 : ∀ k : Fin k0_t3_loop.trips, k0_off65 k = ![14, 512 * (Ring.bk 3 k.val : Fin 3).val] := by decide +kernel
theorem offD66 : ∀ k : Fin k0_t3_loop.trips, k0_off66 k = ![15, 512 * (Ring.bk 3 k.val : Fin 3).val] := by decide +kernel
theorem offD68 : ∀ k : Fin k0_t3_loop.trips, k0_off68 k = ![16, 512 * (Ring.bk 3 k.val : Fin 3).val] := by decide +kernel
theorem offD69 : ∀ k : Fin k0_t3_loop.trips, k0_off69 k = ![17, 512 * (Ring.bk 3 k.val : Fin 3).val] := by decide +kernel
theorem offD71 : ∀ k : Fin k0_t3_loop.trips, k0_off71 k = ![18, 512 * (Ring.bk 3 k.val : Fin 3).val] := by decide +kernel
theorem offD72 : ∀ k : Fin k0_t3_loop.trips, k0_off72 k = ![19, 512 * (Ring.bk 3 k.val : Fin 3).val] := by decide +kernel
theorem offD74 : ∀ k : Fin k0_t3_loop.trips, k0_off74 k = ![20, 512 * (Ring.bk 3 k.val : Fin 3).val] := by decide +kernel
theorem offD75 : ∀ k : Fin k0_t3_loop.trips, k0_off75 k = ![21, 512 * (Ring.bk 3 k.val : Fin 3).val] := by decide +kernel
theorem offD77 : ∀ k : Fin k0_t3_loop.trips, k0_off77 k = ![22, 512 * (Ring.bk 3 k.val : Fin 3).val] := by decide +kernel
theorem offD78 : ∀ k : Fin k0_t3_loop.trips, k0_off78 k = ![23, 512 * (Ring.bk 3 k.val : Fin 3).val] := by decide +kernel
theorem offD80 : ∀ k : Fin k0_t3_loop.trips, k0_off80 k = ![24, 512 * (Ring.bk 3 k.val : Fin 3).val] := by decide +kernel
theorem offD81 : ∀ k : Fin k0_t3_loop.trips, k0_off81 k = ![25, 512 * (Ring.bk 3 k.val : Fin 3).val] := by decide +kernel
theorem offD83 : ∀ k : Fin k0_t3_loop.trips, k0_off83 k = ![26, 512 * (Ring.bk 3 k.val : Fin 3).val] := by decide +kernel
theorem offD84 : ∀ k : Fin k0_t3_loop.trips, k0_off84 k = ![27, 512 * (Ring.bk 3 k.val : Fin 3).val] := by decide +kernel
theorem offD86 : ∀ k : Fin k0_t3_loop.trips, k0_off86 k = ![28, 512 * (Ring.bk 3 k.val : Fin 3).val] := by decide +kernel
theorem offD87 : ∀ k : Fin k0_t3_loop.trips, k0_off87 k = ![29, 512 * (Ring.bk 3 k.val : Fin 3).val] := by decide +kernel
theorem offD89 : ∀ k : Fin k0_t3_loop.trips, k0_off89 k = ![30, 512 * (Ring.bk 3 k.val : Fin 3).val] := by decide +kernel
theorem offD90 : ∀ k : Fin k0_t3_loop.trips, k0_off90 k = ![31, 512 * (Ring.bk 3 k.val : Fin 3).val] := by decide +kernel
theorem offD92 : ∀ k : Fin k0_t3_loop.trips, k0_off92 k = ![32, 512 * (Ring.bk 3 k.val : Fin 3).val] := by decide +kernel
theorem offD93 : ∀ k : Fin k0_t3_loop.trips, k0_off93 k = ![33, 512 * (Ring.bk 3 k.val : Fin 3).val] := by decide +kernel
theorem offD95 : ∀ k : Fin k0_t3_loop.trips, k0_off95 k = ![34, 512 * (Ring.bk 3 k.val : Fin 3).val] := by decide +kernel
theorem offD96 : ∀ k : Fin k0_t3_loop.trips, k0_off96 k = ![35, 512 * (Ring.bk 3 k.val : Fin 3).val] := by decide +kernel
theorem offD98 : ∀ k : Fin k0_t3_loop.trips, k0_off98 k = ![36, 512 * (Ring.bk 3 k.val : Fin 3).val] := by decide +kernel
theorem offD99 : ∀ k : Fin k0_t3_loop.trips, k0_off99 k = ![37, 512 * (Ring.bk 3 k.val : Fin 3).val] := by decide +kernel
theorem offD101 : ∀ k : Fin k0_t3_loop.trips, k0_off101 k = ![38, 512 * (Ring.bk 3 k.val : Fin 3).val] := by decide +kernel
theorem offD102 : ∀ k : Fin k0_t3_loop.trips, k0_off102 k = ![39, 512 * (Ring.bk 3 k.val : Fin 3).val] := by decide +kernel

end Cert.Proof.V
-- ==== Proof.V.DownTrip.lean ====
/- One trip of the loop over the chunks of the down projection. -/
module

public import proofs.«01_k».proof.Proof.V.Down

@[expose] public section

noncomputable section

namespace Cert.Proof.V

open Cert.KernelIdeal Cert.KernelIdeal.Gen Cert.Proof.I
open Idealize.ShloMosaic Idealize.ShloMosaic.ValueIdx Idealize.ShloMosaic.TcCoe

/-! The stored values of the forty blocks: one form for the even blocks, one for the odd ones. -/

theorem formD4992 (x : FVec Ideal S8x512 .f32) (W : FVec Ideal S8x128 .f32) (w : FVec Ideal S1x512x256 .fp8e4m3) (s0 s1 : FVec Ideal S1x512 .f32) (v : FVec Ideal S8x128 .f32) :
    k0_pay345 (F := Ideal) x W w s0 s1 v = k0_pay26 (F := Ideal) W v (k0_pay25 (F := Ideal) x w s0 s1) := rfl
theorem formD4864 (x : FVec Ideal S8x512 .f32) (W : FVec Ideal S8x128 .f32) (w : FVec Ideal S1x512x256 .fp8e4m3) (s0 s1 : FVec Ideal S1x512 .f32) (v : FVec Ideal S8x128 .f32) :
    k0_pay344 (F := Ideal) x W w s0 s1 v = k0_pay24 (F := Ideal) x W w s0 s1 v := rfl
theorem formD4736 (x : FVec Ideal S8x512 .f32) (W : FVec Ideal S8x128 .f32) (w : FVec Ideal S1x512x256 .fp8e4m3) (s0 s1 : FVec Ideal S1x512 .f32) (v : FVec Ideal S8x128 .f32) :
    k0_pay342 (F := Ideal) (k0_pay91 (F := Ideal) x W w s0 s1 v) = k0_pay26 (F := Ideal) W v (k0_pay25 (F := Ideal) x w s0 s1) := rfl
theorem formD4608 (x : FVec Ideal S8x512 .f32) (W : FVec Ideal S8x128 .f32) (w : FVec Ideal S1x512x256 .fp8e4m3) (s0 s1 : FVec Ideal S1x512 .f32) (v : FVec Ideal S8x128 .f32) :
    k0_pay90 (F := Ideal) x W w s0 s1 v = k0_pay24 (F := Ideal) x W w s0 s1 v := rfl
theorem formD4480 (x : FVec Ideal S8x512 .f32) (W : FVec Ideal S8x128 .f32) (w : FVec Ideal S1x512x256 .fp8e4m3) (s0 s1 : FVec Ideal S1x512 .f32) (v : FVec Ideal S8x128 .f32) :
    k0_pay88 (F := Ideal) W (k0_pay85 (F := Ideal) x w s0 s1) v = k0_pay26 (F := Ideal) W v (k0_pay25 (F := Ideal) x w s0 s1) := rfl
theorem formD4352 (x : FVec Ideal S8x512 .f32) (W : FVec Ideal S8x128 .f32) (w : FVec Ideal S1x512x256 .fp8e4m3) (s0 s1 : FVec Ideal S1x512 .f32) (v : FVec Ideal S8x128 .f32) :
    k0_pay87 (F := Ideal) v (k0_pay86 (F := Ideal) x W w s0 s1) = k0_pay24 (F := Ideal) x W w s0 s1 v := rfl
theorem formD4224 (x : FVec Ideal S8x512 .f32) (W : FVec Ideal S8x128 .f32) (w : FVec Ideal S1x512x256 .fp8e4m3) (s0 s1 : FVec Ideal S1x512 .f32) (v : FVec Ideal S8x128 .f32) :
    k0_pay84 (F := Ideal) x W (k0_pay81 (F := Ideal) w) s0 s1 v = k0_pay26 (F := Ideal) W v (k0_pay25 (F := Ideal) x w s0 s1) := rfl
theorem formD4096 (x : FVec Ideal S8x512 .f32) (W : FVec Ideal S8x128 .f32) (w : FVec Ideal S1x512x256 .fp8e4m3) (s0 s1 : FVec Ideal S1x512 .f32) (v : FVec Ideal S8x128 .f32) :
    k0_pay83 (F := Ideal) x W (k0_pay81 (F := Ideal) w) s0 s1 v = k0_pay24 (F := Ideal) x W w s0 s1 v := rfl
theorem formD3968 (x : FVec Ideal S8x512 .f32) (W : FVec Ideal S8x128 .f32) (w : FVec Ideal S1x512x256 .fp8e4m3) (s0 s1 : FVec Ideal S1x512 .f32) (v : FVec Ideal S8x128 .f32) :
    k0_pay80 (F := Ideal) x W w s0 s1 v = k0_pay26 (F := Ideal) W v (k0_pay25 (F := Ideal) x w s0 s1) := rfl
theorem formD3840 (x : FVec Ideal S8x512 .f32) (W : FVec Ideal S8x128 .f32) (w : FVec Ideal S1x512x256 .fp8e4m3) (s0 s1 : FVec Ideal S1x512 .f32) (v : FVec Ideal S8x128 .f32) :
    k0_pay79 (F := Ideal) x W w s0 s1 v = k0_pay24 (F := Ideal) x W w s0 s1 v := rfl
theorem formD3712 (x : FVec Ideal S8x512 .f32) (W : FVec Ideal S8x128 .f32) (w : FVec Ideal S1x512x256 .fp8e4m3) (s0 s1 : FVec Ideal S1x512 .f32) (v : FVec Ideal S8x128 .f32) :
    k0_pay77 (F := Ideal) W (k0_pay75 (F := Ideal) x w s0 s1) v = k0_pay26 (F := Ideal) W v (k0_pay25 (F := Ideal) x w s0 s1) := rfl
theorem formD3584 (x : FVec Ideal S8x512 .f32) (W : FVec Ideal S8x128 .f32) (w : FVec Ideal S1x512x256 .fp8e4m3) (s0 s1 : FVec Ideal S1x512 .f32) (v : FVec Ideal S8x128 .f32) :
    k0_pay76 (F := Ideal) x W w s0 s1 v = k0_pay24 (F := Ideal) x W w s0 s1 v := rfl
theorem formD3456 (x : FVec Ideal S8x512 .f32) (W : FVec Ideal S8x128 .f32) (w : FVec Ideal S1x512x256 .fp8e4m3) (s0 s1 : FVec Ideal S1x512 .f32) (v : FVec Ideal S8x128 .f32) :
    k0_pay74 (F := Ideal) W (k0_pay70 (F := Ideal) w) (k0_pay71 (F := Ideal) x s0 s1) v = k0_pay26 (F := Ideal) W v (k0_pay25 (F := Ideal) x w s0 s1) := rfl
theorem formD3328 (x : FVec Ideal S8x512 .f32) (W : FVec Ideal S8x128 .f32) (w : FVec Ideal S1x512x256 .fp8e4m3) (s0 s1 : FVec Ideal S1x512 .f32) (v : FVec Ideal S8x128 .f32) :
    k0_pay73 (F := Ideal) W (k0_pay70 (F := Ideal) w) (k0_pay71 (F := Ideal) x s0 s1) v = k0_pay24 (F := Ideal) x W w s0 s1 v := rfl
theorem formD3200 (x : FVec Ideal S8x512 .f32) (W : FVec Ideal S8x128 .f32) (w : FVec Ideal S1x512x256 .fp8e4m3) (s0 s1 : FVec Ideal S1x512 .f32) (v : FVec Ideal S8x128 .f32) :
    k0_pay69 (F := Ideal) x W w s0 s1 v = k0_pay26 (F := Ideal) W v (k0_pay25 (F := Ideal) x w s0 s1) := rfl
theorem formD3072 (x : FVec Ideal S8x512 .f32) (W : FVec Ideal S8x128 .f32) (w : FVec Ideal S1x512x256 .fp8e4m3) (s0 s1 : FVec Ideal S1x512 .f32) (v : FVec Ideal S8x128 .f32) :
    k0_pay68 (F := Ideal) x W w s0 s1 v = k0_pay24 (F := Ideal) x W w s0 s1 v := rfl
theorem formD2944 (x : FVec Ideal S8x512 .f32) (W : FVec Ideal S8x128 .f32) (w : FVec Ideal S1x512x256 .fp8e4m3) (s0 s1 : FVec Ideal S1x512 .f32) (v : FVec Ideal S8x128 .f32) :
    k0_pay66 (F := Ideal) x W w s0 s1 v = k0_pay26 (F := Ideal) W v (k0_pay25 (F := Ideal) x w s0 s1) := rfl
theorem formD2816 (x : FVec Ideal S8x512 .f32) (W : FVec Ideal S8x128 .f32) (w : FVec Ideal S1x512x256 .fp8e4m3) (s0 s1 : FVec Ideal S1x512 .f32) (v : FVec Ideal S8x128 .f32) :
    k0_pay65 (F := Ideal) x W w s0 s1 v = k0_pay24 (F := Ideal) x W w s0 s1 v := rfl
theorem formD2688 (x : FVec Ideal S8x512 .f32) (W : FVec Ideal S8x128 .f32) (w : FVec Ideal S1x512x256 .fp8e4m3) (s0 s1 : FVec Ideal S1x512 .f32) (v : FVec Ideal S8x128 .f32) :
    k0_pay63 (F := Ideal) W (k0_pay60 (F := Ideal) x w s0 s1) v = k0_pay26 (F := Ideal) W v (k0_pay25 (F := Ideal) x w s0 s1) := rfl
theorem formD2560 (x : FVec Ideal S8x512 .f32) (W : FVec Ideal S8x128 .f32) (w : FVec Ideal S1x512x256 .fp8e4m3) (s0 s1 : FVec Ideal S1x512 .f32) (v : FVec Ideal S8x128 .f32) :
    k0_pay62 (F := Ideal) (k0_pay61 (F := Ideal) x W w s0 s1 v) = k0_pay24 (F := Ideal) x W w s0 s1 v := rfl
theorem formD2432 (x : FVec Ideal S8x512 .f32) (W : FVec Ideal S8x128 .f32) (w : FVec Ideal S1x512x256 .fp8e4m3) (s0 s1 : FVec Ideal S1x512 .f32) (v : FVec Ideal S8x128 .f32) :
    k0_pay59 (F := Ideal) x W (k0_pay56 (F := Ideal) w) s0 s1 v = k0_pay26 (F := Ideal) W v (k0_pay25 (F := Ideal) x w s0 s1) := rfl
theorem formD2304 (x : FVec Ideal S8x512 .f32) (W : FVec Ideal S8x128 .f32) (w : FVec Ideal S1x512x256 .fp8e4m3) (s0 s1 : FVec Ideal S1x512 .f32) (v : FVec Ideal S8x128 .f32) :
    k0_pay58 (F := Ideal) x W (k0_pay56 (F := Ideal) w) s0 s1 v = k0_pay24 (F := Ideal) x W w s0 s1 v := rfl
theorem formD2176 (x : FVec Ideal S8x512 .f32) (W : FVec Ideal S8x128 .f32) (w : FVec Ideal S1x512x256 .fp8e4m3) (s0 s1 : FVec Ideal S1x512 .f32) (v : FVec Ideal S8x128 .f32) :
    k0_pay55 (F := Ideal) x W w s0 s1 v = k0_pay26 (F := Ideal) W v (k0_pay25 (F := Ideal) x w s0 s1) := rfl
theorem formD2048 (x : FVec Ideal S8x512 .f32) (W : FVec Ideal S8x128 .f32) (w : FVec Ideal S1x512x256 .fp8e4m3) (s0 s1 : FVec Ideal S1x512 .f32) (v : FVec Ideal S8x128 .f32) :
    k0_pay54 (F := Ideal) x W w s0 s1 v = k0_pay24 (F := Ideal) x W w s0 s1 v := rfl
theorem formD1920 (x : FVec Ideal S8x512 .f32) (W : FVec Ideal S8x128 .f32) (w : FVec Ideal S1x512x256 .fp8e4m3) (s0 s1 : FVec Ideal S1x512 .f32) (v : FVec Ideal S8x128 .f32) :
    k0_pay52 (F := Ideal) W (k0_pay50 (F := Ideal) x w s0 s1) v = k0_pay26 (F := Ideal) W v (k0_pay25 (F := Ideal) x w s0 s1) := rfl
theorem formD1792 (x : FVec Ideal S8x512 .f32) (W : FVec Ideal S8x128 .f32) (w : FVec Ideal S1x512x256 .fp8e4m3) (s0 s1 : FVec Ideal S1x512 .f32) (v : FVec Ideal S8x128 .f32) :
    k0_pay51 (F := Ideal) x W w s0 s1 v = k0_pay24 (F := Ideal) x W w s0 s1 v := rfl
theorem formD1664 (x : FVec Ideal S8x512 .f32) (W : FVec Ideal S8x128 .f32) (w : FVec Ideal S1x512x256 .fp8e4m3) (s0 s1 : FVec Ideal S1x512 .f32) (v : FVec Ideal S8x128 .f32) :
    k0_pay49 (F := Ideal) W (k0_pay45 (F := Ideal) w) (k0_pay46 (F := Ideal) x s0 s1) v = k0_pay26 (F := Ideal) W v (k0_pay25 (F := Ideal) x w s0 s1) := rfl
theorem formD1536 (x : FVec Ideal S8x512 .f32) (W : FVec Ideal S8x128 .f32) (w : FVec Ideal S1x512x256 .fp8e4m3) (s0 s1 : FVec Ideal S1x512 .f32) (v : FVec Ideal S8x128 .f32) :
    k0_pay48 (F := Ideal) W (k0_pay45 (F := Ideal) w) (k0_pay46 (F := Ideal) x s0 s1) v = k0_pay24 (F := Ideal) x W w s0 s1 v := rfl
theorem formD1408 (x : FVec Ideal S8x512 .f32) (W : FVec Ideal S8x128 .f32) (w : FVec Ideal S1x512x256 .fp8e4m3) (s0 s1 : FVec Ideal S1x512 .f32) (v : FVec Ideal S8x128 .f32) :
    k0_pay44 (F := Ideal) x W w s0 s1 v = k0_pay26 (F := Ideal) W v (k0_pay25 (F := Ideal) x w s0 s1) := rfl
theorem formD1280 (x : FVec Ideal S8x512 .f32) (W : FVec Ideal S8x128 .f32) (w : FVec Ideal S1x512x256 .fp8e4m3) (s0 s1 : FVec Ideal S1x512 .f32) (v : FVec Ideal S8x128 .f32) :
    k0_pay43 (F := Ideal) x W w s0 s1 v = k0_pay24 (F := Ideal) x W w s0 s1 v := rfl
theorem formD1152 (x : FVec Ideal S8x512 .f32) (W : FVec Ideal S8x128 .f32) (w : FVec Ideal S1x512x256 .fp8e4m3) (s0 s1 : FVec Ideal S1x512 .f32) (v : FVec Ideal S8x128 .f32) :
    k0_pay41 (F := Ideal) x W w s0 s1 v = k0_pay26 (F := Ideal) W v (k0_pay25 (F := Ideal) x w s0 s1) := rfl
theorem formD1024 (x : FVec Ideal S8x512 .f32) (W : FVec Ideal S8x128 .f32) (w : FVec Ideal S1x512x256 .fp8e4m3) (s0 s1 : FVec Ideal S1x512 .f32) (v : FVec Ideal S8x128 .f32) :
    k0_pay40 (F := Ideal) x W w s0 s1 v = k0_pay24 (F := Ideal) x W w s0 s1 v := rfl
theorem formD896 (x : FVec Ideal S8x512 .f32) (W : FVec Ideal S8x128 .f32) (w : FVec Ideal S1x512x256 .fp8e4m3) (s0 s1 : FVec Ideal S1x512 .f32) (v : FVec Ideal S8x128 .f32) :
    k0_pay38 (F := Ideal) W (k0_pay35 (F := Ideal) x w s0 s1) v = k0_pay26 (F := Ideal) W v (k0_pay25 (F := Ideal) x w s0 s1) := rfl
theorem formD768 (x : FVec Ideal S8x512 .f32) (W : FVec Ideal S8x128 .f32) (w : FVec Ideal S1x512x256 .fp8e4m3) (s0 s1 : FVec Ideal S1x512 .f32) (v : FVec Ideal S8x128 .f32) :
    k0_pay37 (F := Ideal) (k0_pay36 (F := Ideal) x W w s0 s1 v) = k0_pay24 (F := Ideal) x W w s0 s1 v := rfl
theorem formD640 (x : FVec Ideal S8x512 .f32) (W : FVec Ideal S8x128 .f32) (w : FVec Ideal S1x512x256 .fp8e4m3) (s0 s1 : FVec Ideal S1x512 .f32) (v : FVec Ideal S8x128 .f32) :
    k0_pay34 (F := Ideal) x W (k0_pay30 (F := Ideal) w) (k0_pay31 (F := Ideal) s0) s1 v = k0_pay26 (F := Ideal) W v (k0_pay25 (F := Ideal) x w s0 s1) := rfl
theorem formD512 (x : FVec Ideal S8x512 .f32) (W : FVec Ideal S8x128 .f32) (w : FVec Ideal S1x512x256 .fp8e4m3) (s0 s1 : FVec Ideal S1x512 .f32) (v : FVec Ideal S8x128 .f32) :
    k0_pay33 (F := Ideal) x W (k0_pay30 (F := Ideal) w) (k0_pay31 (F := Ideal) s0) s1 v = k0_pay24 (F := Ideal) x W w s0 s1 v := rfl
theorem formD384 (x : FVec Ideal S8x512 .f32) (W : FVec Ideal S8x128 .f32) (w : FVec Ideal S1x512x256 .fp8e4m3) (s0 s1 : FVec Ideal S1x512 .f32) (v : FVec Ideal S8x128 .f32) :
    k0_pay29 (F := Ideal) x W w s0 s1 v = k0_pay26 (F := Ideal) W v (k0_pay25 (F := Ideal) x w s0 s1) := rfl
theorem formD256 (x : FVec Ideal S8x512 .f32) (W : FVec Ideal S8x128 .f32) (w : FVec Ideal S1x512x256 .fp8e4m3) (s0 s1 : FVec Ideal S1x512 .f32) (v : FVec Ideal S8x128 .f32) :
    k0_pay28 (F := Ideal) x W w s0 s1 v = k0_pay24 (F := Ideal) x W w s0 s1 v := rfl
theorem formD128 (x : FVec Ideal S8x512 .f32) (W : FVec Ideal S8x128 .f32) (w : FVec Ideal S1x512x256 .fp8e4m3) (s0 s1 : FVec Ideal S1x512 .f32) (v : FVec Ideal S8x128 .f32) :
    k0_pay26 (F := Ideal) W v (k0_pay25 (F := Ideal) x w s0 s1) = k0_pay26 (F := Ideal) W v (k0_pay25 (F := Ideal) x w s0 s1) := rfl
theorem formD0 (x : FVec Ideal S8x512 .f32) (W : FVec Ideal S8x128 .f32) (w : FVec Ideal S1x512x256 .fp8e4m3) (s0 s1 : FVec Ideal S1x512 .f32) (v : FVec Ideal S8x128 .f32) :
    k0_pay24 (F := Ideal) x W w s0 s1 v = k0_pay24 (F := Ideal) x W w s0 s1 v := rfl

set_option maxHeartbeats 2000000 in
/-- ONE TRIP: every entry of the accumulator gains the chunk's part times the token's weight. -/
theorem tripD_eq (c : Dev nD) (WD : S16x1536x5120.Idx → EReal) (HQ : S8x1536.Idx → EReal) (WT : S8x128.Idx → EReal) (SX : S40x1536.Idx → EReal)
    (v18 : BitVec 32) (k0_hw2 : k0_chk2 v18) (v119 : FVec Ideal S8x1 .f32) (v125 : FVec Ideal S8x5120 .f32) (v126 : FVec Ideal S8x5120 .f32)
    (k0_t1 : Fin (k0_t1_loop v18).trips) (v172 : BitVec 32) (k0_hw3 : k0_chk3 v172) (v173 : BitVec 32) (v177 : BitVec 32)
    (k0_hw4 : k0_chk4 v18 k0_t1 v177) (v179 : BitVec 1) (k : Fin k0_t3_loop.trips) (fo : S8x5120.Idx → EReal) :
    (tripRunD (F := Ideal) c WD HQ WT SX v18 k0_hw2 v119 v125 v126 k0_t1 v172 k0_hw3 v173 v177 k0_hw4 v179 k fo).1
      = accOneD HQ SX WD WT fo (ex v172) (Ring.bk 3 k.val) := by
  funext y
  unfold tripRunD
  refine View.read_writes_apply_of_pieces (Val := Elt Ideal) (v := (Memref.whole cc0_scratch16).view) (f := fo)
    (accOneD HQ SX WD WT fo (ex v172) (Ring.bk 3 k.val)) _ ?_ y ?_
  · simp only [List.forall_mem_cons, List.not_mem_nil, false_imp_iff, implies_true, and_true]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
    · exact pieceD_hi HQ SX WD WT fo (ex v172) (Ring.bk 3 k.val) 19 (by decide) (formD4992 _ _ _ _ _ _) rfl (fun t q => rd2 (offD42 k) _ HQ t q) (fun q cc => rdLandD WD (by decide) (off100_eq v18 k0_t1 k) _ q cc) (fun q => rd2 (offD102 k) _ SX 0 q) (fun t l => rd2 (off := ![0, 0]) rfl _ WT t l) (fun y => rfl)
    · exact pieceD_lo HQ SX WD WT fo (ex v172) (Ring.bk 3 k.val) 19 (by decide) (formD4864 _ _ _ _ _ _) rfl (fun t q => rd2 (offD42 k) _ HQ t q) (fun q cc => rdLandD WD (by decide) (off100_eq v18 k0_t1 k) _ q cc) (fun q => rd2 (offD101 k) _ SX 0 q) (fun t l => rd2 (off := ![0, 0]) rfl _ WT t l) (fun y => rfl)
    · exact pieceD_hi HQ SX WD WT fo (ex v172) (Ring.bk 3 k.val) 18 (by decide) (formD4736 _ _ _ _ _ _) rfl (fun t q => rd2 (offD42 k) _ HQ t q) (fun q cc => rdLandD WD (by decide) (off97_eq v18 k0_t1 k) _ q cc) (fun q => rd2 (offD99 k) _ SX 0 q) (fun t l => rd2 (off := ![0, 0]) rfl _ WT t l) (fun y => rfl)
    · exact pieceD_lo HQ SX WD WT fo (ex v172) (Ring.bk 3 k.val) 18 (by decide) (formD4608 _ _ _ _ _ _) rfl (fun t q => rd2 (offD42 k) _ HQ t q) (fun q cc => rdLandD WD (by decide) (off97_eq v18 k0_t1 k) _ q cc) (fun q => rd2 (offD98 k) _ SX 0 q) (fun t l => rd2 (off := ![0, 0]) rfl _ WT t l) (fun y => rfl)
    · exact pieceD_hi HQ SX WD WT fo (ex v172) (Ring.bk 3 k.val) 17 (by decide) (formD4480 _ _ _ _ _ _) rfl (fun t q => rd2 (offD42 k) _ HQ t q) (fun q cc => rdLandD WD (by decide) (off94_eq v18 k0_t1 k) _ q cc) (fun q => rd2 (offD96 k) _ SX 0 q) (fun t l => rd2 (off := ![0, 0]) rfl _ WT t l) (fun y => rfl)
    · exact pieceD_lo HQ SX WD WT fo (ex v172) (Ring.bk 3 k.val) 17 (by decide) (formD4352 _ _ _ _ _ _) rfl (fun t q => rd2 (offD42 k) _ HQ t q) (fun q cc => rdLandD WD (by decide) (off94_eq v18 k0_t1 k) _ q cc) (fun q => rd2 (offD95 k) _ SX 0 q) (fun t l => rd2 (off := ![0, 0]) rfl _ WT t l) (fun y => rfl)
    · exact pieceD_hi HQ SX WD WT fo (ex v172) (Ring.bk 3 k.val) 16 (by decide) (formD4224 _ _ _ _ _ _) rfl (fun t q => rd2 (offD42 k) _ HQ t q) (fun q cc => rdLandD WD (by decide) (off91_eq v18 k0_t1 k) _ q cc) (fun q => rd2 (offD93 k) _ SX 0 q) (fun t l => rd2 (off := ![0, 0]) rfl _ WT t l) (fun y => rfl)
    · exact pieceD_lo HQ SX WD WT fo (ex v172) (Ring.bk 3 k.val) 16 (by decide) (formD4096 _ _ _ _ _ _) rfl (fun t q => rd2 (offD42 k) _ HQ t q) (fun q cc => rdLandD WD (by decide) (off91_eq v18 k0_t1 k) _ q cc) (fun q => rd2 (offD92 k) _ SX 0 q) (fun t l => rd2 (off := ![0, 0]) rfl _ WT t l) (fun y => rfl)
    · exact pieceD_hi HQ SX WD WT fo (ex v172) (Ring.bk 3 k.val) 15 (by decide) (formD3968 _ _ _ _ _ _) rfl (fun t q => rd2 (offD42 k) _ HQ t q) (fun q cc => rdLandD WD (by decide) (off88_eq v18 k0_t1 k) _ q cc) (fun q => rd2 (offD90 k) _ SX 0 q) (fun t l => rd2 (off := ![0, 0]) rfl _ WT t l) (fun y => rfl)
    · exact pieceD_lo HQ SX WD WT fo (ex v172) (Ring.bk 3 k.val) 15 (by decide) (formD3840 _ _ _ _ _ _) rfl (fun t q => rd2 (offD42 k) _ HQ t q) (fun q cc => rdLandD WD (by decide) (off88_eq v18 k0_t1 k) _ q cc) (fun q => rd2 (offD89 k) _ SX 0 q) (fun t l => rd2 (off := ![0, 0]) rfl _ WT t l) (fun y => rfl)
    · exact pieceD_hi HQ SX WD WT fo (ex v172) (Ring.bk 3 k.val) 14 (by decide) (formD3712 _ _ _ _ _ _) rfl (fun t q => rd2 (offD42 k) _ HQ t q) (fun q cc => rdLandD WD (by decide) (off85_eq v18 k0_t1 k) _ q cc) (fun q => rd2 (offD87 k) _ SX 0 q) (fun t l => rd2 (off := ![0, 0]) rfl _ WT t l) (fun y => rfl)
    · exact pieceD_lo HQ SX WD WT fo (ex v172) (Ring.bk 3 k.val) 14 (by decide) (formD3584 _ _ _ _ _ _) rfl (fun t q => rd2 (offD42 k) _ HQ t q) (fun q cc => rdLandD WD (by decide) (off85_eq v18 k0_t1 k) _ q cc) (fun q => rd2 (offD86 k) _ SX 0 q) (fun t l => rd2 (off := ![0, 0]) rfl _ WT t l) (fun y => rfl)
    · exact pieceD_hi HQ SX WD WT fo (ex v172) (Ring.bk 3 k.val) 13 (by decide) (formD3456 _ _ _ _ _ _) rfl (fun t q => rd2 (offD42 k) _ HQ t q) (fun q cc => rdLandD WD (by decide) (off82_eq v18 k0_t1 k) _ q cc) (fun q => rd2 (offD84 k) _ SX 0 q) (fun t l => rd2 (off := ![0, 0]) rfl _ WT t l) (fun y => rfl)
    · exact pieceD_lo HQ SX WD WT fo (ex v172) (Ring.bk 3 k.val) 13 (by decide) (formD3328 _ _ _ _ _ _) rfl (fun t q => rd2 (offD42 k) _ HQ t q) (fun q cc => rdLandD WD (by decide) (off82_eq v18 k0_t1 k) _ q cc) (fun q => rd2 (offD83 k) _ SX 0 q) (fun t l => rd2 (off := ![0, 0]) rfl _ WT t l) (fun y => rfl)
    · exact pieceD_hi HQ SX WD WT fo (ex v172) (Ring.bk 3 k.val) 12 (by decide) (formD3200 _ _ _ _ _ _) rfl (fun t q => rd2 (offD42 k) _ HQ t q) (fun q cc => rdLandD WD (by decide) (off79_eq v18 k0_t1 k) _ q cc) (fun q => rd2 (offD81 k) _ SX 0 q) (fun t l => rd2 (off := ![0, 0]) rfl _ WT t l) (fun y => rfl)
    · exact pieceD_lo HQ SX WD WT fo (ex v172) (Ring.bk 3 k.val) 12 (by decide) (formD3072 _ _ _ _ _ _) rfl (fun t q => rd2 (offD42 k) _ HQ t q) (fun q cc => rdLandD WD (by decide) (off79_eq v18 k0_t1 k) _ q cc) (fun q => rd2 (offD80 k) _ SX 0 q) (fun t l => rd2 (off := ![0, 0]) rfl _ WT t l) (fun y => rfl)
    · exact pieceD_hi HQ SX WD WT fo (ex v172) (Ring.bk 3 k.val) 11 (by decide) (formD2944 _ _ _ _ _ _) rfl (fun t q => rd2 (offD42 k) _ HQ t q) (fun q cc => rdLandD WD (by decide) (off76_eq v18 k0_t1 k) _ q cc) (fun q => rd2 (offD78 k) _ SX 0 q) (fun t l => rd2 (off := ![0, 0]) rfl _ WT t l) (fun y => rfl)
    · exact pieceD_lo HQ SX WD WT fo (ex v172) (Ring.bk 3 k.val) 11 (by decide) (formD2816 _ _ _ _ _ _) rfl (fun t q => rd2 (offD42 k) _ HQ t q) (fun q cc => rdLandD WD (by decide) (off76_eq v18 k0_t1 k) _ q cc) (fun q => rd2 (offD77 k) _ SX 0 q) (fun t l => rd2 (off := ![0, 0]) rfl _ WT t l) (fun y => rfl)
    · exact pieceD_hi HQ SX WD WT fo (ex v172) (Ring.bk 3 k.val) 10 (by decide) (formD2688 _ _ _ _ _ _) rfl (fun t q => rd2 (offD42 k) _ HQ t q) (fun q cc => rdLandD WD (by decide) (off73_eq v18 k0_t1 k) _ q cc) (fun q => rd2 (offD75 k) _ SX 0 q) (fun t l => rd2 (off := ![0, 0]) rfl _ WT t l) (fun y => rfl)
    · exact pieceD_lo HQ SX WD WT fo (ex v172) (Ring.bk 3 k.val) 10 (by decide) (formD2560 _ _ _ _ _ _) rfl (fun t q => rd2 (offD42 k) _ HQ t q) (fun q cc => rdLandD WD (by decide) (off73_eq v18 k0_t1 k) _ q cc) (fun q => rd2 (offD74 k) _ SX 0 q) (fun t l => rd2 (off := ![0, 0]) rfl _ WT t l) (fun y => rfl)
    · exact pieceD_hi HQ SX WD WT fo (ex v172) (Ring.bk 3 k.val) 9 (by decide) (formD2432 _ _ _ _ _ _) rfl (fun t q => rd2 (offD42 k) _ HQ t q) (fun q cc => rdLandD WD (by decide) (off70_eq v18 k0_t1 k) _ q cc) (fun q => rd2 (offD72 k) _ SX 0 q) (fun t l => rd2 (off := ![0, 0]) rfl _ WT t l) (fun y => rfl)
    · exact pieceD_lo HQ SX WD WT fo (ex v172) (Ring.bk 3 k.val) 9 (by decide) (formD2304 _ _ _ _ _ _) rfl (fun t q => rd2 (offD42 k) _ HQ t q) (fun q cc => rdLandD WD (by decide) (off70_eq v18 k0_t1 k) _ q cc) (fun q => rd2 (offD71 k) _ SX 0 q) (fun t l => rd2 (off := ![0, 0]) rfl _ WT t l) (fun y => rfl)
    · exact pieceD_hi HQ SX WD WT fo (ex v172) (Ring.bk 3 k.val) 8 (by decide) (formD2176 _ _ _ _ _ _) rfl (fun t q => rd2 (offD42 k) _ HQ t q) (fun q cc => rdLandD WD (by decide) (off67_eq v18 k0_t1 k) _ q cc) (fun q => rd2 (offD69 k) _ SX 0 q) (fun t l => rd2 (off := ![0, 0]) rfl _ WT t l) (fun y => rfl)
    · exact pieceD_lo HQ SX WD WT fo (ex v172) (Ring.bk 3 k.val) 8 (by decide) (formD2048 _ _ _ _ _ _) rfl (fun t q => rd2 (offD42 k) _ HQ t q) (fun q cc => rdLandD WD (by decide) (off67_eq v18 k0_t1 k) _ q cc) (fun q => rd2 (offD68 k) _ SX 0 q) (fun t l => rd2 (off := ![0, 0]) rfl _ WT t l) (fun y => rfl)
    · exact pieceD_hi HQ SX WD WT fo (ex v172) (Ring.bk 3 k.val) 7 (by decide) (formD1920 _ _ _ _ _ _) rfl (fun t q => rd2 (offD42 k) _ HQ t q) (fun q cc => rdLandD WD (by decide) (off64_eq v18 k0_t1 k) _ q cc) (fun q => rd2 (offD66 k) _ SX 0 q) (fun t l => rd2 (off := ![0, 0]) rfl _ WT t l) (fun y => rfl)
    · exact pieceD_lo HQ SX WD WT fo (ex v172) (Ring.bk 3 k.val) 7 (by decide) (formD1792 _ _ _ _ _ _) rfl (fun t q => rd2 (offD42 k) _ HQ t q) (fun q cc => rdLandD WD (by decide) (off64_eq v18 k0_t1 k) _ q cc) (fun q => rd2 (offD65 k) _ SX 0 q) (fun t l => rd2 (off := ![0, 0]) rfl _ WT t l) (fun y => rfl)
    · exact pieceD_hi HQ SX WD WT fo (ex v172) (Ring.bk 3 k.val) 6 (by decide) (formD1664 _ _ _ _ _ _) rfl (fun t q => rd2 (offD42 k) _ HQ t q) (fun q cc => rdLandD WD (by decide) (off61_eq v18 k0_t1 k) _ q cc) (fun q => rd2 (offD63 k) _ SX 0 q) (fun t l => rd2 (off := ![0, 0]) rfl _ WT t l) (fun y => rfl)
    · exact pieceD_lo HQ SX WD WT fo (ex v172) (Ring.bk 3 k.val) 6 (by decide) (formD1536 _ _ _ _ _ _) rfl (fun t q => rd2 (offD42 k) _ HQ t q) (fun q cc => rdLandD WD (by decide) (off61_eq v18 k0_t1 k) _ q cc) (fun q => rd2 (offD62 k) _ SX 0 q) (fun t l => rd2 (off := ![0, 0]) rfl _ WT t l) (fun y => rfl)
    · exact pieceD_hi HQ SX WD WT fo (ex v172) (Ring.bk 3 k.val) 5 (by decide) (formD1408 _ _ _ _ _ _) rfl (fun t q => rd2 (offD42 k) _ HQ t q) (fun q cc => rdLandD WD (by decide) (off58_eq v18 k0_t1 k) _ q cc) (fun q => rd2 (offD60 k) _ SX 0 q) (fun t l => rd2 (off := ![0, 0]) rfl _ WT t l) (fun y => rfl)
    · exact pieceD_lo HQ SX WD WT fo (ex v172) (Ring.bk 3 k.val) 5 (by decide) (formD1280 _ _ _ _ _ _) rfl (fun t q => rd2 (offD42 k) _ HQ t q) (fun q cc => rdLandD WD (by decide) (off58_eq v18 k0_t1 k) _ q cc) (fun q => rd2 (offD59 k) _ SX 0 q) (fun t l => rd2 (off := ![0, 0]) rfl _ WT t l) (fun y => rfl)
    · exact pieceD_hi HQ SX WD WT fo (ex v172) (Ring.bk 3 k.val) 4 (by decide) (formD1152 _ _ _ _ _ _) rfl (fun t q => rd2 (offD42 k) _ HQ t q) (fun q cc => rdLandD WD (by decide) (off55_eq v18 k0_t1 k) _ q cc) (fun q => rd2 (offD57 k) _ SX 0 q) (fun t l => rd2 (off := ![0, 0]) rfl _ WT t l) (fun y => rfl)
    · exact pieceD_lo HQ SX WD WT fo (ex v172) (Ring.bk 3 k.val) 4 (by decide) (formD1024 _ _ _ _ _ _) rfl (fun t q => rd2 (offD42 k) _ HQ t q) (fun q cc => rdLandD WD (by decide) (off55_eq v18 k0_t1 k) _ q cc) (fun q => rd2 (offD56 k) _ SX 0 q) (fun t l => rd2 (off := ![0, 0]) rfl _ WT t l) (fun y => rfl)
    · exact pieceD_hi HQ SX WD WT fo (ex v172) (Ring.bk 3 k.val) 3 (by decide) (formD896 _ _ _ _ _ _) rfl (fun t q => rd2 (offD42 k) _ HQ t q) (fun q cc => rdLandD WD (by decide) (off52_eq v18 k0_t1 k) _ q cc) (fun q => rd2 (offD54 k) _ SX 0 q) (fun t l => rd2 (off := ![0, 0]) rfl _ WT t l) (fun y => rfl)
    · exact pieceD_lo HQ SX WD WT fo (ex v172) (Ring.bk 3 k.val) 3 (by decide) (formD768 _ _ _ _ _ _) rfl (fun t q => rd2 (offD42 k) _ HQ t q) (fun q cc => rdLandD WD (by decide) (off52_eq v18 k0_t1 k) _ q cc) (fun q => rd2 (offD53 k) _ SX 0 q) (fun t l => rd2 (off := ![0, 0]) rfl _ WT t l) (fun y => rfl)
    · exact pieceD_hi HQ SX WD WT fo (ex v172) (Ring.bk 3 k.val) 2 (by decide) (formD640 _ _ _ _ _ _) rfl (fun t q => rd2 (offD42 k) _ HQ t q) (fun q cc => rdLandD WD (by decide) (off49_eq v18 k0_t1 k) _ q cc) (fun q => rd2 (offD51 k) _ SX 0 q) (fun t l => rd2 (off := ![0, 0]) rfl _ WT t l) (fun y => rfl)
    · exact pieceD_lo HQ SX WD WT fo (ex v172) (Ring.bk 3 k.val) 2 (by decide) (formD512 _ _ _ _ _ _) rfl (fun t q => rd2 (offD42 k) _ HQ t q) (fun q cc => rdLandD WD (by decide) (off49_eq v18 k0_t1 k) _ q cc) (fun q => rd2 (offD50 k) _ SX 0 q) (fun t l => rd2 (off := ![0, 0]) rfl _ WT t l) (fun y => rfl)
    · exact pieceD_hi HQ SX WD WT fo (ex v172) (Ring.bk 3 k.val) 1 (by decide) (formD384 _ _ _ _ _ _) rfl (fun t q => rd2 (offD42 k) _ HQ t q) (fun q cc => rdLandD WD (by decide) (off46_eq v18 k0_t1 k) _ q cc) (fun q => rd2 (offD48 k) _ SX 0 q) (fun t l => rd2 (off := ![0, 0]) rfl _ WT t l) (fun y => rfl)
    · exact pieceD_lo HQ SX WD WT fo (ex v172) (Ring.bk 3 k.val) 1 (by decide) (formD256 _ _ _ _ _ _) rfl (fun t q => rd2 (offD42 k) _ HQ t q) (fun q cc => rdLandD WD (by decide) (off46_eq v18 k0_t1 k) _ q cc) (fun q => rd2 (offD47 k) _ SX 0 q) (fun t l => rd2 (off := ![0, 0]) rfl _ WT t l) (fun y => rfl)
    · exact pieceD_hi HQ SX WD WT fo (ex v172) (Ring.bk 3 k.val) 0 (by decide) (formD128 _ _ _ _ _ _) rfl (fun t q => rd2 (offD42 k) _ HQ t q) (fun q cc => rdLandD WD (by decide) (off43_eq v18 k0_t1 k) _ q cc) (fun q => rd2 (offD45 k) _ SX 0 q) (fun t l => rd2 (off := ![0, 0]) rfl _ WT t l) (fun y => rfl)
    · exact pieceD_lo HQ SX WD WT fo (ex v172) (Ring.bk 3 k.val) 0 (by decide) (formD0 _ _ _ _ _ _) rfl (fun t q => rd2 (offD42 k) _ HQ t q) (fun q cc => rdLandD WD (by decide) (off43_eq v18 k0_t1 k) _ q cc) (fun q => rd2 (offD44 k) _ SX 0 q) (fun t l => rd2 (off := ![0, 0]) rfl _ WT t l) (fun y => rfl)
  · exact View.cover_of_tiled (s := S8x5120) _ S8x128.size rfl y

end Cert.Proof.V
-- ==== Proof.V.Loops.lean ====
/- The two loops over the chunks: the accumulators as one sum over the contracted axis. -/
module

public import proofs.«01_k».proof.Proof.V.UpTrip
public import proofs.«01_k».proof.Proof.V.DownTrip

@[expose] public section

noncomputable section

namespace Cert.Proof.V

open Cert.KernelIdeal Cert.KernelIdeal.Gen Cert.Proof.I
open Idealize.ShloMosaic Idealize.ShloMosaic.ValueIdx Idealize.ShloMosaic.TcCoe

/-- A sum over chunks of `m` is the sum over all of them. -/
theorem sum_chunks (m : ℕ) (g : ℕ → EReal) (n : ℕ) :
    ∑ c ∈ Finset.range n, ∑ q : Fin m, g (m * c + q.val) = ∑ d ∈ Finset.range (m * n), g d := by
  induction n with
  | zero => simp
  | succ n ih =>
    rw [Finset.sum_range_succ, ih, Nat.mul_succ, Finset.sum_range_add, Fin.sum_univ_eq_sum_range (fun q => g (m * n + q)) m]

/-- The up accumulator before chunk `k`. -/
theorem accU_eq (c : Dev nD) (WU : S16x5120x1536.Idx → EReal) (XQ : S8x5120.Idx → EReal) (SX : S12x5120.Idx → EReal)
    (v18 : BitVec 32) (k0_hw2 : k0_chk2 v18) (v150 : IVec S8x8 32) (v152 : FVec Ideal S8x8 .f32) (k0_t1 : Fin (k0_t1_loop v18).trips)
    (v172 : BitVec 32) (k0_hw3 : k0_chk3 v172) (v173 : BitVec 32) (v177 : BitVec 32) (k0_hw4 : k0_chk4 v18 k0_t1 v177) (v179 : BitVec 1)
    (v430 : FVec Ideal S40x12 .f32) (v487 : FVec Ideal S40x128 .f32) (o0 : S8x1536.Idx → EReal) (k : ℕ) (hk : k ≤ 4) (y : S8x1536.Idx) :
    accU (F := Ideal) c WU XQ SX v18 k0_hw2 v150 v152 k0_t1 v172 k0_hw3 v173 v177 k0_hw4 v179 v430 v487 o0 k y
      = o0 y + ∑ j ∈ Finset.range k, upTerm XQ SX WU (ex v172).val j (y 0).val (y 1).val := by
  induction k with
  | zero => rw [Finset.sum_range_zero, add_zero]; rfl
  | succ k ih =>
    have h : k < k0_t2_loop.trips := by rw [trips2_eq]; omega
    have hb : (Ring.bk 4 k : Fin 4).val = k := Ring.bk_val (by omega)
    rw [accU, dif_pos h, tripU_eq, Finset.sum_range_succ, ← add_assoc, ← ih (by omega)]
    show _ + upTerm XQ SX WU (ex v172).val (Ring.bk 4 k : Fin 4).val (y 0).val (y 1).val = _
    rw [hb]

/-- The up projection of the expert: the accumulator after the loop, from zero. -/
theorem accU_full (c : Dev nD) (WU : S16x5120x1536.Idx → EReal) (XQ : S8x5120.Idx → EReal) (SX : S12x5120.Idx → EReal)
    (v18 : BitVec 32) (k0_hw2 : k0_chk2 v18) (v150 : IVec S8x8 32) (v152 : FVec Ideal S8x8 .f32) (k0_t1 : Fin (k0_t1_loop v18).trips)
    (v172 : BitVec 32) (k0_hw3 : k0_chk3 v172) (v173 : BitVec 32) (v177 : BitVec 32) (k0_hw4 : k0_chk4 v18 k0_t1 v177) (v179 : BitVec 1)
    (v430 : FVec Ideal S40x12 .f32) (v487 : FVec Ideal S40x128 .f32) (o0 : S8x1536.Idx → EReal) (y : S8x1536.Idx) (h0 : o0 y = 0) (n : ℕ) (hn : n = 4) :
    accU (F := Ideal) c WU XQ SX v18 k0_hw2 v150 v152 k0_t1 v172 k0_hw3 v173 v177 k0_hw4 v179 v430 v487 o0 n y
      = ∑ d ∈ Finset.range 5120, at2 XQ (y 0).val d * at2 SX ((y 1).val / 128) d * at3 WU (ex v172).val d (y 1).val := by
  subst hn
  rw [accU_eq _ _ _ _ _ _ _ _ _ _ _ _ _ _ _ _ _ _ _ (le_refl 4), h0, zero_add]
  exact sum_chunks 1280 (fun d => at2 XQ (y 0).val d * at2 SX ((y 1).val / 128) d * at3 WU (ex v172).val d (y 1).val) 4

/-- The output accumulator before chunk `k` of an expert. -/
theorem accD_eq (c : Dev nD) (WD : S16x1536x5120.Idx → EReal) (HQ : S8x1536.Idx → EReal) (WT : S8x128.Idx → EReal) (SX : S40x1536.Idx → EReal)
    (v18 : BitVec 32) (k0_hw2 : k0_chk2 v18) (v119 : FVec Ideal S8x1 .f32) (v125 : FVec Ideal S8x5120 .f32) (v126 : FVec Ideal S8x5120 .f32) (k0_t1 : Fin (k0_t1_loop v18).trips)
    (v172 : BitVec 32) (k0_hw3 : k0_chk3 v172) (v173 : BitVec 32) (v177 : BitVec 32) (k0_hw4 : k0_chk4 v18 k0_t1 v177) (v179 : BitVec 1)
    (o0 : S8x5120.Idx → EReal) (k : ℕ) (hk : k ≤ 3) (y : S8x5120.Idx) (wt : EReal) (hwt : at2 WT (y 0).val ((y 1).val % 128) = wt) (hw0 : 0 ≤ wt) (hw1 : wt < ⊤) :
    accD (F := Ideal) c WD HQ WT SX v18 k0_hw2 v119 v125 v126 k0_t1 v172 k0_hw3 v173 v177 k0_hw4 v179 o0 k y
      = o0 y + (∑ j ∈ Finset.range k, downTerm HQ SX WD (ex v172).val j (y 0).val (y 1).val) * wt := by
  induction k with
  | zero => rw [Finset.sum_range_zero, zero_mul, add_zero]; rfl
  | succ k ih =>
    have h : k < k0_t3_loop.trips := by rw [trips3_eq]; omega
    have hb : (Ring.bk 3 k : Fin 3).val = k := Ring.bk_val (by omega)
    rw [accD, dif_pos h, tripD_eq, Finset.sum_range_succ, EReal.right_distrib_of_nonneg_of_ne_top hw0 hw1.ne, ← add_assoc, ← ih (by omega)]
    show _ + downTerm HQ SX WD (ex v172).val (Ring.bk 3 k : Fin 3).val (y 0).val (y 1).val * at2 WT (y 0).val ((y 1).val % 128) = _
    rw [hb, hwt]

/-- The output accumulator after the loop. -/
theorem accD_full (c : Dev nD) (WD : S16x1536x5120.Idx → EReal) (HQ : S8x1536.Idx → EReal) (WT : S8x128.Idx → EReal) (SX : S40x1536.Idx → EReal)
    (v18 : BitVec 32) (k0_hw2 : k0_chk2 v18) (v119 : FVec Ideal S8x1 .f32) (v125 : FVec Ideal S8x5120 .f32) (v126 : FVec Ideal S8x5120 .f32) (k0_t1 : Fin (k0_t1_loop v18).trips)
    (v172 : BitVec 32) (k0_hw3 : k0_chk3 v172) (v173 : BitVec 32) (v177 : BitVec 32) (k0_hw4 : k0_chk4 v18 k0_t1 v177) (v179 : BitVec 1)
    (o0 : S8x5120.Idx → EReal) (n : ℕ) (hn : n = 3) (y : S8x5120.Idx) (wt : EReal) (hwt : at2 WT (y 0).val ((y 1).val % 128) = wt) (hw0 : 0 ≤ wt) (hw1 : wt < ⊤) :
    accD (F := Ideal) c WD HQ WT SX v18 k0_hw2 v119 v125 v126 k0_t1 v172 k0_hw3 v173 v177 k0_hw4 v179 o0 n y
      = o0 y + (∑ d ∈ Finset.range 1536, at2 HQ (y 0).val d * at2 SX ((y 1).val / 128) d * at3 WD (ex v172).val d (y 1).val) * wt := by
  subst hn
  rw [accD_eq _ _ _ _ _ _ _ _ _ _ _ _ _ _ _ _ _ _ _ (le_refl 3) y wt hwt hw0 hw1]
  refine congrArg (fun s => o0 y + s * wt) ?_
  exact sum_chunks 512 (fun d => at2 HQ (y 0).val d * at2 SX ((y 1).val / 128) d * at3 WD (ex v172).val d (y 1).val) 3

end Cert.Proof.V
-- ==== Proof.V.Quant.lean ====
/- The row-wise power-of-two quantiser as mathematics: the scale of a row from its largest magnitude, and its inverse. -/
module

public import Idealize.ShloMosaic.PureOps.Ideal
public import Idealize.ShloMosaic.Lib.SortNet.Extract

@[expose] public section

noncomputable section

namespace Cert.Proof.V

open Idealize.ShloMosaic

/-- The power of two of biased exponent `b`. -/
def P2 (b : ℕ) : EReal := (((2 : ℝ) ^ ((b : ℤ) - 127) : ℝ) : EReal)

theorem P2_pos (b : ℕ) : 0 < P2 b := by
  unfold P2; exact_mod_cast zpow_pos (by norm_num : (0 : ℝ) < 2) _

theorem P2_le {a b : ℕ} (h : a ≤ b) : P2 a ≤ P2 b := by
  have h' : (a : ℤ) - 127 ≤ (b : ℤ) - 127 := by omega
  unfold P2
  exact EReal.coe_le_coe_iff.mpr (zpow_le_zpow_right₀ (by norm_num : (1 : ℝ) ≤ 2) h')

theorem P2_127 : P2 127 = 1 := by unfold P2; norm_num

/-- Twice a power of two is the next one. -/
theorem two_mul_P2 (b : ℕ) : ((2 : ℝ) : EReal) * P2 b = P2 (b + 1) := by
  unfold P2
  rw [← EReal.coe_mul]
  congr 1
  rw [← zpow_one_add₀ (by norm_num : (2 : ℝ) ≠ 0)]
  congr 1; push_cast; ring

theorem bits_of_exponent : ∀ b : Fin 255, ((BitVec.ofNat 32 b.val <<< 23).extractLsb' 31 1 == 1#1) = false
    ∧ ((BitVec.ofNat 32 b.val <<< 23).extractLsb' 23 8).toNat = b.val ∧ ((BitVec.ofNat 32 b.val <<< 23).extractLsb' 0 23).toNat = 0 := by
  decide +kernel

/-- A word of clear sign and significand denotes the power of two of its exponent field. -/
theorem ieee_exponent (x : BitVec 32) (b : ℕ) (h1 : 1 ≤ b) (h2 : b ≤ 254) (hs : (x.extractLsb' 31 1 == 1#1) = false)
    (he : (x.extractLsb' 23 8).toNat = b) (hf : (x.extractLsb' 0 23).toNat = 0) : Ideal.ieee 8 23 x = P2 b := by
  unfold Ideal.ieee
  simp only [show (8 + 23 : ℕ) = 31 from rfl]
  rw [hs, he, hf, if_neg (by omega), if_neg (by omega)]
  unfold P2
  congr 1
  rw [if_neg (by decide)]
  rw [one_mul, add_zero, Nat.cast_pow, Nat.cast_ofNat, ← zpow_natCast, ← zpow_add₀ (by norm_num : (2 : ℝ) ≠ 0)]
  congr 1
  push_cast; ring

/-- The word whose exponent field is `b` and whose other bits are zero denotes `P2 b`. -/
theorem ofBits_exponent (b : ℕ) (h1 : 1 ≤ b) (h2 : b ≤ 254) : Ideal.ofBits .f32 (BitVec.ofNat 32 b <<< 23) = P2 b :=
  have h := bits_of_exponent ⟨b, by omega⟩
  ieee_exponent (BitVec.ofNat 32 b <<< 23) b h1 h2 h.1 h.2.1 h.2.2

theorem div_one_coe (s : ℝ) (hs : s ≠ 0) : Ideal.div 1 (s : EReal) = ((1 / s : ℝ) : EReal) := by
  rw [show (1 : EReal) = ((1 : ℝ) : EReal) from rfl]
  simp [Ideal.div, hs, EReal.coe_inv]

open Classical in
/-- The largest biased exponent, at most 246, whose power of two is at most `q`; 0 if there is none. -/
def level (q : EReal) : ℕ := ((Finset.Icc 1 246).filter fun b => P2 b ≤ q).sup id

theorem level_le (q : EReal) : level q ≤ 246 := by
  unfold level
  refine Finset.sup_le fun b hb => ?_
  exact (Finset.mem_Icc.mp (Finset.mem_filter.mp hb).1).2

theorem le_level {q : EReal} {b : ℕ} (h1 : 1 ≤ b) (h2 : b ≤ 246) (h : P2 b ≤ q) : b ≤ level q := by
  unfold level
  exact Finset.le_sup (f := id) (Finset.mem_filter.mpr ⟨Finset.mem_Icc.mpr ⟨h1, h2⟩, h⟩)

theorem level_spec (q : EReal) (h : level q ≠ 0) : P2 (level q) ≤ q := by
  classical
  have hne : ((Finset.Icc 1 246).filter fun b => P2 b ≤ q).Nonempty := by
    rw [Finset.nonempty_iff_ne_empty]
    intro he
    exact h (by unfold level; rw [show ((Finset.Icc 1 246).filter fun b => P2 b ≤ q) = ∅ from by convert he]; rfl)
  obtain ⟨b, hb, hs⟩ := Finset.exists_mem_eq_sup _ hne id
  have : level q = b := by unfold level; convert hs; rfl
  rw [this]
  exact (Finset.mem_filter.mp hb).2

/-- The scale of a row whose largest magnitude over 448 is `q`. -/
def scaleOf (q : EReal) : EReal := if level q = 0 then 1 else P2 (level q + 1)

/-- What a row is multiplied by before it is rounded. -/
def invOf (q : EReal) : EReal := if level q = 0 then 1 else P2 (253 - level q)

theorem div_scaleOf (q : EReal) : Ideal.div 1 (scaleOf q) = invOf q := by
  unfold scaleOf invOf
  split_ifs with h
  · rw [show (1 : EReal) = ((1 : ℝ) : EReal) from rfl]; simp [Ideal.div]
  · have hl := level_le q
    unfold P2
    have : ((2 : ℝ) ^ (((level q + 1 : ℕ) : ℤ) - 127)) ≠ 0 := zpow_ne_zero _ (by norm_num)
    have e : (1 : ℝ) / ((2 : ℝ) ^ (((level q + 1 : ℕ) : ℤ) - 127)) = (2 : ℝ) ^ (((253 - level q : ℕ) : ℤ) - 127) := by
      rw [one_div, ← zpow_neg]; congr 1; omega
    rw [← e, div_one_coe _ this]

/-- The exponent the kernel carries: the scale is two to it. -/
def eWord (q : EReal) : BitVec 32 := if level q = 0 then 0#32 else BitVec.ofNat 32 (level q) - 126#32

theorem word_up : ∀ n : Fin 247, BitVec.ofNat 32 n.val - 126#32 + 127#32 = BitVec.ofNat 32 (n.val + 1) := by decide +kernel
theorem word_down : ∀ n : Fin 247, 0#32 - (BitVec.ofNat 32 n.val - 126#32) + 127#32 = BitVec.ofNat 32 (253 - n.val) := by decide +kernel

theorem ofBits_scale (q : EReal) : Ideal.ofBits .f32 ((eWord q + 127#32) <<< 23) = scaleOf q := by
  unfold eWord scaleOf
  have hl := level_le q
  split_ifs with h
  · rw [← P2_127]; exact ofBits_exponent 127 (by omega) (by omega)
  · rw [word_up ⟨level q, by omega⟩]; exact ofBits_exponent _ (by omega) (by show level q + 1 ≤ 254; omega)

theorem ofBits_inv (q : EReal) : Ideal.ofBits .f32 ((0#32 - eWord q + 127#32) <<< 23) = invOf q := by
  unfold eWord invOf
  have hl := level_le q
  split_ifs with h
  · rw [← P2_127]; exact ofBits_exponent 127 (by omega) (by omega)
  · rw [word_down ⟨level q, by omega⟩]; exact ofBits_exponent _ (by show 1 ≤ 253 - level q; omega) (by show 253 - level q ≤ 254; omega)

theorem toInt_small : ∀ n : Fin 257, (BitVec.ofNat 32 n.val).toInt = n.val := by decide +kernel

/-- The signed maximum, over the lanes, of the exponents whose power of two is at most `q` is `level q`. -/
theorem fold_level (q : EReal) (g : Fin 256 → BitVec 32)
    (hg : ∀ k : Fin 256, g k = if P2 (min (k.val + 1) 246) ≤ q then BitVec.ofNat 32 (min (k.val + 1) 246) else 0#32) :
    (Finset.univ : Finset (Fin 256)).fold IntOp.maxsi 2147483648#32 g = BitVec.ofNat 32 (level q) := by
  obtain ⟨h1, h2, h3⟩ := SortNet.fold_maxsi_spec g Finset.univ 2147483648#32
  set r := (Finset.univ : Finset (Fin 256)).fold IntOp.maxsi 2147483648#32 g with hr
  have hl := level_le q
  have hge : (0 : ℤ) ≤ r.toInt := by
    have hk := h2 0 (Finset.mem_univ _)
    rw [hg] at hk
    refine le_trans ?_ hk
    split_ifs
    · decide
    · decide
  apply BitVec.eq_of_toInt_eq
  rw [toInt_small ⟨level q, by omega⟩]
  apply le_antisymm
  · rcases h3 with h3 | ⟨k, _, h3⟩
    · rw [h3] at hge; exact absurd hge (by decide)
    · rw [h3, hg]
      split_ifs with hp
      · have hb : min (k.val + 1) 246 < 257 := by omega
        rw [toInt_small ⟨_, hb⟩]
        exact_mod_cast le_level (by omega) (by omega) hp
      · simp
  · by_cases h0 : level q = 0
    · rw [show ((⟨level q, by omega⟩ : Fin 257).val) = 0 from h0]; exact hge
    · have hk := h2 ⟨level q - 1, by omega⟩ (Finset.mem_univ _)
      rw [hg] at hk
      have e : min (level q - 1 + 1) 246 = level q := by omega
      simp only [e] at hk
      rw [if_pos (level_spec q h0), toInt_small ⟨level q, by omega⟩] at hk
      exact hk

/-- The largest doubled power of two whose power is at most `q`, zero if there is none, then one in place of zero. -/
theorem fold_scale (q : EReal) (g : Fin 246 → EReal)
    (hg : ∀ k : Fin 246, g k = if P2 (k.val + 1) ≤ q then P2 (k.val + 2) else 0) :
    (if (Finset.univ : Finset (Fin 246)).fold max ⊥ g = 0 then 1 else (Finset.univ : Finset (Fin 246)).fold max ⊥ g) = scaleOf q := by
  have hl := level_le q
  have hr : (Finset.univ : Finset (Fin 246)).fold max ⊥ g = if level q = 0 then 0 else P2 (level q + 1) := by
    apply le_antisymm
    · rw [Finset.fold_max_le]
      refine ⟨bot_le, fun k _ => ?_⟩
      rw [hg]
      split_ifs with hp h0 h0
      · have := le_level (q := q) (b := k.val + 1) (by omega) (by omega) hp
        omega
      · have := le_level (q := q) (b := k.val + 1) (by omega) (by omega) hp
        exact P2_le (by omega)
      · exact le_rfl
      · exact (P2_pos _).le
    · rw [Finset.le_fold_max]
      right
      split_ifs with h0
      · refine ⟨0, Finset.mem_univ _, ?_⟩
        rw [hg]; split_ifs
        · exact (P2_pos _).le
        · exact le_rfl
      · refine ⟨⟨level q - 1, by omega⟩, Finset.mem_univ _, ?_⟩
        rw [hg]
        have e : level q - 1 + 1 = level q := by omega
        have e2 : level q - 1 + 2 = level q + 1 := by omega
        simp only [e, e2]
        rw [if_pos (level_spec q h0)]
  rw [hr]
  unfold scaleOf
  by_cases h0 : level q = 0
  · simp [h0]
  · simp only [if_neg h0]
    rw [if_neg (P2_pos _).ne']

/-- The power two to `k - 126`, as the reference computes it. -/
theorem exp2_eq (k : ℕ) (c : EReal) (hc : c = ((126 : ℝ) : EReal)) : Ideal.exp2 (((k : ℝ) : EReal) - c) = P2 (k + 1) := by
  rw [hc, ← EReal.coe_sub, Ideal.exp2_coe]
  unfold P2
  congr 1
  rw [show Real.rpow 2 ((k : ℝ) - 126) = (2 : ℝ) ^ ((k : ℝ) - 126) from rfl, ← Real.rpow_intCast]
  congr 1; push_cast; ring

end Cert.Proof.V
-- ==== Proof.V.QuantK.lean ====
/- The kernel's row quantiser read at an entry: the scale's exponent is found by comparing against the powers of two. -/
module

public import proofs.«01_k».proof.Proof.V.Quant
public import proofs.«01_k».proof.Proof.V.Read

@[expose] public section

noncomputable section

namespace Cert.Proof.V

open Cert.KernelIdeal Cert.KernelIdeal.Gen
open Idealize.ShloMosaic Idealize.ShloMosaic.ValueIdx

/-- The constant a row's largest magnitude is multiplied by, and the bounds of a code. -/
abbrev cstQ : EReal := Ideal.ofBits .f32 0x3B124925#32
abbrev cstHi : EReal := Ideal.ofBits .f32 0x43E00000#32
abbrev cstLo : EReal := Ideal.ofBits .f32 0xC3E00000#32

/-- A value times the inverse of its row's scale, within the bounds of a code. -/
def codeOf (q v : EReal) : EReal := min cstHi (max cstLo (v * invOf q))

/-- The largest magnitude of a row times the constant. -/
def rowQ (n : ℕ) (f : Fin n → EReal) : EReal :=
  (Finset.univ : Finset (Fin n)).fold max ⊥ (fun k => max (f k) (-f k)) * cstQ

theorem step_word : ∀ k : Fin 256, IntOp.minsi (IntOp.addi (BitVec.ofNat 32 k.val) 1#32) 246#32 = BitVec.ofNat 32 (min (k.val + 1) 246) := by
  decide +kernel

theorem level_word : ∀ n : Fin 247, (if (BitVec.ofBool (BitVec.ofNat 32 n.val == 0#32)) = 1#1 then 0#32 else BitVec.ofNat 32 n.val - 126#32)
    = if n.val = 0 then 0#32 else BitVec.ofNat 32 n.val - 126#32 := by decide +kernel

theorem lanes_fold (a : FVec Ideal S8x1 .f32) (t : Fin 8) :
    shapeCast S8x1 (multiReductionI .maxsi [1] S8 (select (cmpf .oge (broadcastTo S8x256 (mulf a (broadcast S8x1 cstQ)) broadcasts_S8x1_S8x256) (k0_pay329 (F := Ideal)))
      (minsi k0_pay328 (broadcast S8x256 246#32)) (broadcast S8x256 0#32)) 2147483648#32 reduces_S8x256_S8 rfl) shapeCasts_S8_S8x1 (ix2 t 0)
      = BitVec.ofNat 32 (level (a (ix2 t 0) * cstQ)) := by
  rw [shapeCast_a_a1_apply]
  refine (multiReductionI_eq_fold _ _ _ _ _ _).trans ?_
  refine (Shape.Reduces.fold_filter_drop_single _ _ _ _ _).trans ?_
  refine fold_level _ _ fun k => ?_
  have hi : (iota .tc S8x256 32 [1] iota_S8x256_d1_w32 (Shape.Reduces.lift reduces_S8x256_S8 (ix1 t) k)) = BitVec.ofNat 32 k.val := by
    rw [iota_single_apply]; rfl
  have hs : IntOp.minsi (k0_pay328 (Shape.Reduces.lift reduces_S8x256_S8 (ix1 t) k)) 246#32 = BitVec.ofNat 32 (min (k.val + 1) 246) := by
    rw [← step_word k, ← hi]; rfl
  have he : k0_pay329 (F := Ideal) (Shape.Reduces.lift reduces_S8x256_S8 (ix1 t) k) = P2 (min (k.val + 1) 246) := by
    rw [← ofBits_exponent _ (by omega) (by omega), ← hs]; rfl
  have hb : broadcastTo S8x256 (mulf a (broadcast S8x1 cstQ)) broadcasts_S8x1_S8x256 (Shape.Reduces.lift reduces_S8x256_S8 (ix1 t) k) = a (ix2 t 0) * cstQ :=
    (broadcastTo_apply _ _ _ (ix2 t 0) (fun i => by fin_cases i <;> rfl))
  show (if Ideal.cmp .oge (broadcastTo S8x256 (mulf a (broadcast S8x1 cstQ)) broadcasts_S8x1_S8x256 (Shape.Reduces.lift reduces_S8x256_S8 (ix1 t) k))
      (k0_pay329 (F := Ideal) (Shape.Reduces.lift reduces_S8x256_S8 (ix1 t) k)) = 1#1
    then IntOp.minsi (k0_pay328 (Shape.Reduces.lift reduces_S8x256_S8 (ix1 t) k)) 246#32 else 0#32) = _
  rw [hb, he, hs]
  show (if BitVec.ofBool (decide (P2 (min (k.val + 1) 246) ≤ a (ix2 t 0) * cstQ)) = 1#1 then _ else _) = _
  by_cases h : P2 (min (k.val + 1) 246) ≤ a (ix2 t 0) * cstQ
  · simp [h]
  · simp [h]

/-- The exponent word of a row's scale. -/
theorem pay330_at (a : FVec Ideal S8x1 .f32) (t : Fin 8) :
    k0_pay330 (F := Ideal) a k0_pay328 (k0_pay329 (F := Ideal)) cstQ (ix2 t 0) = eWord (a (ix2 t 0) * cstQ) := by
  have h := lanes_fold a t
  have hl := level_le (a (ix2 t 0) * cstQ)
  have hw := level_word ⟨level (a (ix2 t 0) * cstQ), by omega⟩
  unfold eWord
  rw [← hw]
  show _ = if (BitVec.ofBool (BitVec.ofNat 32 (level (a (ix2 t 0) * cstQ)) == 0#32)) = 1#1 then _ else _ - _
  rw [← h]
  rfl

theorem pay332_at (a : FVec Ideal S8x1 .f32) (t : Fin 8) :
    k0_pay332 (F := Ideal) a k0_pay328 (k0_pay329 (F := Ideal)) cstQ (ix2 t 0) = scaleOf (a (ix2 t 0) * cstQ) := by
  rw [← ofBits_scale, ← pay330_at]; rfl

/-- The word of the inverse scale, read as a float. -/
theorem inv_at (e : IVec S8x1 32) (q : EReal) (t : Fin 8) (h : e (ix2 t 0) = eWord q) :
    bitcastToFloat (F := Ideal) .f32 (shli (addi (subi (broadcast S8x1 0#32) e) (broadcast S8x1 127#32)) (broadcast S8x1 23#32)) (ix2 t 0) = invOf q := by
  rw [← ofBits_inv, ← h]; rfl

theorem scale_at (e : IVec S8x1 32) (q : EReal) (t : Fin 8) (h : e (ix2 t 0) = eWord q) :
    bitcastToFloat (F := Ideal) .f32 (shli (addi e (broadcast S8x1 127#32)) (broadcast S8x1 23#32)) (ix2 t 0) = scaleOf q := by
  rw [← ofBits_scale, ← h]; rfl

/-- A row's codes. -/
theorem pay331_at (x : FVec Ideal S8x5120 .f32) (a : FVec Ideal S8x1 .f32) (t : Fin 8) (d : Fin 5120) :
    k0_pay331 (F := Ideal) x a k0_pay328 (k0_pay329 (F := Ideal)) cstQ (ix2 t d) = codeOf (a (ix2 t 0) * cstQ) (x (ix2 t d)) := by
  unfold codeOf
  rw [← inv_at _ _ t (pay330_at a t)]
  refine congrArg (fun z => min cstHi (max cstLo (x (ix2 t d) * z))) ?_
  exact broadcastTo_apply _ _ _ (ix2 t 0) (fun i => by fin_cases i <;> rfl)

/-- The largest magnitude of a row of the input. -/
theorem pay327_at (v : FVec Ideal S8x5120 .bf16) (t : Fin 8) :
    k0_pay327 (F := Ideal) v (ix2 t 0) * cstQ = rowQ 5120 (fun d => v (ix2 t d)) := by
  refine congrArg (· * cstQ) ?_
  show shapeCast S8x1 (multiReduction .maximumf [1] S8 (absf (k0_pay326 (F := Ideal) v)) 0xFF800000#32 reduces_S8x5120_S8 (.inl rfl) rfl) shapeCasts_S8_S8x1 (ix2 t 0) = _
  rw [shapeCast_a_a1_apply]
  refine (Ideal.multiReduction_maximumf_single _ _ _ _ _ _).trans ?_
  refine congrArg₂ (fun b g => Finset.fold max b g Finset.univ) (by simp [FloatOps.ofBits, Ideal.ofBits, Ideal.ieee]) ?_
  funext k
  have hk : Shape.Reduces.lift reduces_S8x5120_S8 (ix1 t) k = ix2 t k := by funext i; fin_cases i <;> rfl
  show FloatOps.absf (v (Shape.Reduces.lift reduces_S8x5120_S8 (ix1 t) k)) = _
  rw [hk]; rfl

end Cert.Proof.V
-- ==== Proof.V.Model.lean ====
/- The layer as sums over the extended reals: the value both programs compute. -/
module

public import proofs.«01_k».proof.Proof.V.QuantK

@[expose] public section

noncomputable section

namespace Cert.Proof.V

open Idealize.ShloMosaic Idealize.ShloMosaic.ValueIdx

/-- A value times its logistic. -/
def silu (z : EReal) : EReal := z * Ideal.logistic z

/-- A quantised value: its code times its row's scale. -/
def quant (n : ℕ) (f : Fin n → EReal) (k : Fin n) : EReal := codeOf (rowQ n f) (f k) * scaleOf (rowQ n f)

section Model
variable (X : (⟨3, ![8, 1, 5120]⟩ : Shape).Idx → EReal) (I : (⟨3, ![8, 1, 8]⟩ : Shape).Idx → BitVec 32) (Wt : (⟨3, ![8, 1, 8]⟩ : Shape).Idx → EReal)
  (WU : (⟨3, ![16, 5120, 1536]⟩ : Shape).Idx → EReal) (SU : (⟨3, ![16, 40, 12]⟩ : Shape).Idx → EReal)
  (WD : (⟨3, ![16, 1536, 5120]⟩ : Shape).Idx → EReal) (SD : (⟨3, ![16, 12, 40]⟩ : Shape).Idx → EReal)

/-- The quantised input. -/
def mXQ (t : Fin 8) : Fin 5120 → EReal := quant 5120 fun d => X (ix3 t 0 d)

/-- The up projection of token `t` by expert `e`. -/
def mUp (e : Fin 16) (t : Fin 8) (f : Fin 1536) : EReal :=
  ∑ d : Fin 5120, mXQ X t d * (WU (ix3 e d f) * at3 SU e.val (d.val / 128) (f.val / 128))

/-- The quantised hidden row of token `t` under expert `e`. -/
def mHQ (e : Fin 16) (t : Fin 8) : Fin 1536 → EReal := quant 1536 fun f => silu (mUp X WU SU e t f)

/-- The down projection. -/
def mDown (e : Fin 16) (t : Fin 8) (c : Fin 5120) : EReal :=
  ∑ f : Fin 1536, mHQ X WU SU e t f * (WD (ix3 e f c) * at3 SD e.val (f.val / 128) (c.val / 128))

/-- The weight of expert `e` for token `t`. -/
def mWt (e : Fin 16) (t : Fin 8) : EReal := ∑ k : Fin 8, if I (ix3 t 0 k) = BitVec.ofNat 32 e.val then Wt (ix3 t 0 k) else 0

/-- The layer's result. -/
def mY (t : Fin 8) (c : Fin 5120) : EReal := ∑ e : Fin 16, mDown X WU SU WD SD e t c * mWt I Wt e t
end Model

end Cert.Proof.V
-- ==== Proof.V.Hidden.lean ====
/- The hidden row of one expert: its mask, its quantisation and its weight, as the kernel computes them. -/
module

public import proofs.«01_k».proof.Proof.V.Model

@[expose] public section
set_option maxRecDepth 20000

noncomputable section

namespace Cert.Proof.V

open Cert.KernelIdeal Cert.KernelIdeal.Gen
open Idealize.ShloMosaic Idealize.ShloMosaic.ValueIdx

theorem kids_at (v149 : IVec S8x1x8 32) (t k : Fin 8) : k0_pay338 (F := Ideal) v149 (ix2 t k) = v149 (ix3 t 0 k) := by
  show shapeCast S8x8 v149 shapeCasts_S8x1x8_S8x8 (ix2 t k) = _
  refine shapeCast_apply _ _ _ _ ?_
  rw [Shape.rowMajor_val_three, Shape.rowMajor_val_two]
  show (t.val * 1 + 0) * 8 + k.val = t.val * 8 + k.val
  omega

theorem kwts_at (v151 : FVec Ideal S8x1x8 .f32) (t k : Fin 8) : k0_pay339 (F := Ideal) v151 (ix2 t k) = v151 (ix3 t 0 k) := by
  show shapeCast S8x8 v151 shapeCasts_S8x1x8_S8x8 (ix2 t k) = _
  refine shapeCast_apply _ _ _ _ ?_
  rw [Shape.rowMajor_val_three, Shape.rowMajor_val_two]
  show (t.val * 1 + 0) * 8 + k.val = t.val * 8 + k.val
  omega

theorem ksel_eq (a b : BitVec 32) (x y : EReal) (hy : y = 0) : (if IntOp.cmpi .eq a b = 1#1 then x else y) = if a = b then x else 0 := by
  subst hy
  by_cases h : a = b
  · simp [IntOp.cmpi, h]
  · have hb : (a == b) = false := by simpa using h
    simp [IntOp.cmpi, h, hb]

/-- The weight of the expert named `w`, for token `t`. -/
def kWt (v149 : IVec S8x1x8 32) (v151 : FVec Ideal S8x1x8 .f32) (w : BitVec 32) (t : Fin 8) : EReal :=
  ∑ k : Fin 8, if v149 (ix3 t 0 k) = w then v151 (ix3 t 0 k) else 0

theorem kwt_at (v149 : IVec S8x1x8 32) (v151 : FVec Ideal S8x1x8 .f32) (w : BitVec 32) (t : Fin 8) :
    k0_pay157 (F := Ideal) (k0_pay338 (F := Ideal) v149) (k0_pay339 v151) w (ix2 t 0) = kWt v149 v151 w t := by
  unfold k0_pay157
  refine (shapeCast_a_a1_apply _ _ t 0).trans ?_
  refine (Ideal.multiReduction_add_single _ _ _ _ _ _).trans ?_
  refine Finset.sum_congr rfl fun (k : Fin 8) _ => ?_
  have hk : Shape.Reduces.lift reduces_S8x8_S8_2 (ix1 t) k = ix2 t k := by funext i; fin_cases i <;> rfl
  refine (congrArg _ hk).trans ?_
  refine (ksel_eq (k0_pay338 (F := Ideal) v149 (ix2 t k)) w (k0_pay339 (F := Ideal) v151 (ix2 t k)) _ Ideal.ofBits_zero_f32).trans ?_
  rw [kids_at, kwts_at]

/-- A token one of whose experts is `w` is routed to it. -/
theorem routed_at (v149 : IVec S8x1x8 32) (w : BitVec 32) (t : Fin 8) (k0 : Fin 8) (h0 : v149 (ix3 t 0 k0) = w) :
    k0_pay158 (F := Ideal) (k0_pay338 (F := Ideal) v149) w (ix2 t 0) = 1#1 := by
  have hs : shapeCast S8x1 (multiReduction .add [1] S8 (sitofp (F := Ideal) .f32 (extui 32 (k0_pay156 (F := Ideal) (k0_pay338 (F := Ideal) v149) w) natLt_1_32)) 0x00000000#32 reduces_S8x8_S8_2 (.inl rfl) rfl) shapeCasts_S8_S8x1 (ix2 t 0)
      = ∑ k : Fin 8, if v149 (ix3 t 0 k) = w then (1 : EReal) else 0 := by
    refine (shapeCast_a_a1_apply _ _ t 0).trans ?_
    refine (Ideal.multiReduction_add_single _ _ _ _ _ _).trans ?_
    refine Finset.sum_congr rfl fun (k : Fin 8) _ => ?_
    have hk : Shape.Reduces.lift reduces_S8x8_S8_2 (ix1 t) k = ix2 t k := by funext i; fin_cases i <;> rfl
    refine (congrArg _ hk).trans ?_
    rw [← kids_at v149 t k]
    show ((((IntOp.cmpi .eq (k0_pay338 (F := Ideal) v149 (ix2 t k)) w).setWidth 32).toInt : ℝ) : EReal) = _
    by_cases h : k0_pay338 (F := Ideal) v149 (ix2 t k) = w
    · simp [IntOp.cmpi, h]
    · have hb : (k0_pay338 (F := Ideal) v149 (ix2 t k) == w) = false := by simpa using h
      simp [IntOp.cmpi, h, hb]
  have hpos : (0 : EReal) < ∑ k : Fin 8, if v149 (ix3 t 0 k) = w then (1 : EReal) else 0 := by
    refine lt_of_lt_of_le zero_lt_one ?_
    have := Finset.single_le_sum (f := fun k : Fin 8 => if v149 (ix3 t 0 k) = w then (1 : EReal) else 0)
      (fun i _ => by split <;> simp) (Finset.mem_univ k0)
    simpa [h0] using this
  unfold k0_pay158
  show BitVec.ofBool (decide (Ideal.ofBits .f32 0x00000000#32 < shapeCast S8x1 _ shapeCasts_S8_S8x1 (ix2 t 0))) = 1#1
  rw [hs, Ideal.ofBits_zero_f32]
  exact congrArg BitVec.ofBool (decide_eq_true hpos)

theorem masked_at (r3 : IVec S8x1 1) (h : FVec Ideal S8x1536 .f32) (t : Fin 8) (f : Fin 1536) (hr : r3 (ix2 t 0) = 1#1) :
    k0_pay160 (F := Ideal) r3 h (ix2 t f) = h (ix2 t f) := by
  have hb : broadcastTo S8x1536 (shapeCast S8x1 r3 shapeCasts_S8x1_S8x1) broadcasts_S8x1_S8x1536 (ix2 t f) = 1#1 :=
    ((broadcastTo_apply _ _ _ (ix2 t 0) (fun i => by fin_cases i <;> rfl)).trans (congrFun (shapeCast_self _ _) _)).trans hr
  show (if broadcastTo S8x1536 (shapeCast S8x1 r3 shapeCasts_S8x1_S8x1) broadcasts_S8x1_S8x1536 (ix2 t f) = 1#1 then h (ix2 t f) else _) = _
  rw [if_pos hb]

/-- The largest magnitude of a hidden row. -/
theorem krowH_at (h : FVec Ideal S8x1536 .f32) (t : Fin 8) :
    shapeCast S8x1 (multiReduction .maximumf [1] S8 (absf (F := Ideal) h) 0xFF800000#32 reduces_S8x1536_S8 (.inl rfl) rfl) shapeCasts_S8_S8x1 (ix2 t 0) * cstQ
      = rowQ 1536 (fun d => h (ix2 t d)) := by
  refine congrArg (· * cstQ) ?_
  rw [shapeCast_a_a1_apply]
  refine (Ideal.multiReduction_maximumf_single _ _ _ _ _ _).trans ?_
  refine congrArg₂ (fun b g => Finset.fold max b g Finset.univ) (by simp [FloatOps.ofBits, Ideal.ofBits, Ideal.ieee]) ?_
  funext k
  have hk : Shape.Reduces.lift reduces_S8x1536_S8 (ix1 t) k = ix2 t k := by funext i; fin_cases i <;> rfl
  exact congrArg (fun i => max (h i) (-(h i))) hk

/-- The exponent word of a hidden row. -/
theorem khword_at (r3 : IVec S8x1 1) (h : FVec Ideal S8x1536 .f32) (t : Fin 8) (hr : r3 (ix2 t 0) = 1#1) :
    k0_pay161 (F := Ideal) r3 h (ix2 t 0) = eWord (rowQ 1536 (fun d => h (ix2 t d))) := by
  have e : rowQ 1536 (fun d => h (ix2 t d)) = rowQ 1536 (fun d => k0_pay160 (F := Ideal) r3 h (ix2 t d)) :=
    congrArg (rowQ 1536) (funext fun d => (masked_at r3 h t d hr).symm)
  rw [e, ← krowH_at]
  exact pay330_at _ t

/-- The quantised hidden row of a routed token. -/
theorem khq_at (r3 : IVec S8x1 1) (h : FVec Ideal S8x1536 .f32) (t : Fin 8) (f : Fin 1536) (hr : r3 (ix2 t 0) = 1#1) :
    k0_pay340 (F := Ideal) (k0_pay161 (F := Ideal) r3 h) (k0_pay162 (F := Ideal) r3 h) (k0_pay163 (F := Ideal)) (ix2 t f) = quant 1536 (fun d => h (ix2 t d)) f := by
  have hw := khword_at r3 h t hr
  unfold k0_pay340
  refine (congrFun (shapeCast_self _ _) _).trans ?_
  refine congrArg₂ (· * ·) ?_ ?_
  · unfold codeOf
    refine congrArg (min cstHi) (congrArg (max cstLo) ?_)
    refine congrArg₂ (· * ·) (masked_at r3 h t f hr) ?_
    exact (broadcastTo_apply _ _ _ (ix2 t 0) (fun i => by fin_cases i <;> rfl)).trans (inv_at _ _ t hw)
  · exact (broadcastTo_apply _ _ _ (ix2 t 0) (fun i => by fin_cases i <;> rfl)).trans (scale_at _ _ t hw)

/-- The weight spread over a block of lanes. -/
theorem kwtb_at (s : FVec Ideal S8x1 .f32) (t : Fin 8) (j : Fin 128) : k0_pay341 (F := Ideal) s (ix2 t j) = s (ix2 t 0) := by
  unfold k0_pay341
  refine (congrFun (shapeCast_self _ _) _).trans ?_
  exact (broadcastTo_apply _ _ _ (ix2 t 0) (fun i => by fin_cases i <;> rfl)).trans (congrFun (shapeCast_self _ _) _)

end Cert.Proof.V
-- ==== Proof.V.Trip.lean ====
/- One trip of the expert loop: the output accumulator gains the expert's contribution. -/
module

public import proofs.«01_k».proof.Proof.V.Blocks
public import proofs.«01_k».proof.Proof.V.Loops
public import proofs.«01_k».proof.Proof.V.Hidden
public import proofs.«01_k».proof.Proof.V.Model

@[expose] public section

noncomputable section

namespace Cert.Proof.V

open Cert.KernelIdeal Cert.KernelIdeal.Gen Cert.Proof.I
open Idealize.ShloMosaic Idealize.ShloMosaic.ValueIdx Idealize.ShloMosaic.TcCoe

/-- A buffer of two axes written whole at offset zero, read at an entry. -/
theorem writes_zero2 {κ : Kind} {sp : Space} {n m : ℕ} {e : EltTy} (v : View sig κ sp ⟨2, ![n, m]⟩ e) (f : v.ty.Contents (Elt Ideal)) (inb)
    (p : (⟨2, ![n, m]⟩ : Shape).Idx → Elt Ideal e) (y : (⟨2, ![n, m]⟩ : Shape).Idx) :
    v.read (Elt Ideal) (v.writes (Elt Ideal) f [⟨Rect.unit (s := ⟨2, ![n, m]⟩) ![0, 0] ![n, m] inb, p⟩]) y = p y := by
  have h2 := View.read_writes_cons_emb (Val := Elt Ideal) (v := v) (f := f) (Rect.unit (s := ⟨2, ![n, m]⟩) ![0, 0] ![n, m] inb) p [] y
  rw [emb_zero2] at h2
  exact h2

theorem readCov_zero2 {κ : Kind} {sp : Space} {n m : ℕ} {e : EltTy} (v : View sig κ sp ⟨2, ![n, m]⟩ e) (inb) (inb')
    (p : (⟨2, ![n, m]⟩ : Shape).Idx → Elt Ideal e) (y : (⟨2, ![n, m]⟩ : Shape).Idx) :
    v.readCov (Val := Elt Ideal) [⟨Rect.unit (s := ⟨2, ![n, m]⟩) ![0, 0] ![n, m] inb, p⟩] (Rect.unit (s := ⟨2, ![n, m]⟩) ![0, 0] ![n, m] inb').toLoadRect y = p y := by
  unfold View.readCov
  rw [View.readAt_apply, idx_zero2]
  exact writes_zero2 v _ inb p y

theorem squeeze_mid {a b : ℕ} (x : (⟨3, ![a, 1, b]⟩ : Shape).Idx → EReal) (h : (⟨3, ![a, 1, b]⟩ : Shape).ShapeCasts ⟨2, ![a, b]⟩) (i : Fin a) (j : Fin b) :
    shapeCast ⟨2, ![a, b]⟩ x h (ix2 i j) = x (ix3 i 0 j) := by
  refine shapeCast_apply _ _ _ _ ?_
  rw [Shape.rowMajor_val_three, Shape.rowMajor_val_two]
  show (i.val * 1 + 0) * b + j.val = i.val * b + j.val
  rw [Nat.mul_one, Nat.add_zero]

theorem row13_read (p : S8x1536.Idx → EReal) (y : S8x1536.Idx) : View.read (Elt Ideal) (Memref.whole cc0_scratch13 : Memref sig .tc .vmem S8x1536 .f32).view ((Memref.whole cc0_scratch13 : Memref sig .tc .vmem S8x1536 .f32).view.writes (Elt Ideal) (Memref.whole cc0_scratch13 : Memref sig .tc .vmem S8x1536 .f32).view.junk
      [⟨Rect.unit (s := S8x1536) ![0, 0] S8x1536.size inb_S8x1536_S8x1536_0_0, p⟩]) y = p y := by
  exact writes_zero2 (n := 8) (m := 1536) (Memref.whole cc0_scratch13 : Memref sig .tc .vmem S8x1536 .f32).view _ inb_S8x1536_S8x1536_0_0 p y

theorem whole13 (X : (Memref.whole cc0_scratch13 : Memref sig .tc .vmem S8x1536 .f32).view.ty.Contents (Elt Ideal)) (y : S8x1536.Idx) : View.read (Elt Ideal) (Memref.whole cc0_scratch13 : Memref sig .tc .vmem S8x1536 .f32).view X y = X y := rfl
/-- The buffer of the quantised hidden rows after its one store. -/
theorem row13 (p : S8x1536.Idx → EReal) : (Memref.whole cc0_scratch13 : Memref sig .tc .vmem S8x1536 .f32).view.writes (Elt Ideal) (Memref.whole cc0_scratch13 : Memref sig .tc .vmem S8x1536 .f32).view.junk
      [⟨Rect.unit (s := S8x1536) ![0, 0] S8x1536.size inb_S8x1536_S8x1536_0_0, p⟩] = p := by
  funext y
  exact (whole13 _ y).symm.trans (row13_read p y)

theorem at2_val {n m : ℕ} (p : (⟨2, ![n, m]⟩ : Shape).Idx → EReal) (i : Fin n) (j : Fin m) : at2 p i.val j.val = p (ix2 i j) :=
  (at2_of p (ix2 i j) i.val j.val rfl rfl).symm

section Trip
variable (c : Dev nD) (WU : S16x5120x1536.Idx → EReal) (WD : S16x1536x5120.Idx → EReal) (LS : S17.Idx → BitVec 32) (SU SD : S12x16x40.Idx → EReal)
  (XQ : S8x5120.Idx → EReal) (v18 : BitVec 32) (k0_hw2 : k0_chk2 v18) (v119 : FVec Ideal S8x1 .f32) (v125 : FVec Ideal S8x5120 .f32) (v126 : FVec Ideal S8x5120 .f32)
  (v149 : IVec S8x1x8 32) (v151 : FVec Ideal S8x1x8 .f32) (k : Fin (k0_t1_loop v18).trips)

/-- The expert's word is entry `k` of the list. -/
theorem word_eq (hk : k.val < 17) : tripRunE.sl.r (F := Ideal) c LS v18 k0_hw2 k = word (F := Ideal) c LS k.val := by
  unfold tripRunE.sl.r
  rw [View.readAt_apply]
  exact word_read (F := Ideal) c LS k.val hk _ (off8_eq v18 k) _ _

theorem up_scale (hchk3) (e : ℕ) (hoff : k0_off10 (tripRunE.sl.r (F := Ideal) c LS v18 k0_hw2 k) = ![0, e, 0]) (a : Fin 12) (b : Fin 40) :
    tripRunE.sl.v186 (F := Ideal) c LS SU v18 k0_hw2 k hchk3 (ix2 a b) = at3 SU a.val e b.val := by
  unfold tripRunE.sl.v186 tripRunE.sl.H12_1
  refine (readCov_zero2 (n := 12) (m := 40) _ _ _ _ (ix2 a b)).trans ?_
  unfold tripRunE.sl.v185 tripRunE.sl.v182
  rw [shapeCast_self]
  refine (squeeze_mid (a := 12) (b := 40) _ _ a b).trans ?_
  refine (rd3 (a := 12) (b := 1) (d := 40) hoff _ SU a 0 b).trans ?_
  congr 1 <;> simp

theorem down_scale (hchk3) (e : ℕ) (hoff : k0_off10 (tripRunE.sl.r (F := Ideal) c LS v18 k0_hw2 k) = ![0, e, 0]) (a : Fin 40) (b : Fin 12) :
    tripRunE.sl.v430 (F := Ideal) c LS SD v18 k0_hw2 k hchk3 (ix2 a b) = at3 SD b.val e a.val := by
  unfold tripRunE.sl.v430
  refine (show _ = tripRunE.sl.v429 (F := Ideal) c LS SD v18 k0_hw2 k hchk3 (ix2 b a) from ?_).trans ?_
  · exact congrArg (tripRunE.sl.v429 (F := Ideal) c LS SD v18 k0_hw2 k hchk3) (funext fun i => by fin_cases i <;> rfl)
  unfold tripRunE.sl.v429
  refine (squeeze_mid (a := 12) (b := 40) _ _ b a).trans ?_
  refine (rd3 (a := 12) (b := 1) (d := 40) hoff _ SD b 0 a).trans ?_
  congr 1 <;> simp

/-- The up projection of token `t` by the expert at column `f`, from the arrays of the kernel. -/
def kUp (e : ℕ) (t f : ℕ) : EReal := ∑ d ∈ Finset.range 5120, at2 XQ t d * at3 SU (f / 128) e (d / 128) * at3 WU e d f

/-- The expert's quantised hidden row. -/
def kHQ (e : ℕ) (t : ℕ) : Fin 1536 → EReal := quant 1536 fun f => silu (kUp WU SU XQ e t f.val)

/-- The expert's down projection. -/
def kDown (e t col : ℕ) : EReal := ∑ f : Fin 1536, kHQ WU SU XQ e t f * at3 SD (f.val / 128) e (col / 128) * at3 WD e f.val col

theorem zeros_at (y : S8x1536.Idx) : k0_pay152 (F := Ideal) y = 0 := by
  unfold k0_pay152
  exact (congrFun (shapeCast_self _ _) _).trans Ideal.ofBits_zero_f32

/-- The accumulator of the up projection after its loop. -/
theorem acc_up (hchk3 hchk4) (hw : (tripRunE.sl.r (F := Ideal) c LS v18 k0_hw2 k).toNat < 16) (t : Fin 8) (f : Fin 1536) :
    tripRunE.sl.v520 (F := Ideal) c WU LS SU SD XQ v18 k0_hw2 v149 v151 k hchk3 hchk4 (ix2 t f)
      = kUp WU SU XQ (ex (tripRunE.sl.r (F := Ideal) c LS v18 k0_hw2 k)).val t.val f.val := by
  unfold tripRunE.sl.v520
  rw [View.readAt_apply, sx10_eq]
  refine (congrArg _ (idx_zero2 (n := 8) (m := 1536) _ (ix2 t f))).trans ?_
  refine (accU_full c WU XQ _ v18 k0_hw2 _ _ k _ _ _ _ _ _ _ _ _ (ix2 t f) ?_ _ trips2_eq).trans ?_
  · exact (writes_zero2 (n := 8) (m := 1536) (Memref.whole cc0_scratch15 : Memref sig .tc .vmem S8x1536 .f32).view _ _ _ (ix2 t f)).trans (zeros_at _)
  · unfold kUp
    show (∑ d ∈ Finset.range 5120, at2 XQ t.val d * at2 (spread (tripRunE.sl.v186 (F := Ideal) c LS SU v18 k0_hw2 k hchk3)) (f.val / 128) d
        * at3 WU (ex (tripRunE.sl.r (F := Ideal) c LS v18 k0_hw2 k)).val d f.val : EReal) = _
    refine Finset.sum_congr rfl fun d hd => ?_
    have hd' := Finset.mem_range.1 hd
    have hf := f.isLt
    refine congrArg (fun s => at2 XQ t.val d * s * at3 WU _ d f.val) ?_
    have h1 : f.val / 128 < 12 := by omega
    have h2 : d / 128 < 40 := by omega
    refine (at2_of (spread (tripRunE.sl.v186 (F := Ideal) c LS SU v18 k0_hw2 k hchk3)) (ix2 ⟨f.val / 128, h1⟩ ⟨d, hd'⟩) (f.val / 128) d rfl rfl).symm.trans ?_
    unfold spread
    refine (at2_of (tripRunE.sl.v186 (F := Ideal) c LS SU v18 k0_hw2 k hchk3) (ix2 ⟨f.val / 128, h1⟩ ⟨d / 128, h2⟩) (f.val / 128) (d / 128) rfl rfl).symm.trans ?_
    exact up_scale c LS SU v18 k0_hw2 k hchk3 _ (off10_eq _ hw) ⟨f.val / 128, h1⟩ ⟨d / 128, h2⟩

/-- The quantised hidden row the down loop reads, for a routed token. -/
theorem hid_at (hchk3 hchk4) (hk : k.val < 17) (hw : (tripRunE.sl.r (F := Ideal) c LS v18 k0_hw2 k).toNat < 16) (t : Fin 8) (f : Fin 1536) (k0 : Fin 8)
    (h0 : v149 (ix3 t 0 k0) = word (F := Ideal) c LS k.val) :
    k0_pay340 (F := Ideal) (tripRunE.sl.r_5 (F := Ideal) c WU LS SU SD XQ v18 k0_hw2 v149 v151 k hchk3 hchk4) (tripRunE.sl.r_6 (F := Ideal) c WU LS SU SD XQ v18 k0_hw2 v149 v151 k hchk3 hchk4) (k0_pay163 (F := Ideal)) (ix2 t f)
      = kHQ WU SU XQ (word (F := Ideal) c LS k.val).toNat t.val f := by
  have hwe := word_eq c LS v18 k0_hw2 k hk
  have hex : (ex (tripRunE.sl.r (F := Ideal) c LS v18 k0_hw2 k)).val = (word (F := Ideal) c LS k.val).toNat := by rw [ex_val hw, hwe]
  have hr : tripRunE.sl.r_3 (F := Ideal) c LS v18 k0_hw2 v149 k (ix2 t 0) = 1#1 := by
    unfold tripRunE.sl.r_3
    rw [hwe]
    exact routed_at v149 _ t k0 h0
  have hz : ∀ d : Fin 1536, tripRunE.sl.r_4 (F := Ideal) c WU LS SU SD XQ v18 k0_hw2 v149 v151 k hchk3 hchk4 (ix2 t d) = silu (kUp WU SU XQ (word (F := Ideal) c LS k.val).toNat t.val d.val) := by
    intro d
    unfold tripRunE.sl.r_4
    have ha := acc_up c WU LS SU SD XQ v18 k0_hw2 v149 v151 k hchk3 hchk4 hw t d
    rw [hex] at ha
    rw [← ha]
    rfl
  unfold tripRunE.sl.r_5 tripRunE.sl.r_6
  generalize tripRunE.sl.r_3 (F := Ideal) c LS v18 k0_hw2 v149 k = r3 at hr ⊢
  generalize tripRunE.sl.r_4 (F := Ideal) c WU LS SU SD XQ v18 k0_hw2 v149 v151 k hchk3 hchk4 = r4 at hz ⊢
  refine (khq_at r3 r4 t f hr).trans ?_
  unfold kHQ
  exact congrArg (fun g => quant 1536 g f) (funext hz)

theorem hid_row (hchk3 hchk4) (hk : k.val < 17) (hw : (tripRunE.sl.r (F := Ideal) c LS v18 k0_hw2 k).toNat < 16) (t : Fin 8) (f : Fin 1536) (k0 : Fin 8)
    (h0 : v149 (ix3 t 0 k0) = word (F := Ideal) c LS k.val) :
    at2 (n := 8) (m := 1536) ((Memref.whole cc0_scratch13 : Memref sig .tc .vmem S8x1536 .f32).view.writes (Elt Ideal) (Memref.whole cc0_scratch13 : Memref sig .tc .vmem S8x1536 .f32).view.junk
      (tripRunE.sl.H13_1 (F := Ideal) c WU LS SU SD XQ v18 k0_hw2 v149 v151 k hchk3 hchk4)) t.val f.val = kHQ WU SU XQ (word (F := Ideal) c LS k.val).toNat t.val f := by
  unfold tripRunE.sl.H13_1
  rw [row13]
  refine (at2_val _ t f).trans ?_
  exact hid_at c WU LS SU SD XQ v18 k0_hw2 v149 v151 k hchk3 hchk4 hk hw t f k0 h0

/-- The token's weight the down loop reads. -/
theorem wt_row (hk : k.val < 17) (t : Fin 8) (j : ℕ) (hj : j < 128) :
    at2 (n := 8) (m := 128) ((Memref.whole cc0_scratch14 : Memref sig .tc .vmem S8x128 .f32).view.writes (Elt Ideal) (Memref.whole cc0_scratch14 : Memref sig .tc .vmem S8x128 .f32).view.junk
      (tripRunE.sl.H14_1 (F := Ideal) c LS v18 k0_hw2 v149 v151 k)) t.val j = kWt v149 v151 (word (F := Ideal) c LS k.val) t := by
  have hwe := word_eq c LS v18 k0_hw2 k hk
  refine (at2_of _ (ix2 t ⟨j, hj⟩) t.val j rfl rfl).symm.trans ?_
  unfold tripRunE.sl.H14_1
  refine (writes_zero2 (n := 8) (m := 128) (Memref.whole cc0_scratch14 : Memref sig .tc .vmem S8x128 .f32).view _ _ _ (ix2 t ⟨j, hj⟩)).trans ?_
  refine (kwtb_at _ t _).trans ?_
  unfold tripRunE.sl.r_2
  rw [hwe]
  exact kwt_at v149 v151 _ t

/-- The down scale the down loop reads. -/
theorem down_row (hchk3) (hw : (tripRunE.sl.r (F := Ideal) c LS v18 k0_hw2 k).toNat < 16) (a f : ℕ) (ha : a < 40) (hf : f < 1536) :
    at2 (n := 40) (m := 1536) (spread (tripRunE.sl.v430 (F := Ideal) c LS SD v18 k0_hw2 k hchk3)) a f = at3 SD (f / 128) (ex (tripRunE.sl.r (F := Ideal) c LS v18 k0_hw2 k)).val a := by
  have h2 : f / 128 < 12 := by omega
  refine (at2_of (spread (tripRunE.sl.v430 (F := Ideal) c LS SD v18 k0_hw2 k hchk3)) (ix2 ⟨a, ha⟩ ⟨f, hf⟩) a f rfl rfl).symm.trans ?_
  unfold spread
  refine (at2_of (tripRunE.sl.v430 (F := Ideal) c LS SD v18 k0_hw2 k hchk3) (ix2 ⟨a, ha⟩ ⟨f / 128, h2⟩) a (f / 128) rfl rfl).symm.trans ?_
  exact down_scale c LS SD v18 k0_hw2 k hchk3 _ (off10_eq _ hw) ⟨a, ha⟩ ⟨f / 128, h2⟩

set_option maxHeartbeats 1000000 in
/-- ONE TRIP of the expert loop. -/
theorem tripE_eq (hL : ListOK (F := Ideal) c LS v18) (fy : S8x5120.Idx → EReal) (hW : ∀ p, 0 ≤ v151 p ∧ v151 p < ⊤) (t : Fin 8) (col : Fin 5120) :
    (tripRunE (F := Ideal) c WU WD LS SU SD XQ v18 k0_hw2 v119 v125 v126 v149 v151 k hL fy).1 (ix2 t col)
      = fy (ix2 t col) + kDown WU WD SU SD XQ (word (F := Ideal) c LS k.val).toNat t.val col.val * kWt v149 v151 (word (F := Ideal) c LS k.val) t := by
  have hk16 : k.val < 16 := lt_of_lt_of_le k.isLt hL.1
  have hwe := word_eq c LS v18 k0_hw2 k (by omega)
  have hw : (tripRunE.sl.r (F := Ideal) c LS v18 k0_hw2 k).toNat < 16 := by rw [hwe]; exact hL.2 k.val k.isLt
  have hex : (ex (tripRunE.sl.r (F := Ideal) c LS v18 k0_hw2 k)).val = (word (F := Ideal) c LS k.val).toNat := by rw [ex_val hw, hwe]
  have hwt : 0 ≤ kWt v149 v151 (word (F := Ideal) c LS k.val) t ∧ kWt v149 v151 (word (F := Ideal) c LS k.val) t < ⊤ := by
    unfold kWt
    constructor
    · exact Finset.sum_nonneg fun i _ => by split; exacts [(hW _).1, le_refl _]
    · refine Finset.sum_induction _ (fun x : EReal => x < ⊤) (fun a b ha hb => EReal.add_lt_top ha.ne hb.ne) EReal.zero_lt_top ?_
      intro i _
      split; exacts [(hW _).2, EReal.zero_lt_top]
  unfold tripRunE
  dsimp only
  rw [sx11_eq]
  refine (accD_full c WD _ _ _ v18 k0_hw2 _ _ _ k _ _ _ _ _ _ _ _ trips3_eq (ix2 t col) (kWt v149 v151 (word (F := Ideal) c LS k.val) t) ?_ hwt.1 hwt.2).trans ?_
  · exact wt_row c LS v18 k0_hw2 v149 v151 k (by omega) t _ (Nat.mod_lt _ (by decide))
  · refine congrArg (fy (ix2 t col) + ·) ?_
    by_cases hr : ∃ k0 : Fin 8, v149 (ix3 t 0 k0) = word (F := Ideal) c LS k.val
    · obtain ⟨k0, h0⟩ := hr
      refine congrArg (· * _) ?_
      unfold kDown
      refine (Fin.sum_univ_eq_sum_range (α := EReal) _ 1536).symm.trans ?_
      refine Finset.sum_congr rfl fun (f : Fin 1536) _ => ?_
      have hc := col.isLt
      have hf := f.isLt
      refine congrArg₂ (· * ·) (congrArg₂ (· * ·) ?_ ?_) (congrArg (fun e => at3 WD e f.val col.val) hex)
      · exact hid_row c WU LS SU SD XQ v18 k0_hw2 v149 v151 k _ _ (by omega) hw t f k0 h0
      · refine (down_row c LS SD v18 k0_hw2 k _ hw (col.val / 128) f.val (by omega) hf).trans ?_
        rw [hex]
    · have h0 : kWt v149 v151 (word (F := Ideal) c LS k.val) t = 0 := by
        unfold kWt
        exact Finset.sum_eq_zero fun i _ => if_neg fun h => hr ⟨i, h⟩
      rw [h0, mul_zero, mul_zero]
end Trip

end Cert.Proof.V
-- ==== Proof.V.Body.lean ====
/- The kernel's body: the three results as functions of the arrays it is given. -/
module

public import proofs.«01_k».proof.Proof.I.Launch
public import proofs.«01_k».proof.Proof.V.Trip

@[expose] public section
set_option maxRecDepth 20000

noncomputable section

namespace Cert.Proof.V

open Cert.KernelIdeal Cert.KernelIdeal.Gen Cert.Proof.I
open Idealize.ShloMosaic Idealize.ShloMosaic.ValueIdx Idealize.ShloMosaic.TcCoe

/-- A buffer of three axes written whole, read back whole. -/
theorem readCov_whole3 {κ : Kind} {sp : Space} {n m l : ℕ} {e : EltTy} (v : View sig κ sp ⟨3, ![n, m, l]⟩ e) (inb')
    (p : (⟨3, ![n, m, l]⟩ : Shape).Idx → Elt Ideal e) (y : (⟨3, ![n, m, l]⟩ : Shape).Idx) :
    v.readCov (Val := Elt Ideal) [⟨Rect.whole ⟨3, ![n, m, l]⟩, p⟩] (Rect.unit (s := ⟨3, ![n, m, l]⟩) ![0, 0, 0] ![n, m, l] inb').toLoadRect y = p y := by
  unfold View.readCov
  rw [View.readAt_apply, idx_zero3]
  exact congrFun (View.read_writes_whole (Val := Elt Ideal) v _ p) y

theorem readCov_whole2 {κ : Kind} {sp : Space} {n m : ℕ} {e : EltTy} (v : View sig κ sp ⟨2, ![n, m]⟩ e) (inb')
    (p : (⟨2, ![n, m]⟩ : Shape).Idx → Elt Ideal e) (y : (⟨2, ![n, m]⟩ : Shape).Idx) :
    v.readCov (Val := Elt Ideal) [⟨Rect.whole ⟨2, ![n, m]⟩, p⟩] (Rect.unit (s := ⟨2, ![n, m]⟩) ![0, 0] ![n, m] inb').toLoadRect y = p y := by
  unfold View.readCov
  rw [View.readAt_apply, idx_zero2]
  exact congrFun (View.read_writes_whole (Val := Elt Ideal) v _ p) y

/-- The quantised input rows. -/
def xqOf (AX : S8x5120.Idx → EReal) : S8x5120.Idx → EReal := fun y => quant 5120 (fun d => AX (ix2 (y 0) d)) (y 1)

theorem pay334_at (v : FVec Ideal S8x5120 .bf16) (t : Fin 8) (d : Fin 5120) :
    k0_pay334 (F := Ideal) (k0_pay326 (F := Ideal) v) (k0_pay327 (F := Ideal) v) k0_pay328 (k0_pay329 (F := Ideal)) cstQ (ix2 t d) = quant 5120 (fun d => v (ix2 t d)) d := by
  unfold k0_pay334
  refine congrArg₂ (· * ·) ((pay331_at (k0_pay326 (F := Ideal) v) (k0_pay327 (F := Ideal) v) t d).trans ?_) ?_
  · rw [pay327_at]; rfl
  · refine (broadcastTo_apply _ _ _ (ix2 t 0) (fun i => by fin_cases i <;> rfl)).trans ?_
    rw [pay332_at, pay327_at]

theorem word_ne : ∀ a b : Fin 8, a ≠ b → IntOp.cmpi .eq (BitVec.ofNat 32 a.val) (BitVec.ofNat 32 b.val) = 0#1 := by decide
theorem word_self : ∀ a : Fin 8, IntOp.cmpi .eq (BitVec.ofNat 32 a.val) (BitVec.ofNat 32 a.val) = 1#1 := by decide

theorem iota0_at (a b : Fin 8) : iota .tc S8x8 32 [0] iota_S8x8_d0_w32 (ix2 a b) = BitVec.ofNat 32 a.val := by
  rw [iota_single_apply]
theorem iota1_at (a b : Fin 8) : iota .tc S8x8 32 [1] iota_S8x8_d1_w32 (ix2 a b) = BitVec.ofNat 32 b.val := by
  rw [iota_single_apply]

theorem lift8 (k t : Fin 8) : Shape.Reduces.lift reduces_S8x8_S8 (ix1 t) k = ix2 k t := by funext i; fin_cases i <;> rfl

/-- The scales laid out as a row: the diagonal of the scales spread over the columns, summed over the rows. -/
theorem pay336_at (s : FVec Ideal S8x1 .f32) (t : Fin 8) : k0_pay336 (F := Ideal) s (ix2 0 t) = s (ix2 t 0) := by
  unfold k0_pay336
  refine (congrFun (shapeCast_self _ _) _).trans ?_
  refine (shapeCast_a_1a_apply (a := 8) _ _ 0 t).trans ?_
  refine (Ideal.multiReduction_add_single _ _ _ _ _ _).trans ?_
  refine (Finset.sum_eq_single_of_mem (t : Fin 8) (Finset.mem_univ _) ?_).trans ?_
  · intro (k : Fin 8) _ hk
    refine (congrArg _ (lift8 k t)).trans ?_
    rw [select_apply]
    refine (if_neg ?_).trans Ideal.ofBits_zero_f32
    show ¬ IntOp.cmpi .eq (iota .tc S8x8 32 [0] iota_S8x8_d0_w32 (ix2 k t)) (iota .tc S8x8 32 [1] iota_S8x8_d1_w32 (ix2 k t)) = 1#1
    rw [iota0_at, iota1_at, word_ne k t hk]
    decide
  · refine (congrArg _ (lift8 t t)).trans ?_
    rw [select_apply]
    refine (if_pos ?_).trans ((broadcastTo_apply _ _ _ (ix2 t 0) (fun i => by fin_cases i <;> rfl)).trans (congrFun (shapeCast_self _ _) _))
    show IntOp.cmpi .eq (iota .tc S8x8 32 [0] iota_S8x8_d0_w32 (ix2 t t)) (iota .tc S8x8 32 [1] iota_S8x8_d1_w32 (ix2 t t)) = 1#1
    rw [iota0_at, iota1_at]
    exact word_self t

theorem row9_read (f : (Memref.whole cc0_scratch9 : Memref sig .tc .vmem S8x5120 .f32).view.ty.Contents (Elt Ideal)) (p : S8x5120.Idx → EReal) (y : S8x5120.Idx) :
    View.read (Elt Ideal) (Memref.whole cc0_scratch9 : Memref sig .tc .vmem S8x5120 .f32).view ((Memref.whole cc0_scratch9 : Memref sig .tc .vmem S8x5120 .f32).view.writes (Elt Ideal) f
      [⟨Rect.unit (s := S8x5120) ![0, 0] S8x5120.size inb_S8x5120_S8x5120_0_0, p⟩]) y = p y :=
  writes_zero2 (n := 8) (m := 5120) (Memref.whole cc0_scratch9 : Memref sig .tc .vmem S8x5120 .f32).view _ inb_S8x5120_S8x5120_0_0 p y

theorem whole9 (X : (Memref.whole cc0_scratch9 : Memref sig .tc .vmem S8x5120 .f32).view.ty.Contents (Elt Ideal)) (y : S8x5120.Idx) :
    View.read (Elt Ideal) (Memref.whole cc0_scratch9 : Memref sig .tc .vmem S8x5120 .f32).view X y = X y := rfl

theorem row9 (f : (Memref.whole cc0_scratch9 : Memref sig .tc .vmem S8x5120 .f32).view.ty.Contents (Elt Ideal)) (p : S8x5120.Idx → EReal) :
    (Memref.whole cc0_scratch9 : Memref sig .tc .vmem S8x5120 .f32).view.writes (Elt Ideal) f [⟨Rect.unit (s := S8x5120) ![0, 0] S8x5120.size inb_S8x5120_S8x5120_0_0, p⟩] = p := by
  funext y
  exact (whole9 _ y).symm.trans (row9_read f p y)

theorem row16_read (f : (Memref.whole cc0_scratch16 : Memref sig .tc .vmem S8x5120 .f32).view.ty.Contents (Elt Ideal)) (p : S8x5120.Idx → EReal) (y : S8x5120.Idx) :
    View.read (Elt Ideal) (Memref.whole cc0_scratch16 : Memref sig .tc .vmem S8x5120 .f32).view ((Memref.whole cc0_scratch16 : Memref sig .tc .vmem S8x5120 .f32).view.writes (Elt Ideal) f
      [⟨Rect.unit (s := S8x5120) ![0, 0] S8x5120.size inb_S8x5120_S8x5120_0_0, p⟩]) y = p y :=
  writes_zero2 (n := 8) (m := 5120) (Memref.whole cc0_scratch16 : Memref sig .tc .vmem S8x5120 .f32).view _ inb_S8x5120_S8x5120_0_0 p y

theorem whole16 (X : (Memref.whole cc0_scratch16 : Memref sig .tc .vmem S8x5120 .f32).view.ty.Contents (Elt Ideal)) (y : S8x5120.Idx) :
    View.read (Elt Ideal) (Memref.whole cc0_scratch16 : Memref sig .tc .vmem S8x5120 .f32).view X y = X y := rfl

theorem row16 (f : (Memref.whole cc0_scratch16 : Memref sig .tc .vmem S8x5120 .f32).view.ty.Contents (Elt Ideal)) (p : S8x5120.Idx → EReal) :
    (Memref.whole cc0_scratch16 : Memref sig .tc .vmem S8x5120 .f32).view.writes (Elt Ideal) f [⟨Rect.unit (s := S8x5120) ![0, 0] S8x5120.size inb_S8x5120_S8x5120_0_0, p⟩] = p := by
  funext y
  exact (whole16 _ y).symm.trans (row16_read f p y)

section Loop
variable (c : Dev nD) (WU : S16x5120x1536.Idx → EReal) (WD : S16x1536x5120.Idx → EReal) (LS : S17.Idx → BitVec 32) (SU SD : S12x16x40.Idx → EReal)
  (XQ : S8x5120.Idx → EReal) (v18 : BitVec 32) (k0_hw2 : k0_chk2 v18) (v119 : FVec Ideal S8x1 .f32) (v125 : FVec Ideal S8x5120 .f32) (v126 : FVec Ideal S8x5120 .f32)
  (v149 : IVec S8x1x8 32) (v151 : FVec Ideal S8x1x8 .f32)

/-- THE EXPERT LOOP: the sum of the contributions of the experts listed so far. -/
theorem accE_eq (hL : ListOK (F := Ideal) c LS v18) (o0 : S8x5120.Idx → EReal) (hW : ∀ p, 0 ≤ v151 p ∧ v151 p < ⊤) (t : Fin 8) (col : Fin 5120)
    (n : ℕ) (hn : n ≤ (k0_t1_loop v18).trips) :
    accE (F := Ideal) c WU WD LS SU SD XQ v18 k0_hw2 v119 v125 v126 v149 v151 hL o0 n (ix2 t col)
      = o0 (ix2 t col) + ∑ i ∈ Finset.range n, kDown WU WD SU SD XQ (word (F := Ideal) c LS i).toNat t.val col.val * kWt v149 v151 (word (F := Ideal) c LS i) t := by
  induction n with
  | zero => rw [Finset.sum_range_zero, add_zero]; rfl
  | succ n ih =>
    have h : n < (k0_t1_loop v18).trips := hn
    rw [accE, dif_pos h, Finset.sum_range_succ, ← add_assoc, ← ih (by omega)]
    exact tripE_eq c WU WD LS SU SD XQ v18 k0_hw2 v119 v125 v126 v149 v151 ⟨n, h⟩ hL _ hW t col
end Loop

section Body
variable (c : Dev nD) (WU : S16x5120x1536.Idx → EReal) (WD : S16x1536x5120.Idx → EReal) (AL : S17.Idx → BitVec 32) (AC : S1.Idx → BitVec 32)
  (AI : S8x1x8.Idx → BitVec 32) (AW : S8x1x8.Idx → EReal) (AX : S8x5120.Idx → EReal) (AU AD : S12x16x40.Idx → EReal)

theorem count_eq : bodyRun.sl.r (F := Ideal) c AC = cntOf (F := Ideal) c AC := by
  unfold bodyRun.sl.r bodyRun.sl.f
  exact cnt_read (F := Ideal) c AC _ _

theorem ids_eq : bodyRun.sl.v149 (F := Ideal) c AI = AI := by
  funext y
  unfold bodyRun.sl.v149
  exact readCov_whole3 (n := 8) (m := 1) (l := 8) (Memref.whole cc0_scratch2 : Memref sig .tc .vmem S8x1x8 .i32).view _ AI y

theorem weights_eq : bodyRun.sl.v151 (F := Ideal) c AW = AW := by
  funext y
  unfold bodyRun.sl.v151
  exact readCov_whole3 (n := 8) (m := 1) (l := 8) (Memref.whole cc0_scratch3 : Memref sig .tc .vmem S8x1x8 .f32).view _ AW y

theorem input_eq : bodyRun.sl.v72 (F := Ideal) c AX = AX := by
  funext y
  unfold bodyRun.sl.v72
  exact readCov_whole2 (n := 8) (m := 5120) (Memref.whole cc0_scratch4 : Memref sig .tc .vmem S8x5120 .bf16).view _ AX y

theorem quantised_eq : bodyRun.sl.r_5 (F := Ideal) c AX = xqOf AX := by
  funext y
  obtain ⟨t, d, rfl⟩ : ∃ (t : Fin 8) (d : Fin 5120), y = ix2 t d := ⟨y 0, y 1, by funext i; fin_cases i <;> rfl⟩
  unfold bodyRun.sl.r_5 bodyRun.sl.r_2 bodyRun.sl.r_3
  rw [input_eq]
  exact pay334_at AX t d

theorem stored_eq : (Memref.whole cc0_scratch9 : Memref sig .tc .vmem S8x5120 .f32).view.writes (Elt Ideal) (Memref.whole cc0_scratch9 : Memref sig .tc .vmem S8x5120 .f32).view.junk
    (bodyRun.sl.H9_1 (F := Ideal) c AX) = xqOf AX := by
  unfold bodyRun.sl.H9_1
  rw [row9, quantised_eq]
  unfold k0_pay335
  exact shapeCast_self _ _

/-- The first result. -/
theorem y_at (f9) (hchk2) (hL) (hW : ∀ p, 0 ≤ AW p ∧ AW p < ⊤) (htr : (k0_t1_loop (bodyRun.sl.r (F := Ideal) c AC)).trips = (AC cntIx).toNat) (t : Fin 8) (col : Fin 5120) :
    @Eq EReal (bodyRun.sl.v158 (F := Ideal) c WU WD AL AC AI AW AX AU AD f9 hchk2 hL (ix2 t col))
      (∑ i ∈ Finset.range (AC cntIx).toNat, kDown WU WD AU AD (xqOf AX) (AL (listIx i)).toNat t.val col.val * kWt AI AW (AL (listIx i)) t) := by
  have h9 := stored_eq c AX
  have hi := ids_eq c AI
  have hw := weights_eq c AW
  unfold bodyRun.sl.v158
  rw [View.readAt_apply]
  refine (congrArg _ (idx_zero2 (n := 8) (m := 5120) _ (ix2 t col))).trans ?_
  have hz : (Memref.whole cc0_scratch16 : Memref sig .tc .vmem S8x5120 .f32).view.writes (Elt Ideal) (Memref.whole cc0_scratch16 : Memref sig .tc .vmem S8x5120 .f32).view.junk
      (bodyRun.sl.H16_1 (F := Ideal)) = fun _ => (0 : EReal) := by
    unfold bodyRun.sl.H16_1
    rw [row16]
    funext y
    unfold k0_pay337
    exact (congrFun (shapeCast_self _ _) _).trans Ideal.ofBits_zero_f32
  rw [h9, hz, hi, hw]
  refine (whole16 _ (ix2 t col)).trans ?_
  refine Eq.trans (b := (_ : EReal)) (accE_eq c WU WD _ _ _ (xqOf AX) _ hchk2 _ _ _ AI AW hL (fun _ => (0 : EReal)) hW t col _ (le_refl _)) ?_
  rw [zero_add]
  exact Finset.sum_congr (congrArg Finset.range htr) fun _ _ => rfl

theorem dma3_at (f9 f17) (hchk2) (hL) (hW : ∀ p, 0 ≤ AW p ∧ AW p < ⊤) (htr : (k0_t1_loop (bodyRun.sl.r (F := Ideal) c AC)).trips = (AC cntIx).toNat) (t : Fin 8) (col : Fin 5120) :
    bodyRun.sl.dma3 (F := Ideal) c WU WD AL AC AI AW AX AU AD f9 f17 hchk2 hL (ix2 t col)
      = ∑ i ∈ Finset.range (AC cntIx).toNat, kDown WU WD AU AD (xqOf AX) (AL (listIx i)).toNat t.val col.val * kWt AI AW (AL (listIx i)) t := by
  have h := y_at c WU WD AL AC AI AW AX AU AD f9 hchk2 hL hW htr t col
  unfold bodyRun.sl.dma3 bodyRun.sl.H17_1
  generalize bodyRun.sl.v158 (F := Ideal) c WU WD AL AC AI AW AX AU AD f9 hchk2 hL = v at h ⊢
  refine (writes_zero2 (n := 8) (m := 5120) (Memref.whole cc0_scratch17 : Memref sig .tc .vmem S8x5120 .bf16).view f17 _ (k0_pay1 (F := Ideal) v) (ix2 t col)).trans ?_
  unfold k0_pay1
  exact (congrFun (shapeCast_self _ _) _).trans h

/-- The second result: the codes. -/
theorem dma7_at (f18) (t : Fin 8) (d : Fin 5120) :
    bodyRun.sl.dma7 (F := Ideal) c AX f18 (ix2 t d) = codeOf (rowQ 5120 (fun d => AX (ix2 t d))) (AX (ix2 t d)) := by
  unfold bodyRun.sl.dma7 bodyRun.sl.H18_1
  refine (writes_zero2 (n := 8) (m := 5120) (Memref.whole cc0_scratch18 : Memref sig .tc .vmem S8x5120 .fp8e4m3).view f18 _ _ (ix2 t d)).trans ?_
  unfold bodyRun.sl.r_2 bodyRun.sl.r_3
  rw [input_eq]
  unfold k0_pay333
  refine (congrFun (shapeCast_self _ _) _).trans ?_
  refine (pay331_at (k0_pay326 (F := Ideal) AX) (k0_pay327 (F := Ideal) AX) t d).trans ?_
  rw [pay327_at]; rfl

/-- The third result: the scales. -/
theorem dma7_1_at (f19) (t : Fin 8) : bodyRun.sl.dma7_1 (F := Ideal) c AX f19 (ix2 0 t) = scaleOf (rowQ 5120 (fun d => AX (ix2 t d))) := by
  unfold bodyRun.sl.dma7_1 bodyRun.sl.H19_1
  refine (writes_zero2 (n := 1) (m := 8) (Memref.whole cc0_scratch19 : Memref sig .tc .vmem S1x8 .f32).view f19 _ _ (ix2 0 t)).trans ?_
  refine (pay336_at _ t).trans ?_
  unfold bodyRun.sl.r_4 bodyRun.sl.r_3
  rw [input_eq]
  refine (pay332_at (k0_pay327 (F := Ideal) AX) t).trans ?_
  rw [pay327_at]

variable (hok : InOK (F := Ideal) c AL AC)

theorem body_y (f9 f17 f18 f19) (hW : ∀ p, 0 ≤ AW p ∧ AW p < ⊤) (t : Fin 8) (col : Fin 5120) :
    (bodyRun (F := Ideal) c WU WD AL AC AI AW AX AU AD hok f9 f17 f18 f19).1.y (ix2 t col)
      = ∑ i ∈ Finset.range (AC cntIx).toNat, kDown WU WD AU AD (xqOf AX) (AL (listIx i)).toNat t.val col.val * kWt AI AW (AL (listIx i)) t := by
  have htr : (k0_t1_loop (bodyRun.sl.r (F := Ideal) c AC)).trips = (AC cntIx).toNat := trips_of (F := Ideal) c AL AC hok _ (count_eq c AC)
  unfold bodyRun
  dsimp only
  exact dma3_at c WU WD AL AC AI AW AX AU AD f9 f17 _ _ hW htr t col

theorem body_xc (f9 f17 f18 f19) (t : Fin 8) (d : Fin 5120) :
    (bodyRun (F := Ideal) c WU WD AL AC AI AW AX AU AD hok f9 f17 f18 f19).1.xc (ix2 t d) = codeOf (rowQ 5120 (fun d => AX (ix2 t d))) (AX (ix2 t d)) := by
  unfold bodyRun
  dsimp only
  exact dma7_at c AX f18 t d

theorem body_xs (f9 f17 f18 f19) (t : Fin 8) :
    (bodyRun (F := Ideal) c WU WD AL AC AI AW AX AU AD hok f9 f17 f18 f19).1.xs (ix2 0 t) = scaleOf (rowQ 5120 (fun d => AX (ix2 t d))) := by
  unfold bodyRun
  dsimp only
  exact dma7_1_at c AX f19 t
end Body

end Cert.Proof.V
-- ==== Proof.V.Final.lean ====
/- The kernel's results are the reference's: the listed experts' contributions are the layer's sum over all the experts. -/
module

public import proofs.«01_k».proof.Proof.V.Body
public import proofs.«01_k».proof.Proof.Routing

@[expose] public section
set_option maxRecDepth 20000

noncomputable section

namespace Cert.Proof.V

open Cert.KernelIdeal Cert.KernelIdeal.Gen Cert.Proof.I
open Idealize.ShloMosaic Idealize.ShloMosaic.ValueIdx Idealize.ShloMosaic.TcCoe

theorem listIx_eq (i : ℕ) (hi : i < 17) : listIx i = Cert.Proof.ix1 i hi :=
  funext fun a => Fin.ext (by fin_cases a; exact Nat.mod_eq_of_lt hi)

section Sum
variable (AL : S17.Idx → BitVec 32) (AC : S1.Idx → BitVec 32) (AI : S8x1x8.Idx → BitVec 32) (AW : S8x1x8.Idx → EReal)

/-- An expert that no token names has weight 0. -/
theorem mWt_zero (e : Fin 16) (t : Fin 8) (h : ∀ k : Fin 8, AI (ix3 t 0 k) ≠ BitVec.ofNat 32 e.val) : mWt AI AW e t = 0 := by
  unfold mWt
  exact Finset.sum_eq_zero fun k _ => if_neg (h k)

/-- The sum over the list of experts is the sum over all of them: each is listed at most once, and one that is not listed
    is named by no token. -/
theorem sum_listed (R : Cert.Proof.Routing AL AC AI AW) (D : ℕ → EReal) (t : Fin 8) :
    ∑ i ∈ Finset.range (AC cntIx).toNat, D (AL (listIx i)).toNat * kWt AI AW (AL (listIx i)) t = ∑ e : Fin 16, D e.val * mWt AI AW e t := by
  have hc : AC cntIx = AC Cert.Proof.ix0 := congrArg AC (Cert.Proof.ix0_eq cntIx)
  rw [hc]
  obtain ⟨h1, h2, h3⟩ := R.inRange
  have h17 : ∀ i, i < (AC Cert.Proof.ix0).toNat → i < 17 := fun i hi => lt_of_lt_of_le hi (h2.trans (by decide))
  have hlt : ∀ i, i < (AC Cert.Proof.ix0).toNat → (AL (listIx i)).toNat < 16 := fun i hi => by
    rw [listIx_eq i (h17 i hi)]; exact h3 i (h17 i hi) hi
  let g : ℕ → Fin 16 := fun i => ⟨(AL (listIx i)).toNat % 16, Nat.mod_lt _ (by decide)⟩
  have hg : ∀ i, i < (AC Cert.Proof.ix0).toNat → (g i).val = (AL (listIx i)).toNat := fun i hi => Nat.mod_eq_of_lt (hlt i hi)
  have hw : ∀ i, i < (AC Cert.Proof.ix0).toNat → BitVec.ofNat 32 (g i).val = AL (listIx i) := fun i hi => by
    rw [hg i hi, BitVec.ofNat_toNat, BitVec.setWidth_eq]
  have hF : ∀ i ∈ Finset.range (AC Cert.Proof.ix0).toNat, D (AL (listIx i)).toNat * kWt AI AW (AL (listIx i)) t = (fun e : Fin 16 => D e.val * mWt AI AW e t) (g i) := fun i hi => by
    have hi := Finset.mem_range.mp hi
    show _ = D (g i).val * mWt AI AW (g i) t
    unfold mWt kWt
    rw [hw i hi, hg i hi]
  have hinj : ∀ i ∈ Finset.range (AC Cert.Proof.ix0).toNat, ∀ j ∈ Finset.range (AC Cert.Proof.ix0).toNat, g i = g j → i = j := fun i hi j hj hij => by
    have hi := Finset.mem_range.mp hi
    have hj := Finset.mem_range.mp hj
    by_contra hne
    refine R.once i j (h17 i hi) (h17 j hj) hi hj hne ?_
    rw [← listIx_eq i (h17 i hi), ← listIx_eq j (h17 j hj), ← hw i hi, ← hw j hj, hij]
  rw [Finset.sum_congr rfl hF, ← Finset.sum_image (f := fun e : Fin 16 => D e.val * mWt AI AW e t) hinj]
  refine Finset.sum_subset (Finset.subset_univ _) fun e _ he => ?_
  show D e.val * mWt AI AW e t = 0
  rw [mWt_zero AI AW e t, mul_zero]
  intro k hk
  have hen : (AI (ix3 t 0 k)).toNat = e.val := by
    rw [hk, BitVec.toNat_ofNat]; exact Nat.mod_eq_of_lt (by have := e.isLt; omega)
  obtain ⟨i, hi, hin, hi'⟩ := R.present (ix3 t 0 k) (by rw [hen]; exact e.isLt)
  refine he (Finset.mem_image.mpr ⟨i, Finset.mem_range.mpr hin, Fin.ext ?_⟩)
  rw [hg i hin, listIx_eq i hi, hi', hen]
end Sum

section Experts
variable (X : S8x1x5120.Idx → EReal) (WU : S16x5120x1536.Idx → EReal) (SU : (⟨3, ![16, 40, 12]⟩ : Shape).Idx → EReal)
  (WD : S16x1536x5120.Idx → EReal) (SD : (⟨3, ![16, 12, 40]⟩ : Shape).Idx → EReal)
  (AX : S8x5120.Idx → EReal) (AU AD : S12x16x40.Idx → EReal)
  (hX : ∀ (t : Fin 8) (d : Fin 5120), AX (ix2 t d) = X (ix3 t 0 d))
  (hU : ∀ (a : Fin 12) (e : Fin 16) (b : Fin 40), AU (ix3 a e b) = SU (ix3 e b a))
  (hD : ∀ (a : Fin 12) (e : Fin 16) (b : Fin 40), AD (ix3 a e b) = SD (ix3 e a b))
include hX in
theorem xq_at (t : Fin 8) (d : Fin 5120) : at2 (xqOf AX) t.val d.val = mXQ X t d := by
  rw [at2_val]
  show quant 5120 (fun d => AX (ix2 t d)) d = quant 5120 (fun d => X (ix3 t 0 d)) d
  rw [show (fun d : Fin 5120 => AX (ix2 t d)) = fun d => X (ix3 t 0 d) from funext fun d => hX t d]

theorem at3_val {n m l : ℕ} (Y : (⟨3, ![n, m, l]⟩ : Shape).Idx → EReal) (a : Fin n) (b : Fin m) (d : Fin l) : at3 Y a.val b.val d.val = Y (ix3 a b d) := by
  unfold at3
  rw [dif_pos ⟨a.isLt, b.isLt, d.isLt⟩]

include hU in
theorem at3_up (e : Fin 16) (a b : ℕ) (ha : a < 12) (hb : b < 40) : at3 AU a e.val b = at3 SU e.val b a :=
  (at3_val AU ⟨a, ha⟩ e ⟨b, hb⟩).trans ((hU _ _ _).trans (at3_val SU e ⟨b, hb⟩ ⟨a, ha⟩).symm)

include hD in
theorem at3_down (e : Fin 16) (a b : ℕ) (ha : a < 12) (hb : b < 40) : at3 AD a e.val b = at3 SD e.val a b :=
  (at3_val AD ⟨a, ha⟩ e ⟨b, hb⟩).trans ((hD _ _ _).trans (at3_val SD e ⟨a, ha⟩ ⟨b, hb⟩).symm)

include hX hU in
/-- The kernel's up projection is the model's. -/
theorem kUp_eq (e : Fin 16) (t : Fin 8) (f : Fin 1536) : kUp WU AU (xqOf AX) e.val t.val f.val = mUp X WU SU e t f := by
  unfold kUp mUp
  refine (Fin.sum_univ_eq_sum_range (α := EReal) (fun d => at2 (xqOf AX) t.val d * at3 AU (f.val / 128) e.val (d / 128) * at3 WU e.val d f.val) 5120).symm.trans ?_
  refine Finset.sum_congr rfl fun (d : Fin 5120) _ => ?_
  rw [xq_at X AX hX t d, at3_up SU AU hU e (f.val / 128) (d.val / 128) (by have := f.isLt; omega) (by have := d.isLt; omega), at3_val WU e d f, mul_assoc]
  exact congrArg _ (mul_comm _ _)

include hX hU hD in
/-- The kernel's down projection is the model's. -/
theorem kDown_eq (e : Fin 16) (t : Fin 8) (col : Fin 5120) : kDown WU WD AU AD (xqOf AX) e.val t.val col.val = mDown X WU SU WD SD e t col := by
  unfold kDown mDown
  refine Finset.sum_congr rfl fun (f : Fin 1536) _ => ?_
  have hq : kHQ WU AU (xqOf AX) e.val t.val f = mHQ X WU SU e t f := by
    unfold kHQ mHQ
    rw [show (fun f : Fin 1536 => silu (kUp WU AU (xqOf AX) e.val t.val f.val)) = fun f => silu (mUp X WU SU e t f) from funext fun f => congrArg silu (kUp_eq X WU SU AX AU hX hU e t f)]
  rw [hq, at3_down SD AD hD e (f.val / 128) (col.val / 128) (by have := f.isLt; omega) (by have := col.isLt; omega), at3_val WD e f col, mul_assoc]
  exact congrArg _ (mul_comm _ _)

include hX hU hD in
/-- THE LAYER: the listed experts' contributions are the model's result. -/
theorem listed_eq (AL : S17.Idx → BitVec 32) (AC : S1.Idx → BitVec 32) (AI : S8x1x8.Idx → BitVec 32) (AW : S8x1x8.Idx → EReal) (R : Cert.Proof.Routing AL AC AI AW) (t : Fin 8) (col : Fin 5120) :
    ∑ i ∈ Finset.range (AC cntIx).toNat, kDown WU WD AU AD (xqOf AX) (AL (listIx i)).toNat t.val col.val * kWt AI AW (AL (listIx i)) t
      = mY X AI AW WU SU WD SD t col := by
  refine (sum_listed AL AC AI AW R (fun e => kDown WU WD AU AD (xqOf AX) e t.val col.val) t).trans ?_
  unfold mY
  exact Finset.sum_congr rfl fun (e : Fin 16) _ => congrArg (· * mWt AI AW e t) (kDown_eq X WU SU WD SD AX AU AD hX hU hD e t col)
end Experts

end Cert.Proof.V
-- ==== Proof.V.Host.lean ====
/- What the host does before the kernel: the input's rows are laid out as a matrix and the two scale arrays are transposed. -/
module

public import proofs.«01_k».proof.Proof.Gen.KernelIdeal.Frame
public import Idealize.ShloMosaic.Lib.StableHlo.Run
public import Idealize.ShloMosaic.PureOps.Ideal
public import Idealize.ShloMosaic.Lib.ValueIdx
public import Idealize.ShloMosaic.Lib.Pipeline.Value

@[expose] public section
set_option maxRecDepth 20000

noncomputable section

namespace Cert.Proof.V

open Cert.KernelIdeal Cert.KernelIdeal.Gen
open Idealize.ShloMosaic Idealize.ShloMosaic.ValueIdx Idealize.ShloMosaic.TcCoe Idealize.ShloMosaic.StableHlo

variable (m : (ℓ : Loc nD τ sig) → Buf (Elt Ideal) ℓ) (c : Dev nD)

theorem host_x : V m c main_v0 = shapeCast (α := EReal) S8x5120 (m ((c : Thread nD τ).loc main_arg2)) shapeCasts_S8x1x5120_S8x5120 := by
  show StableHlo.after hostOps0 _ (Proc.devRef .tc main_v0) = _
  unfold hostOps0
  after_results
  rfl

theorem host_su : V m c main_v1 = transpose (α := EReal) S12x16x40 [2, 0, 1] (m ((c : Thread nD τ).loc main_arg6)) transposes_S16x40x12_S12x16x40_2_0_1 := by
  show StableHlo.after hostOps0 _ (Proc.devRef .tc main_v1) = _
  unfold hostOps0
  after_results

theorem host_sd : V m c main_v2 = transpose (α := EReal) S12x16x40 [1, 0, 2] (m ((c : Thread nD τ).loc main_arg8)) transposes_S16x12x40_S12x16x40_1_0_2 := by
  show StableHlo.after hostOps0 _ (Proc.devRef .tc main_v2) = _
  unfold hostOps0
  after_results

theorem host_x_at (t : Fin 8) (d : Fin 5120) : @Eq EReal (V m c main_v0 (ix2 t d)) (m ((c : Thread nD τ).loc main_arg2) (ix3 t 0 d)) := by
  rw [host_x]
  refine shapeCast_apply _ _ _ (ix3 t 0 d) ?_
  rw [Shape.rowMajor_val_three, Shape.rowMajor_val_two]
  show (t.val * 1 + 0) * 5120 + d.val = t.val * 5120 + d.val
  omega

theorem host_su_at (a : Fin 12) (e : Fin 16) (b : Fin 40) : @Eq EReal (V m c main_v1 (ix3 a e b)) (m ((c : Thread nD τ).loc main_arg6) (ix3 e b a)) := by
  rw [host_su]
  refine transpose_apply _ _ _ _ (ix3 e b a) (fun i => ?_)
  fin_cases i <;> rfl

theorem host_sd_at (a : Fin 12) (e : Fin 16) (b : Fin 40) : @Eq EReal (V m c main_v2 (ix3 a e b)) (m ((c : Thread nD τ).loc main_arg8) (ix3 e a b)) := by
  rw [host_sd]
  refine transpose_apply _ _ _ _ (ix3 e a b) (fun i => ?_)
  fin_cases i <;> rfl

end Cert.Proof.V
-- ==== Proof.V.Ref.lean ====
/- The reference read at an entry: its three results are the layer's sums. -/
module

public import proofs.«01_k».proof.Proof.V.Model
public import proofs.«01_k».proof.Proof.Gen.ReferenceIdeal.Value
public import Idealize.ShloMosaic.Lib.Pointwise.Contract

@[expose] public section

set_option maxRecDepth 20000

noncomputable section

namespace Cert.Proof.V

open Cert.ReferenceIdeal Cert.ReferenceIdeal.Gen
open Idealize.ShloMosaic hiding ix1 ix2 ix3 ix5
open Idealize.ShloMosaic.ValueIdx

theorem negInf : (FloatOps.ofBits (F := Ideal) .f32 0xFF800000#32) = (⊥ : EReal) := by simp [FloatOps.ofBits, Ideal.ofBits, Ideal.ieee]
theorem c126 : Ideal.ofBits .f32 0x42FC0000#32 = ((126 : ℝ) : EReal) := by simp [Ideal.ofBits, Ideal.ieee]; rw [← EReal.coe_mul]; norm_num
theorem cTwo : Ideal.ofBits .f32 0x40000000#32 = ((2 : ℝ) : EReal) := by simp [Ideal.ofBits, Ideal.ieee]; rw [← EReal.coe_mul]; norm_num
theorem cOne : Ideal.ofBits .f32 0x3F800000#32 = (1 : EReal) := by simp [Ideal.ofBits, Ideal.ieee]; rw [← EReal.coe_mul]; norm_num

/-- Lane `k` of the reference's powers of two. -/
theorem lane_pow (k : Fin 246) (w : BitVec 32) (hw : w = BitVec.ofNat 32 k.val) :
    Ideal.exp2 (((w.toInt : ℝ) : EReal) - Ideal.ofBits .f32 0x42FC0000#32) = P2 (k.val + 1) := by
  rw [hw, toInt_small ⟨k.val, by omega⟩]
  have := exp2_eq k.val _ c126
  push_cast at this ⊢
  exact this

/-- One lane of the comparison, as the fold that finds the scale takes it. -/
theorem lane_sel (q p : EReal) (k : Fin 246) (hp : p = P2 (k.val + 1)) :
    (if BitVec.ofBool (decide (p ≤ q)) = 1#1 then Ideal.ofBits .f32 0x40000000#32 * p else (Ideal.ofBits .f32 0x00000000#32 : EReal))
      = if P2 (k.val + 1) ≤ q then P2 (k.val + 2) else 0 := by
  subst hp
  rw [cTwo, two_mul_P2, Ideal.ofBits_zero_f32]
  by_cases h : P2 (k.val + 1) ≤ q
  · simp [h]
  · simp [h]

/-- The fold's value with one in place of zero. -/
theorem sel_scale (q : EReal) (g : Fin 246 → EReal) (hg : ∀ k : Fin 246, g k = if P2 (k.val + 1) ≤ q then P2 (k.val + 2) else 0)
    (r : EReal) (hr : r = (Finset.univ : Finset (Fin 246)).fold max ⊥ g) :
    (if BitVec.ofBool (decide (r = Ideal.ofBits .f32 0x00000000#32)) = 1#1 then Ideal.ofBits .f32 0x3F800000#32 else r) = scaleOf q := by
  rw [← fold_scale q g hg, ← hr, cOne, Ideal.ofBits_zero_f32]
  by_cases h : r = 0
  · simp [h]
  · simp [h]

/-- One lane of the comparison of arrays. -/
theorem lane_row {S : Shape} (A B C : FVec Ideal S .f32) (i : S.Idx) (q p : EReal) (k : Fin 246) (hA : A i = q) (hB : B i = p)
    (hC : C i = Ideal.ofBits .f32 0x40000000#32 * p) (hp : p = P2 (k.val + 1)) :
    select (cmpf (F := Ideal) .oge A B) C (broadcast S (FloatOps.ofBits (F := Ideal) .f32 0x00000000#32)) i
      = if P2 (k.val + 1) ≤ q then P2 (k.val + 2) else 0 := by
  rw [← lane_sel q p k hp, ← hC, ← hA, ← hB]
  rfl

theorem sel_row {S : Shape} (x : FVec Ideal S .f32) (i : S.Idx) :
    select (cmpf (F := Ideal) .oeq x (broadcast S (FloatOps.ofBits .f32 0x00000000#32))) (broadcast S (FloatOps.ofBits .f32 0x3F800000#32)) x i
      = if BitVec.ofBool (decide (x i = Ideal.ofBits .f32 0x00000000#32)) = 1#1 then Ideal.ofBits .f32 0x3F800000#32 else x i := rfl

/-- The reference's scale from its row of lanes. -/
theorem ref_scale (src : FVec Ideal S8x246 .f32) (q : EReal) (t : Fin 8)
    (hsrc : ∀ k : Fin 246, src (ix2 t k) = if P2 (k.val + 1) ≤ q then P2 (k.val + 2) else 0) :
    select (cmpf (F := Ideal) .oeq (shapeCast S8x1 (multiReduction .maximumf [1] S8 src 0xFF800000#32 reduces_S8x246_S8 (.inl rfl) rfl) shapeCasts_S8_S8x1)
        (broadcast S8x1 (FloatOps.ofBits .f32 0x00000000#32)))
      (broadcast S8x1 (FloatOps.ofBits .f32 0x3F800000#32))
      (shapeCast S8x1 (multiReduction .maximumf [1] S8 src 0xFF800000#32 reduces_S8x246_S8 (.inl rfl) rfl) shapeCasts_S8_S8x1) (ix2 t 0)
      = scaleOf q := by
  refine sel_scale q (fun k => src (ix2 t k)) hsrc _ ?_
  refine (shapeCast_a_a1_apply _ _ t 0).trans ?_
  refine (Ideal.multiReduction_maximumf_single _ _ _ _ _ _).trans ?_
  refine congrArg₂ (fun b g => Finset.fold max b g Finset.univ) negInf ?_
  funext k
  have hk : Shape.Reduces.lift reduces_S8x246_S8 (ix1 t) k = ix2 t k := by funext i; fin_cases i <;> rfl
  exact congrArg src hk

section Rows
variable (v0 : FVec Ideal S8x1x5120 .bf16)

theorem rpay1_at (t : Fin 8) (d : Fin 5120) : k0_pay1 (F := Ideal) v0 (ix2 t d) = v0 (ix3 t 0 d) := by
  show shapeCast S8x5120 v0 shapeCasts_S8x1x5120_S8x5120 (ix2 t d) = _
  refine shapeCast_apply _ _ _ _ ?_
  rw [Shape.rowMajor_val_three, Shape.rowMajor_val_two]
  show (t.val * 1 + 0) * 5120 + d.val = t.val * 5120 + d.val
  omega

/-- A row's largest magnitude times the constant. -/
theorem rrow_at (t : Fin 8) :
    shapeCast S8x1 (multiReduction .maximumf [1] S8 (absf (k0_pay1 (F := Ideal) v0)) 0xFF800000#32 reduces_S8x5120_S8 (.inl rfl) rfl) shapeCasts_S8_S8x1 (ix2 t 0) * cstQ
      = rowQ 5120 (fun d => v0 (ix3 t 0 d)) := by
  refine congrArg (· * cstQ) ?_
  rw [shapeCast_a_a1_apply]
  refine (Ideal.multiReduction_maximumf_single _ _ _ _ _ _).trans ?_
  refine congrArg₂ (fun b g => Finset.fold max b g Finset.univ) negInf ?_
  funext k
  have hk : Shape.Reduces.lift reduces_S8x5120_S8 (ix1 t) k = ix2 t k := by funext i; fin_cases i <;> rfl
  exact (congrArg (fun i => max (k0_pay1 (F := Ideal) v0 i) (-(k0_pay1 (F := Ideal) v0 i))) hk).trans
    (congrArg (fun a : EReal => max a (-a)) (rpay1_at v0 t k))

/-- A row's scale. -/
theorem rpay2_at (t : Fin 8) : k0_pay2 (F := Ideal) v0 (ix2 t 0) = scaleOf (rowQ 5120 (fun d => v0 (ix3 t 0 d))) := by
  have hr := rrow_at v0 t
  generalize rowQ 5120 (fun d => v0 (ix3 t 0 d)) = q at hr ⊢
  unfold k0_pay2
  refine ref_scale _ q t fun k => ?_
  have hp := lane_pow k (iota .tc S1x246 32 [1] iota_S1x246_d1_w32 (ix2 0 k)) (by rw [iota_single_apply])
  refine lane_row _ _ _ (ix2 t k) q _ k ?_ ?_ ?_ hp
  · exact (broadcastTo_apply _ _ _ (ix2 t 0) (fun i => by fin_cases i <;> rfl)).trans hr
  · exact (broadcastTo_apply _ _ _ (ix2 0 k) (fun i => by fin_cases i <;> rfl))
  · refine (broadcastTo_apply _ _ _ (ix2 0 k) (fun i => by fin_cases i <;> rfl)).trans ?_
    exact congrFun (shapeCast_self _ _) _

theorem rpay3_at (t : Fin 8) (d : Fin 5120) :
    k0_pay3 (F := Ideal) v0 (ix2 t d) = codeOf (rowQ 5120 (fun d => v0 (ix3 t 0 d))) (v0 (ix3 t 0 d)) := by
  unfold codeOf
  rw [← div_scaleOf, ← rpay2_at v0 t, ← rpay1_at v0 t d, ← cOne]
  rfl

theorem rpay4_at (t : Fin 8) (d : Fin 5120) : k0_pay4 (F := Ideal) v0 (ix2 t d) = mXQ v0 t d := by
  unfold mXQ quant
  show _ = codeOf _ (v0 (ix3 t 0 d)) * scaleOf _
  rw [← rpay3_at v0 t d, ← rpay2_at v0 t]
  rfl
end Rows

/-- Block-scaled weights: the entry times its block's scale. -/
theorem rwide_up (w : FVec Ideal S16x5120x1536 .fp8e4m3) (s : FVec Ideal S16x40x12 .f32) (e : Fin 16) (d : Fin 5120) (f : Fin 1536) :
    shapeCast S16x5120x1536 (mulf (F := Ideal) (φ := .bf16) (shapeCast S16x40x128x12x128 (extf (F := Ideal) .bf16 w bitsLt_fp8e4m3_bf16) shapeCasts_S16x5120x1536_S16x40x128x12x128)
      (broadcastTo S16x40x128x12x128 (shapeCast S16x40x1x12x1 (truncf (F := Ideal) .bf16 s bitsLt_bf16_f32) shapeCasts_S16x40x12_S16x40x1x12x1) broadcasts_S16x40x1x12x1_S16x40x128x12x128))
      shapeCasts_S16x40x128x12x128_S16x5120x1536 (ix3 e d f) = w (ix3 e d f) * at3 s e.val (d.val / 128) (f.val / 128) := by
  have hd := d.isLt
  have hf := f.isLt
  refine (shapeCast_apply _ _ _ (ix5 e ⟨d.val / 128, by omega⟩ ⟨d.val % 128, by omega⟩ ⟨f.val / 128, by omega⟩ ⟨f.val % 128, by omega⟩) ?_).trans ?_
  · rw [Shape.rowMajor_val_three, Shape.rowMajor_val_five]
    show (((e.val * 40 + d.val / 128) * 128 + d.val % 128) * 12 + f.val / 128) * 128 + f.val % 128 = (e.val * 5120 + d.val) * 1536 + f.val
    omega
  refine congrArg₂ (· * ·) ?_ ?_
  · refine shapeCast_apply _ _ _ (ix3 e d f) ?_
    rw [Shape.rowMajor_val_three, Shape.rowMajor_val_five]
    show (e.val * 5120 + d.val) * 1536 + f.val = (((e.val * 40 + d.val / 128) * 128 + d.val % 128) * 12 + f.val / 128) * 128 + f.val % 128
    omega
  · refine (broadcastTo_apply _ _ _ (ix5 e ⟨d.val / 128, by omega⟩ 0 ⟨f.val / 128, by omega⟩ 0) (fun i => by fin_cases i <;> rfl)).trans ?_
    refine (shapeCast_apply _ _ _ (ix3 e ⟨d.val / 128, by omega⟩ ⟨f.val / 128, by omega⟩) ?_).trans ?_
    · rw [Shape.rowMajor_val_three, Shape.rowMajor_val_five]
      show (e.val * 40 + d.val / 128) * 12 + f.val / 128 = (((e.val * 40 + d.val / 128) * 1 + 0) * 12 + f.val / 128) * 1 + 0
      omega
    · exact at3_of s _ _ _ _ rfl rfl rfl

theorem rwide_down (w : FVec Ideal S16x1536x5120 .fp8e4m3) (s : FVec Ideal S16x12x40 .f32) (e : Fin 16) (d : Fin 1536) (f : Fin 5120) :
    k0_pay5 (F := Ideal) w s (ix3 e d f) = w (ix3 e d f) * at3 s e.val (d.val / 128) (f.val / 128) := by
  have hd := d.isLt
  have hf := f.isLt
  unfold k0_pay5
  refine (shapeCast_apply _ _ _ (ix5 e ⟨d.val / 128, by omega⟩ ⟨d.val % 128, by omega⟩ ⟨f.val / 128, by omega⟩ ⟨f.val % 128, by omega⟩) ?_).trans ?_
  · rw [Shape.rowMajor_val_three, Shape.rowMajor_val_five]
    show (((e.val * 12 + d.val / 128) * 128 + d.val % 128) * 40 + f.val / 128) * 128 + f.val % 128 = (e.val * 1536 + d.val) * 5120 + f.val
    omega
  refine congrArg₂ (· * ·) ?_ ?_
  · refine shapeCast_apply _ _ _ (ix3 e d f) ?_
    rw [Shape.rowMajor_val_three, Shape.rowMajor_val_five]
    show (e.val * 1536 + d.val) * 5120 + f.val = (((e.val * 12 + d.val / 128) * 128 + d.val % 128) * 40 + f.val / 128) * 128 + f.val % 128
    omega
  · refine (broadcastTo_apply _ _ _ (ix5 e ⟨d.val / 128, by omega⟩ 0 ⟨f.val / 128, by omega⟩ 0) (fun i => by fin_cases i <;> rfl)).trans ?_
    refine (shapeCast_apply _ _ _ (ix3 e ⟨d.val / 128, by omega⟩ ⟨f.val / 128, by omega⟩) ?_).trans ?_
    · rw [Shape.rowMajor_val_three, Shape.rowMajor_val_five]
      show (e.val * 12 + d.val / 128) * 40 + f.val / 128 = (((e.val * 12 + d.val / 128) * 1 + 0) * 40 + f.val / 128) * 1 + 0
      omega
    · exact at3_of s _ _ _ _ rfl rfl rfl

/-- The batched product of the up projection at an entry. -/
theorem rdot_up (l : FVec Ideal S16x8x5120 .bf16) (r : FVec Ideal S16x5120x1536 .bf16) (e : Fin 16) (t : Fin 8) (f : Fin 1536) :
    matmul (F := Ideal) dot_S16x8x5120_S16x5120x1536_S16x8x1536_2_1_1_2_0_0 none l r (constant S16x8x1536 .f32 0x00000000#32) (ix3 e t f)
      = ∑ d : Fin 5120, l (ix3 e t d) * r (ix3 e d f) := by
  refine (Ideal.matmul_apply₁_of dot_S16x8x5120_S16x5120x1536_S16x8x1536_2_1_1_2_0_0 (a := 2) rfl (K := 5120) rfl l r _ (ix3 e t f)
    (fun d => ix3 e t d) (fun d => ix3 e d f) ?_ ?_).trans ?_
  · intro k; funext i; fin_cases i <;> rfl
  · intro k; funext i; fin_cases i <;> rfl
  · show Ideal.ofBits .f32 0x00000000#32 + _ = _
    rw [Ideal.ofBits_zero_f32, zero_add]

theorem rdot_down (l : FVec Ideal S16x8x1536 .bf16) (r : FVec Ideal S16x1536x5120 .bf16) (e : Fin 16) (t : Fin 8) (f : Fin 5120) :
    matmul (F := Ideal) dot_S16x8x1536_S16x1536x5120_S16x8x5120_2_1_1_2_0_0 none l r (constant S16x8x5120 .f32 0x00000000#32) (ix3 e t f)
      = ∑ d : Fin 1536, l (ix3 e t d) * r (ix3 e d f) := by
  refine (Ideal.matmul_apply₁_of dot_S16x8x1536_S16x1536x5120_S16x8x5120_2_1_1_2_0_0 (a := 2) rfl (K := 1536) rfl l r _ (ix3 e t f)
    (fun d => ix3 e t d) (fun d => ix3 e d f) ?_ ?_).trans ?_
  · intro k; funext i; fin_cases i <;> rfl
  · intro k; funext i; fin_cases i <;> rfl
  · show Ideal.ofBits .f32 0x00000000#32 + _ = _
    rw [Ideal.ofBits_zero_f32, zero_add]

/-- The up projection before its activation. -/
theorem rpay8_at (xq : FVec Ideal S8x5120 .bf16) (w : FVec Ideal S16x5120x1536 .fp8e4m3) (s : FVec Ideal S16x40x12 .f32) (e : Fin 16) (t : Fin 8) (f : Fin 1536) :
    k0_pay8 (F := Ideal) xq w s (ix3 e t f) = silu (∑ d : Fin 5120, xq (ix2 t d) * (w (ix3 e d f) * at3 s e.val (d.val / 128) (f.val / 128))) := by
  unfold k0_pay8
  refine congrArg silu ((rdot_up _ _ e t f).trans ?_)
  refine Finset.sum_congr rfl fun d _ => congrArg₂ (· * ·) ?_ (rwide_up w s e d f)
  refine (broadcastTo_apply _ _ _ (ix3 0 t d) (fun i => by fin_cases i <;> rfl)).trans ?_
  refine (congrFun (shapeCast_self _ _) _).trans ?_
  refine shapeCast_apply _ _ _ (ix2 t d) ?_
  rw [Shape.rowMajor_val_three, Shape.rowMajor_val_two]
  show t.val * 5120 + d.val = (0 * 8 + t.val) * 5120 + d.val
  omega

theorem shapeCast_col (x : FVec Ideal S16x8 .f32) (e : Fin 16) (t : Fin 8) :
    shapeCast S16x8x1 x shapeCasts_S16x8_S16x8x1 (ix3 e t 0) = x (ix2 e t) := by
  refine shapeCast_apply _ _ _ (ix2 e t) ?_
  rw [Shape.rowMajor_val_three, Shape.rowMajor_val_two]
  show e.val * 8 + t.val = (e.val * 8 + t.val) * 1 + 0
  omega

/-- A hidden row's largest magnitude times the constant. -/
theorem rrow3_at (h : FVec Ideal S16x8x1536 .f32) (e : Fin 16) (t : Fin 8) :
    shapeCast S16x8x1 (multiReduction .maximumf [2] S16x8 (absf (F := Ideal) h) 0xFF800000#32 reduces_S16x8x1536_S16x8 (.inl rfl) rfl) shapeCasts_S16x8_S16x8x1 (ix3 e t 0) * cstQ
      = rowQ 1536 (fun d => h (ix3 e t d)) := by
  refine congrArg (· * cstQ) ?_
  rw [shapeCast_col]
  refine (Ideal.multiReduction_maximumf_single _ _ _ _ _ _).trans ?_
  refine congrArg₂ (fun b g => Finset.fold max b g Finset.univ) negInf ?_
  funext k
  have hk : Shape.Reduces.lift reduces_S16x8x1536_S16x8 (ix2 e t) k = ix3 e t k := by funext i; fin_cases i <;> rfl
  exact congrArg (fun i => max (h i) (-(h i))) hk

theorem ref_scale3 (src : FVec Ideal S16x8x246 .f32) (q : EReal) (e : Fin 16) (t : Fin 8)
    (hsrc : ∀ k : Fin 246, src (ix3 e t k) = if P2 (k.val + 1) ≤ q then P2 (k.val + 2) else 0) :
    select (cmpf (F := Ideal) .oeq (shapeCast S16x8x1 (multiReduction .maximumf [2] S16x8 src 0xFF800000#32 reduces_S16x8x246_S16x8 (.inl rfl) rfl) shapeCasts_S16x8_S16x8x1)
        (broadcast S16x8x1 (FloatOps.ofBits .f32 0x00000000#32)))
      (broadcast S16x8x1 (FloatOps.ofBits .f32 0x3F800000#32))
      (shapeCast S16x8x1 (multiReduction .maximumf [2] S16x8 src 0xFF800000#32 reduces_S16x8x246_S16x8 (.inl rfl) rfl) shapeCasts_S16x8_S16x8x1) (ix3 e t 0)
      = scaleOf q := by
  refine (sel_row _ _).trans (sel_scale q (fun k => src (ix3 e t k)) hsrc _ ?_)
  refine (shapeCast_col _ e t).trans ?_
  refine (Ideal.multiReduction_maximumf_single _ _ _ _ _ _).trans ?_
  refine congrArg₂ (fun b g => Finset.fold max b g Finset.univ) negInf ?_
  funext k
  have hk : Shape.Reduces.lift reduces_S16x8x246_S16x8 (ix2 e t) k = ix3 e t k := by funext i; fin_cases i <;> rfl
  exact congrArg src hk

/-- The hidden row, quantised, as the reference writes it from a scale. -/
theorem rquant3 (h : FVec Ideal S16x8x1536 .f32) (sc : FVec Ideal S16x8x1 .f32) (q : EReal) (e : Fin 16) (t : Fin 8) (f : Fin 1536) (hs : sc (ix3 e t 0) = scaleOf q) :
    mulf (F := Ideal) (φ := .bf16) (extf .bf16 (truncf .fp8e4m3 (minimumf (broadcast S16x8x1536 (FloatOps.ofBits (F := Ideal) .f32 0x43E00000#32))
        (maximumf (broadcast S16x8x1536 (FloatOps.ofBits (F := Ideal) .f32 0xC3E00000#32)) (mulf h (broadcastTo S16x8x1536 (divf (broadcast S16x8x1 (FloatOps.ofBits .f32 0x3F800000#32)) sc) broadcasts_S16x8x1_S16x8x1536)))) bitsLt_fp8e4m3_f32) bitsLt_fp8e4m3_bf16)
      (broadcastTo S16x8x1536 (truncf .bf16 sc bitsLt_bf16_f32) broadcasts_S16x8x1_S16x8x1536) (ix3 e t f)
      = codeOf q (h (ix3 e t f)) * scaleOf q := by
  refine congrArg₂ (· * ·) ?_ ?_
  · unfold codeOf
    rw [← div_scaleOf, ← hs, ← cOne]
    refine congrArg (fun z => min cstHi (max cstLo (h (ix3 e t f) * z))) ?_
    exact broadcastTo_apply _ _ _ (ix3 e t 0) (fun i => by fin_cases i <;> rfl)
  · exact (broadcastTo_apply _ _ _ (ix3 e t 0) (fun i => by fin_cases i <;> rfl)).trans hs

theorem sel_eq (a b : BitVec 32) (x y : EReal) (hy : y = 0) : (if IntOp.cmpi .eq a b = 1#1 then x else y) = if a = b then x else 0 := by
  subst hy
  by_cases h : a = b
  · simp [IntOp.cmpi, h]
  · have hb : (a == b) = false := by simpa using h
    simp [IntOp.cmpi, h, hb]

/-- The weight of an expert, as the reference sums it. -/
theorem rwt_at (I : IVec S8x1x8 32) (Wt : FVec Ideal S8x1x8 .f32) (e : Fin 16) (t : Fin 8) :
    multiReduction .add [2] S16x8 (select (cmpi .eq (broadcastTo S16x8x8 (k0_pay6 (F := Ideal) I) broadcasts_S1x8x8_S16x8x8) (iota .tc S16x8x8 32 [0] iota_S16x8x8_d0_w32))
      (broadcastTo S16x8x8 (shapeCast S1x8x8 (k0_pay7 (F := Ideal) Wt) shapeCasts_S1x8x8_S1x8x8) broadcasts_S1x8x8_S16x8x8)
      (broadcast S16x8x8 (FloatOps.ofBits (F := Ideal) .f32 0x00000000#32))) 0x00000000#32 reduces_S16x8x8_S16x8 (.inl rfl) rfl (ix2 e t) = mWt I Wt e t := by
  refine (Ideal.multiReduction_add_single _ _ _ _ _ _).trans ?_
  refine Finset.sum_congr rfl fun (k : Fin 8) _ => ?_
  have hk : Shape.Reduces.lift reduces_S16x8x8_S16x8 (ix2 e t) k = ix3 e t k := by funext i; fin_cases i <;> rfl
  refine (congrArg _ hk).trans ?_
  have h1 : broadcastTo S16x8x8 (k0_pay6 (F := Ideal) I) broadcasts_S1x8x8_S16x8x8 (ix3 e t k) = I (ix3 t 0 k) := by
    refine (broadcastTo_apply _ _ _ (ix3 0 t k) (fun i => by fin_cases i <;> rfl)).trans ?_
    refine shapeCast_apply _ _ _ (ix3 t 0 k) ?_
    rw [Shape.rowMajor_val_three, Shape.rowMajor_val_three]
    show (t.val * 1 + 0) * 8 + k.val = (0 * 8 + t.val) * 8 + k.val
    omega
  have h2 : broadcastTo S16x8x8 (shapeCast S1x8x8 (k0_pay7 (F := Ideal) Wt) shapeCasts_S1x8x8_S1x8x8) broadcasts_S1x8x8_S16x8x8 (ix3 e t k) = Wt (ix3 t 0 k) := by
    refine (broadcastTo_apply _ _ _ (ix3 0 t k) (fun i => by fin_cases i <;> rfl)).trans ?_
    refine (congrFun (shapeCast_self _ _) _).trans ?_
    refine shapeCast_apply _ _ _ (ix3 t 0 k) ?_
    rw [Shape.rowMajor_val_three, Shape.rowMajor_val_three]
    show (t.val * 1 + 0) * 8 + k.val = (0 * 8 + t.val) * 8 + k.val
    omega
  have h3 : iota .tc S16x8x8 32 [0] iota_S16x8x8_d0_w32 (ix3 e t k) = BitVec.ofNat 32 e.val := by rw [iota_single_apply]
  refine (sel_eq _ _ _ _ Ideal.ofBits_zero_f32).trans ?_
  rw [h1, h2, h3]

/-- The reference's first result. -/
theorem G7_at (X : FVec Ideal S8x1x5120 .bf16) (I : IVec S8x1x8 32) (Wt : FVec Ideal S8x1x8 .f32) (WU : FVec Ideal S16x5120x1536 .fp8e4m3) (SU : FVec Ideal S16x40x12 .f32)
    (WD : FVec Ideal S16x1536x5120 .fp8e4m3) (SD : FVec Ideal S16x12x40 .f32) (t : Fin 8) (c : Fin 5120) :
    k0_pay12 (F := Ideal) (k0_pay5 WD SD) (k0_pay6 (F := Ideal) I) (k0_pay7 Wt) (k0_pay8 (F := Ideal) (k0_pay4 X) WU SU) (k0_pay9 (F := Ideal)) (k0_pay10 (F := Ideal) (k0_pay4 X) WU SU) (k0_pay11 (F := Ideal)) (ix2 t c)
      = mY X I Wt WU SU WD SD t c := by
  unfold k0_pay12
  show multiReduction (F := Ideal) .add [0] S8x5120 (mulf (F := Ideal) (φ := .f32) _ _) 0x00000000#32 reduces_S16x8x5120_S8x5120 (.inl rfl) rfl (ix2 t c) = _
  refine (Ideal.multiReduction_add_single _ _ _ _ _ _).trans ?_
  refine Finset.sum_congr rfl fun (e : Fin 16) _ => ?_
  have hk : Shape.Reduces.lift reduces_S16x8x5120_S8x5120 (ix2 t c) e = ix3 e t c := by funext i; fin_cases i <;> rfl
  refine (congrArg _ hk).trans ?_
  refine congrArg₂ (· * ·) ?_ ?_
  · refine (rdot_down _ _ e t c).trans ?_
    refine Finset.sum_congr rfl fun f _ => congrArg₂ (· * ·) ?_ (rwide_down WD SD e f c)
    have hrow : (fun d => k0_pay8 (F := Ideal) (k0_pay4 X) WU SU (ix3 e t d)) = fun d => silu (mUp X WU SU e t d) := by
      funext d
      refine (rpay8_at _ _ _ e t d).trans (congrArg silu ?_)
      exact Finset.sum_congr rfl fun q _ => congrArg (· * _) (rpay4_at X t q)
    have hr := rrow3_at (k0_pay8 (F := Ideal) (k0_pay4 X) WU SU) e t
    have hgoal : mHQ X WU SU e t f = codeOf (rowQ 1536 (fun d => k0_pay8 (F := Ideal) (k0_pay4 X) WU SU (ix3 e t d))) (k0_pay8 (F := Ideal) (k0_pay4 X) WU SU (ix3 e t f))
        * scaleOf (rowQ 1536 (fun d => k0_pay8 (F := Ideal) (k0_pay4 X) WU SU (ix3 e t d))) := by
      have h1 := congrFun hrow f
      rw [hrow, h1]; rfl
    rw [hgoal]
    generalize rowQ 1536 (fun d => k0_pay8 (F := Ideal) (k0_pay4 X) WU SU (ix3 e t d)) = q at hr ⊢
    refine rquant3 _ _ q e t f ?_
    refine ref_scale3 _ q e t fun k => ?_
    have hp := lane_pow k (iota .tc S1x1x246 32 [2] iota_S1x1x246_d2_w32 (ix3 0 0 k)) (by rw [iota_single_apply])
    unfold k0_pay10
    refine lane_row _ _ _ (ix3 e t k) q _ k ?_ ?_ ?_ hp
    · exact (broadcastTo_apply _ _ _ (ix3 e t 0) (fun i => by fin_cases i <;> rfl)).trans hr
    · exact (broadcastTo_apply _ _ _ (ix3 0 0 k) (fun i => by fin_cases i <;> rfl))
    · refine (broadcastTo_apply _ _ _ (ix3 0 0 k) (fun i => by fin_cases i <;> rfl)).trans ?_
      exact congrFun (shapeCast_self _ _) _
  · refine (broadcastTo_apply _ _ _ (ix3 e t 0) (fun i => by fin_cases i <;> rfl)).trans ?_
    refine (shapeCast_col _ e t).trans ?_
    exact rwt_at I Wt e t

end Cert.Proof.V
-- ==== Proof.V.Results.lean ====
/- The kernel's three results, and the reference's, are the same functions of the arguments. -/
module

public import proofs.«01_k».proof.Proof.V.Final
public import proofs.«01_k».proof.Proof.V.Host
public import proofs.«01_k».proof.Proof.V.Ref

@[expose] public section
set_option maxRecDepth 20000

noncomputable section

namespace Cert.Proof.V

open Cert.KernelIdeal Cert.Proof.I
open Idealize.ShloMosaic hiding ix1 ix2 ix3 ix5
open Idealize.ShloMosaic.ValueIdx Idealize.ShloMosaic.TcCoe

theorem entry2 {n k : ℕ} (y : (⟨2, ![n, k]⟩ : Shape).Idx) : y = ix2 (y 0) (y 1) := by funext i; fin_cases i <;> rfl

section Ref
variable (x : FVec Ideal Cert.ReferenceIdeal.S8x1x5120 .bf16) (ids : IVec Cert.ReferenceIdeal.S8x1x8 32) (wt : FVec Ideal Cert.ReferenceIdeal.S8x1x8 .f32)
  (wu : FVec Ideal Cert.ReferenceIdeal.S16x5120x1536 .fp8e4m3) (su : FVec Ideal Cert.ReferenceIdeal.S16x40x12 .f32)
  (wd : FVec Ideal Cert.ReferenceIdeal.S16x1536x5120 .fp8e4m3) (sd : FVec Ideal Cert.ReferenceIdeal.S16x12x40 .f32)

/-- The reference's first result at an entry. -/
theorem ref_y (t : Fin 8) (col : Fin 5120) : Cert.ReferenceIdeal.Value.G7 (F := Ideal) x ids wt wu su wd sd (ix2 t col) = mY x ids wt wu su wd sd t col := by
  have hx : Cert.ReferenceIdeal.Gen.k0_pay14 (F := Ideal) x ids wt wu su wd sd = Cert.ReferenceIdeal.Gen.k0_pay4 (F := Ideal) x := by
    unfold Cert.ReferenceIdeal.Gen.k0_pay14
    rw [View.ld_unit_zero (Val := Elt Ideal) (e := .bf16) (S := Cert.ReferenceIdeal.S8x1x5120) Cert.ReferenceIdeal.Value.hz0 _ x]
  have h := G7_at x ids wt wu su wd sd t col
  rw [← hx] at h
  exact h

/-- Its second. -/
theorem ref_codes (t : Fin 8) (d : Fin 5120) : Cert.ReferenceIdeal.Value.G8 (F := Ideal) x ids wt wu su wd sd (ix2 t d) = codeOf (rowQ 5120 (fun d => x (ix3 t 0 d))) (x (ix3 t 0 d)) :=
  rpay3_at x t d

/-- Its third. -/
theorem ref_scales (t : Fin 8) : Cert.ReferenceIdeal.Value.G9 (F := Ideal) x ids wt wu su wd sd (ix2 0 t) = scaleOf (rowQ 5120 (fun d => x (ix3 t 0 d))) := by
  refine Eq.trans ?_ (rpay2_at x t)
  show Cert.ReferenceIdeal.Gen.k0_pay13 (F := Ideal) (Cert.ReferenceIdeal.Gen.k0_pay2 (F := Ideal) x) (ix2 0 t) = _
  generalize Cert.ReferenceIdeal.Gen.k0_pay2 (F := Ideal) x = s
  unfold Cert.ReferenceIdeal.Gen.k0_pay13
  refine shapeCast_apply _ _ _ (ix2 t 0) ?_
  rw [Shape.rowMajor_val_two, Shape.rowMajor_val_two]
  show t.val * 1 + 0 = 0 * 8 + t.val
  omega
end Ref

variable (m : (ℓ : Loc nD τ sig) → Buf (Elt Ideal) ℓ) (c : Dev nD)

theorem out_y (h : PreOK m) (f9 f17 f18 f19) (R : Cert.Proof.Routing (m ((c : Thread nD τ).loc main_arg0)) (m ((c : Thread nD τ).loc main_arg1)) (m ((c : Thread nD τ).loc main_arg3)) (m ((c : Thread nD τ).loc main_arg4))) :
    (outOf m h c f9 f17 f18 f19).y = Cert.ReferenceIdeal.Value.G7 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext y
  refine (congrArg _ (entry2 (n := 8) (k := 5120) y)).trans (Eq.trans ?_ (congrArg _ (entry2 (n := 8) (k := 5120) y)).symm)
  generalize (y 0 : Fin 8) = t
  generalize (y 1 : Fin 5120) = col
  refine Eq.trans ?_ (ref_y _ _ _ _ _ _ _ t col).symm
  have hw  : Gen.V m c main_arg4 = m ((c : Thread nD τ).loc main_arg4) := Gen.V_main_arg4 m c
  refine (body_y c _ _ _ _ _ _ _ _ _ (h c) f9 f17 f18 f19 (fun p => by rw [hw]; exact R.weight p) t col).trans ?_
  rw [Gen.V_main_arg0, Gen.V_main_arg1, Gen.V_main_arg3, Gen.V_main_arg4, Gen.V_main_arg5, Gen.V_main_arg7]
  exact listed_eq (m ((c : Thread nD τ).loc main_arg2)) _ (m ((c : Thread nD τ).loc main_arg6)) _ (m ((c : Thread nD τ).loc main_arg8)) _ _ _ (host_x_at m c) (host_su_at m c) (host_sd_at m c) _ _ _ _ R t col

theorem row_x (t : Fin 8) : (fun d : Fin 5120 => (Gen.V m c main_v0 (ix2 t d) : EReal)) = fun d => m ((c : Thread nD τ).loc main_arg2) (ix3 t 0 d) :=
  funext fun d => host_x_at m c t d

theorem out_xc (h : PreOK m) (f9 f17 f18 f19) :
    (outOf m h c f9 f17 f18 f19).xc = Cert.ReferenceIdeal.Value.G8 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext y
  refine (congrArg _ (entry2 (n := 8) (k := 5120) y)).trans (Eq.trans ?_ (congrArg _ (entry2 (n := 8) (k := 5120) y)).symm)
  generalize (y 0 : Fin 8) = t
  generalize (y 1 : Fin 5120) = d
  refine Eq.trans ?_ (ref_codes _ _ _ _ _ _ _ t d).symm
  refine (body_xc c _ _ _ _ _ _ _ _ _ (h c) f9 f17 f18 f19 t d).trans ?_
  exact congrArg₂ (fun r v => codeOf (rowQ 5120 r) v) (row_x m c t) (host_x_at m c t d)

theorem out_xs (h : PreOK m) (f9 f17 f18 f19) :
    (outOf m h c f9 f17 f18 f19).xs = Cert.ReferenceIdeal.Value.G9 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext y
  have hy : y = ix2 (0 : Fin 1) (y 1 : Fin 8) := by
    refine (entry2 (n := 1) (k := 8) y).trans ?_
    exact congrArg (fun a : Fin 1 => ix2 a (y 1 : Fin 8)) (Subsingleton.elim (α := Fin 1) _ _)
  refine (congrArg _ hy).trans (Eq.trans ?_ (congrArg _ hy).symm)
  generalize (y 1 : Fin 8) = t
  refine Eq.trans ?_ (ref_scales _ _ _ _ _ _ _ t).symm
  refine (body_xs c _ _ _ _ _ _ _ _ _ (h c) f9 f17 f18 f19 t).trans ?_
  exact congrArg (fun r => scaleOf (rowQ 5120 r)) (row_x m c t)

end Cert.Proof.V
-- ==== Proof.lean ====
/- The proof of the claims. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Value
public import proofs.«01_k».proof.Proof.Gen.Pre_list_names_experts
public import proofs.«01_k».proof.Proof.Gen.Pre_list_is_the_routing
public import proofs.«01_k».proof.Proof.K.Safe
public import proofs.«01_k».proof.Proof.I.Safe
public import proofs.«01_k».proof.Proof.Routing
public import proofs.«01_k».proof.Proof.V.Results

@[expose] public section

noncomputable section

namespace Cert.Proof

open Idealize.ShloMosaic Idealize.SL.Sem Idealize.ShloMosaic.TcCoe

/-- The kernel as printed terminates and keeps its arguments, whenever the list names experts. -/
theorem frameK : Cert.quiescent_Kernel (hKernel := Cert.Kernel.Gen.facts) (hPre_list_names_experts := Cert.Pre_list_names_experts.Gen.facts) :=
  fun m g h => K.frame_of m g (K.preOK_of m fun c => inRange_of_names _ _ (h c))

/-- So does the kernel at the ideal instance. -/
theorem frameI : Cert.quiescent_KernelIdeal (hKernelIdeal := Cert.KernelIdeal.Gen.facts) (hPre_list_names_experts := Cert.Pre_list_names_experts.Gen.facts) :=
  fun m g h => I.frame_of m g (I.preOK_of m fun c => inRange_of_names _ _ (h c))

/-- And so it does under the value claim's precondition. -/
theorem frameI' : Cert.quiescent_KernelIdeal_pre_list_is_the_routing (hKernelIdeal := Cert.KernelIdeal.Gen.facts)
    (hPre_list_is_the_routing := Cert.Pre_list_is_the_routing.Gen.facts) :=
  fun m g h => I.frame_of m g (I.preOK_of m fun c => (routing_of _ _ _ _ (h c)).inRange)

/-- The kernel and the reference have the same three results, over the extended reals. -/
theorem algebraic : Cert.algebraic_KernelIdeal_ReferenceIdeal_pre_list_is_the_routing (hKernelIdeal := Cert.KernelIdeal.Gen.facts)
    (hReferenceIdeal := Cert.ReferenceIdeal.Gen.facts) (hPre_list_is_the_routing := Cert.Pre_list_is_the_routing.Gen.facts) := by
  intro m g m' g' hpre hargs
  have hR := fun c => routing_of _ _ _ _ (hpre c)
  have hok : I.PreOK m := I.preOK_of m fun c => (hR c).inRange
  refine ⟨fun c => Cert.ReferenceIdeal.Value.G7 (F := Ideal) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)) (m (c.tc.loc Cert.KernelIdeal.main_arg7)) (m (c.tc.loc Cert.KernelIdeal.main_arg8)),
    fun c => Cert.ReferenceIdeal.Value.G8 (F := Ideal) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)) (m (c.tc.loc Cert.KernelIdeal.main_arg7)) (m (c.tc.loc Cert.KernelIdeal.main_arg8)),
    fun c => Cert.ReferenceIdeal.Value.G9 (F := Ideal) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)) (m (c.tc.loc Cert.KernelIdeal.main_arg7)) (m (c.tc.loc Cert.KernelIdeal.main_arg8)), ?_, ?_⟩
  · refine (θ_run (Cert.KernelIdeal.defs (F := Ideal)) _ _).mono (fun r h c => ?_) (I.run_main m g hok)
    obtain ⟨⟨o, ⟨f9, f17, f18, f19, rfl⟩, hy, hc, hs⟩, hk⟩ := h.1 c
    exact ⟨hy.trans (V.out_y m c hok f9 f17 f18 f19 (hR c)), hc.trans (V.out_xc m c hok f9 f17 f18 f19), hs.trans (V.out_xs m c hok f9 f17 f18 f19), hk⟩
  · refine (θ_run (Cert.ReferenceIdeal.defs (F := Ideal)) _ _).mono (fun r h c => ?_) (Cert.ReferenceIdeal.Value.run m' g')
    obtain ⟨hy, hc, hs, hk⟩ := h c
    obtain ⟨a0, a1, a2, a3, a4, a5, a6, a7, a8⟩ := hargs c
    refine ⟨hy.trans ?_, hc.trans ?_, hs.trans ?_, hk⟩
    · rw [a2, a3, a4, a5, a6, a7, a8]
    · rw [a2, a3, a4, a5, a6, a7, a8]
    · rw [a2, a3, a4, a5, a6, a7, a8]

theorem claim : Cert.Claim :=
  ⟨Cert.Kernel.Gen.facts, Cert.KernelIdeal.Gen.facts, Cert.ReferenceIdeal.Gen.facts, Cert.Pre_list_names_experts.Gen.facts, Cert.Pre_list_is_the_routing.Gen.facts,
    frameK, frameI, frameI', fun m g _ => Cert.ReferenceIdeal.Gen.frame m g, fun m g _ => Cert.ReferenceIdeal.Gen.frame m g, trivial, algebraic⟩

end Cert.Proof

end
